-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_ids : Cert.Pre_sorted_ids.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_ids_in_range.lean ====
abbrev S32768x1024 : Shape := ⟨2, ![32768, 1024]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32768x1024 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_sorted_ids.lean ====
abbrev S32768x1024 : Shape := ⟨2, ![32768, 1024]⟩
abbrev S32768 : Shape := ⟨1, ![32768]⟩
abbrev S_ : Shape := ⟨0, ![]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_0 : S32768.Slices ![0] S32767
  slices_S32768_S32767_1 : S32768.Slices ![1] S32767
  reducesTo_S32767_S_d0 : S32767.ReducesTo [0] S_

variable [Facts]

def fn {F : FTy → Type} [FloatOps F] (main_arg0 : FVec F S32768x1024 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : IVec S32767 32 := (extractStridedSlice S32767 ![0] · slices_S32768_S32767_0) main_arg1
  let main_v7 : IVec S32767 32 := (extractStridedSlice S32767 ![1] · slices_S32768_S32767_1) main_arg1
  let main_v8 : IVec S32767 1 := cmpi .sle main_v6 main_v7
  let main_c_2 : IVec S_ 1 := constantI S_ 1 1#1
  let main_v9 : IVec S_ 1 := (fun x v => Host.reduce IntOp.andi x v reducesTo_S32767_S_d0 h_S_) main_v8 main_c_2
  let main_v10 : IVec S_ 1 := andi main_v5 main_v9
  main_v10
-- ==== Kernel.lean ====
abbrev S32768x1024 : Shape := ⟨2, ![32768, 1024]⟩
abbrev S32768 : Shape := ⟨1, ![32768]⟩
abbrev S256x128 : Shape := ⟨2, ![256, 128]⟩
abbrev S8x128 : Shape := ⟨2, ![8, 128]⟩
abbrev S32x256x128 : Shape := ⟨3, ![32, 256, 128]⟩
abbrev S1x256x128 : Shape := ⟨3, ![1, 256, 128]⟩
abbrev S32 : Shape := ⟨1, ![32]⟩
abbrev S96 : Shape := ⟨1, ![96]⟩
abbrev S128 : Shape := ⟨1, ![128]⟩
abbrev S1x128 : Shape := ⟨2, ![1, 128]⟩
abbrev S4x16x1024 : Shape := ⟨3, ![4, 16, 1024]⟩
abbrev S16x128 : Shape := ⟨2, ![16, 128]⟩
abbrev S_ : Shape := ⟨0, ![]⟩
abbrev S1x16 : Shape := ⟨2, ![1, 16]⟩
abbrev S16 : Shape := ⟨1, ![16]⟩
abbrev S1 : Shape := ⟨1, ![1]⟩
abbrev S1x16x128 : Shape := ⟨3, ![1, 16, 128]⟩
abbrev S16x1024 : Shape := ⟨2, ![16, 1024]⟩
abbrev S1x16x1024 : Shape := ⟨3, ![1, 16, 1024]⟩
abbrev S16x1 : Shape := ⟨2, ![16, 1]⟩

abbrev nBuf : Table → Nat
  | .hbm => 6
  | .local .tc .vmem => 5
  | .local .scVector .vmem => 4
  | _ => 0

abbrev bufTy : (tb : Table) → Fin (nBuf tb) → BufTy
  | .hbm, ⟨0, _⟩ => ⟨S32768x1024, .f32⟩
  | .hbm, ⟨1, _⟩ => ⟨S32768, .i32⟩
  | .hbm, ⟨2, _⟩ => ⟨S256x128, .i32⟩
  | .hbm, ⟨3, _⟩ => ⟨S8x128, .i32⟩
  | .hbm, ⟨4, _⟩ => ⟨S4x16x1024, .f32⟩
  | .hbm, ⟨5, _⟩ => ⟨S16x1024, .f32⟩
  | .local .tc .vmem, ⟨0, _⟩ => ⟨S256x128, .i32⟩
  | .local .tc .vmem, ⟨1, _⟩ => ⟨S8x128, .i32⟩
  | .local .tc .vmem, ⟨2, _⟩ => ⟨S8x128, .i32⟩
  | .local .tc .vmem, ⟨3, _⟩ => ⟨S4x16x1024, .f32⟩
  | .local .tc .vmem, ⟨4, _⟩ => ⟨S16x1024, .f32⟩
  | .local .scVector .vmem, ⟨0, _⟩ => ⟨S8x128, .i32⟩
  | .local .scVector .vmem, ⟨1, _⟩ => ⟨S256x128, .f32⟩
  | .local .scVector .vmem, ⟨2, _⟩ => ⟨S256x128, .f32⟩
  | .local .scVector .vmem, ⟨3, _⟩ => ⟨S16x128, .f32⟩
  | _, _ => ⟨S32768x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc2_sem0_0 : DmaSem sig := 5
abbrev cc2_sem1_0 : DmaSem sig := 6
abbrev cc2_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S256x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_250 : BitVec 32 := 0#32
  let v584 : BitVec 32 := Scalar.addi v19 c0_i32_250
  let c8_i32_6 : BitVec 32 := 8#32
  let c0_i32_7 : BitVec 32 := 0#32
  let v60 : BitVec 1 := Scalar.cmpi .eq c8_i32_6 c0_i32_7
  let c1_i32_8 : BitVec 32 := 1#32
  let v61 : BitVec 32 := Scalar.select v60 c1_i32_8 c8_i32_6
  let v62 : BitVec 32 := Scalar.remsi v1 v61
  let c0_i32_10 : BitVec 32 := 0#32
  let v64 : BitVec 1 := Scalar.cmpi .slt v62 c0_i32_10
  let c0_i32_11 : BitVec 32 := 0#32
  let v65 : BitVec 1 := Scalar.cmpi .slt v61 c0_i32_11
  let v66 : BitVec 1 := Scalar.xori v64 v65
  let c0_i32_9 : BitVec 32 := 0#32
  let v63 : BitVec 1 := Scalar.cmpi .ne v62 c0_i32_9
  let v67 : BitVec 1 := Scalar.andi v66 v63
  let v68 : BitVec 32 := Scalar.addi v62 v61
  let v69 : BitVec 32 := Scalar.select v67 v68 v62
  let c128_i32 : BitVec 32 := 128#32
  let v70 : BitVec 32 := Scalar.muli v69 c128_i32
  ![v584.toNat, v70.toNat]
@[reducible] def k1_t1_loop : Scf.Loop 32 :=
  let c0_i32_252 : BitVec 32 := 0#32
  let c16_i32 : BitVec 32 := 16#32
  let v587 : BitVec 32 := Scalar.addi c0_i32_252 c16_i32
  let c1_i32_253 : BitVec 32 := 1#32
  ⟨c0_i32_252, v587, c1_i32_253⟩
def k1_off2 (i : grid1.Coords) : Fin 2 → Nat :=
  let c0_i32_256 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let c0_i32_7 : BitVec 32 := 0#32
  let v60 : BitVec 1 := Scalar.cmpi .eq c8_i32_6 c0_i32_7
  let c1_i32_8 : BitVec 32 := 1#32
  let v61 : BitVec 32 := Scalar.select v60 c1_i32_8 c8_i32_6
  let v62 : BitVec 32 := Scalar.remsi v1 v61
  let c0_i32_10 : BitVec 32 := 0#32
  let v64 : BitVec 1 := Scalar.cmpi .slt v62 c0_i32_10
  let c0_i32_11 : BitVec 32 := 0#32
  let v65 : BitVec 1 := Scalar.cmpi .slt v61 c0_i32_11
  let v66 : BitVec 1 := Scalar.xori v64 v65
  let c0_i32_9 : BitVec 32 := 0#32
  let v63 : BitVec 1 := Scalar.cmpi .ne v62 c0_i32_9
  let v67 : BitVec 1 := Scalar.andi v66 v63
  let v68 : BitVec 32 := Scalar.addi v62 v61
  let v69 : BitVec 32 := Scalar.select v67 v68 v62
  let c128_i32 : BitVec 32 := 128#32
  let v70 : BitVec 32 := Scalar.muli v69 c128_i32
  ![0, v70.toNat]
def k1_cond1 (k1_t1 : Fin k1_t1_loop.trips) : BitVec 1 :=
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_258 : BitVec 32 := 1#32
  let v591 : BitVec 32 := Scalar.addi v588 c1_i32_258
  let c32_i32 : BitVec 32 := 32#32
  let v592 : BitVec 1 := Scalar.cmpi .slt v591 c32_i32
  let v593 : BitVec 32 := Scalar.extui v592
  let c0_i32_259 : BitVec 32 := 0#32
  let v594 : BitVec 1 := Scalar.cmpi .ne v593 c0_i32_259
  v594

def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_362 : BitVec 32 := 1#32
  let v735 : BitVec 32 := Scalar.addi v588 c1_i32_362
  let c256_i32_363 : BitVec 32 := 256#32
  let v736 : BitVec 32 := Scalar.muli v735 c256_i32_363
  let v737 : BitVec 32 := Scalar.addi v19 v736
  let c8_i32_6 : BitVec 32 := 8#32
  let c0_i32_7 : BitVec 32 := 0#32
  let v60 : BitVec 1 := Scalar.cmpi .eq c8_i32_6 c0_i32_7
  let c1_i32_8 : BitVec 32 := 1#32
  let v61 : BitVec 32 := Scalar.select v60 c1_i32_8 c8_i32_6
  let v62 : BitVec 32 := Scalar.remsi v1 v61
  let c0_i32_10 : BitVec 32 := 0#32
  let v64 : BitVec 1 := Scalar.cmpi .slt v62 c0_i32_10
  let c0_i32_11 : BitVec 32 := 0#32
  let v65 : BitVec 1 := Scalar.cmpi .slt v61 c0_i32_11
  let v66 : BitVec 1 := Scalar.xori v64 v65
  let c0_i32_9 : BitVec 32 := 0#32
  let v63 : BitVec 1 := Scalar.cmpi .ne v62 c0_i32_9
  let v67 : BitVec 1 := Scalar.andi v66 v63
  let v68 : BitVec 32 := Scalar.addi v62 v61
  let v69 : BitVec 32 := Scalar.select v67 v68 v62
  let c128_i32 : BitVec 32 := 128#32
  let v70 : BitVec 32 := Scalar.muli v69 c128_i32
  ![v737.toNat, v70.toNat]
@[reducible] def k1_t2_loop : Scf.Loop 32 :=
  let c0_i32_362 : BitVec 32 := 0#32
  let c32_i32_363 : BitVec 32 := 32#32
  let v735 : BitVec 32 := Scalar.addi c0_i32_362 c32_i32_363
  let c1_i32_364 : BitVec 32 := 1#32
  ⟨c0_i32_362, v735, c1_i32_364⟩
def k1_off4 (k1_t2 : Fin k1_t2_loop.trips) (c0_i32_383 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v802 : BitVec 32 := Scalar.addi v801 c0_i32_383
  let v803 : Index := Scalar.indexCast v802
  let c0_384 : Index := 0#32
  ![v803.toNat, 0]
def k1_off5 (k1_t2 : Fin k1_t2_loop.trips) (c0_i32_385 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v807 : BitVec 32 := Scalar.addi v801 c0_i32_385
  let v808 : Index := Scalar.indexCast v807
  let c16_386 : Index := 16#32
  ![v808.toNat, 16]
def k1_off6 (k1_t2 : Fin k1_t2_loop.trips) (c0_i32_387 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v812 : BitVec 32 := Scalar.addi v801 c0_i32_387
  let v813 : Index := Scalar.indexCast v812
  let c32_388 : Index := 32#32
  ![v813.toNat, 32]
def k1_off7 (k1_t2 : Fin k1_t2_loop.trips) (c0_i32_389 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v817 : BitVec 32 := Scalar.addi v801 c0_i32_389
  let v818 : Index := Scalar.indexCast v817
  let c48_390 : Index := 48#32
  ![v818.toNat, 48]
def k1_off8 (k1_t2 : Fin k1_t2_loop.trips) (c0_i32_391 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v822 : BitVec 32 := Scalar.addi v801 c0_i32_391
  let v823 : Index := Scalar.indexCast v822
  let c64_392 : Index := 64#32
  ![v823.toNat, 64]
def k1_off9 (k1_t2 : Fin k1_t2_loop.trips) (c0_i32_393 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v827 : BitVec 32 := Scalar.addi v801 c0_i32_393
  let v828 : Index := Scalar.indexCast v827
  let c80_394 : Index := 80#32
  ![v828.toNat, 80]
def k1_off10 (k1_t2 : Fin k1_t2_loop.trips) (c0_i32_395 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v832 : BitVec 32 := Scalar.addi v801 c0_i32_395
  let v833 : Index := Scalar.indexCast v832
  let c96_396 : Index := 96#32
  ![v833.toNat, 96]
def k1_off11 (k1_t2 : Fin k1_t2_loop.trips) (c0_i32_397 : BitVec 32) : Fin 2 → Nat :=
  let c0_i32_362 : BitVec 32 := 0#32
  let c1_i32_364 : BitVec 32 := 1#32
  let arg11 : BitVec 32 := Scf.iv c0_i32_362 c1_i32_364 k1_t2
  let c8_i32_382 : BitVec 32 := 8#32
  let v801 : BitVec 32 := Scalar.muli arg11 c8_i32_382
  let v837 : BitVec 32 := Scalar.addi v801 c0_i32_397
  let v838 : Index := Scalar.indexCast v837
  let c112_398 : Index := 112#32
  ![v838.toNat, 112]
def k1_off12 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v737 : Index := Scalar.indexCast v719
  let c0_366 : Index := 0#32
  ![v737.toNat, 0]
def k1_cond2 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : BitVec 1 :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let c_m1_i32_266 : BitVec 32 := 4294967295#32
  let c256_i32_262 : BitVec 32 := 256#32
  let v600 : BitVec 32 := Scalar.addi v596 c256_i32_262
  let c1_i32_263 : BitVec 32 := 1#32
  let v601 : BitVec 32 := Scalar.subi v600 c1_i32_263
  let v602 : BitVec 1 := Scalar.cmpi .sle v27 v601
  let c1_i32_264 : BitVec 32 := 1#32
  let c0_i32_265 : BitVec 32 := 0#32
  let v603 : BitVec 32 := Scalar.select v602 c1_i32_264 c0_i32_265
  let v604 : BitVec 32 := Scalar.addi c_m1_i32_266 v603
  let c256_i32_269 : BitVec 32 := 256#32
  let v608 : BitVec 32 := Scalar.addi v596 c256_i32_269
  let c1_i32_270 : BitVec 32 := 1#32
  let v609 : BitVec 32 := Scalar.subi v608 c1_i32_270
  let v610 : BitVec 1 := Scalar.cmpi .sle v29 v609
  let c1_i32_271 : BitVec 32 := 1#32
  let c0_i32_272 : BitVec 32 := 0#32
  let v611 : BitVec 32 := Scalar.select v610 c1_i32_271 c0_i32_272
  let v612 : BitVec 32 := Scalar.addi v604 v611
  let c256_i32_275 : BitVec 32 := 256#32
  let v616 : BitVec 32 := Scalar.addi v596 c256_i32_275
  let c1_i32_276 : BitVec 32 := 1#32
  let v617 : BitVec 32 := Scalar.subi v616 c1_i32_276
  let v618 : BitVec 1 := Scalar.cmpi .sle v31 v617
  let c1_i32_277 : BitVec 32 := 1#32
  let c0_i32_278 : BitVec 32 := 0#32
  let v619 : BitVec 32 := Scalar.select v618 c1_i32_277 c0_i32_278
  let v620 : BitVec 32 := Scalar.addi v612 v619
  let c256_i32_281 : BitVec 32 := 256#32
  let v624 : BitVec 32 := Scalar.addi v596 c256_i32_281
  let c1_i32_282 : BitVec 32 := 1#32
  let v625 : BitVec 32 := Scalar.subi v624 c1_i32_282
  let v626 : BitVec 1 := Scalar.cmpi .sle v33 v625
  let c1_i32_283 : BitVec 32 := 1#32
  let c0_i32_284 : BitVec 32 := 0#32
  let v627 : BitVec 32 := Scalar.select v626 c1_i32_283 c0_i32_284
  let v628 : BitVec 32 := Scalar.addi v620 v627
  let c256_i32_287 : BitVec 32 := 256#32
  let v632 : BitVec 32 := Scalar.addi v596 c256_i32_287
  let c1_i32_288 : BitVec 32 := 1#32
  let v633 : BitVec 32 := Scalar.subi v632 c1_i32_288
  let v634 : BitVec 1 := Scalar.cmpi .sle v35 v633
  let c1_i32_289 : BitVec 32 := 1#32
  let c0_i32_290 : BitVec 32 := 0#32
  let v635 : BitVec 32 := Scalar.select v634 c1_i32_289 c0_i32_290
  let v636 : BitVec 32 := Scalar.addi v628 v635
  let c256_i32_293 : BitVec 32 := 256#32
  let v640 : BitVec 32 := Scalar.addi v596 c256_i32_293
  let c1_i32_294 : BitVec 32 := 1#32
  let v641 : BitVec 32 := Scalar.subi v640 c1_i32_294
  let v642 : BitVec 1 := Scalar.cmpi .sle v37 v641
  let c1_i32_295 : BitVec 32 := 1#32
  let c0_i32_296 : BitVec 32 := 0#32
  let v643 : BitVec 32 := Scalar.select v642 c1_i32_295 c0_i32_296
  let v644 : BitVec 32 := Scalar.addi v636 v643
  let c256_i32_299 : BitVec 32 := 256#32
  let v648 : BitVec 32 := Scalar.addi v596 c256_i32_299
  let c1_i32_300 : BitVec 32 := 1#32
  let v649 : BitVec 32 := Scalar.subi v648 c1_i32_300
  let v650 : BitVec 1 := Scalar.cmpi .sle v39 v649
  let c1_i32_301 : BitVec 32 := 1#32
  let c0_i32_302 : BitVec 32 := 0#32
  let v651 : BitVec 32 := Scalar.select v650 c1_i32_301 c0_i32_302
  let v652 : BitVec 32 := Scalar.addi v644 v651
  let c256_i32_305 : BitVec 32 := 256#32
  let v656 : BitVec 32 := Scalar.addi v596 c256_i32_305
  let c1_i32_306 : BitVec 32 := 1#32
  let v657 : BitVec 32 := Scalar.subi v656 c1_i32_306
  let v658 : BitVec 1 := Scalar.cmpi .sle v41 v657
  let c1_i32_307 : BitVec 32 := 1#32
  let c0_i32_308 : BitVec 32 := 0#32
  let v659 : BitVec 32 := Scalar.select v658 c1_i32_307 c0_i32_308
  let v660 : BitVec 32 := Scalar.addi v652 v659
  let c256_i32_311 : BitVec 32 := 256#32
  let v664 : BitVec 32 := Scalar.addi v596 c256_i32_311
  let c1_i32_312 : BitVec 32 := 1#32
  let v665 : BitVec 32 := Scalar.subi v664 c1_i32_312
  let v666 : BitVec 1 := Scalar.cmpi .sle v43 v665
  let c1_i32_313 : BitVec 32 := 1#32
  let c0_i32_314 : BitVec 32 := 0#32
  let v667 : BitVec 32 := Scalar.select v666 c1_i32_313 c0_i32_314
  let v668 : BitVec 32 := Scalar.addi v660 v667
  let c256_i32_317 : BitVec 32 := 256#32
  let v672 : BitVec 32 := Scalar.addi v596 c256_i32_317
  let c1_i32_318 : BitVec 32 := 1#32
  let v673 : BitVec 32 := Scalar.subi v672 c1_i32_318
  let v674 : BitVec 1 := Scalar.cmpi .sle v45 v673
  let c1_i32_319 : BitVec 32 := 1#32
  let c0_i32_320 : BitVec 32 := 0#32
  let v675 : BitVec 32 := Scalar.select v674 c1_i32_319 c0_i32_320
  let v676 : BitVec 32 := Scalar.addi v668 v675
  let c256_i32_323 : BitVec 32 := 256#32
  let v680 : BitVec 32 := Scalar.addi v596 c256_i32_323
  let c1_i32_324 : BitVec 32 := 1#32
  let v681 : BitVec 32 := Scalar.subi v680 c1_i32_324
  let v682 : BitVec 1 := Scalar.cmpi .sle v47 v681
  let c1_i32_325 : BitVec 32 := 1#32
  let c0_i32_326 : BitVec 32 := 0#32
  let v683 : BitVec 32 := Scalar.select v682 c1_i32_325 c0_i32_326
  let v684 : BitVec 32 := Scalar.addi v676 v683
  let c256_i32_329 : BitVec 32 := 256#32
  let v688 : BitVec 32 := Scalar.addi v596 c256_i32_329
  let c1_i32_330 : BitVec 32 := 1#32
  let v689 : BitVec 32 := Scalar.subi v688 c1_i32_330
  let v690 : BitVec 1 := Scalar.cmpi .sle v49 v689
  let c1_i32_331 : BitVec 32 := 1#32
  let c0_i32_332 : BitVec 32 := 0#32
  let v691 : BitVec 32 := Scalar.select v690 c1_i32_331 c0_i32_332
  let v692 : BitVec 32 := Scalar.addi v684 v691
  let c256_i32_335 : BitVec 32 := 256#32
  let v696 : BitVec 32 := Scalar.addi v596 c256_i32_335
  let c1_i32_336 : BitVec 32 := 1#32
  let v697 : BitVec 32 := Scalar.subi v696 c1_i32_336
  let v698 : BitVec 1 := Scalar.cmpi .sle v51 v697
  let c1_i32_337 : BitVec 32 := 1#32
  let c0_i32_338 : BitVec 32 := 0#32
  let v699 : BitVec 32 := Scalar.select v698 c1_i32_337 c0_i32_338
  let v700 : BitVec 32 := Scalar.addi v692 v699
  let c256_i32_341 : BitVec 32 := 256#32
  let v704 : BitVec 32 := Scalar.addi v596 c256_i32_341
  let c1_i32_342 : BitVec 32 := 1#32
  let v705 : BitVec 32 := Scalar.subi v704 c1_i32_342
  let v706 : BitVec 1 := Scalar.cmpi .sle v53 v705
  let c1_i32_343 : BitVec 32 := 1#32
  let c0_i32_344 : BitVec 32 := 0#32
  let v707 : BitVec 32 := Scalar.select v706 c1_i32_343 c0_i32_344
  let v708 : BitVec 32 := Scalar.addi v700 v707
  let c256_i32_347 : BitVec 32 := 256#32
  let v712 : BitVec 32 := Scalar.addi v596 c256_i32_347
  let c1_i32_348 : BitVec 32 := 1#32
  let v713 : BitVec 32 := Scalar.subi v712 c1_i32_348
  let v714 : BitVec 1 := Scalar.cmpi .sle v55 v713
  let c1_i32_349 : BitVec 32 := 1#32
  let c0_i32_350 : BitVec 32 := 0#32
  let v715 : BitVec 32 := Scalar.select v714 c1_i32_349 c0_i32_350
  let v716 : BitVec 32 := Scalar.addi v708 v715
  let c256_i32_353 : BitVec 32 := 256#32
  let v720 : BitVec 32 := Scalar.addi v596 c256_i32_353
  let c1_i32_354 : BitVec 32 := 1#32
  let v721 : BitVec 32 := Scalar.subi v720 c1_i32_354
  let v722 : BitVec 1 := Scalar.cmpi .sle v57 v721
  let c1_i32_355 : BitVec 32 := 1#32
  let c0_i32_356 : BitVec 32 := 0#32
  let v723 : BitVec 32 := Scalar.select v722 c1_i32_355 c0_i32_356
  let v724 : BitVec 32 := Scalar.addi v716 v723
  let v725 : BitVec 1 := Scalar.cmpi .eq v719 v724
  let v726 : BitVec 32 := Scalar.extui v725
  let c0_i32_357 : BitVec 32 := 0#32
  let v727 : BitVec 1 := Scalar.cmpi .ne v726 c0_i32_357
  v727

def k1_off13 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v745 : Index := Scalar.indexCast v719
  let c16_368 : Index := 16#32
  ![v745.toNat, 16]
def k1_off14 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v753 : Index := Scalar.indexCast v719
  let c32_370 : Index := 32#32
  ![v753.toNat, 32]
def k1_off15 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v761 : Index := Scalar.indexCast v719
  let c48_372 : Index := 48#32
  ![v761.toNat, 48]
def k1_off16 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v769 : Index := Scalar.indexCast v719
  let c64_374 : Index := 64#32
  ![v769.toNat, 64]
def k1_off17 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v777 : Index := Scalar.indexCast v719
  let c80_376 : Index := 80#32
  ![v777.toNat, 80]
def k1_off18 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v785 : Index := Scalar.indexCast v719
  let c96_378 : Index := 96#32
  ![v785.toNat, 96]
def k1_off19 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let v793 : Index := Scalar.indexCast v719
  let c112_380 : Index := 112#32
  ![v793.toNat, 112]
@[reducible] def k1_t3_loop (i : grid1.Coords) (v27 : BitVec 32) (v29 : BitVec 32) (k1_t1 : Fin k1_t1_loop.trips) : Scf.Loop 32 :=
  let c0_i32_473 : BitVec 32 := 0#32
  let c256_i32_365 : BitVec 32 := 256#32
  let c0_i32_364 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v738 : BitVec 32 := Scalar.subi v29 v596
  let v739 : BitVec 32 := Scalar.maxsi c0_i32_364 v738
  let v740 : BitVec 32 := Scalar.minsi c256_i32_365 v739
  let c256_i32_363 : BitVec 32 := 256#32
  let c0_i32_362 : BitVec 32 := 0#32
  let v735 : BitVec 32 := Scalar.subi v27 v596
  let v736 : BitVec 32 := Scalar.maxsi c0_i32_362 v735
  let v737 : BitVec 32 := Scalar.minsi c256_i32_363 v736
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond3 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : BitVec 1 :=
  let c_m1_i32 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v597 : BitVec 1 := Scalar.cmpi .sle v27 v596
  let c1_i32_260 : BitVec 32 := 1#32
  let c0_i32_261 : BitVec 32 := 0#32
  let v598 : BitVec 32 := Scalar.select v597 c1_i32_260 c0_i32_261
  let v599 : BitVec 32 := Scalar.addi c_m1_i32 v598
  let v605 : BitVec 1 := Scalar.cmpi .sle v29 v596
  let c1_i32_267 : BitVec 32 := 1#32
  let c0_i32_268 : BitVec 32 := 0#32
  let v606 : BitVec 32 := Scalar.select v605 c1_i32_267 c0_i32_268
  let v607 : BitVec 32 := Scalar.addi v599 v606
  let v613 : BitVec 1 := Scalar.cmpi .sle v31 v596
  let c1_i32_273 : BitVec 32 := 1#32
  let c0_i32_274 : BitVec 32 := 0#32
  let v614 : BitVec 32 := Scalar.select v613 c1_i32_273 c0_i32_274
  let v615 : BitVec 32 := Scalar.addi v607 v614
  let v621 : BitVec 1 := Scalar.cmpi .sle v33 v596
  let c1_i32_279 : BitVec 32 := 1#32
  let c0_i32_280 : BitVec 32 := 0#32
  let v622 : BitVec 32 := Scalar.select v621 c1_i32_279 c0_i32_280
  let v623 : BitVec 32 := Scalar.addi v615 v622
  let v629 : BitVec 1 := Scalar.cmpi .sle v35 v596
  let c1_i32_285 : BitVec 32 := 1#32
  let c0_i32_286 : BitVec 32 := 0#32
  let v630 : BitVec 32 := Scalar.select v629 c1_i32_285 c0_i32_286
  let v631 : BitVec 32 := Scalar.addi v623 v630
  let v637 : BitVec 1 := Scalar.cmpi .sle v37 v596
  let c1_i32_291 : BitVec 32 := 1#32
  let c0_i32_292 : BitVec 32 := 0#32
  let v638 : BitVec 32 := Scalar.select v637 c1_i32_291 c0_i32_292
  let v639 : BitVec 32 := Scalar.addi v631 v638
  let v645 : BitVec 1 := Scalar.cmpi .sle v39 v596
  let c1_i32_297 : BitVec 32 := 1#32
  let c0_i32_298 : BitVec 32 := 0#32
  let v646 : BitVec 32 := Scalar.select v645 c1_i32_297 c0_i32_298
  let v647 : BitVec 32 := Scalar.addi v639 v646
  let v653 : BitVec 1 := Scalar.cmpi .sle v41 v596
  let c1_i32_303 : BitVec 32 := 1#32
  let c0_i32_304 : BitVec 32 := 0#32
  let v654 : BitVec 32 := Scalar.select v653 c1_i32_303 c0_i32_304
  let v655 : BitVec 32 := Scalar.addi v647 v654
  let v661 : BitVec 1 := Scalar.cmpi .sle v43 v596
  let c1_i32_309 : BitVec 32 := 1#32
  let c0_i32_310 : BitVec 32 := 0#32
  let v662 : BitVec 32 := Scalar.select v661 c1_i32_309 c0_i32_310
  let v663 : BitVec 32 := Scalar.addi v655 v662
  let v669 : BitVec 1 := Scalar.cmpi .sle v45 v596
  let c1_i32_315 : BitVec 32 := 1#32
  let c0_i32_316 : BitVec 32 := 0#32
  let v670 : BitVec 32 := Scalar.select v669 c1_i32_315 c0_i32_316
  let v671 : BitVec 32 := Scalar.addi v663 v670
  let v677 : BitVec 1 := Scalar.cmpi .sle v47 v596
  let c1_i32_321 : BitVec 32 := 1#32
  let c0_i32_322 : BitVec 32 := 0#32
  let v678 : BitVec 32 := Scalar.select v677 c1_i32_321 c0_i32_322
  let v679 : BitVec 32 := Scalar.addi v671 v678
  let v685 : BitVec 1 := Scalar.cmpi .sle v49 v596
  let c1_i32_327 : BitVec 32 := 1#32
  let c0_i32_328 : BitVec 32 := 0#32
  let v686 : BitVec 32 := Scalar.select v685 c1_i32_327 c0_i32_328
  let v687 : BitVec 32 := Scalar.addi v679 v686
  let v693 : BitVec 1 := Scalar.cmpi .sle v51 v596
  let c1_i32_333 : BitVec 32 := 1#32
  let c0_i32_334 : BitVec 32 := 0#32
  let v694 : BitVec 32 := Scalar.select v693 c1_i32_333 c0_i32_334
  let v695 : BitVec 32 := Scalar.addi v687 v694
  let v701 : BitVec 1 := Scalar.cmpi .sle v53 v596
  let c1_i32_339 : BitVec 32 := 1#32
  let c0_i32_340 : BitVec 32 := 0#32
  let v702 : BitVec 32 := Scalar.select v701 c1_i32_339 c0_i32_340
  let v703 : BitVec 32 := Scalar.addi v695 v702
  let v709 : BitVec 1 := Scalar.cmpi .sle v55 v596
  let c1_i32_345 : BitVec 32 := 1#32
  let c0_i32_346 : BitVec 32 := 0#32
  let v710 : BitVec 32 := Scalar.select v709 c1_i32_345 c0_i32_346
  let v711 : BitVec 32 := Scalar.addi v703 v710
  let v717 : BitVec 1 := Scalar.cmpi .sle v57 v596
  let c1_i32_351 : BitVec 32 := 1#32
  let c0_i32_352 : BitVec 32 := 0#32
  let v718 : BitVec 32 := Scalar.select v717 c1_i32_351 c0_i32_352
  let v719 : BitVec 32 := Scalar.addi v711 v718
  let c_m1_i32_266 : BitVec 32 := 4294967295#32
  let c256_i32_262 : BitVec 32 := 256#32
  let v600 : BitVec 32 := Scalar.addi v596 c256_i32_262
  let c1_i32_263 : BitVec 32 := 1#32
  let v601 : BitVec 32 := Scalar.subi v600 c1_i32_263
  let v602 : BitVec 1 := Scalar.cmpi .sle v27 v601
  let c1_i32_264 : BitVec 32 := 1#32
  let c0_i32_265 : BitVec 32 := 0#32
  let v603 : BitVec 32 := Scalar.select v602 c1_i32_264 c0_i32_265
  let v604 : BitVec 32 := Scalar.addi c_m1_i32_266 v603
  let c256_i32_269 : BitVec 32 := 256#32
  let v608 : BitVec 32 := Scalar.addi v596 c256_i32_269
  let c1_i32_270 : BitVec 32 := 1#32
  let v609 : BitVec 32 := Scalar.subi v608 c1_i32_270
  let v610 : BitVec 1 := Scalar.cmpi .sle v29 v609
  let c1_i32_271 : BitVec 32 := 1#32
  let c0_i32_272 : BitVec 32 := 0#32
  let v611 : BitVec 32 := Scalar.select v610 c1_i32_271 c0_i32_272
  let v612 : BitVec 32 := Scalar.addi v604 v611
  let c256_i32_275 : BitVec 32 := 256#32
  let v616 : BitVec 32 := Scalar.addi v596 c256_i32_275
  let c1_i32_276 : BitVec 32 := 1#32
  let v617 : BitVec 32 := Scalar.subi v616 c1_i32_276
  let v618 : BitVec 1 := Scalar.cmpi .sle v31 v617
  let c1_i32_277 : BitVec 32 := 1#32
  let c0_i32_278 : BitVec 32 := 0#32
  let v619 : BitVec 32 := Scalar.select v618 c1_i32_277 c0_i32_278
  let v620 : BitVec 32 := Scalar.addi v612 v619
  let c256_i32_281 : BitVec 32 := 256#32
  let v624 : BitVec 32 := Scalar.addi v596 c256_i32_281
  let c1_i32_282 : BitVec 32 := 1#32
  let v625 : BitVec 32 := Scalar.subi v624 c1_i32_282
  let v626 : BitVec 1 := Scalar.cmpi .sle v33 v625
  let c1_i32_283 : BitVec 32 := 1#32
  let c0_i32_284 : BitVec 32 := 0#32
  let v627 : BitVec 32 := Scalar.select v626 c1_i32_283 c0_i32_284
  let v628 : BitVec 32 := Scalar.addi v620 v627
  let c256_i32_287 : BitVec 32 := 256#32
  let v632 : BitVec 32 := Scalar.addi v596 c256_i32_287
  let c1_i32_288 : BitVec 32 := 1#32
  let v633 : BitVec 32 := Scalar.subi v632 c1_i32_288
  let v634 : BitVec 1 := Scalar.cmpi .sle v35 v633
  let c1_i32_289 : BitVec 32 := 1#32
  let c0_i32_290 : BitVec 32 := 0#32
  let v635 : BitVec 32 := Scalar.select v634 c1_i32_289 c0_i32_290
  let v636 : BitVec 32 := Scalar.addi v628 v635
  let c256_i32_293 : BitVec 32 := 256#32
  let v640 : BitVec 32 := Scalar.addi v596 c256_i32_293
  let c1_i32_294 : BitVec 32 := 1#32
  let v641 : BitVec 32 := Scalar.subi v640 c1_i32_294
  let v642 : BitVec 1 := Scalar.cmpi .sle v37 v641
  let c1_i32_295 : BitVec 32 := 1#32
  let c0_i32_296 : BitVec 32 := 0#32
  let v643 : BitVec 32 := Scalar.select v642 c1_i32_295 c0_i32_296
  let v644 : BitVec 32 := Scalar.addi v636 v643
  let c256_i32_299 : BitVec 32 := 256#32
  let v648 : BitVec 32 := Scalar.addi v596 c256_i32_299
  let c1_i32_300 : BitVec 32 := 1#32
  let v649 : BitVec 32 := Scalar.subi v648 c1_i32_300
  let v650 : BitVec 1 := Scalar.cmpi .sle v39 v649
  let c1_i32_301 : BitVec 32 := 1#32
  let c0_i32_302 : BitVec 32 := 0#32
  let v651 : BitVec 32 := Scalar.select v650 c1_i32_301 c0_i32_302
  let v652 : BitVec 32 := Scalar.addi v644 v651
  let c256_i32_305 : BitVec 32 := 256#32
  let v656 : BitVec 32 := Scalar.addi v596 c256_i32_305
  let c1_i32_306 : BitVec 32 := 1#32
  let v657 : BitVec 32 := Scalar.subi v656 c1_i32_306
  let v658 : BitVec 1 := Scalar.cmpi .sle v41 v657
  let c1_i32_307 : BitVec 32 := 1#32
  let c0_i32_308 : BitVec 32 := 0#32
  let v659 : BitVec 32 := Scalar.select v658 c1_i32_307 c0_i32_308
  let v660 : BitVec 32 := Scalar.addi v652 v659
  let c256_i32_311 : BitVec 32 := 256#32
  let v664 : BitVec 32 := Scalar.addi v596 c256_i32_311
  let c1_i32_312 : BitVec 32 := 1#32
  let v665 : BitVec 32 := Scalar.subi v664 c1_i32_312
  let v666 : BitVec 1 := Scalar.cmpi .sle v43 v665
  let c1_i32_313 : BitVec 32 := 1#32
  let c0_i32_314 : BitVec 32 := 0#32
  let v667 : BitVec 32 := Scalar.select v666 c1_i32_313 c0_i32_314
  let v668 : BitVec 32 := Scalar.addi v660 v667
  let c256_i32_317 : BitVec 32 := 256#32
  let v672 : BitVec 32 := Scalar.addi v596 c256_i32_317
  let c1_i32_318 : BitVec 32 := 1#32
  let v673 : BitVec 32 := Scalar.subi v672 c1_i32_318
  let v674 : BitVec 1 := Scalar.cmpi .sle v45 v673
  let c1_i32_319 : BitVec 32 := 1#32
  let c0_i32_320 : BitVec 32 := 0#32
  let v675 : BitVec 32 := Scalar.select v674 c1_i32_319 c0_i32_320
  let v676 : BitVec 32 := Scalar.addi v668 v675
  let c256_i32_323 : BitVec 32 := 256#32
  let v680 : BitVec 32 := Scalar.addi v596 c256_i32_323
  let c1_i32_324 : BitVec 32 := 1#32
  let v681 : BitVec 32 := Scalar.subi v680 c1_i32_324
  let v682 : BitVec 1 := Scalar.cmpi .sle v47 v681
  let c1_i32_325 : BitVec 32 := 1#32
  let c0_i32_326 : BitVec 32 := 0#32
  let v683 : BitVec 32 := Scalar.select v682 c1_i32_325 c0_i32_326
  let v684 : BitVec 32 := Scalar.addi v676 v683
  let c256_i32_329 : BitVec 32 := 256#32
  let v688 : BitVec 32 := Scalar.addi v596 c256_i32_329
  let c1_i32_330 : BitVec 32 := 1#32
  let v689 : BitVec 32 := Scalar.subi v688 c1_i32_330
  let v690 : BitVec 1 := Scalar.cmpi .sle v49 v689
  let c1_i32_331 : BitVec 32 := 1#32
  let c0_i32_332 : BitVec 32 := 0#32
  let v691 : BitVec 32 := Scalar.select v690 c1_i32_331 c0_i32_332
  let v692 : BitVec 32 := Scalar.addi v684 v691
  let c256_i32_335 : BitVec 32 := 256#32
  let v696 : BitVec 32 := Scalar.addi v596 c256_i32_335
  let c1_i32_336 : BitVec 32 := 1#32
  let v697 : BitVec 32 := Scalar.subi v696 c1_i32_336
  let v698 : BitVec 1 := Scalar.cmpi .sle v51 v697
  let c1_i32_337 : BitVec 32 := 1#32
  let c0_i32_338 : BitVec 32 := 0#32
  let v699 : BitVec 32 := Scalar.select v698 c1_i32_337 c0_i32_338
  let v700 : BitVec 32 := Scalar.addi v692 v699
  let c256_i32_341 : BitVec 32 := 256#32
  let v704 : BitVec 32 := Scalar.addi v596 c256_i32_341
  let c1_i32_342 : BitVec 32 := 1#32
  let v705 : BitVec 32 := Scalar.subi v704 c1_i32_342
  let v706 : BitVec 1 := Scalar.cmpi .sle v53 v705
  let c1_i32_343 : BitVec 32 := 1#32
  let c0_i32_344 : BitVec 32 := 0#32
  let v707 : BitVec 32 := Scalar.select v706 c1_i32_343 c0_i32_344
  let v708 : BitVec 32 := Scalar.addi v700 v707
  let c256_i32_347 : BitVec 32 := 256#32
  let v712 : BitVec 32 := Scalar.addi v596 c256_i32_347
  let c1_i32_348 : BitVec 32 := 1#32
  let v713 : BitVec 32 := Scalar.subi v712 c1_i32_348
  let v714 : BitVec 1 := Scalar.cmpi .sle v55 v713
  let c1_i32_349 : BitVec 32 := 1#32
  let c0_i32_350 : BitVec 32 := 0#32
  let v715 : BitVec 32 := Scalar.select v714 c1_i32_349 c0_i32_350
  let v716 : BitVec 32 := Scalar.addi v708 v715
  let c256_i32_353 : BitVec 32 := 256#32
  let v720 : BitVec 32 := Scalar.addi v596 c256_i32_353
  let c1_i32_354 : BitVec 32 := 1#32
  let v721 : BitVec 32 := Scalar.subi v720 c1_i32_354
  let v722 : BitVec 1 := Scalar.cmpi .sle v57 v721
  let c1_i32_355 : BitVec 32 := 1#32
  let c0_i32_356 : BitVec 32 := 0#32
  let v723 : BitVec 32 := Scalar.select v722 c1_i32_355 c0_i32_356
  let v724 : BitVec 32 := Scalar.addi v716 v723
  let v728 : BitVec 1 := Scalar.cmpi .ne v719 v724
  let v729 : BitVec 32 := Scalar.extui v728
  let c0_i32_358 : BitVec 32 := 0#32
  let v730 : BitVec 1 := Scalar.cmpi .ne v729 c0_i32_358
  v730

def k1_cond4 (i : grid1.Coords) (v27 : BitVec 32) (v29 : BitVec 32) (k1_t1 : Fin k1_t1_loop.trips) : BitVec 1 :=
  let c256_i32_365 : BitVec 32 := 256#32
  let c0_i32_364 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v738 : BitVec 32 := Scalar.subi v29 v596
  let v739 : BitVec 32 := Scalar.maxsi c0_i32_364 v738
  let v740 : BitVec 32 := Scalar.minsi c256_i32_365 v739
  let c256_i32_363 : BitVec 32 := 256#32
  let c0_i32_362 : BitVec 32 := 0#32
  let v735 : BitVec 32 := Scalar.subi v27 v596
  let v736 : BitVec 32 := Scalar.maxsi c0_i32_362 v735
  let v737 : BitVec 32 := Scalar.minsi c256_i32_363 v736
  let v741 : BitVec 32 := Scalar.subi v740 v737
  let c0_i32_366 : BitVec 32 := 0#32
  let v742 : BitVec 1 := Scalar.cmpi .sgt v741 c0_i32_366
  let v743 : BitVec 32 := Scalar.extui v742
  let c0_i32_367 : BitVec 32 := 0#32
  let v744 : BitVec 1 := Scalar.cmpi .ne v743 c0_i32_367
  v744

def k1_off20 (i : grid1.Coords) (v27 : BitVec 32) (v29 : BitVec 32) (k1_t1 : Fin k1_t1_loop.trips) (k1_t3 : Fin (k1_t3_loop i v27 v29 k1_t1).trips) (c0_i32_513 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1011 : BitVec 32 := Scalar.addi v1010 c0_i32_513
  let v1012 : Index := Scalar.indexCast v1011
  let c0_514 : Index := 0#32
  ![v1012.toNat, 0]
def k1_off21 (i : grid1.Coords) (v27 : BitVec 32) (v29 : BitVec 32) (k1_t1 : Fin k1_t1_loop.trips) (k1_t3 : Fin (k1_t3_loop i v27 v29 k1_t1).trips) (c0_i32_515 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1016 : BitVec 32 := Scalar.addi v1010 c0_i32_515
  let v1017 : Index := Scalar.indexCast v1016
  let c16_516 : Index := 16#32
  ![v1017.toNat, 16]
def k1_off22 (i : grid1.Coords) (v27 : BitVec 32) (v29 : BitVec 32) (k1_t1 : Fin k1_t1_loop.trips) (k1_t3 : Fin (k1_t3_loop i v27 v29 k1_t1).trips) (c0_i32_517 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1021 : BitVec 32 := Scalar.addi v1010 c0_i32_517
  let v1022 : Index := Scalar.indexCast v1021
  let c32_518 : Index := 32#32
  ![v1022.toNat, 32]
def k1_off23 (i : grid1.Coords) (v27 : BitVec 32) (v29 : BitVec 32) (k1_t1 : Fin k1_t1_loop.trips) (k1_t3 : Fin (k1_t3_loop i v27 v29 k1_t1).trips) (c0_i32_519 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1026 : BitVec 32 := Scalar.addi v1010 c0_i32_519
  let v1027 : Index := Scalar.indexCast v1026
  let c48_520 : Index := 48#32
  ![v1027.toNat, 48]
def k1_off24 (i : grid1.Coords) (v27 : BitVec 32) (v29 : BitVec 32) (k1_t1 : Fin k1_t1_loop.trips) (k1_t3 : Fin (k1_t3_loop i v27 v29 k1_t1).trips) (c0_i32_521 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1031 : BitVec 32 := Scalar.addi v1010 c0_i32_521
  let v1032 : Index := Scalar.indexCast v1031
  let c64_522 : Index := 64#32
  ![v1032.toNat, 64]
def k1_off25 (i : grid1.Coords) (v27 : BitVec 32) (v29 : BitVec 32) (k1_t1 : Fin k1_t1_loop.trips) (k1_t3 : Fin (k1_t3_loop i v27 v29 k1_t1).trips) (c0_i32_523 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1036 : BitVec 32 := Scalar.addi v1010 c0_i32_523
  let v1037 : Index := Scalar.indexCast v1036
  let c80_524 : Index := 80#32
  ![v1037.toNat, 80]
def k1_off26 (i : grid1.Coords) (v27 : BitVec 32) (v29 : BitVec 32) (k1_t1 : Fin k1_t1_loop.trips) (k1_t3 : Fin (k1_t3_loop i v27 v29 k1_t1).trips) (c0_i32_525 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1041 : BitVec 32 := Scalar.addi v1010 c0_i32_525
  let v1042 : Index := Scalar.indexCast v1041
  let c96_526 : Index := 96#32
  ![v1042.toNat, 96]
def k1_off27 (i : grid1.Coords) (v27 : BitVec 32) (v29 : BitVec 32) (k1_t1 : Fin k1_t1_loop.trips) (k1_t3 : Fin (k1_t3_loop i v27 v29 k1_t1).trips) (c0_i32_527 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c1_i32_475 : BitVec 32 := 1#32
  let arg11 : BitVec 32 := Scf.iv c0_i32_473 c1_i32_475 k1_t3
  let c4_i32_512 : BitVec 32 := 4#32
  let v1009 : BitVec 32 := Scalar.muli arg11 c4_i32_512
  let v1010 : BitVec 32 := Scalar.addi v737 v1009
  let v1046 : BitVec 32 := Scalar.addi v1010 c0_i32_527
  let v1047 : Index := Scalar.indexCast v1046
  let c112_528 : Index := 112#32
  ![v1047.toNat, 112]
@[reducible] def k1_t4_loop (i : grid1.Coords) (v27 : BitVec 32) (v29 : BitVec 32) (k1_t1 : Fin k1_t1_loop.trips) : Scf.Loop 32 :=
  let c0_i32_473 : BitVec 32 := 0#32
  let c256_i32_365 : BitVec 32 := 256#32
  let c0_i32_364 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v738 : BitVec 32 := Scalar.subi v29 v596
  let v739 : BitVec 32 := Scalar.maxsi c0_i32_364 v738
  let v740 : BitVec 32 := Scalar.minsi c256_i32_365 v739
  let c256_i32_363 : BitVec 32 := 256#32
  let c0_i32_362 : BitVec 32 := 0#32
  let v735 : BitVec 32 := Scalar.subi v27 v596
  let v736 : BitVec 32 := Scalar.maxsi c0_i32_362 v735
  let v737 : BitVec 32 := Scalar.minsi c256_i32_363 v736
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off28 (i : grid1.Coords) (v27 : BitVec 32) (v29 : BitVec 32) (k1_t1 : Fin k1_t1_loop.trips) (k1_t4 : Fin (k1_t4_loop i v27 v29 k1_t1).trips) (c0_i32_513 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1011 : BitVec 32 := Scalar.addi v1010 c0_i32_513
  let v1012 : Index := Scalar.indexCast v1011
  let c0_514 : Index := 0#32
  ![v1012.toNat, 0]
def k1_off29 (i : grid1.Coords) (v27 : BitVec 32) (v29 : BitVec 32) (k1_t1 : Fin k1_t1_loop.trips) (k1_t4 : Fin (k1_t4_loop i v27 v29 k1_t1).trips) (c0_i32_515 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1016 : BitVec 32 := Scalar.addi v1010 c0_i32_515
  let v1017 : Index := Scalar.indexCast v1016
  let c16_516 : Index := 16#32
  ![v1017.toNat, 16]
def k1_off30 (i : grid1.Coords) (v27 : BitVec 32) (v29 : BitVec 32) (k1_t1 : Fin k1_t1_loop.trips) (k1_t4 : Fin (k1_t4_loop i v27 v29 k1_t1).trips) (c0_i32_517 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1021 : BitVec 32 := Scalar.addi v1010 c0_i32_517
  let v1022 : Index := Scalar.indexCast v1021
  let c32_518 : Index := 32#32
  ![v1022.toNat, 32]
def k1_off31 (i : grid1.Coords) (v27 : BitVec 32) (v29 : BitVec 32) (k1_t1 : Fin k1_t1_loop.trips) (k1_t4 : Fin (k1_t4_loop i v27 v29 k1_t1).trips) (c0_i32_519 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1026 : BitVec 32 := Scalar.addi v1010 c0_i32_519
  let v1027 : Index := Scalar.indexCast v1026
  let c48_520 : Index := 48#32
  ![v1027.toNat, 48]
def k1_off32 (i : grid1.Coords) (v27 : BitVec 32) (v29 : BitVec 32) (k1_t1 : Fin k1_t1_loop.trips) (k1_t4 : Fin (k1_t4_loop i v27 v29 k1_t1).trips) (c0_i32_521 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1031 : BitVec 32 := Scalar.addi v1010 c0_i32_521
  let v1032 : Index := Scalar.indexCast v1031
  let c64_522 : Index := 64#32
  ![v1032.toNat, 64]
def k1_off33 (i : grid1.Coords) (v27 : BitVec 32) (v29 : BitVec 32) (k1_t1 : Fin k1_t1_loop.trips) (k1_t4 : Fin (k1_t4_loop i v27 v29 k1_t1).trips) (c0_i32_523 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1036 : BitVec 32 := Scalar.addi v1010 c0_i32_523
  let v1037 : Index := Scalar.indexCast v1036
  let c80_524 : Index := 80#32
  ![v1037.toNat, 80]
def k1_off34 (i : grid1.Coords) (v27 : BitVec 32) (v29 : BitVec 32) (k1_t1 : Fin k1_t1_loop.trips) (k1_t4 : Fin (k1_t4_loop i v27 v29 k1_t1).trips) (c0_i32_525 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1041 : BitVec 32 := Scalar.addi v1010 c0_i32_525
  let v1042 : Index := Scalar.indexCast v1041
  let c96_526 : Index := 96#32
  ![v1042.toNat, 96]
def k1_off35 (i : grid1.Coords) (v27 : BitVec 32) (v29 : BitVec 32) (k1_t1 : Fin k1_t1_loop.trips) (k1_t4 : Fin (k1_t4_loop i v27 v29 k1_t1).trips) (c0_i32_527 : BitVec 32) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c0_i32_473 : BitVec 32 := 0#32
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t4
  let c4_i32_512 : BitVec 32 := 4#32
  let v1009 : BitVec 32 := Scalar.muli arg11 c4_i32_512
  let v1010 : BitVec 32 := Scalar.addi v737 v1009
  let v1046 : BitVec 32 := Scalar.addi v1010 c0_i32_527
  let v1047 : Index := Scalar.indexCast v1046
  let c112_528 : Index := 112#32
  ![v1047.toNat, 112]
@[reducible] def k1_t5_loop (i : grid1.Coords) (v27 : BitVec 32) (v29 : BitVec 32) (k1_t1 : Fin k1_t1_loop.trips) : Scf.Loop 32 :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off36 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1009 : Index := Scalar.indexCast arg11
  let c0_512 : Index := 0#32
  ![v1009.toNat, 0]
def k1_off37 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1013 : Index := Scalar.indexCast arg11
  let c16_513 : Index := 16#32
  ![v1013.toNat, 16]
def k1_off38 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1017 : Index := Scalar.indexCast arg11
  let c32_514 : Index := 32#32
  ![v1017.toNat, 32]
def k1_off39 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1021 : Index := Scalar.indexCast arg11
  let c48_515 : Index := 48#32
  ![v1021.toNat, 48]
def k1_off40 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1025 : Index := Scalar.indexCast arg11
  let c64_516 : Index := 64#32
  ![v1025.toNat, 64]
def k1_off41 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1029 : Index := Scalar.indexCast arg11
  let c80_517 : Index := 80#32
  ![v1029.toNat, 80]
def k1_off42 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1033 : Index := Scalar.indexCast arg11
  let c96_518 : Index := 96#32
  ![v1033.toNat, 96]
def k1_off43 (i : grid1.Coords) (v27 : BitVec 32) (v29 : BitVec 32) (k1_t1 : Fin k1_t1_loop.trips) (k1_t5 : Fin (k1_t5_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let c1_i32_478 : BitVec 32 := 1#32
  let arg11 : BitVec 32 := Scf.iv v937 c1_i32_478 k1_t5
  let v1037 : Index := Scalar.indexCast arg11
  let c112_519 : Index := 112#32
  ![v1037.toNat, 112]
@[reducible] def k1_t6_loop (i : grid1.Coords) (v27 : BitVec 32) (v29 : BitVec 32) (k1_t1 : Fin k1_t1_loop.trips) : Scf.Loop 32 :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off44 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1009 : Index := Scalar.indexCast arg11
  let c0_512 : Index := 0#32
  ![v1009.toNat, 0]
def k1_off45 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1013 : Index := Scalar.indexCast arg11
  let c16_513 : Index := 16#32
  ![v1013.toNat, 16]
def k1_off46 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1017 : Index := Scalar.indexCast arg11
  let c32_514 : Index := 32#32
  ![v1017.toNat, 32]
def k1_off47 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1021 : Index := Scalar.indexCast arg11
  let c48_515 : Index := 48#32
  ![v1021.toNat, 48]
def k1_off48 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1025 : Index := Scalar.indexCast arg11
  let c64_516 : Index := 64#32
  ![v1025.toNat, 64]
def k1_off49 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1029 : Index := Scalar.indexCast arg11
  let c80_517 : Index := 80#32
  ![v1029.toNat, 80]
def k1_off50 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1033 : Index := Scalar.indexCast arg11
  let c96_518 : Index := 96#32
  ![v1033.toNat, 96]
def k1_off51 (i : grid1.Coords) (v27 : BitVec 32) (v29 : BitVec 32) (k1_t1 : Fin k1_t1_loop.trips) (k1_t6 : Fin (k1_t6_loop i v27 v29 k1_t1).trips) : Fin 2 → Nat :=
  let c256_i32_363 : BitVec 32 := 256#32
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v735 : BitVec 32 := Scalar.subi v27 v596
  let v736 : BitVec 32 := Scalar.maxsi c0_i32_362 v735
  let v737 : BitVec 32 := Scalar.minsi c256_i32_363 v736
  let c256_i32_365 : BitVec 32 := 256#32
  let c0_i32_364 : BitVec 32 := 0#32
  let v738 : BitVec 32 := Scalar.subi v29 v596
  let v739 : BitVec 32 := Scalar.maxsi c0_i32_364 v738
  let v740 : BitVec 32 := Scalar.minsi c256_i32_365 v739
  let v741 : BitVec 32 := Scalar.subi v740 v737
  let c0_i32_459 : BitVec 32 := 0#32
  let v896 : BitVec 1 := Scalar.cmpi .sgt v741 c0_i32_459
  let v897 : BitVec 32 := Scalar.extui v896
  let c0_i32_460 : BitVec 32 := 0#32
  let v898 : BitVec 1 := Scalar.cmpi .slt v741 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v741 c4_i32_458
  let c0_i32_463 : BitVec 32 := 0#32
  let v908 : BitVec 1 := Scalar.cmpi .ne v907 c0_i32_463
  let v909 : BitVec 1 := Scalar.andi v906 v908
  let v895 : BitVec 32 := Scalar.divsi v741 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v737 v912
  let v938 : BitVec 32 := Scalar.subi v740 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t6
  let v1037 : Index := Scalar.indexCast arg11
  let c112_519 : Index := 112#32
  ![v1037.toNat, 112]
@[reducible] def k1_t7_loop (i : grid1.Coords) (v29 : BitVec 32) (v31 : BitVec 32) (k1_t1 : Fin k1_t1_loop.trips) : Scf.Loop 32 :=
  let c0_i32_473 : BitVec 32 := 0#32
  let c256_i32_371 : BitVec 32 := 256#32
  let c0_i32_370 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v748 : BitVec 32 := Scalar.subi v31 v596
  let v749 : BitVec 32 := Scalar.maxsi c0_i32_370 v748
  let v750 : BitVec 32 := Scalar.minsi c256_i32_371 v749
  let c256_i32_369 : BitVec 32 := 256#32
  let c0_i32_368 : BitVec 32 := 0#32
  let v745 : BitVec 32 := Scalar.subi v29 v596
  let v746 : BitVec 32 := Scalar.maxsi c0_i32_368 v745
  let v747 : BitVec 32 := Scalar.minsi c256_i32_369 v746
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond5 (i : grid1.Coords) (v29 : BitVec 32) (v31 : BitVec 32) (k1_t1 : Fin k1_t1_loop.trips) : BitVec 1 :=
  let c256_i32_371 : BitVec 32 := 256#32
  let c0_i32_370 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v748 : BitVec 32 := Scalar.subi v31 v596
  let v749 : BitVec 32 := Scalar.maxsi c0_i32_370 v748
  let v750 : BitVec 32 := Scalar.minsi c256_i32_371 v749
  let c256_i32_369 : BitVec 32 := 256#32
  let c0_i32_368 : BitVec 32 := 0#32
  let v745 : BitVec 32 := Scalar.subi v29 v596
  let v746 : BitVec 32 := Scalar.maxsi c0_i32_368 v745
  let v747 : BitVec 32 := Scalar.minsi c256_i32_369 v746
  let v751 : BitVec 32 := Scalar.subi v750 v747
  let c0_i32_372 : BitVec 32 := 0#32
  let v752 : BitVec 1 := Scalar.cmpi .sgt v751 c0_i32_372
  let v753 : BitVec 32 := Scalar.extui v752
  let c0_i32_373 : BitVec 32 := 0#32
  let v754 : BitVec 1 := Scalar.cmpi .ne v753 c0_i32_373
  v754

def k1_off52 (i : grid1.Coords) (v29 : BitVec 32) (v31 : BitVec 32) (k1_t1 : Fin k1_t1_loop.trips) (k1_t7 : Fin (k1_t7_loop i v29 v31 k1_t1).trips) (c0_i32_513 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1011 : BitVec 32 := Scalar.addi v1010 c0_i32_513
  let v1012 : Index := Scalar.indexCast v1011
  let c0_514 : Index := 0#32
  ![v1012.toNat, 0]
def k1_off53 (i : grid1.Coords) (v29 : BitVec 32) (v31 : BitVec 32) (k1_t1 : Fin k1_t1_loop.trips) (k1_t7 : Fin (k1_t7_loop i v29 v31 k1_t1).trips) (c0_i32_515 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1016 : BitVec 32 := Scalar.addi v1010 c0_i32_515
  let v1017 : Index := Scalar.indexCast v1016
  let c16_516 : Index := 16#32
  ![v1017.toNat, 16]
def k1_off54 (i : grid1.Coords) (v29 : BitVec 32) (v31 : BitVec 32) (k1_t1 : Fin k1_t1_loop.trips) (k1_t7 : Fin (k1_t7_loop i v29 v31 k1_t1).trips) (c0_i32_517 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1021 : BitVec 32 := Scalar.addi v1010 c0_i32_517
  let v1022 : Index := Scalar.indexCast v1021
  let c32_518 : Index := 32#32
  ![v1022.toNat, 32]
def k1_off55 (i : grid1.Coords) (v29 : BitVec 32) (v31 : BitVec 32) (k1_t1 : Fin k1_t1_loop.trips) (k1_t7 : Fin (k1_t7_loop i v29 v31 k1_t1).trips) (c0_i32_519 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1026 : BitVec 32 := Scalar.addi v1010 c0_i32_519
  let v1027 : Index := Scalar.indexCast v1026
  let c48_520 : Index := 48#32
  ![v1027.toNat, 48]
def k1_off56 (i : grid1.Coords) (v29 : BitVec 32) (v31 : BitVec 32) (k1_t1 : Fin k1_t1_loop.trips) (k1_t7 : Fin (k1_t7_loop i v29 v31 k1_t1).trips) (c0_i32_521 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1031 : BitVec 32 := Scalar.addi v1010 c0_i32_521
  let v1032 : Index := Scalar.indexCast v1031
  let c64_522 : Index := 64#32
  ![v1032.toNat, 64]
def k1_off57 (i : grid1.Coords) (v29 : BitVec 32) (v31 : BitVec 32) (k1_t1 : Fin k1_t1_loop.trips) (k1_t7 : Fin (k1_t7_loop i v29 v31 k1_t1).trips) (c0_i32_523 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1036 : BitVec 32 := Scalar.addi v1010 c0_i32_523
  let v1037 : Index := Scalar.indexCast v1036
  let c80_524 : Index := 80#32
  ![v1037.toNat, 80]
def k1_off58 (i : grid1.Coords) (v29 : BitVec 32) (v31 : BitVec 32) (k1_t1 : Fin k1_t1_loop.trips) (k1_t7 : Fin (k1_t7_loop i v29 v31 k1_t1).trips) (c0_i32_525 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1041 : BitVec 32 := Scalar.addi v1010 c0_i32_525
  let v1042 : Index := Scalar.indexCast v1041
  let c96_526 : Index := 96#32
  ![v1042.toNat, 96]
def k1_off59 (i : grid1.Coords) (v29 : BitVec 32) (v31 : BitVec 32) (k1_t1 : Fin k1_t1_loop.trips) (k1_t7 : Fin (k1_t7_loop i v29 v31 k1_t1).trips) (c0_i32_527 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c1_i32_475 : BitVec 32 := 1#32
  let arg11 : BitVec 32 := Scf.iv c0_i32_473 c1_i32_475 k1_t7
  let c4_i32_512 : BitVec 32 := 4#32
  let v1009 : BitVec 32 := Scalar.muli arg11 c4_i32_512
  let v1010 : BitVec 32 := Scalar.addi v747 v1009
  let v1046 : BitVec 32 := Scalar.addi v1010 c0_i32_527
  let v1047 : Index := Scalar.indexCast v1046
  let c112_528 : Index := 112#32
  ![v1047.toNat, 112]
@[reducible] def k1_t8_loop (i : grid1.Coords) (v29 : BitVec 32) (v31 : BitVec 32) (k1_t1 : Fin k1_t1_loop.trips) : Scf.Loop 32 :=
  let c0_i32_473 : BitVec 32 := 0#32
  let c256_i32_371 : BitVec 32 := 256#32
  let c0_i32_370 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v748 : BitVec 32 := Scalar.subi v31 v596
  let v749 : BitVec 32 := Scalar.maxsi c0_i32_370 v748
  let v750 : BitVec 32 := Scalar.minsi c256_i32_371 v749
  let c256_i32_369 : BitVec 32 := 256#32
  let c0_i32_368 : BitVec 32 := 0#32
  let v745 : BitVec 32 := Scalar.subi v29 v596
  let v746 : BitVec 32 := Scalar.maxsi c0_i32_368 v745
  let v747 : BitVec 32 := Scalar.minsi c256_i32_369 v746
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off60 (i : grid1.Coords) (v29 : BitVec 32) (v31 : BitVec 32) (k1_t1 : Fin k1_t1_loop.trips) (k1_t8 : Fin (k1_t8_loop i v29 v31 k1_t1).trips) (c0_i32_513 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1011 : BitVec 32 := Scalar.addi v1010 c0_i32_513
  let v1012 : Index := Scalar.indexCast v1011
  let c0_514 : Index := 0#32
  ![v1012.toNat, 0]
def k1_off61 (i : grid1.Coords) (v29 : BitVec 32) (v31 : BitVec 32) (k1_t1 : Fin k1_t1_loop.trips) (k1_t8 : Fin (k1_t8_loop i v29 v31 k1_t1).trips) (c0_i32_515 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1016 : BitVec 32 := Scalar.addi v1010 c0_i32_515
  let v1017 : Index := Scalar.indexCast v1016
  let c16_516 : Index := 16#32
  ![v1017.toNat, 16]
def k1_off62 (i : grid1.Coords) (v29 : BitVec 32) (v31 : BitVec 32) (k1_t1 : Fin k1_t1_loop.trips) (k1_t8 : Fin (k1_t8_loop i v29 v31 k1_t1).trips) (c0_i32_517 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1021 : BitVec 32 := Scalar.addi v1010 c0_i32_517
  let v1022 : Index := Scalar.indexCast v1021
  let c32_518 : Index := 32#32
  ![v1022.toNat, 32]
def k1_off63 (i : grid1.Coords) (v29 : BitVec 32) (v31 : BitVec 32) (k1_t1 : Fin k1_t1_loop.trips) (k1_t8 : Fin (k1_t8_loop i v29 v31 k1_t1).trips) (c0_i32_519 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1026 : BitVec 32 := Scalar.addi v1010 c0_i32_519
  let v1027 : Index := Scalar.indexCast v1026
  let c48_520 : Index := 48#32
  ![v1027.toNat, 48]
def k1_off64 (i : grid1.Coords) (v29 : BitVec 32) (v31 : BitVec 32) (k1_t1 : Fin k1_t1_loop.trips) (k1_t8 : Fin (k1_t8_loop i v29 v31 k1_t1).trips) (c0_i32_521 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1031 : BitVec 32 := Scalar.addi v1010 c0_i32_521
  let v1032 : Index := Scalar.indexCast v1031
  let c64_522 : Index := 64#32
  ![v1032.toNat, 64]
def k1_off65 (i : grid1.Coords) (v29 : BitVec 32) (v31 : BitVec 32) (k1_t1 : Fin k1_t1_loop.trips) (k1_t8 : Fin (k1_t8_loop i v29 v31 k1_t1).trips) (c0_i32_523 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1036 : BitVec 32 := Scalar.addi v1010 c0_i32_523
  let v1037 : Index := Scalar.indexCast v1036
  let c80_524 : Index := 80#32
  ![v1037.toNat, 80]
def k1_off66 (i : grid1.Coords) (v29 : BitVec 32) (v31 : BitVec 32) (k1_t1 : Fin k1_t1_loop.trips) (k1_t8 : Fin (k1_t8_loop i v29 v31 k1_t1).trips) (c0_i32_525 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1041 : BitVec 32 := Scalar.addi v1010 c0_i32_525
  let v1042 : Index := Scalar.indexCast v1041
  let c96_526 : Index := 96#32
  ![v1042.toNat, 96]
def k1_off67 (i : grid1.Coords) (v29 : BitVec 32) (v31 : BitVec 32) (k1_t1 : Fin k1_t1_loop.trips) (k1_t8 : Fin (k1_t8_loop i v29 v31 k1_t1).trips) (c0_i32_527 : BitVec 32) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c0_i32_473 : BitVec 32 := 0#32
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t8
  let c4_i32_512 : BitVec 32 := 4#32
  let v1009 : BitVec 32 := Scalar.muli arg11 c4_i32_512
  let v1010 : BitVec 32 := Scalar.addi v747 v1009
  let v1046 : BitVec 32 := Scalar.addi v1010 c0_i32_527
  let v1047 : Index := Scalar.indexCast v1046
  let c112_528 : Index := 112#32
  ![v1047.toNat, 112]
@[reducible] def k1_t9_loop (i : grid1.Coords) (v29 : BitVec 32) (v31 : BitVec 32) (k1_t1 : Fin k1_t1_loop.trips) : Scf.Loop 32 :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off68 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1009 : Index := Scalar.indexCast arg11
  let c0_512 : Index := 0#32
  ![v1009.toNat, 0]
def k1_off69 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1013 : Index := Scalar.indexCast arg11
  let c16_513 : Index := 16#32
  ![v1013.toNat, 16]
def k1_off70 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1017 : Index := Scalar.indexCast arg11
  let c32_514 : Index := 32#32
  ![v1017.toNat, 32]
def k1_off71 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1021 : Index := Scalar.indexCast arg11
  let c48_515 : Index := 48#32
  ![v1021.toNat, 48]
def k1_off72 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1025 : Index := Scalar.indexCast arg11
  let c64_516 : Index := 64#32
  ![v1025.toNat, 64]
def k1_off73 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1029 : Index := Scalar.indexCast arg11
  let c80_517 : Index := 80#32
  ![v1029.toNat, 80]
def k1_off74 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1033 : Index := Scalar.indexCast arg11
  let c96_518 : Index := 96#32
  ![v1033.toNat, 96]
def k1_off75 (i : grid1.Coords) (v29 : BitVec 32) (v31 : BitVec 32) (k1_t1 : Fin k1_t1_loop.trips) (k1_t9 : Fin (k1_t9_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let c1_i32_478 : BitVec 32 := 1#32
  let arg11 : BitVec 32 := Scf.iv v937 c1_i32_478 k1_t9
  let v1037 : Index := Scalar.indexCast arg11
  let c112_519 : Index := 112#32
  ![v1037.toNat, 112]
@[reducible] def k1_t10_loop (i : grid1.Coords) (v29 : BitVec 32) (v31 : BitVec 32) (k1_t1 : Fin k1_t1_loop.trips) : Scf.Loop 32 :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off76 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1009 : Index := Scalar.indexCast arg11
  let c0_512 : Index := 0#32
  ![v1009.toNat, 0]
def k1_off77 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1013 : Index := Scalar.indexCast arg11
  let c16_513 : Index := 16#32
  ![v1013.toNat, 16]
def k1_off78 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1017 : Index := Scalar.indexCast arg11
  let c32_514 : Index := 32#32
  ![v1017.toNat, 32]
def k1_off79 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1021 : Index := Scalar.indexCast arg11
  let c48_515 : Index := 48#32
  ![v1021.toNat, 48]
def k1_off80 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1025 : Index := Scalar.indexCast arg11
  let c64_516 : Index := 64#32
  ![v1025.toNat, 64]
def k1_off81 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1029 : Index := Scalar.indexCast arg11
  let c80_517 : Index := 80#32
  ![v1029.toNat, 80]
def k1_off82 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1033 : Index := Scalar.indexCast arg11
  let c96_518 : Index := 96#32
  ![v1033.toNat, 96]
def k1_off83 (i : grid1.Coords) (v29 : BitVec 32) (v31 : BitVec 32) (k1_t1 : Fin k1_t1_loop.trips) (k1_t10 : Fin (k1_t10_loop i v29 v31 k1_t1).trips) : Fin 2 → Nat :=
  let c256_i32_369 : BitVec 32 := 256#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v745 : BitVec 32 := Scalar.subi v29 v596
  let v746 : BitVec 32 := Scalar.maxsi c0_i32_368 v745
  let v747 : BitVec 32 := Scalar.minsi c256_i32_369 v746
  let c256_i32_371 : BitVec 32 := 256#32
  let c0_i32_370 : BitVec 32 := 0#32
  let v748 : BitVec 32 := Scalar.subi v31 v596
  let v749 : BitVec 32 := Scalar.maxsi c0_i32_370 v748
  let v750 : BitVec 32 := Scalar.minsi c256_i32_371 v749
  let v751 : BitVec 32 := Scalar.subi v750 v747
  let c0_i32_459 : BitVec 32 := 0#32
  let v896 : BitVec 1 := Scalar.cmpi .sgt v751 c0_i32_459
  let v897 : BitVec 32 := Scalar.extui v896
  let c0_i32_460 : BitVec 32 := 0#32
  let v898 : BitVec 1 := Scalar.cmpi .slt v751 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v751 c4_i32_458
  let c0_i32_463 : BitVec 32 := 0#32
  let v908 : BitVec 1 := Scalar.cmpi .ne v907 c0_i32_463
  let v909 : BitVec 1 := Scalar.andi v906 v908
  let v895 : BitVec 32 := Scalar.divsi v751 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v747 v912
  let v938 : BitVec 32 := Scalar.subi v750 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t10
  let v1037 : Index := Scalar.indexCast arg11
  let c112_519 : Index := 112#32
  ![v1037.toNat, 112]
@[reducible] def k1_t11_loop (i : grid1.Coords) (v31 : BitVec 32) (v33 : BitVec 32) (k1_t1 : Fin k1_t1_loop.trips) : Scf.Loop 32 :=
  let c0_i32_473 : BitVec 32 := 0#32
  let c256_i32_377 : BitVec 32 := 256#32
  let c0_i32_376 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v758 : BitVec 32 := Scalar.subi v33 v596
  let v759 : BitVec 32 := Scalar.maxsi c0_i32_376 v758
  let v760 : BitVec 32 := Scalar.minsi c256_i32_377 v759
  let c256_i32_375 : BitVec 32 := 256#32
  let c0_i32_374 : BitVec 32 := 0#32
  let v755 : BitVec 32 := Scalar.subi v31 v596
  let v756 : BitVec 32 := Scalar.maxsi c0_i32_374 v755
  let v757 : BitVec 32 := Scalar.minsi c256_i32_375 v756
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond6 (i : grid1.Coords) (v31 : BitVec 32) (v33 : BitVec 32) (k1_t1 : Fin k1_t1_loop.trips) : BitVec 1 :=
  let c256_i32_377 : BitVec 32 := 256#32
  let c0_i32_376 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v758 : BitVec 32 := Scalar.subi v33 v596
  let v759 : BitVec 32 := Scalar.maxsi c0_i32_376 v758
  let v760 : BitVec 32 := Scalar.minsi c256_i32_377 v759
  let c256_i32_375 : BitVec 32 := 256#32
  let c0_i32_374 : BitVec 32 := 0#32
  let v755 : BitVec 32 := Scalar.subi v31 v596
  let v756 : BitVec 32 := Scalar.maxsi c0_i32_374 v755
  let v757 : BitVec 32 := Scalar.minsi c256_i32_375 v756
  let v761 : BitVec 32 := Scalar.subi v760 v757
  let c0_i32_378 : BitVec 32 := 0#32
  let v762 : BitVec 1 := Scalar.cmpi .sgt v761 c0_i32_378
  let v763 : BitVec 32 := Scalar.extui v762
  let c0_i32_379 : BitVec 32 := 0#32
  let v764 : BitVec 1 := Scalar.cmpi .ne v763 c0_i32_379
  v764

def k1_off84 (i : grid1.Coords) (v31 : BitVec 32) (v33 : BitVec 32) (k1_t1 : Fin k1_t1_loop.trips) (k1_t11 : Fin (k1_t11_loop i v31 v33 k1_t1).trips) (c0_i32_513 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1011 : BitVec 32 := Scalar.addi v1010 c0_i32_513
  let v1012 : Index := Scalar.indexCast v1011
  let c0_514 : Index := 0#32
  ![v1012.toNat, 0]
def k1_off85 (i : grid1.Coords) (v31 : BitVec 32) (v33 : BitVec 32) (k1_t1 : Fin k1_t1_loop.trips) (k1_t11 : Fin (k1_t11_loop i v31 v33 k1_t1).trips) (c0_i32_515 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1016 : BitVec 32 := Scalar.addi v1010 c0_i32_515
  let v1017 : Index := Scalar.indexCast v1016
  let c16_516 : Index := 16#32
  ![v1017.toNat, 16]
def k1_off86 (i : grid1.Coords) (v31 : BitVec 32) (v33 : BitVec 32) (k1_t1 : Fin k1_t1_loop.trips) (k1_t11 : Fin (k1_t11_loop i v31 v33 k1_t1).trips) (c0_i32_517 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1021 : BitVec 32 := Scalar.addi v1010 c0_i32_517
  let v1022 : Index := Scalar.indexCast v1021
  let c32_518 : Index := 32#32
  ![v1022.toNat, 32]
def k1_off87 (i : grid1.Coords) (v31 : BitVec 32) (v33 : BitVec 32) (k1_t1 : Fin k1_t1_loop.trips) (k1_t11 : Fin (k1_t11_loop i v31 v33 k1_t1).trips) (c0_i32_519 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1026 : BitVec 32 := Scalar.addi v1010 c0_i32_519
  let v1027 : Index := Scalar.indexCast v1026
  let c48_520 : Index := 48#32
  ![v1027.toNat, 48]
def k1_off88 (i : grid1.Coords) (v31 : BitVec 32) (v33 : BitVec 32) (k1_t1 : Fin k1_t1_loop.trips) (k1_t11 : Fin (k1_t11_loop i v31 v33 k1_t1).trips) (c0_i32_521 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1031 : BitVec 32 := Scalar.addi v1010 c0_i32_521
  let v1032 : Index := Scalar.indexCast v1031
  let c64_522 : Index := 64#32
  ![v1032.toNat, 64]
def k1_off89 (i : grid1.Coords) (v31 : BitVec 32) (v33 : BitVec 32) (k1_t1 : Fin k1_t1_loop.trips) (k1_t11 : Fin (k1_t11_loop i v31 v33 k1_t1).trips) (c0_i32_523 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1036 : BitVec 32 := Scalar.addi v1010 c0_i32_523
  let v1037 : Index := Scalar.indexCast v1036
  let c80_524 : Index := 80#32
  ![v1037.toNat, 80]
def k1_off90 (i : grid1.Coords) (v31 : BitVec 32) (v33 : BitVec 32) (k1_t1 : Fin k1_t1_loop.trips) (k1_t11 : Fin (k1_t11_loop i v31 v33 k1_t1).trips) (c0_i32_525 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1041 : BitVec 32 := Scalar.addi v1010 c0_i32_525
  let v1042 : Index := Scalar.indexCast v1041
  let c96_526 : Index := 96#32
  ![v1042.toNat, 96]
def k1_off91 (i : grid1.Coords) (v31 : BitVec 32) (v33 : BitVec 32) (k1_t1 : Fin k1_t1_loop.trips) (k1_t11 : Fin (k1_t11_loop i v31 v33 k1_t1).trips) (c0_i32_527 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c1_i32_475 : BitVec 32 := 1#32
  let arg11 : BitVec 32 := Scf.iv c0_i32_473 c1_i32_475 k1_t11
  let c4_i32_512 : BitVec 32 := 4#32
  let v1009 : BitVec 32 := Scalar.muli arg11 c4_i32_512
  let v1010 : BitVec 32 := Scalar.addi v757 v1009
  let v1046 : BitVec 32 := Scalar.addi v1010 c0_i32_527
  let v1047 : Index := Scalar.indexCast v1046
  let c112_528 : Index := 112#32
  ![v1047.toNat, 112]
@[reducible] def k1_t12_loop (i : grid1.Coords) (v31 : BitVec 32) (v33 : BitVec 32) (k1_t1 : Fin k1_t1_loop.trips) : Scf.Loop 32 :=
  let c0_i32_473 : BitVec 32 := 0#32
  let c256_i32_377 : BitVec 32 := 256#32
  let c0_i32_376 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v758 : BitVec 32 := Scalar.subi v33 v596
  let v759 : BitVec 32 := Scalar.maxsi c0_i32_376 v758
  let v760 : BitVec 32 := Scalar.minsi c256_i32_377 v759
  let c256_i32_375 : BitVec 32 := 256#32
  let c0_i32_374 : BitVec 32 := 0#32
  let v755 : BitVec 32 := Scalar.subi v31 v596
  let v756 : BitVec 32 := Scalar.maxsi c0_i32_374 v755
  let v757 : BitVec 32 := Scalar.minsi c256_i32_375 v756
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off92 (i : grid1.Coords) (v31 : BitVec 32) (v33 : BitVec 32) (k1_t1 : Fin k1_t1_loop.trips) (k1_t12 : Fin (k1_t12_loop i v31 v33 k1_t1).trips) (c0_i32_513 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1011 : BitVec 32 := Scalar.addi v1010 c0_i32_513
  let v1012 : Index := Scalar.indexCast v1011
  let c0_514 : Index := 0#32
  ![v1012.toNat, 0]
def k1_off93 (i : grid1.Coords) (v31 : BitVec 32) (v33 : BitVec 32) (k1_t1 : Fin k1_t1_loop.trips) (k1_t12 : Fin (k1_t12_loop i v31 v33 k1_t1).trips) (c0_i32_515 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1016 : BitVec 32 := Scalar.addi v1010 c0_i32_515
  let v1017 : Index := Scalar.indexCast v1016
  let c16_516 : Index := 16#32
  ![v1017.toNat, 16]
def k1_off94 (i : grid1.Coords) (v31 : BitVec 32) (v33 : BitVec 32) (k1_t1 : Fin k1_t1_loop.trips) (k1_t12 : Fin (k1_t12_loop i v31 v33 k1_t1).trips) (c0_i32_517 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1021 : BitVec 32 := Scalar.addi v1010 c0_i32_517
  let v1022 : Index := Scalar.indexCast v1021
  let c32_518 : Index := 32#32
  ![v1022.toNat, 32]
def k1_off95 (i : grid1.Coords) (v31 : BitVec 32) (v33 : BitVec 32) (k1_t1 : Fin k1_t1_loop.trips) (k1_t12 : Fin (k1_t12_loop i v31 v33 k1_t1).trips) (c0_i32_519 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1026 : BitVec 32 := Scalar.addi v1010 c0_i32_519
  let v1027 : Index := Scalar.indexCast v1026
  let c48_520 : Index := 48#32
  ![v1027.toNat, 48]
def k1_off96 (i : grid1.Coords) (v31 : BitVec 32) (v33 : BitVec 32) (k1_t1 : Fin k1_t1_loop.trips) (k1_t12 : Fin (k1_t12_loop i v31 v33 k1_t1).trips) (c0_i32_521 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1031 : BitVec 32 := Scalar.addi v1010 c0_i32_521
  let v1032 : Index := Scalar.indexCast v1031
  let c64_522 : Index := 64#32
  ![v1032.toNat, 64]
def k1_off97 (i : grid1.Coords) (v31 : BitVec 32) (v33 : BitVec 32) (k1_t1 : Fin k1_t1_loop.trips) (k1_t12 : Fin (k1_t12_loop i v31 v33 k1_t1).trips) (c0_i32_523 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1036 : BitVec 32 := Scalar.addi v1010 c0_i32_523
  let v1037 : Index := Scalar.indexCast v1036
  let c80_524 : Index := 80#32
  ![v1037.toNat, 80]
def k1_off98 (i : grid1.Coords) (v31 : BitVec 32) (v33 : BitVec 32) (k1_t1 : Fin k1_t1_loop.trips) (k1_t12 : Fin (k1_t12_loop i v31 v33 k1_t1).trips) (c0_i32_525 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1041 : BitVec 32 := Scalar.addi v1010 c0_i32_525
  let v1042 : Index := Scalar.indexCast v1041
  let c96_526 : Index := 96#32
  ![v1042.toNat, 96]
def k1_off99 (i : grid1.Coords) (v31 : BitVec 32) (v33 : BitVec 32) (k1_t1 : Fin k1_t1_loop.trips) (k1_t12 : Fin (k1_t12_loop i v31 v33 k1_t1).trips) (c0_i32_527 : BitVec 32) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c0_i32_473 : BitVec 32 := 0#32
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t12
  let c4_i32_512 : BitVec 32 := 4#32
  let v1009 : BitVec 32 := Scalar.muli arg11 c4_i32_512
  let v1010 : BitVec 32 := Scalar.addi v757 v1009
  let v1046 : BitVec 32 := Scalar.addi v1010 c0_i32_527
  let v1047 : Index := Scalar.indexCast v1046
  let c112_528 : Index := 112#32
  ![v1047.toNat, 112]
@[reducible] def k1_t13_loop (i : grid1.Coords) (v31 : BitVec 32) (v33 : BitVec 32) (k1_t1 : Fin k1_t1_loop.trips) : Scf.Loop 32 :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off100 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1009 : Index := Scalar.indexCast arg11
  let c0_512 : Index := 0#32
  ![v1009.toNat, 0]
def k1_off101 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1013 : Index := Scalar.indexCast arg11
  let c16_513 : Index := 16#32
  ![v1013.toNat, 16]
def k1_off102 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1017 : Index := Scalar.indexCast arg11
  let c32_514 : Index := 32#32
  ![v1017.toNat, 32]
def k1_off103 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1021 : Index := Scalar.indexCast arg11
  let c48_515 : Index := 48#32
  ![v1021.toNat, 48]
def k1_off104 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1025 : Index := Scalar.indexCast arg11
  let c64_516 : Index := 64#32
  ![v1025.toNat, 64]
def k1_off105 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1029 : Index := Scalar.indexCast arg11
  let c80_517 : Index := 80#32
  ![v1029.toNat, 80]
def k1_off106 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1033 : Index := Scalar.indexCast arg11
  let c96_518 : Index := 96#32
  ![v1033.toNat, 96]
def k1_off107 (i : grid1.Coords) (v31 : BitVec 32) (v33 : BitVec 32) (k1_t1 : Fin k1_t1_loop.trips) (k1_t13 : Fin (k1_t13_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let c1_i32_478 : BitVec 32 := 1#32
  let arg11 : BitVec 32 := Scf.iv v937 c1_i32_478 k1_t13
  let v1037 : Index := Scalar.indexCast arg11
  let c112_519 : Index := 112#32
  ![v1037.toNat, 112]
@[reducible] def k1_t14_loop (i : grid1.Coords) (v31 : BitVec 32) (v33 : BitVec 32) (k1_t1 : Fin k1_t1_loop.trips) : Scf.Loop 32 :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off108 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1009 : Index := Scalar.indexCast arg11
  let c0_512 : Index := 0#32
  ![v1009.toNat, 0]
def k1_off109 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1013 : Index := Scalar.indexCast arg11
  let c16_513 : Index := 16#32
  ![v1013.toNat, 16]
def k1_off110 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1017 : Index := Scalar.indexCast arg11
  let c32_514 : Index := 32#32
  ![v1017.toNat, 32]
def k1_off111 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1021 : Index := Scalar.indexCast arg11
  let c48_515 : Index := 48#32
  ![v1021.toNat, 48]
def k1_off112 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1025 : Index := Scalar.indexCast arg11
  let c64_516 : Index := 64#32
  ![v1025.toNat, 64]
def k1_off113 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1029 : Index := Scalar.indexCast arg11
  let c80_517 : Index := 80#32
  ![v1029.toNat, 80]
def k1_off114 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1033 : Index := Scalar.indexCast arg11
  let c96_518 : Index := 96#32
  ![v1033.toNat, 96]
def k1_off115 (i : grid1.Coords) (v31 : BitVec 32) (v33 : BitVec 32) (k1_t1 : Fin k1_t1_loop.trips) (k1_t14 : Fin (k1_t14_loop i v31 v33 k1_t1).trips) : Fin 2 → Nat :=
  let c256_i32_375 : BitVec 32 := 256#32
  let c0_i32_374 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v755 : BitVec 32 := Scalar.subi v31 v596
  let v756 : BitVec 32 := Scalar.maxsi c0_i32_374 v755
  let v757 : BitVec 32 := Scalar.minsi c256_i32_375 v756
  let c256_i32_377 : BitVec 32 := 256#32
  let c0_i32_376 : BitVec 32 := 0#32
  let v758 : BitVec 32 := Scalar.subi v33 v596
  let v759 : BitVec 32 := Scalar.maxsi c0_i32_376 v758
  let v760 : BitVec 32 := Scalar.minsi c256_i32_377 v759
  let v761 : BitVec 32 := Scalar.subi v760 v757
  let c0_i32_459 : BitVec 32 := 0#32
  let v896 : BitVec 1 := Scalar.cmpi .sgt v761 c0_i32_459
  let v897 : BitVec 32 := Scalar.extui v896
  let c0_i32_460 : BitVec 32 := 0#32
  let v898 : BitVec 1 := Scalar.cmpi .slt v761 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v761 c4_i32_458
  let c0_i32_463 : BitVec 32 := 0#32
  let v908 : BitVec 1 := Scalar.cmpi .ne v907 c0_i32_463
  let v909 : BitVec 1 := Scalar.andi v906 v908
  let v895 : BitVec 32 := Scalar.divsi v761 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v757 v912
  let v938 : BitVec 32 := Scalar.subi v760 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t14
  let v1037 : Index := Scalar.indexCast arg11
  let c112_519 : Index := 112#32
  ![v1037.toNat, 112]
@[reducible] def k1_t15_loop (i : grid1.Coords) (v33 : BitVec 32) (v35 : BitVec 32) (k1_t1 : Fin k1_t1_loop.trips) : Scf.Loop 32 :=
  let c0_i32_473 : BitVec 32 := 0#32
  let c256_i32_383 : BitVec 32 := 256#32
  let c0_i32_382 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v768 : BitVec 32 := Scalar.subi v35 v596
  let v769 : BitVec 32 := Scalar.maxsi c0_i32_382 v768
  let v770 : BitVec 32 := Scalar.minsi c256_i32_383 v769
  let c256_i32_381 : BitVec 32 := 256#32
  let c0_i32_380 : BitVec 32 := 0#32
  let v765 : BitVec 32 := Scalar.subi v33 v596
  let v766 : BitVec 32 := Scalar.maxsi c0_i32_380 v765
  let v767 : BitVec 32 := Scalar.minsi c256_i32_381 v766
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond7 (i : grid1.Coords) (v33 : BitVec 32) (v35 : BitVec 32) (k1_t1 : Fin k1_t1_loop.trips) : BitVec 1 :=
  let c256_i32_383 : BitVec 32 := 256#32
  let c0_i32_382 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v768 : BitVec 32 := Scalar.subi v35 v596
  let v769 : BitVec 32 := Scalar.maxsi c0_i32_382 v768
  let v770 : BitVec 32 := Scalar.minsi c256_i32_383 v769
  let c256_i32_381 : BitVec 32 := 256#32
  let c0_i32_380 : BitVec 32 := 0#32
  let v765 : BitVec 32 := Scalar.subi v33 v596
  let v766 : BitVec 32 := Scalar.maxsi c0_i32_380 v765
  let v767 : BitVec 32 := Scalar.minsi c256_i32_381 v766
  let v771 : BitVec 32 := Scalar.subi v770 v767
  let c0_i32_384 : BitVec 32 := 0#32
  let v772 : BitVec 1 := Scalar.cmpi .sgt v771 c0_i32_384
  let v773 : BitVec 32 := Scalar.extui v772
  let c0_i32_385 : BitVec 32 := 0#32
  let v774 : BitVec 1 := Scalar.cmpi .ne v773 c0_i32_385
  v774

def k1_off116 (i : grid1.Coords) (v33 : BitVec 32) (v35 : BitVec 32) (k1_t1 : Fin k1_t1_loop.trips) (k1_t15 : Fin (k1_t15_loop i v33 v35 k1_t1).trips) (c0_i32_513 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1011 : BitVec 32 := Scalar.addi v1010 c0_i32_513
  let v1012 : Index := Scalar.indexCast v1011
  let c0_514 : Index := 0#32
  ![v1012.toNat, 0]
def k1_off117 (i : grid1.Coords) (v33 : BitVec 32) (v35 : BitVec 32) (k1_t1 : Fin k1_t1_loop.trips) (k1_t15 : Fin (k1_t15_loop i v33 v35 k1_t1).trips) (c0_i32_515 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1016 : BitVec 32 := Scalar.addi v1010 c0_i32_515
  let v1017 : Index := Scalar.indexCast v1016
  let c16_516 : Index := 16#32
  ![v1017.toNat, 16]
def k1_off118 (i : grid1.Coords) (v33 : BitVec 32) (v35 : BitVec 32) (k1_t1 : Fin k1_t1_loop.trips) (k1_t15 : Fin (k1_t15_loop i v33 v35 k1_t1).trips) (c0_i32_517 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1021 : BitVec 32 := Scalar.addi v1010 c0_i32_517
  let v1022 : Index := Scalar.indexCast v1021
  let c32_518 : Index := 32#32
  ![v1022.toNat, 32]
def k1_off119 (i : grid1.Coords) (v33 : BitVec 32) (v35 : BitVec 32) (k1_t1 : Fin k1_t1_loop.trips) (k1_t15 : Fin (k1_t15_loop i v33 v35 k1_t1).trips) (c0_i32_519 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1026 : BitVec 32 := Scalar.addi v1010 c0_i32_519
  let v1027 : Index := Scalar.indexCast v1026
  let c48_520 : Index := 48#32
  ![v1027.toNat, 48]
def k1_off120 (i : grid1.Coords) (v33 : BitVec 32) (v35 : BitVec 32) (k1_t1 : Fin k1_t1_loop.trips) (k1_t15 : Fin (k1_t15_loop i v33 v35 k1_t1).trips) (c0_i32_521 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1031 : BitVec 32 := Scalar.addi v1010 c0_i32_521
  let v1032 : Index := Scalar.indexCast v1031
  let c64_522 : Index := 64#32
  ![v1032.toNat, 64]
def k1_off121 (i : grid1.Coords) (v33 : BitVec 32) (v35 : BitVec 32) (k1_t1 : Fin k1_t1_loop.trips) (k1_t15 : Fin (k1_t15_loop i v33 v35 k1_t1).trips) (c0_i32_523 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1036 : BitVec 32 := Scalar.addi v1010 c0_i32_523
  let v1037 : Index := Scalar.indexCast v1036
  let c80_524 : Index := 80#32
  ![v1037.toNat, 80]
def k1_off122 (i : grid1.Coords) (v33 : BitVec 32) (v35 : BitVec 32) (k1_t1 : Fin k1_t1_loop.trips) (k1_t15 : Fin (k1_t15_loop i v33 v35 k1_t1).trips) (c0_i32_525 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1041 : BitVec 32 := Scalar.addi v1010 c0_i32_525
  let v1042 : Index := Scalar.indexCast v1041
  let c96_526 : Index := 96#32
  ![v1042.toNat, 96]
def k1_off123 (i : grid1.Coords) (v33 : BitVec 32) (v35 : BitVec 32) (k1_t1 : Fin k1_t1_loop.trips) (k1_t15 : Fin (k1_t15_loop i v33 v35 k1_t1).trips) (c0_i32_527 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c1_i32_475 : BitVec 32 := 1#32
  let arg11 : BitVec 32 := Scf.iv c0_i32_473 c1_i32_475 k1_t15
  let c4_i32_512 : BitVec 32 := 4#32
  let v1009 : BitVec 32 := Scalar.muli arg11 c4_i32_512
  let v1010 : BitVec 32 := Scalar.addi v767 v1009
  let v1046 : BitVec 32 := Scalar.addi v1010 c0_i32_527
  let v1047 : Index := Scalar.indexCast v1046
  let c112_528 : Index := 112#32
  ![v1047.toNat, 112]
@[reducible] def k1_t16_loop (i : grid1.Coords) (v33 : BitVec 32) (v35 : BitVec 32) (k1_t1 : Fin k1_t1_loop.trips) : Scf.Loop 32 :=
  let c0_i32_473 : BitVec 32 := 0#32
  let c256_i32_383 : BitVec 32 := 256#32
  let c0_i32_382 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v768 : BitVec 32 := Scalar.subi v35 v596
  let v769 : BitVec 32 := Scalar.maxsi c0_i32_382 v768
  let v770 : BitVec 32 := Scalar.minsi c256_i32_383 v769
  let c256_i32_381 : BitVec 32 := 256#32
  let c0_i32_380 : BitVec 32 := 0#32
  let v765 : BitVec 32 := Scalar.subi v33 v596
  let v766 : BitVec 32 := Scalar.maxsi c0_i32_380 v765
  let v767 : BitVec 32 := Scalar.minsi c256_i32_381 v766
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off124 (i : grid1.Coords) (v33 : BitVec 32) (v35 : BitVec 32) (k1_t1 : Fin k1_t1_loop.trips) (k1_t16 : Fin (k1_t16_loop i v33 v35 k1_t1).trips) (c0_i32_513 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1011 : BitVec 32 := Scalar.addi v1010 c0_i32_513
  let v1012 : Index := Scalar.indexCast v1011
  let c0_514 : Index := 0#32
  ![v1012.toNat, 0]
def k1_off125 (i : grid1.Coords) (v33 : BitVec 32) (v35 : BitVec 32) (k1_t1 : Fin k1_t1_loop.trips) (k1_t16 : Fin (k1_t16_loop i v33 v35 k1_t1).trips) (c0_i32_515 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1016 : BitVec 32 := Scalar.addi v1010 c0_i32_515
  let v1017 : Index := Scalar.indexCast v1016
  let c16_516 : Index := 16#32
  ![v1017.toNat, 16]
def k1_off126 (i : grid1.Coords) (v33 : BitVec 32) (v35 : BitVec 32) (k1_t1 : Fin k1_t1_loop.trips) (k1_t16 : Fin (k1_t16_loop i v33 v35 k1_t1).trips) (c0_i32_517 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1021 : BitVec 32 := Scalar.addi v1010 c0_i32_517
  let v1022 : Index := Scalar.indexCast v1021
  let c32_518 : Index := 32#32
  ![v1022.toNat, 32]
def k1_off127 (i : grid1.Coords) (v33 : BitVec 32) (v35 : BitVec 32) (k1_t1 : Fin k1_t1_loop.trips) (k1_t16 : Fin (k1_t16_loop i v33 v35 k1_t1).trips) (c0_i32_519 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1026 : BitVec 32 := Scalar.addi v1010 c0_i32_519
  let v1027 : Index := Scalar.indexCast v1026
  let c48_520 : Index := 48#32
  ![v1027.toNat, 48]
def k1_off128 (i : grid1.Coords) (v33 : BitVec 32) (v35 : BitVec 32) (k1_t1 : Fin k1_t1_loop.trips) (k1_t16 : Fin (k1_t16_loop i v33 v35 k1_t1).trips) (c0_i32_521 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1031 : BitVec 32 := Scalar.addi v1010 c0_i32_521
  let v1032 : Index := Scalar.indexCast v1031
  let c64_522 : Index := 64#32
  ![v1032.toNat, 64]
def k1_off129 (i : grid1.Coords) (v33 : BitVec 32) (v35 : BitVec 32) (k1_t1 : Fin k1_t1_loop.trips) (k1_t16 : Fin (k1_t16_loop i v33 v35 k1_t1).trips) (c0_i32_523 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1036 : BitVec 32 := Scalar.addi v1010 c0_i32_523
  let v1037 : Index := Scalar.indexCast v1036
  let c80_524 : Index := 80#32
  ![v1037.toNat, 80]
def k1_off130 (i : grid1.Coords) (v33 : BitVec 32) (v35 : BitVec 32) (k1_t1 : Fin k1_t1_loop.trips) (k1_t16 : Fin (k1_t16_loop i v33 v35 k1_t1).trips) (c0_i32_525 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1041 : BitVec 32 := Scalar.addi v1010 c0_i32_525
  let v1042 : Index := Scalar.indexCast v1041
  let c96_526 : Index := 96#32
  ![v1042.toNat, 96]
def k1_off131 (i : grid1.Coords) (v33 : BitVec 32) (v35 : BitVec 32) (k1_t1 : Fin k1_t1_loop.trips) (k1_t16 : Fin (k1_t16_loop i v33 v35 k1_t1).trips) (c0_i32_527 : BitVec 32) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c0_i32_473 : BitVec 32 := 0#32
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t16
  let c4_i32_512 : BitVec 32 := 4#32
  let v1009 : BitVec 32 := Scalar.muli arg11 c4_i32_512
  let v1010 : BitVec 32 := Scalar.addi v767 v1009
  let v1046 : BitVec 32 := Scalar.addi v1010 c0_i32_527
  let v1047 : Index := Scalar.indexCast v1046
  let c112_528 : Index := 112#32
  ![v1047.toNat, 112]
@[reducible] def k1_t17_loop (i : grid1.Coords) (v33 : BitVec 32) (v35 : BitVec 32) (k1_t1 : Fin k1_t1_loop.trips) : Scf.Loop 32 :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off132 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1009 : Index := Scalar.indexCast arg11
  let c0_512 : Index := 0#32
  ![v1009.toNat, 0]
def k1_off133 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1013 : Index := Scalar.indexCast arg11
  let c16_513 : Index := 16#32
  ![v1013.toNat, 16]
def k1_off134 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1017 : Index := Scalar.indexCast arg11
  let c32_514 : Index := 32#32
  ![v1017.toNat, 32]
def k1_off135 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1021 : Index := Scalar.indexCast arg11
  let c48_515 : Index := 48#32
  ![v1021.toNat, 48]
def k1_off136 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1025 : Index := Scalar.indexCast arg11
  let c64_516 : Index := 64#32
  ![v1025.toNat, 64]
def k1_off137 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1029 : Index := Scalar.indexCast arg11
  let c80_517 : Index := 80#32
  ![v1029.toNat, 80]
def k1_off138 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1033 : Index := Scalar.indexCast arg11
  let c96_518 : Index := 96#32
  ![v1033.toNat, 96]
def k1_off139 (i : grid1.Coords) (v33 : BitVec 32) (v35 : BitVec 32) (k1_t1 : Fin k1_t1_loop.trips) (k1_t17 : Fin (k1_t17_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let c1_i32_478 : BitVec 32 := 1#32
  let arg11 : BitVec 32 := Scf.iv v937 c1_i32_478 k1_t17
  let v1037 : Index := Scalar.indexCast arg11
  let c112_519 : Index := 112#32
  ![v1037.toNat, 112]
@[reducible] def k1_t18_loop (i : grid1.Coords) (v33 : BitVec 32) (v35 : BitVec 32) (k1_t1 : Fin k1_t1_loop.trips) : Scf.Loop 32 :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off140 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1009 : Index := Scalar.indexCast arg11
  let c0_512 : Index := 0#32
  ![v1009.toNat, 0]
def k1_off141 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1013 : Index := Scalar.indexCast arg11
  let c16_513 : Index := 16#32
  ![v1013.toNat, 16]
def k1_off142 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1017 : Index := Scalar.indexCast arg11
  let c32_514 : Index := 32#32
  ![v1017.toNat, 32]
def k1_off143 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1021 : Index := Scalar.indexCast arg11
  let c48_515 : Index := 48#32
  ![v1021.toNat, 48]
def k1_off144 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1025 : Index := Scalar.indexCast arg11
  let c64_516 : Index := 64#32
  ![v1025.toNat, 64]
def k1_off145 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1029 : Index := Scalar.indexCast arg11
  let c80_517 : Index := 80#32
  ![v1029.toNat, 80]
def k1_off146 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1033 : Index := Scalar.indexCast arg11
  let c96_518 : Index := 96#32
  ![v1033.toNat, 96]
def k1_off147 (i : grid1.Coords) (v33 : BitVec 32) (v35 : BitVec 32) (k1_t1 : Fin k1_t1_loop.trips) (k1_t18 : Fin (k1_t18_loop i v33 v35 k1_t1).trips) : Fin 2 → Nat :=
  let c256_i32_381 : BitVec 32 := 256#32
  let c0_i32_380 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v765 : BitVec 32 := Scalar.subi v33 v596
  let v766 : BitVec 32 := Scalar.maxsi c0_i32_380 v765
  let v767 : BitVec 32 := Scalar.minsi c256_i32_381 v766
  let c256_i32_383 : BitVec 32 := 256#32
  let c0_i32_382 : BitVec 32 := 0#32
  let v768 : BitVec 32 := Scalar.subi v35 v596
  let v769 : BitVec 32 := Scalar.maxsi c0_i32_382 v768
  let v770 : BitVec 32 := Scalar.minsi c256_i32_383 v769
  let v771 : BitVec 32 := Scalar.subi v770 v767
  let c0_i32_459 : BitVec 32 := 0#32
  let v896 : BitVec 1 := Scalar.cmpi .sgt v771 c0_i32_459
  let v897 : BitVec 32 := Scalar.extui v896
  let c0_i32_460 : BitVec 32 := 0#32
  let v898 : BitVec 1 := Scalar.cmpi .slt v771 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v771 c4_i32_458
  let c0_i32_463 : BitVec 32 := 0#32
  let v908 : BitVec 1 := Scalar.cmpi .ne v907 c0_i32_463
  let v909 : BitVec 1 := Scalar.andi v906 v908
  let v895 : BitVec 32 := Scalar.divsi v771 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v767 v912
  let v938 : BitVec 32 := Scalar.subi v770 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t18
  let v1037 : Index := Scalar.indexCast arg11
  let c112_519 : Index := 112#32
  ![v1037.toNat, 112]
@[reducible] def k1_t19_loop (i : grid1.Coords) (v35 : BitVec 32) (v37 : BitVec 32) (k1_t1 : Fin k1_t1_loop.trips) : Scf.Loop 32 :=
  let c0_i32_473 : BitVec 32 := 0#32
  let c256_i32_389 : BitVec 32 := 256#32
  let c0_i32_388 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v778 : BitVec 32 := Scalar.subi v37 v596
  let v779 : BitVec 32 := Scalar.maxsi c0_i32_388 v778
  let v780 : BitVec 32 := Scalar.minsi c256_i32_389 v779
  let c256_i32_387 : BitVec 32 := 256#32
  let c0_i32_386 : BitVec 32 := 0#32
  let v775 : BitVec 32 := Scalar.subi v35 v596
  let v776 : BitVec 32 := Scalar.maxsi c0_i32_386 v775
  let v777 : BitVec 32 := Scalar.minsi c256_i32_387 v776
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond8 (i : grid1.Coords) (v35 : BitVec 32) (v37 : BitVec 32) (k1_t1 : Fin k1_t1_loop.trips) : BitVec 1 :=
  let c256_i32_389 : BitVec 32 := 256#32
  let c0_i32_388 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v778 : BitVec 32 := Scalar.subi v37 v596
  let v779 : BitVec 32 := Scalar.maxsi c0_i32_388 v778
  let v780 : BitVec 32 := Scalar.minsi c256_i32_389 v779
  let c256_i32_387 : BitVec 32 := 256#32
  let c0_i32_386 : BitVec 32 := 0#32
  let v775 : BitVec 32 := Scalar.subi v35 v596
  let v776 : BitVec 32 := Scalar.maxsi c0_i32_386 v775
  let v777 : BitVec 32 := Scalar.minsi c256_i32_387 v776
  let v781 : BitVec 32 := Scalar.subi v780 v777
  let c0_i32_390 : BitVec 32 := 0#32
  let v782 : BitVec 1 := Scalar.cmpi .sgt v781 c0_i32_390
  let v783 : BitVec 32 := Scalar.extui v782
  let c0_i32_391 : BitVec 32 := 0#32
  let v784 : BitVec 1 := Scalar.cmpi .ne v783 c0_i32_391
  v784

def k1_off148 (i : grid1.Coords) (v35 : BitVec 32) (v37 : BitVec 32) (k1_t1 : Fin k1_t1_loop.trips) (k1_t19 : Fin (k1_t19_loop i v35 v37 k1_t1).trips) (c0_i32_513 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1011 : BitVec 32 := Scalar.addi v1010 c0_i32_513
  let v1012 : Index := Scalar.indexCast v1011
  let c0_514 : Index := 0#32
  ![v1012.toNat, 0]
def k1_off149 (i : grid1.Coords) (v35 : BitVec 32) (v37 : BitVec 32) (k1_t1 : Fin k1_t1_loop.trips) (k1_t19 : Fin (k1_t19_loop i v35 v37 k1_t1).trips) (c0_i32_515 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1016 : BitVec 32 := Scalar.addi v1010 c0_i32_515
  let v1017 : Index := Scalar.indexCast v1016
  let c16_516 : Index := 16#32
  ![v1017.toNat, 16]
def k1_off150 (i : grid1.Coords) (v35 : BitVec 32) (v37 : BitVec 32) (k1_t1 : Fin k1_t1_loop.trips) (k1_t19 : Fin (k1_t19_loop i v35 v37 k1_t1).trips) (c0_i32_517 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1021 : BitVec 32 := Scalar.addi v1010 c0_i32_517
  let v1022 : Index := Scalar.indexCast v1021
  let c32_518 : Index := 32#32
  ![v1022.toNat, 32]
def k1_off151 (i : grid1.Coords) (v35 : BitVec 32) (v37 : BitVec 32) (k1_t1 : Fin k1_t1_loop.trips) (k1_t19 : Fin (k1_t19_loop i v35 v37 k1_t1).trips) (c0_i32_519 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1026 : BitVec 32 := Scalar.addi v1010 c0_i32_519
  let v1027 : Index := Scalar.indexCast v1026
  let c48_520 : Index := 48#32
  ![v1027.toNat, 48]
def k1_off152 (i : grid1.Coords) (v35 : BitVec 32) (v37 : BitVec 32) (k1_t1 : Fin k1_t1_loop.trips) (k1_t19 : Fin (k1_t19_loop i v35 v37 k1_t1).trips) (c0_i32_521 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1031 : BitVec 32 := Scalar.addi v1010 c0_i32_521
  let v1032 : Index := Scalar.indexCast v1031
  let c64_522 : Index := 64#32
  ![v1032.toNat, 64]
def k1_off153 (i : grid1.Coords) (v35 : BitVec 32) (v37 : BitVec 32) (k1_t1 : Fin k1_t1_loop.trips) (k1_t19 : Fin (k1_t19_loop i v35 v37 k1_t1).trips) (c0_i32_523 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1036 : BitVec 32 := Scalar.addi v1010 c0_i32_523
  let v1037 : Index := Scalar.indexCast v1036
  let c80_524 : Index := 80#32
  ![v1037.toNat, 80]
def k1_off154 (i : grid1.Coords) (v35 : BitVec 32) (v37 : BitVec 32) (k1_t1 : Fin k1_t1_loop.trips) (k1_t19 : Fin (k1_t19_loop i v35 v37 k1_t1).trips) (c0_i32_525 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1041 : BitVec 32 := Scalar.addi v1010 c0_i32_525
  let v1042 : Index := Scalar.indexCast v1041
  let c96_526 : Index := 96#32
  ![v1042.toNat, 96]
def k1_off155 (i : grid1.Coords) (v35 : BitVec 32) (v37 : BitVec 32) (k1_t1 : Fin k1_t1_loop.trips) (k1_t19 : Fin (k1_t19_loop i v35 v37 k1_t1).trips) (c0_i32_527 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c1_i32_475 : BitVec 32 := 1#32
  let arg11 : BitVec 32 := Scf.iv c0_i32_473 c1_i32_475 k1_t19
  let c4_i32_512 : BitVec 32 := 4#32
  let v1009 : BitVec 32 := Scalar.muli arg11 c4_i32_512
  let v1010 : BitVec 32 := Scalar.addi v777 v1009
  let v1046 : BitVec 32 := Scalar.addi v1010 c0_i32_527
  let v1047 : Index := Scalar.indexCast v1046
  let c112_528 : Index := 112#32
  ![v1047.toNat, 112]
@[reducible] def k1_t20_loop (i : grid1.Coords) (v35 : BitVec 32) (v37 : BitVec 32) (k1_t1 : Fin k1_t1_loop.trips) : Scf.Loop 32 :=
  let c0_i32_473 : BitVec 32 := 0#32
  let c256_i32_389 : BitVec 32 := 256#32
  let c0_i32_388 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v778 : BitVec 32 := Scalar.subi v37 v596
  let v779 : BitVec 32 := Scalar.maxsi c0_i32_388 v778
  let v780 : BitVec 32 := Scalar.minsi c256_i32_389 v779
  let c256_i32_387 : BitVec 32 := 256#32
  let c0_i32_386 : BitVec 32 := 0#32
  let v775 : BitVec 32 := Scalar.subi v35 v596
  let v776 : BitVec 32 := Scalar.maxsi c0_i32_386 v775
  let v777 : BitVec 32 := Scalar.minsi c256_i32_387 v776
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off156 (i : grid1.Coords) (v35 : BitVec 32) (v37 : BitVec 32) (k1_t1 : Fin k1_t1_loop.trips) (k1_t20 : Fin (k1_t20_loop i v35 v37 k1_t1).trips) (c0_i32_513 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1011 : BitVec 32 := Scalar.addi v1010 c0_i32_513
  let v1012 : Index := Scalar.indexCast v1011
  let c0_514 : Index := 0#32
  ![v1012.toNat, 0]
def k1_off157 (i : grid1.Coords) (v35 : BitVec 32) (v37 : BitVec 32) (k1_t1 : Fin k1_t1_loop.trips) (k1_t20 : Fin (k1_t20_loop i v35 v37 k1_t1).trips) (c0_i32_515 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1016 : BitVec 32 := Scalar.addi v1010 c0_i32_515
  let v1017 : Index := Scalar.indexCast v1016
  let c16_516 : Index := 16#32
  ![v1017.toNat, 16]
def k1_off158 (i : grid1.Coords) (v35 : BitVec 32) (v37 : BitVec 32) (k1_t1 : Fin k1_t1_loop.trips) (k1_t20 : Fin (k1_t20_loop i v35 v37 k1_t1).trips) (c0_i32_517 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1021 : BitVec 32 := Scalar.addi v1010 c0_i32_517
  let v1022 : Index := Scalar.indexCast v1021
  let c32_518 : Index := 32#32
  ![v1022.toNat, 32]
def k1_off159 (i : grid1.Coords) (v35 : BitVec 32) (v37 : BitVec 32) (k1_t1 : Fin k1_t1_loop.trips) (k1_t20 : Fin (k1_t20_loop i v35 v37 k1_t1).trips) (c0_i32_519 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1026 : BitVec 32 := Scalar.addi v1010 c0_i32_519
  let v1027 : Index := Scalar.indexCast v1026
  let c48_520 : Index := 48#32
  ![v1027.toNat, 48]
def k1_off160 (i : grid1.Coords) (v35 : BitVec 32) (v37 : BitVec 32) (k1_t1 : Fin k1_t1_loop.trips) (k1_t20 : Fin (k1_t20_loop i v35 v37 k1_t1).trips) (c0_i32_521 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1031 : BitVec 32 := Scalar.addi v1010 c0_i32_521
  let v1032 : Index := Scalar.indexCast v1031
  let c64_522 : Index := 64#32
  ![v1032.toNat, 64]
def k1_off161 (i : grid1.Coords) (v35 : BitVec 32) (v37 : BitVec 32) (k1_t1 : Fin k1_t1_loop.trips) (k1_t20 : Fin (k1_t20_loop i v35 v37 k1_t1).trips) (c0_i32_523 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1036 : BitVec 32 := Scalar.addi v1010 c0_i32_523
  let v1037 : Index := Scalar.indexCast v1036
  let c80_524 : Index := 80#32
  ![v1037.toNat, 80]
def k1_off162 (i : grid1.Coords) (v35 : BitVec 32) (v37 : BitVec 32) (k1_t1 : Fin k1_t1_loop.trips) (k1_t20 : Fin (k1_t20_loop i v35 v37 k1_t1).trips) (c0_i32_525 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1041 : BitVec 32 := Scalar.addi v1010 c0_i32_525
  let v1042 : Index := Scalar.indexCast v1041
  let c96_526 : Index := 96#32
  ![v1042.toNat, 96]
def k1_off163 (i : grid1.Coords) (v35 : BitVec 32) (v37 : BitVec 32) (k1_t1 : Fin k1_t1_loop.trips) (k1_t20 : Fin (k1_t20_loop i v35 v37 k1_t1).trips) (c0_i32_527 : BitVec 32) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c0_i32_473 : BitVec 32 := 0#32
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t20
  let c4_i32_512 : BitVec 32 := 4#32
  let v1009 : BitVec 32 := Scalar.muli arg11 c4_i32_512
  let v1010 : BitVec 32 := Scalar.addi v777 v1009
  let v1046 : BitVec 32 := Scalar.addi v1010 c0_i32_527
  let v1047 : Index := Scalar.indexCast v1046
  let c112_528 : Index := 112#32
  ![v1047.toNat, 112]
@[reducible] def k1_t21_loop (i : grid1.Coords) (v35 : BitVec 32) (v37 : BitVec 32) (k1_t1 : Fin k1_t1_loop.trips) : Scf.Loop 32 :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off164 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1009 : Index := Scalar.indexCast arg11
  let c0_512 : Index := 0#32
  ![v1009.toNat, 0]
def k1_off165 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1013 : Index := Scalar.indexCast arg11
  let c16_513 : Index := 16#32
  ![v1013.toNat, 16]
def k1_off166 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1017 : Index := Scalar.indexCast arg11
  let c32_514 : Index := 32#32
  ![v1017.toNat, 32]
def k1_off167 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1021 : Index := Scalar.indexCast arg11
  let c48_515 : Index := 48#32
  ![v1021.toNat, 48]
def k1_off168 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1025 : Index := Scalar.indexCast arg11
  let c64_516 : Index := 64#32
  ![v1025.toNat, 64]
def k1_off169 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1029 : Index := Scalar.indexCast arg11
  let c80_517 : Index := 80#32
  ![v1029.toNat, 80]
def k1_off170 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1033 : Index := Scalar.indexCast arg11
  let c96_518 : Index := 96#32
  ![v1033.toNat, 96]
def k1_off171 (i : grid1.Coords) (v35 : BitVec 32) (v37 : BitVec 32) (k1_t1 : Fin k1_t1_loop.trips) (k1_t21 : Fin (k1_t21_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let c1_i32_478 : BitVec 32 := 1#32
  let arg11 : BitVec 32 := Scf.iv v937 c1_i32_478 k1_t21
  let v1037 : Index := Scalar.indexCast arg11
  let c112_519 : Index := 112#32
  ![v1037.toNat, 112]
@[reducible] def k1_t22_loop (i : grid1.Coords) (v35 : BitVec 32) (v37 : BitVec 32) (k1_t1 : Fin k1_t1_loop.trips) : Scf.Loop 32 :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off172 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1009 : Index := Scalar.indexCast arg11
  let c0_512 : Index := 0#32
  ![v1009.toNat, 0]
def k1_off173 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1013 : Index := Scalar.indexCast arg11
  let c16_513 : Index := 16#32
  ![v1013.toNat, 16]
def k1_off174 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1017 : Index := Scalar.indexCast arg11
  let c32_514 : Index := 32#32
  ![v1017.toNat, 32]
def k1_off175 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1021 : Index := Scalar.indexCast arg11
  let c48_515 : Index := 48#32
  ![v1021.toNat, 48]
def k1_off176 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1025 : Index := Scalar.indexCast arg11
  let c64_516 : Index := 64#32
  ![v1025.toNat, 64]
def k1_off177 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1029 : Index := Scalar.indexCast arg11
  let c80_517 : Index := 80#32
  ![v1029.toNat, 80]
def k1_off178 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1033 : Index := Scalar.indexCast arg11
  let c96_518 : Index := 96#32
  ![v1033.toNat, 96]
def k1_off179 (i : grid1.Coords) (v35 : BitVec 32) (v37 : BitVec 32) (k1_t1 : Fin k1_t1_loop.trips) (k1_t22 : Fin (k1_t22_loop i v35 v37 k1_t1).trips) : Fin 2 → Nat :=
  let c256_i32_387 : BitVec 32 := 256#32
  let c0_i32_386 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v775 : BitVec 32 := Scalar.subi v35 v596
  let v776 : BitVec 32 := Scalar.maxsi c0_i32_386 v775
  let v777 : BitVec 32 := Scalar.minsi c256_i32_387 v776
  let c256_i32_389 : BitVec 32 := 256#32
  let c0_i32_388 : BitVec 32 := 0#32
  let v778 : BitVec 32 := Scalar.subi v37 v596
  let v779 : BitVec 32 := Scalar.maxsi c0_i32_388 v778
  let v780 : BitVec 32 := Scalar.minsi c256_i32_389 v779
  let v781 : BitVec 32 := Scalar.subi v780 v777
  let c0_i32_459 : BitVec 32 := 0#32
  let v896 : BitVec 1 := Scalar.cmpi .sgt v781 c0_i32_459
  let v897 : BitVec 32 := Scalar.extui v896
  let c0_i32_460 : BitVec 32 := 0#32
  let v898 : BitVec 1 := Scalar.cmpi .slt v781 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v781 c4_i32_458
  let c0_i32_463 : BitVec 32 := 0#32
  let v908 : BitVec 1 := Scalar.cmpi .ne v907 c0_i32_463
  let v909 : BitVec 1 := Scalar.andi v906 v908
  let v895 : BitVec 32 := Scalar.divsi v781 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v777 v912
  let v938 : BitVec 32 := Scalar.subi v780 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t22
  let v1037 : Index := Scalar.indexCast arg11
  let c112_519 : Index := 112#32
  ![v1037.toNat, 112]
@[reducible] def k1_t23_loop (i : grid1.Coords) (v37 : BitVec 32) (v39 : BitVec 32) (k1_t1 : Fin k1_t1_loop.trips) : Scf.Loop 32 :=
  let c0_i32_473 : BitVec 32 := 0#32
  let c256_i32_395 : BitVec 32 := 256#32
  let c0_i32_394 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v788 : BitVec 32 := Scalar.subi v39 v596
  let v789 : BitVec 32 := Scalar.maxsi c0_i32_394 v788
  let v790 : BitVec 32 := Scalar.minsi c256_i32_395 v789
  let c256_i32_393 : BitVec 32 := 256#32
  let c0_i32_392 : BitVec 32 := 0#32
  let v785 : BitVec 32 := Scalar.subi v37 v596
  let v786 : BitVec 32 := Scalar.maxsi c0_i32_392 v785
  let v787 : BitVec 32 := Scalar.minsi c256_i32_393 v786
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond9 (i : grid1.Coords) (v37 : BitVec 32) (v39 : BitVec 32) (k1_t1 : Fin k1_t1_loop.trips) : BitVec 1 :=
  let c256_i32_395 : BitVec 32 := 256#32
  let c0_i32_394 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v788 : BitVec 32 := Scalar.subi v39 v596
  let v789 : BitVec 32 := Scalar.maxsi c0_i32_394 v788
  let v790 : BitVec 32 := Scalar.minsi c256_i32_395 v789
  let c256_i32_393 : BitVec 32 := 256#32
  let c0_i32_392 : BitVec 32 := 0#32
  let v785 : BitVec 32 := Scalar.subi v37 v596
  let v786 : BitVec 32 := Scalar.maxsi c0_i32_392 v785
  let v787 : BitVec 32 := Scalar.minsi c256_i32_393 v786
  let v791 : BitVec 32 := Scalar.subi v790 v787
  let c0_i32_396 : BitVec 32 := 0#32
  let v792 : BitVec 1 := Scalar.cmpi .sgt v791 c0_i32_396
  let v793 : BitVec 32 := Scalar.extui v792
  let c0_i32_397 : BitVec 32 := 0#32
  let v794 : BitVec 1 := Scalar.cmpi .ne v793 c0_i32_397
  v794

def k1_off180 (i : grid1.Coords) (v37 : BitVec 32) (v39 : BitVec 32) (k1_t1 : Fin k1_t1_loop.trips) (k1_t23 : Fin (k1_t23_loop i v37 v39 k1_t1).trips) (c0_i32_513 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1011 : BitVec 32 := Scalar.addi v1010 c0_i32_513
  let v1012 : Index := Scalar.indexCast v1011
  let c0_514 : Index := 0#32
  ![v1012.toNat, 0]
def k1_off181 (i : grid1.Coords) (v37 : BitVec 32) (v39 : BitVec 32) (k1_t1 : Fin k1_t1_loop.trips) (k1_t23 : Fin (k1_t23_loop i v37 v39 k1_t1).trips) (c0_i32_515 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1016 : BitVec 32 := Scalar.addi v1010 c0_i32_515
  let v1017 : Index := Scalar.indexCast v1016
  let c16_516 : Index := 16#32
  ![v1017.toNat, 16]
def k1_off182 (i : grid1.Coords) (v37 : BitVec 32) (v39 : BitVec 32) (k1_t1 : Fin k1_t1_loop.trips) (k1_t23 : Fin (k1_t23_loop i v37 v39 k1_t1).trips) (c0_i32_517 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1021 : BitVec 32 := Scalar.addi v1010 c0_i32_517
  let v1022 : Index := Scalar.indexCast v1021
  let c32_518 : Index := 32#32
  ![v1022.toNat, 32]
def k1_off183 (i : grid1.Coords) (v37 : BitVec 32) (v39 : BitVec 32) (k1_t1 : Fin k1_t1_loop.trips) (k1_t23 : Fin (k1_t23_loop i v37 v39 k1_t1).trips) (c0_i32_519 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1026 : BitVec 32 := Scalar.addi v1010 c0_i32_519
  let v1027 : Index := Scalar.indexCast v1026
  let c48_520 : Index := 48#32
  ![v1027.toNat, 48]
def k1_off184 (i : grid1.Coords) (v37 : BitVec 32) (v39 : BitVec 32) (k1_t1 : Fin k1_t1_loop.trips) (k1_t23 : Fin (k1_t23_loop i v37 v39 k1_t1).trips) (c0_i32_521 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1031 : BitVec 32 := Scalar.addi v1010 c0_i32_521
  let v1032 : Index := Scalar.indexCast v1031
  let c64_522 : Index := 64#32
  ![v1032.toNat, 64]
def k1_off185 (i : grid1.Coords) (v37 : BitVec 32) (v39 : BitVec 32) (k1_t1 : Fin k1_t1_loop.trips) (k1_t23 : Fin (k1_t23_loop i v37 v39 k1_t1).trips) (c0_i32_523 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1036 : BitVec 32 := Scalar.addi v1010 c0_i32_523
  let v1037 : Index := Scalar.indexCast v1036
  let c80_524 : Index := 80#32
  ![v1037.toNat, 80]
def k1_off186 (i : grid1.Coords) (v37 : BitVec 32) (v39 : BitVec 32) (k1_t1 : Fin k1_t1_loop.trips) (k1_t23 : Fin (k1_t23_loop i v37 v39 k1_t1).trips) (c0_i32_525 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1041 : BitVec 32 := Scalar.addi v1010 c0_i32_525
  let v1042 : Index := Scalar.indexCast v1041
  let c96_526 : Index := 96#32
  ![v1042.toNat, 96]
def k1_off187 (i : grid1.Coords) (v37 : BitVec 32) (v39 : BitVec 32) (k1_t1 : Fin k1_t1_loop.trips) (k1_t23 : Fin (k1_t23_loop i v37 v39 k1_t1).trips) (c0_i32_527 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c1_i32_475 : BitVec 32 := 1#32
  let arg11 : BitVec 32 := Scf.iv c0_i32_473 c1_i32_475 k1_t23
  let c4_i32_512 : BitVec 32 := 4#32
  let v1009 : BitVec 32 := Scalar.muli arg11 c4_i32_512
  let v1010 : BitVec 32 := Scalar.addi v787 v1009
  let v1046 : BitVec 32 := Scalar.addi v1010 c0_i32_527
  let v1047 : Index := Scalar.indexCast v1046
  let c112_528 : Index := 112#32
  ![v1047.toNat, 112]
@[reducible] def k1_t24_loop (i : grid1.Coords) (v37 : BitVec 32) (v39 : BitVec 32) (k1_t1 : Fin k1_t1_loop.trips) : Scf.Loop 32 :=
  let c0_i32_473 : BitVec 32 := 0#32
  let c256_i32_395 : BitVec 32 := 256#32
  let c0_i32_394 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v788 : BitVec 32 := Scalar.subi v39 v596
  let v789 : BitVec 32 := Scalar.maxsi c0_i32_394 v788
  let v790 : BitVec 32 := Scalar.minsi c256_i32_395 v789
  let c256_i32_393 : BitVec 32 := 256#32
  let c0_i32_392 : BitVec 32 := 0#32
  let v785 : BitVec 32 := Scalar.subi v37 v596
  let v786 : BitVec 32 := Scalar.maxsi c0_i32_392 v785
  let v787 : BitVec 32 := Scalar.minsi c256_i32_393 v786
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off188 (i : grid1.Coords) (v37 : BitVec 32) (v39 : BitVec 32) (k1_t1 : Fin k1_t1_loop.trips) (k1_t24 : Fin (k1_t24_loop i v37 v39 k1_t1).trips) (c0_i32_513 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1011 : BitVec 32 := Scalar.addi v1010 c0_i32_513
  let v1012 : Index := Scalar.indexCast v1011
  let c0_514 : Index := 0#32
  ![v1012.toNat, 0]
def k1_off189 (i : grid1.Coords) (v37 : BitVec 32) (v39 : BitVec 32) (k1_t1 : Fin k1_t1_loop.trips) (k1_t24 : Fin (k1_t24_loop i v37 v39 k1_t1).trips) (c0_i32_515 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1016 : BitVec 32 := Scalar.addi v1010 c0_i32_515
  let v1017 : Index := Scalar.indexCast v1016
  let c16_516 : Index := 16#32
  ![v1017.toNat, 16]
def k1_off190 (i : grid1.Coords) (v37 : BitVec 32) (v39 : BitVec 32) (k1_t1 : Fin k1_t1_loop.trips) (k1_t24 : Fin (k1_t24_loop i v37 v39 k1_t1).trips) (c0_i32_517 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1021 : BitVec 32 := Scalar.addi v1010 c0_i32_517
  let v1022 : Index := Scalar.indexCast v1021
  let c32_518 : Index := 32#32
  ![v1022.toNat, 32]
def k1_off191 (i : grid1.Coords) (v37 : BitVec 32) (v39 : BitVec 32) (k1_t1 : Fin k1_t1_loop.trips) (k1_t24 : Fin (k1_t24_loop i v37 v39 k1_t1).trips) (c0_i32_519 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1026 : BitVec 32 := Scalar.addi v1010 c0_i32_519
  let v1027 : Index := Scalar.indexCast v1026
  let c48_520 : Index := 48#32
  ![v1027.toNat, 48]
def k1_off192 (i : grid1.Coords) (v37 : BitVec 32) (v39 : BitVec 32) (k1_t1 : Fin k1_t1_loop.trips) (k1_t24 : Fin (k1_t24_loop i v37 v39 k1_t1).trips) (c0_i32_521 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1031 : BitVec 32 := Scalar.addi v1010 c0_i32_521
  let v1032 : Index := Scalar.indexCast v1031
  let c64_522 : Index := 64#32
  ![v1032.toNat, 64]
def k1_off193 (i : grid1.Coords) (v37 : BitVec 32) (v39 : BitVec 32) (k1_t1 : Fin k1_t1_loop.trips) (k1_t24 : Fin (k1_t24_loop i v37 v39 k1_t1).trips) (c0_i32_523 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1036 : BitVec 32 := Scalar.addi v1010 c0_i32_523
  let v1037 : Index := Scalar.indexCast v1036
  let c80_524 : Index := 80#32
  ![v1037.toNat, 80]
def k1_off194 (i : grid1.Coords) (v37 : BitVec 32) (v39 : BitVec 32) (k1_t1 : Fin k1_t1_loop.trips) (k1_t24 : Fin (k1_t24_loop i v37 v39 k1_t1).trips) (c0_i32_525 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1041 : BitVec 32 := Scalar.addi v1010 c0_i32_525
  let v1042 : Index := Scalar.indexCast v1041
  let c96_526 : Index := 96#32
  ![v1042.toNat, 96]
def k1_off195 (i : grid1.Coords) (v37 : BitVec 32) (v39 : BitVec 32) (k1_t1 : Fin k1_t1_loop.trips) (k1_t24 : Fin (k1_t24_loop i v37 v39 k1_t1).trips) (c0_i32_527 : BitVec 32) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c0_i32_473 : BitVec 32 := 0#32
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t24
  let c4_i32_512 : BitVec 32 := 4#32
  let v1009 : BitVec 32 := Scalar.muli arg11 c4_i32_512
  let v1010 : BitVec 32 := Scalar.addi v787 v1009
  let v1046 : BitVec 32 := Scalar.addi v1010 c0_i32_527
  let v1047 : Index := Scalar.indexCast v1046
  let c112_528 : Index := 112#32
  ![v1047.toNat, 112]
@[reducible] def k1_t25_loop (i : grid1.Coords) (v37 : BitVec 32) (v39 : BitVec 32) (k1_t1 : Fin k1_t1_loop.trips) : Scf.Loop 32 :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off196 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1009 : Index := Scalar.indexCast arg11
  let c0_512 : Index := 0#32
  ![v1009.toNat, 0]
def k1_off197 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1013 : Index := Scalar.indexCast arg11
  let c16_513 : Index := 16#32
  ![v1013.toNat, 16]
def k1_off198 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1017 : Index := Scalar.indexCast arg11
  let c32_514 : Index := 32#32
  ![v1017.toNat, 32]
def k1_off199 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1021 : Index := Scalar.indexCast arg11
  let c48_515 : Index := 48#32
  ![v1021.toNat, 48]
def k1_off200 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1025 : Index := Scalar.indexCast arg11
  let c64_516 : Index := 64#32
  ![v1025.toNat, 64]
def k1_off201 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1029 : Index := Scalar.indexCast arg11
  let c80_517 : Index := 80#32
  ![v1029.toNat, 80]
def k1_off202 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1033 : Index := Scalar.indexCast arg11
  let c96_518 : Index := 96#32
  ![v1033.toNat, 96]
def k1_off203 (i : grid1.Coords) (v37 : BitVec 32) (v39 : BitVec 32) (k1_t1 : Fin k1_t1_loop.trips) (k1_t25 : Fin (k1_t25_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let c1_i32_478 : BitVec 32 := 1#32
  let arg11 : BitVec 32 := Scf.iv v937 c1_i32_478 k1_t25
  let v1037 : Index := Scalar.indexCast arg11
  let c112_519 : Index := 112#32
  ![v1037.toNat, 112]
@[reducible] def k1_t26_loop (i : grid1.Coords) (v37 : BitVec 32) (v39 : BitVec 32) (k1_t1 : Fin k1_t1_loop.trips) : Scf.Loop 32 :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off204 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1009 : Index := Scalar.indexCast arg11
  let c0_512 : Index := 0#32
  ![v1009.toNat, 0]
def k1_off205 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1013 : Index := Scalar.indexCast arg11
  let c16_513 : Index := 16#32
  ![v1013.toNat, 16]
def k1_off206 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1017 : Index := Scalar.indexCast arg11
  let c32_514 : Index := 32#32
  ![v1017.toNat, 32]
def k1_off207 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1021 : Index := Scalar.indexCast arg11
  let c48_515 : Index := 48#32
  ![v1021.toNat, 48]
def k1_off208 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1025 : Index := Scalar.indexCast arg11
  let c64_516 : Index := 64#32
  ![v1025.toNat, 64]
def k1_off209 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1029 : Index := Scalar.indexCast arg11
  let c80_517 : Index := 80#32
  ![v1029.toNat, 80]
def k1_off210 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1033 : Index := Scalar.indexCast arg11
  let c96_518 : Index := 96#32
  ![v1033.toNat, 96]
def k1_off211 (i : grid1.Coords) (v37 : BitVec 32) (v39 : BitVec 32) (k1_t1 : Fin k1_t1_loop.trips) (k1_t26 : Fin (k1_t26_loop i v37 v39 k1_t1).trips) : Fin 2 → Nat :=
  let c256_i32_393 : BitVec 32 := 256#32
  let c0_i32_392 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v785 : BitVec 32 := Scalar.subi v37 v596
  let v786 : BitVec 32 := Scalar.maxsi c0_i32_392 v785
  let v787 : BitVec 32 := Scalar.minsi c256_i32_393 v786
  let c256_i32_395 : BitVec 32 := 256#32
  let c0_i32_394 : BitVec 32 := 0#32
  let v788 : BitVec 32 := Scalar.subi v39 v596
  let v789 : BitVec 32 := Scalar.maxsi c0_i32_394 v788
  let v790 : BitVec 32 := Scalar.minsi c256_i32_395 v789
  let v791 : BitVec 32 := Scalar.subi v790 v787
  let c0_i32_459 : BitVec 32 := 0#32
  let v896 : BitVec 1 := Scalar.cmpi .sgt v791 c0_i32_459
  let v897 : BitVec 32 := Scalar.extui v896
  let c0_i32_460 : BitVec 32 := 0#32
  let v898 : BitVec 1 := Scalar.cmpi .slt v791 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v791 c4_i32_458
  let c0_i32_463 : BitVec 32 := 0#32
  let v908 : BitVec 1 := Scalar.cmpi .ne v907 c0_i32_463
  let v909 : BitVec 1 := Scalar.andi v906 v908
  let v895 : BitVec 32 := Scalar.divsi v791 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v787 v912
  let v938 : BitVec 32 := Scalar.subi v790 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t26
  let v1037 : Index := Scalar.indexCast arg11
  let c112_519 : Index := 112#32
  ![v1037.toNat, 112]
@[reducible] def k1_t27_loop (i : grid1.Coords) (v39 : BitVec 32) (v41 : BitVec 32) (k1_t1 : Fin k1_t1_loop.trips) : Scf.Loop 32 :=
  let c0_i32_473 : BitVec 32 := 0#32
  let c256_i32_401 : BitVec 32 := 256#32
  let c0_i32_400 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v798 : BitVec 32 := Scalar.subi v41 v596
  let v799 : BitVec 32 := Scalar.maxsi c0_i32_400 v798
  let v800 : BitVec 32 := Scalar.minsi c256_i32_401 v799
  let c256_i32_399 : BitVec 32 := 256#32
  let c0_i32_398 : BitVec 32 := 0#32
  let v795 : BitVec 32 := Scalar.subi v39 v596
  let v796 : BitVec 32 := Scalar.maxsi c0_i32_398 v795
  let v797 : BitVec 32 := Scalar.minsi c256_i32_399 v796
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond10 (i : grid1.Coords) (v39 : BitVec 32) (v41 : BitVec 32) (k1_t1 : Fin k1_t1_loop.trips) : BitVec 1 :=
  let c256_i32_401 : BitVec 32 := 256#32
  let c0_i32_400 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v798 : BitVec 32 := Scalar.subi v41 v596
  let v799 : BitVec 32 := Scalar.maxsi c0_i32_400 v798
  let v800 : BitVec 32 := Scalar.minsi c256_i32_401 v799
  let c256_i32_399 : BitVec 32 := 256#32
  let c0_i32_398 : BitVec 32 := 0#32
  let v795 : BitVec 32 := Scalar.subi v39 v596
  let v796 : BitVec 32 := Scalar.maxsi c0_i32_398 v795
  let v797 : BitVec 32 := Scalar.minsi c256_i32_399 v796
  let v801 : BitVec 32 := Scalar.subi v800 v797
  let c0_i32_402 : BitVec 32 := 0#32
  let v802 : BitVec 1 := Scalar.cmpi .sgt v801 c0_i32_402
  let v803 : BitVec 32 := Scalar.extui v802
  let c0_i32_403 : BitVec 32 := 0#32
  let v804 : BitVec 1 := Scalar.cmpi .ne v803 c0_i32_403
  v804

def k1_off212 (i : grid1.Coords) (v39 : BitVec 32) (v41 : BitVec 32) (k1_t1 : Fin k1_t1_loop.trips) (k1_t27 : Fin (k1_t27_loop i v39 v41 k1_t1).trips) (c0_i32_513 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1011 : BitVec 32 := Scalar.addi v1010 c0_i32_513
  let v1012 : Index := Scalar.indexCast v1011
  let c0_514 : Index := 0#32
  ![v1012.toNat, 0]
def k1_off213 (i : grid1.Coords) (v39 : BitVec 32) (v41 : BitVec 32) (k1_t1 : Fin k1_t1_loop.trips) (k1_t27 : Fin (k1_t27_loop i v39 v41 k1_t1).trips) (c0_i32_515 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1016 : BitVec 32 := Scalar.addi v1010 c0_i32_515
  let v1017 : Index := Scalar.indexCast v1016
  let c16_516 : Index := 16#32
  ![v1017.toNat, 16]
def k1_off214 (i : grid1.Coords) (v39 : BitVec 32) (v41 : BitVec 32) (k1_t1 : Fin k1_t1_loop.trips) (k1_t27 : Fin (k1_t27_loop i v39 v41 k1_t1).trips) (c0_i32_517 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1021 : BitVec 32 := Scalar.addi v1010 c0_i32_517
  let v1022 : Index := Scalar.indexCast v1021
  let c32_518 : Index := 32#32
  ![v1022.toNat, 32]
def k1_off215 (i : grid1.Coords) (v39 : BitVec 32) (v41 : BitVec 32) (k1_t1 : Fin k1_t1_loop.trips) (k1_t27 : Fin (k1_t27_loop i v39 v41 k1_t1).trips) (c0_i32_519 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1026 : BitVec 32 := Scalar.addi v1010 c0_i32_519
  let v1027 : Index := Scalar.indexCast v1026
  let c48_520 : Index := 48#32
  ![v1027.toNat, 48]
def k1_off216 (i : grid1.Coords) (v39 : BitVec 32) (v41 : BitVec 32) (k1_t1 : Fin k1_t1_loop.trips) (k1_t27 : Fin (k1_t27_loop i v39 v41 k1_t1).trips) (c0_i32_521 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1031 : BitVec 32 := Scalar.addi v1010 c0_i32_521
  let v1032 : Index := Scalar.indexCast v1031
  let c64_522 : Index := 64#32
  ![v1032.toNat, 64]
def k1_off217 (i : grid1.Coords) (v39 : BitVec 32) (v41 : BitVec 32) (k1_t1 : Fin k1_t1_loop.trips) (k1_t27 : Fin (k1_t27_loop i v39 v41 k1_t1).trips) (c0_i32_523 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1036 : BitVec 32 := Scalar.addi v1010 c0_i32_523
  let v1037 : Index := Scalar.indexCast v1036
  let c80_524 : Index := 80#32
  ![v1037.toNat, 80]
def k1_off218 (i : grid1.Coords) (v39 : BitVec 32) (v41 : BitVec 32) (k1_t1 : Fin k1_t1_loop.trips) (k1_t27 : Fin (k1_t27_loop i v39 v41 k1_t1).trips) (c0_i32_525 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1041 : BitVec 32 := Scalar.addi v1010 c0_i32_525
  let v1042 : Index := Scalar.indexCast v1041
  let c96_526 : Index := 96#32
  ![v1042.toNat, 96]
def k1_off219 (i : grid1.Coords) (v39 : BitVec 32) (v41 : BitVec 32) (k1_t1 : Fin k1_t1_loop.trips) (k1_t27 : Fin (k1_t27_loop i v39 v41 k1_t1).trips) (c0_i32_527 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c1_i32_475 : BitVec 32 := 1#32
  let arg11 : BitVec 32 := Scf.iv c0_i32_473 c1_i32_475 k1_t27
  let c4_i32_512 : BitVec 32 := 4#32
  let v1009 : BitVec 32 := Scalar.muli arg11 c4_i32_512
  let v1010 : BitVec 32 := Scalar.addi v797 v1009
  let v1046 : BitVec 32 := Scalar.addi v1010 c0_i32_527
  let v1047 : Index := Scalar.indexCast v1046
  let c112_528 : Index := 112#32
  ![v1047.toNat, 112]
@[reducible] def k1_t28_loop (i : grid1.Coords) (v39 : BitVec 32) (v41 : BitVec 32) (k1_t1 : Fin k1_t1_loop.trips) : Scf.Loop 32 :=
  let c0_i32_473 : BitVec 32 := 0#32
  let c256_i32_401 : BitVec 32 := 256#32
  let c0_i32_400 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v798 : BitVec 32 := Scalar.subi v41 v596
  let v799 : BitVec 32 := Scalar.maxsi c0_i32_400 v798
  let v800 : BitVec 32 := Scalar.minsi c256_i32_401 v799
  let c256_i32_399 : BitVec 32 := 256#32
  let c0_i32_398 : BitVec 32 := 0#32
  let v795 : BitVec 32 := Scalar.subi v39 v596
  let v796 : BitVec 32 := Scalar.maxsi c0_i32_398 v795
  let v797 : BitVec 32 := Scalar.minsi c256_i32_399 v796
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off220 (i : grid1.Coords) (v39 : BitVec 32) (v41 : BitVec 32) (k1_t1 : Fin k1_t1_loop.trips) (k1_t28 : Fin (k1_t28_loop i v39 v41 k1_t1).trips) (c0_i32_513 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1011 : BitVec 32 := Scalar.addi v1010 c0_i32_513
  let v1012 : Index := Scalar.indexCast v1011
  let c0_514 : Index := 0#32
  ![v1012.toNat, 0]
def k1_off221 (i : grid1.Coords) (v39 : BitVec 32) (v41 : BitVec 32) (k1_t1 : Fin k1_t1_loop.trips) (k1_t28 : Fin (k1_t28_loop i v39 v41 k1_t1).trips) (c0_i32_515 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1016 : BitVec 32 := Scalar.addi v1010 c0_i32_515
  let v1017 : Index := Scalar.indexCast v1016
  let c16_516 : Index := 16#32
  ![v1017.toNat, 16]
def k1_off222 (i : grid1.Coords) (v39 : BitVec 32) (v41 : BitVec 32) (k1_t1 : Fin k1_t1_loop.trips) (k1_t28 : Fin (k1_t28_loop i v39 v41 k1_t1).trips) (c0_i32_517 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1021 : BitVec 32 := Scalar.addi v1010 c0_i32_517
  let v1022 : Index := Scalar.indexCast v1021
  let c32_518 : Index := 32#32
  ![v1022.toNat, 32]
def k1_off223 (i : grid1.Coords) (v39 : BitVec 32) (v41 : BitVec 32) (k1_t1 : Fin k1_t1_loop.trips) (k1_t28 : Fin (k1_t28_loop i v39 v41 k1_t1).trips) (c0_i32_519 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1026 : BitVec 32 := Scalar.addi v1010 c0_i32_519
  let v1027 : Index := Scalar.indexCast v1026
  let c48_520 : Index := 48#32
  ![v1027.toNat, 48]
def k1_off224 (i : grid1.Coords) (v39 : BitVec 32) (v41 : BitVec 32) (k1_t1 : Fin k1_t1_loop.trips) (k1_t28 : Fin (k1_t28_loop i v39 v41 k1_t1).trips) (c0_i32_521 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1031 : BitVec 32 := Scalar.addi v1010 c0_i32_521
  let v1032 : Index := Scalar.indexCast v1031
  let c64_522 : Index := 64#32
  ![v1032.toNat, 64]
def k1_off225 (i : grid1.Coords) (v39 : BitVec 32) (v41 : BitVec 32) (k1_t1 : Fin k1_t1_loop.trips) (k1_t28 : Fin (k1_t28_loop i v39 v41 k1_t1).trips) (c0_i32_523 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1036 : BitVec 32 := Scalar.addi v1010 c0_i32_523
  let v1037 : Index := Scalar.indexCast v1036
  let c80_524 : Index := 80#32
  ![v1037.toNat, 80]
def k1_off226 (i : grid1.Coords) (v39 : BitVec 32) (v41 : BitVec 32) (k1_t1 : Fin k1_t1_loop.trips) (k1_t28 : Fin (k1_t28_loop i v39 v41 k1_t1).trips) (c0_i32_525 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1041 : BitVec 32 := Scalar.addi v1010 c0_i32_525
  let v1042 : Index := Scalar.indexCast v1041
  let c96_526 : Index := 96#32
  ![v1042.toNat, 96]
def k1_off227 (i : grid1.Coords) (v39 : BitVec 32) (v41 : BitVec 32) (k1_t1 : Fin k1_t1_loop.trips) (k1_t28 : Fin (k1_t28_loop i v39 v41 k1_t1).trips) (c0_i32_527 : BitVec 32) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c0_i32_473 : BitVec 32 := 0#32
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t28
  let c4_i32_512 : BitVec 32 := 4#32
  let v1009 : BitVec 32 := Scalar.muli arg11 c4_i32_512
  let v1010 : BitVec 32 := Scalar.addi v797 v1009
  let v1046 : BitVec 32 := Scalar.addi v1010 c0_i32_527
  let v1047 : Index := Scalar.indexCast v1046
  let c112_528 : Index := 112#32
  ![v1047.toNat, 112]
@[reducible] def k1_t29_loop (i : grid1.Coords) (v39 : BitVec 32) (v41 : BitVec 32) (k1_t1 : Fin k1_t1_loop.trips) : Scf.Loop 32 :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off228 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1009 : Index := Scalar.indexCast arg11
  let c0_512 : Index := 0#32
  ![v1009.toNat, 0]
def k1_off229 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1013 : Index := Scalar.indexCast arg11
  let c16_513 : Index := 16#32
  ![v1013.toNat, 16]
def k1_off230 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1017 : Index := Scalar.indexCast arg11
  let c32_514 : Index := 32#32
  ![v1017.toNat, 32]
def k1_off231 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1021 : Index := Scalar.indexCast arg11
  let c48_515 : Index := 48#32
  ![v1021.toNat, 48]
def k1_off232 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1025 : Index := Scalar.indexCast arg11
  let c64_516 : Index := 64#32
  ![v1025.toNat, 64]
def k1_off233 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1029 : Index := Scalar.indexCast arg11
  let c80_517 : Index := 80#32
  ![v1029.toNat, 80]
def k1_off234 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1033 : Index := Scalar.indexCast arg11
  let c96_518 : Index := 96#32
  ![v1033.toNat, 96]
def k1_off235 (i : grid1.Coords) (v39 : BitVec 32) (v41 : BitVec 32) (k1_t1 : Fin k1_t1_loop.trips) (k1_t29 : Fin (k1_t29_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let c1_i32_478 : BitVec 32 := 1#32
  let arg11 : BitVec 32 := Scf.iv v937 c1_i32_478 k1_t29
  let v1037 : Index := Scalar.indexCast arg11
  let c112_519 : Index := 112#32
  ![v1037.toNat, 112]
@[reducible] def k1_t30_loop (i : grid1.Coords) (v39 : BitVec 32) (v41 : BitVec 32) (k1_t1 : Fin k1_t1_loop.trips) : Scf.Loop 32 :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off236 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1009 : Index := Scalar.indexCast arg11
  let c0_512 : Index := 0#32
  ![v1009.toNat, 0]
def k1_off237 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1013 : Index := Scalar.indexCast arg11
  let c16_513 : Index := 16#32
  ![v1013.toNat, 16]
def k1_off238 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1017 : Index := Scalar.indexCast arg11
  let c32_514 : Index := 32#32
  ![v1017.toNat, 32]
def k1_off239 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1021 : Index := Scalar.indexCast arg11
  let c48_515 : Index := 48#32
  ![v1021.toNat, 48]
def k1_off240 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1025 : Index := Scalar.indexCast arg11
  let c64_516 : Index := 64#32
  ![v1025.toNat, 64]
def k1_off241 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1029 : Index := Scalar.indexCast arg11
  let c80_517 : Index := 80#32
  ![v1029.toNat, 80]
def k1_off242 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1033 : Index := Scalar.indexCast arg11
  let c96_518 : Index := 96#32
  ![v1033.toNat, 96]
def k1_off243 (i : grid1.Coords) (v39 : BitVec 32) (v41 : BitVec 32) (k1_t1 : Fin k1_t1_loop.trips) (k1_t30 : Fin (k1_t30_loop i v39 v41 k1_t1).trips) : Fin 2 → Nat :=
  let c256_i32_399 : BitVec 32 := 256#32
  let c0_i32_398 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v795 : BitVec 32 := Scalar.subi v39 v596
  let v796 : BitVec 32 := Scalar.maxsi c0_i32_398 v795
  let v797 : BitVec 32 := Scalar.minsi c256_i32_399 v796
  let c256_i32_401 : BitVec 32 := 256#32
  let c0_i32_400 : BitVec 32 := 0#32
  let v798 : BitVec 32 := Scalar.subi v41 v596
  let v799 : BitVec 32 := Scalar.maxsi c0_i32_400 v798
  let v800 : BitVec 32 := Scalar.minsi c256_i32_401 v799
  let v801 : BitVec 32 := Scalar.subi v800 v797
  let c0_i32_459 : BitVec 32 := 0#32
  let v896 : BitVec 1 := Scalar.cmpi .sgt v801 c0_i32_459
  let v897 : BitVec 32 := Scalar.extui v896
  let c0_i32_460 : BitVec 32 := 0#32
  let v898 : BitVec 1 := Scalar.cmpi .slt v801 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v801 c4_i32_458
  let c0_i32_463 : BitVec 32 := 0#32
  let v908 : BitVec 1 := Scalar.cmpi .ne v907 c0_i32_463
  let v909 : BitVec 1 := Scalar.andi v906 v908
  let v895 : BitVec 32 := Scalar.divsi v801 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v797 v912
  let v938 : BitVec 32 := Scalar.subi v800 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t30
  let v1037 : Index := Scalar.indexCast arg11
  let c112_519 : Index := 112#32
  ![v1037.toNat, 112]
@[reducible] def k1_t31_loop (i : grid1.Coords) (v41 : BitVec 32) (v43 : BitVec 32) (k1_t1 : Fin k1_t1_loop.trips) : Scf.Loop 32 :=
  let c0_i32_473 : BitVec 32 := 0#32
  let c256_i32_407 : BitVec 32 := 256#32
  let c0_i32_406 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v808 : BitVec 32 := Scalar.subi v43 v596
  let v809 : BitVec 32 := Scalar.maxsi c0_i32_406 v808
  let v810 : BitVec 32 := Scalar.minsi c256_i32_407 v809
  let c256_i32_405 : BitVec 32 := 256#32
  let c0_i32_404 : BitVec 32 := 0#32
  let v805 : BitVec 32 := Scalar.subi v41 v596
  let v806 : BitVec 32 := Scalar.maxsi c0_i32_404 v805
  let v807 : BitVec 32 := Scalar.minsi c256_i32_405 v806
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond11 (i : grid1.Coords) (v41 : BitVec 32) (v43 : BitVec 32) (k1_t1 : Fin k1_t1_loop.trips) : BitVec 1 :=
  let c256_i32_407 : BitVec 32 := 256#32
  let c0_i32_406 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v808 : BitVec 32 := Scalar.subi v43 v596
  let v809 : BitVec 32 := Scalar.maxsi c0_i32_406 v808
  let v810 : BitVec 32 := Scalar.minsi c256_i32_407 v809
  let c256_i32_405 : BitVec 32 := 256#32
  let c0_i32_404 : BitVec 32 := 0#32
  let v805 : BitVec 32 := Scalar.subi v41 v596
  let v806 : BitVec 32 := Scalar.maxsi c0_i32_404 v805
  let v807 : BitVec 32 := Scalar.minsi c256_i32_405 v806
  let v811 : BitVec 32 := Scalar.subi v810 v807
  let c0_i32_408 : BitVec 32 := 0#32
  let v812 : BitVec 1 := Scalar.cmpi .sgt v811 c0_i32_408
  let v813 : BitVec 32 := Scalar.extui v812
  let c0_i32_409 : BitVec 32 := 0#32
  let v814 : BitVec 1 := Scalar.cmpi .ne v813 c0_i32_409
  v814

def k1_off244 (i : grid1.Coords) (v41 : BitVec 32) (v43 : BitVec 32) (k1_t1 : Fin k1_t1_loop.trips) (k1_t31 : Fin (k1_t31_loop i v41 v43 k1_t1).trips) (c0_i32_513 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1011 : BitVec 32 := Scalar.addi v1010 c0_i32_513
  let v1012 : Index := Scalar.indexCast v1011
  let c0_514 : Index := 0#32
  ![v1012.toNat, 0]
def k1_off245 (i : grid1.Coords) (v41 : BitVec 32) (v43 : BitVec 32) (k1_t1 : Fin k1_t1_loop.trips) (k1_t31 : Fin (k1_t31_loop i v41 v43 k1_t1).trips) (c0_i32_515 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1016 : BitVec 32 := Scalar.addi v1010 c0_i32_515
  let v1017 : Index := Scalar.indexCast v1016
  let c16_516 : Index := 16#32
  ![v1017.toNat, 16]
def k1_off246 (i : grid1.Coords) (v41 : BitVec 32) (v43 : BitVec 32) (k1_t1 : Fin k1_t1_loop.trips) (k1_t31 : Fin (k1_t31_loop i v41 v43 k1_t1).trips) (c0_i32_517 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1021 : BitVec 32 := Scalar.addi v1010 c0_i32_517
  let v1022 : Index := Scalar.indexCast v1021
  let c32_518 : Index := 32#32
  ![v1022.toNat, 32]
def k1_off247 (i : grid1.Coords) (v41 : BitVec 32) (v43 : BitVec 32) (k1_t1 : Fin k1_t1_loop.trips) (k1_t31 : Fin (k1_t31_loop i v41 v43 k1_t1).trips) (c0_i32_519 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1026 : BitVec 32 := Scalar.addi v1010 c0_i32_519
  let v1027 : Index := Scalar.indexCast v1026
  let c48_520 : Index := 48#32
  ![v1027.toNat, 48]
def k1_off248 (i : grid1.Coords) (v41 : BitVec 32) (v43 : BitVec 32) (k1_t1 : Fin k1_t1_loop.trips) (k1_t31 : Fin (k1_t31_loop i v41 v43 k1_t1).trips) (c0_i32_521 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1031 : BitVec 32 := Scalar.addi v1010 c0_i32_521
  let v1032 : Index := Scalar.indexCast v1031
  let c64_522 : Index := 64#32
  ![v1032.toNat, 64]
def k1_off249 (i : grid1.Coords) (v41 : BitVec 32) (v43 : BitVec 32) (k1_t1 : Fin k1_t1_loop.trips) (k1_t31 : Fin (k1_t31_loop i v41 v43 k1_t1).trips) (c0_i32_523 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1036 : BitVec 32 := Scalar.addi v1010 c0_i32_523
  let v1037 : Index := Scalar.indexCast v1036
  let c80_524 : Index := 80#32
  ![v1037.toNat, 80]
def k1_off250 (i : grid1.Coords) (v41 : BitVec 32) (v43 : BitVec 32) (k1_t1 : Fin k1_t1_loop.trips) (k1_t31 : Fin (k1_t31_loop i v41 v43 k1_t1).trips) (c0_i32_525 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1041 : BitVec 32 := Scalar.addi v1010 c0_i32_525
  let v1042 : Index := Scalar.indexCast v1041
  let c96_526 : Index := 96#32
  ![v1042.toNat, 96]
def k1_off251 (i : grid1.Coords) (v41 : BitVec 32) (v43 : BitVec 32) (k1_t1 : Fin k1_t1_loop.trips) (k1_t31 : Fin (k1_t31_loop i v41 v43 k1_t1).trips) (c0_i32_527 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c1_i32_475 : BitVec 32 := 1#32
  let arg11 : BitVec 32 := Scf.iv c0_i32_473 c1_i32_475 k1_t31
  let c4_i32_512 : BitVec 32 := 4#32
  let v1009 : BitVec 32 := Scalar.muli arg11 c4_i32_512
  let v1010 : BitVec 32 := Scalar.addi v807 v1009
  let v1046 : BitVec 32 := Scalar.addi v1010 c0_i32_527
  let v1047 : Index := Scalar.indexCast v1046
  let c112_528 : Index := 112#32
  ![v1047.toNat, 112]
@[reducible] def k1_t32_loop (i : grid1.Coords) (v41 : BitVec 32) (v43 : BitVec 32) (k1_t1 : Fin k1_t1_loop.trips) : Scf.Loop 32 :=
  let c0_i32_473 : BitVec 32 := 0#32
  let c256_i32_407 : BitVec 32 := 256#32
  let c0_i32_406 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v808 : BitVec 32 := Scalar.subi v43 v596
  let v809 : BitVec 32 := Scalar.maxsi c0_i32_406 v808
  let v810 : BitVec 32 := Scalar.minsi c256_i32_407 v809
  let c256_i32_405 : BitVec 32 := 256#32
  let c0_i32_404 : BitVec 32 := 0#32
  let v805 : BitVec 32 := Scalar.subi v41 v596
  let v806 : BitVec 32 := Scalar.maxsi c0_i32_404 v805
  let v807 : BitVec 32 := Scalar.minsi c256_i32_405 v806
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off252 (i : grid1.Coords) (v41 : BitVec 32) (v43 : BitVec 32) (k1_t1 : Fin k1_t1_loop.trips) (k1_t32 : Fin (k1_t32_loop i v41 v43 k1_t1).trips) (c0_i32_513 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1011 : BitVec 32 := Scalar.addi v1010 c0_i32_513
  let v1012 : Index := Scalar.indexCast v1011
  let c0_514 : Index := 0#32
  ![v1012.toNat, 0]
def k1_off253 (i : grid1.Coords) (v41 : BitVec 32) (v43 : BitVec 32) (k1_t1 : Fin k1_t1_loop.trips) (k1_t32 : Fin (k1_t32_loop i v41 v43 k1_t1).trips) (c0_i32_515 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1016 : BitVec 32 := Scalar.addi v1010 c0_i32_515
  let v1017 : Index := Scalar.indexCast v1016
  let c16_516 : Index := 16#32
  ![v1017.toNat, 16]
def k1_off254 (i : grid1.Coords) (v41 : BitVec 32) (v43 : BitVec 32) (k1_t1 : Fin k1_t1_loop.trips) (k1_t32 : Fin (k1_t32_loop i v41 v43 k1_t1).trips) (c0_i32_517 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1021 : BitVec 32 := Scalar.addi v1010 c0_i32_517
  let v1022 : Index := Scalar.indexCast v1021
  let c32_518 : Index := 32#32
  ![v1022.toNat, 32]
def k1_off255 (i : grid1.Coords) (v41 : BitVec 32) (v43 : BitVec 32) (k1_t1 : Fin k1_t1_loop.trips) (k1_t32 : Fin (k1_t32_loop i v41 v43 k1_t1).trips) (c0_i32_519 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1026 : BitVec 32 := Scalar.addi v1010 c0_i32_519
  let v1027 : Index := Scalar.indexCast v1026
  let c48_520 : Index := 48#32
  ![v1027.toNat, 48]
def k1_off256 (i : grid1.Coords) (v41 : BitVec 32) (v43 : BitVec 32) (k1_t1 : Fin k1_t1_loop.trips) (k1_t32 : Fin (k1_t32_loop i v41 v43 k1_t1).trips) (c0_i32_521 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1031 : BitVec 32 := Scalar.addi v1010 c0_i32_521
  let v1032 : Index := Scalar.indexCast v1031
  let c64_522 : Index := 64#32
  ![v1032.toNat, 64]
def k1_off257 (i : grid1.Coords) (v41 : BitVec 32) (v43 : BitVec 32) (k1_t1 : Fin k1_t1_loop.trips) (k1_t32 : Fin (k1_t32_loop i v41 v43 k1_t1).trips) (c0_i32_523 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1036 : BitVec 32 := Scalar.addi v1010 c0_i32_523
  let v1037 : Index := Scalar.indexCast v1036
  let c80_524 : Index := 80#32
  ![v1037.toNat, 80]
def k1_off258 (i : grid1.Coords) (v41 : BitVec 32) (v43 : BitVec 32) (k1_t1 : Fin k1_t1_loop.trips) (k1_t32 : Fin (k1_t32_loop i v41 v43 k1_t1).trips) (c0_i32_525 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1041 : BitVec 32 := Scalar.addi v1010 c0_i32_525
  let v1042 : Index := Scalar.indexCast v1041
  let c96_526 : Index := 96#32
  ![v1042.toNat, 96]
def k1_off259 (i : grid1.Coords) (v41 : BitVec 32) (v43 : BitVec 32) (k1_t1 : Fin k1_t1_loop.trips) (k1_t32 : Fin (k1_t32_loop i v41 v43 k1_t1).trips) (c0_i32_527 : BitVec 32) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c0_i32_473 : BitVec 32 := 0#32
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t32
  let c4_i32_512 : BitVec 32 := 4#32
  let v1009 : BitVec 32 := Scalar.muli arg11 c4_i32_512
  let v1010 : BitVec 32 := Scalar.addi v807 v1009
  let v1046 : BitVec 32 := Scalar.addi v1010 c0_i32_527
  let v1047 : Index := Scalar.indexCast v1046
  let c112_528 : Index := 112#32
  ![v1047.toNat, 112]
@[reducible] def k1_t33_loop (i : grid1.Coords) (v41 : BitVec 32) (v43 : BitVec 32) (k1_t1 : Fin k1_t1_loop.trips) : Scf.Loop 32 :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off260 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1009 : Index := Scalar.indexCast arg11
  let c0_512 : Index := 0#32
  ![v1009.toNat, 0]
def k1_off261 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1013 : Index := Scalar.indexCast arg11
  let c16_513 : Index := 16#32
  ![v1013.toNat, 16]
def k1_off262 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1017 : Index := Scalar.indexCast arg11
  let c32_514 : Index := 32#32
  ![v1017.toNat, 32]
def k1_off263 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1021 : Index := Scalar.indexCast arg11
  let c48_515 : Index := 48#32
  ![v1021.toNat, 48]
def k1_off264 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1025 : Index := Scalar.indexCast arg11
  let c64_516 : Index := 64#32
  ![v1025.toNat, 64]
def k1_off265 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1029 : Index := Scalar.indexCast arg11
  let c80_517 : Index := 80#32
  ![v1029.toNat, 80]
def k1_off266 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1033 : Index := Scalar.indexCast arg11
  let c96_518 : Index := 96#32
  ![v1033.toNat, 96]
def k1_off267 (i : grid1.Coords) (v41 : BitVec 32) (v43 : BitVec 32) (k1_t1 : Fin k1_t1_loop.trips) (k1_t33 : Fin (k1_t33_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let c1_i32_478 : BitVec 32 := 1#32
  let arg11 : BitVec 32 := Scf.iv v937 c1_i32_478 k1_t33
  let v1037 : Index := Scalar.indexCast arg11
  let c112_519 : Index := 112#32
  ![v1037.toNat, 112]
@[reducible] def k1_t34_loop (i : grid1.Coords) (v41 : BitVec 32) (v43 : BitVec 32) (k1_t1 : Fin k1_t1_loop.trips) : Scf.Loop 32 :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off268 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1009 : Index := Scalar.indexCast arg11
  let c0_512 : Index := 0#32
  ![v1009.toNat, 0]
def k1_off269 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1013 : Index := Scalar.indexCast arg11
  let c16_513 : Index := 16#32
  ![v1013.toNat, 16]
def k1_off270 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1017 : Index := Scalar.indexCast arg11
  let c32_514 : Index := 32#32
  ![v1017.toNat, 32]
def k1_off271 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1021 : Index := Scalar.indexCast arg11
  let c48_515 : Index := 48#32
  ![v1021.toNat, 48]
def k1_off272 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1025 : Index := Scalar.indexCast arg11
  let c64_516 : Index := 64#32
  ![v1025.toNat, 64]
def k1_off273 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1029 : Index := Scalar.indexCast arg11
  let c80_517 : Index := 80#32
  ![v1029.toNat, 80]
def k1_off274 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1033 : Index := Scalar.indexCast arg11
  let c96_518 : Index := 96#32
  ![v1033.toNat, 96]
def k1_off275 (i : grid1.Coords) (v41 : BitVec 32) (v43 : BitVec 32) (k1_t1 : Fin k1_t1_loop.trips) (k1_t34 : Fin (k1_t34_loop i v41 v43 k1_t1).trips) : Fin 2 → Nat :=
  let c256_i32_405 : BitVec 32 := 256#32
  let c0_i32_404 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v805 : BitVec 32 := Scalar.subi v41 v596
  let v806 : BitVec 32 := Scalar.maxsi c0_i32_404 v805
  let v807 : BitVec 32 := Scalar.minsi c256_i32_405 v806
  let c256_i32_407 : BitVec 32 := 256#32
  let c0_i32_406 : BitVec 32 := 0#32
  let v808 : BitVec 32 := Scalar.subi v43 v596
  let v809 : BitVec 32 := Scalar.maxsi c0_i32_406 v808
  let v810 : BitVec 32 := Scalar.minsi c256_i32_407 v809
  let v811 : BitVec 32 := Scalar.subi v810 v807
  let c0_i32_459 : BitVec 32 := 0#32
  let v896 : BitVec 1 := Scalar.cmpi .sgt v811 c0_i32_459
  let v897 : BitVec 32 := Scalar.extui v896
  let c0_i32_460 : BitVec 32 := 0#32
  let v898 : BitVec 1 := Scalar.cmpi .slt v811 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v811 c4_i32_458
  let c0_i32_463 : BitVec 32 := 0#32
  let v908 : BitVec 1 := Scalar.cmpi .ne v907 c0_i32_463
  let v909 : BitVec 1 := Scalar.andi v906 v908
  let v895 : BitVec 32 := Scalar.divsi v811 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v807 v912
  let v938 : BitVec 32 := Scalar.subi v810 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t34
  let v1037 : Index := Scalar.indexCast arg11
  let c112_519 : Index := 112#32
  ![v1037.toNat, 112]
@[reducible] def k1_t35_loop (i : grid1.Coords) (v43 : BitVec 32) (v45 : BitVec 32) (k1_t1 : Fin k1_t1_loop.trips) : Scf.Loop 32 :=
  let c0_i32_473 : BitVec 32 := 0#32
  let c256_i32_413 : BitVec 32 := 256#32
  let c0_i32_412 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v818 : BitVec 32 := Scalar.subi v45 v596
  let v819 : BitVec 32 := Scalar.maxsi c0_i32_412 v818
  let v820 : BitVec 32 := Scalar.minsi c256_i32_413 v819
  let c256_i32_411 : BitVec 32 := 256#32
  let c0_i32_410 : BitVec 32 := 0#32
  let v815 : BitVec 32 := Scalar.subi v43 v596
  let v816 : BitVec 32 := Scalar.maxsi c0_i32_410 v815
  let v817 : BitVec 32 := Scalar.minsi c256_i32_411 v816
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond12 (i : grid1.Coords) (v43 : BitVec 32) (v45 : BitVec 32) (k1_t1 : Fin k1_t1_loop.trips) : BitVec 1 :=
  let c256_i32_413 : BitVec 32 := 256#32
  let c0_i32_412 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v818 : BitVec 32 := Scalar.subi v45 v596
  let v819 : BitVec 32 := Scalar.maxsi c0_i32_412 v818
  let v820 : BitVec 32 := Scalar.minsi c256_i32_413 v819
  let c256_i32_411 : BitVec 32 := 256#32
  let c0_i32_410 : BitVec 32 := 0#32
  let v815 : BitVec 32 := Scalar.subi v43 v596
  let v816 : BitVec 32 := Scalar.maxsi c0_i32_410 v815
  let v817 : BitVec 32 := Scalar.minsi c256_i32_411 v816
  let v821 : BitVec 32 := Scalar.subi v820 v817
  let c0_i32_414 : BitVec 32 := 0#32
  let v822 : BitVec 1 := Scalar.cmpi .sgt v821 c0_i32_414
  let v823 : BitVec 32 := Scalar.extui v822
  let c0_i32_415 : BitVec 32 := 0#32
  let v824 : BitVec 1 := Scalar.cmpi .ne v823 c0_i32_415
  v824

def k1_off276 (i : grid1.Coords) (v43 : BitVec 32) (v45 : BitVec 32) (k1_t1 : Fin k1_t1_loop.trips) (k1_t35 : Fin (k1_t35_loop i v43 v45 k1_t1).trips) (c0_i32_513 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1011 : BitVec 32 := Scalar.addi v1010 c0_i32_513
  let v1012 : Index := Scalar.indexCast v1011
  let c0_514 : Index := 0#32
  ![v1012.toNat, 0]
def k1_off277 (i : grid1.Coords) (v43 : BitVec 32) (v45 : BitVec 32) (k1_t1 : Fin k1_t1_loop.trips) (k1_t35 : Fin (k1_t35_loop i v43 v45 k1_t1).trips) (c0_i32_515 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1016 : BitVec 32 := Scalar.addi v1010 c0_i32_515
  let v1017 : Index := Scalar.indexCast v1016
  let c16_516 : Index := 16#32
  ![v1017.toNat, 16]
def k1_off278 (i : grid1.Coords) (v43 : BitVec 32) (v45 : BitVec 32) (k1_t1 : Fin k1_t1_loop.trips) (k1_t35 : Fin (k1_t35_loop i v43 v45 k1_t1).trips) (c0_i32_517 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1021 : BitVec 32 := Scalar.addi v1010 c0_i32_517
  let v1022 : Index := Scalar.indexCast v1021
  let c32_518 : Index := 32#32
  ![v1022.toNat, 32]
def k1_off279 (i : grid1.Coords) (v43 : BitVec 32) (v45 : BitVec 32) (k1_t1 : Fin k1_t1_loop.trips) (k1_t35 : Fin (k1_t35_loop i v43 v45 k1_t1).trips) (c0_i32_519 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1026 : BitVec 32 := Scalar.addi v1010 c0_i32_519
  let v1027 : Index := Scalar.indexCast v1026
  let c48_520 : Index := 48#32
  ![v1027.toNat, 48]
def k1_off280 (i : grid1.Coords) (v43 : BitVec 32) (v45 : BitVec 32) (k1_t1 : Fin k1_t1_loop.trips) (k1_t35 : Fin (k1_t35_loop i v43 v45 k1_t1).trips) (c0_i32_521 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1031 : BitVec 32 := Scalar.addi v1010 c0_i32_521
  let v1032 : Index := Scalar.indexCast v1031
  let c64_522 : Index := 64#32
  ![v1032.toNat, 64]
def k1_off281 (i : grid1.Coords) (v43 : BitVec 32) (v45 : BitVec 32) (k1_t1 : Fin k1_t1_loop.trips) (k1_t35 : Fin (k1_t35_loop i v43 v45 k1_t1).trips) (c0_i32_523 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1036 : BitVec 32 := Scalar.addi v1010 c0_i32_523
  let v1037 : Index := Scalar.indexCast v1036
  let c80_524 : Index := 80#32
  ![v1037.toNat, 80]
def k1_off282 (i : grid1.Coords) (v43 : BitVec 32) (v45 : BitVec 32) (k1_t1 : Fin k1_t1_loop.trips) (k1_t35 : Fin (k1_t35_loop i v43 v45 k1_t1).trips) (c0_i32_525 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1041 : BitVec 32 := Scalar.addi v1010 c0_i32_525
  let v1042 : Index := Scalar.indexCast v1041
  let c96_526 : Index := 96#32
  ![v1042.toNat, 96]
def k1_off283 (i : grid1.Coords) (v43 : BitVec 32) (v45 : BitVec 32) (k1_t1 : Fin k1_t1_loop.trips) (k1_t35 : Fin (k1_t35_loop i v43 v45 k1_t1).trips) (c0_i32_527 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c1_i32_475 : BitVec 32 := 1#32
  let arg11 : BitVec 32 := Scf.iv c0_i32_473 c1_i32_475 k1_t35
  let c4_i32_512 : BitVec 32 := 4#32
  let v1009 : BitVec 32 := Scalar.muli arg11 c4_i32_512
  let v1010 : BitVec 32 := Scalar.addi v817 v1009
  let v1046 : BitVec 32 := Scalar.addi v1010 c0_i32_527
  let v1047 : Index := Scalar.indexCast v1046
  let c112_528 : Index := 112#32
  ![v1047.toNat, 112]
@[reducible] def k1_t36_loop (i : grid1.Coords) (v43 : BitVec 32) (v45 : BitVec 32) (k1_t1 : Fin k1_t1_loop.trips) : Scf.Loop 32 :=
  let c0_i32_473 : BitVec 32 := 0#32
  let c256_i32_413 : BitVec 32 := 256#32
  let c0_i32_412 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v818 : BitVec 32 := Scalar.subi v45 v596
  let v819 : BitVec 32 := Scalar.maxsi c0_i32_412 v818
  let v820 : BitVec 32 := Scalar.minsi c256_i32_413 v819
  let c256_i32_411 : BitVec 32 := 256#32
  let c0_i32_410 : BitVec 32 := 0#32
  let v815 : BitVec 32 := Scalar.subi v43 v596
  let v816 : BitVec 32 := Scalar.maxsi c0_i32_410 v815
  let v817 : BitVec 32 := Scalar.minsi c256_i32_411 v816
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off284 (i : grid1.Coords) (v43 : BitVec 32) (v45 : BitVec 32) (k1_t1 : Fin k1_t1_loop.trips) (k1_t36 : Fin (k1_t36_loop i v43 v45 k1_t1).trips) (c0_i32_513 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1011 : BitVec 32 := Scalar.addi v1010 c0_i32_513
  let v1012 : Index := Scalar.indexCast v1011
  let c0_514 : Index := 0#32
  ![v1012.toNat, 0]
def k1_off285 (i : grid1.Coords) (v43 : BitVec 32) (v45 : BitVec 32) (k1_t1 : Fin k1_t1_loop.trips) (k1_t36 : Fin (k1_t36_loop i v43 v45 k1_t1).trips) (c0_i32_515 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1016 : BitVec 32 := Scalar.addi v1010 c0_i32_515
  let v1017 : Index := Scalar.indexCast v1016
  let c16_516 : Index := 16#32
  ![v1017.toNat, 16]
def k1_off286 (i : grid1.Coords) (v43 : BitVec 32) (v45 : BitVec 32) (k1_t1 : Fin k1_t1_loop.trips) (k1_t36 : Fin (k1_t36_loop i v43 v45 k1_t1).trips) (c0_i32_517 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1021 : BitVec 32 := Scalar.addi v1010 c0_i32_517
  let v1022 : Index := Scalar.indexCast v1021
  let c32_518 : Index := 32#32
  ![v1022.toNat, 32]
def k1_off287 (i : grid1.Coords) (v43 : BitVec 32) (v45 : BitVec 32) (k1_t1 : Fin k1_t1_loop.trips) (k1_t36 : Fin (k1_t36_loop i v43 v45 k1_t1).trips) (c0_i32_519 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1026 : BitVec 32 := Scalar.addi v1010 c0_i32_519
  let v1027 : Index := Scalar.indexCast v1026
  let c48_520 : Index := 48#32
  ![v1027.toNat, 48]
def k1_off288 (i : grid1.Coords) (v43 : BitVec 32) (v45 : BitVec 32) (k1_t1 : Fin k1_t1_loop.trips) (k1_t36 : Fin (k1_t36_loop i v43 v45 k1_t1).trips) (c0_i32_521 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1031 : BitVec 32 := Scalar.addi v1010 c0_i32_521
  let v1032 : Index := Scalar.indexCast v1031
  let c64_522 : Index := 64#32
  ![v1032.toNat, 64]
def k1_off289 (i : grid1.Coords) (v43 : BitVec 32) (v45 : BitVec 32) (k1_t1 : Fin k1_t1_loop.trips) (k1_t36 : Fin (k1_t36_loop i v43 v45 k1_t1).trips) (c0_i32_523 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1036 : BitVec 32 := Scalar.addi v1010 c0_i32_523
  let v1037 : Index := Scalar.indexCast v1036
  let c80_524 : Index := 80#32
  ![v1037.toNat, 80]
def k1_off290 (i : grid1.Coords) (v43 : BitVec 32) (v45 : BitVec 32) (k1_t1 : Fin k1_t1_loop.trips) (k1_t36 : Fin (k1_t36_loop i v43 v45 k1_t1).trips) (c0_i32_525 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1041 : BitVec 32 := Scalar.addi v1010 c0_i32_525
  let v1042 : Index := Scalar.indexCast v1041
  let c96_526 : Index := 96#32
  ![v1042.toNat, 96]
def k1_off291 (i : grid1.Coords) (v43 : BitVec 32) (v45 : BitVec 32) (k1_t1 : Fin k1_t1_loop.trips) (k1_t36 : Fin (k1_t36_loop i v43 v45 k1_t1).trips) (c0_i32_527 : BitVec 32) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c0_i32_473 : BitVec 32 := 0#32
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t36
  let c4_i32_512 : BitVec 32 := 4#32
  let v1009 : BitVec 32 := Scalar.muli arg11 c4_i32_512
  let v1010 : BitVec 32 := Scalar.addi v817 v1009
  let v1046 : BitVec 32 := Scalar.addi v1010 c0_i32_527
  let v1047 : Index := Scalar.indexCast v1046
  let c112_528 : Index := 112#32
  ![v1047.toNat, 112]
@[reducible] def k1_t37_loop (i : grid1.Coords) (v43 : BitVec 32) (v45 : BitVec 32) (k1_t1 : Fin k1_t1_loop.trips) : Scf.Loop 32 :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off292 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1009 : Index := Scalar.indexCast arg11
  let c0_512 : Index := 0#32
  ![v1009.toNat, 0]
def k1_off293 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1013 : Index := Scalar.indexCast arg11
  let c16_513 : Index := 16#32
  ![v1013.toNat, 16]
def k1_off294 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1017 : Index := Scalar.indexCast arg11
  let c32_514 : Index := 32#32
  ![v1017.toNat, 32]
def k1_off295 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1021 : Index := Scalar.indexCast arg11
  let c48_515 : Index := 48#32
  ![v1021.toNat, 48]
def k1_off296 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1025 : Index := Scalar.indexCast arg11
  let c64_516 : Index := 64#32
  ![v1025.toNat, 64]
def k1_off297 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1029 : Index := Scalar.indexCast arg11
  let c80_517 : Index := 80#32
  ![v1029.toNat, 80]
def k1_off298 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1033 : Index := Scalar.indexCast arg11
  let c96_518 : Index := 96#32
  ![v1033.toNat, 96]
def k1_off299 (i : grid1.Coords) (v43 : BitVec 32) (v45 : BitVec 32) (k1_t1 : Fin k1_t1_loop.trips) (k1_t37 : Fin (k1_t37_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let c1_i32_478 : BitVec 32 := 1#32
  let arg11 : BitVec 32 := Scf.iv v937 c1_i32_478 k1_t37
  let v1037 : Index := Scalar.indexCast arg11
  let c112_519 : Index := 112#32
  ![v1037.toNat, 112]
@[reducible] def k1_t38_loop (i : grid1.Coords) (v43 : BitVec 32) (v45 : BitVec 32) (k1_t1 : Fin k1_t1_loop.trips) : Scf.Loop 32 :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off300 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1009 : Index := Scalar.indexCast arg11
  let c0_512 : Index := 0#32
  ![v1009.toNat, 0]
def k1_off301 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1013 : Index := Scalar.indexCast arg11
  let c16_513 : Index := 16#32
  ![v1013.toNat, 16]
def k1_off302 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1017 : Index := Scalar.indexCast arg11
  let c32_514 : Index := 32#32
  ![v1017.toNat, 32]
def k1_off303 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1021 : Index := Scalar.indexCast arg11
  let c48_515 : Index := 48#32
  ![v1021.toNat, 48]
def k1_off304 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1025 : Index := Scalar.indexCast arg11
  let c64_516 : Index := 64#32
  ![v1025.toNat, 64]
def k1_off305 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1029 : Index := Scalar.indexCast arg11
  let c80_517 : Index := 80#32
  ![v1029.toNat, 80]
def k1_off306 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1033 : Index := Scalar.indexCast arg11
  let c96_518 : Index := 96#32
  ![v1033.toNat, 96]
def k1_off307 (i : grid1.Coords) (v43 : BitVec 32) (v45 : BitVec 32) (k1_t1 : Fin k1_t1_loop.trips) (k1_t38 : Fin (k1_t38_loop i v43 v45 k1_t1).trips) : Fin 2 → Nat :=
  let c256_i32_411 : BitVec 32 := 256#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v815 : BitVec 32 := Scalar.subi v43 v596
  let v816 : BitVec 32 := Scalar.maxsi c0_i32_410 v815
  let v817 : BitVec 32 := Scalar.minsi c256_i32_411 v816
  let c256_i32_413 : BitVec 32 := 256#32
  let c0_i32_412 : BitVec 32 := 0#32
  let v818 : BitVec 32 := Scalar.subi v45 v596
  let v819 : BitVec 32 := Scalar.maxsi c0_i32_412 v818
  let v820 : BitVec 32 := Scalar.minsi c256_i32_413 v819
  let v821 : BitVec 32 := Scalar.subi v820 v817
  let c0_i32_459 : BitVec 32 := 0#32
  let v896 : BitVec 1 := Scalar.cmpi .sgt v821 c0_i32_459
  let v897 : BitVec 32 := Scalar.extui v896
  let c0_i32_460 : BitVec 32 := 0#32
  let v898 : BitVec 1 := Scalar.cmpi .slt v821 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v821 c4_i32_458
  let c0_i32_463 : BitVec 32 := 0#32
  let v908 : BitVec 1 := Scalar.cmpi .ne v907 c0_i32_463
  let v909 : BitVec 1 := Scalar.andi v906 v908
  let v895 : BitVec 32 := Scalar.divsi v821 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v817 v912
  let v938 : BitVec 32 := Scalar.subi v820 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t38
  let v1037 : Index := Scalar.indexCast arg11
  let c112_519 : Index := 112#32
  ![v1037.toNat, 112]
@[reducible] def k1_t39_loop (i : grid1.Coords) (v45 : BitVec 32) (v47 : BitVec 32) (k1_t1 : Fin k1_t1_loop.trips) : Scf.Loop 32 :=
  let c0_i32_473 : BitVec 32 := 0#32
  let c256_i32_419 : BitVec 32 := 256#32
  let c0_i32_418 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v828 : BitVec 32 := Scalar.subi v47 v596
  let v829 : BitVec 32 := Scalar.maxsi c0_i32_418 v828
  let v830 : BitVec 32 := Scalar.minsi c256_i32_419 v829
  let c256_i32_417 : BitVec 32 := 256#32
  let c0_i32_416 : BitVec 32 := 0#32
  let v825 : BitVec 32 := Scalar.subi v45 v596
  let v826 : BitVec 32 := Scalar.maxsi c0_i32_416 v825
  let v827 : BitVec 32 := Scalar.minsi c256_i32_417 v826
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond13 (i : grid1.Coords) (v45 : BitVec 32) (v47 : BitVec 32) (k1_t1 : Fin k1_t1_loop.trips) : BitVec 1 :=
  let c256_i32_419 : BitVec 32 := 256#32
  let c0_i32_418 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v828 : BitVec 32 := Scalar.subi v47 v596
  let v829 : BitVec 32 := Scalar.maxsi c0_i32_418 v828
  let v830 : BitVec 32 := Scalar.minsi c256_i32_419 v829
  let c256_i32_417 : BitVec 32 := 256#32
  let c0_i32_416 : BitVec 32 := 0#32
  let v825 : BitVec 32 := Scalar.subi v45 v596
  let v826 : BitVec 32 := Scalar.maxsi c0_i32_416 v825
  let v827 : BitVec 32 := Scalar.minsi c256_i32_417 v826
  let v831 : BitVec 32 := Scalar.subi v830 v827
  let c0_i32_420 : BitVec 32 := 0#32
  let v832 : BitVec 1 := Scalar.cmpi .sgt v831 c0_i32_420
  let v833 : BitVec 32 := Scalar.extui v832
  let c0_i32_421 : BitVec 32 := 0#32
  let v834 : BitVec 1 := Scalar.cmpi .ne v833 c0_i32_421
  v834

def k1_off308 (i : grid1.Coords) (v45 : BitVec 32) (v47 : BitVec 32) (k1_t1 : Fin k1_t1_loop.trips) (k1_t39 : Fin (k1_t39_loop i v45 v47 k1_t1).trips) (c0_i32_513 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1011 : BitVec 32 := Scalar.addi v1010 c0_i32_513
  let v1012 : Index := Scalar.indexCast v1011
  let c0_514 : Index := 0#32
  ![v1012.toNat, 0]
def k1_off309 (i : grid1.Coords) (v45 : BitVec 32) (v47 : BitVec 32) (k1_t1 : Fin k1_t1_loop.trips) (k1_t39 : Fin (k1_t39_loop i v45 v47 k1_t1).trips) (c0_i32_515 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1016 : BitVec 32 := Scalar.addi v1010 c0_i32_515
  let v1017 : Index := Scalar.indexCast v1016
  let c16_516 : Index := 16#32
  ![v1017.toNat, 16]
def k1_off310 (i : grid1.Coords) (v45 : BitVec 32) (v47 : BitVec 32) (k1_t1 : Fin k1_t1_loop.trips) (k1_t39 : Fin (k1_t39_loop i v45 v47 k1_t1).trips) (c0_i32_517 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1021 : BitVec 32 := Scalar.addi v1010 c0_i32_517
  let v1022 : Index := Scalar.indexCast v1021
  let c32_518 : Index := 32#32
  ![v1022.toNat, 32]
def k1_off311 (i : grid1.Coords) (v45 : BitVec 32) (v47 : BitVec 32) (k1_t1 : Fin k1_t1_loop.trips) (k1_t39 : Fin (k1_t39_loop i v45 v47 k1_t1).trips) (c0_i32_519 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1026 : BitVec 32 := Scalar.addi v1010 c0_i32_519
  let v1027 : Index := Scalar.indexCast v1026
  let c48_520 : Index := 48#32
  ![v1027.toNat, 48]
def k1_off312 (i : grid1.Coords) (v45 : BitVec 32) (v47 : BitVec 32) (k1_t1 : Fin k1_t1_loop.trips) (k1_t39 : Fin (k1_t39_loop i v45 v47 k1_t1).trips) (c0_i32_521 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1031 : BitVec 32 := Scalar.addi v1010 c0_i32_521
  let v1032 : Index := Scalar.indexCast v1031
  let c64_522 : Index := 64#32
  ![v1032.toNat, 64]
def k1_off313 (i : grid1.Coords) (v45 : BitVec 32) (v47 : BitVec 32) (k1_t1 : Fin k1_t1_loop.trips) (k1_t39 : Fin (k1_t39_loop i v45 v47 k1_t1).trips) (c0_i32_523 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1036 : BitVec 32 := Scalar.addi v1010 c0_i32_523
  let v1037 : Index := Scalar.indexCast v1036
  let c80_524 : Index := 80#32
  ![v1037.toNat, 80]
def k1_off314 (i : grid1.Coords) (v45 : BitVec 32) (v47 : BitVec 32) (k1_t1 : Fin k1_t1_loop.trips) (k1_t39 : Fin (k1_t39_loop i v45 v47 k1_t1).trips) (c0_i32_525 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1041 : BitVec 32 := Scalar.addi v1010 c0_i32_525
  let v1042 : Index := Scalar.indexCast v1041
  let c96_526 : Index := 96#32
  ![v1042.toNat, 96]
def k1_off315 (i : grid1.Coords) (v45 : BitVec 32) (v47 : BitVec 32) (k1_t1 : Fin k1_t1_loop.trips) (k1_t39 : Fin (k1_t39_loop i v45 v47 k1_t1).trips) (c0_i32_527 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c1_i32_475 : BitVec 32 := 1#32
  let arg11 : BitVec 32 := Scf.iv c0_i32_473 c1_i32_475 k1_t39
  let c4_i32_512 : BitVec 32 := 4#32
  let v1009 : BitVec 32 := Scalar.muli arg11 c4_i32_512
  let v1010 : BitVec 32 := Scalar.addi v827 v1009
  let v1046 : BitVec 32 := Scalar.addi v1010 c0_i32_527
  let v1047 : Index := Scalar.indexCast v1046
  let c112_528 : Index := 112#32
  ![v1047.toNat, 112]
@[reducible] def k1_t40_loop (i : grid1.Coords) (v45 : BitVec 32) (v47 : BitVec 32) (k1_t1 : Fin k1_t1_loop.trips) : Scf.Loop 32 :=
  let c0_i32_473 : BitVec 32 := 0#32
  let c256_i32_419 : BitVec 32 := 256#32
  let c0_i32_418 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v828 : BitVec 32 := Scalar.subi v47 v596
  let v829 : BitVec 32 := Scalar.maxsi c0_i32_418 v828
  let v830 : BitVec 32 := Scalar.minsi c256_i32_419 v829
  let c256_i32_417 : BitVec 32 := 256#32
  let c0_i32_416 : BitVec 32 := 0#32
  let v825 : BitVec 32 := Scalar.subi v45 v596
  let v826 : BitVec 32 := Scalar.maxsi c0_i32_416 v825
  let v827 : BitVec 32 := Scalar.minsi c256_i32_417 v826
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off316 (i : grid1.Coords) (v45 : BitVec 32) (v47 : BitVec 32) (k1_t1 : Fin k1_t1_loop.trips) (k1_t40 : Fin (k1_t40_loop i v45 v47 k1_t1).trips) (c0_i32_513 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1011 : BitVec 32 := Scalar.addi v1010 c0_i32_513
  let v1012 : Index := Scalar.indexCast v1011
  let c0_514 : Index := 0#32
  ![v1012.toNat, 0]
def k1_off317 (i : grid1.Coords) (v45 : BitVec 32) (v47 : BitVec 32) (k1_t1 : Fin k1_t1_loop.trips) (k1_t40 : Fin (k1_t40_loop i v45 v47 k1_t1).trips) (c0_i32_515 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1016 : BitVec 32 := Scalar.addi v1010 c0_i32_515
  let v1017 : Index := Scalar.indexCast v1016
  let c16_516 : Index := 16#32
  ![v1017.toNat, 16]
def k1_off318 (i : grid1.Coords) (v45 : BitVec 32) (v47 : BitVec 32) (k1_t1 : Fin k1_t1_loop.trips) (k1_t40 : Fin (k1_t40_loop i v45 v47 k1_t1).trips) (c0_i32_517 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1021 : BitVec 32 := Scalar.addi v1010 c0_i32_517
  let v1022 : Index := Scalar.indexCast v1021
  let c32_518 : Index := 32#32
  ![v1022.toNat, 32]
def k1_off319 (i : grid1.Coords) (v45 : BitVec 32) (v47 : BitVec 32) (k1_t1 : Fin k1_t1_loop.trips) (k1_t40 : Fin (k1_t40_loop i v45 v47 k1_t1).trips) (c0_i32_519 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1026 : BitVec 32 := Scalar.addi v1010 c0_i32_519
  let v1027 : Index := Scalar.indexCast v1026
  let c48_520 : Index := 48#32
  ![v1027.toNat, 48]
def k1_off320 (i : grid1.Coords) (v45 : BitVec 32) (v47 : BitVec 32) (k1_t1 : Fin k1_t1_loop.trips) (k1_t40 : Fin (k1_t40_loop i v45 v47 k1_t1).trips) (c0_i32_521 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1031 : BitVec 32 := Scalar.addi v1010 c0_i32_521
  let v1032 : Index := Scalar.indexCast v1031
  let c64_522 : Index := 64#32
  ![v1032.toNat, 64]
def k1_off321 (i : grid1.Coords) (v45 : BitVec 32) (v47 : BitVec 32) (k1_t1 : Fin k1_t1_loop.trips) (k1_t40 : Fin (k1_t40_loop i v45 v47 k1_t1).trips) (c0_i32_523 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1036 : BitVec 32 := Scalar.addi v1010 c0_i32_523
  let v1037 : Index := Scalar.indexCast v1036
  let c80_524 : Index := 80#32
  ![v1037.toNat, 80]
def k1_off322 (i : grid1.Coords) (v45 : BitVec 32) (v47 : BitVec 32) (k1_t1 : Fin k1_t1_loop.trips) (k1_t40 : Fin (k1_t40_loop i v45 v47 k1_t1).trips) (c0_i32_525 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1041 : BitVec 32 := Scalar.addi v1010 c0_i32_525
  let v1042 : Index := Scalar.indexCast v1041
  let c96_526 : Index := 96#32
  ![v1042.toNat, 96]
def k1_off323 (i : grid1.Coords) (v45 : BitVec 32) (v47 : BitVec 32) (k1_t1 : Fin k1_t1_loop.trips) (k1_t40 : Fin (k1_t40_loop i v45 v47 k1_t1).trips) (c0_i32_527 : BitVec 32) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c0_i32_473 : BitVec 32 := 0#32
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t40
  let c4_i32_512 : BitVec 32 := 4#32
  let v1009 : BitVec 32 := Scalar.muli arg11 c4_i32_512
  let v1010 : BitVec 32 := Scalar.addi v827 v1009
  let v1046 : BitVec 32 := Scalar.addi v1010 c0_i32_527
  let v1047 : Index := Scalar.indexCast v1046
  let c112_528 : Index := 112#32
  ![v1047.toNat, 112]
@[reducible] def k1_t41_loop (i : grid1.Coords) (v45 : BitVec 32) (v47 : BitVec 32) (k1_t1 : Fin k1_t1_loop.trips) : Scf.Loop 32 :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off324 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1009 : Index := Scalar.indexCast arg11
  let c0_512 : Index := 0#32
  ![v1009.toNat, 0]
def k1_off325 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1013 : Index := Scalar.indexCast arg11
  let c16_513 : Index := 16#32
  ![v1013.toNat, 16]
def k1_off326 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1017 : Index := Scalar.indexCast arg11
  let c32_514 : Index := 32#32
  ![v1017.toNat, 32]
def k1_off327 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1021 : Index := Scalar.indexCast arg11
  let c48_515 : Index := 48#32
  ![v1021.toNat, 48]
def k1_off328 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1025 : Index := Scalar.indexCast arg11
  let c64_516 : Index := 64#32
  ![v1025.toNat, 64]
def k1_off329 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1029 : Index := Scalar.indexCast arg11
  let c80_517 : Index := 80#32
  ![v1029.toNat, 80]
def k1_off330 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1033 : Index := Scalar.indexCast arg11
  let c96_518 : Index := 96#32
  ![v1033.toNat, 96]
def k1_off331 (i : grid1.Coords) (v45 : BitVec 32) (v47 : BitVec 32) (k1_t1 : Fin k1_t1_loop.trips) (k1_t41 : Fin (k1_t41_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let c1_i32_478 : BitVec 32 := 1#32
  let arg11 : BitVec 32 := Scf.iv v937 c1_i32_478 k1_t41
  let v1037 : Index := Scalar.indexCast arg11
  let c112_519 : Index := 112#32
  ![v1037.toNat, 112]
@[reducible] def k1_t42_loop (i : grid1.Coords) (v45 : BitVec 32) (v47 : BitVec 32) (k1_t1 : Fin k1_t1_loop.trips) : Scf.Loop 32 :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off332 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1009 : Index := Scalar.indexCast arg11
  let c0_512 : Index := 0#32
  ![v1009.toNat, 0]
def k1_off333 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1013 : Index := Scalar.indexCast arg11
  let c16_513 : Index := 16#32
  ![v1013.toNat, 16]
def k1_off334 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1017 : Index := Scalar.indexCast arg11
  let c32_514 : Index := 32#32
  ![v1017.toNat, 32]
def k1_off335 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1021 : Index := Scalar.indexCast arg11
  let c48_515 : Index := 48#32
  ![v1021.toNat, 48]
def k1_off336 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1025 : Index := Scalar.indexCast arg11
  let c64_516 : Index := 64#32
  ![v1025.toNat, 64]
def k1_off337 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1029 : Index := Scalar.indexCast arg11
  let c80_517 : Index := 80#32
  ![v1029.toNat, 80]
def k1_off338 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1033 : Index := Scalar.indexCast arg11
  let c96_518 : Index := 96#32
  ![v1033.toNat, 96]
def k1_off339 (i : grid1.Coords) (v45 : BitVec 32) (v47 : BitVec 32) (k1_t1 : Fin k1_t1_loop.trips) (k1_t42 : Fin (k1_t42_loop i v45 v47 k1_t1).trips) : Fin 2 → Nat :=
  let c256_i32_417 : BitVec 32 := 256#32
  let c0_i32_416 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v825 : BitVec 32 := Scalar.subi v45 v596
  let v826 : BitVec 32 := Scalar.maxsi c0_i32_416 v825
  let v827 : BitVec 32 := Scalar.minsi c256_i32_417 v826
  let c256_i32_419 : BitVec 32 := 256#32
  let c0_i32_418 : BitVec 32 := 0#32
  let v828 : BitVec 32 := Scalar.subi v47 v596
  let v829 : BitVec 32 := Scalar.maxsi c0_i32_418 v828
  let v830 : BitVec 32 := Scalar.minsi c256_i32_419 v829
  let v831 : BitVec 32 := Scalar.subi v830 v827
  let c0_i32_459 : BitVec 32 := 0#32
  let v896 : BitVec 1 := Scalar.cmpi .sgt v831 c0_i32_459
  let v897 : BitVec 32 := Scalar.extui v896
  let c0_i32_460 : BitVec 32 := 0#32
  let v898 : BitVec 1 := Scalar.cmpi .slt v831 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v831 c4_i32_458
  let c0_i32_463 : BitVec 32 := 0#32
  let v908 : BitVec 1 := Scalar.cmpi .ne v907 c0_i32_463
  let v909 : BitVec 1 := Scalar.andi v906 v908
  let v895 : BitVec 32 := Scalar.divsi v831 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v827 v912
  let v938 : BitVec 32 := Scalar.subi v830 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t42
  let v1037 : Index := Scalar.indexCast arg11
  let c112_519 : Index := 112#32
  ![v1037.toNat, 112]
@[reducible] def k1_t43_loop (i : grid1.Coords) (v47 : BitVec 32) (v49 : BitVec 32) (k1_t1 : Fin k1_t1_loop.trips) : Scf.Loop 32 :=
  let c0_i32_473 : BitVec 32 := 0#32
  let c256_i32_425 : BitVec 32 := 256#32
  let c0_i32_424 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v838 : BitVec 32 := Scalar.subi v49 v596
  let v839 : BitVec 32 := Scalar.maxsi c0_i32_424 v838
  let v840 : BitVec 32 := Scalar.minsi c256_i32_425 v839
  let c256_i32_423 : BitVec 32 := 256#32
  let c0_i32_422 : BitVec 32 := 0#32
  let v835 : BitVec 32 := Scalar.subi v47 v596
  let v836 : BitVec 32 := Scalar.maxsi c0_i32_422 v835
  let v837 : BitVec 32 := Scalar.minsi c256_i32_423 v836
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond14 (i : grid1.Coords) (v47 : BitVec 32) (v49 : BitVec 32) (k1_t1 : Fin k1_t1_loop.trips) : BitVec 1 :=
  let c256_i32_425 : BitVec 32 := 256#32
  let c0_i32_424 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v838 : BitVec 32 := Scalar.subi v49 v596
  let v839 : BitVec 32 := Scalar.maxsi c0_i32_424 v838
  let v840 : BitVec 32 := Scalar.minsi c256_i32_425 v839
  let c256_i32_423 : BitVec 32 := 256#32
  let c0_i32_422 : BitVec 32 := 0#32
  let v835 : BitVec 32 := Scalar.subi v47 v596
  let v836 : BitVec 32 := Scalar.maxsi c0_i32_422 v835
  let v837 : BitVec 32 := Scalar.minsi c256_i32_423 v836
  let v841 : BitVec 32 := Scalar.subi v840 v837
  let c0_i32_426 : BitVec 32 := 0#32
  let v842 : BitVec 1 := Scalar.cmpi .sgt v841 c0_i32_426
  let v843 : BitVec 32 := Scalar.extui v842
  let c0_i32_427 : BitVec 32 := 0#32
  let v844 : BitVec 1 := Scalar.cmpi .ne v843 c0_i32_427
  v844

def k1_off340 (i : grid1.Coords) (v47 : BitVec 32) (v49 : BitVec 32) (k1_t1 : Fin k1_t1_loop.trips) (k1_t43 : Fin (k1_t43_loop i v47 v49 k1_t1).trips) (c0_i32_513 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1011 : BitVec 32 := Scalar.addi v1010 c0_i32_513
  let v1012 : Index := Scalar.indexCast v1011
  let c0_514 : Index := 0#32
  ![v1012.toNat, 0]
def k1_off341 (i : grid1.Coords) (v47 : BitVec 32) (v49 : BitVec 32) (k1_t1 : Fin k1_t1_loop.trips) (k1_t43 : Fin (k1_t43_loop i v47 v49 k1_t1).trips) (c0_i32_515 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1016 : BitVec 32 := Scalar.addi v1010 c0_i32_515
  let v1017 : Index := Scalar.indexCast v1016
  let c16_516 : Index := 16#32
  ![v1017.toNat, 16]
def k1_off342 (i : grid1.Coords) (v47 : BitVec 32) (v49 : BitVec 32) (k1_t1 : Fin k1_t1_loop.trips) (k1_t43 : Fin (k1_t43_loop i v47 v49 k1_t1).trips) (c0_i32_517 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1021 : BitVec 32 := Scalar.addi v1010 c0_i32_517
  let v1022 : Index := Scalar.indexCast v1021
  let c32_518 : Index := 32#32
  ![v1022.toNat, 32]
def k1_off343 (i : grid1.Coords) (v47 : BitVec 32) (v49 : BitVec 32) (k1_t1 : Fin k1_t1_loop.trips) (k1_t43 : Fin (k1_t43_loop i v47 v49 k1_t1).trips) (c0_i32_519 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1026 : BitVec 32 := Scalar.addi v1010 c0_i32_519
  let v1027 : Index := Scalar.indexCast v1026
  let c48_520 : Index := 48#32
  ![v1027.toNat, 48]
def k1_off344 (i : grid1.Coords) (v47 : BitVec 32) (v49 : BitVec 32) (k1_t1 : Fin k1_t1_loop.trips) (k1_t43 : Fin (k1_t43_loop i v47 v49 k1_t1).trips) (c0_i32_521 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1031 : BitVec 32 := Scalar.addi v1010 c0_i32_521
  let v1032 : Index := Scalar.indexCast v1031
  let c64_522 : Index := 64#32
  ![v1032.toNat, 64]
def k1_off345 (i : grid1.Coords) (v47 : BitVec 32) (v49 : BitVec 32) (k1_t1 : Fin k1_t1_loop.trips) (k1_t43 : Fin (k1_t43_loop i v47 v49 k1_t1).trips) (c0_i32_523 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1036 : BitVec 32 := Scalar.addi v1010 c0_i32_523
  let v1037 : Index := Scalar.indexCast v1036
  let c80_524 : Index := 80#32
  ![v1037.toNat, 80]
def k1_off346 (i : grid1.Coords) (v47 : BitVec 32) (v49 : BitVec 32) (k1_t1 : Fin k1_t1_loop.trips) (k1_t43 : Fin (k1_t43_loop i v47 v49 k1_t1).trips) (c0_i32_525 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1041 : BitVec 32 := Scalar.addi v1010 c0_i32_525
  let v1042 : Index := Scalar.indexCast v1041
  let c96_526 : Index := 96#32
  ![v1042.toNat, 96]
def k1_off347 (i : grid1.Coords) (v47 : BitVec 32) (v49 : BitVec 32) (k1_t1 : Fin k1_t1_loop.trips) (k1_t43 : Fin (k1_t43_loop i v47 v49 k1_t1).trips) (c0_i32_527 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c1_i32_475 : BitVec 32 := 1#32
  let arg11 : BitVec 32 := Scf.iv c0_i32_473 c1_i32_475 k1_t43
  let c4_i32_512 : BitVec 32 := 4#32
  let v1009 : BitVec 32 := Scalar.muli arg11 c4_i32_512
  let v1010 : BitVec 32 := Scalar.addi v837 v1009
  let v1046 : BitVec 32 := Scalar.addi v1010 c0_i32_527
  let v1047 : Index := Scalar.indexCast v1046
  let c112_528 : Index := 112#32
  ![v1047.toNat, 112]
@[reducible] def k1_t44_loop (i : grid1.Coords) (v47 : BitVec 32) (v49 : BitVec 32) (k1_t1 : Fin k1_t1_loop.trips) : Scf.Loop 32 :=
  let c0_i32_473 : BitVec 32 := 0#32
  let c256_i32_425 : BitVec 32 := 256#32
  let c0_i32_424 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v838 : BitVec 32 := Scalar.subi v49 v596
  let v839 : BitVec 32 := Scalar.maxsi c0_i32_424 v838
  let v840 : BitVec 32 := Scalar.minsi c256_i32_425 v839
  let c256_i32_423 : BitVec 32 := 256#32
  let c0_i32_422 : BitVec 32 := 0#32
  let v835 : BitVec 32 := Scalar.subi v47 v596
  let v836 : BitVec 32 := Scalar.maxsi c0_i32_422 v835
  let v837 : BitVec 32 := Scalar.minsi c256_i32_423 v836
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off348 (i : grid1.Coords) (v47 : BitVec 32) (v49 : BitVec 32) (k1_t1 : Fin k1_t1_loop.trips) (k1_t44 : Fin (k1_t44_loop i v47 v49 k1_t1).trips) (c0_i32_513 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1011 : BitVec 32 := Scalar.addi v1010 c0_i32_513
  let v1012 : Index := Scalar.indexCast v1011
  let c0_514 : Index := 0#32
  ![v1012.toNat, 0]
def k1_off349 (i : grid1.Coords) (v47 : BitVec 32) (v49 : BitVec 32) (k1_t1 : Fin k1_t1_loop.trips) (k1_t44 : Fin (k1_t44_loop i v47 v49 k1_t1).trips) (c0_i32_515 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1016 : BitVec 32 := Scalar.addi v1010 c0_i32_515
  let v1017 : Index := Scalar.indexCast v1016
  let c16_516 : Index := 16#32
  ![v1017.toNat, 16]
def k1_off350 (i : grid1.Coords) (v47 : BitVec 32) (v49 : BitVec 32) (k1_t1 : Fin k1_t1_loop.trips) (k1_t44 : Fin (k1_t44_loop i v47 v49 k1_t1).trips) (c0_i32_517 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1021 : BitVec 32 := Scalar.addi v1010 c0_i32_517
  let v1022 : Index := Scalar.indexCast v1021
  let c32_518 : Index := 32#32
  ![v1022.toNat, 32]
def k1_off351 (i : grid1.Coords) (v47 : BitVec 32) (v49 : BitVec 32) (k1_t1 : Fin k1_t1_loop.trips) (k1_t44 : Fin (k1_t44_loop i v47 v49 k1_t1).trips) (c0_i32_519 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1026 : BitVec 32 := Scalar.addi v1010 c0_i32_519
  let v1027 : Index := Scalar.indexCast v1026
  let c48_520 : Index := 48#32
  ![v1027.toNat, 48]
def k1_off352 (i : grid1.Coords) (v47 : BitVec 32) (v49 : BitVec 32) (k1_t1 : Fin k1_t1_loop.trips) (k1_t44 : Fin (k1_t44_loop i v47 v49 k1_t1).trips) (c0_i32_521 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1031 : BitVec 32 := Scalar.addi v1010 c0_i32_521
  let v1032 : Index := Scalar.indexCast v1031
  let c64_522 : Index := 64#32
  ![v1032.toNat, 64]
def k1_off353 (i : grid1.Coords) (v47 : BitVec 32) (v49 : BitVec 32) (k1_t1 : Fin k1_t1_loop.trips) (k1_t44 : Fin (k1_t44_loop i v47 v49 k1_t1).trips) (c0_i32_523 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1036 : BitVec 32 := Scalar.addi v1010 c0_i32_523
  let v1037 : Index := Scalar.indexCast v1036
  let c80_524 : Index := 80#32
  ![v1037.toNat, 80]
def k1_off354 (i : grid1.Coords) (v47 : BitVec 32) (v49 : BitVec 32) (k1_t1 : Fin k1_t1_loop.trips) (k1_t44 : Fin (k1_t44_loop i v47 v49 k1_t1).trips) (c0_i32_525 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1041 : BitVec 32 := Scalar.addi v1010 c0_i32_525
  let v1042 : Index := Scalar.indexCast v1041
  let c96_526 : Index := 96#32
  ![v1042.toNat, 96]
def k1_off355 (i : grid1.Coords) (v47 : BitVec 32) (v49 : BitVec 32) (k1_t1 : Fin k1_t1_loop.trips) (k1_t44 : Fin (k1_t44_loop i v47 v49 k1_t1).trips) (c0_i32_527 : BitVec 32) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c0_i32_473 : BitVec 32 := 0#32
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t44
  let c4_i32_512 : BitVec 32 := 4#32
  let v1009 : BitVec 32 := Scalar.muli arg11 c4_i32_512
  let v1010 : BitVec 32 := Scalar.addi v837 v1009
  let v1046 : BitVec 32 := Scalar.addi v1010 c0_i32_527
  let v1047 : Index := Scalar.indexCast v1046
  let c112_528 : Index := 112#32
  ![v1047.toNat, 112]
@[reducible] def k1_t45_loop (i : grid1.Coords) (v47 : BitVec 32) (v49 : BitVec 32) (k1_t1 : Fin k1_t1_loop.trips) : Scf.Loop 32 :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off356 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1009 : Index := Scalar.indexCast arg11
  let c0_512 : Index := 0#32
  ![v1009.toNat, 0]
def k1_off357 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1013 : Index := Scalar.indexCast arg11
  let c16_513 : Index := 16#32
  ![v1013.toNat, 16]
def k1_off358 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1017 : Index := Scalar.indexCast arg11
  let c32_514 : Index := 32#32
  ![v1017.toNat, 32]
def k1_off359 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1021 : Index := Scalar.indexCast arg11
  let c48_515 : Index := 48#32
  ![v1021.toNat, 48]
def k1_off360 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1025 : Index := Scalar.indexCast arg11
  let c64_516 : Index := 64#32
  ![v1025.toNat, 64]
def k1_off361 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1029 : Index := Scalar.indexCast arg11
  let c80_517 : Index := 80#32
  ![v1029.toNat, 80]
def k1_off362 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1033 : Index := Scalar.indexCast arg11
  let c96_518 : Index := 96#32
  ![v1033.toNat, 96]
def k1_off363 (i : grid1.Coords) (v47 : BitVec 32) (v49 : BitVec 32) (k1_t1 : Fin k1_t1_loop.trips) (k1_t45 : Fin (k1_t45_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let c1_i32_478 : BitVec 32 := 1#32
  let arg11 : BitVec 32 := Scf.iv v937 c1_i32_478 k1_t45
  let v1037 : Index := Scalar.indexCast arg11
  let c112_519 : Index := 112#32
  ![v1037.toNat, 112]
@[reducible] def k1_t46_loop (i : grid1.Coords) (v47 : BitVec 32) (v49 : BitVec 32) (k1_t1 : Fin k1_t1_loop.trips) : Scf.Loop 32 :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off364 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1009 : Index := Scalar.indexCast arg11
  let c0_512 : Index := 0#32
  ![v1009.toNat, 0]
def k1_off365 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1013 : Index := Scalar.indexCast arg11
  let c16_513 : Index := 16#32
  ![v1013.toNat, 16]
def k1_off366 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1017 : Index := Scalar.indexCast arg11
  let c32_514 : Index := 32#32
  ![v1017.toNat, 32]
def k1_off367 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1021 : Index := Scalar.indexCast arg11
  let c48_515 : Index := 48#32
  ![v1021.toNat, 48]
def k1_off368 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1025 : Index := Scalar.indexCast arg11
  let c64_516 : Index := 64#32
  ![v1025.toNat, 64]
def k1_off369 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1029 : Index := Scalar.indexCast arg11
  let c80_517 : Index := 80#32
  ![v1029.toNat, 80]
def k1_off370 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1033 : Index := Scalar.indexCast arg11
  let c96_518 : Index := 96#32
  ![v1033.toNat, 96]
def k1_off371 (i : grid1.Coords) (v47 : BitVec 32) (v49 : BitVec 32) (k1_t1 : Fin k1_t1_loop.trips) (k1_t46 : Fin (k1_t46_loop i v47 v49 k1_t1).trips) : Fin 2 → Nat :=
  let c256_i32_423 : BitVec 32 := 256#32
  let c0_i32_422 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v835 : BitVec 32 := Scalar.subi v47 v596
  let v836 : BitVec 32 := Scalar.maxsi c0_i32_422 v835
  let v837 : BitVec 32 := Scalar.minsi c256_i32_423 v836
  let c256_i32_425 : BitVec 32 := 256#32
  let c0_i32_424 : BitVec 32 := 0#32
  let v838 : BitVec 32 := Scalar.subi v49 v596
  let v839 : BitVec 32 := Scalar.maxsi c0_i32_424 v838
  let v840 : BitVec 32 := Scalar.minsi c256_i32_425 v839
  let v841 : BitVec 32 := Scalar.subi v840 v837
  let c0_i32_459 : BitVec 32 := 0#32
  let v896 : BitVec 1 := Scalar.cmpi .sgt v841 c0_i32_459
  let v897 : BitVec 32 := Scalar.extui v896
  let c0_i32_460 : BitVec 32 := 0#32
  let v898 : BitVec 1 := Scalar.cmpi .slt v841 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v841 c4_i32_458
  let c0_i32_463 : BitVec 32 := 0#32
  let v908 : BitVec 1 := Scalar.cmpi .ne v907 c0_i32_463
  let v909 : BitVec 1 := Scalar.andi v906 v908
  let v895 : BitVec 32 := Scalar.divsi v841 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v837 v912
  let v938 : BitVec 32 := Scalar.subi v840 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t46
  let v1037 : Index := Scalar.indexCast arg11
  let c112_519 : Index := 112#32
  ![v1037.toNat, 112]
@[reducible] def k1_t47_loop (i : grid1.Coords) (v49 : BitVec 32) (v51 : BitVec 32) (k1_t1 : Fin k1_t1_loop.trips) : Scf.Loop 32 :=
  let c0_i32_473 : BitVec 32 := 0#32
  let c256_i32_431 : BitVec 32 := 256#32
  let c0_i32_430 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v848 : BitVec 32 := Scalar.subi v51 v596
  let v849 : BitVec 32 := Scalar.maxsi c0_i32_430 v848
  let v850 : BitVec 32 := Scalar.minsi c256_i32_431 v849
  let c256_i32_429 : BitVec 32 := 256#32
  let c0_i32_428 : BitVec 32 := 0#32
  let v845 : BitVec 32 := Scalar.subi v49 v596
  let v846 : BitVec 32 := Scalar.maxsi c0_i32_428 v845
  let v847 : BitVec 32 := Scalar.minsi c256_i32_429 v846
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond15 (i : grid1.Coords) (v49 : BitVec 32) (v51 : BitVec 32) (k1_t1 : Fin k1_t1_loop.trips) : BitVec 1 :=
  let c256_i32_431 : BitVec 32 := 256#32
  let c0_i32_430 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v848 : BitVec 32 := Scalar.subi v51 v596
  let v849 : BitVec 32 := Scalar.maxsi c0_i32_430 v848
  let v850 : BitVec 32 := Scalar.minsi c256_i32_431 v849
  let c256_i32_429 : BitVec 32 := 256#32
  let c0_i32_428 : BitVec 32 := 0#32
  let v845 : BitVec 32 := Scalar.subi v49 v596
  let v846 : BitVec 32 := Scalar.maxsi c0_i32_428 v845
  let v847 : BitVec 32 := Scalar.minsi c256_i32_429 v846
  let v851 : BitVec 32 := Scalar.subi v850 v847
  let c0_i32_432 : BitVec 32 := 0#32
  let v852 : BitVec 1 := Scalar.cmpi .sgt v851 c0_i32_432
  let v853 : BitVec 32 := Scalar.extui v852
  let c0_i32_433 : BitVec 32 := 0#32
  let v854 : BitVec 1 := Scalar.cmpi .ne v853 c0_i32_433
  v854

def k1_off372 (i : grid1.Coords) (v49 : BitVec 32) (v51 : BitVec 32) (k1_t1 : Fin k1_t1_loop.trips) (k1_t47 : Fin (k1_t47_loop i v49 v51 k1_t1).trips) (c0_i32_513 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1011 : BitVec 32 := Scalar.addi v1010 c0_i32_513
  let v1012 : Index := Scalar.indexCast v1011
  let c0_514 : Index := 0#32
  ![v1012.toNat, 0]
def k1_off373 (i : grid1.Coords) (v49 : BitVec 32) (v51 : BitVec 32) (k1_t1 : Fin k1_t1_loop.trips) (k1_t47 : Fin (k1_t47_loop i v49 v51 k1_t1).trips) (c0_i32_515 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1016 : BitVec 32 := Scalar.addi v1010 c0_i32_515
  let v1017 : Index := Scalar.indexCast v1016
  let c16_516 : Index := 16#32
  ![v1017.toNat, 16]
def k1_off374 (i : grid1.Coords) (v49 : BitVec 32) (v51 : BitVec 32) (k1_t1 : Fin k1_t1_loop.trips) (k1_t47 : Fin (k1_t47_loop i v49 v51 k1_t1).trips) (c0_i32_517 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1021 : BitVec 32 := Scalar.addi v1010 c0_i32_517
  let v1022 : Index := Scalar.indexCast v1021
  let c32_518 : Index := 32#32
  ![v1022.toNat, 32]
def k1_off375 (i : grid1.Coords) (v49 : BitVec 32) (v51 : BitVec 32) (k1_t1 : Fin k1_t1_loop.trips) (k1_t47 : Fin (k1_t47_loop i v49 v51 k1_t1).trips) (c0_i32_519 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1026 : BitVec 32 := Scalar.addi v1010 c0_i32_519
  let v1027 : Index := Scalar.indexCast v1026
  let c48_520 : Index := 48#32
  ![v1027.toNat, 48]
def k1_off376 (i : grid1.Coords) (v49 : BitVec 32) (v51 : BitVec 32) (k1_t1 : Fin k1_t1_loop.trips) (k1_t47 : Fin (k1_t47_loop i v49 v51 k1_t1).trips) (c0_i32_521 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1031 : BitVec 32 := Scalar.addi v1010 c0_i32_521
  let v1032 : Index := Scalar.indexCast v1031
  let c64_522 : Index := 64#32
  ![v1032.toNat, 64]
def k1_off377 (i : grid1.Coords) (v49 : BitVec 32) (v51 : BitVec 32) (k1_t1 : Fin k1_t1_loop.trips) (k1_t47 : Fin (k1_t47_loop i v49 v51 k1_t1).trips) (c0_i32_523 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1036 : BitVec 32 := Scalar.addi v1010 c0_i32_523
  let v1037 : Index := Scalar.indexCast v1036
  let c80_524 : Index := 80#32
  ![v1037.toNat, 80]
def k1_off378 (i : grid1.Coords) (v49 : BitVec 32) (v51 : BitVec 32) (k1_t1 : Fin k1_t1_loop.trips) (k1_t47 : Fin (k1_t47_loop i v49 v51 k1_t1).trips) (c0_i32_525 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1041 : BitVec 32 := Scalar.addi v1010 c0_i32_525
  let v1042 : Index := Scalar.indexCast v1041
  let c96_526 : Index := 96#32
  ![v1042.toNat, 96]
def k1_off379 (i : grid1.Coords) (v49 : BitVec 32) (v51 : BitVec 32) (k1_t1 : Fin k1_t1_loop.trips) (k1_t47 : Fin (k1_t47_loop i v49 v51 k1_t1).trips) (c0_i32_527 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c1_i32_475 : BitVec 32 := 1#32
  let arg11 : BitVec 32 := Scf.iv c0_i32_473 c1_i32_475 k1_t47
  let c4_i32_512 : BitVec 32 := 4#32
  let v1009 : BitVec 32 := Scalar.muli arg11 c4_i32_512
  let v1010 : BitVec 32 := Scalar.addi v847 v1009
  let v1046 : BitVec 32 := Scalar.addi v1010 c0_i32_527
  let v1047 : Index := Scalar.indexCast v1046
  let c112_528 : Index := 112#32
  ![v1047.toNat, 112]
@[reducible] def k1_t48_loop (i : grid1.Coords) (v49 : BitVec 32) (v51 : BitVec 32) (k1_t1 : Fin k1_t1_loop.trips) : Scf.Loop 32 :=
  let c0_i32_473 : BitVec 32 := 0#32
  let c256_i32_431 : BitVec 32 := 256#32
  let c0_i32_430 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v848 : BitVec 32 := Scalar.subi v51 v596
  let v849 : BitVec 32 := Scalar.maxsi c0_i32_430 v848
  let v850 : BitVec 32 := Scalar.minsi c256_i32_431 v849
  let c256_i32_429 : BitVec 32 := 256#32
  let c0_i32_428 : BitVec 32 := 0#32
  let v845 : BitVec 32 := Scalar.subi v49 v596
  let v846 : BitVec 32 := Scalar.maxsi c0_i32_428 v845
  let v847 : BitVec 32 := Scalar.minsi c256_i32_429 v846
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off380 (i : grid1.Coords) (v49 : BitVec 32) (v51 : BitVec 32) (k1_t1 : Fin k1_t1_loop.trips) (k1_t48 : Fin (k1_t48_loop i v49 v51 k1_t1).trips) (c0_i32_513 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1011 : BitVec 32 := Scalar.addi v1010 c0_i32_513
  let v1012 : Index := Scalar.indexCast v1011
  let c0_514 : Index := 0#32
  ![v1012.toNat, 0]
def k1_off381 (i : grid1.Coords) (v49 : BitVec 32) (v51 : BitVec 32) (k1_t1 : Fin k1_t1_loop.trips) (k1_t48 : Fin (k1_t48_loop i v49 v51 k1_t1).trips) (c0_i32_515 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1016 : BitVec 32 := Scalar.addi v1010 c0_i32_515
  let v1017 : Index := Scalar.indexCast v1016
  let c16_516 : Index := 16#32
  ![v1017.toNat, 16]
def k1_off382 (i : grid1.Coords) (v49 : BitVec 32) (v51 : BitVec 32) (k1_t1 : Fin k1_t1_loop.trips) (k1_t48 : Fin (k1_t48_loop i v49 v51 k1_t1).trips) (c0_i32_517 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1021 : BitVec 32 := Scalar.addi v1010 c0_i32_517
  let v1022 : Index := Scalar.indexCast v1021
  let c32_518 : Index := 32#32
  ![v1022.toNat, 32]
def k1_off383 (i : grid1.Coords) (v49 : BitVec 32) (v51 : BitVec 32) (k1_t1 : Fin k1_t1_loop.trips) (k1_t48 : Fin (k1_t48_loop i v49 v51 k1_t1).trips) (c0_i32_519 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1026 : BitVec 32 := Scalar.addi v1010 c0_i32_519
  let v1027 : Index := Scalar.indexCast v1026
  let c48_520 : Index := 48#32
  ![v1027.toNat, 48]
def k1_off384 (i : grid1.Coords) (v49 : BitVec 32) (v51 : BitVec 32) (k1_t1 : Fin k1_t1_loop.trips) (k1_t48 : Fin (k1_t48_loop i v49 v51 k1_t1).trips) (c0_i32_521 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1031 : BitVec 32 := Scalar.addi v1010 c0_i32_521
  let v1032 : Index := Scalar.indexCast v1031
  let c64_522 : Index := 64#32
  ![v1032.toNat, 64]
def k1_off385 (i : grid1.Coords) (v49 : BitVec 32) (v51 : BitVec 32) (k1_t1 : Fin k1_t1_loop.trips) (k1_t48 : Fin (k1_t48_loop i v49 v51 k1_t1).trips) (c0_i32_523 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1036 : BitVec 32 := Scalar.addi v1010 c0_i32_523
  let v1037 : Index := Scalar.indexCast v1036
  let c80_524 : Index := 80#32
  ![v1037.toNat, 80]
def k1_off386 (i : grid1.Coords) (v49 : BitVec 32) (v51 : BitVec 32) (k1_t1 : Fin k1_t1_loop.trips) (k1_t48 : Fin (k1_t48_loop i v49 v51 k1_t1).trips) (c0_i32_525 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1041 : BitVec 32 := Scalar.addi v1010 c0_i32_525
  let v1042 : Index := Scalar.indexCast v1041
  let c96_526 : Index := 96#32
  ![v1042.toNat, 96]
def k1_off387 (i : grid1.Coords) (v49 : BitVec 32) (v51 : BitVec 32) (k1_t1 : Fin k1_t1_loop.trips) (k1_t48 : Fin (k1_t48_loop i v49 v51 k1_t1).trips) (c0_i32_527 : BitVec 32) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c0_i32_473 : BitVec 32 := 0#32
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t48
  let c4_i32_512 : BitVec 32 := 4#32
  let v1009 : BitVec 32 := Scalar.muli arg11 c4_i32_512
  let v1010 : BitVec 32 := Scalar.addi v847 v1009
  let v1046 : BitVec 32 := Scalar.addi v1010 c0_i32_527
  let v1047 : Index := Scalar.indexCast v1046
  let c112_528 : Index := 112#32
  ![v1047.toNat, 112]
@[reducible] def k1_t49_loop (i : grid1.Coords) (v49 : BitVec 32) (v51 : BitVec 32) (k1_t1 : Fin k1_t1_loop.trips) : Scf.Loop 32 :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off388 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1009 : Index := Scalar.indexCast arg11
  let c0_512 : Index := 0#32
  ![v1009.toNat, 0]
def k1_off389 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1013 : Index := Scalar.indexCast arg11
  let c16_513 : Index := 16#32
  ![v1013.toNat, 16]
def k1_off390 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1017 : Index := Scalar.indexCast arg11
  let c32_514 : Index := 32#32
  ![v1017.toNat, 32]
def k1_off391 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1021 : Index := Scalar.indexCast arg11
  let c48_515 : Index := 48#32
  ![v1021.toNat, 48]
def k1_off392 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1025 : Index := Scalar.indexCast arg11
  let c64_516 : Index := 64#32
  ![v1025.toNat, 64]
def k1_off393 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1029 : Index := Scalar.indexCast arg11
  let c80_517 : Index := 80#32
  ![v1029.toNat, 80]
def k1_off394 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1033 : Index := Scalar.indexCast arg11
  let c96_518 : Index := 96#32
  ![v1033.toNat, 96]
def k1_off395 (i : grid1.Coords) (v49 : BitVec 32) (v51 : BitVec 32) (k1_t1 : Fin k1_t1_loop.trips) (k1_t49 : Fin (k1_t49_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let c1_i32_478 : BitVec 32 := 1#32
  let arg11 : BitVec 32 := Scf.iv v937 c1_i32_478 k1_t49
  let v1037 : Index := Scalar.indexCast arg11
  let c112_519 : Index := 112#32
  ![v1037.toNat, 112]
@[reducible] def k1_t50_loop (i : grid1.Coords) (v49 : BitVec 32) (v51 : BitVec 32) (k1_t1 : Fin k1_t1_loop.trips) : Scf.Loop 32 :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off396 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1009 : Index := Scalar.indexCast arg11
  let c0_512 : Index := 0#32
  ![v1009.toNat, 0]
def k1_off397 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1013 : Index := Scalar.indexCast arg11
  let c16_513 : Index := 16#32
  ![v1013.toNat, 16]
def k1_off398 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1017 : Index := Scalar.indexCast arg11
  let c32_514 : Index := 32#32
  ![v1017.toNat, 32]
def k1_off399 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1021 : Index := Scalar.indexCast arg11
  let c48_515 : Index := 48#32
  ![v1021.toNat, 48]
def k1_off400 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1025 : Index := Scalar.indexCast arg11
  let c64_516 : Index := 64#32
  ![v1025.toNat, 64]
def k1_off401 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1029 : Index := Scalar.indexCast arg11
  let c80_517 : Index := 80#32
  ![v1029.toNat, 80]
def k1_off402 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1033 : Index := Scalar.indexCast arg11
  let c96_518 : Index := 96#32
  ![v1033.toNat, 96]
def k1_off403 (i : grid1.Coords) (v49 : BitVec 32) (v51 : BitVec 32) (k1_t1 : Fin k1_t1_loop.trips) (k1_t50 : Fin (k1_t50_loop i v49 v51 k1_t1).trips) : Fin 2 → Nat :=
  let c256_i32_429 : BitVec 32 := 256#32
  let c0_i32_428 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v845 : BitVec 32 := Scalar.subi v49 v596
  let v846 : BitVec 32 := Scalar.maxsi c0_i32_428 v845
  let v847 : BitVec 32 := Scalar.minsi c256_i32_429 v846
  let c256_i32_431 : BitVec 32 := 256#32
  let c0_i32_430 : BitVec 32 := 0#32
  let v848 : BitVec 32 := Scalar.subi v51 v596
  let v849 : BitVec 32 := Scalar.maxsi c0_i32_430 v848
  let v850 : BitVec 32 := Scalar.minsi c256_i32_431 v849
  let v851 : BitVec 32 := Scalar.subi v850 v847
  let c0_i32_459 : BitVec 32 := 0#32
  let v896 : BitVec 1 := Scalar.cmpi .sgt v851 c0_i32_459
  let v897 : BitVec 32 := Scalar.extui v896
  let c0_i32_460 : BitVec 32 := 0#32
  let v898 : BitVec 1 := Scalar.cmpi .slt v851 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v851 c4_i32_458
  let c0_i32_463 : BitVec 32 := 0#32
  let v908 : BitVec 1 := Scalar.cmpi .ne v907 c0_i32_463
  let v909 : BitVec 1 := Scalar.andi v906 v908
  let v895 : BitVec 32 := Scalar.divsi v851 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v847 v912
  let v938 : BitVec 32 := Scalar.subi v850 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t50
  let v1037 : Index := Scalar.indexCast arg11
  let c112_519 : Index := 112#32
  ![v1037.toNat, 112]
@[reducible] def k1_t51_loop (i : grid1.Coords) (v51 : BitVec 32) (v53 : BitVec 32) (k1_t1 : Fin k1_t1_loop.trips) : Scf.Loop 32 :=
  let c0_i32_473 : BitVec 32 := 0#32
  let c256_i32_437 : BitVec 32 := 256#32
  let c0_i32_436 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v858 : BitVec 32 := Scalar.subi v53 v596
  let v859 : BitVec 32 := Scalar.maxsi c0_i32_436 v858
  let v860 : BitVec 32 := Scalar.minsi c256_i32_437 v859
  let c256_i32_435 : BitVec 32 := 256#32
  let c0_i32_434 : BitVec 32 := 0#32
  let v855 : BitVec 32 := Scalar.subi v51 v596
  let v856 : BitVec 32 := Scalar.maxsi c0_i32_434 v855
  let v857 : BitVec 32 := Scalar.minsi c256_i32_435 v856
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond16 (i : grid1.Coords) (v51 : BitVec 32) (v53 : BitVec 32) (k1_t1 : Fin k1_t1_loop.trips) : BitVec 1 :=
  let c256_i32_437 : BitVec 32 := 256#32
  let c0_i32_436 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v858 : BitVec 32 := Scalar.subi v53 v596
  let v859 : BitVec 32 := Scalar.maxsi c0_i32_436 v858
  let v860 : BitVec 32 := Scalar.minsi c256_i32_437 v859
  let c256_i32_435 : BitVec 32 := 256#32
  let c0_i32_434 : BitVec 32 := 0#32
  let v855 : BitVec 32 := Scalar.subi v51 v596
  let v856 : BitVec 32 := Scalar.maxsi c0_i32_434 v855
  let v857 : BitVec 32 := Scalar.minsi c256_i32_435 v856
  let v861 : BitVec 32 := Scalar.subi v860 v857
  let c0_i32_438 : BitVec 32 := 0#32
  let v862 : BitVec 1 := Scalar.cmpi .sgt v861 c0_i32_438
  let v863 : BitVec 32 := Scalar.extui v862
  let c0_i32_439 : BitVec 32 := 0#32
  let v864 : BitVec 1 := Scalar.cmpi .ne v863 c0_i32_439
  v864

def k1_off404 (i : grid1.Coords) (v51 : BitVec 32) (v53 : BitVec 32) (k1_t1 : Fin k1_t1_loop.trips) (k1_t51 : Fin (k1_t51_loop i v51 v53 k1_t1).trips) (c0_i32_513 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1011 : BitVec 32 := Scalar.addi v1010 c0_i32_513
  let v1012 : Index := Scalar.indexCast v1011
  let c0_514 : Index := 0#32
  ![v1012.toNat, 0]
def k1_off405 (i : grid1.Coords) (v51 : BitVec 32) (v53 : BitVec 32) (k1_t1 : Fin k1_t1_loop.trips) (k1_t51 : Fin (k1_t51_loop i v51 v53 k1_t1).trips) (c0_i32_515 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1016 : BitVec 32 := Scalar.addi v1010 c0_i32_515
  let v1017 : Index := Scalar.indexCast v1016
  let c16_516 : Index := 16#32
  ![v1017.toNat, 16]
def k1_off406 (i : grid1.Coords) (v51 : BitVec 32) (v53 : BitVec 32) (k1_t1 : Fin k1_t1_loop.trips) (k1_t51 : Fin (k1_t51_loop i v51 v53 k1_t1).trips) (c0_i32_517 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1021 : BitVec 32 := Scalar.addi v1010 c0_i32_517
  let v1022 : Index := Scalar.indexCast v1021
  let c32_518 : Index := 32#32
  ![v1022.toNat, 32]
def k1_off407 (i : grid1.Coords) (v51 : BitVec 32) (v53 : BitVec 32) (k1_t1 : Fin k1_t1_loop.trips) (k1_t51 : Fin (k1_t51_loop i v51 v53 k1_t1).trips) (c0_i32_519 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1026 : BitVec 32 := Scalar.addi v1010 c0_i32_519
  let v1027 : Index := Scalar.indexCast v1026
  let c48_520 : Index := 48#32
  ![v1027.toNat, 48]

variable {F : FTy → Type} [FloatOps F]

def k1_off408 (i : grid1.Coords) (v51 : BitVec 32) (v53 : BitVec 32) (k1_t1 : Fin k1_t1_loop.trips) (k1_t51 : Fin (k1_t51_loop i v51 v53 k1_t1).trips) (c0_i32_521 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1031 : BitVec 32 := Scalar.addi v1010 c0_i32_521
  let v1032 : Index := Scalar.indexCast v1031
  let c64_522 : Index := 64#32
  ![v1032.toNat, 64]
def k1_off409 (i : grid1.Coords) (v51 : BitVec 32) (v53 : BitVec 32) (k1_t1 : Fin k1_t1_loop.trips) (k1_t51 : Fin (k1_t51_loop i v51 v53 k1_t1).trips) (c0_i32_523 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1036 : BitVec 32 := Scalar.addi v1010 c0_i32_523
  let v1037 : Index := Scalar.indexCast v1036
  let c80_524 : Index := 80#32
  ![v1037.toNat, 80]
def k1_off410 (i : grid1.Coords) (v51 : BitVec 32) (v53 : BitVec 32) (k1_t1 : Fin k1_t1_loop.trips) (k1_t51 : Fin (k1_t51_loop i v51 v53 k1_t1).trips) (c0_i32_525 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1041 : BitVec 32 := Scalar.addi v1010 c0_i32_525
  let v1042 : Index := Scalar.indexCast v1041
  let c96_526 : Index := 96#32
  ![v1042.toNat, 96]
def k1_off411 (i : grid1.Coords) (v51 : BitVec 32) (v53 : BitVec 32) (k1_t1 : Fin k1_t1_loop.trips) (k1_t51 : Fin (k1_t51_loop i v51 v53 k1_t1).trips) (c0_i32_527 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c1_i32_475 : BitVec 32 := 1#32
  let arg11 : BitVec 32 := Scf.iv c0_i32_473 c1_i32_475 k1_t51
  let c4_i32_512 : BitVec 32 := 4#32
  let v1009 : BitVec 32 := Scalar.muli arg11 c4_i32_512
  let v1010 : BitVec 32 := Scalar.addi v857 v1009
  let v1046 : BitVec 32 := Scalar.addi v1010 c0_i32_527
  let v1047 : Index := Scalar.indexCast v1046
  let c112_528 : Index := 112#32
  ![v1047.toNat, 112]
@[reducible] def k1_t52_loop (i : grid1.Coords) (v51 : BitVec 32) (v53 : BitVec 32) (k1_t1 : Fin k1_t1_loop.trips) : Scf.Loop 32 :=
  let c0_i32_473 : BitVec 32 := 0#32
  let c256_i32_437 : BitVec 32 := 256#32
  let c0_i32_436 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v858 : BitVec 32 := Scalar.subi v53 v596
  let v859 : BitVec 32 := Scalar.maxsi c0_i32_436 v858
  let v860 : BitVec 32 := Scalar.minsi c256_i32_437 v859
  let c256_i32_435 : BitVec 32 := 256#32
  let c0_i32_434 : BitVec 32 := 0#32
  let v855 : BitVec 32 := Scalar.subi v51 v596
  let v856 : BitVec 32 := Scalar.maxsi c0_i32_434 v855
  let v857 : BitVec 32 := Scalar.minsi c256_i32_435 v856
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off412 (i : grid1.Coords) (v51 : BitVec 32) (v53 : BitVec 32) (k1_t1 : Fin k1_t1_loop.trips) (k1_t52 : Fin (k1_t52_loop i v51 v53 k1_t1).trips) (c0_i32_513 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1011 : BitVec 32 := Scalar.addi v1010 c0_i32_513
  let v1012 : Index := Scalar.indexCast v1011
  let c0_514 : Index := 0#32
  ![v1012.toNat, 0]
def k1_off413 (i : grid1.Coords) (v51 : BitVec 32) (v53 : BitVec 32) (k1_t1 : Fin k1_t1_loop.trips) (k1_t52 : Fin (k1_t52_loop i v51 v53 k1_t1).trips) (c0_i32_515 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1016 : BitVec 32 := Scalar.addi v1010 c0_i32_515
  let v1017 : Index := Scalar.indexCast v1016
  let c16_516 : Index := 16#32
  ![v1017.toNat, 16]
def k1_off414 (i : grid1.Coords) (v51 : BitVec 32) (v53 : BitVec 32) (k1_t1 : Fin k1_t1_loop.trips) (k1_t52 : Fin (k1_t52_loop i v51 v53 k1_t1).trips) (c0_i32_517 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1021 : BitVec 32 := Scalar.addi v1010 c0_i32_517
  let v1022 : Index := Scalar.indexCast v1021
  let c32_518 : Index := 32#32
  ![v1022.toNat, 32]
def k1_off415 (i : grid1.Coords) (v51 : BitVec 32) (v53 : BitVec 32) (k1_t1 : Fin k1_t1_loop.trips) (k1_t52 : Fin (k1_t52_loop i v51 v53 k1_t1).trips) (c0_i32_519 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1026 : BitVec 32 := Scalar.addi v1010 c0_i32_519
  let v1027 : Index := Scalar.indexCast v1026
  let c48_520 : Index := 48#32
  ![v1027.toNat, 48]
def k1_off416 (i : grid1.Coords) (v51 : BitVec 32) (v53 : BitVec 32) (k1_t1 : Fin k1_t1_loop.trips) (k1_t52 : Fin (k1_t52_loop i v51 v53 k1_t1).trips) (c0_i32_521 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1031 : BitVec 32 := Scalar.addi v1010 c0_i32_521
  let v1032 : Index := Scalar.indexCast v1031
  let c64_522 : Index := 64#32
  ![v1032.toNat, 64]
def k1_off417 (i : grid1.Coords) (v51 : BitVec 32) (v53 : BitVec 32) (k1_t1 : Fin k1_t1_loop.trips) (k1_t52 : Fin (k1_t52_loop i v51 v53 k1_t1).trips) (c0_i32_523 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1036 : BitVec 32 := Scalar.addi v1010 c0_i32_523
  let v1037 : Index := Scalar.indexCast v1036
  let c80_524 : Index := 80#32
  ![v1037.toNat, 80]
def k1_off418 (i : grid1.Coords) (v51 : BitVec 32) (v53 : BitVec 32) (k1_t1 : Fin k1_t1_loop.trips) (k1_t52 : Fin (k1_t52_loop i v51 v53 k1_t1).trips) (c0_i32_525 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1041 : BitVec 32 := Scalar.addi v1010 c0_i32_525
  let v1042 : Index := Scalar.indexCast v1041
  let c96_526 : Index := 96#32
  ![v1042.toNat, 96]
def k1_off419 (i : grid1.Coords) (v51 : BitVec 32) (v53 : BitVec 32) (k1_t1 : Fin k1_t1_loop.trips) (k1_t52 : Fin (k1_t52_loop i v51 v53 k1_t1).trips) (c0_i32_527 : BitVec 32) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c0_i32_473 : BitVec 32 := 0#32
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t52
  let c4_i32_512 : BitVec 32 := 4#32
  let v1009 : BitVec 32 := Scalar.muli arg11 c4_i32_512
  let v1010 : BitVec 32 := Scalar.addi v857 v1009
  let v1046 : BitVec 32 := Scalar.addi v1010 c0_i32_527
  let v1047 : Index := Scalar.indexCast v1046
  let c112_528 : Index := 112#32
  ![v1047.toNat, 112]
@[reducible] def k1_t53_loop (i : grid1.Coords) (v51 : BitVec 32) (v53 : BitVec 32) (k1_t1 : Fin k1_t1_loop.trips) : Scf.Loop 32 :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off420 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1009 : Index := Scalar.indexCast arg11
  let c0_512 : Index := 0#32
  ![v1009.toNat, 0]
def k1_off421 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1013 : Index := Scalar.indexCast arg11
  let c16_513 : Index := 16#32
  ![v1013.toNat, 16]
def k1_off422 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1017 : Index := Scalar.indexCast arg11
  let c32_514 : Index := 32#32
  ![v1017.toNat, 32]
def k1_off423 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1021 : Index := Scalar.indexCast arg11
  let c48_515 : Index := 48#32
  ![v1021.toNat, 48]
def k1_off424 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1025 : Index := Scalar.indexCast arg11
  let c64_516 : Index := 64#32
  ![v1025.toNat, 64]
def k1_off425 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1029 : Index := Scalar.indexCast arg11
  let c80_517 : Index := 80#32
  ![v1029.toNat, 80]
def k1_off426 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1033 : Index := Scalar.indexCast arg11
  let c96_518 : Index := 96#32
  ![v1033.toNat, 96]
def k1_off427 (i : grid1.Coords) (v51 : BitVec 32) (v53 : BitVec 32) (k1_t1 : Fin k1_t1_loop.trips) (k1_t53 : Fin (k1_t53_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let c1_i32_478 : BitVec 32 := 1#32
  let arg11 : BitVec 32 := Scf.iv v937 c1_i32_478 k1_t53
  let v1037 : Index := Scalar.indexCast arg11
  let c112_519 : Index := 112#32
  ![v1037.toNat, 112]
@[reducible] def k1_t54_loop (i : grid1.Coords) (v51 : BitVec 32) (v53 : BitVec 32) (k1_t1 : Fin k1_t1_loop.trips) : Scf.Loop 32 :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off428 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1009 : Index := Scalar.indexCast arg11
  let c0_512 : Index := 0#32
  ![v1009.toNat, 0]
def k1_off429 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1013 : Index := Scalar.indexCast arg11
  let c16_513 : Index := 16#32
  ![v1013.toNat, 16]
def k1_off430 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1017 : Index := Scalar.indexCast arg11
  let c32_514 : Index := 32#32
  ![v1017.toNat, 32]
def k1_off431 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1021 : Index := Scalar.indexCast arg11
  let c48_515 : Index := 48#32
  ![v1021.toNat, 48]
def k1_off432 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1025 : Index := Scalar.indexCast arg11
  let c64_516 : Index := 64#32
  ![v1025.toNat, 64]
def k1_off433 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1029 : Index := Scalar.indexCast arg11
  let c80_517 : Index := 80#32
  ![v1029.toNat, 80]
def k1_off434 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1033 : Index := Scalar.indexCast arg11
  let c96_518 : Index := 96#32
  ![v1033.toNat, 96]
def k1_off435 (i : grid1.Coords) (v51 : BitVec 32) (v53 : BitVec 32) (k1_t1 : Fin k1_t1_loop.trips) (k1_t54 : Fin (k1_t54_loop i v51 v53 k1_t1).trips) : Fin 2 → Nat :=
  let c256_i32_435 : BitVec 32 := 256#32
  let c0_i32_434 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v855 : BitVec 32 := Scalar.subi v51 v596
  let v856 : BitVec 32 := Scalar.maxsi c0_i32_434 v855
  let v857 : BitVec 32 := Scalar.minsi c256_i32_435 v856
  let c256_i32_437 : BitVec 32 := 256#32
  let c0_i32_436 : BitVec 32 := 0#32
  let v858 : BitVec 32 := Scalar.subi v53 v596
  let v859 : BitVec 32 := Scalar.maxsi c0_i32_436 v858
  let v860 : BitVec 32 := Scalar.minsi c256_i32_437 v859
  let v861 : BitVec 32 := Scalar.subi v860 v857
  let c0_i32_459 : BitVec 32 := 0#32
  let v896 : BitVec 1 := Scalar.cmpi .sgt v861 c0_i32_459
  let v897 : BitVec 32 := Scalar.extui v896
  let c0_i32_460 : BitVec 32 := 0#32
  let v898 : BitVec 1 := Scalar.cmpi .slt v861 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v861 c4_i32_458
  let c0_i32_463 : BitVec 32 := 0#32
  let v908 : BitVec 1 := Scalar.cmpi .ne v907 c0_i32_463
  let v909 : BitVec 1 := Scalar.andi v906 v908
  let v895 : BitVec 32 := Scalar.divsi v861 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v857 v912
  let v938 : BitVec 32 := Scalar.subi v860 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t54
  let v1037 : Index := Scalar.indexCast arg11
  let c112_519 : Index := 112#32
  ![v1037.toNat, 112]
@[reducible] def k1_t55_loop (i : grid1.Coords) (v53 : BitVec 32) (v55 : BitVec 32) (k1_t1 : Fin k1_t1_loop.trips) : Scf.Loop 32 :=
  let c0_i32_473 : BitVec 32 := 0#32
  let c256_i32_443 : BitVec 32 := 256#32
  let c0_i32_442 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v868 : BitVec 32 := Scalar.subi v55 v596
  let v869 : BitVec 32 := Scalar.maxsi c0_i32_442 v868
  let v870 : BitVec 32 := Scalar.minsi c256_i32_443 v869
  let c256_i32_441 : BitVec 32 := 256#32
  let c0_i32_440 : BitVec 32 := 0#32
  let v865 : BitVec 32 := Scalar.subi v53 v596
  let v866 : BitVec 32 := Scalar.maxsi c0_i32_440 v865
  let v867 : BitVec 32 := Scalar.minsi c256_i32_441 v866
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond17 (i : grid1.Coords) (v53 : BitVec 32) (v55 : BitVec 32) (k1_t1 : Fin k1_t1_loop.trips) : BitVec 1 :=
  let c256_i32_443 : BitVec 32 := 256#32
  let c0_i32_442 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v868 : BitVec 32 := Scalar.subi v55 v596
  let v869 : BitVec 32 := Scalar.maxsi c0_i32_442 v868
  let v870 : BitVec 32 := Scalar.minsi c256_i32_443 v869
  let c256_i32_441 : BitVec 32 := 256#32
  let c0_i32_440 : BitVec 32 := 0#32
  let v865 : BitVec 32 := Scalar.subi v53 v596
  let v866 : BitVec 32 := Scalar.maxsi c0_i32_440 v865
  let v867 : BitVec 32 := Scalar.minsi c256_i32_441 v866
  let v871 : BitVec 32 := Scalar.subi v870 v867
  let c0_i32_444 : BitVec 32 := 0#32
  let v872 : BitVec 1 := Scalar.cmpi .sgt v871 c0_i32_444
  let v873 : BitVec 32 := Scalar.extui v872
  let c0_i32_445 : BitVec 32 := 0#32
  let v874 : BitVec 1 := Scalar.cmpi .ne v873 c0_i32_445
  v874

def k1_off436 (i : grid1.Coords) (v53 : BitVec 32) (v55 : BitVec 32) (k1_t1 : Fin k1_t1_loop.trips) (k1_t55 : Fin (k1_t55_loop i v53 v55 k1_t1).trips) (c0_i32_513 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1011 : BitVec 32 := Scalar.addi v1010 c0_i32_513
  let v1012 : Index := Scalar.indexCast v1011
  let c0_514 : Index := 0#32
  ![v1012.toNat, 0]
def k1_off437 (i : grid1.Coords) (v53 : BitVec 32) (v55 : BitVec 32) (k1_t1 : Fin k1_t1_loop.trips) (k1_t55 : Fin (k1_t55_loop i v53 v55 k1_t1).trips) (c0_i32_515 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1016 : BitVec 32 := Scalar.addi v1010 c0_i32_515
  let v1017 : Index := Scalar.indexCast v1016
  let c16_516 : Index := 16#32
  ![v1017.toNat, 16]
def k1_off438 (i : grid1.Coords) (v53 : BitVec 32) (v55 : BitVec 32) (k1_t1 : Fin k1_t1_loop.trips) (k1_t55 : Fin (k1_t55_loop i v53 v55 k1_t1).trips) (c0_i32_517 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1021 : BitVec 32 := Scalar.addi v1010 c0_i32_517
  let v1022 : Index := Scalar.indexCast v1021
  let c32_518 : Index := 32#32
  ![v1022.toNat, 32]
def k1_off439 (i : grid1.Coords) (v53 : BitVec 32) (v55 : BitVec 32) (k1_t1 : Fin k1_t1_loop.trips) (k1_t55 : Fin (k1_t55_loop i v53 v55 k1_t1).trips) (c0_i32_519 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1026 : BitVec 32 := Scalar.addi v1010 c0_i32_519
  let v1027 : Index := Scalar.indexCast v1026
  let c48_520 : Index := 48#32
  ![v1027.toNat, 48]
def k1_off440 (i : grid1.Coords) (v53 : BitVec 32) (v55 : BitVec 32) (k1_t1 : Fin k1_t1_loop.trips) (k1_t55 : Fin (k1_t55_loop i v53 v55 k1_t1).trips) (c0_i32_521 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1031 : BitVec 32 := Scalar.addi v1010 c0_i32_521
  let v1032 : Index := Scalar.indexCast v1031
  let c64_522 : Index := 64#32
  ![v1032.toNat, 64]
def k1_off441 (i : grid1.Coords) (v53 : BitVec 32) (v55 : BitVec 32) (k1_t1 : Fin k1_t1_loop.trips) (k1_t55 : Fin (k1_t55_loop i v53 v55 k1_t1).trips) (c0_i32_523 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1036 : BitVec 32 := Scalar.addi v1010 c0_i32_523
  let v1037 : Index := Scalar.indexCast v1036
  let c80_524 : Index := 80#32
  ![v1037.toNat, 80]
def k1_off442 (i : grid1.Coords) (v53 : BitVec 32) (v55 : BitVec 32) (k1_t1 : Fin k1_t1_loop.trips) (k1_t55 : Fin (k1_t55_loop i v53 v55 k1_t1).trips) (c0_i32_525 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1041 : BitVec 32 := Scalar.addi v1010 c0_i32_525
  let v1042 : Index := Scalar.indexCast v1041
  let c96_526 : Index := 96#32
  ![v1042.toNat, 96]
def k1_off443 (i : grid1.Coords) (v53 : BitVec 32) (v55 : BitVec 32) (k1_t1 : Fin k1_t1_loop.trips) (k1_t55 : Fin (k1_t55_loop i v53 v55 k1_t1).trips) (c0_i32_527 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c1_i32_475 : BitVec 32 := 1#32
  let arg11 : BitVec 32 := Scf.iv c0_i32_473 c1_i32_475 k1_t55
  let c4_i32_512 : BitVec 32 := 4#32
  let v1009 : BitVec 32 := Scalar.muli arg11 c4_i32_512
  let v1010 : BitVec 32 := Scalar.addi v867 v1009
  let v1046 : BitVec 32 := Scalar.addi v1010 c0_i32_527
  let v1047 : Index := Scalar.indexCast v1046
  let c112_528 : Index := 112#32
  ![v1047.toNat, 112]
@[reducible] def k1_t56_loop (i : grid1.Coords) (v53 : BitVec 32) (v55 : BitVec 32) (k1_t1 : Fin k1_t1_loop.trips) : Scf.Loop 32 :=
  let c0_i32_473 : BitVec 32 := 0#32
  let c256_i32_443 : BitVec 32 := 256#32
  let c0_i32_442 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v868 : BitVec 32 := Scalar.subi v55 v596
  let v869 : BitVec 32 := Scalar.maxsi c0_i32_442 v868
  let v870 : BitVec 32 := Scalar.minsi c256_i32_443 v869
  let c256_i32_441 : BitVec 32 := 256#32
  let c0_i32_440 : BitVec 32 := 0#32
  let v865 : BitVec 32 := Scalar.subi v53 v596
  let v866 : BitVec 32 := Scalar.maxsi c0_i32_440 v865
  let v867 : BitVec 32 := Scalar.minsi c256_i32_441 v866
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off444 (i : grid1.Coords) (v53 : BitVec 32) (v55 : BitVec 32) (k1_t1 : Fin k1_t1_loop.trips) (k1_t56 : Fin (k1_t56_loop i v53 v55 k1_t1).trips) (c0_i32_513 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1011 : BitVec 32 := Scalar.addi v1010 c0_i32_513
  let v1012 : Index := Scalar.indexCast v1011
  let c0_514 : Index := 0#32
  ![v1012.toNat, 0]
def k1_off445 (i : grid1.Coords) (v53 : BitVec 32) (v55 : BitVec 32) (k1_t1 : Fin k1_t1_loop.trips) (k1_t56 : Fin (k1_t56_loop i v53 v55 k1_t1).trips) (c0_i32_515 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1016 : BitVec 32 := Scalar.addi v1010 c0_i32_515
  let v1017 : Index := Scalar.indexCast v1016
  let c16_516 : Index := 16#32
  ![v1017.toNat, 16]
def k1_off446 (i : grid1.Coords) (v53 : BitVec 32) (v55 : BitVec 32) (k1_t1 : Fin k1_t1_loop.trips) (k1_t56 : Fin (k1_t56_loop i v53 v55 k1_t1).trips) (c0_i32_517 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1021 : BitVec 32 := Scalar.addi v1010 c0_i32_517
  let v1022 : Index := Scalar.indexCast v1021
  let c32_518 : Index := 32#32
  ![v1022.toNat, 32]
def k1_off447 (i : grid1.Coords) (v53 : BitVec 32) (v55 : BitVec 32) (k1_t1 : Fin k1_t1_loop.trips) (k1_t56 : Fin (k1_t56_loop i v53 v55 k1_t1).trips) (c0_i32_519 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1026 : BitVec 32 := Scalar.addi v1010 c0_i32_519
  let v1027 : Index := Scalar.indexCast v1026
  let c48_520 : Index := 48#32
  ![v1027.toNat, 48]
def k1_off448 (i : grid1.Coords) (v53 : BitVec 32) (v55 : BitVec 32) (k1_t1 : Fin k1_t1_loop.trips) (k1_t56 : Fin (k1_t56_loop i v53 v55 k1_t1).trips) (c0_i32_521 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1031 : BitVec 32 := Scalar.addi v1010 c0_i32_521
  let v1032 : Index := Scalar.indexCast v1031
  let c64_522 : Index := 64#32
  ![v1032.toNat, 64]
def k1_off449 (i : grid1.Coords) (v53 : BitVec 32) (v55 : BitVec 32) (k1_t1 : Fin k1_t1_loop.trips) (k1_t56 : Fin (k1_t56_loop i v53 v55 k1_t1).trips) (c0_i32_523 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1036 : BitVec 32 := Scalar.addi v1010 c0_i32_523
  let v1037 : Index := Scalar.indexCast v1036
  let c80_524 : Index := 80#32
  ![v1037.toNat, 80]
def k1_off450 (i : grid1.Coords) (v53 : BitVec 32) (v55 : BitVec 32) (k1_t1 : Fin k1_t1_loop.trips) (k1_t56 : Fin (k1_t56_loop i v53 v55 k1_t1).trips) (c0_i32_525 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1041 : BitVec 32 := Scalar.addi v1010 c0_i32_525
  let v1042 : Index := Scalar.indexCast v1041
  let c96_526 : Index := 96#32
  ![v1042.toNat, 96]
def k1_off451 (i : grid1.Coords) (v53 : BitVec 32) (v55 : BitVec 32) (k1_t1 : Fin k1_t1_loop.trips) (k1_t56 : Fin (k1_t56_loop i v53 v55 k1_t1).trips) (c0_i32_527 : BitVec 32) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c0_i32_473 : BitVec 32 := 0#32
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t56
  let c4_i32_512 : BitVec 32 := 4#32
  let v1009 : BitVec 32 := Scalar.muli arg11 c4_i32_512
  let v1010 : BitVec 32 := Scalar.addi v867 v1009
  let v1046 : BitVec 32 := Scalar.addi v1010 c0_i32_527
  let v1047 : Index := Scalar.indexCast v1046
  let c112_528 : Index := 112#32
  ![v1047.toNat, 112]
@[reducible] def k1_t57_loop (i : grid1.Coords) (v53 : BitVec 32) (v55 : BitVec 32) (k1_t1 : Fin k1_t1_loop.trips) : Scf.Loop 32 :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off452 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1009 : Index := Scalar.indexCast arg11
  let c0_512 : Index := 0#32
  ![v1009.toNat, 0]
def k1_off453 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1013 : Index := Scalar.indexCast arg11
  let c16_513 : Index := 16#32
  ![v1013.toNat, 16]
def k1_off454 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1017 : Index := Scalar.indexCast arg11
  let c32_514 : Index := 32#32
  ![v1017.toNat, 32]
def k1_off455 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1021 : Index := Scalar.indexCast arg11
  let c48_515 : Index := 48#32
  ![v1021.toNat, 48]
def k1_off456 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1025 : Index := Scalar.indexCast arg11
  let c64_516 : Index := 64#32
  ![v1025.toNat, 64]
def k1_off457 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1029 : Index := Scalar.indexCast arg11
  let c80_517 : Index := 80#32
  ![v1029.toNat, 80]
def k1_off458 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1033 : Index := Scalar.indexCast arg11
  let c96_518 : Index := 96#32
  ![v1033.toNat, 96]
def k1_off459 (i : grid1.Coords) (v53 : BitVec 32) (v55 : BitVec 32) (k1_t1 : Fin k1_t1_loop.trips) (k1_t57 : Fin (k1_t57_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let c1_i32_478 : BitVec 32 := 1#32
  let arg11 : BitVec 32 := Scf.iv v937 c1_i32_478 k1_t57
  let v1037 : Index := Scalar.indexCast arg11
  let c112_519 : Index := 112#32
  ![v1037.toNat, 112]
@[reducible] def k1_t58_loop (i : grid1.Coords) (v53 : BitVec 32) (v55 : BitVec 32) (k1_t1 : Fin k1_t1_loop.trips) : Scf.Loop 32 :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off460 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1009 : Index := Scalar.indexCast arg11
  let c0_512 : Index := 0#32
  ![v1009.toNat, 0]
def k1_off461 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1013 : Index := Scalar.indexCast arg11
  let c16_513 : Index := 16#32
  ![v1013.toNat, 16]
def k1_off462 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1017 : Index := Scalar.indexCast arg11
  let c32_514 : Index := 32#32
  ![v1017.toNat, 32]
def k1_off463 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1021 : Index := Scalar.indexCast arg11
  let c48_515 : Index := 48#32
  ![v1021.toNat, 48]
def k1_off464 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1025 : Index := Scalar.indexCast arg11
  let c64_516 : Index := 64#32
  ![v1025.toNat, 64]
def k1_off465 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1029 : Index := Scalar.indexCast arg11
  let c80_517 : Index := 80#32
  ![v1029.toNat, 80]
def k1_off466 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1033 : Index := Scalar.indexCast arg11
  let c96_518 : Index := 96#32
  ![v1033.toNat, 96]
def k1_off467 (i : grid1.Coords) (v53 : BitVec 32) (v55 : BitVec 32) (k1_t1 : Fin k1_t1_loop.trips) (k1_t58 : Fin (k1_t58_loop i v53 v55 k1_t1).trips) : Fin 2 → Nat :=
  let c256_i32_441 : BitVec 32 := 256#32
  let c0_i32_440 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v865 : BitVec 32 := Scalar.subi v53 v596
  let v866 : BitVec 32 := Scalar.maxsi c0_i32_440 v865
  let v867 : BitVec 32 := Scalar.minsi c256_i32_441 v866
  let c256_i32_443 : BitVec 32 := 256#32
  let c0_i32_442 : BitVec 32 := 0#32
  let v868 : BitVec 32 := Scalar.subi v55 v596
  let v869 : BitVec 32 := Scalar.maxsi c0_i32_442 v868
  let v870 : BitVec 32 := Scalar.minsi c256_i32_443 v869
  let v871 : BitVec 32 := Scalar.subi v870 v867
  let c0_i32_459 : BitVec 32 := 0#32
  let v896 : BitVec 1 := Scalar.cmpi .sgt v871 c0_i32_459
  let v897 : BitVec 32 := Scalar.extui v896
  let c0_i32_460 : BitVec 32 := 0#32
  let v898 : BitVec 1 := Scalar.cmpi .slt v871 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v871 c4_i32_458
  let c0_i32_463 : BitVec 32 := 0#32
  let v908 : BitVec 1 := Scalar.cmpi .ne v907 c0_i32_463
  let v909 : BitVec 1 := Scalar.andi v906 v908
  let v895 : BitVec 32 := Scalar.divsi v871 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v867 v912
  let v938 : BitVec 32 := Scalar.subi v870 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t58
  let v1037 : Index := Scalar.indexCast arg11
  let c112_519 : Index := 112#32
  ![v1037.toNat, 112]
@[reducible] def k1_t59_loop (i : grid1.Coords) (v55 : BitVec 32) (v57 : BitVec 32) (k1_t1 : Fin k1_t1_loop.trips) : Scf.Loop 32 :=
  let c0_i32_473 : BitVec 32 := 0#32
  let c256_i32_449 : BitVec 32 := 256#32
  let c0_i32_448 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v878 : BitVec 32 := Scalar.subi v57 v596
  let v879 : BitVec 32 := Scalar.maxsi c0_i32_448 v878
  let v880 : BitVec 32 := Scalar.minsi c256_i32_449 v879
  let c256_i32_447 : BitVec 32 := 256#32
  let c0_i32_446 : BitVec 32 := 0#32
  let v875 : BitVec 32 := Scalar.subi v55 v596
  let v876 : BitVec 32 := Scalar.maxsi c0_i32_446 v875
  let v877 : BitVec 32 := Scalar.minsi c256_i32_447 v876
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond18 (i : grid1.Coords) (v55 : BitVec 32) (v57 : BitVec 32) (k1_t1 : Fin k1_t1_loop.trips) : BitVec 1 :=
  let c256_i32_449 : BitVec 32 := 256#32
  let c0_i32_448 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v878 : BitVec 32 := Scalar.subi v57 v596
  let v879 : BitVec 32 := Scalar.maxsi c0_i32_448 v878
  let v880 : BitVec 32 := Scalar.minsi c256_i32_449 v879
  let c256_i32_447 : BitVec 32 := 256#32
  let c0_i32_446 : BitVec 32 := 0#32
  let v875 : BitVec 32 := Scalar.subi v55 v596
  let v876 : BitVec 32 := Scalar.maxsi c0_i32_446 v875
  let v877 : BitVec 32 := Scalar.minsi c256_i32_447 v876
  let v881 : BitVec 32 := Scalar.subi v880 v877
  let c0_i32_450 : BitVec 32 := 0#32
  let v882 : BitVec 1 := Scalar.cmpi .sgt v881 c0_i32_450
  let v883 : BitVec 32 := Scalar.extui v882
  let c0_i32_451 : BitVec 32 := 0#32
  let v884 : BitVec 1 := Scalar.cmpi .ne v883 c0_i32_451
  v884

def k1_off468 (i : grid1.Coords) (v55 : BitVec 32) (v57 : BitVec 32) (k1_t1 : Fin k1_t1_loop.trips) (k1_t59 : Fin (k1_t59_loop i v55 v57 k1_t1).trips) (c0_i32_513 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1011 : BitVec 32 := Scalar.addi v1010 c0_i32_513
  let v1012 : Index := Scalar.indexCast v1011
  let c0_514 : Index := 0#32
  ![v1012.toNat, 0]
def k1_off469 (i : grid1.Coords) (v55 : BitVec 32) (v57 : BitVec 32) (k1_t1 : Fin k1_t1_loop.trips) (k1_t59 : Fin (k1_t59_loop i v55 v57 k1_t1).trips) (c0_i32_515 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1016 : BitVec 32 := Scalar.addi v1010 c0_i32_515
  let v1017 : Index := Scalar.indexCast v1016
  let c16_516 : Index := 16#32
  ![v1017.toNat, 16]
def k1_off470 (i : grid1.Coords) (v55 : BitVec 32) (v57 : BitVec 32) (k1_t1 : Fin k1_t1_loop.trips) (k1_t59 : Fin (k1_t59_loop i v55 v57 k1_t1).trips) (c0_i32_517 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1021 : BitVec 32 := Scalar.addi v1010 c0_i32_517
  let v1022 : Index := Scalar.indexCast v1021
  let c32_518 : Index := 32#32
  ![v1022.toNat, 32]
def k1_off471 (i : grid1.Coords) (v55 : BitVec 32) (v57 : BitVec 32) (k1_t1 : Fin k1_t1_loop.trips) (k1_t59 : Fin (k1_t59_loop i v55 v57 k1_t1).trips) (c0_i32_519 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1026 : BitVec 32 := Scalar.addi v1010 c0_i32_519
  let v1027 : Index := Scalar.indexCast v1026
  let c48_520 : Index := 48#32
  ![v1027.toNat, 48]
def k1_off472 (i : grid1.Coords) (v55 : BitVec 32) (v57 : BitVec 32) (k1_t1 : Fin k1_t1_loop.trips) (k1_t59 : Fin (k1_t59_loop i v55 v57 k1_t1).trips) (c0_i32_521 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1031 : BitVec 32 := Scalar.addi v1010 c0_i32_521
  let v1032 : Index := Scalar.indexCast v1031
  let c64_522 : Index := 64#32
  ![v1032.toNat, 64]
def k1_off473 (i : grid1.Coords) (v55 : BitVec 32) (v57 : BitVec 32) (k1_t1 : Fin k1_t1_loop.trips) (k1_t59 : Fin (k1_t59_loop i v55 v57 k1_t1).trips) (c0_i32_523 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1036 : BitVec 32 := Scalar.addi v1010 c0_i32_523
  let v1037 : Index := Scalar.indexCast v1036
  let c80_524 : Index := 80#32
  ![v1037.toNat, 80]
def k1_off474 (i : grid1.Coords) (v55 : BitVec 32) (v57 : BitVec 32) (k1_t1 : Fin k1_t1_loop.trips) (k1_t59 : Fin (k1_t59_loop i v55 v57 k1_t1).trips) (c0_i32_525 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1041 : BitVec 32 := Scalar.addi v1010 c0_i32_525
  let v1042 : Index := Scalar.indexCast v1041
  let c96_526 : Index := 96#32
  ![v1042.toNat, 96]
def k1_off475 (i : grid1.Coords) (v55 : BitVec 32) (v57 : BitVec 32) (k1_t1 : Fin k1_t1_loop.trips) (k1_t59 : Fin (k1_t59_loop i v55 v57 k1_t1).trips) (c0_i32_527 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c1_i32_475 : BitVec 32 := 1#32
  let arg11 : BitVec 32 := Scf.iv c0_i32_473 c1_i32_475 k1_t59
  let c4_i32_512 : BitVec 32 := 4#32
  let v1009 : BitVec 32 := Scalar.muli arg11 c4_i32_512
  let v1010 : BitVec 32 := Scalar.addi v877 v1009
  let v1046 : BitVec 32 := Scalar.addi v1010 c0_i32_527
  let v1047 : Index := Scalar.indexCast v1046
  let c112_528 : Index := 112#32
  ![v1047.toNat, 112]
@[reducible] def k1_t60_loop (i : grid1.Coords) (v55 : BitVec 32) (v57 : BitVec 32) (k1_t1 : Fin k1_t1_loop.trips) : Scf.Loop 32 :=
  let c0_i32_473 : BitVec 32 := 0#32
  let c256_i32_449 : BitVec 32 := 256#32
  let c0_i32_448 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v878 : BitVec 32 := Scalar.subi v57 v596
  let v879 : BitVec 32 := Scalar.maxsi c0_i32_448 v878
  let v880 : BitVec 32 := Scalar.minsi c256_i32_449 v879
  let c256_i32_447 : BitVec 32 := 256#32
  let c0_i32_446 : BitVec 32 := 0#32
  let v875 : BitVec 32 := Scalar.subi v55 v596
  let v876 : BitVec 32 := Scalar.maxsi c0_i32_446 v875
  let v877 : BitVec 32 := Scalar.minsi c256_i32_447 v876
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off476 (i : grid1.Coords) (v55 : BitVec 32) (v57 : BitVec 32) (k1_t1 : Fin k1_t1_loop.trips) (k1_t60 : Fin (k1_t60_loop i v55 v57 k1_t1).trips) (c0_i32_513 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1011 : BitVec 32 := Scalar.addi v1010 c0_i32_513
  let v1012 : Index := Scalar.indexCast v1011
  let c0_514 : Index := 0#32
  ![v1012.toNat, 0]
def k1_off477 (i : grid1.Coords) (v55 : BitVec 32) (v57 : BitVec 32) (k1_t1 : Fin k1_t1_loop.trips) (k1_t60 : Fin (k1_t60_loop i v55 v57 k1_t1).trips) (c0_i32_515 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1016 : BitVec 32 := Scalar.addi v1010 c0_i32_515
  let v1017 : Index := Scalar.indexCast v1016
  let c16_516 : Index := 16#32
  ![v1017.toNat, 16]
def k1_off478 (i : grid1.Coords) (v55 : BitVec 32) (v57 : BitVec 32) (k1_t1 : Fin k1_t1_loop.trips) (k1_t60 : Fin (k1_t60_loop i v55 v57 k1_t1).trips) (c0_i32_517 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1021 : BitVec 32 := Scalar.addi v1010 c0_i32_517
  let v1022 : Index := Scalar.indexCast v1021
  let c32_518 : Index := 32#32
  ![v1022.toNat, 32]
def k1_off479 (i : grid1.Coords) (v55 : BitVec 32) (v57 : BitVec 32) (k1_t1 : Fin k1_t1_loop.trips) (k1_t60 : Fin (k1_t60_loop i v55 v57 k1_t1).trips) (c0_i32_519 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1026 : BitVec 32 := Scalar.addi v1010 c0_i32_519
  let v1027 : Index := Scalar.indexCast v1026
  let c48_520 : Index := 48#32
  ![v1027.toNat, 48]
def k1_off480 (i : grid1.Coords) (v55 : BitVec 32) (v57 : BitVec 32) (k1_t1 : Fin k1_t1_loop.trips) (k1_t60 : Fin (k1_t60_loop i v55 v57 k1_t1).trips) (c0_i32_521 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1031 : BitVec 32 := Scalar.addi v1010 c0_i32_521
  let v1032 : Index := Scalar.indexCast v1031
  let c64_522 : Index := 64#32
  ![v1032.toNat, 64]
def k1_off481 (i : grid1.Coords) (v55 : BitVec 32) (v57 : BitVec 32) (k1_t1 : Fin k1_t1_loop.trips) (k1_t60 : Fin (k1_t60_loop i v55 v57 k1_t1).trips) (c0_i32_523 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1036 : BitVec 32 := Scalar.addi v1010 c0_i32_523
  let v1037 : Index := Scalar.indexCast v1036
  let c80_524 : Index := 80#32
  ![v1037.toNat, 80]
def k1_off482 (i : grid1.Coords) (v55 : BitVec 32) (v57 : BitVec 32) (k1_t1 : Fin k1_t1_loop.trips) (k1_t60 : Fin (k1_t60_loop i v55 v57 k1_t1).trips) (c0_i32_525 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1041 : BitVec 32 := Scalar.addi v1010 c0_i32_525
  let v1042 : Index := Scalar.indexCast v1041
  let c96_526 : Index := 96#32
  ![v1042.toNat, 96]
def k1_off483 (i : grid1.Coords) (v55 : BitVec 32) (v57 : BitVec 32) (k1_t1 : Fin k1_t1_loop.trips) (k1_t60 : Fin (k1_t60_loop i v55 v57 k1_t1).trips) (c0_i32_527 : BitVec 32) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c0_i32_473 : BitVec 32 := 0#32
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t60
  let c4_i32_512 : BitVec 32 := 4#32
  let v1009 : BitVec 32 := Scalar.muli arg11 c4_i32_512
  let v1010 : BitVec 32 := Scalar.addi v877 v1009
  let v1046 : BitVec 32 := Scalar.addi v1010 c0_i32_527
  let v1047 : Index := Scalar.indexCast v1046
  let c112_528 : Index := 112#32
  ![v1047.toNat, 112]
@[reducible] def k1_t61_loop (i : grid1.Coords) (v55 : BitVec 32) (v57 : BitVec 32) (k1_t1 : Fin k1_t1_loop.trips) : Scf.Loop 32 :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off484 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1009 : Index := Scalar.indexCast arg11
  let c0_512 : Index := 0#32
  ![v1009.toNat, 0]
def k1_off485 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1013 : Index := Scalar.indexCast arg11
  let c16_513 : Index := 16#32
  ![v1013.toNat, 16]
def k1_off486 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1017 : Index := Scalar.indexCast arg11
  let c32_514 : Index := 32#32
  ![v1017.toNat, 32]
def k1_off487 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1021 : Index := Scalar.indexCast arg11
  let c48_515 : Index := 48#32
  ![v1021.toNat, 48]
def k1_off488 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1025 : Index := Scalar.indexCast arg11
  let c64_516 : Index := 64#32
  ![v1025.toNat, 64]
def k1_off489 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1029 : Index := Scalar.indexCast arg11
  let c80_517 : Index := 80#32
  ![v1029.toNat, 80]
def k1_off490 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1033 : Index := Scalar.indexCast arg11
  let c96_518 : Index := 96#32
  ![v1033.toNat, 96]
def k1_off491 (i : grid1.Coords) (v55 : BitVec 32) (v57 : BitVec 32) (k1_t1 : Fin k1_t1_loop.trips) (k1_t61 : Fin (k1_t61_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let c1_i32_478 : BitVec 32 := 1#32
  let arg11 : BitVec 32 := Scf.iv v937 c1_i32_478 k1_t61
  let v1037 : Index := Scalar.indexCast arg11
  let c112_519 : Index := 112#32
  ![v1037.toNat, 112]
@[reducible] def k1_t62_loop (i : grid1.Coords) (v55 : BitVec 32) (v57 : BitVec 32) (k1_t1 : Fin k1_t1_loop.trips) : Scf.Loop 32 :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off492 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1009 : Index := Scalar.indexCast arg11
  let c0_512 : Index := 0#32
  ![v1009.toNat, 0]
def k1_off493 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1013 : Index := Scalar.indexCast arg11
  let c16_513 : Index := 16#32
  ![v1013.toNat, 16]
def k1_off494 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1017 : Index := Scalar.indexCast arg11
  let c32_514 : Index := 32#32
  ![v1017.toNat, 32]
def k1_off495 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1021 : Index := Scalar.indexCast arg11
  let c48_515 : Index := 48#32
  ![v1021.toNat, 48]
def k1_off496 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1025 : Index := Scalar.indexCast arg11
  let c64_516 : Index := 64#32
  ![v1025.toNat, 64]
def k1_off497 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1029 : Index := Scalar.indexCast arg11
  let c80_517 : Index := 80#32
  ![v1029.toNat, 80]
def k1_off498 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1033 : Index := Scalar.indexCast arg11
  let c96_518 : Index := 96#32
  ![v1033.toNat, 96]
def k1_off499 (i : grid1.Coords) (v55 : BitVec 32) (v57 : BitVec 32) (k1_t1 : Fin k1_t1_loop.trips) (k1_t62 : Fin (k1_t62_loop i v55 v57 k1_t1).trips) : Fin 2 → Nat :=
  let c256_i32_447 : BitVec 32 := 256#32
  let c0_i32_446 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v875 : BitVec 32 := Scalar.subi v55 v596
  let v876 : BitVec 32 := Scalar.maxsi c0_i32_446 v875
  let v877 : BitVec 32 := Scalar.minsi c256_i32_447 v876
  let c256_i32_449 : BitVec 32 := 256#32
  let c0_i32_448 : BitVec 32 := 0#32
  let v878 : BitVec 32 := Scalar.subi v57 v596
  let v879 : BitVec 32 := Scalar.maxsi c0_i32_448 v878
  let v880 : BitVec 32 := Scalar.minsi c256_i32_449 v879
  let v881 : BitVec 32 := Scalar.subi v880 v877
  let c0_i32_459 : BitVec 32 := 0#32
  let v896 : BitVec 1 := Scalar.cmpi .sgt v881 c0_i32_459
  let v897 : BitVec 32 := Scalar.extui v896
  let c0_i32_460 : BitVec 32 := 0#32
  let v898 : BitVec 1 := Scalar.cmpi .slt v881 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v881 c4_i32_458
  let c0_i32_463 : BitVec 32 := 0#32
  let v908 : BitVec 1 := Scalar.cmpi .ne v907 c0_i32_463
  let v909 : BitVec 1 := Scalar.andi v906 v908
  let v895 : BitVec 32 := Scalar.divsi v881 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v877 v912
  let v938 : BitVec 32 := Scalar.subi v880 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t62
  let v1037 : Index := Scalar.indexCast arg11
  let c112_519 : Index := 112#32
  ![v1037.toNat, 112]
@[reducible] def k1_t63_loop (i : grid1.Coords) (v57 : BitVec 32) (v59 : BitVec 32) (k1_t1 : Fin k1_t1_loop.trips) : Scf.Loop 32 :=
  let c0_i32_473 : BitVec 32 := 0#32
  let c256_i32_455 : BitVec 32 := 256#32
  let c0_i32_454 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v888 : BitVec 32 := Scalar.subi v59 v596
  let v889 : BitVec 32 := Scalar.maxsi c0_i32_454 v888
  let v890 : BitVec 32 := Scalar.minsi c256_i32_455 v889
  let c256_i32_453 : BitVec 32 := 256#32
  let c0_i32_452 : BitVec 32 := 0#32
  let v885 : BitVec 32 := Scalar.subi v57 v596
  let v886 : BitVec 32 := Scalar.maxsi c0_i32_452 v885
  let v887 : BitVec 32 := Scalar.minsi c256_i32_453 v886
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_475 : BitVec 32 := 1#32
  ⟨c0_i32_473, v934, c1_i32_475⟩
def k1_cond19 (i : grid1.Coords) (v57 : BitVec 32) (v59 : BitVec 32) (k1_t1 : Fin k1_t1_loop.trips) : BitVec 1 :=
  let c256_i32_455 : BitVec 32 := 256#32
  let c0_i32_454 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v888 : BitVec 32 := Scalar.subi v59 v596
  let v889 : BitVec 32 := Scalar.maxsi c0_i32_454 v888
  let v890 : BitVec 32 := Scalar.minsi c256_i32_455 v889
  let c256_i32_453 : BitVec 32 := 256#32
  let c0_i32_452 : BitVec 32 := 0#32
  let v885 : BitVec 32 := Scalar.subi v57 v596
  let v886 : BitVec 32 := Scalar.maxsi c0_i32_452 v885
  let v887 : BitVec 32 := Scalar.minsi c256_i32_453 v886
  let v891 : BitVec 32 := Scalar.subi v890 v887
  let c0_i32_456 : BitVec 32 := 0#32
  let v892 : BitVec 1 := Scalar.cmpi .sgt v891 c0_i32_456
  let v893 : BitVec 32 := Scalar.extui v892
  let c0_i32_457 : BitVec 32 := 0#32
  let v894 : BitVec 1 := Scalar.cmpi .ne v893 c0_i32_457
  v894

def k1_off500 (i : grid1.Coords) (v57 : BitVec 32) (v59 : BitVec 32) (k1_t1 : Fin k1_t1_loop.trips) (k1_t63 : Fin (k1_t63_loop i v57 v59 k1_t1).trips) (c0_i32_513 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1011 : BitVec 32 := Scalar.addi v1010 c0_i32_513
  let v1012 : Index := Scalar.indexCast v1011
  let c0_514 : Index := 0#32
  ![v1012.toNat, 0]
def k1_off501 (i : grid1.Coords) (v57 : BitVec 32) (v59 : BitVec 32) (k1_t1 : Fin k1_t1_loop.trips) (k1_t63 : Fin (k1_t63_loop i v57 v59 k1_t1).trips) (c0_i32_515 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1016 : BitVec 32 := Scalar.addi v1010 c0_i32_515
  let v1017 : Index := Scalar.indexCast v1016
  let c16_516 : Index := 16#32
  ![v1017.toNat, 16]
def k1_off502 (i : grid1.Coords) (v57 : BitVec 32) (v59 : BitVec 32) (k1_t1 : Fin k1_t1_loop.trips) (k1_t63 : Fin (k1_t63_loop i v57 v59 k1_t1).trips) (c0_i32_517 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1021 : BitVec 32 := Scalar.addi v1010 c0_i32_517
  let v1022 : Index := Scalar.indexCast v1021
  let c32_518 : Index := 32#32
  ![v1022.toNat, 32]
def k1_off503 (i : grid1.Coords) (v57 : BitVec 32) (v59 : BitVec 32) (k1_t1 : Fin k1_t1_loop.trips) (k1_t63 : Fin (k1_t63_loop i v57 v59 k1_t1).trips) (c0_i32_519 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1026 : BitVec 32 := Scalar.addi v1010 c0_i32_519
  let v1027 : Index := Scalar.indexCast v1026
  let c48_520 : Index := 48#32
  ![v1027.toNat, 48]
def k1_off504 (i : grid1.Coords) (v57 : BitVec 32) (v59 : BitVec 32) (k1_t1 : Fin k1_t1_loop.trips) (k1_t63 : Fin (k1_t63_loop i v57 v59 k1_t1).trips) (c0_i32_521 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1031 : BitVec 32 := Scalar.addi v1010 c0_i32_521
  let v1032 : Index := Scalar.indexCast v1031
  let c64_522 : Index := 64#32
  ![v1032.toNat, 64]
def k1_off505 (i : grid1.Coords) (v57 : BitVec 32) (v59 : BitVec 32) (k1_t1 : Fin k1_t1_loop.trips) (k1_t63 : Fin (k1_t63_loop i v57 v59 k1_t1).trips) (c0_i32_523 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1036 : BitVec 32 := Scalar.addi v1010 c0_i32_523
  let v1037 : Index := Scalar.indexCast v1036
  let c80_524 : Index := 80#32
  ![v1037.toNat, 80]
def k1_off506 (i : grid1.Coords) (v57 : BitVec 32) (v59 : BitVec 32) (k1_t1 : Fin k1_t1_loop.trips) (k1_t63 : Fin (k1_t63_loop i v57 v59 k1_t1).trips) (c0_i32_525 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1041 : BitVec 32 := Scalar.addi v1010 c0_i32_525
  let v1042 : Index := Scalar.indexCast v1041
  let c96_526 : Index := 96#32
  ![v1042.toNat, 96]
def k1_off507 (i : grid1.Coords) (v57 : BitVec 32) (v59 : BitVec 32) (k1_t1 : Fin k1_t1_loop.trips) (k1_t63 : Fin (k1_t63_loop i v57 v59 k1_t1).trips) (c0_i32_527 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c1_i32_475 : BitVec 32 := 1#32
  let arg11 : BitVec 32 := Scf.iv c0_i32_473 c1_i32_475 k1_t63
  let c4_i32_512 : BitVec 32 := 4#32
  let v1009 : BitVec 32 := Scalar.muli arg11 c4_i32_512
  let v1010 : BitVec 32 := Scalar.addi v887 v1009
  let v1046 : BitVec 32 := Scalar.addi v1010 c0_i32_527
  let v1047 : Index := Scalar.indexCast v1046
  let c112_528 : Index := 112#32
  ![v1047.toNat, 112]
@[reducible] def k1_t64_loop (i : grid1.Coords) (v57 : BitVec 32) (v59 : BitVec 32) (k1_t1 : Fin k1_t1_loop.trips) : Scf.Loop 32 :=
  let c0_i32_473 : BitVec 32 := 0#32
  let c256_i32_455 : BitVec 32 := 256#32
  let c0_i32_454 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v888 : BitVec 32 := Scalar.subi v59 v596
  let v889 : BitVec 32 := Scalar.maxsi c0_i32_454 v888
  let v890 : BitVec 32 := Scalar.minsi c256_i32_455 v889
  let c256_i32_453 : BitVec 32 := 256#32
  let c0_i32_452 : BitVec 32 := 0#32
  let v885 : BitVec 32 := Scalar.subi v57 v596
  let v886 : BitVec 32 := Scalar.maxsi c0_i32_452 v885
  let v887 : BitVec 32 := Scalar.minsi c256_i32_453 v886
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let v931 : BitVec 32 := Scalar.addi c0_i32_473 v930
  let c1_i32_476 : BitVec 32 := 1#32
  ⟨v934, v931, c1_i32_476⟩
def k1_off508 (i : grid1.Coords) (v57 : BitVec 32) (v59 : BitVec 32) (k1_t1 : Fin k1_t1_loop.trips) (k1_t64 : Fin (k1_t64_loop i v57 v59 k1_t1).trips) (c0_i32_513 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1011 : BitVec 32 := Scalar.addi v1010 c0_i32_513
  let v1012 : Index := Scalar.indexCast v1011
  let c0_514 : Index := 0#32
  ![v1012.toNat, 0]
def k1_off509 (i : grid1.Coords) (v57 : BitVec 32) (v59 : BitVec 32) (k1_t1 : Fin k1_t1_loop.trips) (k1_t64 : Fin (k1_t64_loop i v57 v59 k1_t1).trips) (c0_i32_515 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1016 : BitVec 32 := Scalar.addi v1010 c0_i32_515
  let v1017 : Index := Scalar.indexCast v1016
  let c16_516 : Index := 16#32
  ![v1017.toNat, 16]
def k1_off510 (i : grid1.Coords) (v57 : BitVec 32) (v59 : BitVec 32) (k1_t1 : Fin k1_t1_loop.trips) (k1_t64 : Fin (k1_t64_loop i v57 v59 k1_t1).trips) (c0_i32_517 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1021 : BitVec 32 := Scalar.addi v1010 c0_i32_517
  let v1022 : Index := Scalar.indexCast v1021
  let c32_518 : Index := 32#32
  ![v1022.toNat, 32]
def k1_off511 (i : grid1.Coords) (v57 : BitVec 32) (v59 : BitVec 32) (k1_t1 : Fin k1_t1_loop.trips) (k1_t64 : Fin (k1_t64_loop i v57 v59 k1_t1).trips) (c0_i32_519 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1026 : BitVec 32 := Scalar.addi v1010 c0_i32_519
  let v1027 : Index := Scalar.indexCast v1026
  let c48_520 : Index := 48#32
  ![v1027.toNat, 48]
def k1_off512 (i : grid1.Coords) (v57 : BitVec 32) (v59 : BitVec 32) (k1_t1 : Fin k1_t1_loop.trips) (k1_t64 : Fin (k1_t64_loop i v57 v59 k1_t1).trips) (c0_i32_521 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1031 : BitVec 32 := Scalar.addi v1010 c0_i32_521
  let v1032 : Index := Scalar.indexCast v1031
  let c64_522 : Index := 64#32
  ![v1032.toNat, 64]
def k1_off513 (i : grid1.Coords) (v57 : BitVec 32) (v59 : BitVec 32) (k1_t1 : Fin k1_t1_loop.trips) (k1_t64 : Fin (k1_t64_loop i v57 v59 k1_t1).trips) (c0_i32_523 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1036 : BitVec 32 := Scalar.addi v1010 c0_i32_523
  let v1037 : Index := Scalar.indexCast v1036
  let c80_524 : Index := 80#32
  ![v1037.toNat, 80]
def k1_off514 (i : grid1.Coords) (v57 : BitVec 32) (v59 : BitVec 32) (k1_t1 : Fin k1_t1_loop.trips) (k1_t64 : Fin (k1_t64_loop i v57 v59 k1_t1).trips) (c0_i32_525 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1041 : BitVec 32 := Scalar.addi v1010 c0_i32_525
  let v1042 : Index := Scalar.indexCast v1041
  let c96_526 : Index := 96#32
  ![v1042.toNat, 96]
def k1_off515 (i : grid1.Coords) (v57 : BitVec 32) (v59 : BitVec 32) (k1_t1 : Fin k1_t1_loop.trips) (k1_t64 : Fin (k1_t64_loop i v57 v59 k1_t1).trips) (c0_i32_527 : BitVec 32) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c0_i32_473 : BitVec 32 := 0#32
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let c0_i32_467 : BitVec 32 := 0#32
  let v914 : BitVec 1 := Scalar.cmpi .sgt v912 c0_i32_467
  let v915 : BitVec 32 := Scalar.extui v914
  let c0_i32_468 : BitVec 32 := 0#32
  let v916 : BitVec 1 := Scalar.cmpi .slt v912 c0_i32_468
  let v917 : BitVec 32 := Scalar.extui v916
  let v918 : BitVec 32 := Scalar.subi v915 v917
  let c4_i32_466 : BitVec 32 := 4#32
  let c0_i32_469 : BitVec 32 := 0#32
  let v919 : BitVec 1 := Scalar.cmpi .sgt c4_i32_466 c0_i32_469
  let v920 : BitVec 32 := Scalar.extui v919
  let c0_i32_470 : BitVec 32 := 0#32
  let v921 : BitVec 1 := Scalar.cmpi .slt c4_i32_466 c0_i32_470
  let v922 : BitVec 32 := Scalar.extui v921
  let v923 : BitVec 32 := Scalar.subi v920 v922
  let v924 : BitVec 1 := Scalar.cmpi .ne v918 v923
  let v925 : BitVec 32 := Scalar.remsi v912 c4_i32_466
  let c0_i32_471 : BitVec 32 := 0#32
  let v926 : BitVec 1 := Scalar.cmpi .ne v925 c0_i32_471
  let v927 : BitVec 1 := Scalar.andi v924 v926
  let v913 : BitVec 32 := Scalar.divsi v912 c4_i32_466
  let c1_i32_472 : BitVec 32 := 1#32
  let v928 : BitVec 32 := Scalar.subi v913 c1_i32_472
  let v929 : BitVec 32 := Scalar.select v927 v928 v913
  let v930 : BitVec 32 := Scalar.subi v929 c0_i32_473
  let c1_i32_474 : BitVec 32 := 1#32
  let v932 : BitVec 32 := Scalar.divsi v930 c1_i32_474
  let v933 : BitVec 32 := Scalar.muli v932 c1_i32_474
  let v934 : BitVec 32 := Scalar.addi c0_i32_473 v933
  let c1_i32_476 : BitVec 32 := 1#32
  let arg11 : BitVec 32 := Scf.iv v934 c1_i32_476 k1_t64
  let c4_i32_512 : BitVec 32 := 4#32
  let v1009 : BitVec 32 := Scalar.muli arg11 c4_i32_512
  let v1010 : BitVec 32 := Scalar.addi v887 v1009
  let v1046 : BitVec 32 := Scalar.addi v1010 c0_i32_527
  let v1047 : Index := Scalar.indexCast v1046
  let c112_528 : Index := 112#32
  ![v1047.toNat, 112]
@[reducible] def k1_t65_loop (i : grid1.Coords) (v57 : BitVec 32) (v59 : BitVec 32) (k1_t1 : Fin k1_t1_loop.trips) : Scf.Loop 32 :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_478 : BitVec 32 := 1#32
  ⟨v937, v942, c1_i32_478⟩
def k1_off516 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1009 : Index := Scalar.indexCast arg11
  let c0_512 : Index := 0#32
  ![v1009.toNat, 0]
def k1_off517 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1013 : Index := Scalar.indexCast arg11
  let c16_513 : Index := 16#32
  ![v1013.toNat, 16]
def k1_off518 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1017 : Index := Scalar.indexCast arg11
  let c32_514 : Index := 32#32
  ![v1017.toNat, 32]
def k1_off519 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1021 : Index := Scalar.indexCast arg11
  let c48_515 : Index := 48#32
  ![v1021.toNat, 48]
def k1_off520 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1025 : Index := Scalar.indexCast arg11
  let c64_516 : Index := 64#32
  ![v1025.toNat, 64]
def k1_off521 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1029 : Index := Scalar.indexCast arg11
  let c80_517 : Index := 80#32
  ![v1029.toNat, 80]
def k1_off522 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1033 : Index := Scalar.indexCast arg11
  let c96_518 : Index := 96#32
  ![v1033.toNat, 96]
def k1_off523 (i : grid1.Coords) (v57 : BitVec 32) (v59 : BitVec 32) (k1_t1 : Fin k1_t1_loop.trips) (k1_t65 : Fin (k1_t65_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let c1_i32_478 : BitVec 32 := 1#32
  let arg11 : BitVec 32 := Scf.iv v937 c1_i32_478 k1_t65
  let v1037 : Index := Scalar.indexCast arg11
  let c112_519 : Index := 112#32
  ![v1037.toNat, 112]
@[reducible] def k1_t66_loop (i : grid1.Coords) (v57 : BitVec 32) (v59 : BitVec 32) (k1_t1 : Fin k1_t1_loop.trips) : Scf.Loop 32 :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let v939 : BitVec 32 := Scalar.addi v937 v938
  let c1_i32_479 : BitVec 32 := 1#32
  ⟨v942, v939, c1_i32_479⟩
def k1_off524 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1009 : Index := Scalar.indexCast arg11
  let c0_512 : Index := 0#32
  ![v1009.toNat, 0]
def k1_off525 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1013 : Index := Scalar.indexCast arg11
  let c16_513 : Index := 16#32
  ![v1013.toNat, 16]
def k1_off526 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1017 : Index := Scalar.indexCast arg11
  let c32_514 : Index := 32#32
  ![v1017.toNat, 32]
def k1_off527 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1021 : Index := Scalar.indexCast arg11
  let c48_515 : Index := 48#32
  ![v1021.toNat, 48]
def k1_off528 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1025 : Index := Scalar.indexCast arg11
  let c64_516 : Index := 64#32
  ![v1025.toNat, 64]
def k1_off529 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1029 : Index := Scalar.indexCast arg11
  let c80_517 : Index := 80#32
  ![v1029.toNat, 80]
def k1_off530 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1033 : Index := Scalar.indexCast arg11
  let c96_518 : Index := 96#32
  ![v1033.toNat, 96]
def k1_off531 (i : grid1.Coords) (v57 : BitVec 32) (v59 : BitVec 32) (k1_t1 : Fin k1_t1_loop.trips) (k1_t66 : Fin (k1_t66_loop i v57 v59 k1_t1).trips) : Fin 2 → Nat :=
  let c256_i32_453 : BitVec 32 := 256#32
  let c0_i32_452 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c256_i32 : BitVec 32 := 256#32
  let v595 : BitVec 32 := Scalar.muli v588 c256_i32
  let v596 : BitVec 32 := Scalar.addi v19 v595
  let v885 : BitVec 32 := Scalar.subi v57 v596
  let v886 : BitVec 32 := Scalar.maxsi c0_i32_452 v885
  let v887 : BitVec 32 := Scalar.minsi c256_i32_453 v886
  let c256_i32_455 : BitVec 32 := 256#32
  let c0_i32_454 : BitVec 32 := 0#32
  let v888 : BitVec 32 := Scalar.subi v59 v596
  let v889 : BitVec 32 := Scalar.maxsi c0_i32_454 v888
  let v890 : BitVec 32 := Scalar.minsi c256_i32_455 v889
  let v891 : BitVec 32 := Scalar.subi v890 v887
  let c0_i32_459 : BitVec 32 := 0#32
  let v896 : BitVec 1 := Scalar.cmpi .sgt v891 c0_i32_459
  let v897 : BitVec 32 := Scalar.extui v896
  let c0_i32_460 : BitVec 32 := 0#32
  let v898 : BitVec 1 := Scalar.cmpi .slt v891 c0_i32_460
  let v899 : BitVec 32 := Scalar.extui v898
  let v900 : BitVec 32 := Scalar.subi v897 v899
  let c4_i32_458 : BitVec 32 := 4#32
  let c0_i32_461 : BitVec 32 := 0#32
  let v901 : BitVec 1 := Scalar.cmpi .sgt c4_i32_458 c0_i32_461
  let v902 : BitVec 32 := Scalar.extui v901
  let c0_i32_462 : BitVec 32 := 0#32
  let v903 : BitVec 1 := Scalar.cmpi .slt c4_i32_458 c0_i32_462
  let v904 : BitVec 32 := Scalar.extui v903
  let v905 : BitVec 32 := Scalar.subi v902 v904
  let v906 : BitVec 1 := Scalar.cmpi .ne v900 v905
  let v907 : BitVec 32 := Scalar.remsi v891 c4_i32_458
  let c0_i32_463 : BitVec 32 := 0#32
  let v908 : BitVec 1 := Scalar.cmpi .ne v907 c0_i32_463
  let v909 : BitVec 1 := Scalar.andi v906 v908
  let v895 : BitVec 32 := Scalar.divsi v891 c4_i32_458
  let c1_i32_464 : BitVec 32 := 1#32
  let v910 : BitVec 32 := Scalar.subi v895 c1_i32_464
  let v911 : BitVec 32 := Scalar.select v909 v910 v895
  let c4_i32_465 : BitVec 32 := 4#32
  let v912 : BitVec 32 := Scalar.muli v911 c4_i32_465
  let v937 : BitVec 32 := Scalar.addi v887 v912
  let v938 : BitVec 32 := Scalar.subi v890 v937
  let c1_i32_477 : BitVec 32 := 1#32
  let v940 : BitVec 32 := Scalar.divsi v938 c1_i32_477
  let v941 : BitVec 32 := Scalar.muli v940 c1_i32_477
  let v942 : BitVec 32 := Scalar.addi v937 v941
  let c1_i32_479 : BitVec 32 := 1#32
  let arg11 : BitVec 32 := Scf.iv v942 c1_i32_479 k1_t66
  let v1037 : Index := Scalar.indexCast arg11
  let c112_519 : Index := 112#32
  ![v1037.toNat, 112]
def k1_cond20 (k1_t1 : Fin k1_t1_loop.trips) : BitVec 1 :=
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_359 : BitVec 32 := 1#32
  let v731 : BitVec 32 := Scalar.addi v588 c1_i32_359
  let c32_i32_360 : BitVec 32 := 32#32
  let v732 : BitVec 1 := Scalar.cmpi .slt v731 c32_i32_360
  let v733 : BitVec 32 := Scalar.extui v732
  let c0_i32_361 : BitVec 32 := 0#32
  let v734 : BitVec 1 := Scalar.cmpi .ne v733 c0_i32_361
  v734

def k1_off532 (i : grid1.Coords) : Fin 2 → Nat :=
  let c0_i32_362 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let c0_i32_7 : BitVec 32 := 0#32
  let v60 : BitVec 1 := Scalar.cmpi .eq c8_i32_6 c0_i32_7
  let c1_i32_8 : BitVec 32 := 1#32
  let v61 : BitVec 32 := Scalar.select v60 c1_i32_8 c8_i32_6
  let v62 : BitVec 32 := Scalar.remsi v1 v61
  let c0_i32_10 : BitVec 32 := 0#32
  let v64 : BitVec 1 := Scalar.cmpi .slt v62 c0_i32_10
  let c0_i32_11 : BitVec 32 := 0#32
  let v65 : BitVec 1 := Scalar.cmpi .slt v61 c0_i32_11
  let v66 : BitVec 1 := Scalar.xori v64 v65
  let c0_i32_9 : BitVec 32 := 0#32
  let v63 : BitVec 1 := Scalar.cmpi .ne v62 c0_i32_9
  let v67 : BitVec 1 := Scalar.andi v66 v63
  let v68 : BitVec 32 := Scalar.addi v62 v61
  let v69 : BitVec 32 := Scalar.select v67 v68 v62
  let c128_i32 : BitVec 32 := 128#32
  let v70 : BitVec 32 := Scalar.muli v69 c128_i32
  ![0, v70.toNat]
def k1_cond21 (k1_t1 : Fin k1_t1_loop.trips) : BitVec 1 :=
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c2_i32_364 : BitVec 32 := 2#32
  let v737 : BitVec 32 := Scalar.addi v588 c2_i32_364
  let c32_i32_365 : BitVec 32 := 32#32
  let v738 : BitVec 1 := Scalar.cmpi .slt v737 c32_i32_365
  let v739 : BitVec 32 := Scalar.extui v738
  let c0_i32_366 : BitVec 32 := 0#32
  let v740 : BitVec 1 := Scalar.cmpi .ne v739 c0_i32_366
  v740

def k1_off533 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c2_i32_469 : BitVec 32 := 2#32
  let v878 : BitVec 32 := Scalar.addi v588 c2_i32_469
  let c256_i32_470 : BitVec 32 := 256#32
  let v879 : BitVec 32 := Scalar.muli v878 c256_i32_470
  let v880 : BitVec 32 := Scalar.addi v19 v879
  let c8_i32_6 : BitVec 32 := 8#32
  let c0_i32_7 : BitVec 32 := 0#32
  let v60 : BitVec 1 := Scalar.cmpi .eq c8_i32_6 c0_i32_7
  let c1_i32_8 : BitVec 32 := 1#32
  let v61 : BitVec 32 := Scalar.select v60 c1_i32_8 c8_i32_6
  let v62 : BitVec 32 := Scalar.remsi v1 v61
  let c0_i32_10 : BitVec 32 := 0#32
  let v64 : BitVec 1 := Scalar.cmpi .slt v62 c0_i32_10
  let c0_i32_11 : BitVec 32 := 0#32
  let v65 : BitVec 1 := Scalar.cmpi .slt v61 c0_i32_11
  let v66 : BitVec 1 := Scalar.xori v64 v65
  let c0_i32_9 : BitVec 32 := 0#32
  let v63 : BitVec 1 := Scalar.cmpi .ne v62 c0_i32_9
  let v67 : BitVec 1 := Scalar.andi v66 v63
  let v68 : BitVec 32 := Scalar.addi v62 v61
  let v69 : BitVec 32 := Scalar.select v67 v68 v62
  let c128_i32 : BitVec 32 := 128#32
  let v70 : BitVec 32 := Scalar.muli v69 c128_i32
  ![v880.toNat, v70.toNat]
@[reducible] def k1_t67_loop : Scf.Loop 32 :=
  let c0_i32_469 : BitVec 32 := 0#32
  let c32_i32_470 : BitVec 32 := 32#32
  let v878 : BitVec 32 := Scalar.addi c0_i32_469 c32_i32_470
  let c1_i32_471 : BitVec 32 := 1#32
  ⟨c0_i32_469, v878, c1_i32_471⟩
def k1_off534 (k1_t67 : Fin k1_t67_loop.trips) (c0_i32_490 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v945 : BitVec 32 := Scalar.addi v944 c0_i32_490
  let v946 : Index := Scalar.indexCast v945
  let c0_491 : Index := 0#32
  ![v946.toNat, 0]
def k1_off535 (k1_t67 : Fin k1_t67_loop.trips) (c0_i32_492 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v950 : BitVec 32 := Scalar.addi v944 c0_i32_492
  let v951 : Index := Scalar.indexCast v950
  let c16_493 : Index := 16#32
  ![v951.toNat, 16]
def k1_off536 (k1_t67 : Fin k1_t67_loop.trips) (c0_i32_494 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v955 : BitVec 32 := Scalar.addi v944 c0_i32_494
  let v956 : Index := Scalar.indexCast v955
  let c32_495 : Index := 32#32
  ![v956.toNat, 32]
def k1_off537 (k1_t67 : Fin k1_t67_loop.trips) (c0_i32_496 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v960 : BitVec 32 := Scalar.addi v944 c0_i32_496
  let v961 : Index := Scalar.indexCast v960
  let c48_497 : Index := 48#32
  ![v961.toNat, 48]
def k1_off538 (k1_t67 : Fin k1_t67_loop.trips) (c0_i32_498 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v965 : BitVec 32 := Scalar.addi v944 c0_i32_498
  let v966 : Index := Scalar.indexCast v965
  let c64_499 : Index := 64#32
  ![v966.toNat, 64]
def k1_off539 (k1_t67 : Fin k1_t67_loop.trips) (c0_i32_500 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v970 : BitVec 32 := Scalar.addi v944 c0_i32_500
  let v971 : Index := Scalar.indexCast v970
  let c80_501 : Index := 80#32
  ![v971.toNat, 80]
def k1_off540 (k1_t67 : Fin k1_t67_loop.trips) (c0_i32_502 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v975 : BitVec 32 := Scalar.addi v944 c0_i32_502
  let v976 : Index := Scalar.indexCast v975
  let c96_503 : Index := 96#32
  ![v976.toNat, 96]
def k1_off541 (k1_t67 : Fin k1_t67_loop.trips) (c0_i32_504 : BitVec 32) : Fin 2 → Nat :=
  let c0_i32_469 : BitVec 32 := 0#32
  let c1_i32_471 : BitVec 32 := 1#32
  let arg11 : BitVec 32 := Scf.iv c0_i32_469 c1_i32_471 k1_t67
  let c8_i32_489 : BitVec 32 := 8#32
  let v944 : BitVec 32 := Scalar.muli arg11 c8_i32_489
  let v980 : BitVec 32 := Scalar.addi v944 c0_i32_504
  let v981 : Index := Scalar.indexCast v980
  let c112_505 : Index := 112#32
  ![v981.toNat, 112]
def k1_off542 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v880 : Index := Scalar.indexCast v866
  let c0_473 : Index := 0#32
  ![v880.toNat, 0]
def k1_cond22 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : BitVec 1 :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let c_m1_i32_376 : BitVec 32 := 4294967295#32
  let c256_i32_372 : BitVec 32 := 256#32
  let v747 : BitVec 32 := Scalar.addi v743 c256_i32_372
  let c1_i32_373 : BitVec 32 := 1#32
  let v748 : BitVec 32 := Scalar.subi v747 c1_i32_373
  let v749 : BitVec 1 := Scalar.cmpi .sle v27 v748
  let c1_i32_374 : BitVec 32 := 1#32
  let c0_i32_375 : BitVec 32 := 0#32
  let v750 : BitVec 32 := Scalar.select v749 c1_i32_374 c0_i32_375
  let v751 : BitVec 32 := Scalar.addi c_m1_i32_376 v750
  let c256_i32_379 : BitVec 32 := 256#32
  let v755 : BitVec 32 := Scalar.addi v743 c256_i32_379
  let c1_i32_380 : BitVec 32 := 1#32
  let v756 : BitVec 32 := Scalar.subi v755 c1_i32_380
  let v757 : BitVec 1 := Scalar.cmpi .sle v29 v756
  let c1_i32_381 : BitVec 32 := 1#32
  let c0_i32_382 : BitVec 32 := 0#32
  let v758 : BitVec 32 := Scalar.select v757 c1_i32_381 c0_i32_382
  let v759 : BitVec 32 := Scalar.addi v751 v758
  let c256_i32_385 : BitVec 32 := 256#32
  let v763 : BitVec 32 := Scalar.addi v743 c256_i32_385
  let c1_i32_386 : BitVec 32 := 1#32
  let v764 : BitVec 32 := Scalar.subi v763 c1_i32_386
  let v765 : BitVec 1 := Scalar.cmpi .sle v31 v764
  let c1_i32_387 : BitVec 32 := 1#32
  let c0_i32_388 : BitVec 32 := 0#32
  let v766 : BitVec 32 := Scalar.select v765 c1_i32_387 c0_i32_388
  let v767 : BitVec 32 := Scalar.addi v759 v766
  let c256_i32_391 : BitVec 32 := 256#32
  let v771 : BitVec 32 := Scalar.addi v743 c256_i32_391
  let c1_i32_392 : BitVec 32 := 1#32
  let v772 : BitVec 32 := Scalar.subi v771 c1_i32_392
  let v773 : BitVec 1 := Scalar.cmpi .sle v33 v772
  let c1_i32_393 : BitVec 32 := 1#32
  let c0_i32_394 : BitVec 32 := 0#32
  let v774 : BitVec 32 := Scalar.select v773 c1_i32_393 c0_i32_394
  let v775 : BitVec 32 := Scalar.addi v767 v774
  let c256_i32_397 : BitVec 32 := 256#32
  let v779 : BitVec 32 := Scalar.addi v743 c256_i32_397
  let c1_i32_398 : BitVec 32 := 1#32
  let v780 : BitVec 32 := Scalar.subi v779 c1_i32_398
  let v781 : BitVec 1 := Scalar.cmpi .sle v35 v780
  let c1_i32_399 : BitVec 32 := 1#32
  let c0_i32_400 : BitVec 32 := 0#32
  let v782 : BitVec 32 := Scalar.select v781 c1_i32_399 c0_i32_400
  let v783 : BitVec 32 := Scalar.addi v775 v782
  let c256_i32_403 : BitVec 32 := 256#32
  let v787 : BitVec 32 := Scalar.addi v743 c256_i32_403
  let c1_i32_404 : BitVec 32 := 1#32
  let v788 : BitVec 32 := Scalar.subi v787 c1_i32_404
  let v789 : BitVec 1 := Scalar.cmpi .sle v37 v788
  let c1_i32_405 : BitVec 32 := 1#32
  let c0_i32_406 : BitVec 32 := 0#32
  let v790 : BitVec 32 := Scalar.select v789 c1_i32_405 c0_i32_406
  let v791 : BitVec 32 := Scalar.addi v783 v790
  let c256_i32_409 : BitVec 32 := 256#32
  let v795 : BitVec 32 := Scalar.addi v743 c256_i32_409
  let c1_i32_410 : BitVec 32 := 1#32
  let v796 : BitVec 32 := Scalar.subi v795 c1_i32_410
  let v797 : BitVec 1 := Scalar.cmpi .sle v39 v796
  let c1_i32_411 : BitVec 32 := 1#32
  let c0_i32_412 : BitVec 32 := 0#32
  let v798 : BitVec 32 := Scalar.select v797 c1_i32_411 c0_i32_412
  let v799 : BitVec 32 := Scalar.addi v791 v798
  let c256_i32_415 : BitVec 32 := 256#32
  let v803 : BitVec 32 := Scalar.addi v743 c256_i32_415
  let c1_i32_416 : BitVec 32 := 1#32
  let v804 : BitVec 32 := Scalar.subi v803 c1_i32_416
  let v805 : BitVec 1 := Scalar.cmpi .sle v41 v804
  let c1_i32_417 : BitVec 32 := 1#32
  let c0_i32_418 : BitVec 32 := 0#32
  let v806 : BitVec 32 := Scalar.select v805 c1_i32_417 c0_i32_418
  let v807 : BitVec 32 := Scalar.addi v799 v806
  let c256_i32_421 : BitVec 32 := 256#32
  let v811 : BitVec 32 := Scalar.addi v743 c256_i32_421
  let c1_i32_422 : BitVec 32 := 1#32
  let v812 : BitVec 32 := Scalar.subi v811 c1_i32_422
  let v813 : BitVec 1 := Scalar.cmpi .sle v43 v812
  let c1_i32_423 : BitVec 32 := 1#32
  let c0_i32_424 : BitVec 32 := 0#32
  let v814 : BitVec 32 := Scalar.select v813 c1_i32_423 c0_i32_424
  let v815 : BitVec 32 := Scalar.addi v807 v814
  let c256_i32_427 : BitVec 32 := 256#32
  let v819 : BitVec 32 := Scalar.addi v743 c256_i32_427
  let c1_i32_428 : BitVec 32 := 1#32
  let v820 : BitVec 32 := Scalar.subi v819 c1_i32_428
  let v821 : BitVec 1 := Scalar.cmpi .sle v45 v820
  let c1_i32_429 : BitVec 32 := 1#32
  let c0_i32_430 : BitVec 32 := 0#32
  let v822 : BitVec 32 := Scalar.select v821 c1_i32_429 c0_i32_430
  let v823 : BitVec 32 := Scalar.addi v815 v822
  let c256_i32_433 : BitVec 32 := 256#32
  let v827 : BitVec 32 := Scalar.addi v743 c256_i32_433
  let c1_i32_434 : BitVec 32 := 1#32
  let v828 : BitVec 32 := Scalar.subi v827 c1_i32_434
  let v829 : BitVec 1 := Scalar.cmpi .sle v47 v828
  let c1_i32_435 : BitVec 32 := 1#32
  let c0_i32_436 : BitVec 32 := 0#32
  let v830 : BitVec 32 := Scalar.select v829 c1_i32_435 c0_i32_436
  let v831 : BitVec 32 := Scalar.addi v823 v830
  let c256_i32_439 : BitVec 32 := 256#32
  let v835 : BitVec 32 := Scalar.addi v743 c256_i32_439
  let c1_i32_440 : BitVec 32 := 1#32
  let v836 : BitVec 32 := Scalar.subi v835 c1_i32_440
  let v837 : BitVec 1 := Scalar.cmpi .sle v49 v836
  let c1_i32_441 : BitVec 32 := 1#32
  let c0_i32_442 : BitVec 32 := 0#32
  let v838 : BitVec 32 := Scalar.select v837 c1_i32_441 c0_i32_442
  let v839 : BitVec 32 := Scalar.addi v831 v838
  let c256_i32_445 : BitVec 32 := 256#32
  let v843 : BitVec 32 := Scalar.addi v743 c256_i32_445
  let c1_i32_446 : BitVec 32 := 1#32
  let v844 : BitVec 32 := Scalar.subi v843 c1_i32_446
  let v845 : BitVec 1 := Scalar.cmpi .sle v51 v844
  let c1_i32_447 : BitVec 32 := 1#32
  let c0_i32_448 : BitVec 32 := 0#32
  let v846 : BitVec 32 := Scalar.select v845 c1_i32_447 c0_i32_448
  let v847 : BitVec 32 := Scalar.addi v839 v846
  let c256_i32_451 : BitVec 32 := 256#32
  let v851 : BitVec 32 := Scalar.addi v743 c256_i32_451
  let c1_i32_452 : BitVec 32 := 1#32
  let v852 : BitVec 32 := Scalar.subi v851 c1_i32_452
  let v853 : BitVec 1 := Scalar.cmpi .sle v53 v852
  let c1_i32_453 : BitVec 32 := 1#32
  let c0_i32_454 : BitVec 32 := 0#32
  let v854 : BitVec 32 := Scalar.select v853 c1_i32_453 c0_i32_454
  let v855 : BitVec 32 := Scalar.addi v847 v854
  let c256_i32_457 : BitVec 32 := 256#32
  let v859 : BitVec 32 := Scalar.addi v743 c256_i32_457
  let c1_i32_458 : BitVec 32 := 1#32
  let v860 : BitVec 32 := Scalar.subi v859 c1_i32_458
  let v861 : BitVec 1 := Scalar.cmpi .sle v55 v860
  let c1_i32_459 : BitVec 32 := 1#32
  let c0_i32_460 : BitVec 32 := 0#32
  let v862 : BitVec 32 := Scalar.select v861 c1_i32_459 c0_i32_460
  let v863 : BitVec 32 := Scalar.addi v855 v862
  let c256_i32_463 : BitVec 32 := 256#32
  let v867 : BitVec 32 := Scalar.addi v743 c256_i32_463
  let c1_i32_464 : BitVec 32 := 1#32
  let v868 : BitVec 32 := Scalar.subi v867 c1_i32_464
  let v869 : BitVec 1 := Scalar.cmpi .sle v57 v868
  let c1_i32_465 : BitVec 32 := 1#32
  let c0_i32_466 : BitVec 32 := 0#32
  let v870 : BitVec 32 := Scalar.select v869 c1_i32_465 c0_i32_466
  let v871 : BitVec 32 := Scalar.addi v863 v870
  let v872 : BitVec 1 := Scalar.cmpi .eq v866 v871
  let v873 : BitVec 32 := Scalar.extui v872
  let c0_i32_467 : BitVec 32 := 0#32
  let v874 : BitVec 1 := Scalar.cmpi .ne v873 c0_i32_467
  v874

def k1_off543 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v888 : Index := Scalar.indexCast v866
  let c16_475 : Index := 16#32
  ![v888.toNat, 16]
def k1_off544 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v896 : Index := Scalar.indexCast v866
  let c32_477 : Index := 32#32
  ![v896.toNat, 32]
def k1_off545 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v904 : Index := Scalar.indexCast v866
  let c48_479 : Index := 48#32
  ![v904.toNat, 48]
def k1_off546 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v912 : Index := Scalar.indexCast v866
  let c64_481 : Index := 64#32
  ![v912.toNat, 64]
def k1_off547 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v920 : Index := Scalar.indexCast v866
  let c80_483 : Index := 80#32
  ![v920.toNat, 80]
def k1_off548 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v928 : Index := Scalar.indexCast v866
  let c96_485 : Index := 96#32
  ![v928.toNat, 96]
def k1_off549 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : Fin 2 → Nat :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let v936 : Index := Scalar.indexCast v866
  let c112_487 : Index := 112#32
  ![v936.toNat, 112]
@[reducible] def k1_t68_loop (i : grid1.Coords) (v27 : BitVec 32) (v29 : BitVec 32) (k1_t1 : Fin k1_t1_loop.trips) : Scf.Loop 32 :=
  let c0_i32_580 : BitVec 32 := 0#32
  let c256_i32_472 : BitVec 32 := 256#32
  let c0_i32_471 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v881 : BitVec 32 := Scalar.subi v29 v743
  let v882 : BitVec 32 := Scalar.maxsi c0_i32_471 v881
  let v883 : BitVec 32 := Scalar.minsi c256_i32_472 v882
  let c256_i32_470 : BitVec 32 := 256#32
  let c0_i32_469 : BitVec 32 := 0#32
  let v878 : BitVec 32 := Scalar.subi v27 v743
  let v879 : BitVec 32 := Scalar.maxsi c0_i32_469 v878
  let v880 : BitVec 32 := Scalar.minsi c256_i32_470 v879
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond23 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_t1 : Fin k1_t1_loop.trips) : BitVec 1 :=
  let c_m1_i32_371 : BitVec 32 := 4294967295#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v744 : BitVec 1 := Scalar.cmpi .sle v27 v743
  let c1_i32_369 : BitVec 32 := 1#32
  let c0_i32_370 : BitVec 32 := 0#32
  let v745 : BitVec 32 := Scalar.select v744 c1_i32_369 c0_i32_370
  let v746 : BitVec 32 := Scalar.addi c_m1_i32_371 v745
  let v752 : BitVec 1 := Scalar.cmpi .sle v29 v743
  let c1_i32_377 : BitVec 32 := 1#32
  let c0_i32_378 : BitVec 32 := 0#32
  let v753 : BitVec 32 := Scalar.select v752 c1_i32_377 c0_i32_378
  let v754 : BitVec 32 := Scalar.addi v746 v753
  let v760 : BitVec 1 := Scalar.cmpi .sle v31 v743
  let c1_i32_383 : BitVec 32 := 1#32
  let c0_i32_384 : BitVec 32 := 0#32
  let v761 : BitVec 32 := Scalar.select v760 c1_i32_383 c0_i32_384
  let v762 : BitVec 32 := Scalar.addi v754 v761
  let v768 : BitVec 1 := Scalar.cmpi .sle v33 v743
  let c1_i32_389 : BitVec 32 := 1#32
  let c0_i32_390 : BitVec 32 := 0#32
  let v769 : BitVec 32 := Scalar.select v768 c1_i32_389 c0_i32_390
  let v770 : BitVec 32 := Scalar.addi v762 v769
  let v776 : BitVec 1 := Scalar.cmpi .sle v35 v743
  let c1_i32_395 : BitVec 32 := 1#32
  let c0_i32_396 : BitVec 32 := 0#32
  let v777 : BitVec 32 := Scalar.select v776 c1_i32_395 c0_i32_396
  let v778 : BitVec 32 := Scalar.addi v770 v777
  let v784 : BitVec 1 := Scalar.cmpi .sle v37 v743
  let c1_i32_401 : BitVec 32 := 1#32
  let c0_i32_402 : BitVec 32 := 0#32
  let v785 : BitVec 32 := Scalar.select v784 c1_i32_401 c0_i32_402
  let v786 : BitVec 32 := Scalar.addi v778 v785
  let v792 : BitVec 1 := Scalar.cmpi .sle v39 v743
  let c1_i32_407 : BitVec 32 := 1#32
  let c0_i32_408 : BitVec 32 := 0#32
  let v793 : BitVec 32 := Scalar.select v792 c1_i32_407 c0_i32_408
  let v794 : BitVec 32 := Scalar.addi v786 v793
  let v800 : BitVec 1 := Scalar.cmpi .sle v41 v743
  let c1_i32_413 : BitVec 32 := 1#32
  let c0_i32_414 : BitVec 32 := 0#32
  let v801 : BitVec 32 := Scalar.select v800 c1_i32_413 c0_i32_414
  let v802 : BitVec 32 := Scalar.addi v794 v801
  let v808 : BitVec 1 := Scalar.cmpi .sle v43 v743
  let c1_i32_419 : BitVec 32 := 1#32
  let c0_i32_420 : BitVec 32 := 0#32
  let v809 : BitVec 32 := Scalar.select v808 c1_i32_419 c0_i32_420
  let v810 : BitVec 32 := Scalar.addi v802 v809
  let v816 : BitVec 1 := Scalar.cmpi .sle v45 v743
  let c1_i32_425 : BitVec 32 := 1#32
  let c0_i32_426 : BitVec 32 := 0#32
  let v817 : BitVec 32 := Scalar.select v816 c1_i32_425 c0_i32_426
  let v818 : BitVec 32 := Scalar.addi v810 v817
  let v824 : BitVec 1 := Scalar.cmpi .sle v47 v743
  let c1_i32_431 : BitVec 32 := 1#32
  let c0_i32_432 : BitVec 32 := 0#32
  let v825 : BitVec 32 := Scalar.select v824 c1_i32_431 c0_i32_432
  let v826 : BitVec 32 := Scalar.addi v818 v825
  let v832 : BitVec 1 := Scalar.cmpi .sle v49 v743
  let c1_i32_437 : BitVec 32 := 1#32
  let c0_i32_438 : BitVec 32 := 0#32
  let v833 : BitVec 32 := Scalar.select v832 c1_i32_437 c0_i32_438
  let v834 : BitVec 32 := Scalar.addi v826 v833
  let v840 : BitVec 1 := Scalar.cmpi .sle v51 v743
  let c1_i32_443 : BitVec 32 := 1#32
  let c0_i32_444 : BitVec 32 := 0#32
  let v841 : BitVec 32 := Scalar.select v840 c1_i32_443 c0_i32_444
  let v842 : BitVec 32 := Scalar.addi v834 v841
  let v848 : BitVec 1 := Scalar.cmpi .sle v53 v743
  let c1_i32_449 : BitVec 32 := 1#32
  let c0_i32_450 : BitVec 32 := 0#32
  let v849 : BitVec 32 := Scalar.select v848 c1_i32_449 c0_i32_450
  let v850 : BitVec 32 := Scalar.addi v842 v849
  let v856 : BitVec 1 := Scalar.cmpi .sle v55 v743
  let c1_i32_455 : BitVec 32 := 1#32
  let c0_i32_456 : BitVec 32 := 0#32
  let v857 : BitVec 32 := Scalar.select v856 c1_i32_455 c0_i32_456
  let v858 : BitVec 32 := Scalar.addi v850 v857
  let v864 : BitVec 1 := Scalar.cmpi .sle v57 v743
  let c1_i32_461 : BitVec 32 := 1#32
  let c0_i32_462 : BitVec 32 := 0#32
  let v865 : BitVec 32 := Scalar.select v864 c1_i32_461 c0_i32_462
  let v866 : BitVec 32 := Scalar.addi v858 v865
  let c_m1_i32_376 : BitVec 32 := 4294967295#32
  let c256_i32_372 : BitVec 32 := 256#32
  let v747 : BitVec 32 := Scalar.addi v743 c256_i32_372
  let c1_i32_373 : BitVec 32 := 1#32
  let v748 : BitVec 32 := Scalar.subi v747 c1_i32_373
  let v749 : BitVec 1 := Scalar.cmpi .sle v27 v748
  let c1_i32_374 : BitVec 32 := 1#32
  let c0_i32_375 : BitVec 32 := 0#32
  let v750 : BitVec 32 := Scalar.select v749 c1_i32_374 c0_i32_375
  let v751 : BitVec 32 := Scalar.addi c_m1_i32_376 v750
  let c256_i32_379 : BitVec 32 := 256#32
  let v755 : BitVec 32 := Scalar.addi v743 c256_i32_379
  let c1_i32_380 : BitVec 32 := 1#32
  let v756 : BitVec 32 := Scalar.subi v755 c1_i32_380
  let v757 : BitVec 1 := Scalar.cmpi .sle v29 v756
  let c1_i32_381 : BitVec 32 := 1#32
  let c0_i32_382 : BitVec 32 := 0#32
  let v758 : BitVec 32 := Scalar.select v757 c1_i32_381 c0_i32_382
  let v759 : BitVec 32 := Scalar.addi v751 v758
  let c256_i32_385 : BitVec 32 := 256#32
  let v763 : BitVec 32 := Scalar.addi v743 c256_i32_385
  let c1_i32_386 : BitVec 32 := 1#32
  let v764 : BitVec 32 := Scalar.subi v763 c1_i32_386
  let v765 : BitVec 1 := Scalar.cmpi .sle v31 v764
  let c1_i32_387 : BitVec 32 := 1#32
  let c0_i32_388 : BitVec 32 := 0#32
  let v766 : BitVec 32 := Scalar.select v765 c1_i32_387 c0_i32_388
  let v767 : BitVec 32 := Scalar.addi v759 v766
  let c256_i32_391 : BitVec 32 := 256#32
  let v771 : BitVec 32 := Scalar.addi v743 c256_i32_391
  let c1_i32_392 : BitVec 32 := 1#32
  let v772 : BitVec 32 := Scalar.subi v771 c1_i32_392
  let v773 : BitVec 1 := Scalar.cmpi .sle v33 v772
  let c1_i32_393 : BitVec 32 := 1#32
  let c0_i32_394 : BitVec 32 := 0#32
  let v774 : BitVec 32 := Scalar.select v773 c1_i32_393 c0_i32_394
  let v775 : BitVec 32 := Scalar.addi v767 v774
  let c256_i32_397 : BitVec 32 := 256#32
  let v779 : BitVec 32 := Scalar.addi v743 c256_i32_397
  let c1_i32_398 : BitVec 32 := 1#32
  let v780 : BitVec 32 := Scalar.subi v779 c1_i32_398
  let v781 : BitVec 1 := Scalar.cmpi .sle v35 v780
  let c1_i32_399 : BitVec 32 := 1#32
  let c0_i32_400 : BitVec 32 := 0#32
  let v782 : BitVec 32 := Scalar.select v781 c1_i32_399 c0_i32_400
  let v783 : BitVec 32 := Scalar.addi v775 v782
  let c256_i32_403 : BitVec 32 := 256#32
  let v787 : BitVec 32 := Scalar.addi v743 c256_i32_403
  let c1_i32_404 : BitVec 32 := 1#32
  let v788 : BitVec 32 := Scalar.subi v787 c1_i32_404
  let v789 : BitVec 1 := Scalar.cmpi .sle v37 v788
  let c1_i32_405 : BitVec 32 := 1#32
  let c0_i32_406 : BitVec 32 := 0#32
  let v790 : BitVec 32 := Scalar.select v789 c1_i32_405 c0_i32_406
  let v791 : BitVec 32 := Scalar.addi v783 v790
  let c256_i32_409 : BitVec 32 := 256#32
  let v795 : BitVec 32 := Scalar.addi v743 c256_i32_409
  let c1_i32_410 : BitVec 32 := 1#32
  let v796 : BitVec 32 := Scalar.subi v795 c1_i32_410
  let v797 : BitVec 1 := Scalar.cmpi .sle v39 v796
  let c1_i32_411 : BitVec 32 := 1#32
  let c0_i32_412 : BitVec 32 := 0#32
  let v798 : BitVec 32 := Scalar.select v797 c1_i32_411 c0_i32_412
  let v799 : BitVec 32 := Scalar.addi v791 v798
  let c256_i32_415 : BitVec 32 := 256#32
  let v803 : BitVec 32 := Scalar.addi v743 c256_i32_415
  let c1_i32_416 : BitVec 32 := 1#32
  let v804 : BitVec 32 := Scalar.subi v803 c1_i32_416
  let v805 : BitVec 1 := Scalar.cmpi .sle v41 v804
  let c1_i32_417 : BitVec 32 := 1#32
  let c0_i32_418 : BitVec 32 := 0#32
  let v806 : BitVec 32 := Scalar.select v805 c1_i32_417 c0_i32_418
  let v807 : BitVec 32 := Scalar.addi v799 v806
  let c256_i32_421 : BitVec 32 := 256#32
  let v811 : BitVec 32 := Scalar.addi v743 c256_i32_421
  let c1_i32_422 : BitVec 32 := 1#32
  let v812 : BitVec 32 := Scalar.subi v811 c1_i32_422
  let v813 : BitVec 1 := Scalar.cmpi .sle v43 v812
  let c1_i32_423 : BitVec 32 := 1#32
  let c0_i32_424 : BitVec 32 := 0#32
  let v814 : BitVec 32 := Scalar.select v813 c1_i32_423 c0_i32_424
  let v815 : BitVec 32 := Scalar.addi v807 v814
  let c256_i32_427 : BitVec 32 := 256#32
  let v819 : BitVec 32 := Scalar.addi v743 c256_i32_427
  let c1_i32_428 : BitVec 32 := 1#32
  let v820 : BitVec 32 := Scalar.subi v819 c1_i32_428
  let v821 : BitVec 1 := Scalar.cmpi .sle v45 v820
  let c1_i32_429 : BitVec 32 := 1#32
  let c0_i32_430 : BitVec 32 := 0#32
  let v822 : BitVec 32 := Scalar.select v821 c1_i32_429 c0_i32_430
  let v823 : BitVec 32 := Scalar.addi v815 v822
  let c256_i32_433 : BitVec 32 := 256#32
  let v827 : BitVec 32 := Scalar.addi v743 c256_i32_433
  let c1_i32_434 : BitVec 32 := 1#32
  let v828 : BitVec 32 := Scalar.subi v827 c1_i32_434
  let v829 : BitVec 1 := Scalar.cmpi .sle v47 v828
  let c1_i32_435 : BitVec 32 := 1#32
  let c0_i32_436 : BitVec 32 := 0#32
  let v830 : BitVec 32 := Scalar.select v829 c1_i32_435 c0_i32_436
  let v831 : BitVec 32 := Scalar.addi v823 v830
  let c256_i32_439 : BitVec 32 := 256#32
  let v835 : BitVec 32 := Scalar.addi v743 c256_i32_439
  let c1_i32_440 : BitVec 32 := 1#32
  let v836 : BitVec 32 := Scalar.subi v835 c1_i32_440
  let v837 : BitVec 1 := Scalar.cmpi .sle v49 v836
  let c1_i32_441 : BitVec 32 := 1#32
  let c0_i32_442 : BitVec 32 := 0#32
  let v838 : BitVec 32 := Scalar.select v837 c1_i32_441 c0_i32_442
  let v839 : BitVec 32 := Scalar.addi v831 v838
  let c256_i32_445 : BitVec 32 := 256#32
  let v843 : BitVec 32 := Scalar.addi v743 c256_i32_445
  let c1_i32_446 : BitVec 32 := 1#32
  let v844 : BitVec 32 := Scalar.subi v843 c1_i32_446
  let v845 : BitVec 1 := Scalar.cmpi .sle v51 v844
  let c1_i32_447 : BitVec 32 := 1#32
  let c0_i32_448 : BitVec 32 := 0#32
  let v846 : BitVec 32 := Scalar.select v845 c1_i32_447 c0_i32_448
  let v847 : BitVec 32 := Scalar.addi v839 v846
  let c256_i32_451 : BitVec 32 := 256#32
  let v851 : BitVec 32 := Scalar.addi v743 c256_i32_451
  let c1_i32_452 : BitVec 32 := 1#32
  let v852 : BitVec 32 := Scalar.subi v851 c1_i32_452
  let v853 : BitVec 1 := Scalar.cmpi .sle v53 v852
  let c1_i32_453 : BitVec 32 := 1#32
  let c0_i32_454 : BitVec 32 := 0#32
  let v854 : BitVec 32 := Scalar.select v853 c1_i32_453 c0_i32_454
  let v855 : BitVec 32 := Scalar.addi v847 v854
  let c256_i32_457 : BitVec 32 := 256#32
  let v859 : BitVec 32 := Scalar.addi v743 c256_i32_457
  let c1_i32_458 : BitVec 32 := 1#32
  let v860 : BitVec 32 := Scalar.subi v859 c1_i32_458
  let v861 : BitVec 1 := Scalar.cmpi .sle v55 v860
  let c1_i32_459 : BitVec 32 := 1#32
  let c0_i32_460 : BitVec 32 := 0#32
  let v862 : BitVec 32 := Scalar.select v861 c1_i32_459 c0_i32_460
  let v863 : BitVec 32 := Scalar.addi v855 v862
  let c256_i32_463 : BitVec 32 := 256#32
  let v867 : BitVec 32 := Scalar.addi v743 c256_i32_463
  let c1_i32_464 : BitVec 32 := 1#32
  let v868 : BitVec 32 := Scalar.subi v867 c1_i32_464
  let v869 : BitVec 1 := Scalar.cmpi .sle v57 v868
  let c1_i32_465 : BitVec 32 := 1#32
  let c0_i32_466 : BitVec 32 := 0#32
  let v870 : BitVec 32 := Scalar.select v869 c1_i32_465 c0_i32_466
  let v871 : BitVec 32 := Scalar.addi v863 v870
  let v875 : BitVec 1 := Scalar.cmpi .ne v866 v871
  let v876 : BitVec 32 := Scalar.extui v875
  let c0_i32_468 : BitVec 32 := 0#32
  let v877 : BitVec 1 := Scalar.cmpi .ne v876 c0_i32_468
  v877

def k1_cond24 (i : grid1.Coords) (v27 : BitVec 32) (v29 : BitVec 32) (k1_t1 : Fin k1_t1_loop.trips) : BitVec 1 :=
  let c256_i32_472 : BitVec 32 := 256#32
  let c0_i32_471 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v881 : BitVec 32 := Scalar.subi v29 v743
  let v882 : BitVec 32 := Scalar.maxsi c0_i32_471 v881
  let v883 : BitVec 32 := Scalar.minsi c256_i32_472 v882
  let c256_i32_470 : BitVec 32 := 256#32
  let c0_i32_469 : BitVec 32 := 0#32
  let v878 : BitVec 32 := Scalar.subi v27 v743
  let v879 : BitVec 32 := Scalar.maxsi c0_i32_469 v878
  let v880 : BitVec 32 := Scalar.minsi c256_i32_470 v879
  let v884 : BitVec 32 := Scalar.subi v883 v880
  let c0_i32_473 : BitVec 32 := 0#32
  let v885 : BitVec 1 := Scalar.cmpi .sgt v884 c0_i32_473
  let v886 : BitVec 32 := Scalar.extui v885
  let c0_i32_474 : BitVec 32 := 0#32
  let v887 : BitVec 1 := Scalar.cmpi .ne v886 c0_i32_474
  v887

def k1_off550 (i : grid1.Coords) (v27 : BitVec 32) (v29 : BitVec 32) (k1_t1 : Fin k1_t1_loop.trips) (k1_t68 : Fin (k1_t68_loop i v27 v29 k1_t1).trips) (c0_i32_620 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1154 : BitVec 32 := Scalar.addi v1153 c0_i32_620
  let v1155 : Index := Scalar.indexCast v1154
  let c0_621 : Index := 0#32
  ![v1155.toNat, 0]
def k1_off551 (i : grid1.Coords) (v27 : BitVec 32) (v29 : BitVec 32) (k1_t1 : Fin k1_t1_loop.trips) (k1_t68 : Fin (k1_t68_loop i v27 v29 k1_t1).trips) (c0_i32_622 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1159 : BitVec 32 := Scalar.addi v1153 c0_i32_622
  let v1160 : Index := Scalar.indexCast v1159
  let c16_623 : Index := 16#32
  ![v1160.toNat, 16]
def k1_off552 (i : grid1.Coords) (v27 : BitVec 32) (v29 : BitVec 32) (k1_t1 : Fin k1_t1_loop.trips) (k1_t68 : Fin (k1_t68_loop i v27 v29 k1_t1).trips) (c0_i32_624 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1164 : BitVec 32 := Scalar.addi v1153 c0_i32_624
  let v1165 : Index := Scalar.indexCast v1164
  let c32_625 : Index := 32#32
  ![v1165.toNat, 32]
def k1_off553 (i : grid1.Coords) (v27 : BitVec 32) (v29 : BitVec 32) (k1_t1 : Fin k1_t1_loop.trips) (k1_t68 : Fin (k1_t68_loop i v27 v29 k1_t1).trips) (c0_i32_626 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1169 : BitVec 32 := Scalar.addi v1153 c0_i32_626
  let v1170 : Index := Scalar.indexCast v1169
  let c48_627 : Index := 48#32
  ![v1170.toNat, 48]
def k1_off554 (i : grid1.Coords) (v27 : BitVec 32) (v29 : BitVec 32) (k1_t1 : Fin k1_t1_loop.trips) (k1_t68 : Fin (k1_t68_loop i v27 v29 k1_t1).trips) (c0_i32_628 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1174 : BitVec 32 := Scalar.addi v1153 c0_i32_628
  let v1175 : Index := Scalar.indexCast v1174
  let c64_629 : Index := 64#32
  ![v1175.toNat, 64]
def k1_off555 (i : grid1.Coords) (v27 : BitVec 32) (v29 : BitVec 32) (k1_t1 : Fin k1_t1_loop.trips) (k1_t68 : Fin (k1_t68_loop i v27 v29 k1_t1).trips) (c0_i32_630 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1179 : BitVec 32 := Scalar.addi v1153 c0_i32_630
  let v1180 : Index := Scalar.indexCast v1179
  let c80_631 : Index := 80#32
  ![v1180.toNat, 80]
def k1_off556 (i : grid1.Coords) (v27 : BitVec 32) (v29 : BitVec 32) (k1_t1 : Fin k1_t1_loop.trips) (k1_t68 : Fin (k1_t68_loop i v27 v29 k1_t1).trips) (c0_i32_632 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1184 : BitVec 32 := Scalar.addi v1153 c0_i32_632
  let v1185 : Index := Scalar.indexCast v1184
  let c96_633 : Index := 96#32
  ![v1185.toNat, 96]
def k1_off557 (i : grid1.Coords) (v27 : BitVec 32) (v29 : BitVec 32) (k1_t1 : Fin k1_t1_loop.trips) (k1_t68 : Fin (k1_t68_loop i v27 v29 k1_t1).trips) (c0_i32_634 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c1_i32_582 : BitVec 32 := 1#32
  let arg11 : BitVec 32 := Scf.iv c0_i32_580 c1_i32_582 k1_t68
  let c4_i32_619 : BitVec 32 := 4#32
  let v1152 : BitVec 32 := Scalar.muli arg11 c4_i32_619
  let v1153 : BitVec 32 := Scalar.addi v880 v1152
  let v1189 : BitVec 32 := Scalar.addi v1153 c0_i32_634
  let v1190 : Index := Scalar.indexCast v1189
  let c112_635 : Index := 112#32
  ![v1190.toNat, 112]
@[reducible] def k1_t69_loop (i : grid1.Coords) (v27 : BitVec 32) (v29 : BitVec 32) (k1_t1 : Fin k1_t1_loop.trips) : Scf.Loop 32 :=
  let c0_i32_580 : BitVec 32 := 0#32
  let c256_i32_472 : BitVec 32 := 256#32
  let c0_i32_471 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v881 : BitVec 32 := Scalar.subi v29 v743
  let v882 : BitVec 32 := Scalar.maxsi c0_i32_471 v881
  let v883 : BitVec 32 := Scalar.minsi c256_i32_472 v882
  let c256_i32_470 : BitVec 32 := 256#32
  let c0_i32_469 : BitVec 32 := 0#32
  let v878 : BitVec 32 := Scalar.subi v27 v743
  let v879 : BitVec 32 := Scalar.maxsi c0_i32_469 v878
  let v880 : BitVec 32 := Scalar.minsi c256_i32_470 v879
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off558 (i : grid1.Coords) (v27 : BitVec 32) (v29 : BitVec 32) (k1_t1 : Fin k1_t1_loop.trips) (k1_t69 : Fin (k1_t69_loop i v27 v29 k1_t1).trips) (c0_i32_620 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1154 : BitVec 32 := Scalar.addi v1153 c0_i32_620
  let v1155 : Index := Scalar.indexCast v1154
  let c0_621 : Index := 0#32
  ![v1155.toNat, 0]
def k1_off559 (i : grid1.Coords) (v27 : BitVec 32) (v29 : BitVec 32) (k1_t1 : Fin k1_t1_loop.trips) (k1_t69 : Fin (k1_t69_loop i v27 v29 k1_t1).trips) (c0_i32_622 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1159 : BitVec 32 := Scalar.addi v1153 c0_i32_622
  let v1160 : Index := Scalar.indexCast v1159
  let c16_623 : Index := 16#32
  ![v1160.toNat, 16]
def k1_off560 (i : grid1.Coords) (v27 : BitVec 32) (v29 : BitVec 32) (k1_t1 : Fin k1_t1_loop.trips) (k1_t69 : Fin (k1_t69_loop i v27 v29 k1_t1).trips) (c0_i32_624 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1164 : BitVec 32 := Scalar.addi v1153 c0_i32_624
  let v1165 : Index := Scalar.indexCast v1164
  let c32_625 : Index := 32#32
  ![v1165.toNat, 32]
def k1_off561 (i : grid1.Coords) (v27 : BitVec 32) (v29 : BitVec 32) (k1_t1 : Fin k1_t1_loop.trips) (k1_t69 : Fin (k1_t69_loop i v27 v29 k1_t1).trips) (c0_i32_626 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1169 : BitVec 32 := Scalar.addi v1153 c0_i32_626
  let v1170 : Index := Scalar.indexCast v1169
  let c48_627 : Index := 48#32
  ![v1170.toNat, 48]
def k1_off562 (i : grid1.Coords) (v27 : BitVec 32) (v29 : BitVec 32) (k1_t1 : Fin k1_t1_loop.trips) (k1_t69 : Fin (k1_t69_loop i v27 v29 k1_t1).trips) (c0_i32_628 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1174 : BitVec 32 := Scalar.addi v1153 c0_i32_628
  let v1175 : Index := Scalar.indexCast v1174
  let c64_629 : Index := 64#32
  ![v1175.toNat, 64]
def k1_off563 (i : grid1.Coords) (v27 : BitVec 32) (v29 : BitVec 32) (k1_t1 : Fin k1_t1_loop.trips) (k1_t69 : Fin (k1_t69_loop i v27 v29 k1_t1).trips) (c0_i32_630 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1179 : BitVec 32 := Scalar.addi v1153 c0_i32_630
  let v1180 : Index := Scalar.indexCast v1179
  let c80_631 : Index := 80#32
  ![v1180.toNat, 80]
def k1_off564 (i : grid1.Coords) (v27 : BitVec 32) (v29 : BitVec 32) (k1_t1 : Fin k1_t1_loop.trips) (k1_t69 : Fin (k1_t69_loop i v27 v29 k1_t1).trips) (c0_i32_632 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1184 : BitVec 32 := Scalar.addi v1153 c0_i32_632
  let v1185 : Index := Scalar.indexCast v1184
  let c96_633 : Index := 96#32
  ![v1185.toNat, 96]
def k1_off565 (i : grid1.Coords) (v27 : BitVec 32) (v29 : BitVec 32) (k1_t1 : Fin k1_t1_loop.trips) (k1_t69 : Fin (k1_t69_loop i v27 v29 k1_t1).trips) (c0_i32_634 : BitVec 32) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c0_i32_580 : BitVec 32 := 0#32
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t69
  let c4_i32_619 : BitVec 32 := 4#32
  let v1152 : BitVec 32 := Scalar.muli arg11 c4_i32_619
  let v1153 : BitVec 32 := Scalar.addi v880 v1152
  let v1189 : BitVec 32 := Scalar.addi v1153 c0_i32_634
  let v1190 : Index := Scalar.indexCast v1189
  let c112_635 : Index := 112#32
  ![v1190.toNat, 112]
@[reducible] def k1_t70_loop (i : grid1.Coords) (v27 : BitVec 32) (v29 : BitVec 32) (k1_t1 : Fin k1_t1_loop.trips) : Scf.Loop 32 :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off566 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1152 : Index := Scalar.indexCast arg11
  let c0_619 : Index := 0#32
  ![v1152.toNat, 0]
def k1_off567 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1156 : Index := Scalar.indexCast arg11
  let c16_620 : Index := 16#32
  ![v1156.toNat, 16]
def k1_off568 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1160 : Index := Scalar.indexCast arg11
  let c32_621 : Index := 32#32
  ![v1160.toNat, 32]
def k1_off569 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1164 : Index := Scalar.indexCast arg11
  let c48_622 : Index := 48#32
  ![v1164.toNat, 48]
def k1_off570 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1168 : Index := Scalar.indexCast arg11
  let c64_623 : Index := 64#32
  ![v1168.toNat, 64]
def k1_off571 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1172 : Index := Scalar.indexCast arg11
  let c80_624 : Index := 80#32
  ![v1172.toNat, 80]
def k1_off572 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1176 : Index := Scalar.indexCast arg11
  let c96_625 : Index := 96#32
  ![v1176.toNat, 96]
def k1_off573 (i : grid1.Coords) (v27 : BitVec 32) (v29 : BitVec 32) (k1_t1 : Fin k1_t1_loop.trips) (k1_t70 : Fin (k1_t70_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let c1_i32_585 : BitVec 32 := 1#32
  let arg11 : BitVec 32 := Scf.iv v1080 c1_i32_585 k1_t70
  let v1180 : Index := Scalar.indexCast arg11
  let c112_626 : Index := 112#32
  ![v1180.toNat, 112]
@[reducible] def k1_t71_loop (i : grid1.Coords) (v27 : BitVec 32) (v29 : BitVec 32) (k1_t1 : Fin k1_t1_loop.trips) : Scf.Loop 32 :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off574 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1152 : Index := Scalar.indexCast arg11
  let c0_619 : Index := 0#32
  ![v1152.toNat, 0]
def k1_off575 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1156 : Index := Scalar.indexCast arg11
  let c16_620 : Index := 16#32
  ![v1156.toNat, 16]
def k1_off576 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1160 : Index := Scalar.indexCast arg11
  let c32_621 : Index := 32#32
  ![v1160.toNat, 32]
def k1_off577 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1164 : Index := Scalar.indexCast arg11
  let c48_622 : Index := 48#32
  ![v1164.toNat, 48]
def k1_off578 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1168 : Index := Scalar.indexCast arg11
  let c64_623 : Index := 64#32
  ![v1168.toNat, 64]
def k1_off579 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1172 : Index := Scalar.indexCast arg11
  let c80_624 : Index := 80#32
  ![v1172.toNat, 80]
def k1_off580 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1176 : Index := Scalar.indexCast arg11
  let c96_625 : Index := 96#32
  ![v1176.toNat, 96]
def k1_off581 (i : grid1.Coords) (v27 : BitVec 32) (v29 : BitVec 32) (k1_t1 : Fin k1_t1_loop.trips) (k1_t71 : Fin (k1_t71_loop i v27 v29 k1_t1).trips) : Fin 2 → Nat :=
  let c256_i32_470 : BitVec 32 := 256#32
  let c0_i32_469 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v878 : BitVec 32 := Scalar.subi v27 v743
  let v879 : BitVec 32 := Scalar.maxsi c0_i32_469 v878
  let v880 : BitVec 32 := Scalar.minsi c256_i32_470 v879
  let c256_i32_472 : BitVec 32 := 256#32
  let c0_i32_471 : BitVec 32 := 0#32
  let v881 : BitVec 32 := Scalar.subi v29 v743
  let v882 : BitVec 32 := Scalar.maxsi c0_i32_471 v881
  let v883 : BitVec 32 := Scalar.minsi c256_i32_472 v882
  let v884 : BitVec 32 := Scalar.subi v883 v880
  let c0_i32_566 : BitVec 32 := 0#32
  let v1039 : BitVec 1 := Scalar.cmpi .sgt v884 c0_i32_566
  let v1040 : BitVec 32 := Scalar.extui v1039
  let c0_i32_567 : BitVec 32 := 0#32
  let v1041 : BitVec 1 := Scalar.cmpi .slt v884 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v884 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v884 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v880 v1055
  let v1081 : BitVec 32 := Scalar.subi v883 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t71
  let v1180 : Index := Scalar.indexCast arg11
  let c112_626 : Index := 112#32
  ![v1180.toNat, 112]
@[reducible] def k1_t72_loop (i : grid1.Coords) (v29 : BitVec 32) (v31 : BitVec 32) (k1_t1 : Fin k1_t1_loop.trips) : Scf.Loop 32 :=
  let c0_i32_580 : BitVec 32 := 0#32
  let c256_i32_478 : BitVec 32 := 256#32
  let c0_i32_477 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v891 : BitVec 32 := Scalar.subi v31 v743
  let v892 : BitVec 32 := Scalar.maxsi c0_i32_477 v891
  let v893 : BitVec 32 := Scalar.minsi c256_i32_478 v892
  let c256_i32_476 : BitVec 32 := 256#32
  let c0_i32_475 : BitVec 32 := 0#32
  let v888 : BitVec 32 := Scalar.subi v29 v743
  let v889 : BitVec 32 := Scalar.maxsi c0_i32_475 v888
  let v890 : BitVec 32 := Scalar.minsi c256_i32_476 v889
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond25 (i : grid1.Coords) (v29 : BitVec 32) (v31 : BitVec 32) (k1_t1 : Fin k1_t1_loop.trips) : BitVec 1 :=
  let c256_i32_478 : BitVec 32 := 256#32
  let c0_i32_477 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v891 : BitVec 32 := Scalar.subi v31 v743
  let v892 : BitVec 32 := Scalar.maxsi c0_i32_477 v891
  let v893 : BitVec 32 := Scalar.minsi c256_i32_478 v892
  let c256_i32_476 : BitVec 32 := 256#32
  let c0_i32_475 : BitVec 32 := 0#32
  let v888 : BitVec 32 := Scalar.subi v29 v743
  let v889 : BitVec 32 := Scalar.maxsi c0_i32_475 v888
  let v890 : BitVec 32 := Scalar.minsi c256_i32_476 v889
  let v894 : BitVec 32 := Scalar.subi v893 v890
  let c0_i32_479 : BitVec 32 := 0#32
  let v895 : BitVec 1 := Scalar.cmpi .sgt v894 c0_i32_479
  let v896 : BitVec 32 := Scalar.extui v895
  let c0_i32_480 : BitVec 32 := 0#32
  let v897 : BitVec 1 := Scalar.cmpi .ne v896 c0_i32_480
  v897

def k1_off582 (i : grid1.Coords) (v29 : BitVec 32) (v31 : BitVec 32) (k1_t1 : Fin k1_t1_loop.trips) (k1_t72 : Fin (k1_t72_loop i v29 v31 k1_t1).trips) (c0_i32_620 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1154 : BitVec 32 := Scalar.addi v1153 c0_i32_620
  let v1155 : Index := Scalar.indexCast v1154
  let c0_621 : Index := 0#32
  ![v1155.toNat, 0]
def k1_off583 (i : grid1.Coords) (v29 : BitVec 32) (v31 : BitVec 32) (k1_t1 : Fin k1_t1_loop.trips) (k1_t72 : Fin (k1_t72_loop i v29 v31 k1_t1).trips) (c0_i32_622 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1159 : BitVec 32 := Scalar.addi v1153 c0_i32_622
  let v1160 : Index := Scalar.indexCast v1159
  let c16_623 : Index := 16#32
  ![v1160.toNat, 16]
def k1_off584 (i : grid1.Coords) (v29 : BitVec 32) (v31 : BitVec 32) (k1_t1 : Fin k1_t1_loop.trips) (k1_t72 : Fin (k1_t72_loop i v29 v31 k1_t1).trips) (c0_i32_624 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1164 : BitVec 32 := Scalar.addi v1153 c0_i32_624
  let v1165 : Index := Scalar.indexCast v1164
  let c32_625 : Index := 32#32
  ![v1165.toNat, 32]
def k1_off585 (i : grid1.Coords) (v29 : BitVec 32) (v31 : BitVec 32) (k1_t1 : Fin k1_t1_loop.trips) (k1_t72 : Fin (k1_t72_loop i v29 v31 k1_t1).trips) (c0_i32_626 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1169 : BitVec 32 := Scalar.addi v1153 c0_i32_626
  let v1170 : Index := Scalar.indexCast v1169
  let c48_627 : Index := 48#32
  ![v1170.toNat, 48]
def k1_off586 (i : grid1.Coords) (v29 : BitVec 32) (v31 : BitVec 32) (k1_t1 : Fin k1_t1_loop.trips) (k1_t72 : Fin (k1_t72_loop i v29 v31 k1_t1).trips) (c0_i32_628 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1174 : BitVec 32 := Scalar.addi v1153 c0_i32_628
  let v1175 : Index := Scalar.indexCast v1174
  let c64_629 : Index := 64#32
  ![v1175.toNat, 64]
def k1_off587 (i : grid1.Coords) (v29 : BitVec 32) (v31 : BitVec 32) (k1_t1 : Fin k1_t1_loop.trips) (k1_t72 : Fin (k1_t72_loop i v29 v31 k1_t1).trips) (c0_i32_630 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1179 : BitVec 32 := Scalar.addi v1153 c0_i32_630
  let v1180 : Index := Scalar.indexCast v1179
  let c80_631 : Index := 80#32
  ![v1180.toNat, 80]
def k1_off588 (i : grid1.Coords) (v29 : BitVec 32) (v31 : BitVec 32) (k1_t1 : Fin k1_t1_loop.trips) (k1_t72 : Fin (k1_t72_loop i v29 v31 k1_t1).trips) (c0_i32_632 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1184 : BitVec 32 := Scalar.addi v1153 c0_i32_632
  let v1185 : Index := Scalar.indexCast v1184
  let c96_633 : Index := 96#32
  ![v1185.toNat, 96]
def k1_off589 (i : grid1.Coords) (v29 : BitVec 32) (v31 : BitVec 32) (k1_t1 : Fin k1_t1_loop.trips) (k1_t72 : Fin (k1_t72_loop i v29 v31 k1_t1).trips) (c0_i32_634 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c1_i32_582 : BitVec 32 := 1#32
  let arg11 : BitVec 32 := Scf.iv c0_i32_580 c1_i32_582 k1_t72
  let c4_i32_619 : BitVec 32 := 4#32
  let v1152 : BitVec 32 := Scalar.muli arg11 c4_i32_619
  let v1153 : BitVec 32 := Scalar.addi v890 v1152
  let v1189 : BitVec 32 := Scalar.addi v1153 c0_i32_634
  let v1190 : Index := Scalar.indexCast v1189
  let c112_635 : Index := 112#32
  ![v1190.toNat, 112]
@[reducible] def k1_t73_loop (i : grid1.Coords) (v29 : BitVec 32) (v31 : BitVec 32) (k1_t1 : Fin k1_t1_loop.trips) : Scf.Loop 32 :=
  let c0_i32_580 : BitVec 32 := 0#32
  let c256_i32_478 : BitVec 32 := 256#32
  let c0_i32_477 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v891 : BitVec 32 := Scalar.subi v31 v743
  let v892 : BitVec 32 := Scalar.maxsi c0_i32_477 v891
  let v893 : BitVec 32 := Scalar.minsi c256_i32_478 v892
  let c256_i32_476 : BitVec 32 := 256#32
  let c0_i32_475 : BitVec 32 := 0#32
  let v888 : BitVec 32 := Scalar.subi v29 v743
  let v889 : BitVec 32 := Scalar.maxsi c0_i32_475 v888
  let v890 : BitVec 32 := Scalar.minsi c256_i32_476 v889
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off590 (i : grid1.Coords) (v29 : BitVec 32) (v31 : BitVec 32) (k1_t1 : Fin k1_t1_loop.trips) (k1_t73 : Fin (k1_t73_loop i v29 v31 k1_t1).trips) (c0_i32_620 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1154 : BitVec 32 := Scalar.addi v1153 c0_i32_620
  let v1155 : Index := Scalar.indexCast v1154
  let c0_621 : Index := 0#32
  ![v1155.toNat, 0]
def k1_off591 (i : grid1.Coords) (v29 : BitVec 32) (v31 : BitVec 32) (k1_t1 : Fin k1_t1_loop.trips) (k1_t73 : Fin (k1_t73_loop i v29 v31 k1_t1).trips) (c0_i32_622 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1159 : BitVec 32 := Scalar.addi v1153 c0_i32_622
  let v1160 : Index := Scalar.indexCast v1159
  let c16_623 : Index := 16#32
  ![v1160.toNat, 16]
def k1_off592 (i : grid1.Coords) (v29 : BitVec 32) (v31 : BitVec 32) (k1_t1 : Fin k1_t1_loop.trips) (k1_t73 : Fin (k1_t73_loop i v29 v31 k1_t1).trips) (c0_i32_624 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1164 : BitVec 32 := Scalar.addi v1153 c0_i32_624
  let v1165 : Index := Scalar.indexCast v1164
  let c32_625 : Index := 32#32
  ![v1165.toNat, 32]
def k1_off593 (i : grid1.Coords) (v29 : BitVec 32) (v31 : BitVec 32) (k1_t1 : Fin k1_t1_loop.trips) (k1_t73 : Fin (k1_t73_loop i v29 v31 k1_t1).trips) (c0_i32_626 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1169 : BitVec 32 := Scalar.addi v1153 c0_i32_626
  let v1170 : Index := Scalar.indexCast v1169
  let c48_627 : Index := 48#32
  ![v1170.toNat, 48]
def k1_off594 (i : grid1.Coords) (v29 : BitVec 32) (v31 : BitVec 32) (k1_t1 : Fin k1_t1_loop.trips) (k1_t73 : Fin (k1_t73_loop i v29 v31 k1_t1).trips) (c0_i32_628 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1174 : BitVec 32 := Scalar.addi v1153 c0_i32_628
  let v1175 : Index := Scalar.indexCast v1174
  let c64_629 : Index := 64#32
  ![v1175.toNat, 64]
def k1_off595 (i : grid1.Coords) (v29 : BitVec 32) (v31 : BitVec 32) (k1_t1 : Fin k1_t1_loop.trips) (k1_t73 : Fin (k1_t73_loop i v29 v31 k1_t1).trips) (c0_i32_630 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1179 : BitVec 32 := Scalar.addi v1153 c0_i32_630
  let v1180 : Index := Scalar.indexCast v1179
  let c80_631 : Index := 80#32
  ![v1180.toNat, 80]
def k1_off596 (i : grid1.Coords) (v29 : BitVec 32) (v31 : BitVec 32) (k1_t1 : Fin k1_t1_loop.trips) (k1_t73 : Fin (k1_t73_loop i v29 v31 k1_t1).trips) (c0_i32_632 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1184 : BitVec 32 := Scalar.addi v1153 c0_i32_632
  let v1185 : Index := Scalar.indexCast v1184
  let c96_633 : Index := 96#32
  ![v1185.toNat, 96]
def k1_off597 (i : grid1.Coords) (v29 : BitVec 32) (v31 : BitVec 32) (k1_t1 : Fin k1_t1_loop.trips) (k1_t73 : Fin (k1_t73_loop i v29 v31 k1_t1).trips) (c0_i32_634 : BitVec 32) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c0_i32_580 : BitVec 32 := 0#32
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t73
  let c4_i32_619 : BitVec 32 := 4#32
  let v1152 : BitVec 32 := Scalar.muli arg11 c4_i32_619
  let v1153 : BitVec 32 := Scalar.addi v890 v1152
  let v1189 : BitVec 32 := Scalar.addi v1153 c0_i32_634
  let v1190 : Index := Scalar.indexCast v1189
  let c112_635 : Index := 112#32
  ![v1190.toNat, 112]
@[reducible] def k1_t74_loop (i : grid1.Coords) (v29 : BitVec 32) (v31 : BitVec 32) (k1_t1 : Fin k1_t1_loop.trips) : Scf.Loop 32 :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off598 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1152 : Index := Scalar.indexCast arg11
  let c0_619 : Index := 0#32
  ![v1152.toNat, 0]
def k1_off599 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1156 : Index := Scalar.indexCast arg11
  let c16_620 : Index := 16#32
  ![v1156.toNat, 16]
def k1_off600 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1160 : Index := Scalar.indexCast arg11
  let c32_621 : Index := 32#32
  ![v1160.toNat, 32]
def k1_off601 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1164 : Index := Scalar.indexCast arg11
  let c48_622 : Index := 48#32
  ![v1164.toNat, 48]
def k1_off602 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1168 : Index := Scalar.indexCast arg11
  let c64_623 : Index := 64#32
  ![v1168.toNat, 64]
def k1_off603 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1172 : Index := Scalar.indexCast arg11
  let c80_624 : Index := 80#32
  ![v1172.toNat, 80]
def k1_off604 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1176 : Index := Scalar.indexCast arg11
  let c96_625 : Index := 96#32
  ![v1176.toNat, 96]
def k1_off605 (i : grid1.Coords) (v29 : BitVec 32) (v31 : BitVec 32) (k1_t1 : Fin k1_t1_loop.trips) (k1_t74 : Fin (k1_t74_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let c1_i32_585 : BitVec 32 := 1#32
  let arg11 : BitVec 32 := Scf.iv v1080 c1_i32_585 k1_t74
  let v1180 : Index := Scalar.indexCast arg11
  let c112_626 : Index := 112#32
  ![v1180.toNat, 112]
@[reducible] def k1_t75_loop (i : grid1.Coords) (v29 : BitVec 32) (v31 : BitVec 32) (k1_t1 : Fin k1_t1_loop.trips) : Scf.Loop 32 :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off606 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1152 : Index := Scalar.indexCast arg11
  let c0_619 : Index := 0#32
  ![v1152.toNat, 0]
def k1_off607 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1156 : Index := Scalar.indexCast arg11
  let c16_620 : Index := 16#32
  ![v1156.toNat, 16]
def k1_off608 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1160 : Index := Scalar.indexCast arg11
  let c32_621 : Index := 32#32
  ![v1160.toNat, 32]
def k1_off609 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1164 : Index := Scalar.indexCast arg11
  let c48_622 : Index := 48#32
  ![v1164.toNat, 48]
def k1_off610 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1168 : Index := Scalar.indexCast arg11
  let c64_623 : Index := 64#32
  ![v1168.toNat, 64]
def k1_off611 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1172 : Index := Scalar.indexCast arg11
  let c80_624 : Index := 80#32
  ![v1172.toNat, 80]
def k1_off612 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1176 : Index := Scalar.indexCast arg11
  let c96_625 : Index := 96#32
  ![v1176.toNat, 96]
def k1_off613 (i : grid1.Coords) (v29 : BitVec 32) (v31 : BitVec 32) (k1_t1 : Fin k1_t1_loop.trips) (k1_t75 : Fin (k1_t75_loop i v29 v31 k1_t1).trips) : Fin 2 → Nat :=
  let c256_i32_476 : BitVec 32 := 256#32
  let c0_i32_475 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v888 : BitVec 32 := Scalar.subi v29 v743
  let v889 : BitVec 32 := Scalar.maxsi c0_i32_475 v888
  let v890 : BitVec 32 := Scalar.minsi c256_i32_476 v889
  let c256_i32_478 : BitVec 32 := 256#32
  let c0_i32_477 : BitVec 32 := 0#32
  let v891 : BitVec 32 := Scalar.subi v31 v743
  let v892 : BitVec 32 := Scalar.maxsi c0_i32_477 v891
  let v893 : BitVec 32 := Scalar.minsi c256_i32_478 v892
  let v894 : BitVec 32 := Scalar.subi v893 v890
  let c0_i32_566 : BitVec 32 := 0#32
  let v1039 : BitVec 1 := Scalar.cmpi .sgt v894 c0_i32_566
  let v1040 : BitVec 32 := Scalar.extui v1039
  let c0_i32_567 : BitVec 32 := 0#32
  let v1041 : BitVec 1 := Scalar.cmpi .slt v894 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v894 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v894 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v890 v1055
  let v1081 : BitVec 32 := Scalar.subi v893 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t75
  let v1180 : Index := Scalar.indexCast arg11
  let c112_626 : Index := 112#32
  ![v1180.toNat, 112]
@[reducible] def k1_t76_loop (i : grid1.Coords) (v31 : BitVec 32) (v33 : BitVec 32) (k1_t1 : Fin k1_t1_loop.trips) : Scf.Loop 32 :=
  let c0_i32_580 : BitVec 32 := 0#32
  let c256_i32_484 : BitVec 32 := 256#32
  let c0_i32_483 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v901 : BitVec 32 := Scalar.subi v33 v743
  let v902 : BitVec 32 := Scalar.maxsi c0_i32_483 v901
  let v903 : BitVec 32 := Scalar.minsi c256_i32_484 v902
  let c256_i32_482 : BitVec 32 := 256#32
  let c0_i32_481 : BitVec 32 := 0#32
  let v898 : BitVec 32 := Scalar.subi v31 v743
  let v899 : BitVec 32 := Scalar.maxsi c0_i32_481 v898
  let v900 : BitVec 32 := Scalar.minsi c256_i32_482 v899
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond26 (i : grid1.Coords) (v31 : BitVec 32) (v33 : BitVec 32) (k1_t1 : Fin k1_t1_loop.trips) : BitVec 1 :=
  let c256_i32_484 : BitVec 32 := 256#32
  let c0_i32_483 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v901 : BitVec 32 := Scalar.subi v33 v743
  let v902 : BitVec 32 := Scalar.maxsi c0_i32_483 v901
  let v903 : BitVec 32 := Scalar.minsi c256_i32_484 v902
  let c256_i32_482 : BitVec 32 := 256#32
  let c0_i32_481 : BitVec 32 := 0#32
  let v898 : BitVec 32 := Scalar.subi v31 v743
  let v899 : BitVec 32 := Scalar.maxsi c0_i32_481 v898
  let v900 : BitVec 32 := Scalar.minsi c256_i32_482 v899
  let v904 : BitVec 32 := Scalar.subi v903 v900
  let c0_i32_485 : BitVec 32 := 0#32
  let v905 : BitVec 1 := Scalar.cmpi .sgt v904 c0_i32_485
  let v906 : BitVec 32 := Scalar.extui v905
  let c0_i32_486 : BitVec 32 := 0#32
  let v907 : BitVec 1 := Scalar.cmpi .ne v906 c0_i32_486
  v907

def k1_off614 (i : grid1.Coords) (v31 : BitVec 32) (v33 : BitVec 32) (k1_t1 : Fin k1_t1_loop.trips) (k1_t76 : Fin (k1_t76_loop i v31 v33 k1_t1).trips) (c0_i32_620 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1154 : BitVec 32 := Scalar.addi v1153 c0_i32_620
  let v1155 : Index := Scalar.indexCast v1154
  let c0_621 : Index := 0#32
  ![v1155.toNat, 0]
def k1_off615 (i : grid1.Coords) (v31 : BitVec 32) (v33 : BitVec 32) (k1_t1 : Fin k1_t1_loop.trips) (k1_t76 : Fin (k1_t76_loop i v31 v33 k1_t1).trips) (c0_i32_622 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1159 : BitVec 32 := Scalar.addi v1153 c0_i32_622
  let v1160 : Index := Scalar.indexCast v1159
  let c16_623 : Index := 16#32
  ![v1160.toNat, 16]
def k1_off616 (i : grid1.Coords) (v31 : BitVec 32) (v33 : BitVec 32) (k1_t1 : Fin k1_t1_loop.trips) (k1_t76 : Fin (k1_t76_loop i v31 v33 k1_t1).trips) (c0_i32_624 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1164 : BitVec 32 := Scalar.addi v1153 c0_i32_624
  let v1165 : Index := Scalar.indexCast v1164
  let c32_625 : Index := 32#32
  ![v1165.toNat, 32]
def k1_off617 (i : grid1.Coords) (v31 : BitVec 32) (v33 : BitVec 32) (k1_t1 : Fin k1_t1_loop.trips) (k1_t76 : Fin (k1_t76_loop i v31 v33 k1_t1).trips) (c0_i32_626 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1169 : BitVec 32 := Scalar.addi v1153 c0_i32_626
  let v1170 : Index := Scalar.indexCast v1169
  let c48_627 : Index := 48#32
  ![v1170.toNat, 48]
def k1_off618 (i : grid1.Coords) (v31 : BitVec 32) (v33 : BitVec 32) (k1_t1 : Fin k1_t1_loop.trips) (k1_t76 : Fin (k1_t76_loop i v31 v33 k1_t1).trips) (c0_i32_628 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1174 : BitVec 32 := Scalar.addi v1153 c0_i32_628
  let v1175 : Index := Scalar.indexCast v1174
  let c64_629 : Index := 64#32
  ![v1175.toNat, 64]
def k1_off619 (i : grid1.Coords) (v31 : BitVec 32) (v33 : BitVec 32) (k1_t1 : Fin k1_t1_loop.trips) (k1_t76 : Fin (k1_t76_loop i v31 v33 k1_t1).trips) (c0_i32_630 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1179 : BitVec 32 := Scalar.addi v1153 c0_i32_630
  let v1180 : Index := Scalar.indexCast v1179
  let c80_631 : Index := 80#32
  ![v1180.toNat, 80]
def k1_off620 (i : grid1.Coords) (v31 : BitVec 32) (v33 : BitVec 32) (k1_t1 : Fin k1_t1_loop.trips) (k1_t76 : Fin (k1_t76_loop i v31 v33 k1_t1).trips) (c0_i32_632 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1184 : BitVec 32 := Scalar.addi v1153 c0_i32_632
  let v1185 : Index := Scalar.indexCast v1184
  let c96_633 : Index := 96#32
  ![v1185.toNat, 96]
def k1_off621 (i : grid1.Coords) (v31 : BitVec 32) (v33 : BitVec 32) (k1_t1 : Fin k1_t1_loop.trips) (k1_t76 : Fin (k1_t76_loop i v31 v33 k1_t1).trips) (c0_i32_634 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c1_i32_582 : BitVec 32 := 1#32
  let arg11 : BitVec 32 := Scf.iv c0_i32_580 c1_i32_582 k1_t76
  let c4_i32_619 : BitVec 32 := 4#32
  let v1152 : BitVec 32 := Scalar.muli arg11 c4_i32_619
  let v1153 : BitVec 32 := Scalar.addi v900 v1152
  let v1189 : BitVec 32 := Scalar.addi v1153 c0_i32_634
  let v1190 : Index := Scalar.indexCast v1189
  let c112_635 : Index := 112#32
  ![v1190.toNat, 112]
@[reducible] def k1_t77_loop (i : grid1.Coords) (v31 : BitVec 32) (v33 : BitVec 32) (k1_t1 : Fin k1_t1_loop.trips) : Scf.Loop 32 :=
  let c0_i32_580 : BitVec 32 := 0#32
  let c256_i32_484 : BitVec 32 := 256#32
  let c0_i32_483 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v901 : BitVec 32 := Scalar.subi v33 v743
  let v902 : BitVec 32 := Scalar.maxsi c0_i32_483 v901
  let v903 : BitVec 32 := Scalar.minsi c256_i32_484 v902
  let c256_i32_482 : BitVec 32 := 256#32
  let c0_i32_481 : BitVec 32 := 0#32
  let v898 : BitVec 32 := Scalar.subi v31 v743
  let v899 : BitVec 32 := Scalar.maxsi c0_i32_481 v898
  let v900 : BitVec 32 := Scalar.minsi c256_i32_482 v899
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off622 (i : grid1.Coords) (v31 : BitVec 32) (v33 : BitVec 32) (k1_t1 : Fin k1_t1_loop.trips) (k1_t77 : Fin (k1_t77_loop i v31 v33 k1_t1).trips) (c0_i32_620 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1154 : BitVec 32 := Scalar.addi v1153 c0_i32_620
  let v1155 : Index := Scalar.indexCast v1154
  let c0_621 : Index := 0#32
  ![v1155.toNat, 0]
def k1_off623 (i : grid1.Coords) (v31 : BitVec 32) (v33 : BitVec 32) (k1_t1 : Fin k1_t1_loop.trips) (k1_t77 : Fin (k1_t77_loop i v31 v33 k1_t1).trips) (c0_i32_622 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1159 : BitVec 32 := Scalar.addi v1153 c0_i32_622
  let v1160 : Index := Scalar.indexCast v1159
  let c16_623 : Index := 16#32
  ![v1160.toNat, 16]
def k1_off624 (i : grid1.Coords) (v31 : BitVec 32) (v33 : BitVec 32) (k1_t1 : Fin k1_t1_loop.trips) (k1_t77 : Fin (k1_t77_loop i v31 v33 k1_t1).trips) (c0_i32_624 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1164 : BitVec 32 := Scalar.addi v1153 c0_i32_624
  let v1165 : Index := Scalar.indexCast v1164
  let c32_625 : Index := 32#32
  ![v1165.toNat, 32]
def k1_off625 (i : grid1.Coords) (v31 : BitVec 32) (v33 : BitVec 32) (k1_t1 : Fin k1_t1_loop.trips) (k1_t77 : Fin (k1_t77_loop i v31 v33 k1_t1).trips) (c0_i32_626 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1169 : BitVec 32 := Scalar.addi v1153 c0_i32_626
  let v1170 : Index := Scalar.indexCast v1169
  let c48_627 : Index := 48#32
  ![v1170.toNat, 48]
def k1_off626 (i : grid1.Coords) (v31 : BitVec 32) (v33 : BitVec 32) (k1_t1 : Fin k1_t1_loop.trips) (k1_t77 : Fin (k1_t77_loop i v31 v33 k1_t1).trips) (c0_i32_628 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1174 : BitVec 32 := Scalar.addi v1153 c0_i32_628
  let v1175 : Index := Scalar.indexCast v1174
  let c64_629 : Index := 64#32
  ![v1175.toNat, 64]
def k1_off627 (i : grid1.Coords) (v31 : BitVec 32) (v33 : BitVec 32) (k1_t1 : Fin k1_t1_loop.trips) (k1_t77 : Fin (k1_t77_loop i v31 v33 k1_t1).trips) (c0_i32_630 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1179 : BitVec 32 := Scalar.addi v1153 c0_i32_630
  let v1180 : Index := Scalar.indexCast v1179
  let c80_631 : Index := 80#32
  ![v1180.toNat, 80]
def k1_off628 (i : grid1.Coords) (v31 : BitVec 32) (v33 : BitVec 32) (k1_t1 : Fin k1_t1_loop.trips) (k1_t77 : Fin (k1_t77_loop i v31 v33 k1_t1).trips) (c0_i32_632 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1184 : BitVec 32 := Scalar.addi v1153 c0_i32_632
  let v1185 : Index := Scalar.indexCast v1184
  let c96_633 : Index := 96#32
  ![v1185.toNat, 96]
def k1_off629 (i : grid1.Coords) (v31 : BitVec 32) (v33 : BitVec 32) (k1_t1 : Fin k1_t1_loop.trips) (k1_t77 : Fin (k1_t77_loop i v31 v33 k1_t1).trips) (c0_i32_634 : BitVec 32) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c0_i32_580 : BitVec 32 := 0#32
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t77
  let c4_i32_619 : BitVec 32 := 4#32
  let v1152 : BitVec 32 := Scalar.muli arg11 c4_i32_619
  let v1153 : BitVec 32 := Scalar.addi v900 v1152
  let v1189 : BitVec 32 := Scalar.addi v1153 c0_i32_634
  let v1190 : Index := Scalar.indexCast v1189
  let c112_635 : Index := 112#32
  ![v1190.toNat, 112]
@[reducible] def k1_t78_loop (i : grid1.Coords) (v31 : BitVec 32) (v33 : BitVec 32) (k1_t1 : Fin k1_t1_loop.trips) : Scf.Loop 32 :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off630 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1152 : Index := Scalar.indexCast arg11
  let c0_619 : Index := 0#32
  ![v1152.toNat, 0]
def k1_off631 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1156 : Index := Scalar.indexCast arg11
  let c16_620 : Index := 16#32
  ![v1156.toNat, 16]
def k1_off632 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1160 : Index := Scalar.indexCast arg11
  let c32_621 : Index := 32#32
  ![v1160.toNat, 32]
def k1_off633 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1164 : Index := Scalar.indexCast arg11
  let c48_622 : Index := 48#32
  ![v1164.toNat, 48]
def k1_off634 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1168 : Index := Scalar.indexCast arg11
  let c64_623 : Index := 64#32
  ![v1168.toNat, 64]
def k1_off635 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1172 : Index := Scalar.indexCast arg11
  let c80_624 : Index := 80#32
  ![v1172.toNat, 80]
def k1_off636 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1176 : Index := Scalar.indexCast arg11
  let c96_625 : Index := 96#32
  ![v1176.toNat, 96]
def k1_off637 (i : grid1.Coords) (v31 : BitVec 32) (v33 : BitVec 32) (k1_t1 : Fin k1_t1_loop.trips) (k1_t78 : Fin (k1_t78_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let c1_i32_585 : BitVec 32 := 1#32
  let arg11 : BitVec 32 := Scf.iv v1080 c1_i32_585 k1_t78
  let v1180 : Index := Scalar.indexCast arg11
  let c112_626 : Index := 112#32
  ![v1180.toNat, 112]
@[reducible] def k1_t79_loop (i : grid1.Coords) (v31 : BitVec 32) (v33 : BitVec 32) (k1_t1 : Fin k1_t1_loop.trips) : Scf.Loop 32 :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off638 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1152 : Index := Scalar.indexCast arg11
  let c0_619 : Index := 0#32
  ![v1152.toNat, 0]
def k1_off639 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1156 : Index := Scalar.indexCast arg11
  let c16_620 : Index := 16#32
  ![v1156.toNat, 16]
def k1_off640 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1160 : Index := Scalar.indexCast arg11
  let c32_621 : Index := 32#32
  ![v1160.toNat, 32]
def k1_off641 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1164 : Index := Scalar.indexCast arg11
  let c48_622 : Index := 48#32
  ![v1164.toNat, 48]
def k1_off642 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1168 : Index := Scalar.indexCast arg11
  let c64_623 : Index := 64#32
  ![v1168.toNat, 64]
def k1_off643 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1172 : Index := Scalar.indexCast arg11
  let c80_624 : Index := 80#32
  ![v1172.toNat, 80]
def k1_off644 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1176 : Index := Scalar.indexCast arg11
  let c96_625 : Index := 96#32
  ![v1176.toNat, 96]
def k1_off645 (i : grid1.Coords) (v31 : BitVec 32) (v33 : BitVec 32) (k1_t1 : Fin k1_t1_loop.trips) (k1_t79 : Fin (k1_t79_loop i v31 v33 k1_t1).trips) : Fin 2 → Nat :=
  let c256_i32_482 : BitVec 32 := 256#32
  let c0_i32_481 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v898 : BitVec 32 := Scalar.subi v31 v743
  let v899 : BitVec 32 := Scalar.maxsi c0_i32_481 v898
  let v900 : BitVec 32 := Scalar.minsi c256_i32_482 v899
  let c256_i32_484 : BitVec 32 := 256#32
  let c0_i32_483 : BitVec 32 := 0#32
  let v901 : BitVec 32 := Scalar.subi v33 v743
  let v902 : BitVec 32 := Scalar.maxsi c0_i32_483 v901
  let v903 : BitVec 32 := Scalar.minsi c256_i32_484 v902
  let v904 : BitVec 32 := Scalar.subi v903 v900
  let c0_i32_566 : BitVec 32 := 0#32
  let v1039 : BitVec 1 := Scalar.cmpi .sgt v904 c0_i32_566
  let v1040 : BitVec 32 := Scalar.extui v1039
  let c0_i32_567 : BitVec 32 := 0#32
  let v1041 : BitVec 1 := Scalar.cmpi .slt v904 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v904 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v904 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v900 v1055
  let v1081 : BitVec 32 := Scalar.subi v903 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t79
  let v1180 : Index := Scalar.indexCast arg11
  let c112_626 : Index := 112#32
  ![v1180.toNat, 112]
@[reducible] def k1_t80_loop (i : grid1.Coords) (v33 : BitVec 32) (v35 : BitVec 32) (k1_t1 : Fin k1_t1_loop.trips) : Scf.Loop 32 :=
  let c0_i32_580 : BitVec 32 := 0#32
  let c256_i32_490 : BitVec 32 := 256#32
  let c0_i32_489 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v911 : BitVec 32 := Scalar.subi v35 v743
  let v912 : BitVec 32 := Scalar.maxsi c0_i32_489 v911
  let v913 : BitVec 32 := Scalar.minsi c256_i32_490 v912
  let c256_i32_488 : BitVec 32 := 256#32
  let c0_i32_487 : BitVec 32 := 0#32
  let v908 : BitVec 32 := Scalar.subi v33 v743
  let v909 : BitVec 32 := Scalar.maxsi c0_i32_487 v908
  let v910 : BitVec 32 := Scalar.minsi c256_i32_488 v909
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond27 (i : grid1.Coords) (v33 : BitVec 32) (v35 : BitVec 32) (k1_t1 : Fin k1_t1_loop.trips) : BitVec 1 :=
  let c256_i32_490 : BitVec 32 := 256#32
  let c0_i32_489 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v911 : BitVec 32 := Scalar.subi v35 v743
  let v912 : BitVec 32 := Scalar.maxsi c0_i32_489 v911
  let v913 : BitVec 32 := Scalar.minsi c256_i32_490 v912
  let c256_i32_488 : BitVec 32 := 256#32
  let c0_i32_487 : BitVec 32 := 0#32
  let v908 : BitVec 32 := Scalar.subi v33 v743
  let v909 : BitVec 32 := Scalar.maxsi c0_i32_487 v908
  let v910 : BitVec 32 := Scalar.minsi c256_i32_488 v909
  let v914 : BitVec 32 := Scalar.subi v913 v910
  let c0_i32_491 : BitVec 32 := 0#32
  let v915 : BitVec 1 := Scalar.cmpi .sgt v914 c0_i32_491
  let v916 : BitVec 32 := Scalar.extui v915
  let c0_i32_492 : BitVec 32 := 0#32
  let v917 : BitVec 1 := Scalar.cmpi .ne v916 c0_i32_492
  v917

def k1_off646 (i : grid1.Coords) (v33 : BitVec 32) (v35 : BitVec 32) (k1_t1 : Fin k1_t1_loop.trips) (k1_t80 : Fin (k1_t80_loop i v33 v35 k1_t1).trips) (c0_i32_620 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1154 : BitVec 32 := Scalar.addi v1153 c0_i32_620
  let v1155 : Index := Scalar.indexCast v1154
  let c0_621 : Index := 0#32
  ![v1155.toNat, 0]
def k1_off647 (i : grid1.Coords) (v33 : BitVec 32) (v35 : BitVec 32) (k1_t1 : Fin k1_t1_loop.trips) (k1_t80 : Fin (k1_t80_loop i v33 v35 k1_t1).trips) (c0_i32_622 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1159 : BitVec 32 := Scalar.addi v1153 c0_i32_622
  let v1160 : Index := Scalar.indexCast v1159
  let c16_623 : Index := 16#32
  ![v1160.toNat, 16]
def k1_off648 (i : grid1.Coords) (v33 : BitVec 32) (v35 : BitVec 32) (k1_t1 : Fin k1_t1_loop.trips) (k1_t80 : Fin (k1_t80_loop i v33 v35 k1_t1).trips) (c0_i32_624 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1164 : BitVec 32 := Scalar.addi v1153 c0_i32_624
  let v1165 : Index := Scalar.indexCast v1164
  let c32_625 : Index := 32#32
  ![v1165.toNat, 32]
def k1_off649 (i : grid1.Coords) (v33 : BitVec 32) (v35 : BitVec 32) (k1_t1 : Fin k1_t1_loop.trips) (k1_t80 : Fin (k1_t80_loop i v33 v35 k1_t1).trips) (c0_i32_626 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1169 : BitVec 32 := Scalar.addi v1153 c0_i32_626
  let v1170 : Index := Scalar.indexCast v1169
  let c48_627 : Index := 48#32
  ![v1170.toNat, 48]
def k1_off650 (i : grid1.Coords) (v33 : BitVec 32) (v35 : BitVec 32) (k1_t1 : Fin k1_t1_loop.trips) (k1_t80 : Fin (k1_t80_loop i v33 v35 k1_t1).trips) (c0_i32_628 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1174 : BitVec 32 := Scalar.addi v1153 c0_i32_628
  let v1175 : Index := Scalar.indexCast v1174
  let c64_629 : Index := 64#32
  ![v1175.toNat, 64]
def k1_off651 (i : grid1.Coords) (v33 : BitVec 32) (v35 : BitVec 32) (k1_t1 : Fin k1_t1_loop.trips) (k1_t80 : Fin (k1_t80_loop i v33 v35 k1_t1).trips) (c0_i32_630 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1179 : BitVec 32 := Scalar.addi v1153 c0_i32_630
  let v1180 : Index := Scalar.indexCast v1179
  let c80_631 : Index := 80#32
  ![v1180.toNat, 80]
def k1_off652 (i : grid1.Coords) (v33 : BitVec 32) (v35 : BitVec 32) (k1_t1 : Fin k1_t1_loop.trips) (k1_t80 : Fin (k1_t80_loop i v33 v35 k1_t1).trips) (c0_i32_632 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1184 : BitVec 32 := Scalar.addi v1153 c0_i32_632
  let v1185 : Index := Scalar.indexCast v1184
  let c96_633 : Index := 96#32
  ![v1185.toNat, 96]
def k1_off653 (i : grid1.Coords) (v33 : BitVec 32) (v35 : BitVec 32) (k1_t1 : Fin k1_t1_loop.trips) (k1_t80 : Fin (k1_t80_loop i v33 v35 k1_t1).trips) (c0_i32_634 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c1_i32_582 : BitVec 32 := 1#32
  let arg11 : BitVec 32 := Scf.iv c0_i32_580 c1_i32_582 k1_t80
  let c4_i32_619 : BitVec 32 := 4#32
  let v1152 : BitVec 32 := Scalar.muli arg11 c4_i32_619
  let v1153 : BitVec 32 := Scalar.addi v910 v1152
  let v1189 : BitVec 32 := Scalar.addi v1153 c0_i32_634
  let v1190 : Index := Scalar.indexCast v1189
  let c112_635 : Index := 112#32
  ![v1190.toNat, 112]
@[reducible] def k1_t81_loop (i : grid1.Coords) (v33 : BitVec 32) (v35 : BitVec 32) (k1_t1 : Fin k1_t1_loop.trips) : Scf.Loop 32 :=
  let c0_i32_580 : BitVec 32 := 0#32
  let c256_i32_490 : BitVec 32 := 256#32
  let c0_i32_489 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v911 : BitVec 32 := Scalar.subi v35 v743
  let v912 : BitVec 32 := Scalar.maxsi c0_i32_489 v911
  let v913 : BitVec 32 := Scalar.minsi c256_i32_490 v912
  let c256_i32_488 : BitVec 32 := 256#32
  let c0_i32_487 : BitVec 32 := 0#32
  let v908 : BitVec 32 := Scalar.subi v33 v743
  let v909 : BitVec 32 := Scalar.maxsi c0_i32_487 v908
  let v910 : BitVec 32 := Scalar.minsi c256_i32_488 v909
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off654 (i : grid1.Coords) (v33 : BitVec 32) (v35 : BitVec 32) (k1_t1 : Fin k1_t1_loop.trips) (k1_t81 : Fin (k1_t81_loop i v33 v35 k1_t1).trips) (c0_i32_620 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1154 : BitVec 32 := Scalar.addi v1153 c0_i32_620
  let v1155 : Index := Scalar.indexCast v1154
  let c0_621 : Index := 0#32
  ![v1155.toNat, 0]
def k1_off655 (i : grid1.Coords) (v33 : BitVec 32) (v35 : BitVec 32) (k1_t1 : Fin k1_t1_loop.trips) (k1_t81 : Fin (k1_t81_loop i v33 v35 k1_t1).trips) (c0_i32_622 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1159 : BitVec 32 := Scalar.addi v1153 c0_i32_622
  let v1160 : Index := Scalar.indexCast v1159
  let c16_623 : Index := 16#32
  ![v1160.toNat, 16]
def k1_off656 (i : grid1.Coords) (v33 : BitVec 32) (v35 : BitVec 32) (k1_t1 : Fin k1_t1_loop.trips) (k1_t81 : Fin (k1_t81_loop i v33 v35 k1_t1).trips) (c0_i32_624 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1164 : BitVec 32 := Scalar.addi v1153 c0_i32_624
  let v1165 : Index := Scalar.indexCast v1164
  let c32_625 : Index := 32#32
  ![v1165.toNat, 32]
def k1_off657 (i : grid1.Coords) (v33 : BitVec 32) (v35 : BitVec 32) (k1_t1 : Fin k1_t1_loop.trips) (k1_t81 : Fin (k1_t81_loop i v33 v35 k1_t1).trips) (c0_i32_626 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1169 : BitVec 32 := Scalar.addi v1153 c0_i32_626
  let v1170 : Index := Scalar.indexCast v1169
  let c48_627 : Index := 48#32
  ![v1170.toNat, 48]
def k1_off658 (i : grid1.Coords) (v33 : BitVec 32) (v35 : BitVec 32) (k1_t1 : Fin k1_t1_loop.trips) (k1_t81 : Fin (k1_t81_loop i v33 v35 k1_t1).trips) (c0_i32_628 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1174 : BitVec 32 := Scalar.addi v1153 c0_i32_628
  let v1175 : Index := Scalar.indexCast v1174
  let c64_629 : Index := 64#32
  ![v1175.toNat, 64]
def k1_off659 (i : grid1.Coords) (v33 : BitVec 32) (v35 : BitVec 32) (k1_t1 : Fin k1_t1_loop.trips) (k1_t81 : Fin (k1_t81_loop i v33 v35 k1_t1).trips) (c0_i32_630 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1179 : BitVec 32 := Scalar.addi v1153 c0_i32_630
  let v1180 : Index := Scalar.indexCast v1179
  let c80_631 : Index := 80#32
  ![v1180.toNat, 80]
def k1_off660 (i : grid1.Coords) (v33 : BitVec 32) (v35 : BitVec 32) (k1_t1 : Fin k1_t1_loop.trips) (k1_t81 : Fin (k1_t81_loop i v33 v35 k1_t1).trips) (c0_i32_632 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1184 : BitVec 32 := Scalar.addi v1153 c0_i32_632
  let v1185 : Index := Scalar.indexCast v1184
  let c96_633 : Index := 96#32
  ![v1185.toNat, 96]
def k1_off661 (i : grid1.Coords) (v33 : BitVec 32) (v35 : BitVec 32) (k1_t1 : Fin k1_t1_loop.trips) (k1_t81 : Fin (k1_t81_loop i v33 v35 k1_t1).trips) (c0_i32_634 : BitVec 32) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c0_i32_580 : BitVec 32 := 0#32
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t81
  let c4_i32_619 : BitVec 32 := 4#32
  let v1152 : BitVec 32 := Scalar.muli arg11 c4_i32_619
  let v1153 : BitVec 32 := Scalar.addi v910 v1152
  let v1189 : BitVec 32 := Scalar.addi v1153 c0_i32_634
  let v1190 : Index := Scalar.indexCast v1189
  let c112_635 : Index := 112#32
  ![v1190.toNat, 112]
@[reducible] def k1_t82_loop (i : grid1.Coords) (v33 : BitVec 32) (v35 : BitVec 32) (k1_t1 : Fin k1_t1_loop.trips) : Scf.Loop 32 :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off662 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1152 : Index := Scalar.indexCast arg11
  let c0_619 : Index := 0#32
  ![v1152.toNat, 0]
def k1_off663 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1156 : Index := Scalar.indexCast arg11
  let c16_620 : Index := 16#32
  ![v1156.toNat, 16]
def k1_off664 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1160 : Index := Scalar.indexCast arg11
  let c32_621 : Index := 32#32
  ![v1160.toNat, 32]
def k1_off665 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1164 : Index := Scalar.indexCast arg11
  let c48_622 : Index := 48#32
  ![v1164.toNat, 48]
def k1_off666 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1168 : Index := Scalar.indexCast arg11
  let c64_623 : Index := 64#32
  ![v1168.toNat, 64]
def k1_off667 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1172 : Index := Scalar.indexCast arg11
  let c80_624 : Index := 80#32
  ![v1172.toNat, 80]
def k1_off668 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1176 : Index := Scalar.indexCast arg11
  let c96_625 : Index := 96#32
  ![v1176.toNat, 96]
def k1_off669 (i : grid1.Coords) (v33 : BitVec 32) (v35 : BitVec 32) (k1_t1 : Fin k1_t1_loop.trips) (k1_t82 : Fin (k1_t82_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let c1_i32_585 : BitVec 32 := 1#32
  let arg11 : BitVec 32 := Scf.iv v1080 c1_i32_585 k1_t82
  let v1180 : Index := Scalar.indexCast arg11
  let c112_626 : Index := 112#32
  ![v1180.toNat, 112]
@[reducible] def k1_t83_loop (i : grid1.Coords) (v33 : BitVec 32) (v35 : BitVec 32) (k1_t1 : Fin k1_t1_loop.trips) : Scf.Loop 32 :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off670 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1152 : Index := Scalar.indexCast arg11
  let c0_619 : Index := 0#32
  ![v1152.toNat, 0]
def k1_off671 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1156 : Index := Scalar.indexCast arg11
  let c16_620 : Index := 16#32
  ![v1156.toNat, 16]
def k1_off672 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1160 : Index := Scalar.indexCast arg11
  let c32_621 : Index := 32#32
  ![v1160.toNat, 32]
def k1_off673 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1164 : Index := Scalar.indexCast arg11
  let c48_622 : Index := 48#32
  ![v1164.toNat, 48]
def k1_off674 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1168 : Index := Scalar.indexCast arg11
  let c64_623 : Index := 64#32
  ![v1168.toNat, 64]
def k1_off675 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1172 : Index := Scalar.indexCast arg11
  let c80_624 : Index := 80#32
  ![v1172.toNat, 80]
def k1_off676 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1176 : Index := Scalar.indexCast arg11
  let c96_625 : Index := 96#32
  ![v1176.toNat, 96]
def k1_off677 (i : grid1.Coords) (v33 : BitVec 32) (v35 : BitVec 32) (k1_t1 : Fin k1_t1_loop.trips) (k1_t83 : Fin (k1_t83_loop i v33 v35 k1_t1).trips) : Fin 2 → Nat :=
  let c256_i32_488 : BitVec 32 := 256#32
  let c0_i32_487 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v908 : BitVec 32 := Scalar.subi v33 v743
  let v909 : BitVec 32 := Scalar.maxsi c0_i32_487 v908
  let v910 : BitVec 32 := Scalar.minsi c256_i32_488 v909
  let c256_i32_490 : BitVec 32 := 256#32
  let c0_i32_489 : BitVec 32 := 0#32
  let v911 : BitVec 32 := Scalar.subi v35 v743
  let v912 : BitVec 32 := Scalar.maxsi c0_i32_489 v911
  let v913 : BitVec 32 := Scalar.minsi c256_i32_490 v912
  let v914 : BitVec 32 := Scalar.subi v913 v910
  let c0_i32_566 : BitVec 32 := 0#32
  let v1039 : BitVec 1 := Scalar.cmpi .sgt v914 c0_i32_566
  let v1040 : BitVec 32 := Scalar.extui v1039
  let c0_i32_567 : BitVec 32 := 0#32
  let v1041 : BitVec 1 := Scalar.cmpi .slt v914 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v914 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v914 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v910 v1055
  let v1081 : BitVec 32 := Scalar.subi v913 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t83
  let v1180 : Index := Scalar.indexCast arg11
  let c112_626 : Index := 112#32
  ![v1180.toNat, 112]
@[reducible] def k1_t84_loop (i : grid1.Coords) (v35 : BitVec 32) (v37 : BitVec 32) (k1_t1 : Fin k1_t1_loop.trips) : Scf.Loop 32 :=
  let c0_i32_580 : BitVec 32 := 0#32
  let c256_i32_496 : BitVec 32 := 256#32
  let c0_i32_495 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v921 : BitVec 32 := Scalar.subi v37 v743
  let v922 : BitVec 32 := Scalar.maxsi c0_i32_495 v921
  let v923 : BitVec 32 := Scalar.minsi c256_i32_496 v922
  let c256_i32_494 : BitVec 32 := 256#32
  let c0_i32_493 : BitVec 32 := 0#32
  let v918 : BitVec 32 := Scalar.subi v35 v743
  let v919 : BitVec 32 := Scalar.maxsi c0_i32_493 v918
  let v920 : BitVec 32 := Scalar.minsi c256_i32_494 v919
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond28 (i : grid1.Coords) (v35 : BitVec 32) (v37 : BitVec 32) (k1_t1 : Fin k1_t1_loop.trips) : BitVec 1 :=
  let c256_i32_496 : BitVec 32 := 256#32
  let c0_i32_495 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v921 : BitVec 32 := Scalar.subi v37 v743
  let v922 : BitVec 32 := Scalar.maxsi c0_i32_495 v921
  let v923 : BitVec 32 := Scalar.minsi c256_i32_496 v922
  let c256_i32_494 : BitVec 32 := 256#32
  let c0_i32_493 : BitVec 32 := 0#32
  let v918 : BitVec 32 := Scalar.subi v35 v743
  let v919 : BitVec 32 := Scalar.maxsi c0_i32_493 v918
  let v920 : BitVec 32 := Scalar.minsi c256_i32_494 v919
  let v924 : BitVec 32 := Scalar.subi v923 v920
  let c0_i32_497 : BitVec 32 := 0#32
  let v925 : BitVec 1 := Scalar.cmpi .sgt v924 c0_i32_497
  let v926 : BitVec 32 := Scalar.extui v925
  let c0_i32_498 : BitVec 32 := 0#32
  let v927 : BitVec 1 := Scalar.cmpi .ne v926 c0_i32_498
  v927

def k1_off678 (i : grid1.Coords) (v35 : BitVec 32) (v37 : BitVec 32) (k1_t1 : Fin k1_t1_loop.trips) (k1_t84 : Fin (k1_t84_loop i v35 v37 k1_t1).trips) (c0_i32_620 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1154 : BitVec 32 := Scalar.addi v1153 c0_i32_620
  let v1155 : Index := Scalar.indexCast v1154
  let c0_621 : Index := 0#32
  ![v1155.toNat, 0]
def k1_off679 (i : grid1.Coords) (v35 : BitVec 32) (v37 : BitVec 32) (k1_t1 : Fin k1_t1_loop.trips) (k1_t84 : Fin (k1_t84_loop i v35 v37 k1_t1).trips) (c0_i32_622 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1159 : BitVec 32 := Scalar.addi v1153 c0_i32_622
  let v1160 : Index := Scalar.indexCast v1159
  let c16_623 : Index := 16#32
  ![v1160.toNat, 16]
def k1_off680 (i : grid1.Coords) (v35 : BitVec 32) (v37 : BitVec 32) (k1_t1 : Fin k1_t1_loop.trips) (k1_t84 : Fin (k1_t84_loop i v35 v37 k1_t1).trips) (c0_i32_624 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1164 : BitVec 32 := Scalar.addi v1153 c0_i32_624
  let v1165 : Index := Scalar.indexCast v1164
  let c32_625 : Index := 32#32
  ![v1165.toNat, 32]
def k1_off681 (i : grid1.Coords) (v35 : BitVec 32) (v37 : BitVec 32) (k1_t1 : Fin k1_t1_loop.trips) (k1_t84 : Fin (k1_t84_loop i v35 v37 k1_t1).trips) (c0_i32_626 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1169 : BitVec 32 := Scalar.addi v1153 c0_i32_626
  let v1170 : Index := Scalar.indexCast v1169
  let c48_627 : Index := 48#32
  ![v1170.toNat, 48]
def k1_off682 (i : grid1.Coords) (v35 : BitVec 32) (v37 : BitVec 32) (k1_t1 : Fin k1_t1_loop.trips) (k1_t84 : Fin (k1_t84_loop i v35 v37 k1_t1).trips) (c0_i32_628 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1174 : BitVec 32 := Scalar.addi v1153 c0_i32_628
  let v1175 : Index := Scalar.indexCast v1174
  let c64_629 : Index := 64#32
  ![v1175.toNat, 64]
def k1_off683 (i : grid1.Coords) (v35 : BitVec 32) (v37 : BitVec 32) (k1_t1 : Fin k1_t1_loop.trips) (k1_t84 : Fin (k1_t84_loop i v35 v37 k1_t1).trips) (c0_i32_630 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1179 : BitVec 32 := Scalar.addi v1153 c0_i32_630
  let v1180 : Index := Scalar.indexCast v1179
  let c80_631 : Index := 80#32
  ![v1180.toNat, 80]
def k1_off684 (i : grid1.Coords) (v35 : BitVec 32) (v37 : BitVec 32) (k1_t1 : Fin k1_t1_loop.trips) (k1_t84 : Fin (k1_t84_loop i v35 v37 k1_t1).trips) (c0_i32_632 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1184 : BitVec 32 := Scalar.addi v1153 c0_i32_632
  let v1185 : Index := Scalar.indexCast v1184
  let c96_633 : Index := 96#32
  ![v1185.toNat, 96]
def k1_off685 (i : grid1.Coords) (v35 : BitVec 32) (v37 : BitVec 32) (k1_t1 : Fin k1_t1_loop.trips) (k1_t84 : Fin (k1_t84_loop i v35 v37 k1_t1).trips) (c0_i32_634 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c1_i32_582 : BitVec 32 := 1#32
  let arg11 : BitVec 32 := Scf.iv c0_i32_580 c1_i32_582 k1_t84
  let c4_i32_619 : BitVec 32 := 4#32
  let v1152 : BitVec 32 := Scalar.muli arg11 c4_i32_619
  let v1153 : BitVec 32 := Scalar.addi v920 v1152
  let v1189 : BitVec 32 := Scalar.addi v1153 c0_i32_634
  let v1190 : Index := Scalar.indexCast v1189
  let c112_635 : Index := 112#32
  ![v1190.toNat, 112]
@[reducible] def k1_t85_loop (i : grid1.Coords) (v35 : BitVec 32) (v37 : BitVec 32) (k1_t1 : Fin k1_t1_loop.trips) : Scf.Loop 32 :=
  let c0_i32_580 : BitVec 32 := 0#32
  let c256_i32_496 : BitVec 32 := 256#32
  let c0_i32_495 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v921 : BitVec 32 := Scalar.subi v37 v743
  let v922 : BitVec 32 := Scalar.maxsi c0_i32_495 v921
  let v923 : BitVec 32 := Scalar.minsi c256_i32_496 v922
  let c256_i32_494 : BitVec 32 := 256#32
  let c0_i32_493 : BitVec 32 := 0#32
  let v918 : BitVec 32 := Scalar.subi v35 v743
  let v919 : BitVec 32 := Scalar.maxsi c0_i32_493 v918
  let v920 : BitVec 32 := Scalar.minsi c256_i32_494 v919
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off686 (i : grid1.Coords) (v35 : BitVec 32) (v37 : BitVec 32) (k1_t1 : Fin k1_t1_loop.trips) (k1_t85 : Fin (k1_t85_loop i v35 v37 k1_t1).trips) (c0_i32_620 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1154 : BitVec 32 := Scalar.addi v1153 c0_i32_620
  let v1155 : Index := Scalar.indexCast v1154
  let c0_621 : Index := 0#32
  ![v1155.toNat, 0]
def k1_off687 (i : grid1.Coords) (v35 : BitVec 32) (v37 : BitVec 32) (k1_t1 : Fin k1_t1_loop.trips) (k1_t85 : Fin (k1_t85_loop i v35 v37 k1_t1).trips) (c0_i32_622 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1159 : BitVec 32 := Scalar.addi v1153 c0_i32_622
  let v1160 : Index := Scalar.indexCast v1159
  let c16_623 : Index := 16#32
  ![v1160.toNat, 16]
def k1_off688 (i : grid1.Coords) (v35 : BitVec 32) (v37 : BitVec 32) (k1_t1 : Fin k1_t1_loop.trips) (k1_t85 : Fin (k1_t85_loop i v35 v37 k1_t1).trips) (c0_i32_624 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1164 : BitVec 32 := Scalar.addi v1153 c0_i32_624
  let v1165 : Index := Scalar.indexCast v1164
  let c32_625 : Index := 32#32
  ![v1165.toNat, 32]
def k1_off689 (i : grid1.Coords) (v35 : BitVec 32) (v37 : BitVec 32) (k1_t1 : Fin k1_t1_loop.trips) (k1_t85 : Fin (k1_t85_loop i v35 v37 k1_t1).trips) (c0_i32_626 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1169 : BitVec 32 := Scalar.addi v1153 c0_i32_626
  let v1170 : Index := Scalar.indexCast v1169
  let c48_627 : Index := 48#32
  ![v1170.toNat, 48]
def k1_off690 (i : grid1.Coords) (v35 : BitVec 32) (v37 : BitVec 32) (k1_t1 : Fin k1_t1_loop.trips) (k1_t85 : Fin (k1_t85_loop i v35 v37 k1_t1).trips) (c0_i32_628 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1174 : BitVec 32 := Scalar.addi v1153 c0_i32_628
  let v1175 : Index := Scalar.indexCast v1174
  let c64_629 : Index := 64#32
  ![v1175.toNat, 64]
def k1_off691 (i : grid1.Coords) (v35 : BitVec 32) (v37 : BitVec 32) (k1_t1 : Fin k1_t1_loop.trips) (k1_t85 : Fin (k1_t85_loop i v35 v37 k1_t1).trips) (c0_i32_630 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1179 : BitVec 32 := Scalar.addi v1153 c0_i32_630
  let v1180 : Index := Scalar.indexCast v1179
  let c80_631 : Index := 80#32
  ![v1180.toNat, 80]
def k1_off692 (i : grid1.Coords) (v35 : BitVec 32) (v37 : BitVec 32) (k1_t1 : Fin k1_t1_loop.trips) (k1_t85 : Fin (k1_t85_loop i v35 v37 k1_t1).trips) (c0_i32_632 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1184 : BitVec 32 := Scalar.addi v1153 c0_i32_632
  let v1185 : Index := Scalar.indexCast v1184
  let c96_633 : Index := 96#32
  ![v1185.toNat, 96]
def k1_off693 (i : grid1.Coords) (v35 : BitVec 32) (v37 : BitVec 32) (k1_t1 : Fin k1_t1_loop.trips) (k1_t85 : Fin (k1_t85_loop i v35 v37 k1_t1).trips) (c0_i32_634 : BitVec 32) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c0_i32_580 : BitVec 32 := 0#32
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t85
  let c4_i32_619 : BitVec 32 := 4#32
  let v1152 : BitVec 32 := Scalar.muli arg11 c4_i32_619
  let v1153 : BitVec 32 := Scalar.addi v920 v1152
  let v1189 : BitVec 32 := Scalar.addi v1153 c0_i32_634
  let v1190 : Index := Scalar.indexCast v1189
  let c112_635 : Index := 112#32
  ![v1190.toNat, 112]
@[reducible] def k1_t86_loop (i : grid1.Coords) (v35 : BitVec 32) (v37 : BitVec 32) (k1_t1 : Fin k1_t1_loop.trips) : Scf.Loop 32 :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off694 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1152 : Index := Scalar.indexCast arg11
  let c0_619 : Index := 0#32
  ![v1152.toNat, 0]
def k1_off695 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1156 : Index := Scalar.indexCast arg11
  let c16_620 : Index := 16#32
  ![v1156.toNat, 16]
def k1_off696 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1160 : Index := Scalar.indexCast arg11
  let c32_621 : Index := 32#32
  ![v1160.toNat, 32]
def k1_off697 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1164 : Index := Scalar.indexCast arg11
  let c48_622 : Index := 48#32
  ![v1164.toNat, 48]
def k1_off698 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1168 : Index := Scalar.indexCast arg11
  let c64_623 : Index := 64#32
  ![v1168.toNat, 64]
def k1_off699 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1172 : Index := Scalar.indexCast arg11
  let c80_624 : Index := 80#32
  ![v1172.toNat, 80]
def k1_off700 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1176 : Index := Scalar.indexCast arg11
  let c96_625 : Index := 96#32
  ![v1176.toNat, 96]
def k1_off701 (i : grid1.Coords) (v35 : BitVec 32) (v37 : BitVec 32) (k1_t1 : Fin k1_t1_loop.trips) (k1_t86 : Fin (k1_t86_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let c1_i32_585 : BitVec 32 := 1#32
  let arg11 : BitVec 32 := Scf.iv v1080 c1_i32_585 k1_t86
  let v1180 : Index := Scalar.indexCast arg11
  let c112_626 : Index := 112#32
  ![v1180.toNat, 112]
@[reducible] def k1_t87_loop (i : grid1.Coords) (v35 : BitVec 32) (v37 : BitVec 32) (k1_t1 : Fin k1_t1_loop.trips) : Scf.Loop 32 :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off702 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1152 : Index := Scalar.indexCast arg11
  let c0_619 : Index := 0#32
  ![v1152.toNat, 0]
def k1_off703 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1156 : Index := Scalar.indexCast arg11
  let c16_620 : Index := 16#32
  ![v1156.toNat, 16]
def k1_off704 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1160 : Index := Scalar.indexCast arg11
  let c32_621 : Index := 32#32
  ![v1160.toNat, 32]
def k1_off705 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1164 : Index := Scalar.indexCast arg11
  let c48_622 : Index := 48#32
  ![v1164.toNat, 48]
def k1_off706 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1168 : Index := Scalar.indexCast arg11
  let c64_623 : Index := 64#32
  ![v1168.toNat, 64]
def k1_off707 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1172 : Index := Scalar.indexCast arg11
  let c80_624 : Index := 80#32
  ![v1172.toNat, 80]
def k1_off708 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1176 : Index := Scalar.indexCast arg11
  let c96_625 : Index := 96#32
  ![v1176.toNat, 96]
def k1_off709 (i : grid1.Coords) (v35 : BitVec 32) (v37 : BitVec 32) (k1_t1 : Fin k1_t1_loop.trips) (k1_t87 : Fin (k1_t87_loop i v35 v37 k1_t1).trips) : Fin 2 → Nat :=
  let c256_i32_494 : BitVec 32 := 256#32
  let c0_i32_493 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v918 : BitVec 32 := Scalar.subi v35 v743
  let v919 : BitVec 32 := Scalar.maxsi c0_i32_493 v918
  let v920 : BitVec 32 := Scalar.minsi c256_i32_494 v919
  let c256_i32_496 : BitVec 32 := 256#32
  let c0_i32_495 : BitVec 32 := 0#32
  let v921 : BitVec 32 := Scalar.subi v37 v743
  let v922 : BitVec 32 := Scalar.maxsi c0_i32_495 v921
  let v923 : BitVec 32 := Scalar.minsi c256_i32_496 v922
  let v924 : BitVec 32 := Scalar.subi v923 v920
  let c0_i32_566 : BitVec 32 := 0#32
  let v1039 : BitVec 1 := Scalar.cmpi .sgt v924 c0_i32_566
  let v1040 : BitVec 32 := Scalar.extui v1039
  let c0_i32_567 : BitVec 32 := 0#32
  let v1041 : BitVec 1 := Scalar.cmpi .slt v924 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v924 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v924 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v920 v1055
  let v1081 : BitVec 32 := Scalar.subi v923 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t87
  let v1180 : Index := Scalar.indexCast arg11
  let c112_626 : Index := 112#32
  ![v1180.toNat, 112]
@[reducible] def k1_t88_loop (i : grid1.Coords) (v37 : BitVec 32) (v39 : BitVec 32) (k1_t1 : Fin k1_t1_loop.trips) : Scf.Loop 32 :=
  let c0_i32_580 : BitVec 32 := 0#32
  let c256_i32_502 : BitVec 32 := 256#32
  let c0_i32_501 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v931 : BitVec 32 := Scalar.subi v39 v743
  let v932 : BitVec 32 := Scalar.maxsi c0_i32_501 v931
  let v933 : BitVec 32 := Scalar.minsi c256_i32_502 v932
  let c256_i32_500 : BitVec 32 := 256#32
  let c0_i32_499 : BitVec 32 := 0#32
  let v928 : BitVec 32 := Scalar.subi v37 v743
  let v929 : BitVec 32 := Scalar.maxsi c0_i32_499 v928
  let v930 : BitVec 32 := Scalar.minsi c256_i32_500 v929
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond29 (i : grid1.Coords) (v37 : BitVec 32) (v39 : BitVec 32) (k1_t1 : Fin k1_t1_loop.trips) : BitVec 1 :=
  let c256_i32_502 : BitVec 32 := 256#32
  let c0_i32_501 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v931 : BitVec 32 := Scalar.subi v39 v743
  let v932 : BitVec 32 := Scalar.maxsi c0_i32_501 v931
  let v933 : BitVec 32 := Scalar.minsi c256_i32_502 v932
  let c256_i32_500 : BitVec 32 := 256#32
  let c0_i32_499 : BitVec 32 := 0#32
  let v928 : BitVec 32 := Scalar.subi v37 v743
  let v929 : BitVec 32 := Scalar.maxsi c0_i32_499 v928
  let v930 : BitVec 32 := Scalar.minsi c256_i32_500 v929
  let v934 : BitVec 32 := Scalar.subi v933 v930
  let c0_i32_503 : BitVec 32 := 0#32
  let v935 : BitVec 1 := Scalar.cmpi .sgt v934 c0_i32_503
  let v936 : BitVec 32 := Scalar.extui v935
  let c0_i32_504 : BitVec 32 := 0#32
  let v937 : BitVec 1 := Scalar.cmpi .ne v936 c0_i32_504
  v937

def k1_off710 (i : grid1.Coords) (v37 : BitVec 32) (v39 : BitVec 32) (k1_t1 : Fin k1_t1_loop.trips) (k1_t88 : Fin (k1_t88_loop i v37 v39 k1_t1).trips) (c0_i32_620 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1154 : BitVec 32 := Scalar.addi v1153 c0_i32_620
  let v1155 : Index := Scalar.indexCast v1154
  let c0_621 : Index := 0#32
  ![v1155.toNat, 0]
def k1_off711 (i : grid1.Coords) (v37 : BitVec 32) (v39 : BitVec 32) (k1_t1 : Fin k1_t1_loop.trips) (k1_t88 : Fin (k1_t88_loop i v37 v39 k1_t1).trips) (c0_i32_622 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1159 : BitVec 32 := Scalar.addi v1153 c0_i32_622
  let v1160 : Index := Scalar.indexCast v1159
  let c16_623 : Index := 16#32
  ![v1160.toNat, 16]
def k1_off712 (i : grid1.Coords) (v37 : BitVec 32) (v39 : BitVec 32) (k1_t1 : Fin k1_t1_loop.trips) (k1_t88 : Fin (k1_t88_loop i v37 v39 k1_t1).trips) (c0_i32_624 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1164 : BitVec 32 := Scalar.addi v1153 c0_i32_624
  let v1165 : Index := Scalar.indexCast v1164
  let c32_625 : Index := 32#32
  ![v1165.toNat, 32]
def k1_off713 (i : grid1.Coords) (v37 : BitVec 32) (v39 : BitVec 32) (k1_t1 : Fin k1_t1_loop.trips) (k1_t88 : Fin (k1_t88_loop i v37 v39 k1_t1).trips) (c0_i32_626 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1169 : BitVec 32 := Scalar.addi v1153 c0_i32_626
  let v1170 : Index := Scalar.indexCast v1169
  let c48_627 : Index := 48#32
  ![v1170.toNat, 48]
def k1_off714 (i : grid1.Coords) (v37 : BitVec 32) (v39 : BitVec 32) (k1_t1 : Fin k1_t1_loop.trips) (k1_t88 : Fin (k1_t88_loop i v37 v39 k1_t1).trips) (c0_i32_628 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1174 : BitVec 32 := Scalar.addi v1153 c0_i32_628
  let v1175 : Index := Scalar.indexCast v1174
  let c64_629 : Index := 64#32
  ![v1175.toNat, 64]
def k1_off715 (i : grid1.Coords) (v37 : BitVec 32) (v39 : BitVec 32) (k1_t1 : Fin k1_t1_loop.trips) (k1_t88 : Fin (k1_t88_loop i v37 v39 k1_t1).trips) (c0_i32_630 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1179 : BitVec 32 := Scalar.addi v1153 c0_i32_630
  let v1180 : Index := Scalar.indexCast v1179
  let c80_631 : Index := 80#32
  ![v1180.toNat, 80]
def k1_off716 (i : grid1.Coords) (v37 : BitVec 32) (v39 : BitVec 32) (k1_t1 : Fin k1_t1_loop.trips) (k1_t88 : Fin (k1_t88_loop i v37 v39 k1_t1).trips) (c0_i32_632 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1184 : BitVec 32 := Scalar.addi v1153 c0_i32_632
  let v1185 : Index := Scalar.indexCast v1184
  let c96_633 : Index := 96#32
  ![v1185.toNat, 96]
def k1_off717 (i : grid1.Coords) (v37 : BitVec 32) (v39 : BitVec 32) (k1_t1 : Fin k1_t1_loop.trips) (k1_t88 : Fin (k1_t88_loop i v37 v39 k1_t1).trips) (c0_i32_634 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c1_i32_582 : BitVec 32 := 1#32
  let arg11 : BitVec 32 := Scf.iv c0_i32_580 c1_i32_582 k1_t88
  let c4_i32_619 : BitVec 32 := 4#32
  let v1152 : BitVec 32 := Scalar.muli arg11 c4_i32_619
  let v1153 : BitVec 32 := Scalar.addi v930 v1152
  let v1189 : BitVec 32 := Scalar.addi v1153 c0_i32_634
  let v1190 : Index := Scalar.indexCast v1189
  let c112_635 : Index := 112#32
  ![v1190.toNat, 112]
@[reducible] def k1_t89_loop (i : grid1.Coords) (v37 : BitVec 32) (v39 : BitVec 32) (k1_t1 : Fin k1_t1_loop.trips) : Scf.Loop 32 :=
  let c0_i32_580 : BitVec 32 := 0#32
  let c256_i32_502 : BitVec 32 := 256#32
  let c0_i32_501 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v931 : BitVec 32 := Scalar.subi v39 v743
  let v932 : BitVec 32 := Scalar.maxsi c0_i32_501 v931
  let v933 : BitVec 32 := Scalar.minsi c256_i32_502 v932
  let c256_i32_500 : BitVec 32 := 256#32
  let c0_i32_499 : BitVec 32 := 0#32
  let v928 : BitVec 32 := Scalar.subi v37 v743
  let v929 : BitVec 32 := Scalar.maxsi c0_i32_499 v928
  let v930 : BitVec 32 := Scalar.minsi c256_i32_500 v929
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off718 (i : grid1.Coords) (v37 : BitVec 32) (v39 : BitVec 32) (k1_t1 : Fin k1_t1_loop.trips) (k1_t89 : Fin (k1_t89_loop i v37 v39 k1_t1).trips) (c0_i32_620 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1154 : BitVec 32 := Scalar.addi v1153 c0_i32_620
  let v1155 : Index := Scalar.indexCast v1154
  let c0_621 : Index := 0#32
  ![v1155.toNat, 0]
def k1_off719 (i : grid1.Coords) (v37 : BitVec 32) (v39 : BitVec 32) (k1_t1 : Fin k1_t1_loop.trips) (k1_t89 : Fin (k1_t89_loop i v37 v39 k1_t1).trips) (c0_i32_622 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1159 : BitVec 32 := Scalar.addi v1153 c0_i32_622
  let v1160 : Index := Scalar.indexCast v1159
  let c16_623 : Index := 16#32
  ![v1160.toNat, 16]
def k1_off720 (i : grid1.Coords) (v37 : BitVec 32) (v39 : BitVec 32) (k1_t1 : Fin k1_t1_loop.trips) (k1_t89 : Fin (k1_t89_loop i v37 v39 k1_t1).trips) (c0_i32_624 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1164 : BitVec 32 := Scalar.addi v1153 c0_i32_624
  let v1165 : Index := Scalar.indexCast v1164
  let c32_625 : Index := 32#32
  ![v1165.toNat, 32]
def k1_off721 (i : grid1.Coords) (v37 : BitVec 32) (v39 : BitVec 32) (k1_t1 : Fin k1_t1_loop.trips) (k1_t89 : Fin (k1_t89_loop i v37 v39 k1_t1).trips) (c0_i32_626 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1169 : BitVec 32 := Scalar.addi v1153 c0_i32_626
  let v1170 : Index := Scalar.indexCast v1169
  let c48_627 : Index := 48#32
  ![v1170.toNat, 48]
def k1_off722 (i : grid1.Coords) (v37 : BitVec 32) (v39 : BitVec 32) (k1_t1 : Fin k1_t1_loop.trips) (k1_t89 : Fin (k1_t89_loop i v37 v39 k1_t1).trips) (c0_i32_628 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1174 : BitVec 32 := Scalar.addi v1153 c0_i32_628
  let v1175 : Index := Scalar.indexCast v1174
  let c64_629 : Index := 64#32
  ![v1175.toNat, 64]
def k1_off723 (i : grid1.Coords) (v37 : BitVec 32) (v39 : BitVec 32) (k1_t1 : Fin k1_t1_loop.trips) (k1_t89 : Fin (k1_t89_loop i v37 v39 k1_t1).trips) (c0_i32_630 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1179 : BitVec 32 := Scalar.addi v1153 c0_i32_630
  let v1180 : Index := Scalar.indexCast v1179
  let c80_631 : Index := 80#32
  ![v1180.toNat, 80]
def k1_off724 (i : grid1.Coords) (v37 : BitVec 32) (v39 : BitVec 32) (k1_t1 : Fin k1_t1_loop.trips) (k1_t89 : Fin (k1_t89_loop i v37 v39 k1_t1).trips) (c0_i32_632 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1184 : BitVec 32 := Scalar.addi v1153 c0_i32_632
  let v1185 : Index := Scalar.indexCast v1184
  let c96_633 : Index := 96#32
  ![v1185.toNat, 96]
def k1_off725 (i : grid1.Coords) (v37 : BitVec 32) (v39 : BitVec 32) (k1_t1 : Fin k1_t1_loop.trips) (k1_t89 : Fin (k1_t89_loop i v37 v39 k1_t1).trips) (c0_i32_634 : BitVec 32) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c0_i32_580 : BitVec 32 := 0#32
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t89
  let c4_i32_619 : BitVec 32 := 4#32
  let v1152 : BitVec 32 := Scalar.muli arg11 c4_i32_619
  let v1153 : BitVec 32 := Scalar.addi v930 v1152
  let v1189 : BitVec 32 := Scalar.addi v1153 c0_i32_634
  let v1190 : Index := Scalar.indexCast v1189
  let c112_635 : Index := 112#32
  ![v1190.toNat, 112]
@[reducible] def k1_t90_loop (i : grid1.Coords) (v37 : BitVec 32) (v39 : BitVec 32) (k1_t1 : Fin k1_t1_loop.trips) : Scf.Loop 32 :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off726 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1152 : Index := Scalar.indexCast arg11
  let c0_619 : Index := 0#32
  ![v1152.toNat, 0]
def k1_off727 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1156 : Index := Scalar.indexCast arg11
  let c16_620 : Index := 16#32
  ![v1156.toNat, 16]
def k1_off728 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1160 : Index := Scalar.indexCast arg11
  let c32_621 : Index := 32#32
  ![v1160.toNat, 32]
def k1_off729 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1164 : Index := Scalar.indexCast arg11
  let c48_622 : Index := 48#32
  ![v1164.toNat, 48]
def k1_off730 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1168 : Index := Scalar.indexCast arg11
  let c64_623 : Index := 64#32
  ![v1168.toNat, 64]
def k1_off731 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1172 : Index := Scalar.indexCast arg11
  let c80_624 : Index := 80#32
  ![v1172.toNat, 80]
def k1_off732 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1176 : Index := Scalar.indexCast arg11
  let c96_625 : Index := 96#32
  ![v1176.toNat, 96]
def k1_off733 (i : grid1.Coords) (v37 : BitVec 32) (v39 : BitVec 32) (k1_t1 : Fin k1_t1_loop.trips) (k1_t90 : Fin (k1_t90_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let c1_i32_585 : BitVec 32 := 1#32
  let arg11 : BitVec 32 := Scf.iv v1080 c1_i32_585 k1_t90
  let v1180 : Index := Scalar.indexCast arg11
  let c112_626 : Index := 112#32
  ![v1180.toNat, 112]
@[reducible] def k1_t91_loop (i : grid1.Coords) (v37 : BitVec 32) (v39 : BitVec 32) (k1_t1 : Fin k1_t1_loop.trips) : Scf.Loop 32 :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off734 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1152 : Index := Scalar.indexCast arg11
  let c0_619 : Index := 0#32
  ![v1152.toNat, 0]
def k1_off735 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1156 : Index := Scalar.indexCast arg11
  let c16_620 : Index := 16#32
  ![v1156.toNat, 16]
def k1_off736 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1160 : Index := Scalar.indexCast arg11
  let c32_621 : Index := 32#32
  ![v1160.toNat, 32]
def k1_off737 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1164 : Index := Scalar.indexCast arg11
  let c48_622 : Index := 48#32
  ![v1164.toNat, 48]
def k1_off738 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1168 : Index := Scalar.indexCast arg11
  let c64_623 : Index := 64#32
  ![v1168.toNat, 64]
def k1_off739 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1172 : Index := Scalar.indexCast arg11
  let c80_624 : Index := 80#32
  ![v1172.toNat, 80]
def k1_off740 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1176 : Index := Scalar.indexCast arg11
  let c96_625 : Index := 96#32
  ![v1176.toNat, 96]
def k1_off741 (i : grid1.Coords) (v37 : BitVec 32) (v39 : BitVec 32) (k1_t1 : Fin k1_t1_loop.trips) (k1_t91 : Fin (k1_t91_loop i v37 v39 k1_t1).trips) : Fin 2 → Nat :=
  let c256_i32_500 : BitVec 32 := 256#32
  let c0_i32_499 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v928 : BitVec 32 := Scalar.subi v37 v743
  let v929 : BitVec 32 := Scalar.maxsi c0_i32_499 v928
  let v930 : BitVec 32 := Scalar.minsi c256_i32_500 v929
  let c256_i32_502 : BitVec 32 := 256#32
  let c0_i32_501 : BitVec 32 := 0#32
  let v931 : BitVec 32 := Scalar.subi v39 v743
  let v932 : BitVec 32 := Scalar.maxsi c0_i32_501 v931
  let v933 : BitVec 32 := Scalar.minsi c256_i32_502 v932
  let v934 : BitVec 32 := Scalar.subi v933 v930
  let c0_i32_566 : BitVec 32 := 0#32
  let v1039 : BitVec 1 := Scalar.cmpi .sgt v934 c0_i32_566
  let v1040 : BitVec 32 := Scalar.extui v1039
  let c0_i32_567 : BitVec 32 := 0#32
  let v1041 : BitVec 1 := Scalar.cmpi .slt v934 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v934 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v934 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v930 v1055
  let v1081 : BitVec 32 := Scalar.subi v933 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t91
  let v1180 : Index := Scalar.indexCast arg11
  let c112_626 : Index := 112#32
  ![v1180.toNat, 112]
@[reducible] def k1_t92_loop (i : grid1.Coords) (v39 : BitVec 32) (v41 : BitVec 32) (k1_t1 : Fin k1_t1_loop.trips) : Scf.Loop 32 :=
  let c0_i32_580 : BitVec 32 := 0#32
  let c256_i32_508 : BitVec 32 := 256#32
  let c0_i32_507 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v941 : BitVec 32 := Scalar.subi v41 v743
  let v942 : BitVec 32 := Scalar.maxsi c0_i32_507 v941
  let v943 : BitVec 32 := Scalar.minsi c256_i32_508 v942
  let c256_i32_506 : BitVec 32 := 256#32
  let c0_i32_505 : BitVec 32 := 0#32
  let v938 : BitVec 32 := Scalar.subi v39 v743
  let v939 : BitVec 32 := Scalar.maxsi c0_i32_505 v938
  let v940 : BitVec 32 := Scalar.minsi c256_i32_506 v939
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond30 (i : grid1.Coords) (v39 : BitVec 32) (v41 : BitVec 32) (k1_t1 : Fin k1_t1_loop.trips) : BitVec 1 :=
  let c256_i32_508 : BitVec 32 := 256#32
  let c0_i32_507 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v941 : BitVec 32 := Scalar.subi v41 v743
  let v942 : BitVec 32 := Scalar.maxsi c0_i32_507 v941
  let v943 : BitVec 32 := Scalar.minsi c256_i32_508 v942
  let c256_i32_506 : BitVec 32 := 256#32
  let c0_i32_505 : BitVec 32 := 0#32
  let v938 : BitVec 32 := Scalar.subi v39 v743
  let v939 : BitVec 32 := Scalar.maxsi c0_i32_505 v938
  let v940 : BitVec 32 := Scalar.minsi c256_i32_506 v939
  let v944 : BitVec 32 := Scalar.subi v943 v940
  let c0_i32_509 : BitVec 32 := 0#32
  let v945 : BitVec 1 := Scalar.cmpi .sgt v944 c0_i32_509
  let v946 : BitVec 32 := Scalar.extui v945
  let c0_i32_510 : BitVec 32 := 0#32
  let v947 : BitVec 1 := Scalar.cmpi .ne v946 c0_i32_510
  v947

def k1_off742 (i : grid1.Coords) (v39 : BitVec 32) (v41 : BitVec 32) (k1_t1 : Fin k1_t1_loop.trips) (k1_t92 : Fin (k1_t92_loop i v39 v41 k1_t1).trips) (c0_i32_620 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1154 : BitVec 32 := Scalar.addi v1153 c0_i32_620
  let v1155 : Index := Scalar.indexCast v1154
  let c0_621 : Index := 0#32
  ![v1155.toNat, 0]
def k1_off743 (i : grid1.Coords) (v39 : BitVec 32) (v41 : BitVec 32) (k1_t1 : Fin k1_t1_loop.trips) (k1_t92 : Fin (k1_t92_loop i v39 v41 k1_t1).trips) (c0_i32_622 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1159 : BitVec 32 := Scalar.addi v1153 c0_i32_622
  let v1160 : Index := Scalar.indexCast v1159
  let c16_623 : Index := 16#32
  ![v1160.toNat, 16]
def k1_off744 (i : grid1.Coords) (v39 : BitVec 32) (v41 : BitVec 32) (k1_t1 : Fin k1_t1_loop.trips) (k1_t92 : Fin (k1_t92_loop i v39 v41 k1_t1).trips) (c0_i32_624 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1164 : BitVec 32 := Scalar.addi v1153 c0_i32_624
  let v1165 : Index := Scalar.indexCast v1164
  let c32_625 : Index := 32#32
  ![v1165.toNat, 32]
def k1_off745 (i : grid1.Coords) (v39 : BitVec 32) (v41 : BitVec 32) (k1_t1 : Fin k1_t1_loop.trips) (k1_t92 : Fin (k1_t92_loop i v39 v41 k1_t1).trips) (c0_i32_626 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1169 : BitVec 32 := Scalar.addi v1153 c0_i32_626
  let v1170 : Index := Scalar.indexCast v1169
  let c48_627 : Index := 48#32
  ![v1170.toNat, 48]
def k1_off746 (i : grid1.Coords) (v39 : BitVec 32) (v41 : BitVec 32) (k1_t1 : Fin k1_t1_loop.trips) (k1_t92 : Fin (k1_t92_loop i v39 v41 k1_t1).trips) (c0_i32_628 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1174 : BitVec 32 := Scalar.addi v1153 c0_i32_628
  let v1175 : Index := Scalar.indexCast v1174
  let c64_629 : Index := 64#32
  ![v1175.toNat, 64]
def k1_off747 (i : grid1.Coords) (v39 : BitVec 32) (v41 : BitVec 32) (k1_t1 : Fin k1_t1_loop.trips) (k1_t92 : Fin (k1_t92_loop i v39 v41 k1_t1).trips) (c0_i32_630 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1179 : BitVec 32 := Scalar.addi v1153 c0_i32_630
  let v1180 : Index := Scalar.indexCast v1179
  let c80_631 : Index := 80#32
  ![v1180.toNat, 80]
def k1_off748 (i : grid1.Coords) (v39 : BitVec 32) (v41 : BitVec 32) (k1_t1 : Fin k1_t1_loop.trips) (k1_t92 : Fin (k1_t92_loop i v39 v41 k1_t1).trips) (c0_i32_632 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1184 : BitVec 32 := Scalar.addi v1153 c0_i32_632
  let v1185 : Index := Scalar.indexCast v1184
  let c96_633 : Index := 96#32
  ![v1185.toNat, 96]
def k1_off749 (i : grid1.Coords) (v39 : BitVec 32) (v41 : BitVec 32) (k1_t1 : Fin k1_t1_loop.trips) (k1_t92 : Fin (k1_t92_loop i v39 v41 k1_t1).trips) (c0_i32_634 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c1_i32_582 : BitVec 32 := 1#32
  let arg11 : BitVec 32 := Scf.iv c0_i32_580 c1_i32_582 k1_t92
  let c4_i32_619 : BitVec 32 := 4#32
  let v1152 : BitVec 32 := Scalar.muli arg11 c4_i32_619
  let v1153 : BitVec 32 := Scalar.addi v940 v1152
  let v1189 : BitVec 32 := Scalar.addi v1153 c0_i32_634
  let v1190 : Index := Scalar.indexCast v1189
  let c112_635 : Index := 112#32
  ![v1190.toNat, 112]
@[reducible] def k1_t93_loop (i : grid1.Coords) (v39 : BitVec 32) (v41 : BitVec 32) (k1_t1 : Fin k1_t1_loop.trips) : Scf.Loop 32 :=
  let c0_i32_580 : BitVec 32 := 0#32
  let c256_i32_508 : BitVec 32 := 256#32
  let c0_i32_507 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v941 : BitVec 32 := Scalar.subi v41 v743
  let v942 : BitVec 32 := Scalar.maxsi c0_i32_507 v941
  let v943 : BitVec 32 := Scalar.minsi c256_i32_508 v942
  let c256_i32_506 : BitVec 32 := 256#32
  let c0_i32_505 : BitVec 32 := 0#32
  let v938 : BitVec 32 := Scalar.subi v39 v743
  let v939 : BitVec 32 := Scalar.maxsi c0_i32_505 v938
  let v940 : BitVec 32 := Scalar.minsi c256_i32_506 v939
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off750 (i : grid1.Coords) (v39 : BitVec 32) (v41 : BitVec 32) (k1_t1 : Fin k1_t1_loop.trips) (k1_t93 : Fin (k1_t93_loop i v39 v41 k1_t1).trips) (c0_i32_620 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1154 : BitVec 32 := Scalar.addi v1153 c0_i32_620
  let v1155 : Index := Scalar.indexCast v1154
  let c0_621 : Index := 0#32
  ![v1155.toNat, 0]
def k1_off751 (i : grid1.Coords) (v39 : BitVec 32) (v41 : BitVec 32) (k1_t1 : Fin k1_t1_loop.trips) (k1_t93 : Fin (k1_t93_loop i v39 v41 k1_t1).trips) (c0_i32_622 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1159 : BitVec 32 := Scalar.addi v1153 c0_i32_622
  let v1160 : Index := Scalar.indexCast v1159
  let c16_623 : Index := 16#32
  ![v1160.toNat, 16]
def k1_off752 (i : grid1.Coords) (v39 : BitVec 32) (v41 : BitVec 32) (k1_t1 : Fin k1_t1_loop.trips) (k1_t93 : Fin (k1_t93_loop i v39 v41 k1_t1).trips) (c0_i32_624 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1164 : BitVec 32 := Scalar.addi v1153 c0_i32_624
  let v1165 : Index := Scalar.indexCast v1164
  let c32_625 : Index := 32#32
  ![v1165.toNat, 32]
def k1_off753 (i : grid1.Coords) (v39 : BitVec 32) (v41 : BitVec 32) (k1_t1 : Fin k1_t1_loop.trips) (k1_t93 : Fin (k1_t93_loop i v39 v41 k1_t1).trips) (c0_i32_626 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1169 : BitVec 32 := Scalar.addi v1153 c0_i32_626
  let v1170 : Index := Scalar.indexCast v1169
  let c48_627 : Index := 48#32
  ![v1170.toNat, 48]
def k1_off754 (i : grid1.Coords) (v39 : BitVec 32) (v41 : BitVec 32) (k1_t1 : Fin k1_t1_loop.trips) (k1_t93 : Fin (k1_t93_loop i v39 v41 k1_t1).trips) (c0_i32_628 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1174 : BitVec 32 := Scalar.addi v1153 c0_i32_628
  let v1175 : Index := Scalar.indexCast v1174
  let c64_629 : Index := 64#32
  ![v1175.toNat, 64]
def k1_off755 (i : grid1.Coords) (v39 : BitVec 32) (v41 : BitVec 32) (k1_t1 : Fin k1_t1_loop.trips) (k1_t93 : Fin (k1_t93_loop i v39 v41 k1_t1).trips) (c0_i32_630 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1179 : BitVec 32 := Scalar.addi v1153 c0_i32_630
  let v1180 : Index := Scalar.indexCast v1179
  let c80_631 : Index := 80#32
  ![v1180.toNat, 80]
def k1_off756 (i : grid1.Coords) (v39 : BitVec 32) (v41 : BitVec 32) (k1_t1 : Fin k1_t1_loop.trips) (k1_t93 : Fin (k1_t93_loop i v39 v41 k1_t1).trips) (c0_i32_632 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1184 : BitVec 32 := Scalar.addi v1153 c0_i32_632
  let v1185 : Index := Scalar.indexCast v1184
  let c96_633 : Index := 96#32
  ![v1185.toNat, 96]
def k1_off757 (i : grid1.Coords) (v39 : BitVec 32) (v41 : BitVec 32) (k1_t1 : Fin k1_t1_loop.trips) (k1_t93 : Fin (k1_t93_loop i v39 v41 k1_t1).trips) (c0_i32_634 : BitVec 32) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c0_i32_580 : BitVec 32 := 0#32
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t93
  let c4_i32_619 : BitVec 32 := 4#32
  let v1152 : BitVec 32 := Scalar.muli arg11 c4_i32_619
  let v1153 : BitVec 32 := Scalar.addi v940 v1152
  let v1189 : BitVec 32 := Scalar.addi v1153 c0_i32_634
  let v1190 : Index := Scalar.indexCast v1189
  let c112_635 : Index := 112#32
  ![v1190.toNat, 112]
@[reducible] def k1_t94_loop (i : grid1.Coords) (v39 : BitVec 32) (v41 : BitVec 32) (k1_t1 : Fin k1_t1_loop.trips) : Scf.Loop 32 :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off758 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1152 : Index := Scalar.indexCast arg11
  let c0_619 : Index := 0#32
  ![v1152.toNat, 0]
def k1_off759 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1156 : Index := Scalar.indexCast arg11
  let c16_620 : Index := 16#32
  ![v1156.toNat, 16]
def k1_off760 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1160 : Index := Scalar.indexCast arg11
  let c32_621 : Index := 32#32
  ![v1160.toNat, 32]
def k1_off761 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1164 : Index := Scalar.indexCast arg11
  let c48_622 : Index := 48#32
  ![v1164.toNat, 48]
def k1_off762 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1168 : Index := Scalar.indexCast arg11
  let c64_623 : Index := 64#32
  ![v1168.toNat, 64]
def k1_off763 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1172 : Index := Scalar.indexCast arg11
  let c80_624 : Index := 80#32
  ![v1172.toNat, 80]
def k1_off764 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1176 : Index := Scalar.indexCast arg11
  let c96_625 : Index := 96#32
  ![v1176.toNat, 96]
def k1_off765 (i : grid1.Coords) (v39 : BitVec 32) (v41 : BitVec 32) (k1_t1 : Fin k1_t1_loop.trips) (k1_t94 : Fin (k1_t94_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let c1_i32_585 : BitVec 32 := 1#32
  let arg11 : BitVec 32 := Scf.iv v1080 c1_i32_585 k1_t94
  let v1180 : Index := Scalar.indexCast arg11
  let c112_626 : Index := 112#32
  ![v1180.toNat, 112]
@[reducible] def k1_t95_loop (i : grid1.Coords) (v39 : BitVec 32) (v41 : BitVec 32) (k1_t1 : Fin k1_t1_loop.trips) : Scf.Loop 32 :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off766 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1152 : Index := Scalar.indexCast arg11
  let c0_619 : Index := 0#32
  ![v1152.toNat, 0]
def k1_off767 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1156 : Index := Scalar.indexCast arg11
  let c16_620 : Index := 16#32
  ![v1156.toNat, 16]
def k1_off768 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1160 : Index := Scalar.indexCast arg11
  let c32_621 : Index := 32#32
  ![v1160.toNat, 32]
def k1_off769 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1164 : Index := Scalar.indexCast arg11
  let c48_622 : Index := 48#32
  ![v1164.toNat, 48]
def k1_off770 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1168 : Index := Scalar.indexCast arg11
  let c64_623 : Index := 64#32
  ![v1168.toNat, 64]
def k1_off771 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1172 : Index := Scalar.indexCast arg11
  let c80_624 : Index := 80#32
  ![v1172.toNat, 80]
def k1_off772 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1176 : Index := Scalar.indexCast arg11
  let c96_625 : Index := 96#32
  ![v1176.toNat, 96]
def k1_off773 (i : grid1.Coords) (v39 : BitVec 32) (v41 : BitVec 32) (k1_t1 : Fin k1_t1_loop.trips) (k1_t95 : Fin (k1_t95_loop i v39 v41 k1_t1).trips) : Fin 2 → Nat :=
  let c256_i32_506 : BitVec 32 := 256#32
  let c0_i32_505 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v938 : BitVec 32 := Scalar.subi v39 v743
  let v939 : BitVec 32 := Scalar.maxsi c0_i32_505 v938
  let v940 : BitVec 32 := Scalar.minsi c256_i32_506 v939
  let c256_i32_508 : BitVec 32 := 256#32
  let c0_i32_507 : BitVec 32 := 0#32
  let v941 : BitVec 32 := Scalar.subi v41 v743
  let v942 : BitVec 32 := Scalar.maxsi c0_i32_507 v941
  let v943 : BitVec 32 := Scalar.minsi c256_i32_508 v942
  let v944 : BitVec 32 := Scalar.subi v943 v940
  let c0_i32_566 : BitVec 32 := 0#32
  let v1039 : BitVec 1 := Scalar.cmpi .sgt v944 c0_i32_566
  let v1040 : BitVec 32 := Scalar.extui v1039
  let c0_i32_567 : BitVec 32 := 0#32
  let v1041 : BitVec 1 := Scalar.cmpi .slt v944 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v944 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v944 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v940 v1055
  let v1081 : BitVec 32 := Scalar.subi v943 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t95
  let v1180 : Index := Scalar.indexCast arg11
  let c112_626 : Index := 112#32
  ![v1180.toNat, 112]
@[reducible] def k1_t96_loop (i : grid1.Coords) (v41 : BitVec 32) (v43 : BitVec 32) (k1_t1 : Fin k1_t1_loop.trips) : Scf.Loop 32 :=
  let c0_i32_580 : BitVec 32 := 0#32
  let c256_i32_514 : BitVec 32 := 256#32
  let c0_i32_513 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v951 : BitVec 32 := Scalar.subi v43 v743
  let v952 : BitVec 32 := Scalar.maxsi c0_i32_513 v951
  let v953 : BitVec 32 := Scalar.minsi c256_i32_514 v952
  let c256_i32_512 : BitVec 32 := 256#32
  let c0_i32_511 : BitVec 32 := 0#32
  let v948 : BitVec 32 := Scalar.subi v41 v743
  let v949 : BitVec 32 := Scalar.maxsi c0_i32_511 v948
  let v950 : BitVec 32 := Scalar.minsi c256_i32_512 v949
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond31 (i : grid1.Coords) (v41 : BitVec 32) (v43 : BitVec 32) (k1_t1 : Fin k1_t1_loop.trips) : BitVec 1 :=
  let c256_i32_514 : BitVec 32 := 256#32
  let c0_i32_513 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v951 : BitVec 32 := Scalar.subi v43 v743
  let v952 : BitVec 32 := Scalar.maxsi c0_i32_513 v951
  let v953 : BitVec 32 := Scalar.minsi c256_i32_514 v952
  let c256_i32_512 : BitVec 32 := 256#32
  let c0_i32_511 : BitVec 32 := 0#32
  let v948 : BitVec 32 := Scalar.subi v41 v743
  let v949 : BitVec 32 := Scalar.maxsi c0_i32_511 v948
  let v950 : BitVec 32 := Scalar.minsi c256_i32_512 v949
  let v954 : BitVec 32 := Scalar.subi v953 v950
  let c0_i32_515 : BitVec 32 := 0#32
  let v955 : BitVec 1 := Scalar.cmpi .sgt v954 c0_i32_515
  let v956 : BitVec 32 := Scalar.extui v955
  let c0_i32_516 : BitVec 32 := 0#32
  let v957 : BitVec 1 := Scalar.cmpi .ne v956 c0_i32_516
  v957

def k1_off774 (i : grid1.Coords) (v41 : BitVec 32) (v43 : BitVec 32) (k1_t1 : Fin k1_t1_loop.trips) (k1_t96 : Fin (k1_t96_loop i v41 v43 k1_t1).trips) (c0_i32_620 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1154 : BitVec 32 := Scalar.addi v1153 c0_i32_620
  let v1155 : Index := Scalar.indexCast v1154
  let c0_621 : Index := 0#32
  ![v1155.toNat, 0]
def k1_off775 (i : grid1.Coords) (v41 : BitVec 32) (v43 : BitVec 32) (k1_t1 : Fin k1_t1_loop.trips) (k1_t96 : Fin (k1_t96_loop i v41 v43 k1_t1).trips) (c0_i32_622 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1159 : BitVec 32 := Scalar.addi v1153 c0_i32_622
  let v1160 : Index := Scalar.indexCast v1159
  let c16_623 : Index := 16#32
  ![v1160.toNat, 16]
def k1_off776 (i : grid1.Coords) (v41 : BitVec 32) (v43 : BitVec 32) (k1_t1 : Fin k1_t1_loop.trips) (k1_t96 : Fin (k1_t96_loop i v41 v43 k1_t1).trips) (c0_i32_624 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1164 : BitVec 32 := Scalar.addi v1153 c0_i32_624
  let v1165 : Index := Scalar.indexCast v1164
  let c32_625 : Index := 32#32
  ![v1165.toNat, 32]
def k1_off777 (i : grid1.Coords) (v41 : BitVec 32) (v43 : BitVec 32) (k1_t1 : Fin k1_t1_loop.trips) (k1_t96 : Fin (k1_t96_loop i v41 v43 k1_t1).trips) (c0_i32_626 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1169 : BitVec 32 := Scalar.addi v1153 c0_i32_626
  let v1170 : Index := Scalar.indexCast v1169
  let c48_627 : Index := 48#32
  ![v1170.toNat, 48]
def k1_off778 (i : grid1.Coords) (v41 : BitVec 32) (v43 : BitVec 32) (k1_t1 : Fin k1_t1_loop.trips) (k1_t96 : Fin (k1_t96_loop i v41 v43 k1_t1).trips) (c0_i32_628 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1174 : BitVec 32 := Scalar.addi v1153 c0_i32_628
  let v1175 : Index := Scalar.indexCast v1174
  let c64_629 : Index := 64#32
  ![v1175.toNat, 64]
def k1_off779 (i : grid1.Coords) (v41 : BitVec 32) (v43 : BitVec 32) (k1_t1 : Fin k1_t1_loop.trips) (k1_t96 : Fin (k1_t96_loop i v41 v43 k1_t1).trips) (c0_i32_630 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1179 : BitVec 32 := Scalar.addi v1153 c0_i32_630
  let v1180 : Index := Scalar.indexCast v1179
  let c80_631 : Index := 80#32
  ![v1180.toNat, 80]
def k1_off780 (i : grid1.Coords) (v41 : BitVec 32) (v43 : BitVec 32) (k1_t1 : Fin k1_t1_loop.trips) (k1_t96 : Fin (k1_t96_loop i v41 v43 k1_t1).trips) (c0_i32_632 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1184 : BitVec 32 := Scalar.addi v1153 c0_i32_632
  let v1185 : Index := Scalar.indexCast v1184
  let c96_633 : Index := 96#32
  ![v1185.toNat, 96]
def k1_off781 (i : grid1.Coords) (v41 : BitVec 32) (v43 : BitVec 32) (k1_t1 : Fin k1_t1_loop.trips) (k1_t96 : Fin (k1_t96_loop i v41 v43 k1_t1).trips) (c0_i32_634 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c1_i32_582 : BitVec 32 := 1#32
  let arg11 : BitVec 32 := Scf.iv c0_i32_580 c1_i32_582 k1_t96
  let c4_i32_619 : BitVec 32 := 4#32
  let v1152 : BitVec 32 := Scalar.muli arg11 c4_i32_619
  let v1153 : BitVec 32 := Scalar.addi v950 v1152
  let v1189 : BitVec 32 := Scalar.addi v1153 c0_i32_634
  let v1190 : Index := Scalar.indexCast v1189
  let c112_635 : Index := 112#32
  ![v1190.toNat, 112]
@[reducible] def k1_t97_loop (i : grid1.Coords) (v41 : BitVec 32) (v43 : BitVec 32) (k1_t1 : Fin k1_t1_loop.trips) : Scf.Loop 32 :=
  let c0_i32_580 : BitVec 32 := 0#32
  let c256_i32_514 : BitVec 32 := 256#32
  let c0_i32_513 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v951 : BitVec 32 := Scalar.subi v43 v743
  let v952 : BitVec 32 := Scalar.maxsi c0_i32_513 v951
  let v953 : BitVec 32 := Scalar.minsi c256_i32_514 v952
  let c256_i32_512 : BitVec 32 := 256#32
  let c0_i32_511 : BitVec 32 := 0#32
  let v948 : BitVec 32 := Scalar.subi v41 v743
  let v949 : BitVec 32 := Scalar.maxsi c0_i32_511 v948
  let v950 : BitVec 32 := Scalar.minsi c256_i32_512 v949
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off782 (i : grid1.Coords) (v41 : BitVec 32) (v43 : BitVec 32) (k1_t1 : Fin k1_t1_loop.trips) (k1_t97 : Fin (k1_t97_loop i v41 v43 k1_t1).trips) (c0_i32_620 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1154 : BitVec 32 := Scalar.addi v1153 c0_i32_620
  let v1155 : Index := Scalar.indexCast v1154
  let c0_621 : Index := 0#32
  ![v1155.toNat, 0]
def k1_off783 (i : grid1.Coords) (v41 : BitVec 32) (v43 : BitVec 32) (k1_t1 : Fin k1_t1_loop.trips) (k1_t97 : Fin (k1_t97_loop i v41 v43 k1_t1).trips) (c0_i32_622 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1159 : BitVec 32 := Scalar.addi v1153 c0_i32_622
  let v1160 : Index := Scalar.indexCast v1159
  let c16_623 : Index := 16#32
  ![v1160.toNat, 16]
def k1_off784 (i : grid1.Coords) (v41 : BitVec 32) (v43 : BitVec 32) (k1_t1 : Fin k1_t1_loop.trips) (k1_t97 : Fin (k1_t97_loop i v41 v43 k1_t1).trips) (c0_i32_624 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1164 : BitVec 32 := Scalar.addi v1153 c0_i32_624
  let v1165 : Index := Scalar.indexCast v1164
  let c32_625 : Index := 32#32
  ![v1165.toNat, 32]
def k1_off785 (i : grid1.Coords) (v41 : BitVec 32) (v43 : BitVec 32) (k1_t1 : Fin k1_t1_loop.trips) (k1_t97 : Fin (k1_t97_loop i v41 v43 k1_t1).trips) (c0_i32_626 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1169 : BitVec 32 := Scalar.addi v1153 c0_i32_626
  let v1170 : Index := Scalar.indexCast v1169
  let c48_627 : Index := 48#32
  ![v1170.toNat, 48]
def k1_off786 (i : grid1.Coords) (v41 : BitVec 32) (v43 : BitVec 32) (k1_t1 : Fin k1_t1_loop.trips) (k1_t97 : Fin (k1_t97_loop i v41 v43 k1_t1).trips) (c0_i32_628 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1174 : BitVec 32 := Scalar.addi v1153 c0_i32_628
  let v1175 : Index := Scalar.indexCast v1174
  let c64_629 : Index := 64#32
  ![v1175.toNat, 64]
def k1_off787 (i : grid1.Coords) (v41 : BitVec 32) (v43 : BitVec 32) (k1_t1 : Fin k1_t1_loop.trips) (k1_t97 : Fin (k1_t97_loop i v41 v43 k1_t1).trips) (c0_i32_630 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1179 : BitVec 32 := Scalar.addi v1153 c0_i32_630
  let v1180 : Index := Scalar.indexCast v1179
  let c80_631 : Index := 80#32
  ![v1180.toNat, 80]
def k1_off788 (i : grid1.Coords) (v41 : BitVec 32) (v43 : BitVec 32) (k1_t1 : Fin k1_t1_loop.trips) (k1_t97 : Fin (k1_t97_loop i v41 v43 k1_t1).trips) (c0_i32_632 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1184 : BitVec 32 := Scalar.addi v1153 c0_i32_632
  let v1185 : Index := Scalar.indexCast v1184
  let c96_633 : Index := 96#32
  ![v1185.toNat, 96]
def k1_off789 (i : grid1.Coords) (v41 : BitVec 32) (v43 : BitVec 32) (k1_t1 : Fin k1_t1_loop.trips) (k1_t97 : Fin (k1_t97_loop i v41 v43 k1_t1).trips) (c0_i32_634 : BitVec 32) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c0_i32_580 : BitVec 32 := 0#32
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t97
  let c4_i32_619 : BitVec 32 := 4#32
  let v1152 : BitVec 32 := Scalar.muli arg11 c4_i32_619
  let v1153 : BitVec 32 := Scalar.addi v950 v1152
  let v1189 : BitVec 32 := Scalar.addi v1153 c0_i32_634
  let v1190 : Index := Scalar.indexCast v1189
  let c112_635 : Index := 112#32
  ![v1190.toNat, 112]
@[reducible] def k1_t98_loop (i : grid1.Coords) (v41 : BitVec 32) (v43 : BitVec 32) (k1_t1 : Fin k1_t1_loop.trips) : Scf.Loop 32 :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off790 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1152 : Index := Scalar.indexCast arg11
  let c0_619 : Index := 0#32
  ![v1152.toNat, 0]
def k1_off791 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1156 : Index := Scalar.indexCast arg11
  let c16_620 : Index := 16#32
  ![v1156.toNat, 16]
def k1_off792 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1160 : Index := Scalar.indexCast arg11
  let c32_621 : Index := 32#32
  ![v1160.toNat, 32]
def k1_off793 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1164 : Index := Scalar.indexCast arg11
  let c48_622 : Index := 48#32
  ![v1164.toNat, 48]
def k1_off794 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1168 : Index := Scalar.indexCast arg11
  let c64_623 : Index := 64#32
  ![v1168.toNat, 64]
def k1_off795 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1172 : Index := Scalar.indexCast arg11
  let c80_624 : Index := 80#32
  ![v1172.toNat, 80]
def k1_off796 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1176 : Index := Scalar.indexCast arg11
  let c96_625 : Index := 96#32
  ![v1176.toNat, 96]
def k1_off797 (i : grid1.Coords) (v41 : BitVec 32) (v43 : BitVec 32) (k1_t1 : Fin k1_t1_loop.trips) (k1_t98 : Fin (k1_t98_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let c1_i32_585 : BitVec 32 := 1#32
  let arg11 : BitVec 32 := Scf.iv v1080 c1_i32_585 k1_t98
  let v1180 : Index := Scalar.indexCast arg11
  let c112_626 : Index := 112#32
  ![v1180.toNat, 112]
@[reducible] def k1_t99_loop (i : grid1.Coords) (v41 : BitVec 32) (v43 : BitVec 32) (k1_t1 : Fin k1_t1_loop.trips) : Scf.Loop 32 :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off798 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1152 : Index := Scalar.indexCast arg11
  let c0_619 : Index := 0#32
  ![v1152.toNat, 0]
def k1_off799 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1156 : Index := Scalar.indexCast arg11
  let c16_620 : Index := 16#32
  ![v1156.toNat, 16]
def k1_off800 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1160 : Index := Scalar.indexCast arg11
  let c32_621 : Index := 32#32
  ![v1160.toNat, 32]
def k1_off801 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1164 : Index := Scalar.indexCast arg11
  let c48_622 : Index := 48#32
  ![v1164.toNat, 48]
def k1_off802 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1168 : Index := Scalar.indexCast arg11
  let c64_623 : Index := 64#32
  ![v1168.toNat, 64]
def k1_off803 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1172 : Index := Scalar.indexCast arg11
  let c80_624 : Index := 80#32
  ![v1172.toNat, 80]
def k1_off804 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1176 : Index := Scalar.indexCast arg11
  let c96_625 : Index := 96#32
  ![v1176.toNat, 96]
def k1_off805 (i : grid1.Coords) (v41 : BitVec 32) (v43 : BitVec 32) (k1_t1 : Fin k1_t1_loop.trips) (k1_t99 : Fin (k1_t99_loop i v41 v43 k1_t1).trips) : Fin 2 → Nat :=
  let c256_i32_512 : BitVec 32 := 256#32
  let c0_i32_511 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v948 : BitVec 32 := Scalar.subi v41 v743
  let v949 : BitVec 32 := Scalar.maxsi c0_i32_511 v948
  let v950 : BitVec 32 := Scalar.minsi c256_i32_512 v949
  let c256_i32_514 : BitVec 32 := 256#32
  let c0_i32_513 : BitVec 32 := 0#32
  let v951 : BitVec 32 := Scalar.subi v43 v743
  let v952 : BitVec 32 := Scalar.maxsi c0_i32_513 v951
  let v953 : BitVec 32 := Scalar.minsi c256_i32_514 v952
  let v954 : BitVec 32 := Scalar.subi v953 v950
  let c0_i32_566 : BitVec 32 := 0#32
  let v1039 : BitVec 1 := Scalar.cmpi .sgt v954 c0_i32_566
  let v1040 : BitVec 32 := Scalar.extui v1039
  let c0_i32_567 : BitVec 32 := 0#32
  let v1041 : BitVec 1 := Scalar.cmpi .slt v954 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v954 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v954 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v950 v1055
  let v1081 : BitVec 32 := Scalar.subi v953 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t99
  let v1180 : Index := Scalar.indexCast arg11
  let c112_626 : Index := 112#32
  ![v1180.toNat, 112]
@[reducible] def k1_t100_loop (i : grid1.Coords) (v43 : BitVec 32) (v45 : BitVec 32) (k1_t1 : Fin k1_t1_loop.trips) : Scf.Loop 32 :=
  let c0_i32_580 : BitVec 32 := 0#32
  let c256_i32_520 : BitVec 32 := 256#32
  let c0_i32_519 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v961 : BitVec 32 := Scalar.subi v45 v743
  let v962 : BitVec 32 := Scalar.maxsi c0_i32_519 v961
  let v963 : BitVec 32 := Scalar.minsi c256_i32_520 v962
  let c256_i32_518 : BitVec 32 := 256#32
  let c0_i32_517 : BitVec 32 := 0#32
  let v958 : BitVec 32 := Scalar.subi v43 v743
  let v959 : BitVec 32 := Scalar.maxsi c0_i32_517 v958
  let v960 : BitVec 32 := Scalar.minsi c256_i32_518 v959
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond32 (i : grid1.Coords) (v43 : BitVec 32) (v45 : BitVec 32) (k1_t1 : Fin k1_t1_loop.trips) : BitVec 1 :=
  let c256_i32_520 : BitVec 32 := 256#32
  let c0_i32_519 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v961 : BitVec 32 := Scalar.subi v45 v743
  let v962 : BitVec 32 := Scalar.maxsi c0_i32_519 v961
  let v963 : BitVec 32 := Scalar.minsi c256_i32_520 v962
  let c256_i32_518 : BitVec 32 := 256#32
  let c0_i32_517 : BitVec 32 := 0#32
  let v958 : BitVec 32 := Scalar.subi v43 v743
  let v959 : BitVec 32 := Scalar.maxsi c0_i32_517 v958
  let v960 : BitVec 32 := Scalar.minsi c256_i32_518 v959
  let v964 : BitVec 32 := Scalar.subi v963 v960
  let c0_i32_521 : BitVec 32 := 0#32
  let v965 : BitVec 1 := Scalar.cmpi .sgt v964 c0_i32_521
  let v966 : BitVec 32 := Scalar.extui v965
  let c0_i32_522 : BitVec 32 := 0#32
  let v967 : BitVec 1 := Scalar.cmpi .ne v966 c0_i32_522
  v967

def k1_off806 (i : grid1.Coords) (v43 : BitVec 32) (v45 : BitVec 32) (k1_t1 : Fin k1_t1_loop.trips) (k1_t100 : Fin (k1_t100_loop i v43 v45 k1_t1).trips) (c0_i32_620 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1154 : BitVec 32 := Scalar.addi v1153 c0_i32_620
  let v1155 : Index := Scalar.indexCast v1154
  let c0_621 : Index := 0#32
  ![v1155.toNat, 0]
def k1_off807 (i : grid1.Coords) (v43 : BitVec 32) (v45 : BitVec 32) (k1_t1 : Fin k1_t1_loop.trips) (k1_t100 : Fin (k1_t100_loop i v43 v45 k1_t1).trips) (c0_i32_622 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1159 : BitVec 32 := Scalar.addi v1153 c0_i32_622
  let v1160 : Index := Scalar.indexCast v1159
  let c16_623 : Index := 16#32
  ![v1160.toNat, 16]
def k1_off808 (i : grid1.Coords) (v43 : BitVec 32) (v45 : BitVec 32) (k1_t1 : Fin k1_t1_loop.trips) (k1_t100 : Fin (k1_t100_loop i v43 v45 k1_t1).trips) (c0_i32_624 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1164 : BitVec 32 := Scalar.addi v1153 c0_i32_624
  let v1165 : Index := Scalar.indexCast v1164
  let c32_625 : Index := 32#32
  ![v1165.toNat, 32]

variable {F : FTy → Type} [FloatOps F]

def k1_off809 (i : grid1.Coords) (v43 : BitVec 32) (v45 : BitVec 32) (k1_t1 : Fin k1_t1_loop.trips) (k1_t100 : Fin (k1_t100_loop i v43 v45 k1_t1).trips) (c0_i32_626 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1169 : BitVec 32 := Scalar.addi v1153 c0_i32_626
  let v1170 : Index := Scalar.indexCast v1169
  let c48_627 : Index := 48#32
  ![v1170.toNat, 48]
def k1_off810 (i : grid1.Coords) (v43 : BitVec 32) (v45 : BitVec 32) (k1_t1 : Fin k1_t1_loop.trips) (k1_t100 : Fin (k1_t100_loop i v43 v45 k1_t1).trips) (c0_i32_628 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1174 : BitVec 32 := Scalar.addi v1153 c0_i32_628
  let v1175 : Index := Scalar.indexCast v1174
  let c64_629 : Index := 64#32
  ![v1175.toNat, 64]
def k1_off811 (i : grid1.Coords) (v43 : BitVec 32) (v45 : BitVec 32) (k1_t1 : Fin k1_t1_loop.trips) (k1_t100 : Fin (k1_t100_loop i v43 v45 k1_t1).trips) (c0_i32_630 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1179 : BitVec 32 := Scalar.addi v1153 c0_i32_630
  let v1180 : Index := Scalar.indexCast v1179
  let c80_631 : Index := 80#32
  ![v1180.toNat, 80]
def k1_off812 (i : grid1.Coords) (v43 : BitVec 32) (v45 : BitVec 32) (k1_t1 : Fin k1_t1_loop.trips) (k1_t100 : Fin (k1_t100_loop i v43 v45 k1_t1).trips) (c0_i32_632 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1184 : BitVec 32 := Scalar.addi v1153 c0_i32_632
  let v1185 : Index := Scalar.indexCast v1184
  let c96_633 : Index := 96#32
  ![v1185.toNat, 96]
def k1_off813 (i : grid1.Coords) (v43 : BitVec 32) (v45 : BitVec 32) (k1_t1 : Fin k1_t1_loop.trips) (k1_t100 : Fin (k1_t100_loop i v43 v45 k1_t1).trips) (c0_i32_634 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c1_i32_582 : BitVec 32 := 1#32
  let arg11 : BitVec 32 := Scf.iv c0_i32_580 c1_i32_582 k1_t100
  let c4_i32_619 : BitVec 32 := 4#32
  let v1152 : BitVec 32 := Scalar.muli arg11 c4_i32_619
  let v1153 : BitVec 32 := Scalar.addi v960 v1152
  let v1189 : BitVec 32 := Scalar.addi v1153 c0_i32_634
  let v1190 : Index := Scalar.indexCast v1189
  let c112_635 : Index := 112#32
  ![v1190.toNat, 112]
@[reducible] def k1_t101_loop (i : grid1.Coords) (v43 : BitVec 32) (v45 : BitVec 32) (k1_t1 : Fin k1_t1_loop.trips) : Scf.Loop 32 :=
  let c0_i32_580 : BitVec 32 := 0#32
  let c256_i32_520 : BitVec 32 := 256#32
  let c0_i32_519 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v961 : BitVec 32 := Scalar.subi v45 v743
  let v962 : BitVec 32 := Scalar.maxsi c0_i32_519 v961
  let v963 : BitVec 32 := Scalar.minsi c256_i32_520 v962
  let c256_i32_518 : BitVec 32 := 256#32
  let c0_i32_517 : BitVec 32 := 0#32
  let v958 : BitVec 32 := Scalar.subi v43 v743
  let v959 : BitVec 32 := Scalar.maxsi c0_i32_517 v958
  let v960 : BitVec 32 := Scalar.minsi c256_i32_518 v959
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off814 (i : grid1.Coords) (v43 : BitVec 32) (v45 : BitVec 32) (k1_t1 : Fin k1_t1_loop.trips) (k1_t101 : Fin (k1_t101_loop i v43 v45 k1_t1).trips) (c0_i32_620 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1154 : BitVec 32 := Scalar.addi v1153 c0_i32_620
  let v1155 : Index := Scalar.indexCast v1154
  let c0_621 : Index := 0#32
  ![v1155.toNat, 0]
def k1_off815 (i : grid1.Coords) (v43 : BitVec 32) (v45 : BitVec 32) (k1_t1 : Fin k1_t1_loop.trips) (k1_t101 : Fin (k1_t101_loop i v43 v45 k1_t1).trips) (c0_i32_622 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1159 : BitVec 32 := Scalar.addi v1153 c0_i32_622
  let v1160 : Index := Scalar.indexCast v1159
  let c16_623 : Index := 16#32
  ![v1160.toNat, 16]
def k1_off816 (i : grid1.Coords) (v43 : BitVec 32) (v45 : BitVec 32) (k1_t1 : Fin k1_t1_loop.trips) (k1_t101 : Fin (k1_t101_loop i v43 v45 k1_t1).trips) (c0_i32_624 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1164 : BitVec 32 := Scalar.addi v1153 c0_i32_624
  let v1165 : Index := Scalar.indexCast v1164
  let c32_625 : Index := 32#32
  ![v1165.toNat, 32]
def k1_off817 (i : grid1.Coords) (v43 : BitVec 32) (v45 : BitVec 32) (k1_t1 : Fin k1_t1_loop.trips) (k1_t101 : Fin (k1_t101_loop i v43 v45 k1_t1).trips) (c0_i32_626 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1169 : BitVec 32 := Scalar.addi v1153 c0_i32_626
  let v1170 : Index := Scalar.indexCast v1169
  let c48_627 : Index := 48#32
  ![v1170.toNat, 48]
def k1_off818 (i : grid1.Coords) (v43 : BitVec 32) (v45 : BitVec 32) (k1_t1 : Fin k1_t1_loop.trips) (k1_t101 : Fin (k1_t101_loop i v43 v45 k1_t1).trips) (c0_i32_628 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1174 : BitVec 32 := Scalar.addi v1153 c0_i32_628
  let v1175 : Index := Scalar.indexCast v1174
  let c64_629 : Index := 64#32
  ![v1175.toNat, 64]
def k1_off819 (i : grid1.Coords) (v43 : BitVec 32) (v45 : BitVec 32) (k1_t1 : Fin k1_t1_loop.trips) (k1_t101 : Fin (k1_t101_loop i v43 v45 k1_t1).trips) (c0_i32_630 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1179 : BitVec 32 := Scalar.addi v1153 c0_i32_630
  let v1180 : Index := Scalar.indexCast v1179
  let c80_631 : Index := 80#32
  ![v1180.toNat, 80]
def k1_off820 (i : grid1.Coords) (v43 : BitVec 32) (v45 : BitVec 32) (k1_t1 : Fin k1_t1_loop.trips) (k1_t101 : Fin (k1_t101_loop i v43 v45 k1_t1).trips) (c0_i32_632 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1184 : BitVec 32 := Scalar.addi v1153 c0_i32_632
  let v1185 : Index := Scalar.indexCast v1184
  let c96_633 : Index := 96#32
  ![v1185.toNat, 96]
def k1_off821 (i : grid1.Coords) (v43 : BitVec 32) (v45 : BitVec 32) (k1_t1 : Fin k1_t1_loop.trips) (k1_t101 : Fin (k1_t101_loop i v43 v45 k1_t1).trips) (c0_i32_634 : BitVec 32) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c0_i32_580 : BitVec 32 := 0#32
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t101
  let c4_i32_619 : BitVec 32 := 4#32
  let v1152 : BitVec 32 := Scalar.muli arg11 c4_i32_619
  let v1153 : BitVec 32 := Scalar.addi v960 v1152
  let v1189 : BitVec 32 := Scalar.addi v1153 c0_i32_634
  let v1190 : Index := Scalar.indexCast v1189
  let c112_635 : Index := 112#32
  ![v1190.toNat, 112]
@[reducible] def k1_t102_loop (i : grid1.Coords) (v43 : BitVec 32) (v45 : BitVec 32) (k1_t1 : Fin k1_t1_loop.trips) : Scf.Loop 32 :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off822 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1152 : Index := Scalar.indexCast arg11
  let c0_619 : Index := 0#32
  ![v1152.toNat, 0]
def k1_off823 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1156 : Index := Scalar.indexCast arg11
  let c16_620 : Index := 16#32
  ![v1156.toNat, 16]
def k1_off824 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1160 : Index := Scalar.indexCast arg11
  let c32_621 : Index := 32#32
  ![v1160.toNat, 32]
def k1_off825 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1164 : Index := Scalar.indexCast arg11
  let c48_622 : Index := 48#32
  ![v1164.toNat, 48]
def k1_off826 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1168 : Index := Scalar.indexCast arg11
  let c64_623 : Index := 64#32
  ![v1168.toNat, 64]
def k1_off827 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1172 : Index := Scalar.indexCast arg11
  let c80_624 : Index := 80#32
  ![v1172.toNat, 80]
def k1_off828 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1176 : Index := Scalar.indexCast arg11
  let c96_625 : Index := 96#32
  ![v1176.toNat, 96]
def k1_off829 (i : grid1.Coords) (v43 : BitVec 32) (v45 : BitVec 32) (k1_t1 : Fin k1_t1_loop.trips) (k1_t102 : Fin (k1_t102_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let c1_i32_585 : BitVec 32 := 1#32
  let arg11 : BitVec 32 := Scf.iv v1080 c1_i32_585 k1_t102
  let v1180 : Index := Scalar.indexCast arg11
  let c112_626 : Index := 112#32
  ![v1180.toNat, 112]
@[reducible] def k1_t103_loop (i : grid1.Coords) (v43 : BitVec 32) (v45 : BitVec 32) (k1_t1 : Fin k1_t1_loop.trips) : Scf.Loop 32 :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off830 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1152 : Index := Scalar.indexCast arg11
  let c0_619 : Index := 0#32
  ![v1152.toNat, 0]
def k1_off831 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1156 : Index := Scalar.indexCast arg11
  let c16_620 : Index := 16#32
  ![v1156.toNat, 16]
def k1_off832 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1160 : Index := Scalar.indexCast arg11
  let c32_621 : Index := 32#32
  ![v1160.toNat, 32]
def k1_off833 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1164 : Index := Scalar.indexCast arg11
  let c48_622 : Index := 48#32
  ![v1164.toNat, 48]
def k1_off834 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1168 : Index := Scalar.indexCast arg11
  let c64_623 : Index := 64#32
  ![v1168.toNat, 64]
def k1_off835 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1172 : Index := Scalar.indexCast arg11
  let c80_624 : Index := 80#32
  ![v1172.toNat, 80]
def k1_off836 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1176 : Index := Scalar.indexCast arg11
  let c96_625 : Index := 96#32
  ![v1176.toNat, 96]
def k1_off837 (i : grid1.Coords) (v43 : BitVec 32) (v45 : BitVec 32) (k1_t1 : Fin k1_t1_loop.trips) (k1_t103 : Fin (k1_t103_loop i v43 v45 k1_t1).trips) : Fin 2 → Nat :=
  let c256_i32_518 : BitVec 32 := 256#32
  let c0_i32_517 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v958 : BitVec 32 := Scalar.subi v43 v743
  let v959 : BitVec 32 := Scalar.maxsi c0_i32_517 v958
  let v960 : BitVec 32 := Scalar.minsi c256_i32_518 v959
  let c256_i32_520 : BitVec 32 := 256#32
  let c0_i32_519 : BitVec 32 := 0#32
  let v961 : BitVec 32 := Scalar.subi v45 v743
  let v962 : BitVec 32 := Scalar.maxsi c0_i32_519 v961
  let v963 : BitVec 32 := Scalar.minsi c256_i32_520 v962
  let v964 : BitVec 32 := Scalar.subi v963 v960
  let c0_i32_566 : BitVec 32 := 0#32
  let v1039 : BitVec 1 := Scalar.cmpi .sgt v964 c0_i32_566
  let v1040 : BitVec 32 := Scalar.extui v1039
  let c0_i32_567 : BitVec 32 := 0#32
  let v1041 : BitVec 1 := Scalar.cmpi .slt v964 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v964 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v964 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v960 v1055
  let v1081 : BitVec 32 := Scalar.subi v963 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t103
  let v1180 : Index := Scalar.indexCast arg11
  let c112_626 : Index := 112#32
  ![v1180.toNat, 112]
@[reducible] def k1_t104_loop (i : grid1.Coords) (v45 : BitVec 32) (v47 : BitVec 32) (k1_t1 : Fin k1_t1_loop.trips) : Scf.Loop 32 :=
  let c0_i32_580 : BitVec 32 := 0#32
  let c256_i32_526 : BitVec 32 := 256#32
  let c0_i32_525 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v971 : BitVec 32 := Scalar.subi v47 v743
  let v972 : BitVec 32 := Scalar.maxsi c0_i32_525 v971
  let v973 : BitVec 32 := Scalar.minsi c256_i32_526 v972
  let c256_i32_524 : BitVec 32 := 256#32
  let c0_i32_523 : BitVec 32 := 0#32
  let v968 : BitVec 32 := Scalar.subi v45 v743
  let v969 : BitVec 32 := Scalar.maxsi c0_i32_523 v968
  let v970 : BitVec 32 := Scalar.minsi c256_i32_524 v969
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond33 (i : grid1.Coords) (v45 : BitVec 32) (v47 : BitVec 32) (k1_t1 : Fin k1_t1_loop.trips) : BitVec 1 :=
  let c256_i32_526 : BitVec 32 := 256#32
  let c0_i32_525 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v971 : BitVec 32 := Scalar.subi v47 v743
  let v972 : BitVec 32 := Scalar.maxsi c0_i32_525 v971
  let v973 : BitVec 32 := Scalar.minsi c256_i32_526 v972
  let c256_i32_524 : BitVec 32 := 256#32
  let c0_i32_523 : BitVec 32 := 0#32
  let v968 : BitVec 32 := Scalar.subi v45 v743
  let v969 : BitVec 32 := Scalar.maxsi c0_i32_523 v968
  let v970 : BitVec 32 := Scalar.minsi c256_i32_524 v969
  let v974 : BitVec 32 := Scalar.subi v973 v970
  let c0_i32_527 : BitVec 32 := 0#32
  let v975 : BitVec 1 := Scalar.cmpi .sgt v974 c0_i32_527
  let v976 : BitVec 32 := Scalar.extui v975
  let c0_i32_528 : BitVec 32 := 0#32
  let v977 : BitVec 1 := Scalar.cmpi .ne v976 c0_i32_528
  v977

def k1_off838 (i : grid1.Coords) (v45 : BitVec 32) (v47 : BitVec 32) (k1_t1 : Fin k1_t1_loop.trips) (k1_t104 : Fin (k1_t104_loop i v45 v47 k1_t1).trips) (c0_i32_620 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1154 : BitVec 32 := Scalar.addi v1153 c0_i32_620
  let v1155 : Index := Scalar.indexCast v1154
  let c0_621 : Index := 0#32
  ![v1155.toNat, 0]
def k1_off839 (i : grid1.Coords) (v45 : BitVec 32) (v47 : BitVec 32) (k1_t1 : Fin k1_t1_loop.trips) (k1_t104 : Fin (k1_t104_loop i v45 v47 k1_t1).trips) (c0_i32_622 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1159 : BitVec 32 := Scalar.addi v1153 c0_i32_622
  let v1160 : Index := Scalar.indexCast v1159
  let c16_623 : Index := 16#32
  ![v1160.toNat, 16]
def k1_off840 (i : grid1.Coords) (v45 : BitVec 32) (v47 : BitVec 32) (k1_t1 : Fin k1_t1_loop.trips) (k1_t104 : Fin (k1_t104_loop i v45 v47 k1_t1).trips) (c0_i32_624 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1164 : BitVec 32 := Scalar.addi v1153 c0_i32_624
  let v1165 : Index := Scalar.indexCast v1164
  let c32_625 : Index := 32#32
  ![v1165.toNat, 32]
def k1_off841 (i : grid1.Coords) (v45 : BitVec 32) (v47 : BitVec 32) (k1_t1 : Fin k1_t1_loop.trips) (k1_t104 : Fin (k1_t104_loop i v45 v47 k1_t1).trips) (c0_i32_626 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1169 : BitVec 32 := Scalar.addi v1153 c0_i32_626
  let v1170 : Index := Scalar.indexCast v1169
  let c48_627 : Index := 48#32
  ![v1170.toNat, 48]
def k1_off842 (i : grid1.Coords) (v45 : BitVec 32) (v47 : BitVec 32) (k1_t1 : Fin k1_t1_loop.trips) (k1_t104 : Fin (k1_t104_loop i v45 v47 k1_t1).trips) (c0_i32_628 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1174 : BitVec 32 := Scalar.addi v1153 c0_i32_628
  let v1175 : Index := Scalar.indexCast v1174
  let c64_629 : Index := 64#32
  ![v1175.toNat, 64]
def k1_off843 (i : grid1.Coords) (v45 : BitVec 32) (v47 : BitVec 32) (k1_t1 : Fin k1_t1_loop.trips) (k1_t104 : Fin (k1_t104_loop i v45 v47 k1_t1).trips) (c0_i32_630 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1179 : BitVec 32 := Scalar.addi v1153 c0_i32_630
  let v1180 : Index := Scalar.indexCast v1179
  let c80_631 : Index := 80#32
  ![v1180.toNat, 80]
def k1_off844 (i : grid1.Coords) (v45 : BitVec 32) (v47 : BitVec 32) (k1_t1 : Fin k1_t1_loop.trips) (k1_t104 : Fin (k1_t104_loop i v45 v47 k1_t1).trips) (c0_i32_632 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1184 : BitVec 32 := Scalar.addi v1153 c0_i32_632
  let v1185 : Index := Scalar.indexCast v1184
  let c96_633 : Index := 96#32
  ![v1185.toNat, 96]
def k1_off845 (i : grid1.Coords) (v45 : BitVec 32) (v47 : BitVec 32) (k1_t1 : Fin k1_t1_loop.trips) (k1_t104 : Fin (k1_t104_loop i v45 v47 k1_t1).trips) (c0_i32_634 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c1_i32_582 : BitVec 32 := 1#32
  let arg11 : BitVec 32 := Scf.iv c0_i32_580 c1_i32_582 k1_t104
  let c4_i32_619 : BitVec 32 := 4#32
  let v1152 : BitVec 32 := Scalar.muli arg11 c4_i32_619
  let v1153 : BitVec 32 := Scalar.addi v970 v1152
  let v1189 : BitVec 32 := Scalar.addi v1153 c0_i32_634
  let v1190 : Index := Scalar.indexCast v1189
  let c112_635 : Index := 112#32
  ![v1190.toNat, 112]
@[reducible] def k1_t105_loop (i : grid1.Coords) (v45 : BitVec 32) (v47 : BitVec 32) (k1_t1 : Fin k1_t1_loop.trips) : Scf.Loop 32 :=
  let c0_i32_580 : BitVec 32 := 0#32
  let c256_i32_526 : BitVec 32 := 256#32
  let c0_i32_525 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v971 : BitVec 32 := Scalar.subi v47 v743
  let v972 : BitVec 32 := Scalar.maxsi c0_i32_525 v971
  let v973 : BitVec 32 := Scalar.minsi c256_i32_526 v972
  let c256_i32_524 : BitVec 32 := 256#32
  let c0_i32_523 : BitVec 32 := 0#32
  let v968 : BitVec 32 := Scalar.subi v45 v743
  let v969 : BitVec 32 := Scalar.maxsi c0_i32_523 v968
  let v970 : BitVec 32 := Scalar.minsi c256_i32_524 v969
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off846 (i : grid1.Coords) (v45 : BitVec 32) (v47 : BitVec 32) (k1_t1 : Fin k1_t1_loop.trips) (k1_t105 : Fin (k1_t105_loop i v45 v47 k1_t1).trips) (c0_i32_620 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1154 : BitVec 32 := Scalar.addi v1153 c0_i32_620
  let v1155 : Index := Scalar.indexCast v1154
  let c0_621 : Index := 0#32
  ![v1155.toNat, 0]
def k1_off847 (i : grid1.Coords) (v45 : BitVec 32) (v47 : BitVec 32) (k1_t1 : Fin k1_t1_loop.trips) (k1_t105 : Fin (k1_t105_loop i v45 v47 k1_t1).trips) (c0_i32_622 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1159 : BitVec 32 := Scalar.addi v1153 c0_i32_622
  let v1160 : Index := Scalar.indexCast v1159
  let c16_623 : Index := 16#32
  ![v1160.toNat, 16]
def k1_off848 (i : grid1.Coords) (v45 : BitVec 32) (v47 : BitVec 32) (k1_t1 : Fin k1_t1_loop.trips) (k1_t105 : Fin (k1_t105_loop i v45 v47 k1_t1).trips) (c0_i32_624 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1164 : BitVec 32 := Scalar.addi v1153 c0_i32_624
  let v1165 : Index := Scalar.indexCast v1164
  let c32_625 : Index := 32#32
  ![v1165.toNat, 32]
def k1_off849 (i : grid1.Coords) (v45 : BitVec 32) (v47 : BitVec 32) (k1_t1 : Fin k1_t1_loop.trips) (k1_t105 : Fin (k1_t105_loop i v45 v47 k1_t1).trips) (c0_i32_626 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1169 : BitVec 32 := Scalar.addi v1153 c0_i32_626
  let v1170 : Index := Scalar.indexCast v1169
  let c48_627 : Index := 48#32
  ![v1170.toNat, 48]
def k1_off850 (i : grid1.Coords) (v45 : BitVec 32) (v47 : BitVec 32) (k1_t1 : Fin k1_t1_loop.trips) (k1_t105 : Fin (k1_t105_loop i v45 v47 k1_t1).trips) (c0_i32_628 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1174 : BitVec 32 := Scalar.addi v1153 c0_i32_628
  let v1175 : Index := Scalar.indexCast v1174
  let c64_629 : Index := 64#32
  ![v1175.toNat, 64]
def k1_off851 (i : grid1.Coords) (v45 : BitVec 32) (v47 : BitVec 32) (k1_t1 : Fin k1_t1_loop.trips) (k1_t105 : Fin (k1_t105_loop i v45 v47 k1_t1).trips) (c0_i32_630 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1179 : BitVec 32 := Scalar.addi v1153 c0_i32_630
  let v1180 : Index := Scalar.indexCast v1179
  let c80_631 : Index := 80#32
  ![v1180.toNat, 80]
def k1_off852 (i : grid1.Coords) (v45 : BitVec 32) (v47 : BitVec 32) (k1_t1 : Fin k1_t1_loop.trips) (k1_t105 : Fin (k1_t105_loop i v45 v47 k1_t1).trips) (c0_i32_632 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1184 : BitVec 32 := Scalar.addi v1153 c0_i32_632
  let v1185 : Index := Scalar.indexCast v1184
  let c96_633 : Index := 96#32
  ![v1185.toNat, 96]
def k1_off853 (i : grid1.Coords) (v45 : BitVec 32) (v47 : BitVec 32) (k1_t1 : Fin k1_t1_loop.trips) (k1_t105 : Fin (k1_t105_loop i v45 v47 k1_t1).trips) (c0_i32_634 : BitVec 32) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c0_i32_580 : BitVec 32 := 0#32
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t105
  let c4_i32_619 : BitVec 32 := 4#32
  let v1152 : BitVec 32 := Scalar.muli arg11 c4_i32_619
  let v1153 : BitVec 32 := Scalar.addi v970 v1152
  let v1189 : BitVec 32 := Scalar.addi v1153 c0_i32_634
  let v1190 : Index := Scalar.indexCast v1189
  let c112_635 : Index := 112#32
  ![v1190.toNat, 112]
@[reducible] def k1_t106_loop (i : grid1.Coords) (v45 : BitVec 32) (v47 : BitVec 32) (k1_t1 : Fin k1_t1_loop.trips) : Scf.Loop 32 :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off854 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1152 : Index := Scalar.indexCast arg11
  let c0_619 : Index := 0#32
  ![v1152.toNat, 0]
def k1_off855 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1156 : Index := Scalar.indexCast arg11
  let c16_620 : Index := 16#32
  ![v1156.toNat, 16]
def k1_off856 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1160 : Index := Scalar.indexCast arg11
  let c32_621 : Index := 32#32
  ![v1160.toNat, 32]
def k1_off857 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1164 : Index := Scalar.indexCast arg11
  let c48_622 : Index := 48#32
  ![v1164.toNat, 48]
def k1_off858 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1168 : Index := Scalar.indexCast arg11
  let c64_623 : Index := 64#32
  ![v1168.toNat, 64]
def k1_off859 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1172 : Index := Scalar.indexCast arg11
  let c80_624 : Index := 80#32
  ![v1172.toNat, 80]
def k1_off860 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1176 : Index := Scalar.indexCast arg11
  let c96_625 : Index := 96#32
  ![v1176.toNat, 96]
def k1_off861 (i : grid1.Coords) (v45 : BitVec 32) (v47 : BitVec 32) (k1_t1 : Fin k1_t1_loop.trips) (k1_t106 : Fin (k1_t106_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let c1_i32_585 : BitVec 32 := 1#32
  let arg11 : BitVec 32 := Scf.iv v1080 c1_i32_585 k1_t106
  let v1180 : Index := Scalar.indexCast arg11
  let c112_626 : Index := 112#32
  ![v1180.toNat, 112]
@[reducible] def k1_t107_loop (i : grid1.Coords) (v45 : BitVec 32) (v47 : BitVec 32) (k1_t1 : Fin k1_t1_loop.trips) : Scf.Loop 32 :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off862 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1152 : Index := Scalar.indexCast arg11
  let c0_619 : Index := 0#32
  ![v1152.toNat, 0]
def k1_off863 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1156 : Index := Scalar.indexCast arg11
  let c16_620 : Index := 16#32
  ![v1156.toNat, 16]
def k1_off864 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1160 : Index := Scalar.indexCast arg11
  let c32_621 : Index := 32#32
  ![v1160.toNat, 32]
def k1_off865 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1164 : Index := Scalar.indexCast arg11
  let c48_622 : Index := 48#32
  ![v1164.toNat, 48]
def k1_off866 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1168 : Index := Scalar.indexCast arg11
  let c64_623 : Index := 64#32
  ![v1168.toNat, 64]
def k1_off867 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1172 : Index := Scalar.indexCast arg11
  let c80_624 : Index := 80#32
  ![v1172.toNat, 80]
def k1_off868 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1176 : Index := Scalar.indexCast arg11
  let c96_625 : Index := 96#32
  ![v1176.toNat, 96]
def k1_off869 (i : grid1.Coords) (v45 : BitVec 32) (v47 : BitVec 32) (k1_t1 : Fin k1_t1_loop.trips) (k1_t107 : Fin (k1_t107_loop i v45 v47 k1_t1).trips) : Fin 2 → Nat :=
  let c256_i32_524 : BitVec 32 := 256#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v968 : BitVec 32 := Scalar.subi v45 v743
  let v969 : BitVec 32 := Scalar.maxsi c0_i32_523 v968
  let v970 : BitVec 32 := Scalar.minsi c256_i32_524 v969
  let c256_i32_526 : BitVec 32 := 256#32
  let c0_i32_525 : BitVec 32 := 0#32
  let v971 : BitVec 32 := Scalar.subi v47 v743
  let v972 : BitVec 32 := Scalar.maxsi c0_i32_525 v971
  let v973 : BitVec 32 := Scalar.minsi c256_i32_526 v972
  let v974 : BitVec 32 := Scalar.subi v973 v970
  let c0_i32_566 : BitVec 32 := 0#32
  let v1039 : BitVec 1 := Scalar.cmpi .sgt v974 c0_i32_566
  let v1040 : BitVec 32 := Scalar.extui v1039
  let c0_i32_567 : BitVec 32 := 0#32
  let v1041 : BitVec 1 := Scalar.cmpi .slt v974 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v974 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v974 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v970 v1055
  let v1081 : BitVec 32 := Scalar.subi v973 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t107
  let v1180 : Index := Scalar.indexCast arg11
  let c112_626 : Index := 112#32
  ![v1180.toNat, 112]
@[reducible] def k1_t108_loop (i : grid1.Coords) (v47 : BitVec 32) (v49 : BitVec 32) (k1_t1 : Fin k1_t1_loop.trips) : Scf.Loop 32 :=
  let c0_i32_580 : BitVec 32 := 0#32
  let c256_i32_532 : BitVec 32 := 256#32
  let c0_i32_531 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v981 : BitVec 32 := Scalar.subi v49 v743
  let v982 : BitVec 32 := Scalar.maxsi c0_i32_531 v981
  let v983 : BitVec 32 := Scalar.minsi c256_i32_532 v982
  let c256_i32_530 : BitVec 32 := 256#32
  let c0_i32_529 : BitVec 32 := 0#32
  let v978 : BitVec 32 := Scalar.subi v47 v743
  let v979 : BitVec 32 := Scalar.maxsi c0_i32_529 v978
  let v980 : BitVec 32 := Scalar.minsi c256_i32_530 v979
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond34 (i : grid1.Coords) (v47 : BitVec 32) (v49 : BitVec 32) (k1_t1 : Fin k1_t1_loop.trips) : BitVec 1 :=
  let c256_i32_532 : BitVec 32 := 256#32
  let c0_i32_531 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v981 : BitVec 32 := Scalar.subi v49 v743
  let v982 : BitVec 32 := Scalar.maxsi c0_i32_531 v981
  let v983 : BitVec 32 := Scalar.minsi c256_i32_532 v982
  let c256_i32_530 : BitVec 32 := 256#32
  let c0_i32_529 : BitVec 32 := 0#32
  let v978 : BitVec 32 := Scalar.subi v47 v743
  let v979 : BitVec 32 := Scalar.maxsi c0_i32_529 v978
  let v980 : BitVec 32 := Scalar.minsi c256_i32_530 v979
  let v984 : BitVec 32 := Scalar.subi v983 v980
  let c0_i32_533 : BitVec 32 := 0#32
  let v985 : BitVec 1 := Scalar.cmpi .sgt v984 c0_i32_533
  let v986 : BitVec 32 := Scalar.extui v985
  let c0_i32_534 : BitVec 32 := 0#32
  let v987 : BitVec 1 := Scalar.cmpi .ne v986 c0_i32_534
  v987

def k1_off870 (i : grid1.Coords) (v47 : BitVec 32) (v49 : BitVec 32) (k1_t1 : Fin k1_t1_loop.trips) (k1_t108 : Fin (k1_t108_loop i v47 v49 k1_t1).trips) (c0_i32_620 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1154 : BitVec 32 := Scalar.addi v1153 c0_i32_620
  let v1155 : Index := Scalar.indexCast v1154
  let c0_621 : Index := 0#32
  ![v1155.toNat, 0]
def k1_off871 (i : grid1.Coords) (v47 : BitVec 32) (v49 : BitVec 32) (k1_t1 : Fin k1_t1_loop.trips) (k1_t108 : Fin (k1_t108_loop i v47 v49 k1_t1).trips) (c0_i32_622 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1159 : BitVec 32 := Scalar.addi v1153 c0_i32_622
  let v1160 : Index := Scalar.indexCast v1159
  let c16_623 : Index := 16#32
  ![v1160.toNat, 16]
def k1_off872 (i : grid1.Coords) (v47 : BitVec 32) (v49 : BitVec 32) (k1_t1 : Fin k1_t1_loop.trips) (k1_t108 : Fin (k1_t108_loop i v47 v49 k1_t1).trips) (c0_i32_624 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1164 : BitVec 32 := Scalar.addi v1153 c0_i32_624
  let v1165 : Index := Scalar.indexCast v1164
  let c32_625 : Index := 32#32
  ![v1165.toNat, 32]
def k1_off873 (i : grid1.Coords) (v47 : BitVec 32) (v49 : BitVec 32) (k1_t1 : Fin k1_t1_loop.trips) (k1_t108 : Fin (k1_t108_loop i v47 v49 k1_t1).trips) (c0_i32_626 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1169 : BitVec 32 := Scalar.addi v1153 c0_i32_626
  let v1170 : Index := Scalar.indexCast v1169
  let c48_627 : Index := 48#32
  ![v1170.toNat, 48]
def k1_off874 (i : grid1.Coords) (v47 : BitVec 32) (v49 : BitVec 32) (k1_t1 : Fin k1_t1_loop.trips) (k1_t108 : Fin (k1_t108_loop i v47 v49 k1_t1).trips) (c0_i32_628 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1174 : BitVec 32 := Scalar.addi v1153 c0_i32_628
  let v1175 : Index := Scalar.indexCast v1174
  let c64_629 : Index := 64#32
  ![v1175.toNat, 64]
def k1_off875 (i : grid1.Coords) (v47 : BitVec 32) (v49 : BitVec 32) (k1_t1 : Fin k1_t1_loop.trips) (k1_t108 : Fin (k1_t108_loop i v47 v49 k1_t1).trips) (c0_i32_630 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1179 : BitVec 32 := Scalar.addi v1153 c0_i32_630
  let v1180 : Index := Scalar.indexCast v1179
  let c80_631 : Index := 80#32
  ![v1180.toNat, 80]
def k1_off876 (i : grid1.Coords) (v47 : BitVec 32) (v49 : BitVec 32) (k1_t1 : Fin k1_t1_loop.trips) (k1_t108 : Fin (k1_t108_loop i v47 v49 k1_t1).trips) (c0_i32_632 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1184 : BitVec 32 := Scalar.addi v1153 c0_i32_632
  let v1185 : Index := Scalar.indexCast v1184
  let c96_633 : Index := 96#32
  ![v1185.toNat, 96]
def k1_off877 (i : grid1.Coords) (v47 : BitVec 32) (v49 : BitVec 32) (k1_t1 : Fin k1_t1_loop.trips) (k1_t108 : Fin (k1_t108_loop i v47 v49 k1_t1).trips) (c0_i32_634 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c1_i32_582 : BitVec 32 := 1#32
  let arg11 : BitVec 32 := Scf.iv c0_i32_580 c1_i32_582 k1_t108
  let c4_i32_619 : BitVec 32 := 4#32
  let v1152 : BitVec 32 := Scalar.muli arg11 c4_i32_619
  let v1153 : BitVec 32 := Scalar.addi v980 v1152
  let v1189 : BitVec 32 := Scalar.addi v1153 c0_i32_634
  let v1190 : Index := Scalar.indexCast v1189
  let c112_635 : Index := 112#32
  ![v1190.toNat, 112]
@[reducible] def k1_t109_loop (i : grid1.Coords) (v47 : BitVec 32) (v49 : BitVec 32) (k1_t1 : Fin k1_t1_loop.trips) : Scf.Loop 32 :=
  let c0_i32_580 : BitVec 32 := 0#32
  let c256_i32_532 : BitVec 32 := 256#32
  let c0_i32_531 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v981 : BitVec 32 := Scalar.subi v49 v743
  let v982 : BitVec 32 := Scalar.maxsi c0_i32_531 v981
  let v983 : BitVec 32 := Scalar.minsi c256_i32_532 v982
  let c256_i32_530 : BitVec 32 := 256#32
  let c0_i32_529 : BitVec 32 := 0#32
  let v978 : BitVec 32 := Scalar.subi v47 v743
  let v979 : BitVec 32 := Scalar.maxsi c0_i32_529 v978
  let v980 : BitVec 32 := Scalar.minsi c256_i32_530 v979
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off878 (i : grid1.Coords) (v47 : BitVec 32) (v49 : BitVec 32) (k1_t1 : Fin k1_t1_loop.trips) (k1_t109 : Fin (k1_t109_loop i v47 v49 k1_t1).trips) (c0_i32_620 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1154 : BitVec 32 := Scalar.addi v1153 c0_i32_620
  let v1155 : Index := Scalar.indexCast v1154
  let c0_621 : Index := 0#32
  ![v1155.toNat, 0]
def k1_off879 (i : grid1.Coords) (v47 : BitVec 32) (v49 : BitVec 32) (k1_t1 : Fin k1_t1_loop.trips) (k1_t109 : Fin (k1_t109_loop i v47 v49 k1_t1).trips) (c0_i32_622 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1159 : BitVec 32 := Scalar.addi v1153 c0_i32_622
  let v1160 : Index := Scalar.indexCast v1159
  let c16_623 : Index := 16#32
  ![v1160.toNat, 16]
def k1_off880 (i : grid1.Coords) (v47 : BitVec 32) (v49 : BitVec 32) (k1_t1 : Fin k1_t1_loop.trips) (k1_t109 : Fin (k1_t109_loop i v47 v49 k1_t1).trips) (c0_i32_624 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1164 : BitVec 32 := Scalar.addi v1153 c0_i32_624
  let v1165 : Index := Scalar.indexCast v1164
  let c32_625 : Index := 32#32
  ![v1165.toNat, 32]
def k1_off881 (i : grid1.Coords) (v47 : BitVec 32) (v49 : BitVec 32) (k1_t1 : Fin k1_t1_loop.trips) (k1_t109 : Fin (k1_t109_loop i v47 v49 k1_t1).trips) (c0_i32_626 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1169 : BitVec 32 := Scalar.addi v1153 c0_i32_626
  let v1170 : Index := Scalar.indexCast v1169
  let c48_627 : Index := 48#32
  ![v1170.toNat, 48]
def k1_off882 (i : grid1.Coords) (v47 : BitVec 32) (v49 : BitVec 32) (k1_t1 : Fin k1_t1_loop.trips) (k1_t109 : Fin (k1_t109_loop i v47 v49 k1_t1).trips) (c0_i32_628 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1174 : BitVec 32 := Scalar.addi v1153 c0_i32_628
  let v1175 : Index := Scalar.indexCast v1174
  let c64_629 : Index := 64#32
  ![v1175.toNat, 64]
def k1_off883 (i : grid1.Coords) (v47 : BitVec 32) (v49 : BitVec 32) (k1_t1 : Fin k1_t1_loop.trips) (k1_t109 : Fin (k1_t109_loop i v47 v49 k1_t1).trips) (c0_i32_630 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1179 : BitVec 32 := Scalar.addi v1153 c0_i32_630
  let v1180 : Index := Scalar.indexCast v1179
  let c80_631 : Index := 80#32
  ![v1180.toNat, 80]
def k1_off884 (i : grid1.Coords) (v47 : BitVec 32) (v49 : BitVec 32) (k1_t1 : Fin k1_t1_loop.trips) (k1_t109 : Fin (k1_t109_loop i v47 v49 k1_t1).trips) (c0_i32_632 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1184 : BitVec 32 := Scalar.addi v1153 c0_i32_632
  let v1185 : Index := Scalar.indexCast v1184
  let c96_633 : Index := 96#32
  ![v1185.toNat, 96]
def k1_off885 (i : grid1.Coords) (v47 : BitVec 32) (v49 : BitVec 32) (k1_t1 : Fin k1_t1_loop.trips) (k1_t109 : Fin (k1_t109_loop i v47 v49 k1_t1).trips) (c0_i32_634 : BitVec 32) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c0_i32_580 : BitVec 32 := 0#32
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t109
  let c4_i32_619 : BitVec 32 := 4#32
  let v1152 : BitVec 32 := Scalar.muli arg11 c4_i32_619
  let v1153 : BitVec 32 := Scalar.addi v980 v1152
  let v1189 : BitVec 32 := Scalar.addi v1153 c0_i32_634
  let v1190 : Index := Scalar.indexCast v1189
  let c112_635 : Index := 112#32
  ![v1190.toNat, 112]
@[reducible] def k1_t110_loop (i : grid1.Coords) (v47 : BitVec 32) (v49 : BitVec 32) (k1_t1 : Fin k1_t1_loop.trips) : Scf.Loop 32 :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off886 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1152 : Index := Scalar.indexCast arg11
  let c0_619 : Index := 0#32
  ![v1152.toNat, 0]
def k1_off887 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1156 : Index := Scalar.indexCast arg11
  let c16_620 : Index := 16#32
  ![v1156.toNat, 16]
def k1_off888 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1160 : Index := Scalar.indexCast arg11
  let c32_621 : Index := 32#32
  ![v1160.toNat, 32]
def k1_off889 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1164 : Index := Scalar.indexCast arg11
  let c48_622 : Index := 48#32
  ![v1164.toNat, 48]
def k1_off890 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1168 : Index := Scalar.indexCast arg11
  let c64_623 : Index := 64#32
  ![v1168.toNat, 64]
def k1_off891 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1172 : Index := Scalar.indexCast arg11
  let c80_624 : Index := 80#32
  ![v1172.toNat, 80]
def k1_off892 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1176 : Index := Scalar.indexCast arg11
  let c96_625 : Index := 96#32
  ![v1176.toNat, 96]
def k1_off893 (i : grid1.Coords) (v47 : BitVec 32) (v49 : BitVec 32) (k1_t1 : Fin k1_t1_loop.trips) (k1_t110 : Fin (k1_t110_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let c1_i32_585 : BitVec 32 := 1#32
  let arg11 : BitVec 32 := Scf.iv v1080 c1_i32_585 k1_t110
  let v1180 : Index := Scalar.indexCast arg11
  let c112_626 : Index := 112#32
  ![v1180.toNat, 112]
@[reducible] def k1_t111_loop (i : grid1.Coords) (v47 : BitVec 32) (v49 : BitVec 32) (k1_t1 : Fin k1_t1_loop.trips) : Scf.Loop 32 :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off894 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1152 : Index := Scalar.indexCast arg11
  let c0_619 : Index := 0#32
  ![v1152.toNat, 0]
def k1_off895 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1156 : Index := Scalar.indexCast arg11
  let c16_620 : Index := 16#32
  ![v1156.toNat, 16]
def k1_off896 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1160 : Index := Scalar.indexCast arg11
  let c32_621 : Index := 32#32
  ![v1160.toNat, 32]
def k1_off897 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1164 : Index := Scalar.indexCast arg11
  let c48_622 : Index := 48#32
  ![v1164.toNat, 48]
def k1_off898 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1168 : Index := Scalar.indexCast arg11
  let c64_623 : Index := 64#32
  ![v1168.toNat, 64]
def k1_off899 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1172 : Index := Scalar.indexCast arg11
  let c80_624 : Index := 80#32
  ![v1172.toNat, 80]
def k1_off900 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1176 : Index := Scalar.indexCast arg11
  let c96_625 : Index := 96#32
  ![v1176.toNat, 96]
def k1_off901 (i : grid1.Coords) (v47 : BitVec 32) (v49 : BitVec 32) (k1_t1 : Fin k1_t1_loop.trips) (k1_t111 : Fin (k1_t111_loop i v47 v49 k1_t1).trips) : Fin 2 → Nat :=
  let c256_i32_530 : BitVec 32 := 256#32
  let c0_i32_529 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v978 : BitVec 32 := Scalar.subi v47 v743
  let v979 : BitVec 32 := Scalar.maxsi c0_i32_529 v978
  let v980 : BitVec 32 := Scalar.minsi c256_i32_530 v979
  let c256_i32_532 : BitVec 32 := 256#32
  let c0_i32_531 : BitVec 32 := 0#32
  let v981 : BitVec 32 := Scalar.subi v49 v743
  let v982 : BitVec 32 := Scalar.maxsi c0_i32_531 v981
  let v983 : BitVec 32 := Scalar.minsi c256_i32_532 v982
  let v984 : BitVec 32 := Scalar.subi v983 v980
  let c0_i32_566 : BitVec 32 := 0#32
  let v1039 : BitVec 1 := Scalar.cmpi .sgt v984 c0_i32_566
  let v1040 : BitVec 32 := Scalar.extui v1039
  let c0_i32_567 : BitVec 32 := 0#32
  let v1041 : BitVec 1 := Scalar.cmpi .slt v984 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v984 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v984 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v980 v1055
  let v1081 : BitVec 32 := Scalar.subi v983 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t111
  let v1180 : Index := Scalar.indexCast arg11
  let c112_626 : Index := 112#32
  ![v1180.toNat, 112]
@[reducible] def k1_t112_loop (i : grid1.Coords) (v49 : BitVec 32) (v51 : BitVec 32) (k1_t1 : Fin k1_t1_loop.trips) : Scf.Loop 32 :=
  let c0_i32_580 : BitVec 32 := 0#32
  let c256_i32_538 : BitVec 32 := 256#32
  let c0_i32_537 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v991 : BitVec 32 := Scalar.subi v51 v743
  let v992 : BitVec 32 := Scalar.maxsi c0_i32_537 v991
  let v993 : BitVec 32 := Scalar.minsi c256_i32_538 v992
  let c256_i32_536 : BitVec 32 := 256#32
  let c0_i32_535 : BitVec 32 := 0#32
  let v988 : BitVec 32 := Scalar.subi v49 v743
  let v989 : BitVec 32 := Scalar.maxsi c0_i32_535 v988
  let v990 : BitVec 32 := Scalar.minsi c256_i32_536 v989
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond35 (i : grid1.Coords) (v49 : BitVec 32) (v51 : BitVec 32) (k1_t1 : Fin k1_t1_loop.trips) : BitVec 1 :=
  let c256_i32_538 : BitVec 32 := 256#32
  let c0_i32_537 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v991 : BitVec 32 := Scalar.subi v51 v743
  let v992 : BitVec 32 := Scalar.maxsi c0_i32_537 v991
  let v993 : BitVec 32 := Scalar.minsi c256_i32_538 v992
  let c256_i32_536 : BitVec 32 := 256#32
  let c0_i32_535 : BitVec 32 := 0#32
  let v988 : BitVec 32 := Scalar.subi v49 v743
  let v989 : BitVec 32 := Scalar.maxsi c0_i32_535 v988
  let v990 : BitVec 32 := Scalar.minsi c256_i32_536 v989
  let v994 : BitVec 32 := Scalar.subi v993 v990
  let c0_i32_539 : BitVec 32 := 0#32
  let v995 : BitVec 1 := Scalar.cmpi .sgt v994 c0_i32_539
  let v996 : BitVec 32 := Scalar.extui v995
  let c0_i32_540 : BitVec 32 := 0#32
  let v997 : BitVec 1 := Scalar.cmpi .ne v996 c0_i32_540
  v997

def k1_off902 (i : grid1.Coords) (v49 : BitVec 32) (v51 : BitVec 32) (k1_t1 : Fin k1_t1_loop.trips) (k1_t112 : Fin (k1_t112_loop i v49 v51 k1_t1).trips) (c0_i32_620 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1154 : BitVec 32 := Scalar.addi v1153 c0_i32_620
  let v1155 : Index := Scalar.indexCast v1154
  let c0_621 : Index := 0#32
  ![v1155.toNat, 0]
def k1_off903 (i : grid1.Coords) (v49 : BitVec 32) (v51 : BitVec 32) (k1_t1 : Fin k1_t1_loop.trips) (k1_t112 : Fin (k1_t112_loop i v49 v51 k1_t1).trips) (c0_i32_622 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1159 : BitVec 32 := Scalar.addi v1153 c0_i32_622
  let v1160 : Index := Scalar.indexCast v1159
  let c16_623 : Index := 16#32
  ![v1160.toNat, 16]
def k1_off904 (i : grid1.Coords) (v49 : BitVec 32) (v51 : BitVec 32) (k1_t1 : Fin k1_t1_loop.trips) (k1_t112 : Fin (k1_t112_loop i v49 v51 k1_t1).trips) (c0_i32_624 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1164 : BitVec 32 := Scalar.addi v1153 c0_i32_624
  let v1165 : Index := Scalar.indexCast v1164
  let c32_625 : Index := 32#32
  ![v1165.toNat, 32]
def k1_off905 (i : grid1.Coords) (v49 : BitVec 32) (v51 : BitVec 32) (k1_t1 : Fin k1_t1_loop.trips) (k1_t112 : Fin (k1_t112_loop i v49 v51 k1_t1).trips) (c0_i32_626 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1169 : BitVec 32 := Scalar.addi v1153 c0_i32_626
  let v1170 : Index := Scalar.indexCast v1169
  let c48_627 : Index := 48#32
  ![v1170.toNat, 48]
def k1_off906 (i : grid1.Coords) (v49 : BitVec 32) (v51 : BitVec 32) (k1_t1 : Fin k1_t1_loop.trips) (k1_t112 : Fin (k1_t112_loop i v49 v51 k1_t1).trips) (c0_i32_628 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1174 : BitVec 32 := Scalar.addi v1153 c0_i32_628
  let v1175 : Index := Scalar.indexCast v1174
  let c64_629 : Index := 64#32
  ![v1175.toNat, 64]
def k1_off907 (i : grid1.Coords) (v49 : BitVec 32) (v51 : BitVec 32) (k1_t1 : Fin k1_t1_loop.trips) (k1_t112 : Fin (k1_t112_loop i v49 v51 k1_t1).trips) (c0_i32_630 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1179 : BitVec 32 := Scalar.addi v1153 c0_i32_630
  let v1180 : Index := Scalar.indexCast v1179
  let c80_631 : Index := 80#32
  ![v1180.toNat, 80]
def k1_off908 (i : grid1.Coords) (v49 : BitVec 32) (v51 : BitVec 32) (k1_t1 : Fin k1_t1_loop.trips) (k1_t112 : Fin (k1_t112_loop i v49 v51 k1_t1).trips) (c0_i32_632 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1184 : BitVec 32 := Scalar.addi v1153 c0_i32_632
  let v1185 : Index := Scalar.indexCast v1184
  let c96_633 : Index := 96#32
  ![v1185.toNat, 96]
def k1_off909 (i : grid1.Coords) (v49 : BitVec 32) (v51 : BitVec 32) (k1_t1 : Fin k1_t1_loop.trips) (k1_t112 : Fin (k1_t112_loop i v49 v51 k1_t1).trips) (c0_i32_634 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c1_i32_582 : BitVec 32 := 1#32
  let arg11 : BitVec 32 := Scf.iv c0_i32_580 c1_i32_582 k1_t112
  let c4_i32_619 : BitVec 32 := 4#32
  let v1152 : BitVec 32 := Scalar.muli arg11 c4_i32_619
  let v1153 : BitVec 32 := Scalar.addi v990 v1152
  let v1189 : BitVec 32 := Scalar.addi v1153 c0_i32_634
  let v1190 : Index := Scalar.indexCast v1189
  let c112_635 : Index := 112#32
  ![v1190.toNat, 112]
@[reducible] def k1_t113_loop (i : grid1.Coords) (v49 : BitVec 32) (v51 : BitVec 32) (k1_t1 : Fin k1_t1_loop.trips) : Scf.Loop 32 :=
  let c0_i32_580 : BitVec 32 := 0#32
  let c256_i32_538 : BitVec 32 := 256#32
  let c0_i32_537 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v991 : BitVec 32 := Scalar.subi v51 v743
  let v992 : BitVec 32 := Scalar.maxsi c0_i32_537 v991
  let v993 : BitVec 32 := Scalar.minsi c256_i32_538 v992
  let c256_i32_536 : BitVec 32 := 256#32
  let c0_i32_535 : BitVec 32 := 0#32
  let v988 : BitVec 32 := Scalar.subi v49 v743
  let v989 : BitVec 32 := Scalar.maxsi c0_i32_535 v988
  let v990 : BitVec 32 := Scalar.minsi c256_i32_536 v989
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off910 (i : grid1.Coords) (v49 : BitVec 32) (v51 : BitVec 32) (k1_t1 : Fin k1_t1_loop.trips) (k1_t113 : Fin (k1_t113_loop i v49 v51 k1_t1).trips) (c0_i32_620 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1154 : BitVec 32 := Scalar.addi v1153 c0_i32_620
  let v1155 : Index := Scalar.indexCast v1154
  let c0_621 : Index := 0#32
  ![v1155.toNat, 0]
def k1_off911 (i : grid1.Coords) (v49 : BitVec 32) (v51 : BitVec 32) (k1_t1 : Fin k1_t1_loop.trips) (k1_t113 : Fin (k1_t113_loop i v49 v51 k1_t1).trips) (c0_i32_622 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1159 : BitVec 32 := Scalar.addi v1153 c0_i32_622
  let v1160 : Index := Scalar.indexCast v1159
  let c16_623 : Index := 16#32
  ![v1160.toNat, 16]
def k1_off912 (i : grid1.Coords) (v49 : BitVec 32) (v51 : BitVec 32) (k1_t1 : Fin k1_t1_loop.trips) (k1_t113 : Fin (k1_t113_loop i v49 v51 k1_t1).trips) (c0_i32_624 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1164 : BitVec 32 := Scalar.addi v1153 c0_i32_624
  let v1165 : Index := Scalar.indexCast v1164
  let c32_625 : Index := 32#32
  ![v1165.toNat, 32]
def k1_off913 (i : grid1.Coords) (v49 : BitVec 32) (v51 : BitVec 32) (k1_t1 : Fin k1_t1_loop.trips) (k1_t113 : Fin (k1_t113_loop i v49 v51 k1_t1).trips) (c0_i32_626 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1169 : BitVec 32 := Scalar.addi v1153 c0_i32_626
  let v1170 : Index := Scalar.indexCast v1169
  let c48_627 : Index := 48#32
  ![v1170.toNat, 48]
def k1_off914 (i : grid1.Coords) (v49 : BitVec 32) (v51 : BitVec 32) (k1_t1 : Fin k1_t1_loop.trips) (k1_t113 : Fin (k1_t113_loop i v49 v51 k1_t1).trips) (c0_i32_628 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1174 : BitVec 32 := Scalar.addi v1153 c0_i32_628
  let v1175 : Index := Scalar.indexCast v1174
  let c64_629 : Index := 64#32
  ![v1175.toNat, 64]
def k1_off915 (i : grid1.Coords) (v49 : BitVec 32) (v51 : BitVec 32) (k1_t1 : Fin k1_t1_loop.trips) (k1_t113 : Fin (k1_t113_loop i v49 v51 k1_t1).trips) (c0_i32_630 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1179 : BitVec 32 := Scalar.addi v1153 c0_i32_630
  let v1180 : Index := Scalar.indexCast v1179
  let c80_631 : Index := 80#32
  ![v1180.toNat, 80]
def k1_off916 (i : grid1.Coords) (v49 : BitVec 32) (v51 : BitVec 32) (k1_t1 : Fin k1_t1_loop.trips) (k1_t113 : Fin (k1_t113_loop i v49 v51 k1_t1).trips) (c0_i32_632 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1184 : BitVec 32 := Scalar.addi v1153 c0_i32_632
  let v1185 : Index := Scalar.indexCast v1184
  let c96_633 : Index := 96#32
  ![v1185.toNat, 96]
def k1_off917 (i : grid1.Coords) (v49 : BitVec 32) (v51 : BitVec 32) (k1_t1 : Fin k1_t1_loop.trips) (k1_t113 : Fin (k1_t113_loop i v49 v51 k1_t1).trips) (c0_i32_634 : BitVec 32) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c0_i32_580 : BitVec 32 := 0#32
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t113
  let c4_i32_619 : BitVec 32 := 4#32
  let v1152 : BitVec 32 := Scalar.muli arg11 c4_i32_619
  let v1153 : BitVec 32 := Scalar.addi v990 v1152
  let v1189 : BitVec 32 := Scalar.addi v1153 c0_i32_634
  let v1190 : Index := Scalar.indexCast v1189
  let c112_635 : Index := 112#32
  ![v1190.toNat, 112]
@[reducible] def k1_t114_loop (i : grid1.Coords) (v49 : BitVec 32) (v51 : BitVec 32) (k1_t1 : Fin k1_t1_loop.trips) : Scf.Loop 32 :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off918 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1152 : Index := Scalar.indexCast arg11
  let c0_619 : Index := 0#32
  ![v1152.toNat, 0]
def k1_off919 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1156 : Index := Scalar.indexCast arg11
  let c16_620 : Index := 16#32
  ![v1156.toNat, 16]
def k1_off920 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1160 : Index := Scalar.indexCast arg11
  let c32_621 : Index := 32#32
  ![v1160.toNat, 32]
def k1_off921 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1164 : Index := Scalar.indexCast arg11
  let c48_622 : Index := 48#32
  ![v1164.toNat, 48]
def k1_off922 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1168 : Index := Scalar.indexCast arg11
  let c64_623 : Index := 64#32
  ![v1168.toNat, 64]
def k1_off923 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1172 : Index := Scalar.indexCast arg11
  let c80_624 : Index := 80#32
  ![v1172.toNat, 80]
def k1_off924 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1176 : Index := Scalar.indexCast arg11
  let c96_625 : Index := 96#32
  ![v1176.toNat, 96]
def k1_off925 (i : grid1.Coords) (v49 : BitVec 32) (v51 : BitVec 32) (k1_t1 : Fin k1_t1_loop.trips) (k1_t114 : Fin (k1_t114_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let c1_i32_585 : BitVec 32 := 1#32
  let arg11 : BitVec 32 := Scf.iv v1080 c1_i32_585 k1_t114
  let v1180 : Index := Scalar.indexCast arg11
  let c112_626 : Index := 112#32
  ![v1180.toNat, 112]
@[reducible] def k1_t115_loop (i : grid1.Coords) (v49 : BitVec 32) (v51 : BitVec 32) (k1_t1 : Fin k1_t1_loop.trips) : Scf.Loop 32 :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off926 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1152 : Index := Scalar.indexCast arg11
  let c0_619 : Index := 0#32
  ![v1152.toNat, 0]
def k1_off927 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1156 : Index := Scalar.indexCast arg11
  let c16_620 : Index := 16#32
  ![v1156.toNat, 16]
def k1_off928 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1160 : Index := Scalar.indexCast arg11
  let c32_621 : Index := 32#32
  ![v1160.toNat, 32]
def k1_off929 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1164 : Index := Scalar.indexCast arg11
  let c48_622 : Index := 48#32
  ![v1164.toNat, 48]
def k1_off930 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1168 : Index := Scalar.indexCast arg11
  let c64_623 : Index := 64#32
  ![v1168.toNat, 64]
def k1_off931 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1172 : Index := Scalar.indexCast arg11
  let c80_624 : Index := 80#32
  ![v1172.toNat, 80]
def k1_off932 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1176 : Index := Scalar.indexCast arg11
  let c96_625 : Index := 96#32
  ![v1176.toNat, 96]
def k1_off933 (i : grid1.Coords) (v49 : BitVec 32) (v51 : BitVec 32) (k1_t1 : Fin k1_t1_loop.trips) (k1_t115 : Fin (k1_t115_loop i v49 v51 k1_t1).trips) : Fin 2 → Nat :=
  let c256_i32_536 : BitVec 32 := 256#32
  let c0_i32_535 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v988 : BitVec 32 := Scalar.subi v49 v743
  let v989 : BitVec 32 := Scalar.maxsi c0_i32_535 v988
  let v990 : BitVec 32 := Scalar.minsi c256_i32_536 v989
  let c256_i32_538 : BitVec 32 := 256#32
  let c0_i32_537 : BitVec 32 := 0#32
  let v991 : BitVec 32 := Scalar.subi v51 v743
  let v992 : BitVec 32 := Scalar.maxsi c0_i32_537 v991
  let v993 : BitVec 32 := Scalar.minsi c256_i32_538 v992
  let v994 : BitVec 32 := Scalar.subi v993 v990
  let c0_i32_566 : BitVec 32 := 0#32
  let v1039 : BitVec 1 := Scalar.cmpi .sgt v994 c0_i32_566
  let v1040 : BitVec 32 := Scalar.extui v1039
  let c0_i32_567 : BitVec 32 := 0#32
  let v1041 : BitVec 1 := Scalar.cmpi .slt v994 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v994 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v994 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v990 v1055
  let v1081 : BitVec 32 := Scalar.subi v993 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t115
  let v1180 : Index := Scalar.indexCast arg11
  let c112_626 : Index := 112#32
  ![v1180.toNat, 112]
@[reducible] def k1_t116_loop (i : grid1.Coords) (v51 : BitVec 32) (v53 : BitVec 32) (k1_t1 : Fin k1_t1_loop.trips) : Scf.Loop 32 :=
  let c0_i32_580 : BitVec 32 := 0#32
  let c256_i32_544 : BitVec 32 := 256#32
  let c0_i32_543 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1001 : BitVec 32 := Scalar.subi v53 v743
  let v1002 : BitVec 32 := Scalar.maxsi c0_i32_543 v1001
  let v1003 : BitVec 32 := Scalar.minsi c256_i32_544 v1002
  let c256_i32_542 : BitVec 32 := 256#32
  let c0_i32_541 : BitVec 32 := 0#32
  let v998 : BitVec 32 := Scalar.subi v51 v743
  let v999 : BitVec 32 := Scalar.maxsi c0_i32_541 v998
  let v1000 : BitVec 32 := Scalar.minsi c256_i32_542 v999
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond36 (i : grid1.Coords) (v51 : BitVec 32) (v53 : BitVec 32) (k1_t1 : Fin k1_t1_loop.trips) : BitVec 1 :=
  let c256_i32_544 : BitVec 32 := 256#32
  let c0_i32_543 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1001 : BitVec 32 := Scalar.subi v53 v743
  let v1002 : BitVec 32 := Scalar.maxsi c0_i32_543 v1001
  let v1003 : BitVec 32 := Scalar.minsi c256_i32_544 v1002
  let c256_i32_542 : BitVec 32 := 256#32
  let c0_i32_541 : BitVec 32 := 0#32
  let v998 : BitVec 32 := Scalar.subi v51 v743
  let v999 : BitVec 32 := Scalar.maxsi c0_i32_541 v998
  let v1000 : BitVec 32 := Scalar.minsi c256_i32_542 v999
  let v1004 : BitVec 32 := Scalar.subi v1003 v1000
  let c0_i32_545 : BitVec 32 := 0#32
  let v1005 : BitVec 1 := Scalar.cmpi .sgt v1004 c0_i32_545
  let v1006 : BitVec 32 := Scalar.extui v1005
  let c0_i32_546 : BitVec 32 := 0#32
  let v1007 : BitVec 1 := Scalar.cmpi .ne v1006 c0_i32_546
  v1007

def k1_off934 (i : grid1.Coords) (v51 : BitVec 32) (v53 : BitVec 32) (k1_t1 : Fin k1_t1_loop.trips) (k1_t116 : Fin (k1_t116_loop i v51 v53 k1_t1).trips) (c0_i32_620 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1154 : BitVec 32 := Scalar.addi v1153 c0_i32_620
  let v1155 : Index := Scalar.indexCast v1154
  let c0_621 : Index := 0#32
  ![v1155.toNat, 0]
def k1_off935 (i : grid1.Coords) (v51 : BitVec 32) (v53 : BitVec 32) (k1_t1 : Fin k1_t1_loop.trips) (k1_t116 : Fin (k1_t116_loop i v51 v53 k1_t1).trips) (c0_i32_622 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1159 : BitVec 32 := Scalar.addi v1153 c0_i32_622
  let v1160 : Index := Scalar.indexCast v1159
  let c16_623 : Index := 16#32
  ![v1160.toNat, 16]
def k1_off936 (i : grid1.Coords) (v51 : BitVec 32) (v53 : BitVec 32) (k1_t1 : Fin k1_t1_loop.trips) (k1_t116 : Fin (k1_t116_loop i v51 v53 k1_t1).trips) (c0_i32_624 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1164 : BitVec 32 := Scalar.addi v1153 c0_i32_624
  let v1165 : Index := Scalar.indexCast v1164
  let c32_625 : Index := 32#32
  ![v1165.toNat, 32]
def k1_off937 (i : grid1.Coords) (v51 : BitVec 32) (v53 : BitVec 32) (k1_t1 : Fin k1_t1_loop.trips) (k1_t116 : Fin (k1_t116_loop i v51 v53 k1_t1).trips) (c0_i32_626 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1169 : BitVec 32 := Scalar.addi v1153 c0_i32_626
  let v1170 : Index := Scalar.indexCast v1169
  let c48_627 : Index := 48#32
  ![v1170.toNat, 48]
def k1_off938 (i : grid1.Coords) (v51 : BitVec 32) (v53 : BitVec 32) (k1_t1 : Fin k1_t1_loop.trips) (k1_t116 : Fin (k1_t116_loop i v51 v53 k1_t1).trips) (c0_i32_628 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1174 : BitVec 32 := Scalar.addi v1153 c0_i32_628
  let v1175 : Index := Scalar.indexCast v1174
  let c64_629 : Index := 64#32
  ![v1175.toNat, 64]
def k1_off939 (i : grid1.Coords) (v51 : BitVec 32) (v53 : BitVec 32) (k1_t1 : Fin k1_t1_loop.trips) (k1_t116 : Fin (k1_t116_loop i v51 v53 k1_t1).trips) (c0_i32_630 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1179 : BitVec 32 := Scalar.addi v1153 c0_i32_630
  let v1180 : Index := Scalar.indexCast v1179
  let c80_631 : Index := 80#32
  ![v1180.toNat, 80]
def k1_off940 (i : grid1.Coords) (v51 : BitVec 32) (v53 : BitVec 32) (k1_t1 : Fin k1_t1_loop.trips) (k1_t116 : Fin (k1_t116_loop i v51 v53 k1_t1).trips) (c0_i32_632 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1184 : BitVec 32 := Scalar.addi v1153 c0_i32_632
  let v1185 : Index := Scalar.indexCast v1184
  let c96_633 : Index := 96#32
  ![v1185.toNat, 96]
def k1_off941 (i : grid1.Coords) (v51 : BitVec 32) (v53 : BitVec 32) (k1_t1 : Fin k1_t1_loop.trips) (k1_t116 : Fin (k1_t116_loop i v51 v53 k1_t1).trips) (c0_i32_634 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c1_i32_582 : BitVec 32 := 1#32
  let arg11 : BitVec 32 := Scf.iv c0_i32_580 c1_i32_582 k1_t116
  let c4_i32_619 : BitVec 32 := 4#32
  let v1152 : BitVec 32 := Scalar.muli arg11 c4_i32_619
  let v1153 : BitVec 32 := Scalar.addi v1000 v1152
  let v1189 : BitVec 32 := Scalar.addi v1153 c0_i32_634
  let v1190 : Index := Scalar.indexCast v1189
  let c112_635 : Index := 112#32
  ![v1190.toNat, 112]
@[reducible] def k1_t117_loop (i : grid1.Coords) (v51 : BitVec 32) (v53 : BitVec 32) (k1_t1 : Fin k1_t1_loop.trips) : Scf.Loop 32 :=
  let c0_i32_580 : BitVec 32 := 0#32
  let c256_i32_544 : BitVec 32 := 256#32
  let c0_i32_543 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1001 : BitVec 32 := Scalar.subi v53 v743
  let v1002 : BitVec 32 := Scalar.maxsi c0_i32_543 v1001
  let v1003 : BitVec 32 := Scalar.minsi c256_i32_544 v1002
  let c256_i32_542 : BitVec 32 := 256#32
  let c0_i32_541 : BitVec 32 := 0#32
  let v998 : BitVec 32 := Scalar.subi v51 v743
  let v999 : BitVec 32 := Scalar.maxsi c0_i32_541 v998
  let v1000 : BitVec 32 := Scalar.minsi c256_i32_542 v999
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off942 (i : grid1.Coords) (v51 : BitVec 32) (v53 : BitVec 32) (k1_t1 : Fin k1_t1_loop.trips) (k1_t117 : Fin (k1_t117_loop i v51 v53 k1_t1).trips) (c0_i32_620 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1154 : BitVec 32 := Scalar.addi v1153 c0_i32_620
  let v1155 : Index := Scalar.indexCast v1154
  let c0_621 : Index := 0#32
  ![v1155.toNat, 0]
def k1_off943 (i : grid1.Coords) (v51 : BitVec 32) (v53 : BitVec 32) (k1_t1 : Fin k1_t1_loop.trips) (k1_t117 : Fin (k1_t117_loop i v51 v53 k1_t1).trips) (c0_i32_622 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1159 : BitVec 32 := Scalar.addi v1153 c0_i32_622
  let v1160 : Index := Scalar.indexCast v1159
  let c16_623 : Index := 16#32
  ![v1160.toNat, 16]
def k1_off944 (i : grid1.Coords) (v51 : BitVec 32) (v53 : BitVec 32) (k1_t1 : Fin k1_t1_loop.trips) (k1_t117 : Fin (k1_t117_loop i v51 v53 k1_t1).trips) (c0_i32_624 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1164 : BitVec 32 := Scalar.addi v1153 c0_i32_624
  let v1165 : Index := Scalar.indexCast v1164
  let c32_625 : Index := 32#32
  ![v1165.toNat, 32]
def k1_off945 (i : grid1.Coords) (v51 : BitVec 32) (v53 : BitVec 32) (k1_t1 : Fin k1_t1_loop.trips) (k1_t117 : Fin (k1_t117_loop i v51 v53 k1_t1).trips) (c0_i32_626 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1169 : BitVec 32 := Scalar.addi v1153 c0_i32_626
  let v1170 : Index := Scalar.indexCast v1169
  let c48_627 : Index := 48#32
  ![v1170.toNat, 48]
def k1_off946 (i : grid1.Coords) (v51 : BitVec 32) (v53 : BitVec 32) (k1_t1 : Fin k1_t1_loop.trips) (k1_t117 : Fin (k1_t117_loop i v51 v53 k1_t1).trips) (c0_i32_628 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1174 : BitVec 32 := Scalar.addi v1153 c0_i32_628
  let v1175 : Index := Scalar.indexCast v1174
  let c64_629 : Index := 64#32
  ![v1175.toNat, 64]
def k1_off947 (i : grid1.Coords) (v51 : BitVec 32) (v53 : BitVec 32) (k1_t1 : Fin k1_t1_loop.trips) (k1_t117 : Fin (k1_t117_loop i v51 v53 k1_t1).trips) (c0_i32_630 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1179 : BitVec 32 := Scalar.addi v1153 c0_i32_630
  let v1180 : Index := Scalar.indexCast v1179
  let c80_631 : Index := 80#32
  ![v1180.toNat, 80]
def k1_off948 (i : grid1.Coords) (v51 : BitVec 32) (v53 : BitVec 32) (k1_t1 : Fin k1_t1_loop.trips) (k1_t117 : Fin (k1_t117_loop i v51 v53 k1_t1).trips) (c0_i32_632 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1184 : BitVec 32 := Scalar.addi v1153 c0_i32_632
  let v1185 : Index := Scalar.indexCast v1184
  let c96_633 : Index := 96#32
  ![v1185.toNat, 96]
def k1_off949 (i : grid1.Coords) (v51 : BitVec 32) (v53 : BitVec 32) (k1_t1 : Fin k1_t1_loop.trips) (k1_t117 : Fin (k1_t117_loop i v51 v53 k1_t1).trips) (c0_i32_634 : BitVec 32) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c0_i32_580 : BitVec 32 := 0#32
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t117
  let c4_i32_619 : BitVec 32 := 4#32
  let v1152 : BitVec 32 := Scalar.muli arg11 c4_i32_619
  let v1153 : BitVec 32 := Scalar.addi v1000 v1152
  let v1189 : BitVec 32 := Scalar.addi v1153 c0_i32_634
  let v1190 : Index := Scalar.indexCast v1189
  let c112_635 : Index := 112#32
  ![v1190.toNat, 112]
@[reducible] def k1_t118_loop (i : grid1.Coords) (v51 : BitVec 32) (v53 : BitVec 32) (k1_t1 : Fin k1_t1_loop.trips) : Scf.Loop 32 :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off950 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1152 : Index := Scalar.indexCast arg11
  let c0_619 : Index := 0#32
  ![v1152.toNat, 0]
def k1_off951 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1156 : Index := Scalar.indexCast arg11
  let c16_620 : Index := 16#32
  ![v1156.toNat, 16]
def k1_off952 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1160 : Index := Scalar.indexCast arg11
  let c32_621 : Index := 32#32
  ![v1160.toNat, 32]
def k1_off953 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1164 : Index := Scalar.indexCast arg11
  let c48_622 : Index := 48#32
  ![v1164.toNat, 48]
def k1_off954 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1168 : Index := Scalar.indexCast arg11
  let c64_623 : Index := 64#32
  ![v1168.toNat, 64]
def k1_off955 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1172 : Index := Scalar.indexCast arg11
  let c80_624 : Index := 80#32
  ![v1172.toNat, 80]
def k1_off956 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1176 : Index := Scalar.indexCast arg11
  let c96_625 : Index := 96#32
  ![v1176.toNat, 96]
def k1_off957 (i : grid1.Coords) (v51 : BitVec 32) (v53 : BitVec 32) (k1_t1 : Fin k1_t1_loop.trips) (k1_t118 : Fin (k1_t118_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let c1_i32_585 : BitVec 32 := 1#32
  let arg11 : BitVec 32 := Scf.iv v1080 c1_i32_585 k1_t118
  let v1180 : Index := Scalar.indexCast arg11
  let c112_626 : Index := 112#32
  ![v1180.toNat, 112]
@[reducible] def k1_t119_loop (i : grid1.Coords) (v51 : BitVec 32) (v53 : BitVec 32) (k1_t1 : Fin k1_t1_loop.trips) : Scf.Loop 32 :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off958 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1152 : Index := Scalar.indexCast arg11
  let c0_619 : Index := 0#32
  ![v1152.toNat, 0]
def k1_off959 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1156 : Index := Scalar.indexCast arg11
  let c16_620 : Index := 16#32
  ![v1156.toNat, 16]
def k1_off960 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1160 : Index := Scalar.indexCast arg11
  let c32_621 : Index := 32#32
  ![v1160.toNat, 32]
def k1_off961 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1164 : Index := Scalar.indexCast arg11
  let c48_622 : Index := 48#32
  ![v1164.toNat, 48]
def k1_off962 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1168 : Index := Scalar.indexCast arg11
  let c64_623 : Index := 64#32
  ![v1168.toNat, 64]
def k1_off963 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1172 : Index := Scalar.indexCast arg11
  let c80_624 : Index := 80#32
  ![v1172.toNat, 80]
def k1_off964 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1176 : Index := Scalar.indexCast arg11
  let c96_625 : Index := 96#32
  ![v1176.toNat, 96]
def k1_off965 (i : grid1.Coords) (v51 : BitVec 32) (v53 : BitVec 32) (k1_t1 : Fin k1_t1_loop.trips) (k1_t119 : Fin (k1_t119_loop i v51 v53 k1_t1).trips) : Fin 2 → Nat :=
  let c256_i32_542 : BitVec 32 := 256#32
  let c0_i32_541 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v998 : BitVec 32 := Scalar.subi v51 v743
  let v999 : BitVec 32 := Scalar.maxsi c0_i32_541 v998
  let v1000 : BitVec 32 := Scalar.minsi c256_i32_542 v999
  let c256_i32_544 : BitVec 32 := 256#32
  let c0_i32_543 : BitVec 32 := 0#32
  let v1001 : BitVec 32 := Scalar.subi v53 v743
  let v1002 : BitVec 32 := Scalar.maxsi c0_i32_543 v1001
  let v1003 : BitVec 32 := Scalar.minsi c256_i32_544 v1002
  let v1004 : BitVec 32 := Scalar.subi v1003 v1000
  let c0_i32_566 : BitVec 32 := 0#32
  let v1039 : BitVec 1 := Scalar.cmpi .sgt v1004 c0_i32_566
  let v1040 : BitVec 32 := Scalar.extui v1039
  let c0_i32_567 : BitVec 32 := 0#32
  let v1041 : BitVec 1 := Scalar.cmpi .slt v1004 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1004 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1004 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1000 v1055
  let v1081 : BitVec 32 := Scalar.subi v1003 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t119
  let v1180 : Index := Scalar.indexCast arg11
  let c112_626 : Index := 112#32
  ![v1180.toNat, 112]
@[reducible] def k1_t120_loop (i : grid1.Coords) (v53 : BitVec 32) (v55 : BitVec 32) (k1_t1 : Fin k1_t1_loop.trips) : Scf.Loop 32 :=
  let c0_i32_580 : BitVec 32 := 0#32
  let c256_i32_550 : BitVec 32 := 256#32
  let c0_i32_549 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1011 : BitVec 32 := Scalar.subi v55 v743
  let v1012 : BitVec 32 := Scalar.maxsi c0_i32_549 v1011
  let v1013 : BitVec 32 := Scalar.minsi c256_i32_550 v1012
  let c256_i32_548 : BitVec 32 := 256#32
  let c0_i32_547 : BitVec 32 := 0#32
  let v1008 : BitVec 32 := Scalar.subi v53 v743
  let v1009 : BitVec 32 := Scalar.maxsi c0_i32_547 v1008
  let v1010 : BitVec 32 := Scalar.minsi c256_i32_548 v1009
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond37 (i : grid1.Coords) (v53 : BitVec 32) (v55 : BitVec 32) (k1_t1 : Fin k1_t1_loop.trips) : BitVec 1 :=
  let c256_i32_550 : BitVec 32 := 256#32
  let c0_i32_549 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1011 : BitVec 32 := Scalar.subi v55 v743
  let v1012 : BitVec 32 := Scalar.maxsi c0_i32_549 v1011
  let v1013 : BitVec 32 := Scalar.minsi c256_i32_550 v1012
  let c256_i32_548 : BitVec 32 := 256#32
  let c0_i32_547 : BitVec 32 := 0#32
  let v1008 : BitVec 32 := Scalar.subi v53 v743
  let v1009 : BitVec 32 := Scalar.maxsi c0_i32_547 v1008
  let v1010 : BitVec 32 := Scalar.minsi c256_i32_548 v1009
  let v1014 : BitVec 32 := Scalar.subi v1013 v1010
  let c0_i32_551 : BitVec 32 := 0#32
  let v1015 : BitVec 1 := Scalar.cmpi .sgt v1014 c0_i32_551
  let v1016 : BitVec 32 := Scalar.extui v1015
  let c0_i32_552 : BitVec 32 := 0#32
  let v1017 : BitVec 1 := Scalar.cmpi .ne v1016 c0_i32_552
  v1017

def k1_off966 (i : grid1.Coords) (v53 : BitVec 32) (v55 : BitVec 32) (k1_t1 : Fin k1_t1_loop.trips) (k1_t120 : Fin (k1_t120_loop i v53 v55 k1_t1).trips) (c0_i32_620 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1154 : BitVec 32 := Scalar.addi v1153 c0_i32_620
  let v1155 : Index := Scalar.indexCast v1154
  let c0_621 : Index := 0#32
  ![v1155.toNat, 0]
def k1_off967 (i : grid1.Coords) (v53 : BitVec 32) (v55 : BitVec 32) (k1_t1 : Fin k1_t1_loop.trips) (k1_t120 : Fin (k1_t120_loop i v53 v55 k1_t1).trips) (c0_i32_622 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1159 : BitVec 32 := Scalar.addi v1153 c0_i32_622
  let v1160 : Index := Scalar.indexCast v1159
  let c16_623 : Index := 16#32
  ![v1160.toNat, 16]
def k1_off968 (i : grid1.Coords) (v53 : BitVec 32) (v55 : BitVec 32) (k1_t1 : Fin k1_t1_loop.trips) (k1_t120 : Fin (k1_t120_loop i v53 v55 k1_t1).trips) (c0_i32_624 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1164 : BitVec 32 := Scalar.addi v1153 c0_i32_624
  let v1165 : Index := Scalar.indexCast v1164
  let c32_625 : Index := 32#32
  ![v1165.toNat, 32]
def k1_off969 (i : grid1.Coords) (v53 : BitVec 32) (v55 : BitVec 32) (k1_t1 : Fin k1_t1_loop.trips) (k1_t120 : Fin (k1_t120_loop i v53 v55 k1_t1).trips) (c0_i32_626 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1169 : BitVec 32 := Scalar.addi v1153 c0_i32_626
  let v1170 : Index := Scalar.indexCast v1169
  let c48_627 : Index := 48#32
  ![v1170.toNat, 48]
def k1_off970 (i : grid1.Coords) (v53 : BitVec 32) (v55 : BitVec 32) (k1_t1 : Fin k1_t1_loop.trips) (k1_t120 : Fin (k1_t120_loop i v53 v55 k1_t1).trips) (c0_i32_628 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1174 : BitVec 32 := Scalar.addi v1153 c0_i32_628
  let v1175 : Index := Scalar.indexCast v1174
  let c64_629 : Index := 64#32
  ![v1175.toNat, 64]
def k1_off971 (i : grid1.Coords) (v53 : BitVec 32) (v55 : BitVec 32) (k1_t1 : Fin k1_t1_loop.trips) (k1_t120 : Fin (k1_t120_loop i v53 v55 k1_t1).trips) (c0_i32_630 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1179 : BitVec 32 := Scalar.addi v1153 c0_i32_630
  let v1180 : Index := Scalar.indexCast v1179
  let c80_631 : Index := 80#32
  ![v1180.toNat, 80]
def k1_off972 (i : grid1.Coords) (v53 : BitVec 32) (v55 : BitVec 32) (k1_t1 : Fin k1_t1_loop.trips) (k1_t120 : Fin (k1_t120_loop i v53 v55 k1_t1).trips) (c0_i32_632 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1184 : BitVec 32 := Scalar.addi v1153 c0_i32_632
  let v1185 : Index := Scalar.indexCast v1184
  let c96_633 : Index := 96#32
  ![v1185.toNat, 96]
def k1_off973 (i : grid1.Coords) (v53 : BitVec 32) (v55 : BitVec 32) (k1_t1 : Fin k1_t1_loop.trips) (k1_t120 : Fin (k1_t120_loop i v53 v55 k1_t1).trips) (c0_i32_634 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c1_i32_582 : BitVec 32 := 1#32
  let arg11 : BitVec 32 := Scf.iv c0_i32_580 c1_i32_582 k1_t120
  let c4_i32_619 : BitVec 32 := 4#32
  let v1152 : BitVec 32 := Scalar.muli arg11 c4_i32_619
  let v1153 : BitVec 32 := Scalar.addi v1010 v1152
  let v1189 : BitVec 32 := Scalar.addi v1153 c0_i32_634
  let v1190 : Index := Scalar.indexCast v1189
  let c112_635 : Index := 112#32
  ![v1190.toNat, 112]
@[reducible] def k1_t121_loop (i : grid1.Coords) (v53 : BitVec 32) (v55 : BitVec 32) (k1_t1 : Fin k1_t1_loop.trips) : Scf.Loop 32 :=
  let c0_i32_580 : BitVec 32 := 0#32
  let c256_i32_550 : BitVec 32 := 256#32
  let c0_i32_549 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1011 : BitVec 32 := Scalar.subi v55 v743
  let v1012 : BitVec 32 := Scalar.maxsi c0_i32_549 v1011
  let v1013 : BitVec 32 := Scalar.minsi c256_i32_550 v1012
  let c256_i32_548 : BitVec 32 := 256#32
  let c0_i32_547 : BitVec 32 := 0#32
  let v1008 : BitVec 32 := Scalar.subi v53 v743
  let v1009 : BitVec 32 := Scalar.maxsi c0_i32_547 v1008
  let v1010 : BitVec 32 := Scalar.minsi c256_i32_548 v1009
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off974 (i : grid1.Coords) (v53 : BitVec 32) (v55 : BitVec 32) (k1_t1 : Fin k1_t1_loop.trips) (k1_t121 : Fin (k1_t121_loop i v53 v55 k1_t1).trips) (c0_i32_620 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1154 : BitVec 32 := Scalar.addi v1153 c0_i32_620
  let v1155 : Index := Scalar.indexCast v1154
  let c0_621 : Index := 0#32
  ![v1155.toNat, 0]
def k1_off975 (i : grid1.Coords) (v53 : BitVec 32) (v55 : BitVec 32) (k1_t1 : Fin k1_t1_loop.trips) (k1_t121 : Fin (k1_t121_loop i v53 v55 k1_t1).trips) (c0_i32_622 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1159 : BitVec 32 := Scalar.addi v1153 c0_i32_622
  let v1160 : Index := Scalar.indexCast v1159
  let c16_623 : Index := 16#32
  ![v1160.toNat, 16]
def k1_off976 (i : grid1.Coords) (v53 : BitVec 32) (v55 : BitVec 32) (k1_t1 : Fin k1_t1_loop.trips) (k1_t121 : Fin (k1_t121_loop i v53 v55 k1_t1).trips) (c0_i32_624 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1164 : BitVec 32 := Scalar.addi v1153 c0_i32_624
  let v1165 : Index := Scalar.indexCast v1164
  let c32_625 : Index := 32#32
  ![v1165.toNat, 32]
def k1_off977 (i : grid1.Coords) (v53 : BitVec 32) (v55 : BitVec 32) (k1_t1 : Fin k1_t1_loop.trips) (k1_t121 : Fin (k1_t121_loop i v53 v55 k1_t1).trips) (c0_i32_626 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1169 : BitVec 32 := Scalar.addi v1153 c0_i32_626
  let v1170 : Index := Scalar.indexCast v1169
  let c48_627 : Index := 48#32
  ![v1170.toNat, 48]
def k1_off978 (i : grid1.Coords) (v53 : BitVec 32) (v55 : BitVec 32) (k1_t1 : Fin k1_t1_loop.trips) (k1_t121 : Fin (k1_t121_loop i v53 v55 k1_t1).trips) (c0_i32_628 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1174 : BitVec 32 := Scalar.addi v1153 c0_i32_628
  let v1175 : Index := Scalar.indexCast v1174
  let c64_629 : Index := 64#32
  ![v1175.toNat, 64]
def k1_off979 (i : grid1.Coords) (v53 : BitVec 32) (v55 : BitVec 32) (k1_t1 : Fin k1_t1_loop.trips) (k1_t121 : Fin (k1_t121_loop i v53 v55 k1_t1).trips) (c0_i32_630 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1179 : BitVec 32 := Scalar.addi v1153 c0_i32_630
  let v1180 : Index := Scalar.indexCast v1179
  let c80_631 : Index := 80#32
  ![v1180.toNat, 80]
def k1_off980 (i : grid1.Coords) (v53 : BitVec 32) (v55 : BitVec 32) (k1_t1 : Fin k1_t1_loop.trips) (k1_t121 : Fin (k1_t121_loop i v53 v55 k1_t1).trips) (c0_i32_632 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1184 : BitVec 32 := Scalar.addi v1153 c0_i32_632
  let v1185 : Index := Scalar.indexCast v1184
  let c96_633 : Index := 96#32
  ![v1185.toNat, 96]
def k1_off981 (i : grid1.Coords) (v53 : BitVec 32) (v55 : BitVec 32) (k1_t1 : Fin k1_t1_loop.trips) (k1_t121 : Fin (k1_t121_loop i v53 v55 k1_t1).trips) (c0_i32_634 : BitVec 32) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c0_i32_580 : BitVec 32 := 0#32
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t121
  let c4_i32_619 : BitVec 32 := 4#32
  let v1152 : BitVec 32 := Scalar.muli arg11 c4_i32_619
  let v1153 : BitVec 32 := Scalar.addi v1010 v1152
  let v1189 : BitVec 32 := Scalar.addi v1153 c0_i32_634
  let v1190 : Index := Scalar.indexCast v1189
  let c112_635 : Index := 112#32
  ![v1190.toNat, 112]
@[reducible] def k1_t122_loop (i : grid1.Coords) (v53 : BitVec 32) (v55 : BitVec 32) (k1_t1 : Fin k1_t1_loop.trips) : Scf.Loop 32 :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off982 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1152 : Index := Scalar.indexCast arg11
  let c0_619 : Index := 0#32
  ![v1152.toNat, 0]
def k1_off983 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1156 : Index := Scalar.indexCast arg11
  let c16_620 : Index := 16#32
  ![v1156.toNat, 16]
def k1_off984 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1160 : Index := Scalar.indexCast arg11
  let c32_621 : Index := 32#32
  ![v1160.toNat, 32]
def k1_off985 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1164 : Index := Scalar.indexCast arg11
  let c48_622 : Index := 48#32
  ![v1164.toNat, 48]
def k1_off986 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1168 : Index := Scalar.indexCast arg11
  let c64_623 : Index := 64#32
  ![v1168.toNat, 64]
def k1_off987 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1172 : Index := Scalar.indexCast arg11
  let c80_624 : Index := 80#32
  ![v1172.toNat, 80]
def k1_off988 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1176 : Index := Scalar.indexCast arg11
  let c96_625 : Index := 96#32
  ![v1176.toNat, 96]
def k1_off989 (i : grid1.Coords) (v53 : BitVec 32) (v55 : BitVec 32) (k1_t1 : Fin k1_t1_loop.trips) (k1_t122 : Fin (k1_t122_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let c1_i32_585 : BitVec 32 := 1#32
  let arg11 : BitVec 32 := Scf.iv v1080 c1_i32_585 k1_t122
  let v1180 : Index := Scalar.indexCast arg11
  let c112_626 : Index := 112#32
  ![v1180.toNat, 112]
@[reducible] def k1_t123_loop (i : grid1.Coords) (v53 : BitVec 32) (v55 : BitVec 32) (k1_t1 : Fin k1_t1_loop.trips) : Scf.Loop 32 :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off990 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1152 : Index := Scalar.indexCast arg11
  let c0_619 : Index := 0#32
  ![v1152.toNat, 0]
def k1_off991 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1156 : Index := Scalar.indexCast arg11
  let c16_620 : Index := 16#32
  ![v1156.toNat, 16]
def k1_off992 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1160 : Index := Scalar.indexCast arg11
  let c32_621 : Index := 32#32
  ![v1160.toNat, 32]
def k1_off993 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1164 : Index := Scalar.indexCast arg11
  let c48_622 : Index := 48#32
  ![v1164.toNat, 48]
def k1_off994 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1168 : Index := Scalar.indexCast arg11
  let c64_623 : Index := 64#32
  ![v1168.toNat, 64]
def k1_off995 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1172 : Index := Scalar.indexCast arg11
  let c80_624 : Index := 80#32
  ![v1172.toNat, 80]
def k1_off996 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1176 : Index := Scalar.indexCast arg11
  let c96_625 : Index := 96#32
  ![v1176.toNat, 96]
def k1_off997 (i : grid1.Coords) (v53 : BitVec 32) (v55 : BitVec 32) (k1_t1 : Fin k1_t1_loop.trips) (k1_t123 : Fin (k1_t123_loop i v53 v55 k1_t1).trips) : Fin 2 → Nat :=
  let c256_i32_548 : BitVec 32 := 256#32
  let c0_i32_547 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1008 : BitVec 32 := Scalar.subi v53 v743
  let v1009 : BitVec 32 := Scalar.maxsi c0_i32_547 v1008
  let v1010 : BitVec 32 := Scalar.minsi c256_i32_548 v1009
  let c256_i32_550 : BitVec 32 := 256#32
  let c0_i32_549 : BitVec 32 := 0#32
  let v1011 : BitVec 32 := Scalar.subi v55 v743
  let v1012 : BitVec 32 := Scalar.maxsi c0_i32_549 v1011
  let v1013 : BitVec 32 := Scalar.minsi c256_i32_550 v1012
  let v1014 : BitVec 32 := Scalar.subi v1013 v1010
  let c0_i32_566 : BitVec 32 := 0#32
  let v1039 : BitVec 1 := Scalar.cmpi .sgt v1014 c0_i32_566
  let v1040 : BitVec 32 := Scalar.extui v1039
  let c0_i32_567 : BitVec 32 := 0#32
  let v1041 : BitVec 1 := Scalar.cmpi .slt v1014 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1014 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1014 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1010 v1055
  let v1081 : BitVec 32 := Scalar.subi v1013 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t123
  let v1180 : Index := Scalar.indexCast arg11
  let c112_626 : Index := 112#32
  ![v1180.toNat, 112]
@[reducible] def k1_t124_loop (i : grid1.Coords) (v55 : BitVec 32) (v57 : BitVec 32) (k1_t1 : Fin k1_t1_loop.trips) : Scf.Loop 32 :=
  let c0_i32_580 : BitVec 32 := 0#32
  let c256_i32_556 : BitVec 32 := 256#32
  let c0_i32_555 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1021 : BitVec 32 := Scalar.subi v57 v743
  let v1022 : BitVec 32 := Scalar.maxsi c0_i32_555 v1021
  let v1023 : BitVec 32 := Scalar.minsi c256_i32_556 v1022
  let c256_i32_554 : BitVec 32 := 256#32
  let c0_i32_553 : BitVec 32 := 0#32
  let v1018 : BitVec 32 := Scalar.subi v55 v743
  let v1019 : BitVec 32 := Scalar.maxsi c0_i32_553 v1018
  let v1020 : BitVec 32 := Scalar.minsi c256_i32_554 v1019
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond38 (i : grid1.Coords) (v55 : BitVec 32) (v57 : BitVec 32) (k1_t1 : Fin k1_t1_loop.trips) : BitVec 1 :=
  let c256_i32_556 : BitVec 32 := 256#32
  let c0_i32_555 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1021 : BitVec 32 := Scalar.subi v57 v743
  let v1022 : BitVec 32 := Scalar.maxsi c0_i32_555 v1021
  let v1023 : BitVec 32 := Scalar.minsi c256_i32_556 v1022
  let c256_i32_554 : BitVec 32 := 256#32
  let c0_i32_553 : BitVec 32 := 0#32
  let v1018 : BitVec 32 := Scalar.subi v55 v743
  let v1019 : BitVec 32 := Scalar.maxsi c0_i32_553 v1018
  let v1020 : BitVec 32 := Scalar.minsi c256_i32_554 v1019
  let v1024 : BitVec 32 := Scalar.subi v1023 v1020
  let c0_i32_557 : BitVec 32 := 0#32
  let v1025 : BitVec 1 := Scalar.cmpi .sgt v1024 c0_i32_557
  let v1026 : BitVec 32 := Scalar.extui v1025
  let c0_i32_558 : BitVec 32 := 0#32
  let v1027 : BitVec 1 := Scalar.cmpi .ne v1026 c0_i32_558
  v1027

def k1_off998 (i : grid1.Coords) (v55 : BitVec 32) (v57 : BitVec 32) (k1_t1 : Fin k1_t1_loop.trips) (k1_t124 : Fin (k1_t124_loop i v55 v57 k1_t1).trips) (c0_i32_620 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1154 : BitVec 32 := Scalar.addi v1153 c0_i32_620
  let v1155 : Index := Scalar.indexCast v1154
  let c0_621 : Index := 0#32
  ![v1155.toNat, 0]
def k1_off999 (i : grid1.Coords) (v55 : BitVec 32) (v57 : BitVec 32) (k1_t1 : Fin k1_t1_loop.trips) (k1_t124 : Fin (k1_t124_loop i v55 v57 k1_t1).trips) (c0_i32_622 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1159 : BitVec 32 := Scalar.addi v1153 c0_i32_622
  let v1160 : Index := Scalar.indexCast v1159
  let c16_623 : Index := 16#32
  ![v1160.toNat, 16]
def k1_off1000 (i : grid1.Coords) (v55 : BitVec 32) (v57 : BitVec 32) (k1_t1 : Fin k1_t1_loop.trips) (k1_t124 : Fin (k1_t124_loop i v55 v57 k1_t1).trips) (c0_i32_624 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1164 : BitVec 32 := Scalar.addi v1153 c0_i32_624
  let v1165 : Index := Scalar.indexCast v1164
  let c32_625 : Index := 32#32
  ![v1165.toNat, 32]
def k1_off1001 (i : grid1.Coords) (v55 : BitVec 32) (v57 : BitVec 32) (k1_t1 : Fin k1_t1_loop.trips) (k1_t124 : Fin (k1_t124_loop i v55 v57 k1_t1).trips) (c0_i32_626 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1169 : BitVec 32 := Scalar.addi v1153 c0_i32_626
  let v1170 : Index := Scalar.indexCast v1169
  let c48_627 : Index := 48#32
  ![v1170.toNat, 48]
def k1_off1002 (i : grid1.Coords) (v55 : BitVec 32) (v57 : BitVec 32) (k1_t1 : Fin k1_t1_loop.trips) (k1_t124 : Fin (k1_t124_loop i v55 v57 k1_t1).trips) (c0_i32_628 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1174 : BitVec 32 := Scalar.addi v1153 c0_i32_628
  let v1175 : Index := Scalar.indexCast v1174
  let c64_629 : Index := 64#32
  ![v1175.toNat, 64]
def k1_off1003 (i : grid1.Coords) (v55 : BitVec 32) (v57 : BitVec 32) (k1_t1 : Fin k1_t1_loop.trips) (k1_t124 : Fin (k1_t124_loop i v55 v57 k1_t1).trips) (c0_i32_630 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1179 : BitVec 32 := Scalar.addi v1153 c0_i32_630
  let v1180 : Index := Scalar.indexCast v1179
  let c80_631 : Index := 80#32
  ![v1180.toNat, 80]
def k1_off1004 (i : grid1.Coords) (v55 : BitVec 32) (v57 : BitVec 32) (k1_t1 : Fin k1_t1_loop.trips) (k1_t124 : Fin (k1_t124_loop i v55 v57 k1_t1).trips) (c0_i32_632 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1184 : BitVec 32 := Scalar.addi v1153 c0_i32_632
  let v1185 : Index := Scalar.indexCast v1184
  let c96_633 : Index := 96#32
  ![v1185.toNat, 96]
def k1_off1005 (i : grid1.Coords) (v55 : BitVec 32) (v57 : BitVec 32) (k1_t1 : Fin k1_t1_loop.trips) (k1_t124 : Fin (k1_t124_loop i v55 v57 k1_t1).trips) (c0_i32_634 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c1_i32_582 : BitVec 32 := 1#32
  let arg11 : BitVec 32 := Scf.iv c0_i32_580 c1_i32_582 k1_t124
  let c4_i32_619 : BitVec 32 := 4#32
  let v1152 : BitVec 32 := Scalar.muli arg11 c4_i32_619
  let v1153 : BitVec 32 := Scalar.addi v1020 v1152
  let v1189 : BitVec 32 := Scalar.addi v1153 c0_i32_634
  let v1190 : Index := Scalar.indexCast v1189
  let c112_635 : Index := 112#32
  ![v1190.toNat, 112]
@[reducible] def k1_t125_loop (i : grid1.Coords) (v55 : BitVec 32) (v57 : BitVec 32) (k1_t1 : Fin k1_t1_loop.trips) : Scf.Loop 32 :=
  let c0_i32_580 : BitVec 32 := 0#32
  let c256_i32_556 : BitVec 32 := 256#32
  let c0_i32_555 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1021 : BitVec 32 := Scalar.subi v57 v743
  let v1022 : BitVec 32 := Scalar.maxsi c0_i32_555 v1021
  let v1023 : BitVec 32 := Scalar.minsi c256_i32_556 v1022
  let c256_i32_554 : BitVec 32 := 256#32
  let c0_i32_553 : BitVec 32 := 0#32
  let v1018 : BitVec 32 := Scalar.subi v55 v743
  let v1019 : BitVec 32 := Scalar.maxsi c0_i32_553 v1018
  let v1020 : BitVec 32 := Scalar.minsi c256_i32_554 v1019
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off1006 (i : grid1.Coords) (v55 : BitVec 32) (v57 : BitVec 32) (k1_t1 : Fin k1_t1_loop.trips) (k1_t125 : Fin (k1_t125_loop i v55 v57 k1_t1).trips) (c0_i32_620 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1154 : BitVec 32 := Scalar.addi v1153 c0_i32_620
  let v1155 : Index := Scalar.indexCast v1154
  let c0_621 : Index := 0#32
  ![v1155.toNat, 0]
def k1_off1007 (i : grid1.Coords) (v55 : BitVec 32) (v57 : BitVec 32) (k1_t1 : Fin k1_t1_loop.trips) (k1_t125 : Fin (k1_t125_loop i v55 v57 k1_t1).trips) (c0_i32_622 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1159 : BitVec 32 := Scalar.addi v1153 c0_i32_622
  let v1160 : Index := Scalar.indexCast v1159
  let c16_623 : Index := 16#32
  ![v1160.toNat, 16]
def k1_off1008 (i : grid1.Coords) (v55 : BitVec 32) (v57 : BitVec 32) (k1_t1 : Fin k1_t1_loop.trips) (k1_t125 : Fin (k1_t125_loop i v55 v57 k1_t1).trips) (c0_i32_624 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1164 : BitVec 32 := Scalar.addi v1153 c0_i32_624
  let v1165 : Index := Scalar.indexCast v1164
  let c32_625 : Index := 32#32
  ![v1165.toNat, 32]
def k1_off1009 (i : grid1.Coords) (v55 : BitVec 32) (v57 : BitVec 32) (k1_t1 : Fin k1_t1_loop.trips) (k1_t125 : Fin (k1_t125_loop i v55 v57 k1_t1).trips) (c0_i32_626 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1169 : BitVec 32 := Scalar.addi v1153 c0_i32_626
  let v1170 : Index := Scalar.indexCast v1169
  let c48_627 : Index := 48#32
  ![v1170.toNat, 48]
def k1_off1010 (i : grid1.Coords) (v55 : BitVec 32) (v57 : BitVec 32) (k1_t1 : Fin k1_t1_loop.trips) (k1_t125 : Fin (k1_t125_loop i v55 v57 k1_t1).trips) (c0_i32_628 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1174 : BitVec 32 := Scalar.addi v1153 c0_i32_628
  let v1175 : Index := Scalar.indexCast v1174
  let c64_629 : Index := 64#32
  ![v1175.toNat, 64]
def k1_off1011 (i : grid1.Coords) (v55 : BitVec 32) (v57 : BitVec 32) (k1_t1 : Fin k1_t1_loop.trips) (k1_t125 : Fin (k1_t125_loop i v55 v57 k1_t1).trips) (c0_i32_630 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1179 : BitVec 32 := Scalar.addi v1153 c0_i32_630
  let v1180 : Index := Scalar.indexCast v1179
  let c80_631 : Index := 80#32
  ![v1180.toNat, 80]
def k1_off1012 (i : grid1.Coords) (v55 : BitVec 32) (v57 : BitVec 32) (k1_t1 : Fin k1_t1_loop.trips) (k1_t125 : Fin (k1_t125_loop i v55 v57 k1_t1).trips) (c0_i32_632 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1184 : BitVec 32 := Scalar.addi v1153 c0_i32_632
  let v1185 : Index := Scalar.indexCast v1184
  let c96_633 : Index := 96#32
  ![v1185.toNat, 96]
def k1_off1013 (i : grid1.Coords) (v55 : BitVec 32) (v57 : BitVec 32) (k1_t1 : Fin k1_t1_loop.trips) (k1_t125 : Fin (k1_t125_loop i v55 v57 k1_t1).trips) (c0_i32_634 : BitVec 32) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c0_i32_580 : BitVec 32 := 0#32
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t125
  let c4_i32_619 : BitVec 32 := 4#32
  let v1152 : BitVec 32 := Scalar.muli arg11 c4_i32_619
  let v1153 : BitVec 32 := Scalar.addi v1020 v1152
  let v1189 : BitVec 32 := Scalar.addi v1153 c0_i32_634
  let v1190 : Index := Scalar.indexCast v1189
  let c112_635 : Index := 112#32
  ![v1190.toNat, 112]
@[reducible] def k1_t126_loop (i : grid1.Coords) (v55 : BitVec 32) (v57 : BitVec 32) (k1_t1 : Fin k1_t1_loop.trips) : Scf.Loop 32 :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off1014 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1152 : Index := Scalar.indexCast arg11
  let c0_619 : Index := 0#32
  ![v1152.toNat, 0]
def k1_off1015 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1156 : Index := Scalar.indexCast arg11
  let c16_620 : Index := 16#32
  ![v1156.toNat, 16]
def k1_off1016 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1160 : Index := Scalar.indexCast arg11
  let c32_621 : Index := 32#32
  ![v1160.toNat, 32]
def k1_off1017 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1164 : Index := Scalar.indexCast arg11
  let c48_622 : Index := 48#32
  ![v1164.toNat, 48]
def k1_off1018 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1168 : Index := Scalar.indexCast arg11
  let c64_623 : Index := 64#32
  ![v1168.toNat, 64]
def k1_off1019 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1172 : Index := Scalar.indexCast arg11
  let c80_624 : Index := 80#32
  ![v1172.toNat, 80]
def k1_off1020 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1176 : Index := Scalar.indexCast arg11
  let c96_625 : Index := 96#32
  ![v1176.toNat, 96]
def k1_off1021 (i : grid1.Coords) (v55 : BitVec 32) (v57 : BitVec 32) (k1_t1 : Fin k1_t1_loop.trips) (k1_t126 : Fin (k1_t126_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let c1_i32_585 : BitVec 32 := 1#32
  let arg11 : BitVec 32 := Scf.iv v1080 c1_i32_585 k1_t126
  let v1180 : Index := Scalar.indexCast arg11
  let c112_626 : Index := 112#32
  ![v1180.toNat, 112]
@[reducible] def k1_t127_loop (i : grid1.Coords) (v55 : BitVec 32) (v57 : BitVec 32) (k1_t1 : Fin k1_t1_loop.trips) : Scf.Loop 32 :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off1022 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1152 : Index := Scalar.indexCast arg11
  let c0_619 : Index := 0#32
  ![v1152.toNat, 0]
def k1_off1023 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1156 : Index := Scalar.indexCast arg11
  let c16_620 : Index := 16#32
  ![v1156.toNat, 16]
def k1_off1024 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1160 : Index := Scalar.indexCast arg11
  let c32_621 : Index := 32#32
  ![v1160.toNat, 32]
def k1_off1025 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1164 : Index := Scalar.indexCast arg11
  let c48_622 : Index := 48#32
  ![v1164.toNat, 48]
def k1_off1026 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1168 : Index := Scalar.indexCast arg11
  let c64_623 : Index := 64#32
  ![v1168.toNat, 64]
def k1_off1027 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1172 : Index := Scalar.indexCast arg11
  let c80_624 : Index := 80#32
  ![v1172.toNat, 80]
def k1_off1028 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1176 : Index := Scalar.indexCast arg11
  let c96_625 : Index := 96#32
  ![v1176.toNat, 96]
def k1_off1029 (i : grid1.Coords) (v55 : BitVec 32) (v57 : BitVec 32) (k1_t1 : Fin k1_t1_loop.trips) (k1_t127 : Fin (k1_t127_loop i v55 v57 k1_t1).trips) : Fin 2 → Nat :=
  let c256_i32_554 : BitVec 32 := 256#32
  let c0_i32_553 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1018 : BitVec 32 := Scalar.subi v55 v743
  let v1019 : BitVec 32 := Scalar.maxsi c0_i32_553 v1018
  let v1020 : BitVec 32 := Scalar.minsi c256_i32_554 v1019
  let c256_i32_556 : BitVec 32 := 256#32
  let c0_i32_555 : BitVec 32 := 0#32
  let v1021 : BitVec 32 := Scalar.subi v57 v743
  let v1022 : BitVec 32 := Scalar.maxsi c0_i32_555 v1021
  let v1023 : BitVec 32 := Scalar.minsi c256_i32_556 v1022
  let v1024 : BitVec 32 := Scalar.subi v1023 v1020
  let c0_i32_566 : BitVec 32 := 0#32
  let v1039 : BitVec 1 := Scalar.cmpi .sgt v1024 c0_i32_566
  let v1040 : BitVec 32 := Scalar.extui v1039
  let c0_i32_567 : BitVec 32 := 0#32
  let v1041 : BitVec 1 := Scalar.cmpi .slt v1024 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1024 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1024 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1020 v1055
  let v1081 : BitVec 32 := Scalar.subi v1023 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t127
  let v1180 : Index := Scalar.indexCast arg11
  let c112_626 : Index := 112#32
  ![v1180.toNat, 112]

variable {F : FTy → Type} [FloatOps F]

def k1_chk1_0 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ k1_t1 : Fin k1_t1_loop.trips, ∀ (k1_h2 : k1_cond2 i v27 v29 v31 v33 v35 v37 v39 v41 v43 v45 v47 v49 v51 v53 v55 v57 k1_t1 = 1#1), ∀ a, (k1_off12 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off13 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off14 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off15 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off16 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off17 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off18 i v27 v29 v31 v33 v35 v37 v39 v41 v43 v45 v47 v49 v51 v53 v55 v57 k1_t1) a + S1x16.size a ≤ S16x128.size a) ∧
  (∀ k1_t1 : Fin k1_t1_loop.trips, ∀ (k1_h2 : k1_cond2 i v27 v29 v31 v33 v35 v37 v39 v41 v43 v45 v47 v49 v51 v53 v55 v57 k1_t1 = 1#1), ∀ a, (k1_off19 i v27 v29 v31 v33 v35 v37 v39 v41 v43 v45 v47 v49 v51 v53 v55 v57 k1_t1) a + S1x16.size a ≤ S16x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h4 : k1_cond4 i v27 v29 k1_t1 = 1#1), (k1_t3_loop i v27 v29 k1_t1).OK) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off20 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off21 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off22 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off23 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off24 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off25 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off26 i v27 v29 k1_t1 k1_t3 (BitVec.ofNat 32 r.val)) a + S1x16.size a ≤ S256x128.size a) ∧
  (∀ (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off27 i v27 v29 k1_t1 k1_t3 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h4 : k1_cond4 i v27 v29 k1_t1 = 1#1), (k1_t4_loop i v27 v29 k1_t1).OK) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off28 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off29 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off30 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off31 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off32 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off33 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off34 i v27 v29 k1_t1 k1_t4 (BitVec.ofNat 32 r.val)) a + S1x16.size a ≤ S256x128.size a) ∧
  (∀ (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off35 i v27 v29 k1_t1 k1_t4 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h4 : k1_cond4 i v27 v29 k1_t1 = 1#1), (k1_t5_loop i v27 v29 k1_t1).OK) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off36 i v27 v29 k1_t1 k1_t5) a + S1x16.size a ≤ S256x128.size a) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off37 i v27 v29 k1_t1 k1_t5) a + S1x16.size a ≤ S256x128.size a) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off38 i v27 v29 k1_t1 k1_t5) a + S1x16.size a ≤ S256x128.size a) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off39 i v27 v29 k1_t1 k1_t5) a + S1x16.size a ≤ S256x128.size a) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off40 i v27 v29 k1_t1 k1_t5) a + S1x16.size a ≤ S256x128.size a)
def k1_chk1_1 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off41 i v27 v29 k1_t1 k1_t5) a + S1x16.size a ≤ S256x128.size a) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off42 i v27 v29 k1_t1 k1_t5) a + S1x16.size a ≤ S256x128.size a) ∧
  (∀ (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off43 i v27 v29 k1_t1 k1_t5) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h4 : k1_cond4 i v27 v29 k1_t1 = 1#1), (k1_t6_loop i v27 v29 k1_t1).OK) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off44 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off45 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off46 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off47 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off48 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off49 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off50 i v27 v29 k1_t1 k1_t6) a + S1x16.size a ≤ S256x128.size a) ∧
  (∀ (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off51 i v27 v29 k1_t1 k1_t6) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h5 : k1_cond5 i v29 v31 k1_t1 = 1#1), (k1_t7_loop i v29 v31 k1_t1).OK) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off52 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off53 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off54 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off55 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off56 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off57 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off58 i v29 v31 k1_t1 k1_t7 (BitVec.ofNat 32 r.val)) a + S1x16.size a ≤ S256x128.size a) ∧
  (∀ (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off59 i v29 v31 k1_t1 k1_t7 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h5 : k1_cond5 i v29 v31 k1_t1 = 1#1), (k1_t8_loop i v29 v31 k1_t1).OK) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off60 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off61 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off62 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off63 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off64 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off65 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off66 i v29 v31 k1_t1 k1_t8 (BitVec.ofNat 32 r.val)) a + S1x16.size a ≤ S256x128.size a) ∧
  (∀ (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off67 i v29 v31 k1_t1 k1_t8 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h5 : k1_cond5 i v29 v31 k1_t1 = 1#1), (k1_t9_loop i v29 v31 k1_t1).OK) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off68 i v29 v31 k1_t1 k1_t9) a + S1x16.size a ≤ S256x128.size a)
def k1_chk1_2 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off69 i v29 v31 k1_t1 k1_t9) a + S1x16.size a ≤ S256x128.size a) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off70 i v29 v31 k1_t1 k1_t9) a + S1x16.size a ≤ S256x128.size a) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off71 i v29 v31 k1_t1 k1_t9) a + S1x16.size a ≤ S256x128.size a) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off72 i v29 v31 k1_t1 k1_t9) a + S1x16.size a ≤ S256x128.size a) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off73 i v29 v31 k1_t1 k1_t9) a + S1x16.size a ≤ S256x128.size a) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off74 i v29 v31 k1_t1 k1_t9) a + S1x16.size a ≤ S256x128.size a) ∧
  (∀ (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off75 i v29 v31 k1_t1 k1_t9) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h5 : k1_cond5 i v29 v31 k1_t1 = 1#1), (k1_t10_loop i v29 v31 k1_t1).OK) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off76 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off77 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off78 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off79 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off80 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off81 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off82 i v29 v31 k1_t1 k1_t10) a + S1x16.size a ≤ S256x128.size a) ∧
  (∀ (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off83 i v29 v31 k1_t1 k1_t10) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h6 : k1_cond6 i v31 v33 k1_t1 = 1#1), (k1_t11_loop i v31 v33 k1_t1).OK) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off84 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off85 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off86 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off87 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off88 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off89 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off90 i v31 v33 k1_t1 k1_t11 (BitVec.ofNat 32 r.val)) a + S1x16.size a ≤ S256x128.size a) ∧
  (∀ (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off91 i v31 v33 k1_t1 k1_t11 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h6 : k1_cond6 i v31 v33 k1_t1 = 1#1), (k1_t12_loop i v31 v33 k1_t1).OK) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off92 i v31 v33 k1_t1 k1_t12 (BitVec.ofNat 32 r.val)) a + S1x16.size a ≤ S256x128.size a) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off93 i v31 v33 k1_t1 k1_t12 (BitVec.ofNat 32 r.val)) a + S1x16.size a ≤ S256x128.size a) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off94 i v31 v33 k1_t1 k1_t12 (BitVec.ofNat 32 r.val)) a + S1x16.size a ≤ S256x128.size a) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off95 i v31 v33 k1_t1 k1_t12 (BitVec.ofNat 32 r.val)) a + S1x16.size a ≤ S256x128.size a) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off96 i v31 v33 k1_t1 k1_t12 (BitVec.ofNat 32 r.val)) a + S1x16.size a ≤ S256x128.size a) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off97 i v31 v33 k1_t1 k1_t12 (BitVec.ofNat 32 r.val)) a + S1x16.size a ≤ S256x128.size a)
def k1_chk1_3 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off98 i v31 v33 k1_t1 k1_t12 (BitVec.ofNat 32 r.val)) a + S1x16.size a ≤ S256x128.size a) ∧
  (∀ (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off99 i v31 v33 k1_t1 k1_t12 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h6 : k1_cond6 i v31 v33 k1_t1 = 1#1), (k1_t13_loop i v31 v33 k1_t1).OK) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off100 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off101 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off102 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off103 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off104 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off105 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off106 i v31 v33 k1_t1 k1_t13) a + S1x16.size a ≤ S256x128.size a) ∧
  (∀ (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off107 i v31 v33 k1_t1 k1_t13) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h6 : k1_cond6 i v31 v33 k1_t1 = 1#1), (k1_t14_loop i v31 v33 k1_t1).OK) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off108 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off109 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off110 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off111 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off112 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off113 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off114 i v31 v33 k1_t1 k1_t14) a + S1x16.size a ≤ S256x128.size a) ∧
  (∀ (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off115 i v31 v33 k1_t1 k1_t14) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h7 : k1_cond7 i v33 v35 k1_t1 = 1#1), (k1_t15_loop i v33 v35 k1_t1).OK) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off116 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off117 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off118 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off119 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off120 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off121 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off122 i v33 v35 k1_t1 k1_t15 (BitVec.ofNat 32 r.val)) a + S1x16.size a ≤ S256x128.size a) ∧
  (∀ (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off123 i v33 v35 k1_t1 k1_t15 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h7 : k1_cond7 i v33 v35 k1_t1 = 1#1), (k1_t16_loop i v33 v35 k1_t1).OK) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off124 i v33 v35 k1_t1 k1_t16 (BitVec.ofNat 32 r.val)) a + S1x16.size a ≤ S256x128.size a) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off125 i v33 v35 k1_t1 k1_t16 (BitVec.ofNat 32 r.val)) a + S1x16.size a ≤ S256x128.size a)
def k1_chk1_4 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off126 i v33 v35 k1_t1 k1_t16 (BitVec.ofNat 32 r.val)) a + S1x16.size a ≤ S256x128.size a) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off127 i v33 v35 k1_t1 k1_t16 (BitVec.ofNat 32 r.val)) a + S1x16.size a ≤ S256x128.size a) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off128 i v33 v35 k1_t1 k1_t16 (BitVec.ofNat 32 r.val)) a + S1x16.size a ≤ S256x128.size a) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off129 i v33 v35 k1_t1 k1_t16 (BitVec.ofNat 32 r.val)) a + S1x16.size a ≤ S256x128.size a) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off130 i v33 v35 k1_t1 k1_t16 (BitVec.ofNat 32 r.val)) a + S1x16.size a ≤ S256x128.size a) ∧
  (∀ (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off131 i v33 v35 k1_t1 k1_t16 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h7 : k1_cond7 i v33 v35 k1_t1 = 1#1), (k1_t17_loop i v33 v35 k1_t1).OK) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off132 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off133 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off134 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off135 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off136 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off137 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off138 i v33 v35 k1_t1 k1_t17) a + S1x16.size a ≤ S256x128.size a) ∧
  (∀ (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off139 i v33 v35 k1_t1 k1_t17) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h7 : k1_cond7 i v33 v35 k1_t1 = 1#1), (k1_t18_loop i v33 v35 k1_t1).OK) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off140 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off141 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off142 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off143 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off144 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off145 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off146 i v33 v35 k1_t1 k1_t18) a + S1x16.size a ≤ S256x128.size a) ∧
  (∀ (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off147 i v33 v35 k1_t1 k1_t18) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h8 : k1_cond8 i v35 v37 k1_t1 = 1#1), (k1_t19_loop i v35 v37 k1_t1).OK) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off148 i v35 v37 k1_t1 k1_t19 (BitVec.ofNat 32 r.val)) a + S1x16.size a ≤ S256x128.size a) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off149 i v35 v37 k1_t1 k1_t19 (BitVec.ofNat 32 r.val)) a + S1x16.size a ≤ S256x128.size a) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off150 i v35 v37 k1_t1 k1_t19 (BitVec.ofNat 32 r.val)) a + S1x16.size a ≤ S256x128.size a) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off151 i v35 v37 k1_t1 k1_t19 (BitVec.ofNat 32 r.val)) a + S1x16.size a ≤ S256x128.size a) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off152 i v35 v37 k1_t1 k1_t19 (BitVec.ofNat 32 r.val)) a + S1x16.size a ≤ S256x128.size a) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off153 i v35 v37 k1_t1 k1_t19 (BitVec.ofNat 32 r.val)) a + S1x16.size a ≤ S256x128.size a) ∧
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off154 i v35 v37 k1_t1 k1_t19 (BitVec.ofNat 32 r.val)) a + S1x16.size a ≤ S256x128.size a)
def k1_chk1_5 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off155 i v35 v37 k1_t1 k1_t19 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h8 : k1_cond8 i v35 v37 k1_t1 = 1#1), (k1_t20_loop i v35 v37 k1_t1).OK) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off156 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off157 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off158 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off159 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off160 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off161 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off162 i v35 v37 k1_t1 k1_t20 (BitVec.ofNat 32 r.val)) a + S1x16.size a ≤ S256x128.size a) ∧
  (∀ (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off163 i v35 v37 k1_t1 k1_t20 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h8 : k1_cond8 i v35 v37 k1_t1 = 1#1), (k1_t21_loop i v35 v37 k1_t1).OK) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off164 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off165 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off166 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off167 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off168 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off169 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off170 i v35 v37 k1_t1 k1_t21) a + S1x16.size a ≤ S256x128.size a) ∧
  (∀ (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off171 i v35 v37 k1_t1 k1_t21) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h8 : k1_cond8 i v35 v37 k1_t1 = 1#1), (k1_t22_loop i v35 v37 k1_t1).OK) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off172 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off173 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off174 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off175 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off176 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off177 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off178 i v35 v37 k1_t1 k1_t22) a + S1x16.size a ≤ S256x128.size a) ∧
  (∀ (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off179 i v35 v37 k1_t1 k1_t22) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h9 : k1_cond9 i v37 v39 k1_t1 = 1#1), (k1_t23_loop i v37 v39 k1_t1).OK) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off180 i v37 v39 k1_t1 k1_t23 (BitVec.ofNat 32 r.val)) a + S1x16.size a ≤ S256x128.size a) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off181 i v37 v39 k1_t1 k1_t23 (BitVec.ofNat 32 r.val)) a + S1x16.size a ≤ S256x128.size a) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off182 i v37 v39 k1_t1 k1_t23 (BitVec.ofNat 32 r.val)) a + S1x16.size a ≤ S256x128.size a)
def k1_chk1_6 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off183 i v37 v39 k1_t1 k1_t23 (BitVec.ofNat 32 r.val)) a + S1x16.size a ≤ S256x128.size a) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off184 i v37 v39 k1_t1 k1_t23 (BitVec.ofNat 32 r.val)) a + S1x16.size a ≤ S256x128.size a) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off185 i v37 v39 k1_t1 k1_t23 (BitVec.ofNat 32 r.val)) a + S1x16.size a ≤ S256x128.size a) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off186 i v37 v39 k1_t1 k1_t23 (BitVec.ofNat 32 r.val)) a + S1x16.size a ≤ S256x128.size a) ∧
  (∀ (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off187 i v37 v39 k1_t1 k1_t23 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h9 : k1_cond9 i v37 v39 k1_t1 = 1#1), (k1_t24_loop i v37 v39 k1_t1).OK) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off188 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off189 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off190 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off191 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off192 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off193 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off194 i v37 v39 k1_t1 k1_t24 (BitVec.ofNat 32 r.val)) a + S1x16.size a ≤ S256x128.size a) ∧
  (∀ (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off195 i v37 v39 k1_t1 k1_t24 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h9 : k1_cond9 i v37 v39 k1_t1 = 1#1), (k1_t25_loop i v37 v39 k1_t1).OK) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off196 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off197 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off198 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off199 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off200 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off201 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off202 i v37 v39 k1_t1 k1_t25) a + S1x16.size a ≤ S256x128.size a) ∧
  (∀ (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off203 i v37 v39 k1_t1 k1_t25) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h9 : k1_cond9 i v37 v39 k1_t1 = 1#1), (k1_t26_loop i v37 v39 k1_t1).OK) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off204 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off205 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off206 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off207 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off208 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off209 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off210 i v37 v39 k1_t1 k1_t26) a + S1x16.size a ≤ S256x128.size a) ∧
  (∀ (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off211 i v37 v39 k1_t1 k1_t26) a + S1x16.size a ≤ S256x128.size a)
def k1_chk1_7 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ k1_t1 : Fin k1_t1_loop.trips, ∀ (k1_h3 : k1_cond3 i v27 v29 v31 v33 v35 v37 v39 v41 v43 v45 v47 v49 v51 v53 v55 v57 k1_t1 = 1#1), ∀ (k1_h10 : k1_cond10 i v39 v41 k1_t1 = 1#1), (k1_t27_loop i v39 v41 k1_t1).OK) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off212 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off213 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off214 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off215 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off216 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off217 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off218 i v39 v41 k1_t1 k1_t27 (BitVec.ofNat 32 r.val)) a + S1x16.size a ≤ S256x128.size a) ∧
  (∀ (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off219 i v39 v41 k1_t1 k1_t27 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h10 : k1_cond10 i v39 v41 k1_t1 = 1#1), (k1_t28_loop i v39 v41 k1_t1).OK) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off220 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off221 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off222 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off223 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off224 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off225 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off226 i v39 v41 k1_t1 k1_t28 (BitVec.ofNat 32 r.val)) a + S1x16.size a ≤ S256x128.size a) ∧
  (∀ (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off227 i v39 v41 k1_t1 k1_t28 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h10 : k1_cond10 i v39 v41 k1_t1 = 1#1), (k1_t29_loop i v39 v41 k1_t1).OK) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off228 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off229 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off230 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off231 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off232 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off233 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off234 i v39 v41 k1_t1 k1_t29) a + S1x16.size a ≤ S256x128.size a) ∧
  (∀ (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off235 i v39 v41 k1_t1 k1_t29) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h10 : k1_cond10 i v39 v41 k1_t1 = 1#1), (k1_t30_loop i v39 v41 k1_t1).OK) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off236 i v39 v41 k1_t1 k1_t30) a + S1x16.size a ≤ S256x128.size a) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off237 i v39 v41 k1_t1 k1_t30) a + S1x16.size a ≤ S256x128.size a) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off238 i v39 v41 k1_t1 k1_t30) a + S1x16.size a ≤ S256x128.size a) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off239 i v39 v41 k1_t1 k1_t30) a + S1x16.size a ≤ S256x128.size a)
def k1_chk1_8 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off240 i v39 v41 k1_t1 k1_t30) a + S1x16.size a ≤ S256x128.size a) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off241 i v39 v41 k1_t1 k1_t30) a + S1x16.size a ≤ S256x128.size a) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off242 i v39 v41 k1_t1 k1_t30) a + S1x16.size a ≤ S256x128.size a) ∧
  (∀ (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off243 i v39 v41 k1_t1 k1_t30) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h11 : k1_cond11 i v41 v43 k1_t1 = 1#1), (k1_t31_loop i v41 v43 k1_t1).OK) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off244 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off245 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off246 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off247 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off248 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off249 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off250 i v41 v43 k1_t1 k1_t31 (BitVec.ofNat 32 r.val)) a + S1x16.size a ≤ S256x128.size a) ∧
  (∀ (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off251 i v41 v43 k1_t1 k1_t31 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h11 : k1_cond11 i v41 v43 k1_t1 = 1#1), (k1_t32_loop i v41 v43 k1_t1).OK) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off252 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off253 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off254 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off255 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off256 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off257 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off258 i v41 v43 k1_t1 k1_t32 (BitVec.ofNat 32 r.val)) a + S1x16.size a ≤ S256x128.size a) ∧
  (∀ (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off259 i v41 v43 k1_t1 k1_t32 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h11 : k1_cond11 i v41 v43 k1_t1 = 1#1), (k1_t33_loop i v41 v43 k1_t1).OK) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off260 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off261 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off262 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off263 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off264 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off265 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off266 i v41 v43 k1_t1 k1_t33) a + S1x16.size a ≤ S256x128.size a) ∧
  (∀ (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off267 i v41 v43 k1_t1 k1_t33) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h11 : k1_cond11 i v41 v43 k1_t1 = 1#1), (k1_t34_loop i v41 v43 k1_t1).OK)
def k1_chk1_9 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off268 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off269 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off270 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off271 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off272 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off273 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off274 i v41 v43 k1_t1 k1_t34) a + S1x16.size a ≤ S256x128.size a) ∧
  (∀ (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off275 i v41 v43 k1_t1 k1_t34) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h12 : k1_cond12 i v43 v45 k1_t1 = 1#1), (k1_t35_loop i v43 v45 k1_t1).OK) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off276 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off277 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off278 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off279 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off280 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off281 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off282 i v43 v45 k1_t1 k1_t35 (BitVec.ofNat 32 r.val)) a + S1x16.size a ≤ S256x128.size a) ∧
  (∀ (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off283 i v43 v45 k1_t1 k1_t35 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h12 : k1_cond12 i v43 v45 k1_t1 = 1#1), (k1_t36_loop i v43 v45 k1_t1).OK) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off284 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off285 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off286 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off287 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off288 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off289 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off290 i v43 v45 k1_t1 k1_t36 (BitVec.ofNat 32 r.val)) a + S1x16.size a ≤ S256x128.size a) ∧
  (∀ (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off291 i v43 v45 k1_t1 k1_t36 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h12 : k1_cond12 i v43 v45 k1_t1 = 1#1), (k1_t37_loop i v43 v45 k1_t1).OK) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off292 i v43 v45 k1_t1 k1_t37) a + S1x16.size a ≤ S256x128.size a) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off293 i v43 v45 k1_t1 k1_t37) a + S1x16.size a ≤ S256x128.size a) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off294 i v43 v45 k1_t1 k1_t37) a + S1x16.size a ≤ S256x128.size a) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off295 i v43 v45 k1_t1 k1_t37) a + S1x16.size a ≤ S256x128.size a) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off296 i v43 v45 k1_t1 k1_t37) a + S1x16.size a ≤ S256x128.size a)
def k1_chk1_10 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off297 i v43 v45 k1_t1 k1_t37) a + S1x16.size a ≤ S256x128.size a) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off298 i v43 v45 k1_t1 k1_t37) a + S1x16.size a ≤ S256x128.size a) ∧
  (∀ (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off299 i v43 v45 k1_t1 k1_t37) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h12 : k1_cond12 i v43 v45 k1_t1 = 1#1), (k1_t38_loop i v43 v45 k1_t1).OK) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off300 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off301 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off302 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off303 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off304 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off305 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off306 i v43 v45 k1_t1 k1_t38) a + S1x16.size a ≤ S256x128.size a) ∧
  (∀ (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off307 i v43 v45 k1_t1 k1_t38) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h13 : k1_cond13 i v45 v47 k1_t1 = 1#1), (k1_t39_loop i v45 v47 k1_t1).OK) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off308 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off309 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off310 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off311 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off312 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off313 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off314 i v45 v47 k1_t1 k1_t39 (BitVec.ofNat 32 r.val)) a + S1x16.size a ≤ S256x128.size a) ∧
  (∀ (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off315 i v45 v47 k1_t1 k1_t39 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h13 : k1_cond13 i v45 v47 k1_t1 = 1#1), (k1_t40_loop i v45 v47 k1_t1).OK) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off316 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off317 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off318 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off319 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off320 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off321 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off322 i v45 v47 k1_t1 k1_t40 (BitVec.ofNat 32 r.val)) a + S1x16.size a ≤ S256x128.size a) ∧
  (∀ (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off323 i v45 v47 k1_t1 k1_t40 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h13 : k1_cond13 i v45 v47 k1_t1 = 1#1), (k1_t41_loop i v45 v47 k1_t1).OK) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off324 i v45 v47 k1_t1 k1_t41) a + S1x16.size a ≤ S256x128.size a)
def k1_chk1_11 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off325 i v45 v47 k1_t1 k1_t41) a + S1x16.size a ≤ S256x128.size a) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off326 i v45 v47 k1_t1 k1_t41) a + S1x16.size a ≤ S256x128.size a) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off327 i v45 v47 k1_t1 k1_t41) a + S1x16.size a ≤ S256x128.size a) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off328 i v45 v47 k1_t1 k1_t41) a + S1x16.size a ≤ S256x128.size a) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off329 i v45 v47 k1_t1 k1_t41) a + S1x16.size a ≤ S256x128.size a) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off330 i v45 v47 k1_t1 k1_t41) a + S1x16.size a ≤ S256x128.size a) ∧
  (∀ (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off331 i v45 v47 k1_t1 k1_t41) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h13 : k1_cond13 i v45 v47 k1_t1 = 1#1), (k1_t42_loop i v45 v47 k1_t1).OK) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off332 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off333 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off334 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off335 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off336 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off337 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off338 i v45 v47 k1_t1 k1_t42) a + S1x16.size a ≤ S256x128.size a) ∧
  (∀ (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off339 i v45 v47 k1_t1 k1_t42) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h14 : k1_cond14 i v47 v49 k1_t1 = 1#1), (k1_t43_loop i v47 v49 k1_t1).OK) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off340 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off341 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off342 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off343 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off344 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off345 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off346 i v47 v49 k1_t1 k1_t43 (BitVec.ofNat 32 r.val)) a + S1x16.size a ≤ S256x128.size a) ∧
  (∀ (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off347 i v47 v49 k1_t1 k1_t43 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h14 : k1_cond14 i v47 v49 k1_t1 = 1#1), (k1_t44_loop i v47 v49 k1_t1).OK) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off348 i v47 v49 k1_t1 k1_t44 (BitVec.ofNat 32 r.val)) a + S1x16.size a ≤ S256x128.size a) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off349 i v47 v49 k1_t1 k1_t44 (BitVec.ofNat 32 r.val)) a + S1x16.size a ≤ S256x128.size a) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off350 i v47 v49 k1_t1 k1_t44 (BitVec.ofNat 32 r.val)) a + S1x16.size a ≤ S256x128.size a) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off351 i v47 v49 k1_t1 k1_t44 (BitVec.ofNat 32 r.val)) a + S1x16.size a ≤ S256x128.size a) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off352 i v47 v49 k1_t1 k1_t44 (BitVec.ofNat 32 r.val)) a + S1x16.size a ≤ S256x128.size a) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off353 i v47 v49 k1_t1 k1_t44 (BitVec.ofNat 32 r.val)) a + S1x16.size a ≤ S256x128.size a)
def k1_chk1_12 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off354 i v47 v49 k1_t1 k1_t44 (BitVec.ofNat 32 r.val)) a + S1x16.size a ≤ S256x128.size a) ∧
  (∀ (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off355 i v47 v49 k1_t1 k1_t44 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h14 : k1_cond14 i v47 v49 k1_t1 = 1#1), (k1_t45_loop i v47 v49 k1_t1).OK) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off356 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off357 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off358 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off359 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off360 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off361 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off362 i v47 v49 k1_t1 k1_t45) a + S1x16.size a ≤ S256x128.size a) ∧
  (∀ (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off363 i v47 v49 k1_t1 k1_t45) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h14 : k1_cond14 i v47 v49 k1_t1 = 1#1), (k1_t46_loop i v47 v49 k1_t1).OK) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off364 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off365 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off366 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off367 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off368 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off369 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off370 i v47 v49 k1_t1 k1_t46) a + S1x16.size a ≤ S256x128.size a) ∧
  (∀ (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off371 i v47 v49 k1_t1 k1_t46) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h15 : k1_cond15 i v49 v51 k1_t1 = 1#1), (k1_t47_loop i v49 v51 k1_t1).OK) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off372 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off373 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off374 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off375 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off376 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off377 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off378 i v49 v51 k1_t1 k1_t47 (BitVec.ofNat 32 r.val)) a + S1x16.size a ≤ S256x128.size a) ∧
  (∀ (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off379 i v49 v51 k1_t1 k1_t47 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h15 : k1_cond15 i v49 v51 k1_t1 = 1#1), (k1_t48_loop i v49 v51 k1_t1).OK) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off380 i v49 v51 k1_t1 k1_t48 (BitVec.ofNat 32 r.val)) a + S1x16.size a ≤ S256x128.size a) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off381 i v49 v51 k1_t1 k1_t48 (BitVec.ofNat 32 r.val)) a + S1x16.size a ≤ S256x128.size a)
def k1_chk1_13 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off382 i v49 v51 k1_t1 k1_t48 (BitVec.ofNat 32 r.val)) a + S1x16.size a ≤ S256x128.size a) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off383 i v49 v51 k1_t1 k1_t48 (BitVec.ofNat 32 r.val)) a + S1x16.size a ≤ S256x128.size a) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off384 i v49 v51 k1_t1 k1_t48 (BitVec.ofNat 32 r.val)) a + S1x16.size a ≤ S256x128.size a) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off385 i v49 v51 k1_t1 k1_t48 (BitVec.ofNat 32 r.val)) a + S1x16.size a ≤ S256x128.size a) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off386 i v49 v51 k1_t1 k1_t48 (BitVec.ofNat 32 r.val)) a + S1x16.size a ≤ S256x128.size a) ∧
  (∀ (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off387 i v49 v51 k1_t1 k1_t48 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h15 : k1_cond15 i v49 v51 k1_t1 = 1#1), (k1_t49_loop i v49 v51 k1_t1).OK) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off388 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off389 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off390 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off391 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off392 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off393 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off394 i v49 v51 k1_t1 k1_t49) a + S1x16.size a ≤ S256x128.size a) ∧
  (∀ (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off395 i v49 v51 k1_t1 k1_t49) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h15 : k1_cond15 i v49 v51 k1_t1 = 1#1), (k1_t50_loop i v49 v51 k1_t1).OK) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off396 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off397 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off398 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off399 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off400 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off401 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off402 i v49 v51 k1_t1 k1_t50) a + S1x16.size a ≤ S256x128.size a) ∧
  (∀ (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off403 i v49 v51 k1_t1 k1_t50) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h16 : k1_cond16 i v51 v53 k1_t1 = 1#1), (k1_t51_loop i v51 v53 k1_t1).OK) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off404 i v51 v53 k1_t1 k1_t51 (BitVec.ofNat 32 r.val)) a + S1x16.size a ≤ S256x128.size a) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off405 i v51 v53 k1_t1 k1_t51 (BitVec.ofNat 32 r.val)) a + S1x16.size a ≤ S256x128.size a) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off406 i v51 v53 k1_t1 k1_t51 (BitVec.ofNat 32 r.val)) a + S1x16.size a ≤ S256x128.size a) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off407 i v51 v53 k1_t1 k1_t51 (BitVec.ofNat 32 r.val)) a + S1x16.size a ≤ S256x128.size a) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off408 i v51 v53 k1_t1 k1_t51 (BitVec.ofNat 32 r.val)) a + S1x16.size a ≤ S256x128.size a) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off409 i v51 v53 k1_t1 k1_t51 (BitVec.ofNat 32 r.val)) a + S1x16.size a ≤ S256x128.size a) ∧
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off410 i v51 v53 k1_t1 k1_t51 (BitVec.ofNat 32 r.val)) a + S1x16.size a ≤ S256x128.size a)
def k1_chk1_14 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off411 i v51 v53 k1_t1 k1_t51 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h16 : k1_cond16 i v51 v53 k1_t1 = 1#1), (k1_t52_loop i v51 v53 k1_t1).OK) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off412 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off413 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off414 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off415 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off416 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off417 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off418 i v51 v53 k1_t1 k1_t52 (BitVec.ofNat 32 r.val)) a + S1x16.size a ≤ S256x128.size a) ∧
  (∀ (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off419 i v51 v53 k1_t1 k1_t52 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h16 : k1_cond16 i v51 v53 k1_t1 = 1#1), (k1_t53_loop i v51 v53 k1_t1).OK) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off420 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off421 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off422 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off423 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off424 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off425 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off426 i v51 v53 k1_t1 k1_t53) a + S1x16.size a ≤ S256x128.size a) ∧
  (∀ (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off427 i v51 v53 k1_t1 k1_t53) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h16 : k1_cond16 i v51 v53 k1_t1 = 1#1), (k1_t54_loop i v51 v53 k1_t1).OK) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off428 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off429 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off430 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off431 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off432 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off433 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off434 i v51 v53 k1_t1 k1_t54) a + S1x16.size a ≤ S256x128.size a) ∧
  (∀ (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off435 i v51 v53 k1_t1 k1_t54) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h17 : k1_cond17 i v53 v55 k1_t1 = 1#1), (k1_t55_loop i v53 v55 k1_t1).OK) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off436 i v53 v55 k1_t1 k1_t55 (BitVec.ofNat 32 r.val)) a + S1x16.size a ≤ S256x128.size a) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off437 i v53 v55 k1_t1 k1_t55 (BitVec.ofNat 32 r.val)) a + S1x16.size a ≤ S256x128.size a) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off438 i v53 v55 k1_t1 k1_t55 (BitVec.ofNat 32 r.val)) a + S1x16.size a ≤ S256x128.size a)
def k1_chk1_15 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off439 i v53 v55 k1_t1 k1_t55 (BitVec.ofNat 32 r.val)) a + S1x16.size a ≤ S256x128.size a) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off440 i v53 v55 k1_t1 k1_t55 (BitVec.ofNat 32 r.val)) a + S1x16.size a ≤ S256x128.size a) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off441 i v53 v55 k1_t1 k1_t55 (BitVec.ofNat 32 r.val)) a + S1x16.size a ≤ S256x128.size a) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off442 i v53 v55 k1_t1 k1_t55 (BitVec.ofNat 32 r.val)) a + S1x16.size a ≤ S256x128.size a) ∧
  (∀ (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off443 i v53 v55 k1_t1 k1_t55 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h17 : k1_cond17 i v53 v55 k1_t1 = 1#1), (k1_t56_loop i v53 v55 k1_t1).OK) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off444 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off445 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off446 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off447 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off448 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off449 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off450 i v53 v55 k1_t1 k1_t56 (BitVec.ofNat 32 r.val)) a + S1x16.size a ≤ S256x128.size a) ∧
  (∀ (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off451 i v53 v55 k1_t1 k1_t56 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h17 : k1_cond17 i v53 v55 k1_t1 = 1#1), (k1_t57_loop i v53 v55 k1_t1).OK) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off452 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off453 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off454 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off455 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off456 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off457 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off458 i v53 v55 k1_t1 k1_t57) a + S1x16.size a ≤ S256x128.size a) ∧
  (∀ (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off459 i v53 v55 k1_t1 k1_t57) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h17 : k1_cond17 i v53 v55 k1_t1 = 1#1), (k1_t58_loop i v53 v55 k1_t1).OK) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off460 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off461 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off462 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off463 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off464 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off465 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off466 i v53 v55 k1_t1 k1_t58) a + S1x16.size a ≤ S256x128.size a) ∧
  (∀ (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off467 i v53 v55 k1_t1 k1_t58) a + S1x16.size a ≤ S256x128.size a)
def k1_chk1_16 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ k1_t1 : Fin k1_t1_loop.trips, ∀ (k1_h3 : k1_cond3 i v27 v29 v31 v33 v35 v37 v39 v41 v43 v45 v47 v49 v51 v53 v55 v57 k1_t1 = 1#1), ∀ (k1_h18 : k1_cond18 i v55 v57 k1_t1 = 1#1), (k1_t59_loop i v55 v57 k1_t1).OK) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off468 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off469 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off470 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off471 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off472 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off473 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off474 i v55 v57 k1_t1 k1_t59 (BitVec.ofNat 32 r.val)) a + S1x16.size a ≤ S256x128.size a) ∧
  (∀ (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off475 i v55 v57 k1_t1 k1_t59 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h18 : k1_cond18 i v55 v57 k1_t1 = 1#1), (k1_t60_loop i v55 v57 k1_t1).OK) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off476 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off477 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off478 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off479 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off480 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off481 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off482 i v55 v57 k1_t1 k1_t60 (BitVec.ofNat 32 r.val)) a + S1x16.size a ≤ S256x128.size a) ∧
  (∀ (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off483 i v55 v57 k1_t1 k1_t60 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h18 : k1_cond18 i v55 v57 k1_t1 = 1#1), (k1_t61_loop i v55 v57 k1_t1).OK) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off484 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off485 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off486 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off487 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off488 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off489 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off490 i v55 v57 k1_t1 k1_t61) a + S1x16.size a ≤ S256x128.size a) ∧
  (∀ (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off491 i v55 v57 k1_t1 k1_t61) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h18 : k1_cond18 i v55 v57 k1_t1 = 1#1), (k1_t62_loop i v55 v57 k1_t1).OK) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off492 i v55 v57 k1_t1 k1_t62) a + S1x16.size a ≤ S256x128.size a) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off493 i v55 v57 k1_t1 k1_t62) a + S1x16.size a ≤ S256x128.size a) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off494 i v55 v57 k1_t1 k1_t62) a + S1x16.size a ≤ S256x128.size a) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off495 i v55 v57 k1_t1 k1_t62) a + S1x16.size a ≤ S256x128.size a)
def k1_chk1_17 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off496 i v55 v57 k1_t1 k1_t62) a + S1x16.size a ≤ S256x128.size a) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off497 i v55 v57 k1_t1 k1_t62) a + S1x16.size a ≤ S256x128.size a) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off498 i v55 v57 k1_t1 k1_t62) a + S1x16.size a ≤ S256x128.size a) ∧
  (∀ (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off499 i v55 v57 k1_t1 k1_t62) a + S1x16.size a ≤ S256x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off542 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off543 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off544 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off545 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off546 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off547 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off548 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h22 : k1_cond22 i v27 v29 v31 v33 v35 v37 v39 v41 v43 v45 v47 v49 v51 v53 v55 v57 k1_t1 = 1#1), ∀ a, (k1_off549 i v27 v29 v31 v33 v35 v37 v39 v41 v43 v45 v47 v49 v51 v53 v55 v57 k1_t1) a + S1x16.size a ≤ S16x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t68_loop i v27 v29 k1_t1).OK) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off550 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off551 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off552 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off553 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off554 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off555 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off556 i v27 v29 k1_t1 k1_t68 (BitVec.ofNat 32 r.val)) a + S1x16.size a ≤ S256x128.size a) ∧
  (∀ (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off557 i v27 v29 k1_t1 k1_t68 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t69_loop i v27 v29 k1_t1).OK) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off558 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off559 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off560 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off561 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off562 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off563 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off564 i v27 v29 k1_t1 k1_t69 (BitVec.ofNat 32 r.val)) a + S1x16.size a ≤ S256x128.size a) ∧
  (∀ (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off565 i v27 v29 k1_t1 k1_t69 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t70_loop i v27 v29 k1_t1).OK) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off566 i v27 v29 k1_t1 k1_t70) a + S1x16.size a ≤ S256x128.size a)
def k1_chk1_18 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off567 i v27 v29 k1_t1 k1_t70) a + S1x16.size a ≤ S256x128.size a) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off568 i v27 v29 k1_t1 k1_t70) a + S1x16.size a ≤ S256x128.size a) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off569 i v27 v29 k1_t1 k1_t70) a + S1x16.size a ≤ S256x128.size a) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off570 i v27 v29 k1_t1 k1_t70) a + S1x16.size a ≤ S256x128.size a) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off571 i v27 v29 k1_t1 k1_t70) a + S1x16.size a ≤ S256x128.size a) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off572 i v27 v29 k1_t1 k1_t70) a + S1x16.size a ≤ S256x128.size a) ∧
  (∀ (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off573 i v27 v29 k1_t1 k1_t70) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t71_loop i v27 v29 k1_t1).OK) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off574 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off575 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off576 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off577 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off578 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off579 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off580 i v27 v29 k1_t1 k1_t71) a + S1x16.size a ≤ S256x128.size a) ∧
  (∀ (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off581 i v27 v29 k1_t1 k1_t71) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t72_loop i v29 v31 k1_t1).OK) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off582 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off583 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off584 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off585 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off586 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off587 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off588 i v29 v31 k1_t1 k1_t72 (BitVec.ofNat 32 r.val)) a + S1x16.size a ≤ S256x128.size a) ∧
  (∀ (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off589 i v29 v31 k1_t1 k1_t72 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t73_loop i v29 v31 k1_t1).OK) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off590 i v29 v31 k1_t1 k1_t73 (BitVec.ofNat 32 r.val)) a + S1x16.size a ≤ S256x128.size a) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off591 i v29 v31 k1_t1 k1_t73 (BitVec.ofNat 32 r.val)) a + S1x16.size a ≤ S256x128.size a) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off592 i v29 v31 k1_t1 k1_t73 (BitVec.ofNat 32 r.val)) a + S1x16.size a ≤ S256x128.size a) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off593 i v29 v31 k1_t1 k1_t73 (BitVec.ofNat 32 r.val)) a + S1x16.size a ≤ S256x128.size a) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off594 i v29 v31 k1_t1 k1_t73 (BitVec.ofNat 32 r.val)) a + S1x16.size a ≤ S256x128.size a) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off595 i v29 v31 k1_t1 k1_t73 (BitVec.ofNat 32 r.val)) a + S1x16.size a ≤ S256x128.size a)
def k1_chk1_19 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off596 i v29 v31 k1_t1 k1_t73 (BitVec.ofNat 32 r.val)) a + S1x16.size a ≤ S256x128.size a) ∧
  (∀ (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off597 i v29 v31 k1_t1 k1_t73 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t74_loop i v29 v31 k1_t1).OK) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off598 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off599 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off600 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off601 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off602 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off603 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off604 i v29 v31 k1_t1 k1_t74) a + S1x16.size a ≤ S256x128.size a) ∧
  (∀ (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off605 i v29 v31 k1_t1 k1_t74) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t75_loop i v29 v31 k1_t1).OK) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off606 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off607 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off608 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off609 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off610 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off611 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off612 i v29 v31 k1_t1 k1_t75) a + S1x16.size a ≤ S256x128.size a) ∧
  (∀ (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off613 i v29 v31 k1_t1 k1_t75) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t76_loop i v31 v33 k1_t1).OK) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off614 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off615 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off616 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off617 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off618 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off619 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off620 i v31 v33 k1_t1 k1_t76 (BitVec.ofNat 32 r.val)) a + S1x16.size a ≤ S256x128.size a) ∧
  (∀ (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off621 i v31 v33 k1_t1 k1_t76 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t77_loop i v31 v33 k1_t1).OK) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off622 i v31 v33 k1_t1 k1_t77 (BitVec.ofNat 32 r.val)) a + S1x16.size a ≤ S256x128.size a) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off623 i v31 v33 k1_t1 k1_t77 (BitVec.ofNat 32 r.val)) a + S1x16.size a ≤ S256x128.size a)
def k1_chk1_20 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off624 i v31 v33 k1_t1 k1_t77 (BitVec.ofNat 32 r.val)) a + S1x16.size a ≤ S256x128.size a) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off625 i v31 v33 k1_t1 k1_t77 (BitVec.ofNat 32 r.val)) a + S1x16.size a ≤ S256x128.size a) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off626 i v31 v33 k1_t1 k1_t77 (BitVec.ofNat 32 r.val)) a + S1x16.size a ≤ S256x128.size a) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off627 i v31 v33 k1_t1 k1_t77 (BitVec.ofNat 32 r.val)) a + S1x16.size a ≤ S256x128.size a) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off628 i v31 v33 k1_t1 k1_t77 (BitVec.ofNat 32 r.val)) a + S1x16.size a ≤ S256x128.size a) ∧
  (∀ (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off629 i v31 v33 k1_t1 k1_t77 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t78_loop i v31 v33 k1_t1).OK) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off630 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off631 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off632 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off633 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off634 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off635 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off636 i v31 v33 k1_t1 k1_t78) a + S1x16.size a ≤ S256x128.size a) ∧
  (∀ (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off637 i v31 v33 k1_t1 k1_t78) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t79_loop i v31 v33 k1_t1).OK) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off638 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off639 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off640 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off641 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off642 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off643 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off644 i v31 v33 k1_t1 k1_t79) a + S1x16.size a ≤ S256x128.size a) ∧
  (∀ (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off645 i v31 v33 k1_t1 k1_t79) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t80_loop i v33 v35 k1_t1).OK) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off646 i v33 v35 k1_t1 k1_t80 (BitVec.ofNat 32 r.val)) a + S1x16.size a ≤ S256x128.size a) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off647 i v33 v35 k1_t1 k1_t80 (BitVec.ofNat 32 r.val)) a + S1x16.size a ≤ S256x128.size a) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off648 i v33 v35 k1_t1 k1_t80 (BitVec.ofNat 32 r.val)) a + S1x16.size a ≤ S256x128.size a) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off649 i v33 v35 k1_t1 k1_t80 (BitVec.ofNat 32 r.val)) a + S1x16.size a ≤ S256x128.size a) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off650 i v33 v35 k1_t1 k1_t80 (BitVec.ofNat 32 r.val)) a + S1x16.size a ≤ S256x128.size a) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off651 i v33 v35 k1_t1 k1_t80 (BitVec.ofNat 32 r.val)) a + S1x16.size a ≤ S256x128.size a) ∧
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off652 i v33 v35 k1_t1 k1_t80 (BitVec.ofNat 32 r.val)) a + S1x16.size a ≤ S256x128.size a)
def k1_chk1_21 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off653 i v33 v35 k1_t1 k1_t80 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t81_loop i v33 v35 k1_t1).OK) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off654 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off655 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off656 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off657 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off658 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off659 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off660 i v33 v35 k1_t1 k1_t81 (BitVec.ofNat 32 r.val)) a + S1x16.size a ≤ S256x128.size a) ∧
  (∀ (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off661 i v33 v35 k1_t1 k1_t81 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t82_loop i v33 v35 k1_t1).OK) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off662 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off663 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off664 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off665 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off666 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off667 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off668 i v33 v35 k1_t1 k1_t82) a + S1x16.size a ≤ S256x128.size a) ∧
  (∀ (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off669 i v33 v35 k1_t1 k1_t82) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t83_loop i v33 v35 k1_t1).OK) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off670 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off671 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off672 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off673 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off674 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off675 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off676 i v33 v35 k1_t1 k1_t83) a + S1x16.size a ≤ S256x128.size a) ∧
  (∀ (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off677 i v33 v35 k1_t1 k1_t83) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t84_loop i v35 v37 k1_t1).OK) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off678 i v35 v37 k1_t1 k1_t84 (BitVec.ofNat 32 r.val)) a + S1x16.size a ≤ S256x128.size a) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off679 i v35 v37 k1_t1 k1_t84 (BitVec.ofNat 32 r.val)) a + S1x16.size a ≤ S256x128.size a) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off680 i v35 v37 k1_t1 k1_t84 (BitVec.ofNat 32 r.val)) a + S1x16.size a ≤ S256x128.size a)
def k1_chk1_22 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off681 i v35 v37 k1_t1 k1_t84 (BitVec.ofNat 32 r.val)) a + S1x16.size a ≤ S256x128.size a) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off682 i v35 v37 k1_t1 k1_t84 (BitVec.ofNat 32 r.val)) a + S1x16.size a ≤ S256x128.size a) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off683 i v35 v37 k1_t1 k1_t84 (BitVec.ofNat 32 r.val)) a + S1x16.size a ≤ S256x128.size a) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off684 i v35 v37 k1_t1 k1_t84 (BitVec.ofNat 32 r.val)) a + S1x16.size a ≤ S256x128.size a) ∧
  (∀ (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off685 i v35 v37 k1_t1 k1_t84 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t85_loop i v35 v37 k1_t1).OK) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off686 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off687 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off688 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off689 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off690 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off691 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off692 i v35 v37 k1_t1 k1_t85 (BitVec.ofNat 32 r.val)) a + S1x16.size a ≤ S256x128.size a) ∧
  (∀ (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off693 i v35 v37 k1_t1 k1_t85 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t86_loop i v35 v37 k1_t1).OK) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off694 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off695 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off696 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off697 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off698 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off699 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off700 i v35 v37 k1_t1 k1_t86) a + S1x16.size a ≤ S256x128.size a) ∧
  (∀ (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off701 i v35 v37 k1_t1 k1_t86) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t87_loop i v35 v37 k1_t1).OK) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off702 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off703 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off704 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off705 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off706 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off707 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off708 i v35 v37 k1_t1 k1_t87) a + S1x16.size a ≤ S256x128.size a) ∧
  (∀ (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off709 i v35 v37 k1_t1 k1_t87) a + S1x16.size a ≤ S256x128.size a)
def k1_chk1_23 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t88_loop i v37 v39 k1_t1).OK) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off710 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off711 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off712 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off713 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off714 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off715 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off716 i v37 v39 k1_t1 k1_t88 (BitVec.ofNat 32 r.val)) a + S1x16.size a ≤ S256x128.size a) ∧
  (∀ (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off717 i v37 v39 k1_t1 k1_t88 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t89_loop i v37 v39 k1_t1).OK) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off718 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off719 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off720 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off721 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off722 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off723 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off724 i v37 v39 k1_t1 k1_t89 (BitVec.ofNat 32 r.val)) a + S1x16.size a ≤ S256x128.size a) ∧
  (∀ (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off725 i v37 v39 k1_t1 k1_t89 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t90_loop i v37 v39 k1_t1).OK) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off726 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off727 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off728 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off729 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off730 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off731 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off732 i v37 v39 k1_t1 k1_t90) a + S1x16.size a ≤ S256x128.size a) ∧
  (∀ (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off733 i v37 v39 k1_t1 k1_t90) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t91_loop i v37 v39 k1_t1).OK) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off734 i v37 v39 k1_t1 k1_t91) a + S1x16.size a ≤ S256x128.size a) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off735 i v37 v39 k1_t1 k1_t91) a + S1x16.size a ≤ S256x128.size a) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off736 i v37 v39 k1_t1 k1_t91) a + S1x16.size a ≤ S256x128.size a) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off737 i v37 v39 k1_t1 k1_t91) a + S1x16.size a ≤ S256x128.size a)
def k1_chk1_24 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off738 i v37 v39 k1_t1 k1_t91) a + S1x16.size a ≤ S256x128.size a) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off739 i v37 v39 k1_t1 k1_t91) a + S1x16.size a ≤ S256x128.size a) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off740 i v37 v39 k1_t1 k1_t91) a + S1x16.size a ≤ S256x128.size a) ∧
  (∀ (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off741 i v37 v39 k1_t1 k1_t91) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t92_loop i v39 v41 k1_t1).OK) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off742 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off743 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off744 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off745 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off746 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off747 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off748 i v39 v41 k1_t1 k1_t92 (BitVec.ofNat 32 r.val)) a + S1x16.size a ≤ S256x128.size a) ∧
  (∀ (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off749 i v39 v41 k1_t1 k1_t92 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t93_loop i v39 v41 k1_t1).OK) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off750 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off751 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off752 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off753 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off754 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off755 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off756 i v39 v41 k1_t1 k1_t93 (BitVec.ofNat 32 r.val)) a + S1x16.size a ≤ S256x128.size a) ∧
  (∀ (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off757 i v39 v41 k1_t1 k1_t93 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t94_loop i v39 v41 k1_t1).OK) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off758 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off759 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off760 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off761 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off762 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off763 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off764 i v39 v41 k1_t1 k1_t94) a + S1x16.size a ≤ S256x128.size a) ∧
  (∀ (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off765 i v39 v41 k1_t1 k1_t94) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t95_loop i v39 v41 k1_t1).OK)
def k1_chk1_25 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off766 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off767 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off768 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off769 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off770 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off771 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off772 i v39 v41 k1_t1 k1_t95) a + S1x16.size a ≤ S256x128.size a) ∧
  (∀ (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off773 i v39 v41 k1_t1 k1_t95) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t96_loop i v41 v43 k1_t1).OK) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off774 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off775 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off776 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off777 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off778 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off779 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off780 i v41 v43 k1_t1 k1_t96 (BitVec.ofNat 32 r.val)) a + S1x16.size a ≤ S256x128.size a) ∧
  (∀ (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off781 i v41 v43 k1_t1 k1_t96 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t97_loop i v41 v43 k1_t1).OK) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off782 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off783 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off784 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off785 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off786 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off787 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off788 i v41 v43 k1_t1 k1_t97 (BitVec.ofNat 32 r.val)) a + S1x16.size a ≤ S256x128.size a) ∧
  (∀ (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off789 i v41 v43 k1_t1 k1_t97 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t98_loop i v41 v43 k1_t1).OK) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off790 i v41 v43 k1_t1 k1_t98) a + S1x16.size a ≤ S256x128.size a) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off791 i v41 v43 k1_t1 k1_t98) a + S1x16.size a ≤ S256x128.size a) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off792 i v41 v43 k1_t1 k1_t98) a + S1x16.size a ≤ S256x128.size a) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off793 i v41 v43 k1_t1 k1_t98) a + S1x16.size a ≤ S256x128.size a) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off794 i v41 v43 k1_t1 k1_t98) a + S1x16.size a ≤ S256x128.size a)
def k1_chk1_26 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off795 i v41 v43 k1_t1 k1_t98) a + S1x16.size a ≤ S256x128.size a) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off796 i v41 v43 k1_t1 k1_t98) a + S1x16.size a ≤ S256x128.size a) ∧
  (∀ (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off797 i v41 v43 k1_t1 k1_t98) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t99_loop i v41 v43 k1_t1).OK) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off798 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off799 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off800 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off801 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off802 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off803 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off804 i v41 v43 k1_t1 k1_t99) a + S1x16.size a ≤ S256x128.size a) ∧
  (∀ (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off805 i v41 v43 k1_t1 k1_t99) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t100_loop i v43 v45 k1_t1).OK) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off806 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off807 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off808 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off809 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off810 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off811 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off812 i v43 v45 k1_t1 k1_t100 (BitVec.ofNat 32 r.val)) a + S1x16.size a ≤ S256x128.size a) ∧
  (∀ (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off813 i v43 v45 k1_t1 k1_t100 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t101_loop i v43 v45 k1_t1).OK) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off814 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off815 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off816 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off817 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off818 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off819 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off820 i v43 v45 k1_t1 k1_t101 (BitVec.ofNat 32 r.val)) a + S1x16.size a ≤ S256x128.size a) ∧
  (∀ (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off821 i v43 v45 k1_t1 k1_t101 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t102_loop i v43 v45 k1_t1).OK) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off822 i v43 v45 k1_t1 k1_t102) a + S1x16.size a ≤ S256x128.size a)
def k1_chk1_27 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off823 i v43 v45 k1_t1 k1_t102) a + S1x16.size a ≤ S256x128.size a) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off824 i v43 v45 k1_t1 k1_t102) a + S1x16.size a ≤ S256x128.size a) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off825 i v43 v45 k1_t1 k1_t102) a + S1x16.size a ≤ S256x128.size a) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off826 i v43 v45 k1_t1 k1_t102) a + S1x16.size a ≤ S256x128.size a) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off827 i v43 v45 k1_t1 k1_t102) a + S1x16.size a ≤ S256x128.size a) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off828 i v43 v45 k1_t1 k1_t102) a + S1x16.size a ≤ S256x128.size a) ∧
  (∀ (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off829 i v43 v45 k1_t1 k1_t102) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t103_loop i v43 v45 k1_t1).OK) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off830 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off831 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off832 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off833 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off834 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off835 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off836 i v43 v45 k1_t1 k1_t103) a + S1x16.size a ≤ S256x128.size a) ∧
  (∀ (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off837 i v43 v45 k1_t1 k1_t103) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t104_loop i v45 v47 k1_t1).OK) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off838 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off839 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off840 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off841 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off842 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off843 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off844 i v45 v47 k1_t1 k1_t104 (BitVec.ofNat 32 r.val)) a + S1x16.size a ≤ S256x128.size a) ∧
  (∀ (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off845 i v45 v47 k1_t1 k1_t104 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t105_loop i v45 v47 k1_t1).OK) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off846 i v45 v47 k1_t1 k1_t105 (BitVec.ofNat 32 r.val)) a + S1x16.size a ≤ S256x128.size a) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off847 i v45 v47 k1_t1 k1_t105 (BitVec.ofNat 32 r.val)) a + S1x16.size a ≤ S256x128.size a) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off848 i v45 v47 k1_t1 k1_t105 (BitVec.ofNat 32 r.val)) a + S1x16.size a ≤ S256x128.size a) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off849 i v45 v47 k1_t1 k1_t105 (BitVec.ofNat 32 r.val)) a + S1x16.size a ≤ S256x128.size a) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off850 i v45 v47 k1_t1 k1_t105 (BitVec.ofNat 32 r.val)) a + S1x16.size a ≤ S256x128.size a) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off851 i v45 v47 k1_t1 k1_t105 (BitVec.ofNat 32 r.val)) a + S1x16.size a ≤ S256x128.size a)
def k1_chk1_28 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off852 i v45 v47 k1_t1 k1_t105 (BitVec.ofNat 32 r.val)) a + S1x16.size a ≤ S256x128.size a) ∧
  (∀ (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off853 i v45 v47 k1_t1 k1_t105 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t106_loop i v45 v47 k1_t1).OK) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off854 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off855 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off856 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off857 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off858 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off859 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off860 i v45 v47 k1_t1 k1_t106) a + S1x16.size a ≤ S256x128.size a) ∧
  (∀ (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off861 i v45 v47 k1_t1 k1_t106) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t107_loop i v45 v47 k1_t1).OK) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off862 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off863 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off864 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off865 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off866 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off867 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off868 i v45 v47 k1_t1 k1_t107) a + S1x16.size a ≤ S256x128.size a) ∧
  (∀ (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off869 i v45 v47 k1_t1 k1_t107) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t108_loop i v47 v49 k1_t1).OK) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off870 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off871 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off872 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off873 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off874 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off875 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off876 i v47 v49 k1_t1 k1_t108 (BitVec.ofNat 32 r.val)) a + S1x16.size a ≤ S256x128.size a) ∧
  (∀ (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off877 i v47 v49 k1_t1 k1_t108 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t109_loop i v47 v49 k1_t1).OK) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off878 i v47 v49 k1_t1 k1_t109 (BitVec.ofNat 32 r.val)) a + S1x16.size a ≤ S256x128.size a) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off879 i v47 v49 k1_t1 k1_t109 (BitVec.ofNat 32 r.val)) a + S1x16.size a ≤ S256x128.size a)
def k1_chk1_29 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off880 i v47 v49 k1_t1 k1_t109 (BitVec.ofNat 32 r.val)) a + S1x16.size a ≤ S256x128.size a) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off881 i v47 v49 k1_t1 k1_t109 (BitVec.ofNat 32 r.val)) a + S1x16.size a ≤ S256x128.size a) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off882 i v47 v49 k1_t1 k1_t109 (BitVec.ofNat 32 r.val)) a + S1x16.size a ≤ S256x128.size a) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off883 i v47 v49 k1_t1 k1_t109 (BitVec.ofNat 32 r.val)) a + S1x16.size a ≤ S256x128.size a) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off884 i v47 v49 k1_t1 k1_t109 (BitVec.ofNat 32 r.val)) a + S1x16.size a ≤ S256x128.size a) ∧
  (∀ (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off885 i v47 v49 k1_t1 k1_t109 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t110_loop i v47 v49 k1_t1).OK) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off886 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off887 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off888 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off889 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off890 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off891 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off892 i v47 v49 k1_t1 k1_t110) a + S1x16.size a ≤ S256x128.size a) ∧
  (∀ (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off893 i v47 v49 k1_t1 k1_t110) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t111_loop i v47 v49 k1_t1).OK) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off894 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off895 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off896 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off897 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off898 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off899 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off900 i v47 v49 k1_t1 k1_t111) a + S1x16.size a ≤ S256x128.size a) ∧
  (∀ (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off901 i v47 v49 k1_t1 k1_t111) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t112_loop i v49 v51 k1_t1).OK) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off902 i v49 v51 k1_t1 k1_t112 (BitVec.ofNat 32 r.val)) a + S1x16.size a ≤ S256x128.size a) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off903 i v49 v51 k1_t1 k1_t112 (BitVec.ofNat 32 r.val)) a + S1x16.size a ≤ S256x128.size a) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off904 i v49 v51 k1_t1 k1_t112 (BitVec.ofNat 32 r.val)) a + S1x16.size a ≤ S256x128.size a) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off905 i v49 v51 k1_t1 k1_t112 (BitVec.ofNat 32 r.val)) a + S1x16.size a ≤ S256x128.size a) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off906 i v49 v51 k1_t1 k1_t112 (BitVec.ofNat 32 r.val)) a + S1x16.size a ≤ S256x128.size a) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off907 i v49 v51 k1_t1 k1_t112 (BitVec.ofNat 32 r.val)) a + S1x16.size a ≤ S256x128.size a) ∧
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off908 i v49 v51 k1_t1 k1_t112 (BitVec.ofNat 32 r.val)) a + S1x16.size a ≤ S256x128.size a)
def k1_chk1_30 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off909 i v49 v51 k1_t1 k1_t112 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t113_loop i v49 v51 k1_t1).OK) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off910 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off911 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off912 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off913 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off914 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off915 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off916 i v49 v51 k1_t1 k1_t113 (BitVec.ofNat 32 r.val)) a + S1x16.size a ≤ S256x128.size a) ∧
  (∀ (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off917 i v49 v51 k1_t1 k1_t113 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t114_loop i v49 v51 k1_t1).OK) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off918 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off919 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off920 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off921 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off922 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off923 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off924 i v49 v51 k1_t1 k1_t114) a + S1x16.size a ≤ S256x128.size a) ∧
  (∀ (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off925 i v49 v51 k1_t1 k1_t114) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t115_loop i v49 v51 k1_t1).OK) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off926 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off927 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off928 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off929 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off930 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off931 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off932 i v49 v51 k1_t1 k1_t115) a + S1x16.size a ≤ S256x128.size a) ∧
  (∀ (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off933 i v49 v51 k1_t1 k1_t115) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t116_loop i v51 v53 k1_t1).OK) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off934 i v51 v53 k1_t1 k1_t116 (BitVec.ofNat 32 r.val)) a + S1x16.size a ≤ S256x128.size a) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off935 i v51 v53 k1_t1 k1_t116 (BitVec.ofNat 32 r.val)) a + S1x16.size a ≤ S256x128.size a) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off936 i v51 v53 k1_t1 k1_t116 (BitVec.ofNat 32 r.val)) a + S1x16.size a ≤ S256x128.size a)
def k1_chk1_31 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off937 i v51 v53 k1_t1 k1_t116 (BitVec.ofNat 32 r.val)) a + S1x16.size a ≤ S256x128.size a) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off938 i v51 v53 k1_t1 k1_t116 (BitVec.ofNat 32 r.val)) a + S1x16.size a ≤ S256x128.size a) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off939 i v51 v53 k1_t1 k1_t116 (BitVec.ofNat 32 r.val)) a + S1x16.size a ≤ S256x128.size a) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off940 i v51 v53 k1_t1 k1_t116 (BitVec.ofNat 32 r.val)) a + S1x16.size a ≤ S256x128.size a) ∧
  (∀ (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off941 i v51 v53 k1_t1 k1_t116 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t117_loop i v51 v53 k1_t1).OK) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off942 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off943 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off944 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off945 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off946 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off947 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off948 i v51 v53 k1_t1 k1_t117 (BitVec.ofNat 32 r.val)) a + S1x16.size a ≤ S256x128.size a) ∧
  (∀ (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off949 i v51 v53 k1_t1 k1_t117 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t118_loop i v51 v53 k1_t1).OK) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off950 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off951 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off952 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off953 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off954 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off955 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off956 i v51 v53 k1_t1 k1_t118) a + S1x16.size a ≤ S256x128.size a) ∧
  (∀ (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off957 i v51 v53 k1_t1 k1_t118) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t119_loop i v51 v53 k1_t1).OK) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off958 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off959 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off960 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off961 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off962 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off963 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off964 i v51 v53 k1_t1 k1_t119) a + S1x16.size a ≤ S256x128.size a) ∧
  (∀ (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off965 i v51 v53 k1_t1 k1_t119) a + S1x16.size a ≤ S256x128.size a)
def k1_chk1_32 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t120_loop i v53 v55 k1_t1).OK) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off966 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off967 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off968 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off969 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off970 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off971 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off972 i v53 v55 k1_t1 k1_t120 (BitVec.ofNat 32 r.val)) a + S1x16.size a ≤ S256x128.size a) ∧
  (∀ (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off973 i v53 v55 k1_t1 k1_t120 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t121_loop i v53 v55 k1_t1).OK) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off974 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off975 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off976 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off977 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off978 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off979 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off980 i v53 v55 k1_t1 k1_t121 (BitVec.ofNat 32 r.val)) a + S1x16.size a ≤ S256x128.size a) ∧
  (∀ (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off981 i v53 v55 k1_t1 k1_t121 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t122_loop i v53 v55 k1_t1).OK) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off982 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off983 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off984 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off985 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off986 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off987 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off988 i v53 v55 k1_t1 k1_t122) a + S1x16.size a ≤ S256x128.size a) ∧
  (∀ (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off989 i v53 v55 k1_t1 k1_t122) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t123_loop i v53 v55 k1_t1).OK) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off990 i v53 v55 k1_t1 k1_t123) a + S1x16.size a ≤ S256x128.size a) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off991 i v53 v55 k1_t1 k1_t123) a + S1x16.size a ≤ S256x128.size a) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off992 i v53 v55 k1_t1 k1_t123) a + S1x16.size a ≤ S256x128.size a) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off993 i v53 v55 k1_t1 k1_t123) a + S1x16.size a ≤ S256x128.size a)
def k1_chk1_33 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off994 i v53 v55 k1_t1 k1_t123) a + S1x16.size a ≤ S256x128.size a) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off995 i v53 v55 k1_t1 k1_t123) a + S1x16.size a ≤ S256x128.size a) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off996 i v53 v55 k1_t1 k1_t123) a + S1x16.size a ≤ S256x128.size a) ∧
  (∀ (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off997 i v53 v55 k1_t1 k1_t123) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t124_loop i v55 v57 k1_t1).OK) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off998 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off999 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1000 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1001 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1002 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1003 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1004 i v55 v57 k1_t1 k1_t124 (BitVec.ofNat 32 r.val)) a + S1x16.size a ≤ S256x128.size a) ∧
  (∀ (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1005 i v55 v57 k1_t1 k1_t124 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t125_loop i v55 v57 k1_t1).OK) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1006 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1007 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1008 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1009 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1010 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1011 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1012 i v55 v57 k1_t1 k1_t125 (BitVec.ofNat 32 r.val)) a + S1x16.size a ≤ S256x128.size a) ∧
  (∀ (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1013 i v55 v57 k1_t1 k1_t125 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t126_loop i v55 v57 k1_t1).OK) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1014 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1015 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1016 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1017 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1018 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1019 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1020 i v55 v57 k1_t1 k1_t126) a + S1x16.size a ≤ S256x128.size a) ∧
  (∀ (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1021 i v55 v57 k1_t1 k1_t126) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t127_loop i v55 v57 k1_t1).OK)
def k1_chk1_34 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1022 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1023 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1024 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1025 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1026 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1027 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1028 i v55 v57 k1_t1 k1_t127) a + S1x16.size a ≤ S256x128.size a) ∧
  (∀ (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1029 i v55 v57 k1_t1 k1_t127) a + S1x16.size a ≤ S256x128.size a)
def k1_chk1 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) : Prop :=
  k1_chk1_0 i v27 v29 v31 v33 v35 v37 v39 v41 v43 v45 v47 v49 v51 v53 v55 v57 ∧
  k1_chk1_1 i v27 v29 v31 v33 v35 v37 v39 v41 v43 v45 v47 v49 v51 v53 v55 v57 ∧
  k1_chk1_2 i v27 v29 v31 v33 v35 v37 v39 v41 v43 v45 v47 v49 v51 v53 v55 v57 ∧
  k1_chk1_3 i v27 v29 v31 v33 v35 v37 v39 v41 v43 v45 v47 v49 v51 v53 v55 v57 ∧
  k1_chk1_4 i v27 v29 v31 v33 v35 v37 v39 v41 v43 v45 v47 v49 v51 v53 v55 v57 ∧
  k1_chk1_5 i v27 v29 v31 v33 v35 v37 v39 v41 v43 v45 v47 v49 v51 v53 v55 v57 ∧
  k1_chk1_6 i v27 v29 v31 v33 v35 v37 v39 v41 v43 v45 v47 v49 v51 v53 v55 v57 ∧
  k1_chk1_7 i v27 v29 v31 v33 v35 v37 v39 v41 v43 v45 v47 v49 v51 v53 v55 v57 ∧
  k1_chk1_8 i v27 v29 v31 v33 v35 v37 v39 v41 v43 v45 v47 v49 v51 v53 v55 v57 ∧
  k1_chk1_9 i v27 v29 v31 v33 v35 v37 v39 v41 v43 v45 v47 v49 v51 v53 v55 v57 ∧
  k1_chk1_10 i v27 v29 v31 v33 v35 v37 v39 v41 v43 v45 v47 v49 v51 v53 v55 v57 ∧
  k1_chk1_11 i v27 v29 v31 v33 v35 v37 v39 v41 v43 v45 v47 v49 v51 v53 v55 v57 ∧
  k1_chk1_12 i v27 v29 v31 v33 v35 v37 v39 v41 v43 v45 v47 v49 v51 v53 v55 v57 ∧
  k1_chk1_13 i v27 v29 v31 v33 v35 v37 v39 v41 v43 v45 v47 v49 v51 v53 v55 v57 ∧
  k1_chk1_14 i v27 v29 v31 v33 v35 v37 v39 v41 v43 v45 v47 v49 v51 v53 v55 v57 ∧
  k1_chk1_15 i v27 v29 v31 v33 v35 v37 v39 v41 v43 v45 v47 v49 v51 v53 v55 v57 ∧
  k1_chk1_16 i v27 v29 v31 v33 v35 v37 v39 v41 v43 v45 v47 v49 v51 v53 v55 v57 ∧
  k1_chk1_17 i v27 v29 v31 v33 v35 v37 v39 v41 v43 v45 v47 v49 v51 v53 v55 v57 ∧
  k1_chk1_18 i v27 v29 v31 v33 v35 v37 v39 v41 v43 v45 v47 v49 v51 v53 v55 v57 ∧
  k1_chk1_19 i v27 v29 v31 v33 v35 v37 v39 v41 v43 v45 v47 v49 v51 v53 v55 v57 ∧
  k1_chk1_20 i v27 v29 v31 v33 v35 v37 v39 v41 v43 v45 v47 v49 v51 v53 v55 v57 ∧
  k1_chk1_21 i v27 v29 v31 v33 v35 v37 v39 v41 v43 v45 v47 v49 v51 v53 v55 v57 ∧
  k1_chk1_22 i v27 v29 v31 v33 v35 v37 v39 v41 v43 v45 v47 v49 v51 v53 v55 v57 ∧
  k1_chk1_23 i v27 v29 v31 v33 v35 v37 v39 v41 v43 v45 v47 v49 v51 v53 v55 v57 ∧
  k1_chk1_24 i v27 v29 v31 v33 v35 v37 v39 v41 v43 v45 v47 v49 v51 v53 v55 v57 ∧
  k1_chk1_25 i v27 v29 v31 v33 v35 v37 v39 v41 v43 v45 v47 v49 v51 v53 v55 v57 ∧
  k1_chk1_26 i v27 v29 v31 v33 v35 v37 v39 v41 v43 v45 v47 v49 v51 v53 v55 v57 ∧
  k1_chk1_27 i v27 v29 v31 v33 v35 v37 v39 v41 v43 v45 v47 v49 v51 v53 v55 v57 ∧
  k1_chk1_28 i v27 v29 v31 v33 v35 v37 v39 v41 v43 v45 v47 v49 v51 v53 v55 v57 ∧
  k1_chk1_29 i v27 v29 v31 v33 v35 v37 v39 v41 v43 v45 v47 v49 v51 v53 v55 v57 ∧
  k1_chk1_30 i v27 v29 v31 v33 v35 v37 v39 v41 v43 v45 v47 v49 v51 v53 v55 v57 ∧
  k1_chk1_31 i v27 v29 v31 v33 v35 v37 v39 v41 v43 v45 v47 v49 v51 v53 v55 v57 ∧
  k1_chk1_32 i v27 v29 v31 v33 v35 v37 v39 v41 v43 v45 v47 v49 v51 v53 v55 v57 ∧
  k1_chk1_33 i v27 v29 v31 v33 v35 v37 v39 v41 v43 v45 v47 v49 v51 v53 v55 v57 ∧
  k1_chk1_34 i v27 v29 v31 v33 v35 v37 v39 v41 v43 v45 v47 v49 v51 v53 v55 v57
theorem k1_off12_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off12 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.1 k1_t1 k1_h2
theorem k1_off13_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off13 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.1 k1_t1 k1_h2
theorem k1_off14_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off14 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.2.1 k1_t1 k1_h2
theorem k1_off15_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off15 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.2.2.1 k1_t1 k1_h2
theorem k1_off16_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off16 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.2.2.2.1 k1_t1 k1_h2
theorem k1_off17_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off17 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.2.2.2.2.1 k1_t1 k1_h2
theorem k1_off18_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off18 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.2.2.2.2.2.1 k1_t1 k1_h2
theorem k1_off19_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h2 : k1_cond2 i v27 v29 v31 v33 v35 v37 v39 v41 v43 v45 v47 v49 v51 v53 v55 v57 k1_t1 = 1#1), ∀ a, (k1_off19 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h2 => k1_hw1.1.2.2.2.2.2.2.2.1 k1_t1 k1_h2
theorem k1_t3_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h4 : k1_cond4 i v27 v29 k1_t1 = 1#1), (k1_t3_loop i v27 v29 k1_t1).OK := fun i v27 v29 v31 v33 v35 v37 v39 v41 v43 v45 v47 v49 v51 v53 v55 v57 k1_hw1 k1_t1 k1_h3 k1_h4 => k1_hw1.1.2.2.2.2.2.2.2.2.1 k1_t1 k1_h3 k1_h4
theorem k1_off20_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off20 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.1 k1_t1 k1_t3 k1_h3 k1_h4 r
theorem k1_off21_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off21 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.1 k1_t1 k1_t3 k1_h3 k1_h4 r
theorem k1_off22_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off22 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.2.1 k1_t1 k1_t3 k1_h3 k1_h4 r
theorem k1_off23_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off23 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.2.2.1 k1_t1 k1_t3 k1_h3 k1_h4 r
theorem k1_off24_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off24 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.2.2.2.1 k1_t1 k1_t3 k1_h3 k1_h4 r
theorem k1_off25_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off25 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.2.2.2.2.1 k1_t1 k1_t3 k1_h3 k1_h4 r
theorem k1_off26_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off26 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.2.2.2.2.2.1 k1_t1 k1_t3 k1_h3 k1_h4 r
theorem k1_off27_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t3 : Fin (k1_t3_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off27 i v27 v29 k1_t1 k1_t3 (BitVec.ofNat 32 r.val)) a + S1x16.size a ≤ S256x128.size a := fun i v27 v29 v31 v33 v35 v37 v39 v41 v43 v45 v47 v49 v51 v53 v55 v57 k1_hw1 k1_t1 k1_t3 k1_h3 k1_h4 r => k1_hw1.1.2.2.2.2.2.2.2.2.2.2.2.2.2.2.2.2.1 k1_t1 k1_t3 k1_h3 k1_h4 r
theorem k1_t4_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h4 : k1_cond4 i v27 v29 k1_t1 = 1#1), (k1_t4_loop i v27 v29 k1_t1).OK := fun i v27 v29 v31 v33 v35 v37 v39 v41 v43 v45 v47 v49 v51 v53 v55 v57 k1_hw1 k1_t1 k1_h3 k1_h4 => k1_hw1.1.2.2.2.2.2.2.2.2.2.2.2.2.2.2.2.2.2.1 k1_t1 k1_h3 k1_h4
theorem k1_off28_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off28 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.1 k1_t1 k1_t4 k1_h3 k1_h4 r
theorem k1_off29_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off29 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.1 k1_t1 k1_t4 k1_h3 k1_h4 r
theorem k1_off30_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off30 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.2.1 k1_t1 k1_t4 k1_h3 k1_h4 r
theorem k1_off31_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off31 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.2.2.1 k1_t1 k1_t4 k1_h3 k1_h4 r
theorem k1_off32_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off32 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.2.2.2.1 k1_t1 k1_t4 k1_h3 k1_h4 r
theorem k1_off33_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off33 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.2.2.2.2.1 k1_t1 k1_t4 k1_h3 k1_h4 r
theorem k1_off34_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off34 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.2.2.2.2.2.1 k1_t1 k1_t4 k1_h3 k1_h4 r
theorem k1_off35_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t4 : Fin (k1_t4_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ (r : Fin 4), ∀ a, (k1_off35 i v27 v29 k1_t1 k1_t4 (BitVec.ofNat 32 r.val)) a + S1x16.size a ≤ S256x128.size a := fun i v27 v29 v31 v33 v35 v37 v39 v41 v43 v45 v47 v49 v51 v53 v55 v57 k1_hw1 k1_t1 k1_t4 k1_h3 k1_h4 r => k1_hw1.1.2.2.2.2.2.2.2.2.2.2.2.2.2.2.2.2.2.2.2.2.2.2.2.2.2.1 k1_t1 k1_t4 k1_h3 k1_h4 r
theorem k1_t5_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h4 : k1_cond4 i v27 v29 k1_t1 = 1#1), (k1_t5_loop i v27 v29 k1_t1).OK := fun i v27 v29 v31 v33 v35 v37 v39 v41 v43 v45 v47 v49 v51 v53 v55 v57 k1_hw1 k1_t1 k1_h3 k1_h4 => k1_hw1.1.2.2.2.2.2.2.2.2.2.2.2.2.2.2.2.2.2.2.2.2.2.2.2.2.2.2.1 k1_t1 k1_h3 k1_h4
theorem k1_off36_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off36 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.1.2.2.2.2.2.2.2.2.2.2.2.2.2.2.2.2.2.2.2.2.2.2.2.2.2.2.2.1 k1_t1 k1_t5 k1_h3 k1_h4
theorem k1_off37_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off37 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.1.2.2.2.2.2.2.2.2.2.2.2.2.2.2.2.2.2.2.2.2.2.2.2.2.2.2.2.2.1 k1_t1 k1_t5 k1_h3 k1_h4
theorem k1_off38_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off38 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.1.2.2.2.2.2.2.2.2.2.2.2.2.2.2.2.2.2.2.2.2.2.2.2.2.2.2.2.2.2.1 k1_t1 k1_t5 k1_h3 k1_h4
theorem k1_off39_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off39 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.1.2.2.2.2.2.2.2.2.2.2.2.2.2.2.2.2.2.2.2.2.2.2.2.2.2.2.2.2.2.2.1 k1_t1 k1_t5 k1_h3 k1_h4
theorem k1_off40_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off40 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.1.2.2.2.2.2.2.2.2.2.2.2.2.2.2.2.2.2.2.2.2.2.2.2.2.2.2.2.2.2.2.2 k1_t1 k1_t5 k1_h3 k1_h4
theorem k1_off41_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off41 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.2.1.1 k1_t1 k1_t5 k1_h3 k1_h4
theorem k1_off42_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off42 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.2.1.2.1 k1_t1 k1_t5 k1_h3 k1_h4
theorem k1_off43_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t5 : Fin (k1_t5_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off43 i v27 v29 k1_t1 k1_t5) a + S1x16.size a ≤ S256x128.size a := fun i v27 v29 v31 v33 v35 v37 v39 v41 v43 v45 v47 v49 v51 v53 v55 v57 k1_hw1 k1_t1 k1_t5 k1_h3 k1_h4 => k1_hw1.2.1.2.2.1 k1_t1 k1_t5 k1_h3 k1_h4
theorem k1_t6_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h4 : k1_cond4 i v27 v29 k1_t1 = 1#1), (k1_t6_loop i v27 v29 k1_t1).OK := fun i v27 v29 v31 v33 v35 v37 v39 v41 v43 v45 v47 v49 v51 v53 v55 v57 k1_hw1 k1_t1 k1_h3 k1_h4 => k1_hw1.2.1.2.2.2.1 k1_t1 k1_h3 k1_h4
theorem k1_off44_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off44 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.1 k1_t1 k1_t6 k1_h3 k1_h4
theorem k1_off45_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off45 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.1 k1_t1 k1_t6 k1_h3 k1_h4
theorem k1_off46_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off46 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.2.1 k1_t1 k1_t6 k1_h3 k1_h4
theorem k1_off47_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off47 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.2.2.1 k1_t1 k1_t6 k1_h3 k1_h4
theorem k1_off48_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off48 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.2.2.2.1 k1_t1 k1_t6 k1_h3 k1_h4
theorem k1_off49_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off49 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.2.2.2.2.1 k1_t1 k1_t6 k1_h3 k1_h4
theorem k1_off50_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off50 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.2.2.2.2.2.1 k1_t1 k1_t6 k1_h3 k1_h4
theorem k1_off51_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t6 : Fin (k1_t6_loop i v27 v29 k1_t1).trips), ∀ (k1_h3 : k1_cond3 i v27 v29 v31 v33 v35 v37 v39 v41 v43 v45 v47 v49 v51 v53 v55 v57 k1_t1 = 1#1), ∀ (k1_h4 : k1_cond4 i v27 v29 k1_t1 = 1#1), ∀ a, (k1_off51 i v27 v29 k1_t1 k1_t6) a + S1x16.size a ≤ S256x128.size a := fun i v27 v29 v31 v33 v35 v37 v39 v41 v43 v45 v47 v49 v51 v53 v55 v57 k1_hw1 k1_t1 k1_t6 k1_h3 k1_h4 => k1_hw1.2.1.2.2.2.2.2.2.2.2.2.2.2.1 k1_t1 k1_t6 k1_h3 k1_h4
theorem k1_t7_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h5 : k1_cond5 i v29 v31 k1_t1 = 1#1), (k1_t7_loop i v29 v31 k1_t1).OK := fun i v27 v29 v31 v33 v35 v37 v39 v41 v43 v45 v47 v49 v51 v53 v55 v57 k1_hw1 k1_t1 k1_h3 k1_h5 => k1_hw1.2.1.2.2.2.2.2.2.2.2.2.2.2.2.1 k1_t1 k1_h3 k1_h5
theorem k1_off52_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off52 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.1 k1_t1 k1_t7 k1_h3 k1_h5 r
theorem k1_off53_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off53 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.1 k1_t1 k1_t7 k1_h3 k1_h5 r
theorem k1_off54_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off54 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.2.1 k1_t1 k1_t7 k1_h3 k1_h5 r
theorem k1_off55_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off55 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.2.2.1 k1_t1 k1_t7 k1_h3 k1_h5 r
theorem k1_off56_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off56 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.2.2.2.1 k1_t1 k1_t7 k1_h3 k1_h5 r
theorem k1_off57_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off57 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.2.2.2.2.1 k1_t1 k1_t7 k1_h3 k1_h5 r
theorem k1_off58_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off58 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.2.2.2.2.2.1 k1_t1 k1_t7 k1_h3 k1_h5 r
theorem k1_off59_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t7 : Fin (k1_t7_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off59 i v29 v31 k1_t1 k1_t7 (BitVec.ofNat 32 r.val)) a + S1x16.size a ≤ S256x128.size a := fun i v27 v29 v31 v33 v35 v37 v39 v41 v43 v45 v47 v49 v51 v53 v55 v57 k1_hw1 k1_t1 k1_t7 k1_h3 k1_h5 r => k1_hw1.2.1.2.2.2.2.2.2.2.2.2.2.2.2.2.2.2.2.2.2.2.2.1 k1_t1 k1_t7 k1_h3 k1_h5 r
theorem k1_t8_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h5 : k1_cond5 i v29 v31 k1_t1 = 1#1), (k1_t8_loop i v29 v31 k1_t1).OK := fun i v27 v29 v31 v33 v35 v37 v39 v41 v43 v45 v47 v49 v51 v53 v55 v57 k1_hw1 k1_t1 k1_h3 k1_h5 => k1_hw1.2.1.2.2.2.2.2.2.2.2.2.2.2.2.2.2.2.2.2.2.2.2.2.1 k1_t1 k1_h3 k1_h5
theorem k1_off60_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off60 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.1 k1_t1 k1_t8 k1_h3 k1_h5 r
theorem k1_off61_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off61 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.1 k1_t1 k1_t8 k1_h3 k1_h5 r
theorem k1_off62_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off62 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.2.1 k1_t1 k1_t8 k1_h3 k1_h5 r
theorem k1_off63_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off63 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.2.2.1 k1_t1 k1_t8 k1_h3 k1_h5 r
theorem k1_off64_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off64 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.2.2.2.1 k1_t1 k1_t8 k1_h3 k1_h5 r
theorem k1_off65_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off65 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.2.2.2.2.1 k1_t1 k1_t8 k1_h3 k1_h5 r
theorem k1_off66_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off66 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.2.2.2.2.2.1 k1_t1 k1_t8 k1_h3 k1_h5 r
theorem k1_off67_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t8 : Fin (k1_t8_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ (r : Fin 4), ∀ a, (k1_off67 i v29 v31 k1_t1 k1_t8 (BitVec.ofNat 32 r.val)) a + S1x16.size a ≤ S256x128.size a := fun i v27 v29 v31 v33 v35 v37 v39 v41 v43 v45 v47 v49 v51 v53 v55 v57 k1_hw1 k1_t1 k1_t8 k1_h3 k1_h5 r => k1_hw1.2.1.2.2.2.2.2.2.2.2.2.2.2.2.2.2.2.2.2.2.2.2.2.2.2.2.2.2.2.2.2.1 k1_t1 k1_t8 k1_h3 k1_h5 r
theorem k1_t9_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h5 : k1_cond5 i v29 v31 k1_t1 = 1#1), (k1_t9_loop i v29 v31 k1_t1).OK := fun i v27 v29 v31 v33 v35 v37 v39 v41 v43 v45 v47 v49 v51 v53 v55 v57 k1_hw1 k1_t1 k1_h3 k1_h5 => k1_hw1.2.1.2.2.2.2.2.2.2.2.2.2.2.2.2.2.2.2.2.2.2.2.2.2.2.2.2.2.2.2.2.2.1 k1_t1 k1_h3 k1_h5
theorem k1_off68_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off68 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.1.2.2.2.2.2.2.2.2.2.2.2.2.2.2.2.2.2.2.2.2.2.2.2.2.2.2.2.2.2.2.2 k1_t1 k1_t9 k1_h3 k1_h5
theorem k1_off69_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off69 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.1 k1_t1 k1_t9 k1_h3 k1_h5
theorem k1_off70_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off70 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.2.1 k1_t1 k1_t9 k1_h3 k1_h5
theorem k1_off71_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off71 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.2.2.1 k1_t1 k1_t9 k1_h3 k1_h5
theorem k1_off72_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off72 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.2.2.2.1 k1_t1 k1_t9 k1_h3 k1_h5
theorem k1_off73_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off73 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.2.2.2.2.1 k1_t1 k1_t9 k1_h3 k1_h5
theorem k1_off74_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off74 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.2.2.2.2.2.1 k1_t1 k1_t9 k1_h3 k1_h5
theorem k1_off75_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t9 : Fin (k1_t9_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off75 i v29 v31 k1_t1 k1_t9) a + S1x16.size a ≤ S256x128.size a := fun i v27 v29 v31 v33 v35 v37 v39 v41 v43 v45 v47 v49 v51 v53 v55 v57 k1_hw1 k1_t1 k1_t9 k1_h3 k1_h5 => k1_hw1.2.2.1.2.2.2.2.2.2.1 k1_t1 k1_t9 k1_h3 k1_h5
theorem k1_t10_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h5 : k1_cond5 i v29 v31 k1_t1 = 1#1), (k1_t10_loop i v29 v31 k1_t1).OK := fun i v27 v29 v31 v33 v35 v37 v39 v41 v43 v45 v47 v49 v51 v53 v55 v57 k1_hw1 k1_t1 k1_h3 k1_h5 => k1_hw1.2.2.1.2.2.2.2.2.2.2.1 k1_t1 k1_h3 k1_h5
theorem k1_off76_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off76 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.1 k1_t1 k1_t10 k1_h3 k1_h5
theorem k1_off77_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off77 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.1 k1_t1 k1_t10 k1_h3 k1_h5
theorem k1_off78_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off78 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.2.1 k1_t1 k1_t10 k1_h3 k1_h5
theorem k1_off79_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off79 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.2.2.1 k1_t1 k1_t10 k1_h3 k1_h5
theorem k1_off80_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off80 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.2.2.2.1 k1_t1 k1_t10 k1_h3 k1_h5
theorem k1_off81_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off81 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.2.2.2.2.1 k1_t1 k1_t10 k1_h3 k1_h5
theorem k1_off82_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off82 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.2.2.2.2.2.1 k1_t1 k1_t10 k1_h3 k1_h5
theorem k1_off83_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t10 : Fin (k1_t10_loop i v29 v31 k1_t1).trips), ∀ (k1_h3 : k1_cond3 i v27 v29 v31 v33 v35 v37 v39 v41 v43 v45 v47 v49 v51 v53 v55 v57 k1_t1 = 1#1), ∀ (k1_h5 : k1_cond5 i v29 v31 k1_t1 = 1#1), ∀ a, (k1_off83 i v29 v31 k1_t1 k1_t10) a + S1x16.size a ≤ S256x128.size a := fun i v27 v29 v31 v33 v35 v37 v39 v41 v43 v45 v47 v49 v51 v53 v55 v57 k1_hw1 k1_t1 k1_t10 k1_h3 k1_h5 => k1_hw1.2.2.1.2.2.2.2.2.2.2.2.2.2.2.2.2.2.2.1 k1_t1 k1_t10 k1_h3 k1_h5
theorem k1_t11_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h6 : k1_cond6 i v31 v33 k1_t1 = 1#1), (k1_t11_loop i v31 v33 k1_t1).OK := fun i v27 v29 v31 v33 v35 v37 v39 v41 v43 v45 v47 v49 v51 v53 v55 v57 k1_hw1 k1_t1 k1_h3 k1_h6 => k1_hw1.2.2.1.2.2.2.2.2.2.2.2.2.2.2.2.2.2.2.2.1 k1_t1 k1_h3 k1_h6
theorem k1_off84_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off84 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.1 k1_t1 k1_t11 k1_h3 k1_h6 r
theorem k1_off85_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off85 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.1 k1_t1 k1_t11 k1_h3 k1_h6 r
theorem k1_off86_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off86 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.2.1 k1_t1 k1_t11 k1_h3 k1_h6 r
theorem k1_off87_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off87 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.2.2.1 k1_t1 k1_t11 k1_h3 k1_h6 r
theorem k1_off88_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off88 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.2.2.2.1 k1_t1 k1_t11 k1_h3 k1_h6 r
theorem k1_off89_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off89 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.2.2.2.2.1 k1_t1 k1_t11 k1_h3 k1_h6 r
theorem k1_off90_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off90 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.2.2.2.2.2.1 k1_t1 k1_t11 k1_h3 k1_h6 r
theorem k1_off91_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t11 : Fin (k1_t11_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off91 i v31 v33 k1_t1 k1_t11 (BitVec.ofNat 32 r.val)) a + S1x16.size a ≤ S256x128.size a := fun i v27 v29 v31 v33 v35 v37 v39 v41 v43 v45 v47 v49 v51 v53 v55 v57 k1_hw1 k1_t1 k1_t11 k1_h3 k1_h6 r => k1_hw1.2.2.1.2.2.2.2.2.2.2.2.2.2.2.2.2.2.2.2.2.2.2.2.2.2.2.2.1 k1_t1 k1_t11 k1_h3 k1_h6 r
theorem k1_t12_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h6 : k1_cond6 i v31 v33 k1_t1 = 1#1), (k1_t12_loop i v31 v33 k1_t1).OK := fun i v27 v29 v31 v33 v35 v37 v39 v41 v43 v45 v47 v49 v51 v53 v55 v57 k1_hw1 k1_t1 k1_h3 k1_h6 => k1_hw1.2.2.1.2.2.2.2.2.2.2.2.2.2.2.2.2.2.2.2.2.2.2.2.2.2.2.2.2.1 k1_t1 k1_h3 k1_h6
theorem k1_off92_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off92 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.1.2.2.2.2.2.2.2.2.2.2.2.2.2.2.2.2.2.2.2.2.2.2.2.2.2.2.1 k1_t1 k1_t12 k1_h3 k1_h6 r
theorem k1_off93_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off93 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.1.2.2.2.2.2.2.2.2.2.2.2.2.2.2.2.2.2.2.2.2.2.2.2.2.2.2.2.1 k1_t1 k1_t12 k1_h3 k1_h6 r
theorem k1_off94_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off94 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.1.2.2.2.2.2.2.2.2.2.2.2.2.2.2.2.2.2.2.2.2.2.2.2.2.2.2.2.2.1 k1_t1 k1_t12 k1_h3 k1_h6 r
theorem k1_off95_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off95 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.1.2.2.2.2.2.2.2.2.2.2.2.2.2.2.2.2.2.2.2.2.2.2.2.2.2.2.2.2.2.1 k1_t1 k1_t12 k1_h3 k1_h6 r
theorem k1_off96_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off96 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.1.2.2.2.2.2.2.2.2.2.2.2.2.2.2.2.2.2.2.2.2.2.2.2.2.2.2.2.2.2.2.1 k1_t1 k1_t12 k1_h3 k1_h6 r
theorem k1_off97_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off97 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.1.2.2.2.2.2.2.2.2.2.2.2.2.2.2.2.2.2.2.2.2.2.2.2.2.2.2.2.2.2.2.2 k1_t1 k1_t12 k1_h3 k1_h6 r
theorem k1_off98_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off98 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.2.1.1 k1_t1 k1_t12 k1_h3 k1_h6 r
theorem k1_off99_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t12 : Fin (k1_t12_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ (r : Fin 4), ∀ a, (k1_off99 i v31 v33 k1_t1 k1_t12 (BitVec.ofNat 32 r.val)) a + S1x16.size a ≤ S256x128.size a := fun i v27 v29 v31 v33 v35 v37 v39 v41 v43 v45 v47 v49 v51 v53 v55 v57 k1_hw1 k1_t1 k1_t12 k1_h3 k1_h6 r => k1_hw1.2.2.2.1.2.1 k1_t1 k1_t12 k1_h3 k1_h6 r
theorem k1_t13_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h6 : k1_cond6 i v31 v33 k1_t1 = 1#1), (k1_t13_loop i v31 v33 k1_t1).OK := fun i v27 v29 v31 v33 v35 v37 v39 v41 v43 v45 v47 v49 v51 v53 v55 v57 k1_hw1 k1_t1 k1_h3 k1_h6 => k1_hw1.2.2.2.1.2.2.1 k1_t1 k1_h3 k1_h6
theorem k1_off100_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off100 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.1 k1_t1 k1_t13 k1_h3 k1_h6
theorem k1_off101_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off101 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.1 k1_t1 k1_t13 k1_h3 k1_h6
theorem k1_off102_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off102 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.2.1 k1_t1 k1_t13 k1_h3 k1_h6
theorem k1_off103_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off103 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.2.2.1 k1_t1 k1_t13 k1_h3 k1_h6
theorem k1_off104_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off104 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.2.2.2.1 k1_t1 k1_t13 k1_h3 k1_h6
theorem k1_off105_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off105 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.2.2.2.2.1 k1_t1 k1_t13 k1_h3 k1_h6
theorem k1_off106_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off106 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.2.2.2.2.2.1 k1_t1 k1_t13 k1_h3 k1_h6
theorem k1_off107_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t13 : Fin (k1_t13_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off107 i v31 v33 k1_t1 k1_t13) a + S1x16.size a ≤ S256x128.size a := fun i v27 v29 v31 v33 v35 v37 v39 v41 v43 v45 v47 v49 v51 v53 v55 v57 k1_hw1 k1_t1 k1_t13 k1_h3 k1_h6 => k1_hw1.2.2.2.1.2.2.2.2.2.2.2.2.2.2.1 k1_t1 k1_t13 k1_h3 k1_h6
theorem k1_t14_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h6 : k1_cond6 i v31 v33 k1_t1 = 1#1), (k1_t14_loop i v31 v33 k1_t1).OK := fun i v27 v29 v31 v33 v35 v37 v39 v41 v43 v45 v47 v49 v51 v53 v55 v57 k1_hw1 k1_t1 k1_h3 k1_h6 => k1_hw1.2.2.2.1.2.2.2.2.2.2.2.2.2.2.2.1 k1_t1 k1_h3 k1_h6
theorem k1_off108_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off108 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.1 k1_t1 k1_t14 k1_h3 k1_h6
theorem k1_off109_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off109 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.1 k1_t1 k1_t14 k1_h3 k1_h6
theorem k1_off110_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off110 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.2.1 k1_t1 k1_t14 k1_h3 k1_h6
theorem k1_off111_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off111 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.2.2.1 k1_t1 k1_t14 k1_h3 k1_h6
theorem k1_off112_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off112 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.2.2.2.1 k1_t1 k1_t14 k1_h3 k1_h6
theorem k1_off113_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off113 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.2.2.2.2.1 k1_t1 k1_t14 k1_h3 k1_h6
theorem k1_off114_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off114 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.2.2.2.2.2.1 k1_t1 k1_t14 k1_h3 k1_h6
theorem k1_off115_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t14 : Fin (k1_t14_loop i v31 v33 k1_t1).trips), ∀ (k1_h3 : k1_cond3 i v27 v29 v31 v33 v35 v37 v39 v41 v43 v45 v47 v49 v51 v53 v55 v57 k1_t1 = 1#1), ∀ (k1_h6 : k1_cond6 i v31 v33 k1_t1 = 1#1), ∀ a, (k1_off115 i v31 v33 k1_t1 k1_t14) a + S1x16.size a ≤ S256x128.size a := fun i v27 v29 v31 v33 v35 v37 v39 v41 v43 v45 v47 v49 v51 v53 v55 v57 k1_hw1 k1_t1 k1_t14 k1_h3 k1_h6 => k1_hw1.2.2.2.1.2.2.2.2.2.2.2.2.2.2.2.2.2.2.2.2.2.2.2.1 k1_t1 k1_t14 k1_h3 k1_h6
theorem k1_t15_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h7 : k1_cond7 i v33 v35 k1_t1 = 1#1), (k1_t15_loop i v33 v35 k1_t1).OK := fun i v27 v29 v31 v33 v35 v37 v39 v41 v43 v45 v47 v49 v51 v53 v55 v57 k1_hw1 k1_t1 k1_h3 k1_h7 => k1_hw1.2.2.2.1.2.2.2.2.2.2.2.2.2.2.2.2.2.2.2.2.2.2.2.2.1 k1_t1 k1_h3 k1_h7
theorem k1_off116_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off116 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.1 k1_t1 k1_t15 k1_h3 k1_h7 r
theorem k1_off117_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off117 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.1 k1_t1 k1_t15 k1_h3 k1_h7 r
theorem k1_off118_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off118 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.2.1 k1_t1 k1_t15 k1_h3 k1_h7 r
theorem k1_off119_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off119 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.2.2.1 k1_t1 k1_t15 k1_h3 k1_h7 r
theorem k1_off120_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off120 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.2.2.2.1 k1_t1 k1_t15 k1_h3 k1_h7 r
theorem k1_off121_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off121 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.2.2.2.2.1 k1_t1 k1_t15 k1_h3 k1_h7 r
theorem k1_off122_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off122 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.2.2.2.2.2.1 k1_t1 k1_t15 k1_h3 k1_h7 r
theorem k1_off123_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t15 : Fin (k1_t15_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off123 i v33 v35 k1_t1 k1_t15 (BitVec.ofNat 32 r.val)) a + S1x16.size a ≤ S256x128.size a := fun i v27 v29 v31 v33 v35 v37 v39 v41 v43 v45 v47 v49 v51 v53 v55 v57 k1_hw1 k1_t1 k1_t15 k1_h3 k1_h7 r => k1_hw1.2.2.2.1.2.2.2.2.2.2.2.2.2.2.2.2.2.2.2.2.2.2.2.2.2.2.2.2.2.2.2.2.1 k1_t1 k1_t15 k1_h3 k1_h7 r
theorem k1_t16_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h7 : k1_cond7 i v33 v35 k1_t1 = 1#1), (k1_t16_loop i v33 v35 k1_t1).OK := fun i v27 v29 v31 v33 v35 v37 v39 v41 v43 v45 v47 v49 v51 v53 v55 v57 k1_hw1 k1_t1 k1_h3 k1_h7 => k1_hw1.2.2.2.1.2.2.2.2.2.2.2.2.2.2.2.2.2.2.2.2.2.2.2.2.2.2.2.2.2.2.2.2.2.1 k1_t1 k1_h3 k1_h7
theorem k1_off124_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off124 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.1.2.2.2.2.2.2.2.2.2.2.2.2.2.2.2.2.2.2.2.2.2.2.2.2.2.2.2.2.2.2.1 k1_t1 k1_t16 k1_h3 k1_h7 r
theorem k1_off125_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off125 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.1.2.2.2.2.2.2.2.2.2.2.2.2.2.2.2.2.2.2.2.2.2.2.2.2.2.2.2.2.2.2.2 k1_t1 k1_t16 k1_h3 k1_h7 r
theorem k1_off126_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off126 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.2.1.1 k1_t1 k1_t16 k1_h3 k1_h7 r
theorem k1_off127_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off127 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.2.1.2.1 k1_t1 k1_t16 k1_h3 k1_h7 r
theorem k1_off128_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off128 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.2.1.2.2.1 k1_t1 k1_t16 k1_h3 k1_h7 r
theorem k1_off129_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off129 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.2.1.2.2.2.1 k1_t1 k1_t16 k1_h3 k1_h7 r
theorem k1_off130_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off130 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.2.1.2.2.2.2.1 k1_t1 k1_t16 k1_h3 k1_h7 r
theorem k1_off131_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t16 : Fin (k1_t16_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ (r : Fin 4), ∀ a, (k1_off131 i v33 v35 k1_t1 k1_t16 (BitVec.ofNat 32 r.val)) a + S1x16.size a ≤ S256x128.size a := fun i v27 v29 v31 v33 v35 v37 v39 v41 v43 v45 v47 v49 v51 v53 v55 v57 k1_hw1 k1_t1 k1_t16 k1_h3 k1_h7 r => k1_hw1.2.2.2.2.1.2.2.2.2.2.1 k1_t1 k1_t16 k1_h3 k1_h7 r
theorem k1_t17_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h7 : k1_cond7 i v33 v35 k1_t1 = 1#1), (k1_t17_loop i v33 v35 k1_t1).OK := fun i v27 v29 v31 v33 v35 v37 v39 v41 v43 v45 v47 v49 v51 v53 v55 v57 k1_hw1 k1_t1 k1_h3 k1_h7 => k1_hw1.2.2.2.2.1.2.2.2.2.2.2.1 k1_t1 k1_h3 k1_h7
theorem k1_off132_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off132 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.1 k1_t1 k1_t17 k1_h3 k1_h7
theorem k1_off133_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off133 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.1 k1_t1 k1_t17 k1_h3 k1_h7
theorem k1_off134_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off134 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.2.1 k1_t1 k1_t17 k1_h3 k1_h7
theorem k1_off135_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off135 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.2.2.1 k1_t1 k1_t17 k1_h3 k1_h7
theorem k1_off136_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off136 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.2.2.2.1 k1_t1 k1_t17 k1_h3 k1_h7
theorem k1_off137_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off137 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.2.2.2.2.1 k1_t1 k1_t17 k1_h3 k1_h7
theorem k1_off138_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off138 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.2.2.2.2.2.1 k1_t1 k1_t17 k1_h3 k1_h7
theorem k1_off139_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t17 : Fin (k1_t17_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off139 i v33 v35 k1_t1 k1_t17) a + S1x16.size a ≤ S256x128.size a := fun i v27 v29 v31 v33 v35 v37 v39 v41 v43 v45 v47 v49 v51 v53 v55 v57 k1_hw1 k1_t1 k1_t17 k1_h3 k1_h7 => k1_hw1.2.2.2.2.1.2.2.2.2.2.2.2.2.2.2.2.2.2.2.1 k1_t1 k1_t17 k1_h3 k1_h7
theorem k1_t18_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h7 : k1_cond7 i v33 v35 k1_t1 = 1#1), (k1_t18_loop i v33 v35 k1_t1).OK := fun i v27 v29 v31 v33 v35 v37 v39 v41 v43 v45 v47 v49 v51 v53 v55 v57 k1_hw1 k1_t1 k1_h3 k1_h7 => k1_hw1.2.2.2.2.1.2.2.2.2.2.2.2.2.2.2.2.2.2.2.2.1 k1_t1 k1_h3 k1_h7
theorem k1_off140_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off140 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.1 k1_t1 k1_t18 k1_h3 k1_h7
theorem k1_off141_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off141 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.1 k1_t1 k1_t18 k1_h3 k1_h7
theorem k1_off142_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off142 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.2.1 k1_t1 k1_t18 k1_h3 k1_h7
theorem k1_off143_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off143 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.2.2.1 k1_t1 k1_t18 k1_h3 k1_h7
theorem k1_off144_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off144 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.2.2.2.1 k1_t1 k1_t18 k1_h3 k1_h7
theorem k1_off145_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off145 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.2.2.2.2.1 k1_t1 k1_t18 k1_h3 k1_h7
theorem k1_off146_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off146 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.2.2.2.2.2.1 k1_t1 k1_t18 k1_h3 k1_h7
theorem k1_off147_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t18 : Fin (k1_t18_loop i v33 v35 k1_t1).trips), ∀ (k1_h3 : k1_cond3 i v27 v29 v31 v33 v35 v37 v39 v41 v43 v45 v47 v49 v51 v53 v55 v57 k1_t1 = 1#1), ∀ (k1_h7 : k1_cond7 i v33 v35 k1_t1 = 1#1), ∀ a, (k1_off147 i v33 v35 k1_t1 k1_t18) a + S1x16.size a ≤ S256x128.size a := fun i v27 v29 v31 v33 v35 v37 v39 v41 v43 v45 v47 v49 v51 v53 v55 v57 k1_hw1 k1_t1 k1_t18 k1_h3 k1_h7 => k1_hw1.2.2.2.2.1.2.2.2.2.2.2.2.2.2.2.2.2.2.2.2.2.2.2.2.2.2.2.2.1 k1_t1 k1_t18 k1_h3 k1_h7
theorem k1_t19_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h8 : k1_cond8 i v35 v37 k1_t1 = 1#1), (k1_t19_loop i v35 v37 k1_t1).OK := fun i v27 v29 v31 v33 v35 v37 v39 v41 v43 v45 v47 v49 v51 v53 v55 v57 k1_hw1 k1_t1 k1_h3 k1_h8 => k1_hw1.2.2.2.2.1.2.2.2.2.2.2.2.2.2.2.2.2.2.2.2.2.2.2.2.2.2.2.2.2.1 k1_t1 k1_h3 k1_h8
theorem k1_off148_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off148 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.1 k1_t1 k1_t19 k1_h3 k1_h8 r
theorem k1_off149_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off149 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.2.1 k1_t1 k1_t19 k1_h3 k1_h8 r
theorem k1_off150_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off150 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.2.2.1 k1_t1 k1_t19 k1_h3 k1_h8 r
theorem k1_off151_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off151 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.2.2.2.1 k1_t1 k1_t19 k1_h3 k1_h8 r
theorem k1_off152_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off152 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.2.2.2.2.1 k1_t1 k1_t19 k1_h3 k1_h8 r
theorem k1_off153_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off153 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.2.2.2.2.2.1 k1_t1 k1_t19 k1_h3 k1_h8 r
theorem k1_off154_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off154 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.1.2.2.2.2.2.2.2.2.2.2.2.2.2.2.2.2.2.2.2.2.2.2.2.2.2.2.2.2.2.2.2 k1_t1 k1_t19 k1_h3 k1_h8 r
theorem k1_off155_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t19 : Fin (k1_t19_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off155 i v35 v37 k1_t1 k1_t19 (BitVec.ofNat 32 r.val)) a + S1x16.size a ≤ S256x128.size a := fun i v27 v29 v31 v33 v35 v37 v39 v41 v43 v45 v47 v49 v51 v53 v55 v57 k1_hw1 k1_t1 k1_t19 k1_h3 k1_h8 r => k1_hw1.2.2.2.2.2.1.1 k1_t1 k1_t19 k1_h3 k1_h8 r
theorem k1_t20_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h8 : k1_cond8 i v35 v37 k1_t1 = 1#1), (k1_t20_loop i v35 v37 k1_t1).OK := fun i v27 v29 v31 v33 v35 v37 v39 v41 v43 v45 v47 v49 v51 v53 v55 v57 k1_hw1 k1_t1 k1_h3 k1_h8 => k1_hw1.2.2.2.2.2.1.2.1 k1_t1 k1_h3 k1_h8
theorem k1_off156_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off156 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.1 k1_t1 k1_t20 k1_h3 k1_h8 r
theorem k1_off157_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off157 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.1 k1_t1 k1_t20 k1_h3 k1_h8 r
theorem k1_off158_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off158 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.2.1 k1_t1 k1_t20 k1_h3 k1_h8 r
theorem k1_off159_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off159 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.2.2.1 k1_t1 k1_t20 k1_h3 k1_h8 r
theorem k1_off160_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off160 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.2.2.2.1 k1_t1 k1_t20 k1_h3 k1_h8 r
theorem k1_off161_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off161 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.2.2.2.2.1 k1_t1 k1_t20 k1_h3 k1_h8 r
theorem k1_off162_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off162 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.2.2.2.2.2.1 k1_t1 k1_t20 k1_h3 k1_h8 r
theorem k1_off163_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t20 : Fin (k1_t20_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ (r : Fin 4), ∀ a, (k1_off163 i v35 v37 k1_t1 k1_t20 (BitVec.ofNat 32 r.val)) a + S1x16.size a ≤ S256x128.size a := fun i v27 v29 v31 v33 v35 v37 v39 v41 v43 v45 v47 v49 v51 v53 v55 v57 k1_hw1 k1_t1 k1_t20 k1_h3 k1_h8 r => k1_hw1.2.2.2.2.2.1.2.2.2.2.2.2.2.2.2.1 k1_t1 k1_t20 k1_h3 k1_h8 r
theorem k1_t21_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h8 : k1_cond8 i v35 v37 k1_t1 = 1#1), (k1_t21_loop i v35 v37 k1_t1).OK := fun i v27 v29 v31 v33 v35 v37 v39 v41 v43 v45 v47 v49 v51 v53 v55 v57 k1_hw1 k1_t1 k1_h3 k1_h8 => k1_hw1.2.2.2.2.2.1.2.2.2.2.2.2.2.2.2.2.1 k1_t1 k1_h3 k1_h8
theorem k1_off164_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off164 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.1 k1_t1 k1_t21 k1_h3 k1_h8
theorem k1_off165_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off165 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.1 k1_t1 k1_t21 k1_h3 k1_h8
theorem k1_off166_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off166 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.2.1 k1_t1 k1_t21 k1_h3 k1_h8
theorem k1_off167_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off167 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.2.2.1 k1_t1 k1_t21 k1_h3 k1_h8
theorem k1_off168_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off168 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.2.2.2.1 k1_t1 k1_t21 k1_h3 k1_h8
theorem k1_off169_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off169 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.2.2.2.2.1 k1_t1 k1_t21 k1_h3 k1_h8
theorem k1_off170_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off170 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.2.2.2.2.2.1 k1_t1 k1_t21 k1_h3 k1_h8
theorem k1_off171_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t21 : Fin (k1_t21_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off171 i v35 v37 k1_t1 k1_t21) a + S1x16.size a ≤ S256x128.size a := fun i v27 v29 v31 v33 v35 v37 v39 v41 v43 v45 v47 v49 v51 v53 v55 v57 k1_hw1 k1_t1 k1_t21 k1_h3 k1_h8 => k1_hw1.2.2.2.2.2.1.2.2.2.2.2.2.2.2.2.2.2.2.2.2.2.2.2.2.1 k1_t1 k1_t21 k1_h3 k1_h8
theorem k1_t22_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h8 : k1_cond8 i v35 v37 k1_t1 = 1#1), (k1_t22_loop i v35 v37 k1_t1).OK := fun i v27 v29 v31 v33 v35 v37 v39 v41 v43 v45 v47 v49 v51 v53 v55 v57 k1_hw1 k1_t1 k1_h3 k1_h8 => k1_hw1.2.2.2.2.2.1.2.2.2.2.2.2.2.2.2.2.2.2.2.2.2.2.2.2.2.1 k1_t1 k1_h3 k1_h8
theorem k1_off172_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off172 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.1 k1_t1 k1_t22 k1_h3 k1_h8
theorem k1_off173_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off173 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.1 k1_t1 k1_t22 k1_h3 k1_h8
theorem k1_off174_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off174 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.2.1 k1_t1 k1_t22 k1_h3 k1_h8
theorem k1_off175_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off175 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.2.2.1 k1_t1 k1_t22 k1_h3 k1_h8
theorem k1_off176_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off176 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.2.2.2.1 k1_t1 k1_t22 k1_h3 k1_h8
theorem k1_off177_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off177 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.2.2.2.2.1 k1_t1 k1_t22 k1_h3 k1_h8
theorem k1_off178_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off178 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.2.2.2.2.2.1 k1_t1 k1_t22 k1_h3 k1_h8
theorem k1_off179_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t22 : Fin (k1_t22_loop i v35 v37 k1_t1).trips), ∀ (k1_h3 : k1_cond3 i v27 v29 v31 v33 v35 v37 v39 v41 v43 v45 v47 v49 v51 v53 v55 v57 k1_t1 = 1#1), ∀ (k1_h8 : k1_cond8 i v35 v37 k1_t1 = 1#1), ∀ a, (k1_off179 i v35 v37 k1_t1 k1_t22) a + S1x16.size a ≤ S256x128.size a := fun i v27 v29 v31 v33 v35 v37 v39 v41 v43 v45 v47 v49 v51 v53 v55 v57 k1_hw1 k1_t1 k1_t22 k1_h3 k1_h8 => k1_hw1.2.2.2.2.2.1.2.2.2.2.2.2.2.2.2.2.2.2.2.2.2.2.2.2.2.2.2.2.2.2.2.2.2.1 k1_t1 k1_t22 k1_h3 k1_h8
theorem k1_t23_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h9 : k1_cond9 i v37 v39 k1_t1 = 1#1), (k1_t23_loop i v37 v39 k1_t1).OK := fun i v27 v29 v31 v33 v35 v37 v39 v41 v43 v45 v47 v49 v51 v53 v55 v57 k1_hw1 k1_t1 k1_h3 k1_h9 => k1_hw1.2.2.2.2.2.1.2.2.2.2.2.2.2.2.2.2.2.2.2.2.2.2.2.2.2.2.2.2.2.2.2.2.2.2.1 k1_t1 k1_h3 k1_h9
theorem k1_off180_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off180 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.1.2.2.2.2.2.2.2.2.2.2.2.2.2.2.2.2.2.2.2.2.2.2.2.2.2.2.2.2.2.1 k1_t1 k1_t23 k1_h3 k1_h9 r
theorem k1_off181_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off181 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.1.2.2.2.2.2.2.2.2.2.2.2.2.2.2.2.2.2.2.2.2.2.2.2.2.2.2.2.2.2.2.1 k1_t1 k1_t23 k1_h3 k1_h9 r
theorem k1_off182_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off182 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.1.2.2.2.2.2.2.2.2.2.2.2.2.2.2.2.2.2.2.2.2.2.2.2.2.2.2.2.2.2.2.2 k1_t1 k1_t23 k1_h3 k1_h9 r
theorem k1_off183_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off183 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.2.1.1 k1_t1 k1_t23 k1_h3 k1_h9 r
theorem k1_off184_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off184 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.2.1.2.1 k1_t1 k1_t23 k1_h3 k1_h9 r
theorem k1_off185_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off185 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.2.1.2.2.1 k1_t1 k1_t23 k1_h3 k1_h9 r
theorem k1_off186_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off186 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.2.1.2.2.2.1 k1_t1 k1_t23 k1_h3 k1_h9 r
theorem k1_off187_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t23 : Fin (k1_t23_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off187 i v37 v39 k1_t1 k1_t23 (BitVec.ofNat 32 r.val)) a + S1x16.size a ≤ S256x128.size a := fun i v27 v29 v31 v33 v35 v37 v39 v41 v43 v45 v47 v49 v51 v53 v55 v57 k1_hw1 k1_t1 k1_t23 k1_h3 k1_h9 r => k1_hw1.2.2.2.2.2.2.1.2.2.2.2.1 k1_t1 k1_t23 k1_h3 k1_h9 r
theorem k1_t24_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h9 : k1_cond9 i v37 v39 k1_t1 = 1#1), (k1_t24_loop i v37 v39 k1_t1).OK := fun i v27 v29 v31 v33 v35 v37 v39 v41 v43 v45 v47 v49 v51 v53 v55 v57 k1_hw1 k1_t1 k1_h3 k1_h9 => k1_hw1.2.2.2.2.2.2.1.2.2.2.2.2.1 k1_t1 k1_h3 k1_h9
theorem k1_off188_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off188 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.1 k1_t1 k1_t24 k1_h3 k1_h9 r
theorem k1_off189_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off189 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.1 k1_t1 k1_t24 k1_h3 k1_h9 r
theorem k1_off190_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off190 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.2.1 k1_t1 k1_t24 k1_h3 k1_h9 r
theorem k1_off191_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off191 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.2.2.1 k1_t1 k1_t24 k1_h3 k1_h9 r
theorem k1_off192_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off192 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.2.2.2.1 k1_t1 k1_t24 k1_h3 k1_h9 r
theorem k1_off193_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off193 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.2.2.2.2.1 k1_t1 k1_t24 k1_h3 k1_h9 r
theorem k1_off194_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off194 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.2.2.2.2.2.1 k1_t1 k1_t24 k1_h3 k1_h9 r
theorem k1_off195_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t24 : Fin (k1_t24_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ (r : Fin 4), ∀ a, (k1_off195 i v37 v39 k1_t1 k1_t24 (BitVec.ofNat 32 r.val)) a + S1x16.size a ≤ S256x128.size a := fun i v27 v29 v31 v33 v35 v37 v39 v41 v43 v45 v47 v49 v51 v53 v55 v57 k1_hw1 k1_t1 k1_t24 k1_h3 k1_h9 r => k1_hw1.2.2.2.2.2.2.1.2.2.2.2.2.2.2.2.2.2.2.2.2.1 k1_t1 k1_t24 k1_h3 k1_h9 r
theorem k1_t25_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h9 : k1_cond9 i v37 v39 k1_t1 = 1#1), (k1_t25_loop i v37 v39 k1_t1).OK := fun i v27 v29 v31 v33 v35 v37 v39 v41 v43 v45 v47 v49 v51 v53 v55 v57 k1_hw1 k1_t1 k1_h3 k1_h9 => k1_hw1.2.2.2.2.2.2.1.2.2.2.2.2.2.2.2.2.2.2.2.2.2.1 k1_t1 k1_h3 k1_h9
theorem k1_off196_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off196 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.1 k1_t1 k1_t25 k1_h3 k1_h9
theorem k1_off197_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off197 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.1 k1_t1 k1_t25 k1_h3 k1_h9
theorem k1_off198_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off198 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.2.1 k1_t1 k1_t25 k1_h3 k1_h9
theorem k1_off199_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off199 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.2.2.1 k1_t1 k1_t25 k1_h3 k1_h9
theorem k1_off200_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off200 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.2.2.2.1 k1_t1 k1_t25 k1_h3 k1_h9
theorem k1_off201_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off201 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.2.2.2.2.1 k1_t1 k1_t25 k1_h3 k1_h9
theorem k1_off202_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off202 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.2.2.2.2.2.1 k1_t1 k1_t25 k1_h3 k1_h9
theorem k1_off203_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t25 : Fin (k1_t25_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off203 i v37 v39 k1_t1 k1_t25) a + S1x16.size a ≤ S256x128.size a := fun i v27 v29 v31 v33 v35 v37 v39 v41 v43 v45 v47 v49 v51 v53 v55 v57 k1_hw1 k1_t1 k1_t25 k1_h3 k1_h9 => k1_hw1.2.2.2.2.2.2.1.2.2.2.2.2.2.2.2.2.2.2.2.2.2.2.2.2.2.2.2.2.2.1 k1_t1 k1_t25 k1_h3 k1_h9
theorem k1_t26_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h9 : k1_cond9 i v37 v39 k1_t1 = 1#1), (k1_t26_loop i v37 v39 k1_t1).OK := fun i v27 v29 v31 v33 v35 v37 v39 v41 v43 v45 v47 v49 v51 v53 v55 v57 k1_hw1 k1_t1 k1_h3 k1_h9 => k1_hw1.2.2.2.2.2.2.1.2.2.2.2.2.2.2.2.2.2.2.2.2.2.2.2.2.2.2.2.2.2.2.1 k1_t1 k1_h3 k1_h9
theorem k1_off204_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off204 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.1 k1_t1 k1_t26 k1_h3 k1_h9
theorem k1_off205_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off205 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.1 k1_t1 k1_t26 k1_h3 k1_h9
theorem k1_off206_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off206 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.2.1 k1_t1 k1_t26 k1_h3 k1_h9
theorem k1_off207_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off207 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.2.2.1 k1_t1 k1_t26 k1_h3 k1_h9
theorem k1_off208_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off208 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.2.2.2.1 k1_t1 k1_t26 k1_h3 k1_h9
theorem k1_off209_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off209 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.2.2.2.2.1 k1_t1 k1_t26 k1_h3 k1_h9
theorem k1_off210_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off210 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.2.2.2.2.2.1 k1_t1 k1_t26 k1_h3 k1_h9
theorem k1_off211_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t26 : Fin (k1_t26_loop i v37 v39 k1_t1).trips), ∀ (k1_h3 : k1_cond3 i v27 v29 v31 v33 v35 v37 v39 v41 v43 v45 v47 v49 v51 v53 v55 v57 k1_t1 = 1#1), ∀ (k1_h9 : k1_cond9 i v37 v39 k1_t1 = 1#1), ∀ a, (k1_off211 i v37 v39 k1_t1 k1_t26) a + S1x16.size a ≤ S256x128.size a := fun i v27 v29 v31 v33 v35 v37 v39 v41 v43 v45 v47 v49 v51 v53 v55 v57 k1_hw1 k1_t1 k1_t26 k1_h3 k1_h9 => k1_hw1.2.2.2.2.2.2.1.2.2.2.2.2.2.2.2.2.2.2.2.2.2.2.2.2.2.2.2.2.2.2.2.2.2.2.2.2.2.2 k1_t1 k1_t26 k1_h3 k1_h9
theorem k1_t27_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h10 : k1_cond10 i v39 v41 k1_t1 = 1#1), (k1_t27_loop i v39 v41 k1_t1).OK := fun i v27 v29 v31 v33 v35 v37 v39 v41 v43 v45 v47 v49 v51 v53 v55 v57 k1_hw1 k1_t1 k1_h3 k1_h10 => k1_hw1.2.2.2.2.2.2.2.1.1 k1_t1 k1_h3 k1_h10
theorem k1_off212_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off212 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.1 k1_t1 k1_t27 k1_h3 k1_h10 r
theorem k1_off213_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off213 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.1 k1_t1 k1_t27 k1_h3 k1_h10 r
theorem k1_off214_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off214 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.2.1 k1_t1 k1_t27 k1_h3 k1_h10 r
theorem k1_off215_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off215 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.2.2.1 k1_t1 k1_t27 k1_h3 k1_h10 r
theorem k1_off216_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off216 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.2.2.2.1 k1_t1 k1_t27 k1_h3 k1_h10 r
theorem k1_off217_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off217 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.2.2.2.2.1 k1_t1 k1_t27 k1_h3 k1_h10 r
theorem k1_off218_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off218 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.2.2.2.2.2.1 k1_t1 k1_t27 k1_h3 k1_h10 r
theorem k1_off219_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t27 : Fin (k1_t27_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off219 i v39 v41 k1_t1 k1_t27 (BitVec.ofNat 32 r.val)) a + S1x16.size a ≤ S256x128.size a := fun i v27 v29 v31 v33 v35 v37 v39 v41 v43 v45 v47 v49 v51 v53 v55 v57 k1_hw1 k1_t1 k1_t27 k1_h3 k1_h10 r => k1_hw1.2.2.2.2.2.2.2.1.2.2.2.2.2.2.2.2.1 k1_t1 k1_t27 k1_h3 k1_h10 r
theorem k1_t28_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h10 : k1_cond10 i v39 v41 k1_t1 = 1#1), (k1_t28_loop i v39 v41 k1_t1).OK := fun i v27 v29 v31 v33 v35 v37 v39 v41 v43 v45 v47 v49 v51 v53 v55 v57 k1_hw1 k1_t1 k1_h3 k1_h10 => k1_hw1.2.2.2.2.2.2.2.1.2.2.2.2.2.2.2.2.2.1 k1_t1 k1_h3 k1_h10
theorem k1_off220_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off220 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.1 k1_t1 k1_t28 k1_h3 k1_h10 r
theorem k1_off221_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off221 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.1 k1_t1 k1_t28 k1_h3 k1_h10 r
theorem k1_off222_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off222 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.2.1 k1_t1 k1_t28 k1_h3 k1_h10 r
theorem k1_off223_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off223 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.2.2.1 k1_t1 k1_t28 k1_h3 k1_h10 r
theorem k1_off224_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off224 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.2.2.2.1 k1_t1 k1_t28 k1_h3 k1_h10 r
theorem k1_off225_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off225 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.2.2.2.2.1 k1_t1 k1_t28 k1_h3 k1_h10 r
theorem k1_off226_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off226 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.2.2.2.2.2.1 k1_t1 k1_t28 k1_h3 k1_h10 r
theorem k1_off227_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t28 : Fin (k1_t28_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ (r : Fin 4), ∀ a, (k1_off227 i v39 v41 k1_t1 k1_t28 (BitVec.ofNat 32 r.val)) a + S1x16.size a ≤ S256x128.size a := fun i v27 v29 v31 v33 v35 v37 v39 v41 v43 v45 v47 v49 v51 v53 v55 v57 k1_hw1 k1_t1 k1_t28 k1_h3 k1_h10 r => k1_hw1.2.2.2.2.2.2.2.1.2.2.2.2.2.2.2.2.2.2.2.2.2.2.2.2.2.1 k1_t1 k1_t28 k1_h3 k1_h10 r
theorem k1_t29_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h10 : k1_cond10 i v39 v41 k1_t1 = 1#1), (k1_t29_loop i v39 v41 k1_t1).OK := fun i v27 v29 v31 v33 v35 v37 v39 v41 v43 v45 v47 v49 v51 v53 v55 v57 k1_hw1 k1_t1 k1_h3 k1_h10 => k1_hw1.2.2.2.2.2.2.2.1.2.2.2.2.2.2.2.2.2.2.2.2.2.2.2.2.2.2.1 k1_t1 k1_h3 k1_h10
theorem k1_off228_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off228 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.1 k1_t1 k1_t29 k1_h3 k1_h10
theorem k1_off229_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off229 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.1 k1_t1 k1_t29 k1_h3 k1_h10
theorem k1_off230_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off230 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.2.1 k1_t1 k1_t29 k1_h3 k1_h10
theorem k1_off231_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off231 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.2.2.1 k1_t1 k1_t29 k1_h3 k1_h10
theorem k1_off232_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off232 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.2.2.2.1 k1_t1 k1_t29 k1_h3 k1_h10
theorem k1_off233_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off233 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.2.2.2.2.1 k1_t1 k1_t29 k1_h3 k1_h10
theorem k1_off234_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off234 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.2.2.2.2.2.1 k1_t1 k1_t29 k1_h3 k1_h10
theorem k1_off235_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t29 : Fin (k1_t29_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off235 i v39 v41 k1_t1 k1_t29) a + S1x16.size a ≤ S256x128.size a := fun i v27 v29 v31 v33 v35 v37 v39 v41 v43 v45 v47 v49 v51 v53 v55 v57 k1_hw1 k1_t1 k1_t29 k1_h3 k1_h10 => k1_hw1.2.2.2.2.2.2.2.1.2.2.2.2.2.2.2.2.2.2.2.2.2.2.2.2.2.2.2.2.2.2.2.2.2.2.1 k1_t1 k1_t29 k1_h3 k1_h10
theorem k1_t30_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h10 : k1_cond10 i v39 v41 k1_t1 = 1#1), (k1_t30_loop i v39 v41 k1_t1).OK := fun i v27 v29 v31 v33 v35 v37 v39 v41 v43 v45 v47 v49 v51 v53 v55 v57 k1_hw1 k1_t1 k1_h3 k1_h10 => k1_hw1.2.2.2.2.2.2.2.1.2.2.2.2.2.2.2.2.2.2.2.2.2.2.2.2.2.2.2.2.2.2.2.2.2.2.2.1 k1_t1 k1_h3 k1_h10
theorem k1_off236_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off236 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.1.2.2.2.2.2.2.2.2.2.2.2.2.2.2.2.2.2.2.2.2.2.2.2.2.2.2.2.2.1 k1_t1 k1_t30 k1_h3 k1_h10
theorem k1_off237_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off237 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.1.2.2.2.2.2.2.2.2.2.2.2.2.2.2.2.2.2.2.2.2.2.2.2.2.2.2.2.2.2.1 k1_t1 k1_t30 k1_h3 k1_h10
theorem k1_off238_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off238 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.1.2.2.2.2.2.2.2.2.2.2.2.2.2.2.2.2.2.2.2.2.2.2.2.2.2.2.2.2.2.2.1 k1_t1 k1_t30 k1_h3 k1_h10
theorem k1_off239_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off239 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.1.2.2.2.2.2.2.2.2.2.2.2.2.2.2.2.2.2.2.2.2.2.2.2.2.2.2.2.2.2.2.2 k1_t1 k1_t30 k1_h3 k1_h10
theorem k1_off240_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off240 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.2.1.1 k1_t1 k1_t30 k1_h3 k1_h10
theorem k1_off241_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off241 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.2.1.2.1 k1_t1 k1_t30 k1_h3 k1_h10
theorem k1_off242_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off242 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.2.1.2.2.1 k1_t1 k1_t30 k1_h3 k1_h10
theorem k1_off243_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t30 : Fin (k1_t30_loop i v39 v41 k1_t1).trips), ∀ (k1_h3 : k1_cond3 i v27 v29 v31 v33 v35 v37 v39 v41 v43 v45 v47 v49 v51 v53 v55 v57 k1_t1 = 1#1), ∀ (k1_h10 : k1_cond10 i v39 v41 k1_t1 = 1#1), ∀ a, (k1_off243 i v39 v41 k1_t1 k1_t30) a + S1x16.size a ≤ S256x128.size a := fun i v27 v29 v31 v33 v35 v37 v39 v41 v43 v45 v47 v49 v51 v53 v55 v57 k1_hw1 k1_t1 k1_t30 k1_h3 k1_h10 => k1_hw1.2.2.2.2.2.2.2.2.1.2.2.2.1 k1_t1 k1_t30 k1_h3 k1_h10
theorem k1_t31_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h11 : k1_cond11 i v41 v43 k1_t1 = 1#1), (k1_t31_loop i v41 v43 k1_t1).OK := fun i v27 v29 v31 v33 v35 v37 v39 v41 v43 v45 v47 v49 v51 v53 v55 v57 k1_hw1 k1_t1 k1_h3 k1_h11 => k1_hw1.2.2.2.2.2.2.2.2.1.2.2.2.2.1 k1_t1 k1_h3 k1_h11
theorem k1_off244_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off244 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.1 k1_t1 k1_t31 k1_h3 k1_h11 r
theorem k1_off245_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off245 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.1 k1_t1 k1_t31 k1_h3 k1_h11 r
theorem k1_off246_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off246 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.2.1 k1_t1 k1_t31 k1_h3 k1_h11 r
theorem k1_off247_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off247 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.2.2.1 k1_t1 k1_t31 k1_h3 k1_h11 r
theorem k1_off248_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off248 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.2.2.2.1 k1_t1 k1_t31 k1_h3 k1_h11 r
theorem k1_off249_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off249 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.2.2.2.2.1 k1_t1 k1_t31 k1_h3 k1_h11 r
theorem k1_off250_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off250 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.2.2.2.2.2.1 k1_t1 k1_t31 k1_h3 k1_h11 r
theorem k1_off251_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t31 : Fin (k1_t31_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off251 i v41 v43 k1_t1 k1_t31 (BitVec.ofNat 32 r.val)) a + S1x16.size a ≤ S256x128.size a := fun i v27 v29 v31 v33 v35 v37 v39 v41 v43 v45 v47 v49 v51 v53 v55 v57 k1_hw1 k1_t1 k1_t31 k1_h3 k1_h11 r => k1_hw1.2.2.2.2.2.2.2.2.1.2.2.2.2.2.2.2.2.2.2.2.2.1 k1_t1 k1_t31 k1_h3 k1_h11 r
theorem k1_t32_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h11 : k1_cond11 i v41 v43 k1_t1 = 1#1), (k1_t32_loop i v41 v43 k1_t1).OK := fun i v27 v29 v31 v33 v35 v37 v39 v41 v43 v45 v47 v49 v51 v53 v55 v57 k1_hw1 k1_t1 k1_h3 k1_h11 => k1_hw1.2.2.2.2.2.2.2.2.1.2.2.2.2.2.2.2.2.2.2.2.2.2.1 k1_t1 k1_h3 k1_h11
theorem k1_off252_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off252 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.1 k1_t1 k1_t32 k1_h3 k1_h11 r
theorem k1_off253_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off253 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.1 k1_t1 k1_t32 k1_h3 k1_h11 r
theorem k1_off254_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off254 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.2.1 k1_t1 k1_t32 k1_h3 k1_h11 r
theorem k1_off255_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off255 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.2.2.1 k1_t1 k1_t32 k1_h3 k1_h11 r
theorem k1_off256_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off256 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.2.2.2.1 k1_t1 k1_t32 k1_h3 k1_h11 r
theorem k1_off257_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off257 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.2.2.2.2.1 k1_t1 k1_t32 k1_h3 k1_h11 r
theorem k1_off258_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off258 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.2.2.2.2.2.1 k1_t1 k1_t32 k1_h3 k1_h11 r
theorem k1_off259_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t32 : Fin (k1_t32_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ (r : Fin 4), ∀ a, (k1_off259 i v41 v43 k1_t1 k1_t32 (BitVec.ofNat 32 r.val)) a + S1x16.size a ≤ S256x128.size a := fun i v27 v29 v31 v33 v35 v37 v39 v41 v43 v45 v47 v49 v51 v53 v55 v57 k1_hw1 k1_t1 k1_t32 k1_h3 k1_h11 r => k1_hw1.2.2.2.2.2.2.2.2.1.2.2.2.2.2.2.2.2.2.2.2.2.2.2.2.2.2.2.2.2.2.1 k1_t1 k1_t32 k1_h3 k1_h11 r
theorem k1_t33_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h11 : k1_cond11 i v41 v43 k1_t1 = 1#1), (k1_t33_loop i v41 v43 k1_t1).OK := fun i v27 v29 v31 v33 v35 v37 v39 v41 v43 v45 v47 v49 v51 v53 v55 v57 k1_hw1 k1_t1 k1_h3 k1_h11 => k1_hw1.2.2.2.2.2.2.2.2.1.2.2.2.2.2.2.2.2.2.2.2.2.2.2.2.2.2.2.2.2.2.2.1 k1_t1 k1_h3 k1_h11
theorem k1_off260_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off260 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.1 k1_t1 k1_t33 k1_h3 k1_h11
theorem k1_off261_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off261 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.1 k1_t1 k1_t33 k1_h3 k1_h11
theorem k1_off262_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off262 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.2.1 k1_t1 k1_t33 k1_h3 k1_h11
theorem k1_off263_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off263 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.2.2.1 k1_t1 k1_t33 k1_h3 k1_h11
theorem k1_off264_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off264 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.2.2.2.1 k1_t1 k1_t33 k1_h3 k1_h11
theorem k1_off265_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off265 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.2.2.2.2.1 k1_t1 k1_t33 k1_h3 k1_h11
theorem k1_off266_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off266 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.2.2.2.2.2.1 k1_t1 k1_t33 k1_h3 k1_h11
theorem k1_off267_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t33 : Fin (k1_t33_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off267 i v41 v43 k1_t1 k1_t33) a + S1x16.size a ≤ S256x128.size a := fun i v27 v29 v31 v33 v35 v37 v39 v41 v43 v45 v47 v49 v51 v53 v55 v57 k1_hw1 k1_t1 k1_t33 k1_h3 k1_h11 => k1_hw1.2.2.2.2.2.2.2.2.1.2.2.2.2.2.2.2.2.2.2.2.2.2.2.2.2.2.2.2.2.2.2.2.2.2.2.2.2.2.2.1 k1_t1 k1_t33 k1_h3 k1_h11
theorem k1_t34_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h11 : k1_cond11 i v41 v43 k1_t1 = 1#1), (k1_t34_loop i v41 v43 k1_t1).OK := fun i v27 v29 v31 v33 v35 v37 v39 v41 v43 v45 v47 v49 v51 v53 v55 v57 k1_hw1 k1_t1 k1_h3 k1_h11 => k1_hw1.2.2.2.2.2.2.2.2.1.2.2.2.2.2.2.2.2.2.2.2.2.2.2.2.2.2.2.2.2.2.2.2.2.2.2.2.2.2.2.2 k1_t1 k1_h3 k1_h11
theorem k1_off268_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off268 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.1 k1_t1 k1_t34 k1_h3 k1_h11
theorem k1_off269_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off269 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.1 k1_t1 k1_t34 k1_h3 k1_h11
theorem k1_off270_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off270 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.2.1 k1_t1 k1_t34 k1_h3 k1_h11
theorem k1_off271_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off271 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.2.2.1 k1_t1 k1_t34 k1_h3 k1_h11
theorem k1_off272_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off272 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.2.2.2.1 k1_t1 k1_t34 k1_h3 k1_h11
theorem k1_off273_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off273 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.2.2.2.2.1 k1_t1 k1_t34 k1_h3 k1_h11
theorem k1_off274_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off274 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.2.2.2.2.2.1 k1_t1 k1_t34 k1_h3 k1_h11
theorem k1_off275_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t34 : Fin (k1_t34_loop i v41 v43 k1_t1).trips), ∀ (k1_h3 : k1_cond3 i v27 v29 v31 v33 v35 v37 v39 v41 v43 v45 v47 v49 v51 v53 v55 v57 k1_t1 = 1#1), ∀ (k1_h11 : k1_cond11 i v41 v43 k1_t1 = 1#1), ∀ a, (k1_off275 i v41 v43 k1_t1 k1_t34) a + S1x16.size a ≤ S256x128.size a := fun i v27 v29 v31 v33 v35 v37 v39 v41 v43 v45 v47 v49 v51 v53 v55 v57 k1_hw1 k1_t1 k1_t34 k1_h3 k1_h11 => k1_hw1.2.2.2.2.2.2.2.2.2.1.2.2.2.2.2.2.2.1 k1_t1 k1_t34 k1_h3 k1_h11
theorem k1_t35_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h12 : k1_cond12 i v43 v45 k1_t1 = 1#1), (k1_t35_loop i v43 v45 k1_t1).OK := fun i v27 v29 v31 v33 v35 v37 v39 v41 v43 v45 v47 v49 v51 v53 v55 v57 k1_hw1 k1_t1 k1_h3 k1_h12 => k1_hw1.2.2.2.2.2.2.2.2.2.1.2.2.2.2.2.2.2.2.1 k1_t1 k1_h3 k1_h12
theorem k1_off276_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off276 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.1 k1_t1 k1_t35 k1_h3 k1_h12 r
theorem k1_off277_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off277 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.1 k1_t1 k1_t35 k1_h3 k1_h12 r
theorem k1_off278_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off278 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.2.1 k1_t1 k1_t35 k1_h3 k1_h12 r
theorem k1_off279_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off279 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.2.2.1 k1_t1 k1_t35 k1_h3 k1_h12 r
theorem k1_off280_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off280 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.2.2.2.1 k1_t1 k1_t35 k1_h3 k1_h12 r
theorem k1_off281_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off281 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.2.2.2.2.1 k1_t1 k1_t35 k1_h3 k1_h12 r
theorem k1_off282_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off282 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.2.2.2.2.2.1 k1_t1 k1_t35 k1_h3 k1_h12 r
theorem k1_off283_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t35 : Fin (k1_t35_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off283 i v43 v45 k1_t1 k1_t35 (BitVec.ofNat 32 r.val)) a + S1x16.size a ≤ S256x128.size a := fun i v27 v29 v31 v33 v35 v37 v39 v41 v43 v45 v47 v49 v51 v53 v55 v57 k1_hw1 k1_t1 k1_t35 k1_h3 k1_h12 r => k1_hw1.2.2.2.2.2.2.2.2.2.1.2.2.2.2.2.2.2.2.2.2.2.2.2.2.2.2.1 k1_t1 k1_t35 k1_h3 k1_h12 r
theorem k1_t36_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h12 : k1_cond12 i v43 v45 k1_t1 = 1#1), (k1_t36_loop i v43 v45 k1_t1).OK := fun i v27 v29 v31 v33 v35 v37 v39 v41 v43 v45 v47 v49 v51 v53 v55 v57 k1_hw1 k1_t1 k1_h3 k1_h12 => k1_hw1.2.2.2.2.2.2.2.2.2.1.2.2.2.2.2.2.2.2.2.2.2.2.2.2.2.2.2.1 k1_t1 k1_h3 k1_h12
theorem k1_off284_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off284 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.1 k1_t1 k1_t36 k1_h3 k1_h12 r
theorem k1_off285_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off285 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.1 k1_t1 k1_t36 k1_h3 k1_h12 r
theorem k1_off286_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off286 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.2.1 k1_t1 k1_t36 k1_h3 k1_h12 r
theorem k1_off287_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off287 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.2.2.1 k1_t1 k1_t36 k1_h3 k1_h12 r
theorem k1_off288_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off288 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.2.2.2.1 k1_t1 k1_t36 k1_h3 k1_h12 r
theorem k1_off289_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off289 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.2.2.2.2.1 k1_t1 k1_t36 k1_h3 k1_h12 r
theorem k1_off290_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off290 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.2.2.2.2.2.1 k1_t1 k1_t36 k1_h3 k1_h12 r
theorem k1_off291_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t36 : Fin (k1_t36_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ (r : Fin 4), ∀ a, (k1_off291 i v43 v45 k1_t1 k1_t36 (BitVec.ofNat 32 r.val)) a + S1x16.size a ≤ S256x128.size a := fun i v27 v29 v31 v33 v35 v37 v39 v41 v43 v45 v47 v49 v51 v53 v55 v57 k1_hw1 k1_t1 k1_t36 k1_h3 k1_h12 r => k1_hw1.2.2.2.2.2.2.2.2.2.1.2.2.2.2.2.2.2.2.2.2.2.2.2.2.2.2.2.2.2.2.2.2.2.2.2.1 k1_t1 k1_t36 k1_h3 k1_h12 r
theorem k1_t37_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h12 : k1_cond12 i v43 v45 k1_t1 = 1#1), (k1_t37_loop i v43 v45 k1_t1).OK := fun i v27 v29 v31 v33 v35 v37 v39 v41 v43 v45 v47 v49 v51 v53 v55 v57 k1_hw1 k1_t1 k1_h3 k1_h12 => k1_hw1.2.2.2.2.2.2.2.2.2.1.2.2.2.2.2.2.2.2.2.2.2.2.2.2.2.2.2.2.2.2.2.2.2.2.2.2.1 k1_t1 k1_h3 k1_h12
theorem k1_off292_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off292 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.1.2.2.2.2.2.2.2.2.2.2.2.2.2.2.2.2.2.2.2.2.2.2.2.2.2.2.2.1 k1_t1 k1_t37 k1_h3 k1_h12
theorem k1_off293_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off293 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.1.2.2.2.2.2.2.2.2.2.2.2.2.2.2.2.2.2.2.2.2.2.2.2.2.2.2.2.2.1 k1_t1 k1_t37 k1_h3 k1_h12
theorem k1_off294_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off294 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.1.2.2.2.2.2.2.2.2.2.2.2.2.2.2.2.2.2.2.2.2.2.2.2.2.2.2.2.2.2.1 k1_t1 k1_t37 k1_h3 k1_h12
theorem k1_off295_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off295 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.1.2.2.2.2.2.2.2.2.2.2.2.2.2.2.2.2.2.2.2.2.2.2.2.2.2.2.2.2.2.2.1 k1_t1 k1_t37 k1_h3 k1_h12
theorem k1_off296_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off296 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.1.2.2.2.2.2.2.2.2.2.2.2.2.2.2.2.2.2.2.2.2.2.2.2.2.2.2.2.2.2.2.2 k1_t1 k1_t37 k1_h3 k1_h12
theorem k1_off297_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off297 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.2.1.1 k1_t1 k1_t37 k1_h3 k1_h12
theorem k1_off298_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off298 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.2.1.2.1 k1_t1 k1_t37 k1_h3 k1_h12
theorem k1_off299_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t37 : Fin (k1_t37_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off299 i v43 v45 k1_t1 k1_t37) a + S1x16.size a ≤ S256x128.size a := fun i v27 v29 v31 v33 v35 v37 v39 v41 v43 v45 v47 v49 v51 v53 v55 v57 k1_hw1 k1_t1 k1_t37 k1_h3 k1_h12 => k1_hw1.2.2.2.2.2.2.2.2.2.2.1.2.2.1 k1_t1 k1_t37 k1_h3 k1_h12
theorem k1_t38_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h12 : k1_cond12 i v43 v45 k1_t1 = 1#1), (k1_t38_loop i v43 v45 k1_t1).OK := fun i v27 v29 v31 v33 v35 v37 v39 v41 v43 v45 v47 v49 v51 v53 v55 v57 k1_hw1 k1_t1 k1_h3 k1_h12 => k1_hw1.2.2.2.2.2.2.2.2.2.2.1.2.2.2.1 k1_t1 k1_h3 k1_h12
theorem k1_off300_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off300 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.1 k1_t1 k1_t38 k1_h3 k1_h12
theorem k1_off301_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off301 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.1 k1_t1 k1_t38 k1_h3 k1_h12
theorem k1_off302_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off302 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.2.1 k1_t1 k1_t38 k1_h3 k1_h12
theorem k1_off303_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off303 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.2.2.1 k1_t1 k1_t38 k1_h3 k1_h12
theorem k1_off304_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off304 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.2.2.2.1 k1_t1 k1_t38 k1_h3 k1_h12
theorem k1_off305_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off305 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.2.2.2.2.1 k1_t1 k1_t38 k1_h3 k1_h12
theorem k1_off306_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off306 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.2.2.2.2.2.1 k1_t1 k1_t38 k1_h3 k1_h12
theorem k1_off307_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t38 : Fin (k1_t38_loop i v43 v45 k1_t1).trips), ∀ (k1_h3 : k1_cond3 i v27 v29 v31 v33 v35 v37 v39 v41 v43 v45 v47 v49 v51 v53 v55 v57 k1_t1 = 1#1), ∀ (k1_h12 : k1_cond12 i v43 v45 k1_t1 = 1#1), ∀ a, (k1_off307 i v43 v45 k1_t1 k1_t38) a + S1x16.size a ≤ S256x128.size a := fun i v27 v29 v31 v33 v35 v37 v39 v41 v43 v45 v47 v49 v51 v53 v55 v57 k1_hw1 k1_t1 k1_t38 k1_h3 k1_h12 => k1_hw1.2.2.2.2.2.2.2.2.2.2.1.2.2.2.2.2.2.2.2.2.2.2.1 k1_t1 k1_t38 k1_h3 k1_h12
theorem k1_t39_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h13 : k1_cond13 i v45 v47 k1_t1 = 1#1), (k1_t39_loop i v45 v47 k1_t1).OK := fun i v27 v29 v31 v33 v35 v37 v39 v41 v43 v45 v47 v49 v51 v53 v55 v57 k1_hw1 k1_t1 k1_h3 k1_h13 => k1_hw1.2.2.2.2.2.2.2.2.2.2.1.2.2.2.2.2.2.2.2.2.2.2.2.1 k1_t1 k1_h3 k1_h13
theorem k1_off308_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off308 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.1 k1_t1 k1_t39 k1_h3 k1_h13 r
theorem k1_off309_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off309 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.1 k1_t1 k1_t39 k1_h3 k1_h13 r
theorem k1_off310_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off310 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.2.1 k1_t1 k1_t39 k1_h3 k1_h13 r
theorem k1_off311_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off311 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.2.2.1 k1_t1 k1_t39 k1_h3 k1_h13 r
theorem k1_off312_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off312 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.2.2.2.1 k1_t1 k1_t39 k1_h3 k1_h13 r
theorem k1_off313_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off313 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.2.2.2.2.1 k1_t1 k1_t39 k1_h3 k1_h13 r
theorem k1_off314_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off314 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.2.2.2.2.2.1 k1_t1 k1_t39 k1_h3 k1_h13 r
theorem k1_off315_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t39 : Fin (k1_t39_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off315 i v45 v47 k1_t1 k1_t39 (BitVec.ofNat 32 r.val)) a + S1x16.size a ≤ S256x128.size a := fun i v27 v29 v31 v33 v35 v37 v39 v41 v43 v45 v47 v49 v51 v53 v55 v57 k1_hw1 k1_t1 k1_t39 k1_h3 k1_h13 r => k1_hw1.2.2.2.2.2.2.2.2.2.2.1.2.2.2.2.2.2.2.2.2.2.2.2.2.2.2.2.2.2.2.2.1 k1_t1 k1_t39 k1_h3 k1_h13 r
theorem k1_t40_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h13 : k1_cond13 i v45 v47 k1_t1 = 1#1), (k1_t40_loop i v45 v47 k1_t1).OK := fun i v27 v29 v31 v33 v35 v37 v39 v41 v43 v45 v47 v49 v51 v53 v55 v57 k1_hw1 k1_t1 k1_h3 k1_h13 => k1_hw1.2.2.2.2.2.2.2.2.2.2.1.2.2.2.2.2.2.2.2.2.2.2.2.2.2.2.2.2.2.2.2.2.1 k1_t1 k1_h3 k1_h13
theorem k1_off316_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off316 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.1 k1_t1 k1_t40 k1_h3 k1_h13 r
theorem k1_off317_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off317 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.1 k1_t1 k1_t40 k1_h3 k1_h13 r
theorem k1_off318_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off318 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.2.1 k1_t1 k1_t40 k1_h3 k1_h13 r
theorem k1_off319_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off319 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.2.2.1 k1_t1 k1_t40 k1_h3 k1_h13 r
theorem k1_off320_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off320 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.2.2.2.1 k1_t1 k1_t40 k1_h3 k1_h13 r
theorem k1_off321_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off321 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.2.2.2.2.1 k1_t1 k1_t40 k1_h3 k1_h13 r
theorem k1_off322_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off322 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.2.2.2.2.2.1 k1_t1 k1_t40 k1_h3 k1_h13 r
theorem k1_off323_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t40 : Fin (k1_t40_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ (r : Fin 4), ∀ a, (k1_off323 i v45 v47 k1_t1 k1_t40 (BitVec.ofNat 32 r.val)) a + S1x16.size a ≤ S256x128.size a := fun i v27 v29 v31 v33 v35 v37 v39 v41 v43 v45 v47 v49 v51 v53 v55 v57 k1_hw1 k1_t1 k1_t40 k1_h3 k1_h13 r => k1_hw1.2.2.2.2.2.2.2.2.2.2.1.2.2.2.2.2.2.2.2.2.2.2.2.2.2.2.2.2.2.2.2.2.2.2.2.2.2.2.2.2.1 k1_t1 k1_t40 k1_h3 k1_h13 r
theorem k1_t41_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h13 : k1_cond13 i v45 v47 k1_t1 = 1#1), (k1_t41_loop i v45 v47 k1_t1).OK := fun i v27 v29 v31 v33 v35 v37 v39 v41 v43 v45 v47 v49 v51 v53 v55 v57 k1_hw1 k1_t1 k1_h3 k1_h13 => k1_hw1.2.2.2.2.2.2.2.2.2.2.1.2.2.2.2.2.2.2.2.2.2.2.2.2.2.2.2.2.2.2.2.2.2.2.2.2.2.2.2.2.2.1 k1_t1 k1_h3 k1_h13
theorem k1_off324_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off324 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.1.2.2.2.2.2.2.2.2.2.2.2.2.2.2.2.2.2.2.2.2.2.2.2.2.2.2.2.2.2.2.2 k1_t1 k1_t41 k1_h3 k1_h13
theorem k1_off325_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off325 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.1 k1_t1 k1_t41 k1_h3 k1_h13
theorem k1_off326_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off326 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.2.1 k1_t1 k1_t41 k1_h3 k1_h13
theorem k1_off327_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off327 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.2.2.1 k1_t1 k1_t41 k1_h3 k1_h13
theorem k1_off328_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off328 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.2.2.2.1 k1_t1 k1_t41 k1_h3 k1_h13
theorem k1_off329_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off329 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.2.2.2.2.1 k1_t1 k1_t41 k1_h3 k1_h13
theorem k1_off330_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off330 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.2.2.2.2.2.1 k1_t1 k1_t41 k1_h3 k1_h13
theorem k1_off331_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t41 : Fin (k1_t41_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off331 i v45 v47 k1_t1 k1_t41) a + S1x16.size a ≤ S256x128.size a := fun i v27 v29 v31 v33 v35 v37 v39 v41 v43 v45 v47 v49 v51 v53 v55 v57 k1_hw1 k1_t1 k1_t41 k1_h3 k1_h13 => k1_hw1.2.2.2.2.2.2.2.2.2.2.2.1.2.2.2.2.2.2.1 k1_t1 k1_t41 k1_h3 k1_h13
theorem k1_t42_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h13 : k1_cond13 i v45 v47 k1_t1 = 1#1), (k1_t42_loop i v45 v47 k1_t1).OK := fun i v27 v29 v31 v33 v35 v37 v39 v41 v43 v45 v47 v49 v51 v53 v55 v57 k1_hw1 k1_t1 k1_h3 k1_h13 => k1_hw1.2.2.2.2.2.2.2.2.2.2.2.1.2.2.2.2.2.2.2.1 k1_t1 k1_h3 k1_h13
theorem k1_off332_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off332 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.1 k1_t1 k1_t42 k1_h3 k1_h13
theorem k1_off333_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off333 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.1 k1_t1 k1_t42 k1_h3 k1_h13
theorem k1_off334_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off334 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.2.1 k1_t1 k1_t42 k1_h3 k1_h13
theorem k1_off335_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off335 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.2.2.1 k1_t1 k1_t42 k1_h3 k1_h13
theorem k1_off336_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off336 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.2.2.2.1 k1_t1 k1_t42 k1_h3 k1_h13
theorem k1_off337_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off337 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.2.2.2.2.1 k1_t1 k1_t42 k1_h3 k1_h13
theorem k1_off338_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off338 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.2.2.2.2.2.1 k1_t1 k1_t42 k1_h3 k1_h13
theorem k1_off339_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t42 : Fin (k1_t42_loop i v45 v47 k1_t1).trips), ∀ (k1_h3 : k1_cond3 i v27 v29 v31 v33 v35 v37 v39 v41 v43 v45 v47 v49 v51 v53 v55 v57 k1_t1 = 1#1), ∀ (k1_h13 : k1_cond13 i v45 v47 k1_t1 = 1#1), ∀ a, (k1_off339 i v45 v47 k1_t1 k1_t42) a + S1x16.size a ≤ S256x128.size a := fun i v27 v29 v31 v33 v35 v37 v39 v41 v43 v45 v47 v49 v51 v53 v55 v57 k1_hw1 k1_t1 k1_t42 k1_h3 k1_h13 => k1_hw1.2.2.2.2.2.2.2.2.2.2.2.1.2.2.2.2.2.2.2.2.2.2.2.2.2.2.2.1 k1_t1 k1_t42 k1_h3 k1_h13
theorem k1_t43_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h14 : k1_cond14 i v47 v49 k1_t1 = 1#1), (k1_t43_loop i v47 v49 k1_t1).OK := fun i v27 v29 v31 v33 v35 v37 v39 v41 v43 v45 v47 v49 v51 v53 v55 v57 k1_hw1 k1_t1 k1_h3 k1_h14 => k1_hw1.2.2.2.2.2.2.2.2.2.2.2.1.2.2.2.2.2.2.2.2.2.2.2.2.2.2.2.2.1 k1_t1 k1_h3 k1_h14
theorem k1_off340_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off340 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.1 k1_t1 k1_t43 k1_h3 k1_h14 r
theorem k1_off341_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off341 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.1 k1_t1 k1_t43 k1_h3 k1_h14 r
theorem k1_off342_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off342 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.2.1 k1_t1 k1_t43 k1_h3 k1_h14 r
theorem k1_off343_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off343 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.2.2.1 k1_t1 k1_t43 k1_h3 k1_h14 r
theorem k1_off344_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off344 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.2.2.2.1 k1_t1 k1_t43 k1_h3 k1_h14 r
theorem k1_off345_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off345 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.2.2.2.2.1 k1_t1 k1_t43 k1_h3 k1_h14 r
theorem k1_off346_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off346 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.2.2.2.2.2.1 k1_t1 k1_t43 k1_h3 k1_h14 r
theorem k1_off347_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t43 : Fin (k1_t43_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off347 i v47 v49 k1_t1 k1_t43 (BitVec.ofNat 32 r.val)) a + S1x16.size a ≤ S256x128.size a := fun i v27 v29 v31 v33 v35 v37 v39 v41 v43 v45 v47 v49 v51 v53 v55 v57 k1_hw1 k1_t1 k1_t43 k1_h3 k1_h14 r => k1_hw1.2.2.2.2.2.2.2.2.2.2.2.1.2.2.2.2.2.2.2.2.2.2.2.2.2.2.2.2.2.2.2.2.2.2.2.2.1 k1_t1 k1_t43 k1_h3 k1_h14 r
theorem k1_t44_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h14 : k1_cond14 i v47 v49 k1_t1 = 1#1), (k1_t44_loop i v47 v49 k1_t1).OK := fun i v27 v29 v31 v33 v35 v37 v39 v41 v43 v45 v47 v49 v51 v53 v55 v57 k1_hw1 k1_t1 k1_h3 k1_h14 => k1_hw1.2.2.2.2.2.2.2.2.2.2.2.1.2.2.2.2.2.2.2.2.2.2.2.2.2.2.2.2.2.2.2.2.2.2.2.2.2.1 k1_t1 k1_h3 k1_h14
theorem k1_off348_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off348 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.1.2.2.2.2.2.2.2.2.2.2.2.2.2.2.2.2.2.2.2.2.2.2.2.2.2.2.1 k1_t1 k1_t44 k1_h3 k1_h14 r
theorem k1_off349_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off349 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.1.2.2.2.2.2.2.2.2.2.2.2.2.2.2.2.2.2.2.2.2.2.2.2.2.2.2.2.1 k1_t1 k1_t44 k1_h3 k1_h14 r
theorem k1_off350_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off350 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.1.2.2.2.2.2.2.2.2.2.2.2.2.2.2.2.2.2.2.2.2.2.2.2.2.2.2.2.2.1 k1_t1 k1_t44 k1_h3 k1_h14 r
theorem k1_off351_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off351 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.1.2.2.2.2.2.2.2.2.2.2.2.2.2.2.2.2.2.2.2.2.2.2.2.2.2.2.2.2.2.1 k1_t1 k1_t44 k1_h3 k1_h14 r
theorem k1_off352_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off352 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.1.2.2.2.2.2.2.2.2.2.2.2.2.2.2.2.2.2.2.2.2.2.2.2.2.2.2.2.2.2.2.1 k1_t1 k1_t44 k1_h3 k1_h14 r
theorem k1_off353_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off353 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.1.2.2.2.2.2.2.2.2.2.2.2.2.2.2.2.2.2.2.2.2.2.2.2.2.2.2.2.2.2.2.2 k1_t1 k1_t44 k1_h3 k1_h14 r
theorem k1_off354_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off354 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.2.1.1 k1_t1 k1_t44 k1_h3 k1_h14 r
theorem k1_off355_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t44 : Fin (k1_t44_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ (r : Fin 4), ∀ a, (k1_off355 i v47 v49 k1_t1 k1_t44 (BitVec.ofNat 32 r.val)) a + S1x16.size a ≤ S256x128.size a := fun i v27 v29 v31 v33 v35 v37 v39 v41 v43 v45 v47 v49 v51 v53 v55 v57 k1_hw1 k1_t1 k1_t44 k1_h3 k1_h14 r => k1_hw1.2.2.2.2.2.2.2.2.2.2.2.2.1.2.1 k1_t1 k1_t44 k1_h3 k1_h14 r
theorem k1_t45_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h14 : k1_cond14 i v47 v49 k1_t1 = 1#1), (k1_t45_loop i v47 v49 k1_t1).OK := fun i v27 v29 v31 v33 v35 v37 v39 v41 v43 v45 v47 v49 v51 v53 v55 v57 k1_hw1 k1_t1 k1_h3 k1_h14 => k1_hw1.2.2.2.2.2.2.2.2.2.2.2.2.1.2.2.1 k1_t1 k1_h3 k1_h14
theorem k1_off356_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off356 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.1 k1_t1 k1_t45 k1_h3 k1_h14
theorem k1_off357_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off357 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.1 k1_t1 k1_t45 k1_h3 k1_h14
theorem k1_off358_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off358 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.2.1 k1_t1 k1_t45 k1_h3 k1_h14
theorem k1_off359_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off359 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.2.2.1 k1_t1 k1_t45 k1_h3 k1_h14
theorem k1_off360_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off360 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.2.2.2.1 k1_t1 k1_t45 k1_h3 k1_h14
theorem k1_off361_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off361 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.2.2.2.2.1 k1_t1 k1_t45 k1_h3 k1_h14
theorem k1_off362_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off362 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.2.2.2.2.2.1 k1_t1 k1_t45 k1_h3 k1_h14
theorem k1_off363_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t45 : Fin (k1_t45_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off363 i v47 v49 k1_t1 k1_t45) a + S1x16.size a ≤ S256x128.size a := fun i v27 v29 v31 v33 v35 v37 v39 v41 v43 v45 v47 v49 v51 v53 v55 v57 k1_hw1 k1_t1 k1_t45 k1_h3 k1_h14 => k1_hw1.2.2.2.2.2.2.2.2.2.2.2.2.1.2.2.2.2.2.2.2.2.2.2.1 k1_t1 k1_t45 k1_h3 k1_h14
theorem k1_t46_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h14 : k1_cond14 i v47 v49 k1_t1 = 1#1), (k1_t46_loop i v47 v49 k1_t1).OK := fun i v27 v29 v31 v33 v35 v37 v39 v41 v43 v45 v47 v49 v51 v53 v55 v57 k1_hw1 k1_t1 k1_h3 k1_h14 => k1_hw1.2.2.2.2.2.2.2.2.2.2.2.2.1.2.2.2.2.2.2.2.2.2.2.2.1 k1_t1 k1_h3 k1_h14
theorem k1_off364_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off364 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.1 k1_t1 k1_t46 k1_h3 k1_h14
theorem k1_off365_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off365 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.1 k1_t1 k1_t46 k1_h3 k1_h14
theorem k1_off366_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off366 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.2.1 k1_t1 k1_t46 k1_h3 k1_h14
theorem k1_off367_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off367 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.2.2.1 k1_t1 k1_t46 k1_h3 k1_h14
theorem k1_off368_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off368 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.2.2.2.1 k1_t1 k1_t46 k1_h3 k1_h14
theorem k1_off369_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off369 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.2.2.2.2.1 k1_t1 k1_t46 k1_h3 k1_h14
theorem k1_off370_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off370 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.2.2.2.2.2.1 k1_t1 k1_t46 k1_h3 k1_h14
theorem k1_off371_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t46 : Fin (k1_t46_loop i v47 v49 k1_t1).trips), ∀ (k1_h3 : k1_cond3 i v27 v29 v31 v33 v35 v37 v39 v41 v43 v45 v47 v49 v51 v53 v55 v57 k1_t1 = 1#1), ∀ (k1_h14 : k1_cond14 i v47 v49 k1_t1 = 1#1), ∀ a, (k1_off371 i v47 v49 k1_t1 k1_t46) a + S1x16.size a ≤ S256x128.size a := fun i v27 v29 v31 v33 v35 v37 v39 v41 v43 v45 v47 v49 v51 v53 v55 v57 k1_hw1 k1_t1 k1_t46 k1_h3 k1_h14 => k1_hw1.2.2.2.2.2.2.2.2.2.2.2.2.1.2.2.2.2.2.2.2.2.2.2.2.2.2.2.2.2.2.2.2.1 k1_t1 k1_t46 k1_h3 k1_h14
theorem k1_t47_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h15 : k1_cond15 i v49 v51 k1_t1 = 1#1), (k1_t47_loop i v49 v51 k1_t1).OK := fun i v27 v29 v31 v33 v35 v37 v39 v41 v43 v45 v47 v49 v51 v53 v55 v57 k1_hw1 k1_t1 k1_h3 k1_h15 => k1_hw1.2.2.2.2.2.2.2.2.2.2.2.2.1.2.2.2.2.2.2.2.2.2.2.2.2.2.2.2.2.2.2.2.2.1 k1_t1 k1_h3 k1_h15
theorem k1_off372_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off372 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.1 k1_t1 k1_t47 k1_h3 k1_h15 r
theorem k1_off373_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off373 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.1 k1_t1 k1_t47 k1_h3 k1_h15 r
theorem k1_off374_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off374 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.2.1 k1_t1 k1_t47 k1_h3 k1_h15 r
theorem k1_off375_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off375 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.2.2.1 k1_t1 k1_t47 k1_h3 k1_h15 r
theorem k1_off376_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off376 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.2.2.2.1 k1_t1 k1_t47 k1_h3 k1_h15 r
theorem k1_off377_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off377 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.2.2.2.2.1 k1_t1 k1_t47 k1_h3 k1_h15 r
theorem k1_off378_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off378 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.2.2.2.2.2.1 k1_t1 k1_t47 k1_h3 k1_h15 r
theorem k1_off379_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t47 : Fin (k1_t47_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off379 i v49 v51 k1_t1 k1_t47 (BitVec.ofNat 32 r.val)) a + S1x16.size a ≤ S256x128.size a := fun i v27 v29 v31 v33 v35 v37 v39 v41 v43 v45 v47 v49 v51 v53 v55 v57 k1_hw1 k1_t1 k1_t47 k1_h3 k1_h15 r => k1_hw1.2.2.2.2.2.2.2.2.2.2.2.2.1.2.2.2.2.2.2.2.2.2.2.2.2.2.2.2.2.2.2.2.2.2.2.2.2.2.2.2.2.1 k1_t1 k1_t47 k1_h3 k1_h15 r
theorem k1_t48_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h15 : k1_cond15 i v49 v51 k1_t1 = 1#1), (k1_t48_loop i v49 v51 k1_t1).OK := fun i v27 v29 v31 v33 v35 v37 v39 v41 v43 v45 v47 v49 v51 v53 v55 v57 k1_hw1 k1_t1 k1_h3 k1_h15 => k1_hw1.2.2.2.2.2.2.2.2.2.2.2.2.1.2.2.2.2.2.2.2.2.2.2.2.2.2.2.2.2.2.2.2.2.2.2.2.2.2.2.2.2.2.1 k1_t1 k1_h3 k1_h15
theorem k1_off380_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off380 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.1.2.2.2.2.2.2.2.2.2.2.2.2.2.2.2.2.2.2.2.2.2.2.2.2.2.2.2.2.2.2.1 k1_t1 k1_t48 k1_h3 k1_h15 r
theorem k1_off381_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off381 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.1.2.2.2.2.2.2.2.2.2.2.2.2.2.2.2.2.2.2.2.2.2.2.2.2.2.2.2.2.2.2.2 k1_t1 k1_t48 k1_h3 k1_h15 r
theorem k1_off382_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off382 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.2.1.1 k1_t1 k1_t48 k1_h3 k1_h15 r
theorem k1_off383_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off383 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.2.1.2.1 k1_t1 k1_t48 k1_h3 k1_h15 r
theorem k1_off384_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off384 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.2.1.2.2.1 k1_t1 k1_t48 k1_h3 k1_h15 r
theorem k1_off385_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off385 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.2.1.2.2.2.1 k1_t1 k1_t48 k1_h3 k1_h15 r
theorem k1_off386_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off386 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.2.1.2.2.2.2.1 k1_t1 k1_t48 k1_h3 k1_h15 r
theorem k1_off387_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t48 : Fin (k1_t48_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ (r : Fin 4), ∀ a, (k1_off387 i v49 v51 k1_t1 k1_t48 (BitVec.ofNat 32 r.val)) a + S1x16.size a ≤ S256x128.size a := fun i v27 v29 v31 v33 v35 v37 v39 v41 v43 v45 v47 v49 v51 v53 v55 v57 k1_hw1 k1_t1 k1_t48 k1_h3 k1_h15 r => k1_hw1.2.2.2.2.2.2.2.2.2.2.2.2.2.1.2.2.2.2.2.1 k1_t1 k1_t48 k1_h3 k1_h15 r
theorem k1_t49_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h15 : k1_cond15 i v49 v51 k1_t1 = 1#1), (k1_t49_loop i v49 v51 k1_t1).OK := fun i v27 v29 v31 v33 v35 v37 v39 v41 v43 v45 v47 v49 v51 v53 v55 v57 k1_hw1 k1_t1 k1_h3 k1_h15 => k1_hw1.2.2.2.2.2.2.2.2.2.2.2.2.2.1.2.2.2.2.2.2.1 k1_t1 k1_h3 k1_h15
theorem k1_off388_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off388 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.1 k1_t1 k1_t49 k1_h3 k1_h15
theorem k1_off389_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off389 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.1 k1_t1 k1_t49 k1_h3 k1_h15
theorem k1_off390_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off390 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.2.1 k1_t1 k1_t49 k1_h3 k1_h15
theorem k1_off391_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off391 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.2.2.1 k1_t1 k1_t49 k1_h3 k1_h15
theorem k1_off392_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off392 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.2.2.2.1 k1_t1 k1_t49 k1_h3 k1_h15
theorem k1_off393_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off393 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.2.2.2.2.1 k1_t1 k1_t49 k1_h3 k1_h15
theorem k1_off394_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off394 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.2.2.2.2.2.1 k1_t1 k1_t49 k1_h3 k1_h15
theorem k1_off395_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t49 : Fin (k1_t49_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off395 i v49 v51 k1_t1 k1_t49) a + S1x16.size a ≤ S256x128.size a := fun i v27 v29 v31 v33 v35 v37 v39 v41 v43 v45 v47 v49 v51 v53 v55 v57 k1_hw1 k1_t1 k1_t49 k1_h3 k1_h15 => k1_hw1.2.2.2.2.2.2.2.2.2.2.2.2.2.1.2.2.2.2.2.2.2.2.2.2.2.2.2.2.1 k1_t1 k1_t49 k1_h3 k1_h15
theorem k1_t50_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h15 : k1_cond15 i v49 v51 k1_t1 = 1#1), (k1_t50_loop i v49 v51 k1_t1).OK := fun i v27 v29 v31 v33 v35 v37 v39 v41 v43 v45 v47 v49 v51 v53 v55 v57 k1_hw1 k1_t1 k1_h3 k1_h15 => k1_hw1.2.2.2.2.2.2.2.2.2.2.2.2.2.1.2.2.2.2.2.2.2.2.2.2.2.2.2.2.2.1 k1_t1 k1_h3 k1_h15
theorem k1_off396_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off396 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.1 k1_t1 k1_t50 k1_h3 k1_h15
theorem k1_off397_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off397 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.1 k1_t1 k1_t50 k1_h3 k1_h15
theorem k1_off398_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off398 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.2.1 k1_t1 k1_t50 k1_h3 k1_h15
theorem k1_off399_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off399 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.2.2.1 k1_t1 k1_t50 k1_h3 k1_h15
theorem k1_off400_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off400 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.2.2.2.1 k1_t1 k1_t50 k1_h3 k1_h15
theorem k1_off401_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off401 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.2.2.2.2.1 k1_t1 k1_t50 k1_h3 k1_h15
theorem k1_off402_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off402 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.2.2.2.2.2.1 k1_t1 k1_t50 k1_h3 k1_h15
theorem k1_off403_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t50 : Fin (k1_t50_loop i v49 v51 k1_t1).trips), ∀ (k1_h3 : k1_cond3 i v27 v29 v31 v33 v35 v37 v39 v41 v43 v45 v47 v49 v51 v53 v55 v57 k1_t1 = 1#1), ∀ (k1_h15 : k1_cond15 i v49 v51 k1_t1 = 1#1), ∀ a, (k1_off403 i v49 v51 k1_t1 k1_t50) a + S1x16.size a ≤ S256x128.size a := fun i v27 v29 v31 v33 v35 v37 v39 v41 v43 v45 v47 v49 v51 v53 v55 v57 k1_hw1 k1_t1 k1_t50 k1_h3 k1_h15 => k1_hw1.2.2.2.2.2.2.2.2.2.2.2.2.2.1.2.2.2.2.2.2.2.2.2.2.2.2.2.2.2.2.2.2.2.2.2.2.2.1 k1_t1 k1_t50 k1_h3 k1_h15
theorem k1_t51_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h16 : k1_cond16 i v51 v53 k1_t1 = 1#1), (k1_t51_loop i v51 v53 k1_t1).OK := fun i v27 v29 v31 v33 v35 v37 v39 v41 v43 v45 v47 v49 v51 v53 v55 v57 k1_hw1 k1_t1 k1_h3 k1_h16 => k1_hw1.2.2.2.2.2.2.2.2.2.2.2.2.2.1.2.2.2.2.2.2.2.2.2.2.2.2.2.2.2.2.2.2.2.2.2.2.2.2.1 k1_t1 k1_h3 k1_h16
theorem k1_off404_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off404 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.1 k1_t1 k1_t51 k1_h3 k1_h16 r
theorem k1_off405_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off405 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.2.1 k1_t1 k1_t51 k1_h3 k1_h16 r
theorem k1_off406_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off406 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.2.2.1 k1_t1 k1_t51 k1_h3 k1_h16 r
theorem k1_off407_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off407 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.2.2.2.1 k1_t1 k1_t51 k1_h3 k1_h16 r
theorem k1_off408_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off408 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.2.2.2.2.1 k1_t1 k1_t51 k1_h3 k1_h16 r
theorem k1_off409_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off409 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.2.2.2.2.2.1 k1_t1 k1_t51 k1_h3 k1_h16 r
theorem k1_off410_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off410 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.1.2.2.2.2.2.2.2.2.2.2.2.2.2.2.2.2.2.2.2.2.2.2.2.2.2.2.2.2.2.2.2 k1_t1 k1_t51 k1_h3 k1_h16 r
theorem k1_off411_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t51 : Fin (k1_t51_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off411 i v51 v53 k1_t1 k1_t51 (BitVec.ofNat 32 r.val)) a + S1x16.size a ≤ S256x128.size a := fun i v27 v29 v31 v33 v35 v37 v39 v41 v43 v45 v47 v49 v51 v53 v55 v57 k1_hw1 k1_t1 k1_t51 k1_h3 k1_h16 r => k1_hw1.2.2.2.2.2.2.2.2.2.2.2.2.2.2.1.1 k1_t1 k1_t51 k1_h3 k1_h16 r
theorem k1_t52_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h16 : k1_cond16 i v51 v53 k1_t1 = 1#1), (k1_t52_loop i v51 v53 k1_t1).OK := fun i v27 v29 v31 v33 v35 v37 v39 v41 v43 v45 v47 v49 v51 v53 v55 v57 k1_hw1 k1_t1 k1_h3 k1_h16 => k1_hw1.2.2.2.2.2.2.2.2.2.2.2.2.2.2.1.2.1 k1_t1 k1_h3 k1_h16
theorem k1_off412_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off412 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.1 k1_t1 k1_t52 k1_h3 k1_h16 r
theorem k1_off413_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off413 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.1 k1_t1 k1_t52 k1_h3 k1_h16 r
theorem k1_off414_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off414 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.2.1 k1_t1 k1_t52 k1_h3 k1_h16 r
theorem k1_off415_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off415 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.2.2.1 k1_t1 k1_t52 k1_h3 k1_h16 r
theorem k1_off416_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off416 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.2.2.2.1 k1_t1 k1_t52 k1_h3 k1_h16 r
theorem k1_off417_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off417 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.2.2.2.2.1 k1_t1 k1_t52 k1_h3 k1_h16 r
theorem k1_off418_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off418 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.2.2.2.2.2.1 k1_t1 k1_t52 k1_h3 k1_h16 r
theorem k1_off419_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t52 : Fin (k1_t52_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ (r : Fin 4), ∀ a, (k1_off419 i v51 v53 k1_t1 k1_t52 (BitVec.ofNat 32 r.val)) a + S1x16.size a ≤ S256x128.size a := fun i v27 v29 v31 v33 v35 v37 v39 v41 v43 v45 v47 v49 v51 v53 v55 v57 k1_hw1 k1_t1 k1_t52 k1_h3 k1_h16 r => k1_hw1.2.2.2.2.2.2.2.2.2.2.2.2.2.2.1.2.2.2.2.2.2.2.2.2.1 k1_t1 k1_t52 k1_h3 k1_h16 r
theorem k1_t53_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h16 : k1_cond16 i v51 v53 k1_t1 = 1#1), (k1_t53_loop i v51 v53 k1_t1).OK := fun i v27 v29 v31 v33 v35 v37 v39 v41 v43 v45 v47 v49 v51 v53 v55 v57 k1_hw1 k1_t1 k1_h3 k1_h16 => k1_hw1.2.2.2.2.2.2.2.2.2.2.2.2.2.2.1.2.2.2.2.2.2.2.2.2.2.1 k1_t1 k1_h3 k1_h16
theorem k1_off420_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off420 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.1 k1_t1 k1_t53 k1_h3 k1_h16
theorem k1_off421_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off421 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.1 k1_t1 k1_t53 k1_h3 k1_h16
theorem k1_off422_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off422 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.2.1 k1_t1 k1_t53 k1_h3 k1_h16
theorem k1_off423_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off423 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.2.2.1 k1_t1 k1_t53 k1_h3 k1_h16
theorem k1_off424_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off424 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.2.2.2.1 k1_t1 k1_t53 k1_h3 k1_h16
theorem k1_off425_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off425 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.2.2.2.2.1 k1_t1 k1_t53 k1_h3 k1_h16
theorem k1_off426_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off426 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.2.2.2.2.2.1 k1_t1 k1_t53 k1_h3 k1_h16
theorem k1_off427_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t53 : Fin (k1_t53_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off427 i v51 v53 k1_t1 k1_t53) a + S1x16.size a ≤ S256x128.size a := fun i v27 v29 v31 v33 v35 v37 v39 v41 v43 v45 v47 v49 v51 v53 v55 v57 k1_hw1 k1_t1 k1_t53 k1_h3 k1_h16 => k1_hw1.2.2.2.2.2.2.2.2.2.2.2.2.2.2.1.2.2.2.2.2.2.2.2.2.2.2.2.2.2.2.2.2.2.1 k1_t1 k1_t53 k1_h3 k1_h16
theorem k1_t54_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h16 : k1_cond16 i v51 v53 k1_t1 = 1#1), (k1_t54_loop i v51 v53 k1_t1).OK := fun i v27 v29 v31 v33 v35 v37 v39 v41 v43 v45 v47 v49 v51 v53 v55 v57 k1_hw1 k1_t1 k1_h3 k1_h16 => k1_hw1.2.2.2.2.2.2.2.2.2.2.2.2.2.2.1.2.2.2.2.2.2.2.2.2.2.2.2.2.2.2.2.2.2.2.1 k1_t1 k1_h3 k1_h16
theorem k1_off428_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off428 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.1 k1_t1 k1_t54 k1_h3 k1_h16
theorem k1_off429_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off429 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.1 k1_t1 k1_t54 k1_h3 k1_h16
theorem k1_off430_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off430 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.2.1 k1_t1 k1_t54 k1_h3 k1_h16
theorem k1_off431_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off431 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.2.2.1 k1_t1 k1_t54 k1_h3 k1_h16
theorem k1_off432_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off432 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.2.2.2.1 k1_t1 k1_t54 k1_h3 k1_h16
theorem k1_off433_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off433 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.2.2.2.2.1 k1_t1 k1_t54 k1_h3 k1_h16
theorem k1_off434_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off434 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.2.2.2.2.2.1 k1_t1 k1_t54 k1_h3 k1_h16
theorem k1_off435_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t54 : Fin (k1_t54_loop i v51 v53 k1_t1).trips), ∀ (k1_h3 : k1_cond3 i v27 v29 v31 v33 v35 v37 v39 v41 v43 v45 v47 v49 v51 v53 v55 v57 k1_t1 = 1#1), ∀ (k1_h16 : k1_cond16 i v51 v53 k1_t1 = 1#1), ∀ a, (k1_off435 i v51 v53 k1_t1 k1_t54) a + S1x16.size a ≤ S256x128.size a := fun i v27 v29 v31 v33 v35 v37 v39 v41 v43 v45 v47 v49 v51 v53 v55 v57 k1_hw1 k1_t1 k1_t54 k1_h3 k1_h16 => k1_hw1.2.2.2.2.2.2.2.2.2.2.2.2.2.2.1.2.2.2.2.2.2.2.2.2.2.2.2.2.2.2.2.2.2.2.2.2.2.2.2.2.2.2.1 k1_t1 k1_t54 k1_h3 k1_h16
theorem k1_t55_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h17 : k1_cond17 i v53 v55 k1_t1 = 1#1), (k1_t55_loop i v53 v55 k1_t1).OK := fun i v27 v29 v31 v33 v35 v37 v39 v41 v43 v45 v47 v49 v51 v53 v55 v57 k1_hw1 k1_t1 k1_h3 k1_h17 => k1_hw1.2.2.2.2.2.2.2.2.2.2.2.2.2.2.1.2.2.2.2.2.2.2.2.2.2.2.2.2.2.2.2.2.2.2.2.2.2.2.2.2.2.2.2.1 k1_t1 k1_h3 k1_h17
theorem k1_off436_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off436 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.1.2.2.2.2.2.2.2.2.2.2.2.2.2.2.2.2.2.2.2.2.2.2.2.2.2.2.2.2.2.1 k1_t1 k1_t55 k1_h3 k1_h17 r
theorem k1_off437_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off437 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.1.2.2.2.2.2.2.2.2.2.2.2.2.2.2.2.2.2.2.2.2.2.2.2.2.2.2.2.2.2.2.1 k1_t1 k1_t55 k1_h3 k1_h17 r
theorem k1_off438_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off438 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.1.2.2.2.2.2.2.2.2.2.2.2.2.2.2.2.2.2.2.2.2.2.2.2.2.2.2.2.2.2.2.2 k1_t1 k1_t55 k1_h3 k1_h17 r
theorem k1_off439_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off439 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.2.1.1 k1_t1 k1_t55 k1_h3 k1_h17 r
theorem k1_off440_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off440 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.2.1.2.1 k1_t1 k1_t55 k1_h3 k1_h17 r
theorem k1_off441_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off441 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.2.1.2.2.1 k1_t1 k1_t55 k1_h3 k1_h17 r
theorem k1_off442_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off442 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.2.1.2.2.2.1 k1_t1 k1_t55 k1_h3 k1_h17 r
theorem k1_off443_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t55 : Fin (k1_t55_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off443 i v53 v55 k1_t1 k1_t55 (BitVec.ofNat 32 r.val)) a + S1x16.size a ≤ S256x128.size a := fun i v27 v29 v31 v33 v35 v37 v39 v41 v43 v45 v47 v49 v51 v53 v55 v57 k1_hw1 k1_t1 k1_t55 k1_h3 k1_h17 r => k1_hw1.2.2.2.2.2.2.2.2.2.2.2.2.2.2.2.1.2.2.2.2.1 k1_t1 k1_t55 k1_h3 k1_h17 r
theorem k1_t56_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h17 : k1_cond17 i v53 v55 k1_t1 = 1#1), (k1_t56_loop i v53 v55 k1_t1).OK := fun i v27 v29 v31 v33 v35 v37 v39 v41 v43 v45 v47 v49 v51 v53 v55 v57 k1_hw1 k1_t1 k1_h3 k1_h17 => k1_hw1.2.2.2.2.2.2.2.2.2.2.2.2.2.2.2.1.2.2.2.2.2.1 k1_t1 k1_h3 k1_h17
theorem k1_off444_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off444 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.1 k1_t1 k1_t56 k1_h3 k1_h17 r
theorem k1_off445_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off445 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.1 k1_t1 k1_t56 k1_h3 k1_h17 r
theorem k1_off446_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off446 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.2.1 k1_t1 k1_t56 k1_h3 k1_h17 r
theorem k1_off447_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off447 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.2.2.1 k1_t1 k1_t56 k1_h3 k1_h17 r
theorem k1_off448_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off448 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.2.2.2.1 k1_t1 k1_t56 k1_h3 k1_h17 r
theorem k1_off449_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off449 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.2.2.2.2.1 k1_t1 k1_t56 k1_h3 k1_h17 r
theorem k1_off450_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off450 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.2.2.2.2.2.1 k1_t1 k1_t56 k1_h3 k1_h17 r
theorem k1_off451_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t56 : Fin (k1_t56_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ (r : Fin 4), ∀ a, (k1_off451 i v53 v55 k1_t1 k1_t56 (BitVec.ofNat 32 r.val)) a + S1x16.size a ≤ S256x128.size a := fun i v27 v29 v31 v33 v35 v37 v39 v41 v43 v45 v47 v49 v51 v53 v55 v57 k1_hw1 k1_t1 k1_t56 k1_h3 k1_h17 r => k1_hw1.2.2.2.2.2.2.2.2.2.2.2.2.2.2.2.1.2.2.2.2.2.2.2.2.2.2.2.2.2.1 k1_t1 k1_t56 k1_h3 k1_h17 r
theorem k1_t57_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h17 : k1_cond17 i v53 v55 k1_t1 = 1#1), (k1_t57_loop i v53 v55 k1_t1).OK := fun i v27 v29 v31 v33 v35 v37 v39 v41 v43 v45 v47 v49 v51 v53 v55 v57 k1_hw1 k1_t1 k1_h3 k1_h17 => k1_hw1.2.2.2.2.2.2.2.2.2.2.2.2.2.2.2.1.2.2.2.2.2.2.2.2.2.2.2.2.2.2.1 k1_t1 k1_h3 k1_h17
theorem k1_off452_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off452 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.1 k1_t1 k1_t57 k1_h3 k1_h17
theorem k1_off453_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off453 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.1 k1_t1 k1_t57 k1_h3 k1_h17
theorem k1_off454_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off454 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.2.1 k1_t1 k1_t57 k1_h3 k1_h17
theorem k1_off455_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off455 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.2.2.1 k1_t1 k1_t57 k1_h3 k1_h17
theorem k1_off456_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off456 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.2.2.2.1 k1_t1 k1_t57 k1_h3 k1_h17
theorem k1_off457_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off457 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.2.2.2.2.1 k1_t1 k1_t57 k1_h3 k1_h17
theorem k1_off458_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off458 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.2.2.2.2.2.1 k1_t1 k1_t57 k1_h3 k1_h17
theorem k1_off459_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t57 : Fin (k1_t57_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off459 i v53 v55 k1_t1 k1_t57) a + S1x16.size a ≤ S256x128.size a := fun i v27 v29 v31 v33 v35 v37 v39 v41 v43 v45 v47 v49 v51 v53 v55 v57 k1_hw1 k1_t1 k1_t57 k1_h3 k1_h17 => k1_hw1.2.2.2.2.2.2.2.2.2.2.2.2.2.2.2.1.2.2.2.2.2.2.2.2.2.2.2.2.2.2.2.2.2.2.2.2.2.2.1 k1_t1 k1_t57 k1_h3 k1_h17
theorem k1_t58_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h17 : k1_cond17 i v53 v55 k1_t1 = 1#1), (k1_t58_loop i v53 v55 k1_t1).OK := fun i v27 v29 v31 v33 v35 v37 v39 v41 v43 v45 v47 v49 v51 v53 v55 v57 k1_hw1 k1_t1 k1_h3 k1_h17 => k1_hw1.2.2.2.2.2.2.2.2.2.2.2.2.2.2.2.1.2.2.2.2.2.2.2.2.2.2.2.2.2.2.2.2.2.2.2.2.2.2.2.1 k1_t1 k1_h3 k1_h17
theorem k1_off460_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off460 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.1 k1_t1 k1_t58 k1_h3 k1_h17
theorem k1_off461_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off461 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.1 k1_t1 k1_t58 k1_h3 k1_h17
theorem k1_off462_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off462 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.2.1 k1_t1 k1_t58 k1_h3 k1_h17
theorem k1_off463_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off463 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.2.2.1 k1_t1 k1_t58 k1_h3 k1_h17
theorem k1_off464_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off464 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.2.2.2.1 k1_t1 k1_t58 k1_h3 k1_h17
theorem k1_off465_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off465 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.2.2.2.2.1 k1_t1 k1_t58 k1_h3 k1_h17
theorem k1_off466_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off466 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.2.2.2.2.2.1 k1_t1 k1_t58 k1_h3 k1_h17
theorem k1_off467_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t58 : Fin (k1_t58_loop i v53 v55 k1_t1).trips), ∀ (k1_h3 : k1_cond3 i v27 v29 v31 v33 v35 v37 v39 v41 v43 v45 v47 v49 v51 v53 v55 v57 k1_t1 = 1#1), ∀ (k1_h17 : k1_cond17 i v53 v55 k1_t1 = 1#1), ∀ a, (k1_off467 i v53 v55 k1_t1 k1_t58) a + S1x16.size a ≤ S256x128.size a := fun i v27 v29 v31 v33 v35 v37 v39 v41 v43 v45 v47 v49 v51 v53 v55 v57 k1_hw1 k1_t1 k1_t58 k1_h3 k1_h17 => k1_hw1.2.2.2.2.2.2.2.2.2.2.2.2.2.2.2.1.2.2.2.2.2.2.2.2.2.2.2.2.2.2.2.2.2.2.2.2.2.2.2.2.2.2.2.2.2.2.2 k1_t1 k1_t58 k1_h3 k1_h17
theorem k1_t59_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h18 : k1_cond18 i v55 v57 k1_t1 = 1#1), (k1_t59_loop i v55 v57 k1_t1).OK := fun i v27 v29 v31 v33 v35 v37 v39 v41 v43 v45 v47 v49 v51 v53 v55 v57 k1_hw1 k1_t1 k1_h3 k1_h18 => k1_hw1.2.2.2.2.2.2.2.2.2.2.2.2.2.2.2.2.1.1 k1_t1 k1_h3 k1_h18
theorem k1_off468_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off468 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.1 k1_t1 k1_t59 k1_h3 k1_h18 r
theorem k1_off469_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off469 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.1 k1_t1 k1_t59 k1_h3 k1_h18 r
theorem k1_off470_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off470 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.2.1 k1_t1 k1_t59 k1_h3 k1_h18 r
theorem k1_off471_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off471 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.2.2.1 k1_t1 k1_t59 k1_h3 k1_h18 r
theorem k1_off472_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off472 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.2.2.2.1 k1_t1 k1_t59 k1_h3 k1_h18 r
theorem k1_off473_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off473 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.2.2.2.2.1 k1_t1 k1_t59 k1_h3 k1_h18 r
theorem k1_off474_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off474 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.2.2.2.2.2.1 k1_t1 k1_t59 k1_h3 k1_h18 r
theorem k1_off475_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t59 : Fin (k1_t59_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off475 i v55 v57 k1_t1 k1_t59 (BitVec.ofNat 32 r.val)) a + S1x16.size a ≤ S256x128.size a := fun i v27 v29 v31 v33 v35 v37 v39 v41 v43 v45 v47 v49 v51 v53 v55 v57 k1_hw1 k1_t1 k1_t59 k1_h3 k1_h18 r => k1_hw1.2.2.2.2.2.2.2.2.2.2.2.2.2.2.2.2.1.2.2.2.2.2.2.2.2.1 k1_t1 k1_t59 k1_h3 k1_h18 r
theorem k1_t60_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h18 : k1_cond18 i v55 v57 k1_t1 = 1#1), (k1_t60_loop i v55 v57 k1_t1).OK := fun i v27 v29 v31 v33 v35 v37 v39 v41 v43 v45 v47 v49 v51 v53 v55 v57 k1_hw1 k1_t1 k1_h3 k1_h18 => k1_hw1.2.2.2.2.2.2.2.2.2.2.2.2.2.2.2.2.1.2.2.2.2.2.2.2.2.2.1 k1_t1 k1_h3 k1_h18
theorem k1_off476_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off476 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.1 k1_t1 k1_t60 k1_h3 k1_h18 r
theorem k1_off477_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off477 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.1 k1_t1 k1_t60 k1_h3 k1_h18 r
theorem k1_off478_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off478 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.2.1 k1_t1 k1_t60 k1_h3 k1_h18 r
theorem k1_off479_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off479 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.2.2.1 k1_t1 k1_t60 k1_h3 k1_h18 r
theorem k1_off480_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off480 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.2.2.2.1 k1_t1 k1_t60 k1_h3 k1_h18 r
theorem k1_off481_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off481 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.2.2.2.2.1 k1_t1 k1_t60 k1_h3 k1_h18 r
theorem k1_off482_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off482 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.2.2.2.2.2.1 k1_t1 k1_t60 k1_h3 k1_h18 r
theorem k1_off483_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t60 : Fin (k1_t60_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ (r : Fin 4), ∀ a, (k1_off483 i v55 v57 k1_t1 k1_t60 (BitVec.ofNat 32 r.val)) a + S1x16.size a ≤ S256x128.size a := fun i v27 v29 v31 v33 v35 v37 v39 v41 v43 v45 v47 v49 v51 v53 v55 v57 k1_hw1 k1_t1 k1_t60 k1_h3 k1_h18 r => k1_hw1.2.2.2.2.2.2.2.2.2.2.2.2.2.2.2.2.1.2.2.2.2.2.2.2.2.2.2.2.2.2.2.2.2.2.1 k1_t1 k1_t60 k1_h3 k1_h18 r
theorem k1_t61_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h18 : k1_cond18 i v55 v57 k1_t1 = 1#1), (k1_t61_loop i v55 v57 k1_t1).OK := fun i v27 v29 v31 v33 v35 v37 v39 v41 v43 v45 v47 v49 v51 v53 v55 v57 k1_hw1 k1_t1 k1_h3 k1_h18 => k1_hw1.2.2.2.2.2.2.2.2.2.2.2.2.2.2.2.2.1.2.2.2.2.2.2.2.2.2.2.2.2.2.2.2.2.2.2.1 k1_t1 k1_h3 k1_h18
theorem k1_off484_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off484 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.1 k1_t1 k1_t61 k1_h3 k1_h18
theorem k1_off485_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off485 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.1 k1_t1 k1_t61 k1_h3 k1_h18
theorem k1_off486_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off486 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.2.1 k1_t1 k1_t61 k1_h3 k1_h18
theorem k1_off487_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off487 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.2.2.1 k1_t1 k1_t61 k1_h3 k1_h18
theorem k1_off488_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off488 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.2.2.2.1 k1_t1 k1_t61 k1_h3 k1_h18
theorem k1_off489_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off489 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.2.2.2.2.1 k1_t1 k1_t61 k1_h3 k1_h18
theorem k1_off490_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off490 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.2.2.2.2.2.1 k1_t1 k1_t61 k1_h3 k1_h18
theorem k1_off491_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t61 : Fin (k1_t61_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off491 i v55 v57 k1_t1 k1_t61) a + S1x16.size a ≤ S256x128.size a := fun i v27 v29 v31 v33 v35 v37 v39 v41 v43 v45 v47 v49 v51 v53 v55 v57 k1_hw1 k1_t1 k1_t61 k1_h3 k1_h18 => k1_hw1.2.2.2.2.2.2.2.2.2.2.2.2.2.2.2.2.1.2.2.2.2.2.2.2.2.2.2.2.2.2.2.2.2.2.2.2.2.2.2.2.2.2.2.1 k1_t1 k1_t61 k1_h3 k1_h18
theorem k1_t62_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h3 : k1_cond3 i v27 v29 v31 v33 v35 v37 v39 v41 v43 v45 v47 v49 v51 v53 v55 v57 k1_t1 = 1#1), ∀ (k1_h18 : k1_cond18 i v55 v57 k1_t1 = 1#1), (k1_t62_loop i v55 v57 k1_t1).OK := fun i v27 v29 v31 v33 v35 v37 v39 v41 v43 v45 v47 v49 v51 v53 v55 v57 k1_hw1 k1_t1 k1_h3 k1_h18 => k1_hw1.2.2.2.2.2.2.2.2.2.2.2.2.2.2.2.2.1.2.2.2.2.2.2.2.2.2.2.2.2.2.2.2.2.2.2.2.2.2.2.2.2.2.2.2.1 k1_t1 k1_h3 k1_h18
theorem k1_off492_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off492 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.1.2.2.2.2.2.2.2.2.2.2.2.2.2.2.2.2.2.2.2.2.2.2.2.2.2.2.2.2.1 k1_t1 k1_t62 k1_h3 k1_h18
theorem k1_off493_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off493 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.1.2.2.2.2.2.2.2.2.2.2.2.2.2.2.2.2.2.2.2.2.2.2.2.2.2.2.2.2.2.1 k1_t1 k1_t62 k1_h3 k1_h18
theorem k1_off494_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off494 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.1.2.2.2.2.2.2.2.2.2.2.2.2.2.2.2.2.2.2.2.2.2.2.2.2.2.2.2.2.2.2.1 k1_t1 k1_t62 k1_h3 k1_h18
theorem k1_off495_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off495 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.1.2.2.2.2.2.2.2.2.2.2.2.2.2.2.2.2.2.2.2.2.2.2.2.2.2.2.2.2.2.2.2 k1_t1 k1_t62 k1_h3 k1_h18
theorem k1_off496_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off496 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.2.1.1 k1_t1 k1_t62 k1_h3 k1_h18
theorem k1_off497_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off497 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.2.1.2.1 k1_t1 k1_t62 k1_h3 k1_h18
theorem k1_off498_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off498 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.2.1.2.2.1 k1_t1 k1_t62 k1_h3 k1_h18
theorem k1_off499_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t62 : Fin (k1_t62_loop i v55 v57 k1_t1).trips), ∀ (k1_h3 : k1_cond3 i v27 v29 v31 v33 v35 v37 v39 v41 v43 v45 v47 v49 v51 v53 v55 v57 k1_t1 = 1#1), ∀ (k1_h18 : k1_cond18 i v55 v57 k1_t1 = 1#1), ∀ a, (k1_off499 i v55 v57 k1_t1 k1_t62) a + S1x16.size a ≤ S256x128.size a := fun i v27 v29 v31 v33 v35 v37 v39 v41 v43 v45 v47 v49 v51 v53 v55 v57 k1_hw1 k1_t1 k1_t62 k1_h3 k1_h18 => k1_hw1.2.2.2.2.2.2.2.2.2.2.2.2.2.2.2.2.2.1.2.2.2.1 k1_t1 k1_t62 k1_h3 k1_h18
theorem k1_off542_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off542 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.1 k1_t1 k1_h20 k1_h22
theorem k1_off543_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off543 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.1 k1_t1 k1_h20 k1_h22
theorem k1_off544_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off544 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.2.1 k1_t1 k1_h20 k1_h22
theorem k1_off545_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off545 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.2.2.1 k1_t1 k1_h20 k1_h22
theorem k1_off546_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off546 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.2.2.2.1 k1_t1 k1_h20 k1_h22
theorem k1_off547_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off547 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.2.2.2.2.1 k1_t1 k1_h20 k1_h22
theorem k1_off548_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off548 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.2.2.2.2.2.1 k1_t1 k1_h20 k1_h22
theorem k1_off549_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h22 : k1_cond22 i v27 v29 v31 v33 v35 v37 v39 v41 v43 v45 v47 v49 v51 v53 v55 v57 k1_t1 = 1#1), ∀ a, (k1_off549 i v27 v29 v31 v33 v35 v37 v39 v41 v43 v45 v47 v49 v51 v53 v55 v57 k1_t1) a + S1x16.size a ≤ S16x128.size a := fun i v27 v29 v31 v33 v35 v37 v39 v41 v43 v45 v47 v49 v51 v53 v55 v57 k1_hw1 k1_t1 k1_h20 k1_h22 => k1_hw1.2.2.2.2.2.2.2.2.2.2.2.2.2.2.2.2.2.1.2.2.2.2.2.2.2.2.2.2.2.1 k1_t1 k1_h20 k1_h22
theorem k1_t68_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t68_loop i v27 v29 k1_t1).OK := fun i v27 v29 v31 v33 v35 v37 v39 v41 v43 v45 v47 v49 v51 v53 v55 v57 k1_hw1 k1_t1 k1_h20 k1_h23 k1_h24 => k1_hw1.2.2.2.2.2.2.2.2.2.2.2.2.2.2.2.2.2.1.2.2.2.2.2.2.2.2.2.2.2.2.1 k1_t1 k1_h20 k1_h23 k1_h24
theorem k1_off550_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off550 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.1 k1_t1 k1_t68 k1_h20 k1_h23 k1_h24 r
theorem k1_off551_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off551 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.1 k1_t1 k1_t68 k1_h20 k1_h23 k1_h24 r
theorem k1_off552_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off552 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.2.1 k1_t1 k1_t68 k1_h20 k1_h23 k1_h24 r
theorem k1_off553_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off553 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.2.2.1 k1_t1 k1_t68 k1_h20 k1_h23 k1_h24 r
theorem k1_off554_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off554 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.2.2.2.1 k1_t1 k1_t68 k1_h20 k1_h23 k1_h24 r
theorem k1_off555_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off555 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.2.2.2.2.1 k1_t1 k1_t68 k1_h20 k1_h23 k1_h24 r
theorem k1_off556_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off556 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.2.2.2.2.2.1 k1_t1 k1_t68 k1_h20 k1_h23 k1_h24 r
theorem k1_off557_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t68 : Fin (k1_t68_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off557 i v27 v29 k1_t1 k1_t68 (BitVec.ofNat 32 r.val)) a + S1x16.size a ≤ S256x128.size a := fun i v27 v29 v31 v33 v35 v37 v39 v41 v43 v45 v47 v49 v51 v53 v55 v57 k1_hw1 k1_t1 k1_t68 k1_h20 k1_h23 k1_h24 r => k1_hw1.2.2.2.2.2.2.2.2.2.2.2.2.2.2.2.2.2.1.2.2.2.2.2.2.2.2.2.2.2.2.2.2.2.2.2.2.2.2.1 k1_t1 k1_t68 k1_h20 k1_h23 k1_h24 r
theorem k1_t69_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t69_loop i v27 v29 k1_t1).OK := fun i v27 v29 v31 v33 v35 v37 v39 v41 v43 v45 v47 v49 v51 v53 v55 v57 k1_hw1 k1_t1 k1_h20 k1_h23 k1_h24 => k1_hw1.2.2.2.2.2.2.2.2.2.2.2.2.2.2.2.2.2.1.2.2.2.2.2.2.2.2.2.2.2.2.2.2.2.2.2.2.2.2.2.1 k1_t1 k1_h20 k1_h23 k1_h24
theorem k1_off558_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off558 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.1 k1_t1 k1_t69 k1_h20 k1_h23 k1_h24 r
theorem k1_off559_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off559 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.1 k1_t1 k1_t69 k1_h20 k1_h23 k1_h24 r
theorem k1_off560_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off560 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.2.1 k1_t1 k1_t69 k1_h20 k1_h23 k1_h24 r
theorem k1_off561_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off561 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.2.2.1 k1_t1 k1_t69 k1_h20 k1_h23 k1_h24 r
theorem k1_off562_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off562 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.2.2.2.1 k1_t1 k1_t69 k1_h20 k1_h23 k1_h24 r
theorem k1_off563_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off563 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.2.2.2.2.1 k1_t1 k1_t69 k1_h20 k1_h23 k1_h24 r
theorem k1_off564_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off564 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.2.2.2.2.2.1 k1_t1 k1_t69 k1_h20 k1_h23 k1_h24 r
theorem k1_off565_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t69 : Fin (k1_t69_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ (r : Fin 4), ∀ a, (k1_off565 i v27 v29 k1_t1 k1_t69 (BitVec.ofNat 32 r.val)) a + S1x16.size a ≤ S256x128.size a := fun i v27 v29 v31 v33 v35 v37 v39 v41 v43 v45 v47 v49 v51 v53 v55 v57 k1_hw1 k1_t1 k1_t69 k1_h20 k1_h23 k1_h24 r => k1_hw1.2.2.2.2.2.2.2.2.2.2.2.2.2.2.2.2.2.1.2.2.2.2.2.2.2.2.2.2.2.2.2.2.2.2.2.2.2.2.2.2.2.2.2.2.2.2.2.1 k1_t1 k1_t69 k1_h20 k1_h23 k1_h24 r
theorem k1_t70_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t70_loop i v27 v29 k1_t1).OK := fun i v27 v29 v31 v33 v35 v37 v39 v41 v43 v45 v47 v49 v51 v53 v55 v57 k1_hw1 k1_t1 k1_h20 k1_h23 k1_h24 => k1_hw1.2.2.2.2.2.2.2.2.2.2.2.2.2.2.2.2.2.1.2.2.2.2.2.2.2.2.2.2.2.2.2.2.2.2.2.2.2.2.2.2.2.2.2.2.2.2.2.2.1 k1_t1 k1_h20 k1_h23 k1_h24
theorem k1_off566_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off566 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.1.2.2.2.2.2.2.2.2.2.2.2.2.2.2.2.2.2.2.2.2.2.2.2.2.2.2.2.2.2.2.2 k1_t1 k1_t70 k1_h20 k1_h23 k1_h24
theorem k1_off567_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off567 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.1 k1_t1 k1_t70 k1_h20 k1_h23 k1_h24
theorem k1_off568_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off568 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.2.1 k1_t1 k1_t70 k1_h20 k1_h23 k1_h24
theorem k1_off569_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off569 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.2.2.1 k1_t1 k1_t70 k1_h20 k1_h23 k1_h24
theorem k1_off570_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off570 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.2.2.2.1 k1_t1 k1_t70 k1_h20 k1_h23 k1_h24
theorem k1_off571_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off571 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.2.2.2.2.1 k1_t1 k1_t70 k1_h20 k1_h23 k1_h24
theorem k1_off572_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off572 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.2.2.2.2.2.1 k1_t1 k1_t70 k1_h20 k1_h23 k1_h24
theorem k1_off573_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t70 : Fin (k1_t70_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off573 i v27 v29 k1_t1 k1_t70) a + S1x16.size a ≤ S256x128.size a := fun i v27 v29 v31 v33 v35 v37 v39 v41 v43 v45 v47 v49 v51 v53 v55 v57 k1_hw1 k1_t1 k1_t70 k1_h20 k1_h23 k1_h24 => k1_hw1.2.2.2.2.2.2.2.2.2.2.2.2.2.2.2.2.2.2.1.2.2.2.2.2.2.1 k1_t1 k1_t70 k1_h20 k1_h23 k1_h24
theorem k1_t71_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), (k1_t71_loop i v27 v29 k1_t1).OK := fun i v27 v29 v31 v33 v35 v37 v39 v41 v43 v45 v47 v49 v51 v53 v55 v57 k1_hw1 k1_t1 k1_h20 k1_h23 k1_h24 => k1_hw1.2.2.2.2.2.2.2.2.2.2.2.2.2.2.2.2.2.2.1.2.2.2.2.2.2.2.1 k1_t1 k1_h20 k1_h23 k1_h24
theorem k1_off574_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off574 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.1 k1_t1 k1_t71 k1_h20 k1_h23 k1_h24
theorem k1_off575_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off575 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.1 k1_t1 k1_t71 k1_h20 k1_h23 k1_h24
theorem k1_off576_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off576 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.2.1 k1_t1 k1_t71 k1_h20 k1_h23 k1_h24
theorem k1_off577_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off577 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.2.2.1 k1_t1 k1_t71 k1_h20 k1_h23 k1_h24
theorem k1_off578_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off578 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.2.2.2.1 k1_t1 k1_t71 k1_h20 k1_h23 k1_h24
theorem k1_off579_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off579 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.2.2.2.2.1 k1_t1 k1_t71 k1_h20 k1_h23 k1_h24
theorem k1_off580_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off580 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.2.2.2.2.2.1 k1_t1 k1_t71 k1_h20 k1_h23 k1_h24
theorem k1_off581_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t71 : Fin (k1_t71_loop i v27 v29 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h24 : k1_cond24 i v27 v29 k1_t1 = 1#1), ∀ a, (k1_off581 i v27 v29 k1_t1 k1_t71) a + S1x16.size a ≤ S256x128.size a := fun i v27 v29 v31 v33 v35 v37 v39 v41 v43 v45 v47 v49 v51 v53 v55 v57 k1_hw1 k1_t1 k1_t71 k1_h20 k1_h23 k1_h24 => k1_hw1.2.2.2.2.2.2.2.2.2.2.2.2.2.2.2.2.2.2.1.2.2.2.2.2.2.2.2.2.2.2.2.2.2.2.1 k1_t1 k1_t71 k1_h20 k1_h23 k1_h24
theorem k1_t72_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t72_loop i v29 v31 k1_t1).OK := fun i v27 v29 v31 v33 v35 v37 v39 v41 v43 v45 v47 v49 v51 v53 v55 v57 k1_hw1 k1_t1 k1_h20 k1_h23 k1_h25 => k1_hw1.2.2.2.2.2.2.2.2.2.2.2.2.2.2.2.2.2.2.1.2.2.2.2.2.2.2.2.2.2.2.2.2.2.2.2.1 k1_t1 k1_h20 k1_h23 k1_h25
theorem k1_off582_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off582 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.1 k1_t1 k1_t72 k1_h20 k1_h23 k1_h25 r
theorem k1_off583_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off583 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.1 k1_t1 k1_t72 k1_h20 k1_h23 k1_h25 r
theorem k1_off584_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off584 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.2.1 k1_t1 k1_t72 k1_h20 k1_h23 k1_h25 r
theorem k1_off585_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off585 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.2.2.1 k1_t1 k1_t72 k1_h20 k1_h23 k1_h25 r
theorem k1_off586_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off586 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.2.2.2.1 k1_t1 k1_t72 k1_h20 k1_h23 k1_h25 r
theorem k1_off587_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off587 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.2.2.2.2.1 k1_t1 k1_t72 k1_h20 k1_h23 k1_h25 r
theorem k1_off588_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off588 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.2.2.2.2.2.1 k1_t1 k1_t72 k1_h20 k1_h23 k1_h25 r
theorem k1_off589_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t72 : Fin (k1_t72_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off589 i v29 v31 k1_t1 k1_t72 (BitVec.ofNat 32 r.val)) a + S1x16.size a ≤ S256x128.size a := fun i v27 v29 v31 v33 v35 v37 v39 v41 v43 v45 v47 v49 v51 v53 v55 v57 k1_hw1 k1_t1 k1_t72 k1_h20 k1_h23 k1_h25 r => k1_hw1.2.2.2.2.2.2.2.2.2.2.2.2.2.2.2.2.2.2.1.2.2.2.2.2.2.2.2.2.2.2.2.2.2.2.2.2.2.2.2.2.2.2.2.1 k1_t1 k1_t72 k1_h20 k1_h23 k1_h25 r
theorem k1_t73_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t73_loop i v29 v31 k1_t1).OK := fun i v27 v29 v31 v33 v35 v37 v39 v41 v43 v45 v47 v49 v51 v53 v55 v57 k1_hw1 k1_t1 k1_h20 k1_h23 k1_h25 => k1_hw1.2.2.2.2.2.2.2.2.2.2.2.2.2.2.2.2.2.2.1.2.2.2.2.2.2.2.2.2.2.2.2.2.2.2.2.2.2.2.2.2.2.2.2.2.1 k1_t1 k1_h20 k1_h23 k1_h25
theorem k1_off590_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off590 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.1.2.2.2.2.2.2.2.2.2.2.2.2.2.2.2.2.2.2.2.2.2.2.2.2.2.2.1 k1_t1 k1_t73 k1_h20 k1_h23 k1_h25 r
theorem k1_off591_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off591 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.1.2.2.2.2.2.2.2.2.2.2.2.2.2.2.2.2.2.2.2.2.2.2.2.2.2.2.2.1 k1_t1 k1_t73 k1_h20 k1_h23 k1_h25 r
theorem k1_off592_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off592 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.1.2.2.2.2.2.2.2.2.2.2.2.2.2.2.2.2.2.2.2.2.2.2.2.2.2.2.2.2.1 k1_t1 k1_t73 k1_h20 k1_h23 k1_h25 r
theorem k1_off593_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off593 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.1.2.2.2.2.2.2.2.2.2.2.2.2.2.2.2.2.2.2.2.2.2.2.2.2.2.2.2.2.2.1 k1_t1 k1_t73 k1_h20 k1_h23 k1_h25 r
theorem k1_off594_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off594 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.1.2.2.2.2.2.2.2.2.2.2.2.2.2.2.2.2.2.2.2.2.2.2.2.2.2.2.2.2.2.2.1 k1_t1 k1_t73 k1_h20 k1_h23 k1_h25 r
theorem k1_off595_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off595 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.1.2.2.2.2.2.2.2.2.2.2.2.2.2.2.2.2.2.2.2.2.2.2.2.2.2.2.2.2.2.2.2 k1_t1 k1_t73 k1_h20 k1_h23 k1_h25 r
theorem k1_off596_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off596 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.2.1.1 k1_t1 k1_t73 k1_h20 k1_h23 k1_h25 r
theorem k1_off597_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t73 : Fin (k1_t73_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ (r : Fin 4), ∀ a, (k1_off597 i v29 v31 k1_t1 k1_t73 (BitVec.ofNat 32 r.val)) a + S1x16.size a ≤ S256x128.size a := fun i v27 v29 v31 v33 v35 v37 v39 v41 v43 v45 v47 v49 v51 v53 v55 v57 k1_hw1 k1_t1 k1_t73 k1_h20 k1_h23 k1_h25 r => k1_hw1.2.2.2.2.2.2.2.2.2.2.2.2.2.2.2.2.2.2.2.1.2.1 k1_t1 k1_t73 k1_h20 k1_h23 k1_h25 r
theorem k1_t74_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t74_loop i v29 v31 k1_t1).OK := fun i v27 v29 v31 v33 v35 v37 v39 v41 v43 v45 v47 v49 v51 v53 v55 v57 k1_hw1 k1_t1 k1_h20 k1_h23 k1_h25 => k1_hw1.2.2.2.2.2.2.2.2.2.2.2.2.2.2.2.2.2.2.2.1.2.2.1 k1_t1 k1_h20 k1_h23 k1_h25
theorem k1_off598_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off598 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.1 k1_t1 k1_t74 k1_h20 k1_h23 k1_h25
theorem k1_off599_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off599 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.1 k1_t1 k1_t74 k1_h20 k1_h23 k1_h25
theorem k1_off600_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off600 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.2.1 k1_t1 k1_t74 k1_h20 k1_h23 k1_h25
theorem k1_off601_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off601 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.2.2.1 k1_t1 k1_t74 k1_h20 k1_h23 k1_h25
theorem k1_off602_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off602 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.2.2.2.1 k1_t1 k1_t74 k1_h20 k1_h23 k1_h25
theorem k1_off603_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off603 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.2.2.2.2.1 k1_t1 k1_t74 k1_h20 k1_h23 k1_h25
theorem k1_off604_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off604 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.2.2.2.2.2.1 k1_t1 k1_t74 k1_h20 k1_h23 k1_h25
theorem k1_off605_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t74 : Fin (k1_t74_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off605 i v29 v31 k1_t1 k1_t74) a + S1x16.size a ≤ S256x128.size a := fun i v27 v29 v31 v33 v35 v37 v39 v41 v43 v45 v47 v49 v51 v53 v55 v57 k1_hw1 k1_t1 k1_t74 k1_h20 k1_h23 k1_h25 => k1_hw1.2.2.2.2.2.2.2.2.2.2.2.2.2.2.2.2.2.2.2.1.2.2.2.2.2.2.2.2.2.2.1 k1_t1 k1_t74 k1_h20 k1_h23 k1_h25
theorem k1_t75_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), (k1_t75_loop i v29 v31 k1_t1).OK := fun i v27 v29 v31 v33 v35 v37 v39 v41 v43 v45 v47 v49 v51 v53 v55 v57 k1_hw1 k1_t1 k1_h20 k1_h23 k1_h25 => k1_hw1.2.2.2.2.2.2.2.2.2.2.2.2.2.2.2.2.2.2.2.1.2.2.2.2.2.2.2.2.2.2.2.1 k1_t1 k1_h20 k1_h23 k1_h25
theorem k1_off606_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off606 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.1 k1_t1 k1_t75 k1_h20 k1_h23 k1_h25
theorem k1_off607_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off607 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.1 k1_t1 k1_t75 k1_h20 k1_h23 k1_h25
theorem k1_off608_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off608 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.2.1 k1_t1 k1_t75 k1_h20 k1_h23 k1_h25
theorem k1_off609_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off609 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.2.2.1 k1_t1 k1_t75 k1_h20 k1_h23 k1_h25
theorem k1_off610_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off610 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.2.2.2.1 k1_t1 k1_t75 k1_h20 k1_h23 k1_h25
theorem k1_off611_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off611 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.2.2.2.2.1 k1_t1 k1_t75 k1_h20 k1_h23 k1_h25
theorem k1_off612_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off612 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.2.2.2.2.2.1 k1_t1 k1_t75 k1_h20 k1_h23 k1_h25
theorem k1_off613_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t75 : Fin (k1_t75_loop i v29 v31 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h25 : k1_cond25 i v29 v31 k1_t1 = 1#1), ∀ a, (k1_off613 i v29 v31 k1_t1 k1_t75) a + S1x16.size a ≤ S256x128.size a := fun i v27 v29 v31 v33 v35 v37 v39 v41 v43 v45 v47 v49 v51 v53 v55 v57 k1_hw1 k1_t1 k1_t75 k1_h20 k1_h23 k1_h25 => k1_hw1.2.2.2.2.2.2.2.2.2.2.2.2.2.2.2.2.2.2.2.1.2.2.2.2.2.2.2.2.2.2.2.2.2.2.2.2.2.2.2.1 k1_t1 k1_t75 k1_h20 k1_h23 k1_h25
theorem k1_t76_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t76_loop i v31 v33 k1_t1).OK := fun i v27 v29 v31 v33 v35 v37 v39 v41 v43 v45 v47 v49 v51 v53 v55 v57 k1_hw1 k1_t1 k1_h20 k1_h23 k1_h26 => k1_hw1.2.2.2.2.2.2.2.2.2.2.2.2.2.2.2.2.2.2.2.1.2.2.2.2.2.2.2.2.2.2.2.2.2.2.2.2.2.2.2.2.1 k1_t1 k1_h20 k1_h23 k1_h26
theorem k1_off614_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off614 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.1 k1_t1 k1_t76 k1_h20 k1_h23 k1_h26 r
theorem k1_off615_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off615 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.1 k1_t1 k1_t76 k1_h20 k1_h23 k1_h26 r
theorem k1_off616_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off616 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.2.1 k1_t1 k1_t76 k1_h20 k1_h23 k1_h26 r
theorem k1_off617_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off617 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.2.2.1 k1_t1 k1_t76 k1_h20 k1_h23 k1_h26 r
theorem k1_off618_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off618 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.2.2.2.1 k1_t1 k1_t76 k1_h20 k1_h23 k1_h26 r
theorem k1_off619_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off619 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.2.2.2.2.1 k1_t1 k1_t76 k1_h20 k1_h23 k1_h26 r
theorem k1_off620_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off620 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.2.2.2.2.2.1 k1_t1 k1_t76 k1_h20 k1_h23 k1_h26 r
theorem k1_off621_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t76 : Fin (k1_t76_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off621 i v31 v33 k1_t1 k1_t76 (BitVec.ofNat 32 r.val)) a + S1x16.size a ≤ S256x128.size a := fun i v27 v29 v31 v33 v35 v37 v39 v41 v43 v45 v47 v49 v51 v53 v55 v57 k1_hw1 k1_t1 k1_t76 k1_h20 k1_h23 k1_h26 r => k1_hw1.2.2.2.2.2.2.2.2.2.2.2.2.2.2.2.2.2.2.2.1.2.2.2.2.2.2.2.2.2.2.2.2.2.2.2.2.2.2.2.2.2.2.2.2.2.2.2.2.1 k1_t1 k1_t76 k1_h20 k1_h23 k1_h26 r
theorem k1_t77_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t77_loop i v31 v33 k1_t1).OK := fun i v27 v29 v31 v33 v35 v37 v39 v41 v43 v45 v47 v49 v51 v53 v55 v57 k1_hw1 k1_t1 k1_h20 k1_h23 k1_h26 => k1_hw1.2.2.2.2.2.2.2.2.2.2.2.2.2.2.2.2.2.2.2.1.2.2.2.2.2.2.2.2.2.2.2.2.2.2.2.2.2.2.2.2.2.2.2.2.2.2.2.2.2.1 k1_t1 k1_h20 k1_h23 k1_h26
theorem k1_off622_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off622 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.1.2.2.2.2.2.2.2.2.2.2.2.2.2.2.2.2.2.2.2.2.2.2.2.2.2.2.2.2.2.2.1 k1_t1 k1_t77 k1_h20 k1_h23 k1_h26 r
theorem k1_off623_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off623 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.1.2.2.2.2.2.2.2.2.2.2.2.2.2.2.2.2.2.2.2.2.2.2.2.2.2.2.2.2.2.2.2 k1_t1 k1_t77 k1_h20 k1_h23 k1_h26 r
theorem k1_off624_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off624 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.2.1.1 k1_t1 k1_t77 k1_h20 k1_h23 k1_h26 r
theorem k1_off625_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off625 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.2.1.2.1 k1_t1 k1_t77 k1_h20 k1_h23 k1_h26 r
theorem k1_off626_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off626 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.2.1.2.2.1 k1_t1 k1_t77 k1_h20 k1_h23 k1_h26 r
theorem k1_off627_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off627 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.2.1.2.2.2.1 k1_t1 k1_t77 k1_h20 k1_h23 k1_h26 r
theorem k1_off628_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off628 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.2.1.2.2.2.2.1 k1_t1 k1_t77 k1_h20 k1_h23 k1_h26 r
theorem k1_off629_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t77 : Fin (k1_t77_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ (r : Fin 4), ∀ a, (k1_off629 i v31 v33 k1_t1 k1_t77 (BitVec.ofNat 32 r.val)) a + S1x16.size a ≤ S256x128.size a := fun i v27 v29 v31 v33 v35 v37 v39 v41 v43 v45 v47 v49 v51 v53 v55 v57 k1_hw1 k1_t1 k1_t77 k1_h20 k1_h23 k1_h26 r => k1_hw1.2.2.2.2.2.2.2.2.2.2.2.2.2.2.2.2.2.2.2.2.1.2.2.2.2.2.1 k1_t1 k1_t77 k1_h20 k1_h23 k1_h26 r
theorem k1_t78_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t78_loop i v31 v33 k1_t1).OK := fun i v27 v29 v31 v33 v35 v37 v39 v41 v43 v45 v47 v49 v51 v53 v55 v57 k1_hw1 k1_t1 k1_h20 k1_h23 k1_h26 => k1_hw1.2.2.2.2.2.2.2.2.2.2.2.2.2.2.2.2.2.2.2.2.1.2.2.2.2.2.2.1 k1_t1 k1_h20 k1_h23 k1_h26
theorem k1_off630_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off630 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.1 k1_t1 k1_t78 k1_h20 k1_h23 k1_h26
theorem k1_off631_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off631 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.1 k1_t1 k1_t78 k1_h20 k1_h23 k1_h26
theorem k1_off632_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off632 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.2.1 k1_t1 k1_t78 k1_h20 k1_h23 k1_h26
theorem k1_off633_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off633 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.2.2.1 k1_t1 k1_t78 k1_h20 k1_h23 k1_h26
theorem k1_off634_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off634 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.2.2.2.1 k1_t1 k1_t78 k1_h20 k1_h23 k1_h26
theorem k1_off635_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off635 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.2.2.2.2.1 k1_t1 k1_t78 k1_h20 k1_h23 k1_h26
theorem k1_off636_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off636 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.2.2.2.2.2.1 k1_t1 k1_t78 k1_h20 k1_h23 k1_h26
theorem k1_off637_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t78 : Fin (k1_t78_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off637 i v31 v33 k1_t1 k1_t78) a + S1x16.size a ≤ S256x128.size a := fun i v27 v29 v31 v33 v35 v37 v39 v41 v43 v45 v47 v49 v51 v53 v55 v57 k1_hw1 k1_t1 k1_t78 k1_h20 k1_h23 k1_h26 => k1_hw1.2.2.2.2.2.2.2.2.2.2.2.2.2.2.2.2.2.2.2.2.1.2.2.2.2.2.2.2.2.2.2.2.2.2.2.1 k1_t1 k1_t78 k1_h20 k1_h23 k1_h26
theorem k1_t79_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), (k1_t79_loop i v31 v33 k1_t1).OK := fun i v27 v29 v31 v33 v35 v37 v39 v41 v43 v45 v47 v49 v51 v53 v55 v57 k1_hw1 k1_t1 k1_h20 k1_h23 k1_h26 => k1_hw1.2.2.2.2.2.2.2.2.2.2.2.2.2.2.2.2.2.2.2.2.1.2.2.2.2.2.2.2.2.2.2.2.2.2.2.2.1 k1_t1 k1_h20 k1_h23 k1_h26
theorem k1_off638_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off638 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.1 k1_t1 k1_t79 k1_h20 k1_h23 k1_h26
theorem k1_off639_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off639 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.1 k1_t1 k1_t79 k1_h20 k1_h23 k1_h26
theorem k1_off640_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off640 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.2.1 k1_t1 k1_t79 k1_h20 k1_h23 k1_h26
theorem k1_off641_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off641 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.2.2.1 k1_t1 k1_t79 k1_h20 k1_h23 k1_h26
theorem k1_off642_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off642 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.2.2.2.1 k1_t1 k1_t79 k1_h20 k1_h23 k1_h26
theorem k1_off643_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off643 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.2.2.2.2.1 k1_t1 k1_t79 k1_h20 k1_h23 k1_h26
theorem k1_off644_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off644 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.2.2.2.2.2.1 k1_t1 k1_t79 k1_h20 k1_h23 k1_h26
theorem k1_off645_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t79 : Fin (k1_t79_loop i v31 v33 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h26 : k1_cond26 i v31 v33 k1_t1 = 1#1), ∀ a, (k1_off645 i v31 v33 k1_t1 k1_t79) a + S1x16.size a ≤ S256x128.size a := fun i v27 v29 v31 v33 v35 v37 v39 v41 v43 v45 v47 v49 v51 v53 v55 v57 k1_hw1 k1_t1 k1_t79 k1_h20 k1_h23 k1_h26 => k1_hw1.2.2.2.2.2.2.2.2.2.2.2.2.2.2.2.2.2.2.2.2.1.2.2.2.2.2.2.2.2.2.2.2.2.2.2.2.2.2.2.2.2.2.2.2.1 k1_t1 k1_t79 k1_h20 k1_h23 k1_h26
theorem k1_t80_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t80_loop i v33 v35 k1_t1).OK := fun i v27 v29 v31 v33 v35 v37 v39 v41 v43 v45 v47 v49 v51 v53 v55 v57 k1_hw1 k1_t1 k1_h20 k1_h23 k1_h27 => k1_hw1.2.2.2.2.2.2.2.2.2.2.2.2.2.2.2.2.2.2.2.2.1.2.2.2.2.2.2.2.2.2.2.2.2.2.2.2.2.2.2.2.2.2.2.2.2.1 k1_t1 k1_h20 k1_h23 k1_h27
theorem k1_off646_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off646 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.1 k1_t1 k1_t80 k1_h20 k1_h23 k1_h27 r
theorem k1_off647_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off647 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.2.1 k1_t1 k1_t80 k1_h20 k1_h23 k1_h27 r
theorem k1_off648_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off648 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.2.2.1 k1_t1 k1_t80 k1_h20 k1_h23 k1_h27 r
theorem k1_off649_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off649 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.2.2.2.1 k1_t1 k1_t80 k1_h20 k1_h23 k1_h27 r
theorem k1_off650_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off650 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.2.2.2.2.1 k1_t1 k1_t80 k1_h20 k1_h23 k1_h27 r
theorem k1_off651_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off651 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.2.2.2.2.2.1 k1_t1 k1_t80 k1_h20 k1_h23 k1_h27 r
theorem k1_off652_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off652 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.1.2.2.2.2.2.2.2.2.2.2.2.2.2.2.2.2.2.2.2.2.2.2.2.2.2.2.2.2.2.2.2 k1_t1 k1_t80 k1_h20 k1_h23 k1_h27 r
theorem k1_off653_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t80 : Fin (k1_t80_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off653 i v33 v35 k1_t1 k1_t80 (BitVec.ofNat 32 r.val)) a + S1x16.size a ≤ S256x128.size a := fun i v27 v29 v31 v33 v35 v37 v39 v41 v43 v45 v47 v49 v51 v53 v55 v57 k1_hw1 k1_t1 k1_t80 k1_h20 k1_h23 k1_h27 r => k1_hw1.2.2.2.2.2.2.2.2.2.2.2.2.2.2.2.2.2.2.2.2.2.1.1 k1_t1 k1_t80 k1_h20 k1_h23 k1_h27 r
theorem k1_t81_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t81_loop i v33 v35 k1_t1).OK := fun i v27 v29 v31 v33 v35 v37 v39 v41 v43 v45 v47 v49 v51 v53 v55 v57 k1_hw1 k1_t1 k1_h20 k1_h23 k1_h27 => k1_hw1.2.2.2.2.2.2.2.2.2.2.2.2.2.2.2.2.2.2.2.2.2.1.2.1 k1_t1 k1_h20 k1_h23 k1_h27
theorem k1_off654_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off654 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.1 k1_t1 k1_t81 k1_h20 k1_h23 k1_h27 r
theorem k1_off655_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off655 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.1 k1_t1 k1_t81 k1_h20 k1_h23 k1_h27 r
theorem k1_off656_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off656 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.2.1 k1_t1 k1_t81 k1_h20 k1_h23 k1_h27 r
theorem k1_off657_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off657 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.2.2.1 k1_t1 k1_t81 k1_h20 k1_h23 k1_h27 r
theorem k1_off658_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off658 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.2.2.2.1 k1_t1 k1_t81 k1_h20 k1_h23 k1_h27 r
theorem k1_off659_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off659 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.2.2.2.2.1 k1_t1 k1_t81 k1_h20 k1_h23 k1_h27 r
theorem k1_off660_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off660 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.2.2.2.2.2.1 k1_t1 k1_t81 k1_h20 k1_h23 k1_h27 r
theorem k1_off661_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t81 : Fin (k1_t81_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ (r : Fin 4), ∀ a, (k1_off661 i v33 v35 k1_t1 k1_t81 (BitVec.ofNat 32 r.val)) a + S1x16.size a ≤ S256x128.size a := fun i v27 v29 v31 v33 v35 v37 v39 v41 v43 v45 v47 v49 v51 v53 v55 v57 k1_hw1 k1_t1 k1_t81 k1_h20 k1_h23 k1_h27 r => k1_hw1.2.2.2.2.2.2.2.2.2.2.2.2.2.2.2.2.2.2.2.2.2.1.2.2.2.2.2.2.2.2.2.1 k1_t1 k1_t81 k1_h20 k1_h23 k1_h27 r
theorem k1_t82_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t82_loop i v33 v35 k1_t1).OK := fun i v27 v29 v31 v33 v35 v37 v39 v41 v43 v45 v47 v49 v51 v53 v55 v57 k1_hw1 k1_t1 k1_h20 k1_h23 k1_h27 => k1_hw1.2.2.2.2.2.2.2.2.2.2.2.2.2.2.2.2.2.2.2.2.2.1.2.2.2.2.2.2.2.2.2.2.1 k1_t1 k1_h20 k1_h23 k1_h27
theorem k1_off662_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off662 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.1 k1_t1 k1_t82 k1_h20 k1_h23 k1_h27
theorem k1_off663_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off663 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.1 k1_t1 k1_t82 k1_h20 k1_h23 k1_h27
theorem k1_off664_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off664 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.2.1 k1_t1 k1_t82 k1_h20 k1_h23 k1_h27
theorem k1_off665_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off665 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.2.2.1 k1_t1 k1_t82 k1_h20 k1_h23 k1_h27
theorem k1_off666_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off666 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.2.2.2.1 k1_t1 k1_t82 k1_h20 k1_h23 k1_h27
theorem k1_off667_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off667 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.2.2.2.2.1 k1_t1 k1_t82 k1_h20 k1_h23 k1_h27
theorem k1_off668_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off668 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.2.2.2.2.2.1 k1_t1 k1_t82 k1_h20 k1_h23 k1_h27
theorem k1_off669_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t82 : Fin (k1_t82_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off669 i v33 v35 k1_t1 k1_t82) a + S1x16.size a ≤ S256x128.size a := fun i v27 v29 v31 v33 v35 v37 v39 v41 v43 v45 v47 v49 v51 v53 v55 v57 k1_hw1 k1_t1 k1_t82 k1_h20 k1_h23 k1_h27 => k1_hw1.2.2.2.2.2.2.2.2.2.2.2.2.2.2.2.2.2.2.2.2.2.1.2.2.2.2.2.2.2.2.2.2.2.2.2.2.2.2.2.2.1 k1_t1 k1_t82 k1_h20 k1_h23 k1_h27
theorem k1_t83_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), (k1_t83_loop i v33 v35 k1_t1).OK := fun i v27 v29 v31 v33 v35 v37 v39 v41 v43 v45 v47 v49 v51 v53 v55 v57 k1_hw1 k1_t1 k1_h20 k1_h23 k1_h27 => k1_hw1.2.2.2.2.2.2.2.2.2.2.2.2.2.2.2.2.2.2.2.2.2.1.2.2.2.2.2.2.2.2.2.2.2.2.2.2.2.2.2.2.2.1 k1_t1 k1_h20 k1_h23 k1_h27
theorem k1_off670_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off670 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.1 k1_t1 k1_t83 k1_h20 k1_h23 k1_h27
theorem k1_off671_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off671 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.1 k1_t1 k1_t83 k1_h20 k1_h23 k1_h27
theorem k1_off672_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off672 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.2.1 k1_t1 k1_t83 k1_h20 k1_h23 k1_h27
theorem k1_off673_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off673 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.2.2.1 k1_t1 k1_t83 k1_h20 k1_h23 k1_h27
theorem k1_off674_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off674 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.2.2.2.1 k1_t1 k1_t83 k1_h20 k1_h23 k1_h27
theorem k1_off675_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off675 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.2.2.2.2.1 k1_t1 k1_t83 k1_h20 k1_h23 k1_h27
theorem k1_off676_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off676 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.2.2.2.2.2.1 k1_t1 k1_t83 k1_h20 k1_h23 k1_h27
theorem k1_off677_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t83 : Fin (k1_t83_loop i v33 v35 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h27 : k1_cond27 i v33 v35 k1_t1 = 1#1), ∀ a, (k1_off677 i v33 v35 k1_t1 k1_t83) a + S1x16.size a ≤ S256x128.size a := fun i v27 v29 v31 v33 v35 v37 v39 v41 v43 v45 v47 v49 v51 v53 v55 v57 k1_hw1 k1_t1 k1_t83 k1_h20 k1_h23 k1_h27 => k1_hw1.2.2.2.2.2.2.2.2.2.2.2.2.2.2.2.2.2.2.2.2.2.1.2.2.2.2.2.2.2.2.2.2.2.2.2.2.2.2.2.2.2.2.2.2.2.2.2.2.2.1 k1_t1 k1_t83 k1_h20 k1_h23 k1_h27
theorem k1_t84_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t84_loop i v35 v37 k1_t1).OK := fun i v27 v29 v31 v33 v35 v37 v39 v41 v43 v45 v47 v49 v51 v53 v55 v57 k1_hw1 k1_t1 k1_h20 k1_h23 k1_h28 => k1_hw1.2.2.2.2.2.2.2.2.2.2.2.2.2.2.2.2.2.2.2.2.2.1.2.2.2.2.2.2.2.2.2.2.2.2.2.2.2.2.2.2.2.2.2.2.2.2.2.2.2.2.1 k1_t1 k1_h20 k1_h23 k1_h28
theorem k1_off678_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off678 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.1.2.2.2.2.2.2.2.2.2.2.2.2.2.2.2.2.2.2.2.2.2.2.2.2.2.2.2.2.2.1 k1_t1 k1_t84 k1_h20 k1_h23 k1_h28 r
theorem k1_off679_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off679 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.1.2.2.2.2.2.2.2.2.2.2.2.2.2.2.2.2.2.2.2.2.2.2.2.2.2.2.2.2.2.2.1 k1_t1 k1_t84 k1_h20 k1_h23 k1_h28 r
theorem k1_off680_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off680 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.1.2.2.2.2.2.2.2.2.2.2.2.2.2.2.2.2.2.2.2.2.2.2.2.2.2.2.2.2.2.2.2 k1_t1 k1_t84 k1_h20 k1_h23 k1_h28 r
theorem k1_off681_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off681 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.2.1.1 k1_t1 k1_t84 k1_h20 k1_h23 k1_h28 r
theorem k1_off682_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off682 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.2.1.2.1 k1_t1 k1_t84 k1_h20 k1_h23 k1_h28 r
theorem k1_off683_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off683 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.2.1.2.2.1 k1_t1 k1_t84 k1_h20 k1_h23 k1_h28 r
theorem k1_off684_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off684 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.2.1.2.2.2.1 k1_t1 k1_t84 k1_h20 k1_h23 k1_h28 r
theorem k1_off685_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t84 : Fin (k1_t84_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off685 i v35 v37 k1_t1 k1_t84 (BitVec.ofNat 32 r.val)) a + S1x16.size a ≤ S256x128.size a := fun i v27 v29 v31 v33 v35 v37 v39 v41 v43 v45 v47 v49 v51 v53 v55 v57 k1_hw1 k1_t1 k1_t84 k1_h20 k1_h23 k1_h28 r => k1_hw1.2.2.2.2.2.2.2.2.2.2.2.2.2.2.2.2.2.2.2.2.2.2.1.2.2.2.2.1 k1_t1 k1_t84 k1_h20 k1_h23 k1_h28 r
theorem k1_t85_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t85_loop i v35 v37 k1_t1).OK := fun i v27 v29 v31 v33 v35 v37 v39 v41 v43 v45 v47 v49 v51 v53 v55 v57 k1_hw1 k1_t1 k1_h20 k1_h23 k1_h28 => k1_hw1.2.2.2.2.2.2.2.2.2.2.2.2.2.2.2.2.2.2.2.2.2.2.1.2.2.2.2.2.1 k1_t1 k1_h20 k1_h23 k1_h28
theorem k1_off686_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off686 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.1 k1_t1 k1_t85 k1_h20 k1_h23 k1_h28 r
theorem k1_off687_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off687 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.1 k1_t1 k1_t85 k1_h20 k1_h23 k1_h28 r
theorem k1_off688_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off688 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.2.1 k1_t1 k1_t85 k1_h20 k1_h23 k1_h28 r
theorem k1_off689_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off689 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.2.2.1 k1_t1 k1_t85 k1_h20 k1_h23 k1_h28 r
theorem k1_off690_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off690 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.2.2.2.1 k1_t1 k1_t85 k1_h20 k1_h23 k1_h28 r
theorem k1_off691_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off691 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.2.2.2.2.1 k1_t1 k1_t85 k1_h20 k1_h23 k1_h28 r
theorem k1_off692_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off692 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.2.2.2.2.2.1 k1_t1 k1_t85 k1_h20 k1_h23 k1_h28 r
theorem k1_off693_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t85 : Fin (k1_t85_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ (r : Fin 4), ∀ a, (k1_off693 i v35 v37 k1_t1 k1_t85 (BitVec.ofNat 32 r.val)) a + S1x16.size a ≤ S256x128.size a := fun i v27 v29 v31 v33 v35 v37 v39 v41 v43 v45 v47 v49 v51 v53 v55 v57 k1_hw1 k1_t1 k1_t85 k1_h20 k1_h23 k1_h28 r => k1_hw1.2.2.2.2.2.2.2.2.2.2.2.2.2.2.2.2.2.2.2.2.2.2.1.2.2.2.2.2.2.2.2.2.2.2.2.2.1 k1_t1 k1_t85 k1_h20 k1_h23 k1_h28 r
theorem k1_t86_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t86_loop i v35 v37 k1_t1).OK := fun i v27 v29 v31 v33 v35 v37 v39 v41 v43 v45 v47 v49 v51 v53 v55 v57 k1_hw1 k1_t1 k1_h20 k1_h23 k1_h28 => k1_hw1.2.2.2.2.2.2.2.2.2.2.2.2.2.2.2.2.2.2.2.2.2.2.1.2.2.2.2.2.2.2.2.2.2.2.2.2.2.1 k1_t1 k1_h20 k1_h23 k1_h28
theorem k1_off694_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off694 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.1 k1_t1 k1_t86 k1_h20 k1_h23 k1_h28
theorem k1_off695_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off695 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.1 k1_t1 k1_t86 k1_h20 k1_h23 k1_h28
theorem k1_off696_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off696 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.2.1 k1_t1 k1_t86 k1_h20 k1_h23 k1_h28
theorem k1_off697_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off697 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.2.2.1 k1_t1 k1_t86 k1_h20 k1_h23 k1_h28
theorem k1_off698_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off698 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.2.2.2.1 k1_t1 k1_t86 k1_h20 k1_h23 k1_h28
theorem k1_off699_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off699 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.2.2.2.2.1 k1_t1 k1_t86 k1_h20 k1_h23 k1_h28
theorem k1_off700_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off700 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.2.2.2.2.2.1 k1_t1 k1_t86 k1_h20 k1_h23 k1_h28
theorem k1_off701_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t86 : Fin (k1_t86_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off701 i v35 v37 k1_t1 k1_t86) a + S1x16.size a ≤ S256x128.size a := fun i v27 v29 v31 v33 v35 v37 v39 v41 v43 v45 v47 v49 v51 v53 v55 v57 k1_hw1 k1_t1 k1_t86 k1_h20 k1_h23 k1_h28 => k1_hw1.2.2.2.2.2.2.2.2.2.2.2.2.2.2.2.2.2.2.2.2.2.2.1.2.2.2.2.2.2.2.2.2.2.2.2.2.2.2.2.2.2.2.2.2.2.1 k1_t1 k1_t86 k1_h20 k1_h23 k1_h28
theorem k1_t87_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), (k1_t87_loop i v35 v37 k1_t1).OK := fun i v27 v29 v31 v33 v35 v37 v39 v41 v43 v45 v47 v49 v51 v53 v55 v57 k1_hw1 k1_t1 k1_h20 k1_h23 k1_h28 => k1_hw1.2.2.2.2.2.2.2.2.2.2.2.2.2.2.2.2.2.2.2.2.2.2.1.2.2.2.2.2.2.2.2.2.2.2.2.2.2.2.2.2.2.2.2.2.2.2.1 k1_t1 k1_h20 k1_h23 k1_h28
theorem k1_off702_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off702 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.1 k1_t1 k1_t87 k1_h20 k1_h23 k1_h28
theorem k1_off703_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off703 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.1 k1_t1 k1_t87 k1_h20 k1_h23 k1_h28
theorem k1_off704_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off704 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.2.1 k1_t1 k1_t87 k1_h20 k1_h23 k1_h28
theorem k1_off705_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off705 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.2.2.1 k1_t1 k1_t87 k1_h20 k1_h23 k1_h28
theorem k1_off706_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off706 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.2.2.2.1 k1_t1 k1_t87 k1_h20 k1_h23 k1_h28
theorem k1_off707_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off707 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.2.2.2.2.1 k1_t1 k1_t87 k1_h20 k1_h23 k1_h28
theorem k1_off708_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off708 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.2.2.2.2.2.1 k1_t1 k1_t87 k1_h20 k1_h23 k1_h28
theorem k1_off709_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t87 : Fin (k1_t87_loop i v35 v37 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h28 : k1_cond28 i v35 v37 k1_t1 = 1#1), ∀ a, (k1_off709 i v35 v37 k1_t1 k1_t87) a + S1x16.size a ≤ S256x128.size a := fun i v27 v29 v31 v33 v35 v37 v39 v41 v43 v45 v47 v49 v51 v53 v55 v57 k1_hw1 k1_t1 k1_t87 k1_h20 k1_h23 k1_h28 => k1_hw1.2.2.2.2.2.2.2.2.2.2.2.2.2.2.2.2.2.2.2.2.2.2.1.2.2.2.2.2.2.2.2.2.2.2.2.2.2.2.2.2.2.2.2.2.2.2.2.2.2.2.2.2.2.2 k1_t1 k1_t87 k1_h20 k1_h23 k1_h28
theorem k1_t88_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t88_loop i v37 v39 k1_t1).OK := fun i v27 v29 v31 v33 v35 v37 v39 v41 v43 v45 v47 v49 v51 v53 v55 v57 k1_hw1 k1_t1 k1_h20 k1_h23 k1_h29 => k1_hw1.2.2.2.2.2.2.2.2.2.2.2.2.2.2.2.2.2.2.2.2.2.2.2.1.1 k1_t1 k1_h20 k1_h23 k1_h29
theorem k1_off710_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off710 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.1 k1_t1 k1_t88 k1_h20 k1_h23 k1_h29 r
theorem k1_off711_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off711 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.1 k1_t1 k1_t88 k1_h20 k1_h23 k1_h29 r
theorem k1_off712_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off712 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.2.1 k1_t1 k1_t88 k1_h20 k1_h23 k1_h29 r
theorem k1_off713_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off713 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.2.2.1 k1_t1 k1_t88 k1_h20 k1_h23 k1_h29 r
theorem k1_off714_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off714 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.2.2.2.1 k1_t1 k1_t88 k1_h20 k1_h23 k1_h29 r
theorem k1_off715_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off715 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.2.2.2.2.1 k1_t1 k1_t88 k1_h20 k1_h23 k1_h29 r
theorem k1_off716_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off716 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.2.2.2.2.2.1 k1_t1 k1_t88 k1_h20 k1_h23 k1_h29 r
theorem k1_off717_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t88 : Fin (k1_t88_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off717 i v37 v39 k1_t1 k1_t88 (BitVec.ofNat 32 r.val)) a + S1x16.size a ≤ S256x128.size a := fun i v27 v29 v31 v33 v35 v37 v39 v41 v43 v45 v47 v49 v51 v53 v55 v57 k1_hw1 k1_t1 k1_t88 k1_h20 k1_h23 k1_h29 r => k1_hw1.2.2.2.2.2.2.2.2.2.2.2.2.2.2.2.2.2.2.2.2.2.2.2.1.2.2.2.2.2.2.2.2.1 k1_t1 k1_t88 k1_h20 k1_h23 k1_h29 r
theorem k1_t89_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t89_loop i v37 v39 k1_t1).OK := fun i v27 v29 v31 v33 v35 v37 v39 v41 v43 v45 v47 v49 v51 v53 v55 v57 k1_hw1 k1_t1 k1_h20 k1_h23 k1_h29 => k1_hw1.2.2.2.2.2.2.2.2.2.2.2.2.2.2.2.2.2.2.2.2.2.2.2.1.2.2.2.2.2.2.2.2.2.1 k1_t1 k1_h20 k1_h23 k1_h29
theorem k1_off718_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off718 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.1 k1_t1 k1_t89 k1_h20 k1_h23 k1_h29 r
theorem k1_off719_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off719 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.1 k1_t1 k1_t89 k1_h20 k1_h23 k1_h29 r
theorem k1_off720_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off720 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.2.1 k1_t1 k1_t89 k1_h20 k1_h23 k1_h29 r
theorem k1_off721_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off721 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.2.2.1 k1_t1 k1_t89 k1_h20 k1_h23 k1_h29 r
theorem k1_off722_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off722 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.2.2.2.1 k1_t1 k1_t89 k1_h20 k1_h23 k1_h29 r
theorem k1_off723_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off723 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.2.2.2.2.1 k1_t1 k1_t89 k1_h20 k1_h23 k1_h29 r
theorem k1_off724_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off724 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.2.2.2.2.2.1 k1_t1 k1_t89 k1_h20 k1_h23 k1_h29 r
theorem k1_off725_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t89 : Fin (k1_t89_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ (r : Fin 4), ∀ a, (k1_off725 i v37 v39 k1_t1 k1_t89 (BitVec.ofNat 32 r.val)) a + S1x16.size a ≤ S256x128.size a := fun i v27 v29 v31 v33 v35 v37 v39 v41 v43 v45 v47 v49 v51 v53 v55 v57 k1_hw1 k1_t1 k1_t89 k1_h20 k1_h23 k1_h29 r => k1_hw1.2.2.2.2.2.2.2.2.2.2.2.2.2.2.2.2.2.2.2.2.2.2.2.1.2.2.2.2.2.2.2.2.2.2.2.2.2.2.2.2.2.1 k1_t1 k1_t89 k1_h20 k1_h23 k1_h29 r
theorem k1_t90_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t90_loop i v37 v39 k1_t1).OK := fun i v27 v29 v31 v33 v35 v37 v39 v41 v43 v45 v47 v49 v51 v53 v55 v57 k1_hw1 k1_t1 k1_h20 k1_h23 k1_h29 => k1_hw1.2.2.2.2.2.2.2.2.2.2.2.2.2.2.2.2.2.2.2.2.2.2.2.1.2.2.2.2.2.2.2.2.2.2.2.2.2.2.2.2.2.2.1 k1_t1 k1_h20 k1_h23 k1_h29
theorem k1_off726_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off726 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.1 k1_t1 k1_t90 k1_h20 k1_h23 k1_h29
theorem k1_off727_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off727 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.1 k1_t1 k1_t90 k1_h20 k1_h23 k1_h29
theorem k1_off728_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off728 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.2.1 k1_t1 k1_t90 k1_h20 k1_h23 k1_h29
theorem k1_off729_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off729 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.2.2.1 k1_t1 k1_t90 k1_h20 k1_h23 k1_h29
theorem k1_off730_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off730 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.2.2.2.1 k1_t1 k1_t90 k1_h20 k1_h23 k1_h29
theorem k1_off731_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off731 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.2.2.2.2.1 k1_t1 k1_t90 k1_h20 k1_h23 k1_h29
theorem k1_off732_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off732 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.1 k1_t1 k1_t90 k1_h20 k1_h23 k1_h29
theorem k1_off733_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t90 : Fin (k1_t90_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off733 i v37 v39 k1_t1 k1_t90) a + S1x16.size a ≤ S256x128.size a := fun i v27 v29 v31 v33 v35 v37 v39 v41 v43 v45 v47 v49 v51 v53 v55 v57 k1_hw1 k1_t1 k1_t90 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.2.1 k1_t1 k1_t90 k1_h20 k1_h23 k1_h29
theorem k1_t91_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), (k1_t91_loop i v37 v39 k1_t1).OK := fun i v27 v29 v31 v33 v35 v37 v39 v41 v43 v45 v47 v49 v51 v53 v55 v57 k1_hw1 k1_t1 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.2.2.1 k1_t1 k1_h20 k1_h23 k1_h29
theorem k1_off734_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off734 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.2.2.2.1 k1_t1 k1_t91 k1_h20 k1_h23 k1_h29
theorem k1_off735_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off735 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.2.2.2.2.1 k1_t1 k1_t91 k1_h20 k1_h23 k1_h29
theorem k1_off736_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off736 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.2.2.2.2.2.1 k1_t1 k1_t91 k1_h20 k1_h23 k1_h29
theorem k1_off737_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off737 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.1.2.2.2.2.2.2.2.2.2.2.2.2.2.2.2.2.2.2.2.2.2.2.2.2.2.2.2.2.2.2.2 k1_t1 k1_t91 k1_h20 k1_h23 k1_h29
theorem k1_off738_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off738 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.2.1.1 k1_t1 k1_t91 k1_h20 k1_h23 k1_h29
theorem k1_off739_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off739 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.2.1.2.1 k1_t1 k1_t91 k1_h20 k1_h23 k1_h29
theorem k1_off740_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off740 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.2.1.2.2.1 k1_t1 k1_t91 k1_h20 k1_h23 k1_h29
theorem k1_off741_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t91 : Fin (k1_t91_loop i v37 v39 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h29 : k1_cond29 i v37 v39 k1_t1 = 1#1), ∀ a, (k1_off741 i v37 v39 k1_t1 k1_t91) a + S1x16.size a ≤ S256x128.size a := fun i v27 v29 v31 v33 v35 v37 v39 v41 v43 v45 v47 v49 v51 v53 v55 v57 k1_hw1 k1_t1 k1_t91 k1_h20 k1_h23 k1_h29 => k1_hw1.2.2.2.2.2.2.2.2.2.2.2.2.2.2.2.2.2.2.2.2.2.2.2.2.1.2.2.2.1 k1_t1 k1_t91 k1_h20 k1_h23 k1_h29
theorem k1_t92_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t92_loop i v39 v41 k1_t1).OK := fun i v27 v29 v31 v33 v35 v37 v39 v41 v43 v45 v47 v49 v51 v53 v55 v57 k1_hw1 k1_t1 k1_h20 k1_h23 k1_h30 => k1_hw1.2.2.2.2.2.2.2.2.2.2.2.2.2.2.2.2.2.2.2.2.2.2.2.2.1.2.2.2.2.1 k1_t1 k1_h20 k1_h23 k1_h30
theorem k1_off742_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off742 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.1 k1_t1 k1_t92 k1_h20 k1_h23 k1_h30 r
theorem k1_off743_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off743 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.1 k1_t1 k1_t92 k1_h20 k1_h23 k1_h30 r
theorem k1_off744_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off744 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.2.1 k1_t1 k1_t92 k1_h20 k1_h23 k1_h30 r
theorem k1_off745_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off745 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.2.2.1 k1_t1 k1_t92 k1_h20 k1_h23 k1_h30 r
theorem k1_off746_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off746 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.2.2.2.1 k1_t1 k1_t92 k1_h20 k1_h23 k1_h30 r
theorem k1_off747_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off747 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.2.2.2.2.1 k1_t1 k1_t92 k1_h20 k1_h23 k1_h30 r
theorem k1_off748_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off748 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.2.2.2.2.2.1 k1_t1 k1_t92 k1_h20 k1_h23 k1_h30 r
theorem k1_off749_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t92 : Fin (k1_t92_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off749 i v39 v41 k1_t1 k1_t92 (BitVec.ofNat 32 r.val)) a + S1x16.size a ≤ S256x128.size a := fun i v27 v29 v31 v33 v35 v37 v39 v41 v43 v45 v47 v49 v51 v53 v55 v57 k1_hw1 k1_t1 k1_t92 k1_h20 k1_h23 k1_h30 r => k1_hw1.2.2.2.2.2.2.2.2.2.2.2.2.2.2.2.2.2.2.2.2.2.2.2.2.1.2.2.2.2.2.2.2.2.2.2.2.2.1 k1_t1 k1_t92 k1_h20 k1_h23 k1_h30 r
theorem k1_t93_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t93_loop i v39 v41 k1_t1).OK := fun i v27 v29 v31 v33 v35 v37 v39 v41 v43 v45 v47 v49 v51 v53 v55 v57 k1_hw1 k1_t1 k1_h20 k1_h23 k1_h30 => k1_hw1.2.2.2.2.2.2.2.2.2.2.2.2.2.2.2.2.2.2.2.2.2.2.2.2.1.2.2.2.2.2.2.2.2.2.2.2.2.2.1 k1_t1 k1_h20 k1_h23 k1_h30
theorem k1_off750_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off750 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.1 k1_t1 k1_t93 k1_h20 k1_h23 k1_h30 r
theorem k1_off751_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off751 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.1 k1_t1 k1_t93 k1_h20 k1_h23 k1_h30 r
theorem k1_off752_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off752 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.2.1 k1_t1 k1_t93 k1_h20 k1_h23 k1_h30 r
theorem k1_off753_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off753 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.2.2.1 k1_t1 k1_t93 k1_h20 k1_h23 k1_h30 r
theorem k1_off754_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off754 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.2.2.2.1 k1_t1 k1_t93 k1_h20 k1_h23 k1_h30 r
theorem k1_off755_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off755 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.2.2.2.2.1 k1_t1 k1_t93 k1_h20 k1_h23 k1_h30 r
theorem k1_off756_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off756 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.2.2.2.2.2.1 k1_t1 k1_t93 k1_h20 k1_h23 k1_h30 r
theorem k1_off757_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t93 : Fin (k1_t93_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ (r : Fin 4), ∀ a, (k1_off757 i v39 v41 k1_t1 k1_t93 (BitVec.ofNat 32 r.val)) a + S1x16.size a ≤ S256x128.size a := fun i v27 v29 v31 v33 v35 v37 v39 v41 v43 v45 v47 v49 v51 v53 v55 v57 k1_hw1 k1_t1 k1_t93 k1_h20 k1_h23 k1_h30 r => k1_hw1.2.2.2.2.2.2.2.2.2.2.2.2.2.2.2.2.2.2.2.2.2.2.2.2.1.2.2.2.2.2.2.2.2.2.2.2.2.2.2.2.2.2.2.2.2.2.1 k1_t1 k1_t93 k1_h20 k1_h23 k1_h30 r
theorem k1_t94_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t94_loop i v39 v41 k1_t1).OK := fun i v27 v29 v31 v33 v35 v37 v39 v41 v43 v45 v47 v49 v51 v53 v55 v57 k1_hw1 k1_t1 k1_h20 k1_h23 k1_h30 => k1_hw1.2.2.2.2.2.2.2.2.2.2.2.2.2.2.2.2.2.2.2.2.2.2.2.2.1.2.2.2.2.2.2.2.2.2.2.2.2.2.2.2.2.2.2.2.2.2.2.1 k1_t1 k1_h20 k1_h23 k1_h30
theorem k1_off758_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off758 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.1 k1_t1 k1_t94 k1_h20 k1_h23 k1_h30
theorem k1_off759_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off759 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.1 k1_t1 k1_t94 k1_h20 k1_h23 k1_h30
theorem k1_off760_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off760 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.1 k1_t1 k1_t94 k1_h20 k1_h23 k1_h30
theorem k1_off761_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off761 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.2.1 k1_t1 k1_t94 k1_h20 k1_h23 k1_h30
theorem k1_off762_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off762 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.2.2.1 k1_t1 k1_t94 k1_h20 k1_h23 k1_h30
theorem k1_off763_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off763 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.2.2.2.1 k1_t1 k1_t94 k1_h20 k1_h23 k1_h30
theorem k1_off764_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off764 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.2.2.2.2.1 k1_t1 k1_t94 k1_h20 k1_h23 k1_h30
theorem k1_off765_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t94 : Fin (k1_t94_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off765 i v39 v41 k1_t1 k1_t94) a + S1x16.size a ≤ S256x128.size a := fun i v27 v29 v31 v33 v35 v37 v39 v41 v43 v45 v47 v49 v51 v53 v55 v57 k1_hw1 k1_t1 k1_t94 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.2.2.2.2.2.1 k1_t1 k1_t94 k1_h20 k1_h23 k1_h30
theorem k1_t95_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), (k1_t95_loop i v39 v41 k1_t1).OK := fun i v27 v29 v31 v33 v35 v37 v39 v41 v43 v45 v47 v49 v51 v53 v55 v57 k1_hw1 k1_t1 k1_h20 k1_h23 k1_h30 => k1_hw1.2.2.2.2.2.2.2.2.2.2.2.2.2.2.2.2.2.2.2.2.2.2.2.2.1.2.2.2.2.2.2.2.2.2.2.2.2.2.2.2.2.2.2.2.2.2.2.2.2.2.2.2.2.2.2.2 k1_t1 k1_h20 k1_h23 k1_h30
theorem k1_off766_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off766 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.1 k1_t1 k1_t95 k1_h20 k1_h23 k1_h30
theorem k1_off767_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off767 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.1 k1_t1 k1_t95 k1_h20 k1_h23 k1_h30
theorem k1_off768_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off768 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.2.1 k1_t1 k1_t95 k1_h20 k1_h23 k1_h30
theorem k1_off769_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off769 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.2.2.1 k1_t1 k1_t95 k1_h20 k1_h23 k1_h30
theorem k1_off770_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off770 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.2.2.2.1 k1_t1 k1_t95 k1_h20 k1_h23 k1_h30
theorem k1_off771_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off771 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.2.2.2.2.1 k1_t1 k1_t95 k1_h20 k1_h23 k1_h30
theorem k1_off772_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off772 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.2.2.2.2.2.1 k1_t1 k1_t95 k1_h20 k1_h23 k1_h30
theorem k1_off773_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t95 : Fin (k1_t95_loop i v39 v41 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h30 : k1_cond30 i v39 v41 k1_t1 = 1#1), ∀ a, (k1_off773 i v39 v41 k1_t1 k1_t95) a + S1x16.size a ≤ S256x128.size a := fun i v27 v29 v31 v33 v35 v37 v39 v41 v43 v45 v47 v49 v51 v53 v55 v57 k1_hw1 k1_t1 k1_t95 k1_h20 k1_h23 k1_h30 => k1_hw1.2.2.2.2.2.2.2.2.2.2.2.2.2.2.2.2.2.2.2.2.2.2.2.2.2.1.2.2.2.2.2.2.2.1 k1_t1 k1_t95 k1_h20 k1_h23 k1_h30
theorem k1_t96_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t96_loop i v41 v43 k1_t1).OK := fun i v27 v29 v31 v33 v35 v37 v39 v41 v43 v45 v47 v49 v51 v53 v55 v57 k1_hw1 k1_t1 k1_h20 k1_h23 k1_h31 => k1_hw1.2.2.2.2.2.2.2.2.2.2.2.2.2.2.2.2.2.2.2.2.2.2.2.2.2.1.2.2.2.2.2.2.2.2.1 k1_t1 k1_h20 k1_h23 k1_h31
theorem k1_off774_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off774 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.1 k1_t1 k1_t96 k1_h20 k1_h23 k1_h31 r
theorem k1_off775_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off775 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.1 k1_t1 k1_t96 k1_h20 k1_h23 k1_h31 r
theorem k1_off776_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off776 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.2.1 k1_t1 k1_t96 k1_h20 k1_h23 k1_h31 r
theorem k1_off777_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off777 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.2.2.1 k1_t1 k1_t96 k1_h20 k1_h23 k1_h31 r
theorem k1_off778_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off778 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.2.2.2.1 k1_t1 k1_t96 k1_h20 k1_h23 k1_h31 r
theorem k1_off779_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off779 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.2.2.2.2.1 k1_t1 k1_t96 k1_h20 k1_h23 k1_h31 r
theorem k1_off780_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off780 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.2.2.2.2.2.1 k1_t1 k1_t96 k1_h20 k1_h23 k1_h31 r
theorem k1_off781_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t96 : Fin (k1_t96_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off781 i v41 v43 k1_t1 k1_t96 (BitVec.ofNat 32 r.val)) a + S1x16.size a ≤ S256x128.size a := fun i v27 v29 v31 v33 v35 v37 v39 v41 v43 v45 v47 v49 v51 v53 v55 v57 k1_hw1 k1_t1 k1_t96 k1_h20 k1_h23 k1_h31 r => k1_hw1.2.2.2.2.2.2.2.2.2.2.2.2.2.2.2.2.2.2.2.2.2.2.2.2.2.1.2.2.2.2.2.2.2.2.2.2.2.2.2.2.2.2.1 k1_t1 k1_t96 k1_h20 k1_h23 k1_h31 r
theorem k1_t97_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t97_loop i v41 v43 k1_t1).OK := fun i v27 v29 v31 v33 v35 v37 v39 v41 v43 v45 v47 v49 v51 v53 v55 v57 k1_hw1 k1_t1 k1_h20 k1_h23 k1_h31 => k1_hw1.2.2.2.2.2.2.2.2.2.2.2.2.2.2.2.2.2.2.2.2.2.2.2.2.2.1.2.2.2.2.2.2.2.2.2.2.2.2.2.2.2.2.2.1 k1_t1 k1_h20 k1_h23 k1_h31
theorem k1_off782_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off782 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.1 k1_t1 k1_t97 k1_h20 k1_h23 k1_h31 r
theorem k1_off783_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off783 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.1 k1_t1 k1_t97 k1_h20 k1_h23 k1_h31 r
theorem k1_off784_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off784 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.2.1 k1_t1 k1_t97 k1_h20 k1_h23 k1_h31 r
theorem k1_off785_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off785 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.2.2.1 k1_t1 k1_t97 k1_h20 k1_h23 k1_h31 r
theorem k1_off786_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off786 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.2.2.2.1 k1_t1 k1_t97 k1_h20 k1_h23 k1_h31 r
theorem k1_off787_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off787 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.2.2.2.2.1 k1_t1 k1_t97 k1_h20 k1_h23 k1_h31 r
theorem k1_off788_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off788 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.2.2.2.2.2.1 k1_t1 k1_t97 k1_h20 k1_h23 k1_h31 r
theorem k1_off789_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t97 : Fin (k1_t97_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ (r : Fin 4), ∀ a, (k1_off789 i v41 v43 k1_t1 k1_t97 (BitVec.ofNat 32 r.val)) a + S1x16.size a ≤ S256x128.size a := fun i v27 v29 v31 v33 v35 v37 v39 v41 v43 v45 v47 v49 v51 v53 v55 v57 k1_hw1 k1_t1 k1_t97 k1_h20 k1_h23 k1_h31 r => k1_hw1.2.2.2.2.2.2.2.2.2.2.2.2.2.2.2.2.2.2.2.2.2.2.2.2.2.1.2.2.2.2.2.2.2.2.2.2.2.2.2.2.2.2.2.2.2.2.2.2.2.2.2.1 k1_t1 k1_t97 k1_h20 k1_h23 k1_h31 r
theorem k1_t98_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t98_loop i v41 v43 k1_t1).OK := fun i v27 v29 v31 v33 v35 v37 v39 v41 v43 v45 v47 v49 v51 v53 v55 v57 k1_hw1 k1_t1 k1_h20 k1_h23 k1_h31 => k1_hw1.2.2.2.2.2.2.2.2.2.2.2.2.2.2.2.2.2.2.2.2.2.2.2.2.2.1.2.2.2.2.2.2.2.2.2.2.2.2.2.2.2.2.2.2.2.2.2.2.2.2.2.2.1 k1_t1 k1_h20 k1_h23 k1_h31
theorem k1_off790_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off790 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.1.2.2.2.2.2.2.2.2.2.2.2.2.2.2.2.2.2.2.2.2.2.2.2.2.2.2.2.1 k1_t1 k1_t98 k1_h20 k1_h23 k1_h31
theorem k1_off791_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off791 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.1.2.2.2.2.2.2.2.2.2.2.2.2.2.2.2.2.2.2.2.2.2.2.2.2.2.2.2.2.1 k1_t1 k1_t98 k1_h20 k1_h23 k1_h31
theorem k1_off792_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off792 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.1.2.2.2.2.2.2.2.2.2.2.2.2.2.2.2.2.2.2.2.2.2.2.2.2.2.2.2.2.2.1 k1_t1 k1_t98 k1_h20 k1_h23 k1_h31
theorem k1_off793_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off793 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t98 k1_h20 k1_h23 k1_h31
theorem k1_off794_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off794 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t98 k1_h20 k1_h23 k1_h31
theorem k1_off795_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off795 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.2.1.1 k1_t1 k1_t98 k1_h20 k1_h23 k1_h31
theorem k1_off796_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off796 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.2.1.2.1 k1_t1 k1_t98 k1_h20 k1_h23 k1_h31
theorem k1_off797_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t98 : Fin (k1_t98_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off797 i v41 v43 k1_t1 k1_t98) a + S1x16.size a ≤ S256x128.size a := fun i v27 v29 v31 v33 v35 v37 v39 v41 v43 v45 v47 v49 v51 v53 v55 v57 k1_hw1 k1_t1 k1_t98 k1_h20 k1_h23 k1_h31 => k1_hw1.2.2.2.2.2.2.2.2.2.2.2.2.2.2.2.2.2.2.2.2.2.2.2.2.2.2.1.2.2.1 k1_t1 k1_t98 k1_h20 k1_h23 k1_h31
theorem k1_t99_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), (k1_t99_loop i v41 v43 k1_t1).OK := fun i v27 v29 v31 v33 v35 v37 v39 v41 v43 v45 v47 v49 v51 v53 v55 v57 k1_hw1 k1_t1 k1_h20 k1_h23 k1_h31 => k1_hw1.2.2.2.2.2.2.2.2.2.2.2.2.2.2.2.2.2.2.2.2.2.2.2.2.2.2.1.2.2.2.1 k1_t1 k1_h20 k1_h23 k1_h31
theorem k1_off798_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off798 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.1 k1_t1 k1_t99 k1_h20 k1_h23 k1_h31
theorem k1_off799_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off799 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.1 k1_t1 k1_t99 k1_h20 k1_h23 k1_h31
theorem k1_off800_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off800 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.2.1 k1_t1 k1_t99 k1_h20 k1_h23 k1_h31
theorem k1_off801_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off801 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.2.2.1 k1_t1 k1_t99 k1_h20 k1_h23 k1_h31
theorem k1_off802_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off802 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.2.2.2.1 k1_t1 k1_t99 k1_h20 k1_h23 k1_h31
theorem k1_off803_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off803 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.2.2.2.2.1 k1_t1 k1_t99 k1_h20 k1_h23 k1_h31
theorem k1_off804_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off804 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.2.2.2.2.2.1 k1_t1 k1_t99 k1_h20 k1_h23 k1_h31
theorem k1_off805_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t99 : Fin (k1_t99_loop i v41 v43 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h31 : k1_cond31 i v41 v43 k1_t1 = 1#1), ∀ a, (k1_off805 i v41 v43 k1_t1 k1_t99) a + S1x16.size a ≤ S256x128.size a := fun i v27 v29 v31 v33 v35 v37 v39 v41 v43 v45 v47 v49 v51 v53 v55 v57 k1_hw1 k1_t1 k1_t99 k1_h20 k1_h23 k1_h31 => k1_hw1.2.2.2.2.2.2.2.2.2.2.2.2.2.2.2.2.2.2.2.2.2.2.2.2.2.2.1.2.2.2.2.2.2.2.2.2.2.2.1 k1_t1 k1_t99 k1_h20 k1_h23 k1_h31
theorem k1_t100_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t100_loop i v43 v45 k1_t1).OK := fun i v27 v29 v31 v33 v35 v37 v39 v41 v43 v45 v47 v49 v51 v53 v55 v57 k1_hw1 k1_t1 k1_h20 k1_h23 k1_h32 => k1_hw1.2.2.2.2.2.2.2.2.2.2.2.2.2.2.2.2.2.2.2.2.2.2.2.2.2.2.1.2.2.2.2.2.2.2.2.2.2.2.2.1 k1_t1 k1_h20 k1_h23 k1_h32
theorem k1_off806_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off806 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.1 k1_t1 k1_t100 k1_h20 k1_h23 k1_h32 r
theorem k1_off807_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off807 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.1 k1_t1 k1_t100 k1_h20 k1_h23 k1_h32 r
theorem k1_off808_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off808 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.2.1 k1_t1 k1_t100 k1_h20 k1_h23 k1_h32 r
theorem k1_off809_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off809 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.2.2.1 k1_t1 k1_t100 k1_h20 k1_h23 k1_h32 r
theorem k1_off810_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off810 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.2.2.2.1 k1_t1 k1_t100 k1_h20 k1_h23 k1_h32 r
theorem k1_off811_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off811 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.2.2.2.2.1 k1_t1 k1_t100 k1_h20 k1_h23 k1_h32 r
theorem k1_off812_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off812 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.2.2.2.2.2.1 k1_t1 k1_t100 k1_h20 k1_h23 k1_h32 r
theorem k1_off813_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t100 : Fin (k1_t100_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off813 i v43 v45 k1_t1 k1_t100 (BitVec.ofNat 32 r.val)) a + S1x16.size a ≤ S256x128.size a := fun i v27 v29 v31 v33 v35 v37 v39 v41 v43 v45 v47 v49 v51 v53 v55 v57 k1_hw1 k1_t1 k1_t100 k1_h20 k1_h23 k1_h32 r => k1_hw1.2.2.2.2.2.2.2.2.2.2.2.2.2.2.2.2.2.2.2.2.2.2.2.2.2.2.1.2.2.2.2.2.2.2.2.2.2.2.2.2.2.2.2.2.2.2.2.1 k1_t1 k1_t100 k1_h20 k1_h23 k1_h32 r
theorem k1_t101_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t101_loop i v43 v45 k1_t1).OK := fun i v27 v29 v31 v33 v35 v37 v39 v41 v43 v45 v47 v49 v51 v53 v55 v57 k1_hw1 k1_t1 k1_h20 k1_h23 k1_h32 => k1_hw1.2.2.2.2.2.2.2.2.2.2.2.2.2.2.2.2.2.2.2.2.2.2.2.2.2.2.1.2.2.2.2.2.2.2.2.2.2.2.2.2.2.2.2.2.2.2.2.2.1 k1_t1 k1_h20 k1_h23 k1_h32
theorem k1_off814_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off814 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.1 k1_t1 k1_t101 k1_h20 k1_h23 k1_h32 r
theorem k1_off815_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off815 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.1 k1_t1 k1_t101 k1_h20 k1_h23 k1_h32 r
theorem k1_off816_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off816 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.2.1 k1_t1 k1_t101 k1_h20 k1_h23 k1_h32 r
theorem k1_off817_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off817 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.2.2.1 k1_t1 k1_t101 k1_h20 k1_h23 k1_h32 r
theorem k1_off818_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off818 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.2.2.2.1 k1_t1 k1_t101 k1_h20 k1_h23 k1_h32 r
theorem k1_off819_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off819 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.2.2.2.2.1 k1_t1 k1_t101 k1_h20 k1_h23 k1_h32 r
theorem k1_off820_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off820 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.2.2.2.2.2.1 k1_t1 k1_t101 k1_h20 k1_h23 k1_h32 r
theorem k1_off821_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t101 : Fin (k1_t101_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ (r : Fin 4), ∀ a, (k1_off821 i v43 v45 k1_t1 k1_t101 (BitVec.ofNat 32 r.val)) a + S1x16.size a ≤ S256x128.size a := fun i v27 v29 v31 v33 v35 v37 v39 v41 v43 v45 v47 v49 v51 v53 v55 v57 k1_hw1 k1_t1 k1_t101 k1_h20 k1_h23 k1_h32 r => k1_hw1.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t101 k1_h20 k1_h23 k1_h32 r
theorem k1_t102_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t102_loop i v43 v45 k1_t1).OK := fun i v27 v29 v31 v33 v35 v37 v39 v41 v43 v45 v47 v49 v51 v53 v55 v57 k1_hw1 k1_t1 k1_h20 k1_h23 k1_h32 => k1_hw1.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_h20 k1_h23 k1_h32
theorem k1_off822_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off822 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t102 k1_h20 k1_h23 k1_h32
theorem k1_off823_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off823 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.1 k1_t1 k1_t102 k1_h20 k1_h23 k1_h32
theorem k1_off824_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off824 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.2.1 k1_t1 k1_t102 k1_h20 k1_h23 k1_h32
theorem k1_off825_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off825 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.2.2.1 k1_t1 k1_t102 k1_h20 k1_h23 k1_h32
theorem k1_off826_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off826 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.2.2.2.1 k1_t1 k1_t102 k1_h20 k1_h23 k1_h32
theorem k1_off827_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off827 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.2.2.2.2.1 k1_t1 k1_t102 k1_h20 k1_h23 k1_h32
theorem k1_off828_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off828 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.2.2.2.2.2.1 k1_t1 k1_t102 k1_h20 k1_h23 k1_h32
theorem k1_off829_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t102 : Fin (k1_t102_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off829 i v43 v45 k1_t1 k1_t102) a + S1x16.size a ≤ S256x128.size a := fun i v27 v29 v31 v33 v35 v37 v39 v41 v43 v45 v47 v49 v51 v53 v55 v57 k1_hw1 k1_t1 k1_t102 k1_h20 k1_h23 k1_h32 => k1_hw1.2.2.2.2.2.2.2.2.2.2.2.2.2.2.2.2.2.2.2.2.2.2.2.2.2.2.2.1.2.2.2.2.2.2.1 k1_t1 k1_t102 k1_h20 k1_h23 k1_h32
theorem k1_t103_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), (k1_t103_loop i v43 v45 k1_t1).OK := fun i v27 v29 v31 v33 v35 v37 v39 v41 v43 v45 v47 v49 v51 v53 v55 v57 k1_hw1 k1_t1 k1_h20 k1_h23 k1_h32 => k1_hw1.2.2.2.2.2.2.2.2.2.2.2.2.2.2.2.2.2.2.2.2.2.2.2.2.2.2.2.1.2.2.2.2.2.2.2.1 k1_t1 k1_h20 k1_h23 k1_h32
theorem k1_off830_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off830 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.1 k1_t1 k1_t103 k1_h20 k1_h23 k1_h32
theorem k1_off831_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off831 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.1 k1_t1 k1_t103 k1_h20 k1_h23 k1_h32
theorem k1_off832_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off832 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.2.1 k1_t1 k1_t103 k1_h20 k1_h23 k1_h32
theorem k1_off833_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off833 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.2.2.1 k1_t1 k1_t103 k1_h20 k1_h23 k1_h32
theorem k1_off834_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off834 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.2.2.2.1 k1_t1 k1_t103 k1_h20 k1_h23 k1_h32
theorem k1_off835_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off835 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.2.2.2.2.1 k1_t1 k1_t103 k1_h20 k1_h23 k1_h32
theorem k1_off836_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off836 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.2.2.2.2.2.1 k1_t1 k1_t103 k1_h20 k1_h23 k1_h32
theorem k1_off837_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t103 : Fin (k1_t103_loop i v43 v45 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h32 : k1_cond32 i v43 v45 k1_t1 = 1#1), ∀ a, (k1_off837 i v43 v45 k1_t1 k1_t103) a + S1x16.size a ≤ S256x128.size a := fun i v27 v29 v31 v33 v35 v37 v39 v41 v43 v45 v47 v49 v51 v53 v55 v57 k1_hw1 k1_t1 k1_t103 k1_h20 k1_h23 k1_h32 => k1_hw1.2.2.2.2.2.2.2.2.2.2.2.2.2.2.2.2.2.2.2.2.2.2.2.2.2.2.2.1.2.2.2.2.2.2.2.2.2.2.2.2.2.2.2.1 k1_t1 k1_t103 k1_h20 k1_h23 k1_h32
theorem k1_t104_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t104_loop i v45 v47 k1_t1).OK := fun i v27 v29 v31 v33 v35 v37 v39 v41 v43 v45 v47 v49 v51 v53 v55 v57 k1_hw1 k1_t1 k1_h20 k1_h23 k1_h33 => k1_hw1.2.2.2.2.2.2.2.2.2.2.2.2.2.2.2.2.2.2.2.2.2.2.2.2.2.2.2.1.2.2.2.2.2.2.2.2.2.2.2.2.2.2.2.2.1 k1_t1 k1_h20 k1_h23 k1_h33
theorem k1_off838_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off838 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.1 k1_t1 k1_t104 k1_h20 k1_h23 k1_h33 r
theorem k1_off839_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off839 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.1 k1_t1 k1_t104 k1_h20 k1_h23 k1_h33 r
theorem k1_off840_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off840 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.2.1 k1_t1 k1_t104 k1_h20 k1_h23 k1_h33 r
theorem k1_off841_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off841 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.2.2.1 k1_t1 k1_t104 k1_h20 k1_h23 k1_h33 r
theorem k1_off842_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off842 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.1 k1_t1 k1_t104 k1_h20 k1_h23 k1_h33 r
theorem k1_off843_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off843 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.1 k1_t1 k1_t104 k1_h20 k1_h23 k1_h33 r
theorem k1_off844_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off844 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.1 k1_t1 k1_t104 k1_h20 k1_h23 k1_h33 r
theorem k1_off845_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t104 : Fin (k1_t104_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off845 i v45 v47 k1_t1 k1_t104 (BitVec.ofNat 32 r.val)) a + S1x16.size a ≤ S256x128.size a := fun i v27 v29 v31 v33 v35 v37 v39 v41 v43 v45 v47 v49 v51 v53 v55 v57 k1_hw1 k1_t1 k1_t104 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.1 k1_t1 k1_t104 k1_h20 k1_h23 k1_h33 r
theorem k1_t105_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t105_loop i v45 v47 k1_t1).OK := fun i v27 v29 v31 v33 v35 v37 v39 v41 v43 v45 v47 v49 v51 v53 v55 v57 k1_hw1 k1_t1 k1_h20 k1_h23 k1_h33 => k1_hw1.2.2.2.2.2.2.2.2.2.2.2.2.2.2.2.2.2.2.2.2.2.2.2.2.2.2.2.1.2.2.2.2.2.2.2.2.2.2.2.2.2.2.2.2.2.2.2.2.2.2.2.2.2.1 k1_t1 k1_h20 k1_h23 k1_h33
theorem k1_off846_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off846 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.2.2.1 k1_t1 k1_t105 k1_h20 k1_h23 k1_h33 r
theorem k1_off847_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off847 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.2.2.2.1 k1_t1 k1_t105 k1_h20 k1_h23 k1_h33 r
theorem k1_off848_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off848 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.2.2.2.2.1 k1_t1 k1_t105 k1_h20 k1_h23 k1_h33 r
theorem k1_off849_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off849 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t105 k1_h20 k1_h23 k1_h33 r
theorem k1_off850_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off850 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t105 k1_h20 k1_h23 k1_h33 r
theorem k1_off851_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off851 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t105 k1_h20 k1_h23 k1_h33 r
theorem k1_off852_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off852 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.2.1.1 k1_t1 k1_t105 k1_h20 k1_h23 k1_h33 r
theorem k1_off853_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t105 : Fin (k1_t105_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ (r : Fin 4), ∀ a, (k1_off853 i v45 v47 k1_t1 k1_t105 (BitVec.ofNat 32 r.val)) a + S1x16.size a ≤ S256x128.size a := fun i v27 v29 v31 v33 v35 v37 v39 v41 v43 v45 v47 v49 v51 v53 v55 v57 k1_hw1 k1_t1 k1_t105 k1_h20 k1_h23 k1_h33 r => k1_hw1.2.2.2.2.2.2.2.2.2.2.2.2.2.2.2.2.2.2.2.2.2.2.2.2.2.2.2.2.1.2.1 k1_t1 k1_t105 k1_h20 k1_h23 k1_h33 r
theorem k1_t106_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t106_loop i v45 v47 k1_t1).OK := fun i v27 v29 v31 v33 v35 v37 v39 v41 v43 v45 v47 v49 v51 v53 v55 v57 k1_hw1 k1_t1 k1_h20 k1_h23 k1_h33 => k1_hw1.2.2.2.2.2.2.2.2.2.2.2.2.2.2.2.2.2.2.2.2.2.2.2.2.2.2.2.2.1.2.2.1 k1_t1 k1_h20 k1_h23 k1_h33
theorem k1_off854_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off854 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.1 k1_t1 k1_t106 k1_h20 k1_h23 k1_h33
theorem k1_off855_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off855 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.1 k1_t1 k1_t106 k1_h20 k1_h23 k1_h33
theorem k1_off856_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off856 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.2.1 k1_t1 k1_t106 k1_h20 k1_h23 k1_h33
theorem k1_off857_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off857 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.2.2.1 k1_t1 k1_t106 k1_h20 k1_h23 k1_h33
theorem k1_off858_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off858 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.2.2.2.1 k1_t1 k1_t106 k1_h20 k1_h23 k1_h33
theorem k1_off859_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off859 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.2.2.2.2.1 k1_t1 k1_t106 k1_h20 k1_h23 k1_h33
theorem k1_off860_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off860 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.2.2.2.2.2.1 k1_t1 k1_t106 k1_h20 k1_h23 k1_h33
theorem k1_off861_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t106 : Fin (k1_t106_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off861 i v45 v47 k1_t1 k1_t106) a + S1x16.size a ≤ S256x128.size a := fun i v27 v29 v31 v33 v35 v37 v39 v41 v43 v45 v47 v49 v51 v53 v55 v57 k1_hw1 k1_t1 k1_t106 k1_h20 k1_h23 k1_h33 => k1_hw1.2.2.2.2.2.2.2.2.2.2.2.2.2.2.2.2.2.2.2.2.2.2.2.2.2.2.2.2.1.2.2.2.2.2.2.2.2.2.2.1 k1_t1 k1_t106 k1_h20 k1_h23 k1_h33
theorem k1_t107_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), (k1_t107_loop i v45 v47 k1_t1).OK := fun i v27 v29 v31 v33 v35 v37 v39 v41 v43 v45 v47 v49 v51 v53 v55 v57 k1_hw1 k1_t1 k1_h20 k1_h23 k1_h33 => k1_hw1.2.2.2.2.2.2.2.2.2.2.2.2.2.2.2.2.2.2.2.2.2.2.2.2.2.2.2.2.1.2.2.2.2.2.2.2.2.2.2.2.1 k1_t1 k1_h20 k1_h23 k1_h33
theorem k1_off862_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off862 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.1 k1_t1 k1_t107 k1_h20 k1_h23 k1_h33
theorem k1_off863_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off863 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.1 k1_t1 k1_t107 k1_h20 k1_h23 k1_h33
theorem k1_off864_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off864 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.2.1 k1_t1 k1_t107 k1_h20 k1_h23 k1_h33
theorem k1_off865_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off865 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.2.2.1 k1_t1 k1_t107 k1_h20 k1_h23 k1_h33
theorem k1_off866_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off866 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.2.2.2.1 k1_t1 k1_t107 k1_h20 k1_h23 k1_h33
theorem k1_off867_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off867 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.2.2.2.2.1 k1_t1 k1_t107 k1_h20 k1_h23 k1_h33
theorem k1_off868_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off868 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.2.2.2.2.2.1 k1_t1 k1_t107 k1_h20 k1_h23 k1_h33
theorem k1_off869_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t107 : Fin (k1_t107_loop i v45 v47 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h33 : k1_cond33 i v45 v47 k1_t1 = 1#1), ∀ a, (k1_off869 i v45 v47 k1_t1 k1_t107) a + S1x16.size a ≤ S256x128.size a := fun i v27 v29 v31 v33 v35 v37 v39 v41 v43 v45 v47 v49 v51 v53 v55 v57 k1_hw1 k1_t1 k1_t107 k1_h20 k1_h23 k1_h33 => k1_hw1.2.2.2.2.2.2.2.2.2.2.2.2.2.2.2.2.2.2.2.2.2.2.2.2.2.2.2.2.1.2.2.2.2.2.2.2.2.2.2.2.2.2.2.2.2.2.2.2.1 k1_t1 k1_t107 k1_h20 k1_h23 k1_h33
theorem k1_t108_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t108_loop i v47 v49 k1_t1).OK := fun i v27 v29 v31 v33 v35 v37 v39 v41 v43 v45 v47 v49 v51 v53 v55 v57 k1_hw1 k1_t1 k1_h20 k1_h23 k1_h34 => k1_hw1.2.2.2.2.2.2.2.2.2.2.2.2.2.2.2.2.2.2.2.2.2.2.2.2.2.2.2.2.1.2.2.2.2.2.2.2.2.2.2.2.2.2.2.2.2.2.2.2.2.1 k1_t1 k1_h20 k1_h23 k1_h34
theorem k1_off870_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off870 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.1 k1_t1 k1_t108 k1_h20 k1_h23 k1_h34 r
theorem k1_off871_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off871 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.1 k1_t1 k1_t108 k1_h20 k1_h23 k1_h34 r
theorem k1_off872_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off872 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.1 k1_t1 k1_t108 k1_h20 k1_h23 k1_h34 r
theorem k1_off873_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off873 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.1 k1_t1 k1_t108 k1_h20 k1_h23 k1_h34 r
theorem k1_off874_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off874 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.2.1 k1_t1 k1_t108 k1_h20 k1_h23 k1_h34 r
theorem k1_off875_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off875 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.2.2.1 k1_t1 k1_t108 k1_h20 k1_h23 k1_h34 r
theorem k1_off876_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off876 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.2.2.2.1 k1_t1 k1_t108 k1_h20 k1_h23 k1_h34 r
theorem k1_off877_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t108 : Fin (k1_t108_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off877 i v47 v49 k1_t1 k1_t108 (BitVec.ofNat 32 r.val)) a + S1x16.size a ≤ S256x128.size a := fun i v27 v29 v31 v33 v35 v37 v39 v41 v43 v45 v47 v49 v51 v53 v55 v57 k1_hw1 k1_t1 k1_t108 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.2.2.2.2.1 k1_t1 k1_t108 k1_h20 k1_h23 k1_h34 r
theorem k1_t109_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t109_loop i v47 v49 k1_t1).OK := fun i v27 v29 v31 v33 v35 v37 v39 v41 v43 v45 v47 v49 v51 v53 v55 v57 k1_hw1 k1_t1 k1_h20 k1_h23 k1_h34 => k1_hw1.2.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_h20 k1_h23 k1_h34
theorem k1_off878_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off878 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t109 k1_h20 k1_h23 k1_h34 r
theorem k1_off879_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off879 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t109 k1_h20 k1_h23 k1_h34 r
theorem k1_off880_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off880 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.2.1.1 k1_t1 k1_t109 k1_h20 k1_h23 k1_h34 r
theorem k1_off881_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off881 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.2.1.2.1 k1_t1 k1_t109 k1_h20 k1_h23 k1_h34 r
theorem k1_off882_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off882 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.2.1.2.2.1 k1_t1 k1_t109 k1_h20 k1_h23 k1_h34 r
theorem k1_off883_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off883 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.2.1.2.2.2.1 k1_t1 k1_t109 k1_h20 k1_h23 k1_h34 r
theorem k1_off884_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off884 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.2.1.2.2.2.2.1 k1_t1 k1_t109 k1_h20 k1_h23 k1_h34 r
theorem k1_off885_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t109 : Fin (k1_t109_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ (r : Fin 4), ∀ a, (k1_off885 i v47 v49 k1_t1 k1_t109 (BitVec.ofNat 32 r.val)) a + S1x16.size a ≤ S256x128.size a := fun i v27 v29 v31 v33 v35 v37 v39 v41 v43 v45 v47 v49 v51 v53 v55 v57 k1_hw1 k1_t1 k1_t109 k1_h20 k1_h23 k1_h34 r => k1_hw1.2.2.2.2.2.2.2.2.2.2.2.2.2.2.2.2.2.2.2.2.2.2.2.2.2.2.2.2.2.1.2.2.2.2.2.1 k1_t1 k1_t109 k1_h20 k1_h23 k1_h34 r
theorem k1_t110_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t110_loop i v47 v49 k1_t1).OK := fun i v27 v29 v31 v33 v35 v37 v39 v41 v43 v45 v47 v49 v51 v53 v55 v57 k1_hw1 k1_t1 k1_h20 k1_h23 k1_h34 => k1_hw1.2.2.2.2.2.2.2.2.2.2.2.2.2.2.2.2.2.2.2.2.2.2.2.2.2.2.2.2.2.1.2.2.2.2.2.2.1 k1_t1 k1_h20 k1_h23 k1_h34
theorem k1_off886_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off886 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.1 k1_t1 k1_t110 k1_h20 k1_h23 k1_h34
theorem k1_off887_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off887 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.1 k1_t1 k1_t110 k1_h20 k1_h23 k1_h34
theorem k1_off888_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off888 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.2.1 k1_t1 k1_t110 k1_h20 k1_h23 k1_h34
theorem k1_off889_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off889 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.2.2.1 k1_t1 k1_t110 k1_h20 k1_h23 k1_h34
theorem k1_off890_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off890 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.2.2.2.1 k1_t1 k1_t110 k1_h20 k1_h23 k1_h34
theorem k1_off891_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off891 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.2.2.2.2.1 k1_t1 k1_t110 k1_h20 k1_h23 k1_h34
theorem k1_off892_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off892 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.2.2.2.2.2.1 k1_t1 k1_t110 k1_h20 k1_h23 k1_h34
theorem k1_off893_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t110 : Fin (k1_t110_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off893 i v47 v49 k1_t1 k1_t110) a + S1x16.size a ≤ S256x128.size a := fun i v27 v29 v31 v33 v35 v37 v39 v41 v43 v45 v47 v49 v51 v53 v55 v57 k1_hw1 k1_t1 k1_t110 k1_h20 k1_h23 k1_h34 => k1_hw1.2.2.2.2.2.2.2.2.2.2.2.2.2.2.2.2.2.2.2.2.2.2.2.2.2.2.2.2.2.1.2.2.2.2.2.2.2.2.2.2.2.2.2.2.1 k1_t1 k1_t110 k1_h20 k1_h23 k1_h34
theorem k1_t111_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), (k1_t111_loop i v47 v49 k1_t1).OK := fun i v27 v29 v31 v33 v35 v37 v39 v41 v43 v45 v47 v49 v51 v53 v55 v57 k1_hw1 k1_t1 k1_h20 k1_h23 k1_h34 => k1_hw1.2.2.2.2.2.2.2.2.2.2.2.2.2.2.2.2.2.2.2.2.2.2.2.2.2.2.2.2.2.1.2.2.2.2.2.2.2.2.2.2.2.2.2.2.2.1 k1_t1 k1_h20 k1_h23 k1_h34
theorem k1_off894_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off894 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.1 k1_t1 k1_t111 k1_h20 k1_h23 k1_h34
theorem k1_off895_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off895 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.1 k1_t1 k1_t111 k1_h20 k1_h23 k1_h34
theorem k1_off896_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off896 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.2.1 k1_t1 k1_t111 k1_h20 k1_h23 k1_h34
theorem k1_off897_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off897 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.2.2.1 k1_t1 k1_t111 k1_h20 k1_h23 k1_h34
theorem k1_off898_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off898 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.2.2.2.1 k1_t1 k1_t111 k1_h20 k1_h23 k1_h34
theorem k1_off899_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off899 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.2.2.2.2.1 k1_t1 k1_t111 k1_h20 k1_h23 k1_h34
theorem k1_off900_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off900 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.2.2.2.2.2.1 k1_t1 k1_t111 k1_h20 k1_h23 k1_h34
theorem k1_off901_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t111 : Fin (k1_t111_loop i v47 v49 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h34 : k1_cond34 i v47 v49 k1_t1 = 1#1), ∀ a, (k1_off901 i v47 v49 k1_t1 k1_t111) a + S1x16.size a ≤ S256x128.size a := fun i v27 v29 v31 v33 v35 v37 v39 v41 v43 v45 v47 v49 v51 v53 v55 v57 k1_hw1 k1_t1 k1_t111 k1_h20 k1_h23 k1_h34 => k1_hw1.2.2.2.2.2.2.2.2.2.2.2.2.2.2.2.2.2.2.2.2.2.2.2.2.2.2.2.2.2.1.2.2.2.2.2.2.2.2.2.2.2.2.2.2.2.2.2.2.2.2.2.2.2.1 k1_t1 k1_t111 k1_h20 k1_h23 k1_h34
theorem k1_t112_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t112_loop i v49 v51 k1_t1).OK := fun i v27 v29 v31 v33 v35 v37 v39 v41 v43 v45 v47 v49 v51 v53 v55 v57 k1_hw1 k1_t1 k1_h20 k1_h23 k1_h35 => k1_hw1.2.2.2.2.2.2.2.2.2.2.2.2.2.2.2.2.2.2.2.2.2.2.2.2.2.2.2.2.2.1.2.2.2.2.2.2.2.2.2.2.2.2.2.2.2.2.2.2.2.2.2.2.2.2.1 k1_t1 k1_h20 k1_h23 k1_h35
theorem k1_off902_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off902 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.1 k1_t1 k1_t112 k1_h20 k1_h23 k1_h35 r
theorem k1_off903_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off903 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.2.1 k1_t1 k1_t112 k1_h20 k1_h23 k1_h35 r
theorem k1_off904_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off904 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.2.2.1 k1_t1 k1_t112 k1_h20 k1_h23 k1_h35 r
theorem k1_off905_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off905 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.2.2.2.1 k1_t1 k1_t112 k1_h20 k1_h23 k1_h35 r
theorem k1_off906_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off906 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t112 k1_h20 k1_h23 k1_h35 r
theorem k1_off907_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off907 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t112 k1_h20 k1_h23 k1_h35 r
theorem k1_off908_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off908 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t112 k1_h20 k1_h23 k1_h35 r
theorem k1_off909_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t112 : Fin (k1_t112_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off909 i v49 v51 k1_t1 k1_t112 (BitVec.ofNat 32 r.val)) a + S1x16.size a ≤ S256x128.size a := fun i v27 v29 v31 v33 v35 v37 v39 v41 v43 v45 v47 v49 v51 v53 v55 v57 k1_hw1 k1_t1 k1_t112 k1_h20 k1_h23 k1_h35 r => k1_hw1.2.2.2.2.2.2.2.2.2.2.2.2.2.2.2.2.2.2.2.2.2.2.2.2.2.2.2.2.2.2.1.1 k1_t1 k1_t112 k1_h20 k1_h23 k1_h35 r
theorem k1_t113_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t113_loop i v49 v51 k1_t1).OK := fun i v27 v29 v31 v33 v35 v37 v39 v41 v43 v45 v47 v49 v51 v53 v55 v57 k1_hw1 k1_t1 k1_h20 k1_h23 k1_h35 => k1_hw1.2.2.2.2.2.2.2.2.2.2.2.2.2.2.2.2.2.2.2.2.2.2.2.2.2.2.2.2.2.2.1.2.1 k1_t1 k1_h20 k1_h23 k1_h35
theorem k1_off910_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off910 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.1 k1_t1 k1_t113 k1_h20 k1_h23 k1_h35 r
theorem k1_off911_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off911 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.1 k1_t1 k1_t113 k1_h20 k1_h23 k1_h35 r
theorem k1_off912_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off912 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.2.1 k1_t1 k1_t113 k1_h20 k1_h23 k1_h35 r
theorem k1_off913_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off913 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.2.2.1 k1_t1 k1_t113 k1_h20 k1_h23 k1_h35 r
theorem k1_off914_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off914 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.2.2.2.1 k1_t1 k1_t113 k1_h20 k1_h23 k1_h35 r
theorem k1_off915_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off915 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.2.2.2.2.1 k1_t1 k1_t113 k1_h20 k1_h23 k1_h35 r
theorem k1_off916_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off916 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.2.2.2.2.2.1 k1_t1 k1_t113 k1_h20 k1_h23 k1_h35 r
theorem k1_off917_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t113 : Fin (k1_t113_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ (r : Fin 4), ∀ a, (k1_off917 i v49 v51 k1_t1 k1_t113 (BitVec.ofNat 32 r.val)) a + S1x16.size a ≤ S256x128.size a := fun i v27 v29 v31 v33 v35 v37 v39 v41 v43 v45 v47 v49 v51 v53 v55 v57 k1_hw1 k1_t1 k1_t113 k1_h20 k1_h23 k1_h35 r => k1_hw1.2.2.2.2.2.2.2.2.2.2.2.2.2.2.2.2.2.2.2.2.2.2.2.2.2.2.2.2.2.2.1.2.2.2.2.2.2.2.2.2.1 k1_t1 k1_t113 k1_h20 k1_h23 k1_h35 r
theorem k1_t114_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t114_loop i v49 v51 k1_t1).OK := fun i v27 v29 v31 v33 v35 v37 v39 v41 v43 v45 v47 v49 v51 v53 v55 v57 k1_hw1 k1_t1 k1_h20 k1_h23 k1_h35 => k1_hw1.2.2.2.2.2.2.2.2.2.2.2.2.2.2.2.2.2.2.2.2.2.2.2.2.2.2.2.2.2.2.1.2.2.2.2.2.2.2.2.2.2.1 k1_t1 k1_h20 k1_h23 k1_h35
theorem k1_off918_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off918 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.1 k1_t1 k1_t114 k1_h20 k1_h23 k1_h35
theorem k1_off919_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off919 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.1 k1_t1 k1_t114 k1_h20 k1_h23 k1_h35
theorem k1_off920_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off920 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.2.1 k1_t1 k1_t114 k1_h20 k1_h23 k1_h35
theorem k1_off921_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off921 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.2.2.1 k1_t1 k1_t114 k1_h20 k1_h23 k1_h35
theorem k1_off922_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off922 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.2.2.2.1 k1_t1 k1_t114 k1_h20 k1_h23 k1_h35
theorem k1_off923_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off923 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.2.2.2.2.1 k1_t1 k1_t114 k1_h20 k1_h23 k1_h35
theorem k1_off924_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off924 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.2.2.2.2.2.1 k1_t1 k1_t114 k1_h20 k1_h23 k1_h35
theorem k1_off925_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t114 : Fin (k1_t114_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off925 i v49 v51 k1_t1 k1_t114) a + S1x16.size a ≤ S256x128.size a := fun i v27 v29 v31 v33 v35 v37 v39 v41 v43 v45 v47 v49 v51 v53 v55 v57 k1_hw1 k1_t1 k1_t114 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.1 k1_t1 k1_t114 k1_h20 k1_h23 k1_h35
theorem k1_t115_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), (k1_t115_loop i v49 v51 k1_t1).OK := fun i v27 v29 v31 v33 v35 v37 v39 v41 v43 v45 v47 v49 v51 v53 v55 v57 k1_hw1 k1_t1 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.1 k1_t1 k1_h20 k1_h23 k1_h35
theorem k1_off926_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off926 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.1 k1_t1 k1_t115 k1_h20 k1_h23 k1_h35
theorem k1_off927_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off927 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.1 k1_t1 k1_t115 k1_h20 k1_h23 k1_h35
theorem k1_off928_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off928 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.2.1 k1_t1 k1_t115 k1_h20 k1_h23 k1_h35
theorem k1_off929_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off929 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.2.2.1 k1_t1 k1_t115 k1_h20 k1_h23 k1_h35
theorem k1_off930_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off930 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.2.2.2.1 k1_t1 k1_t115 k1_h20 k1_h23 k1_h35
theorem k1_off931_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off931 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.2.2.2.2.1 k1_t1 k1_t115 k1_h20 k1_h23 k1_h35
theorem k1_off932_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off932 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.2.2.2.2.2.1 k1_t1 k1_t115 k1_h20 k1_h23 k1_h35
theorem k1_off933_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t115 : Fin (k1_t115_loop i v49 v51 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h35 : k1_cond35 i v49 v51 k1_t1 = 1#1), ∀ a, (k1_off933 i v49 v51 k1_t1 k1_t115) a + S1x16.size a ≤ S256x128.size a := fun i v27 v29 v31 v33 v35 v37 v39 v41 v43 v45 v47 v49 v51 v53 v55 v57 k1_hw1 k1_t1 k1_t115 k1_h20 k1_h23 k1_h35 => k1_hw1.2.2.2.2.2.2.2.2.2.2.2.2.2.2.2.2.2.2.2.2.2.2.2.2.2.2.2.2.2.2.1.2.2.2.2.2.2.2.2.2.2.2.2.2.2.2.2.2.2.2.2.2.2.2.2.2.2.2.1 k1_t1 k1_t115 k1_h20 k1_h23 k1_h35
theorem k1_t116_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t116_loop i v51 v53 k1_t1).OK := fun i v27 v29 v31 v33 v35 v37 v39 v41 v43 v45 v47 v49 v51 v53 v55 v57 k1_hw1 k1_t1 k1_h20 k1_h23 k1_h36 => k1_hw1.2.2.2.2.2.2.2.2.2.2.2.2.2.2.2.2.2.2.2.2.2.2.2.2.2.2.2.2.2.2.1.2.2.2.2.2.2.2.2.2.2.2.2.2.2.2.2.2.2.2.2.2.2.2.2.2.2.2.2.1 k1_t1 k1_h20 k1_h23 k1_h36
theorem k1_off934_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off934 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t116 k1_h20 k1_h23 k1_h36 r
theorem k1_off935_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off935 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t116 k1_h20 k1_h23 k1_h36 r
theorem k1_off936_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off936 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t116 k1_h20 k1_h23 k1_h36 r
theorem k1_off937_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off937 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.2.1.1 k1_t1 k1_t116 k1_h20 k1_h23 k1_h36 r
theorem k1_off938_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off938 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.2.1.2.1 k1_t1 k1_t116 k1_h20 k1_h23 k1_h36 r
theorem k1_off939_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off939 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.2.1.2.2.1 k1_t1 k1_t116 k1_h20 k1_h23 k1_h36 r
theorem k1_off940_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off940 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.2.1.2.2.2.1 k1_t1 k1_t116 k1_h20 k1_h23 k1_h36 r
theorem k1_off941_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t116 : Fin (k1_t116_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off941 i v51 v53 k1_t1 k1_t116 (BitVec.ofNat 32 r.val)) a + S1x16.size a ≤ S256x128.size a := fun i v27 v29 v31 v33 v35 v37 v39 v41 v43 v45 v47 v49 v51 v53 v55 v57 k1_hw1 k1_t1 k1_t116 k1_h20 k1_h23 k1_h36 r => k1_hw1.2.2.2.2.2.2.2.2.2.2.2.2.2.2.2.2.2.2.2.2.2.2.2.2.2.2.2.2.2.2.2.1.2.2.2.2.1 k1_t1 k1_t116 k1_h20 k1_h23 k1_h36 r
theorem k1_t117_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t117_loop i v51 v53 k1_t1).OK := fun i v27 v29 v31 v33 v35 v37 v39 v41 v43 v45 v47 v49 v51 v53 v55 v57 k1_hw1 k1_t1 k1_h20 k1_h23 k1_h36 => k1_hw1.2.2.2.2.2.2.2.2.2.2.2.2.2.2.2.2.2.2.2.2.2.2.2.2.2.2.2.2.2.2.2.1.2.2.2.2.2.1 k1_t1 k1_h20 k1_h23 k1_h36
theorem k1_off942_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off942 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.1 k1_t1 k1_t117 k1_h20 k1_h23 k1_h36 r
theorem k1_off943_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off943 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.1 k1_t1 k1_t117 k1_h20 k1_h23 k1_h36 r
theorem k1_off944_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off944 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.2.1 k1_t1 k1_t117 k1_h20 k1_h23 k1_h36 r
theorem k1_off945_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off945 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.2.2.1 k1_t1 k1_t117 k1_h20 k1_h23 k1_h36 r
theorem k1_off946_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off946 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.2.2.2.1 k1_t1 k1_t117 k1_h20 k1_h23 k1_h36 r
theorem k1_off947_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off947 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.2.2.2.2.1 k1_t1 k1_t117 k1_h20 k1_h23 k1_h36 r
theorem k1_off948_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off948 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.2.2.2.2.2.1 k1_t1 k1_t117 k1_h20 k1_h23 k1_h36 r
theorem k1_off949_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t117 : Fin (k1_t117_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ (r : Fin 4), ∀ a, (k1_off949 i v51 v53 k1_t1 k1_t117 (BitVec.ofNat 32 r.val)) a + S1x16.size a ≤ S256x128.size a := fun i v27 v29 v31 v33 v35 v37 v39 v41 v43 v45 v47 v49 v51 v53 v55 v57 k1_hw1 k1_t1 k1_t117 k1_h20 k1_h23 k1_h36 r => k1_hw1.2.2.2.2.2.2.2.2.2.2.2.2.2.2.2.2.2.2.2.2.2.2.2.2.2.2.2.2.2.2.2.1.2.2.2.2.2.2.2.2.2.2.2.2.2.1 k1_t1 k1_t117 k1_h20 k1_h23 k1_h36 r
theorem k1_t118_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t118_loop i v51 v53 k1_t1).OK := fun i v27 v29 v31 v33 v35 v37 v39 v41 v43 v45 v47 v49 v51 v53 v55 v57 k1_hw1 k1_t1 k1_h20 k1_h23 k1_h36 => k1_hw1.2.2.2.2.2.2.2.2.2.2.2.2.2.2.2.2.2.2.2.2.2.2.2.2.2.2.2.2.2.2.2.1.2.2.2.2.2.2.2.2.2.2.2.2.2.2.1 k1_t1 k1_h20 k1_h23 k1_h36
theorem k1_off950_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off950 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.1 k1_t1 k1_t118 k1_h20 k1_h23 k1_h36
theorem k1_off951_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off951 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.1 k1_t1 k1_t118 k1_h20 k1_h23 k1_h36
theorem k1_off952_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off952 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.1 k1_t1 k1_t118 k1_h20 k1_h23 k1_h36
theorem k1_off953_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off953 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.1 k1_t1 k1_t118 k1_h20 k1_h23 k1_h36
theorem k1_off954_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off954 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.1 k1_t1 k1_t118 k1_h20 k1_h23 k1_h36
theorem k1_off955_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off955 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.1 k1_t1 k1_t118 k1_h20 k1_h23 k1_h36
theorem k1_off956_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off956 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.1 k1_t1 k1_t118 k1_h20 k1_h23 k1_h36
theorem k1_off957_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t118 : Fin (k1_t118_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off957 i v51 v53 k1_t1 k1_t118) a + S1x16.size a ≤ S256x128.size a := fun i v27 v29 v31 v33 v35 v37 v39 v41 v43 v45 v47 v49 v51 v53 v55 v57 k1_hw1 k1_t1 k1_t118 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.1 k1_t1 k1_t118 k1_h20 k1_h23 k1_h36
theorem k1_t119_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), (k1_t119_loop i v51 v53 k1_t1).OK := fun i v27 v29 v31 v33 v35 v37 v39 v41 v43 v45 v47 v49 v51 v53 v55 v57 k1_hw1 k1_t1 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.1 k1_t1 k1_h20 k1_h23 k1_h36
theorem k1_off958_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off958 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.1 k1_t1 k1_t119 k1_h20 k1_h23 k1_h36
theorem k1_off959_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off959 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.1 k1_t1 k1_t119 k1_h20 k1_h23 k1_h36
theorem k1_off960_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off960 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.2.1 k1_t1 k1_t119 k1_h20 k1_h23 k1_h36
theorem k1_off961_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off961 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.2.2.1 k1_t1 k1_t119 k1_h20 k1_h23 k1_h36
theorem k1_off962_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off962 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.1 k1_t1 k1_t119 k1_h20 k1_h23 k1_h36
theorem k1_off963_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off963 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t119 k1_h20 k1_h23 k1_h36
theorem k1_off964_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off964 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t119 k1_h20 k1_h23 k1_h36
theorem k1_off965_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t119 : Fin (k1_t119_loop i v51 v53 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h36 : k1_cond36 i v51 v53 k1_t1 = 1#1), ∀ a, (k1_off965 i v51 v53 k1_t1 k1_t119) a + S1x16.size a ≤ S256x128.size a := fun i v27 v29 v31 v33 v35 v37 v39 v41 v43 v45 v47 v49 v51 v53 v55 v57 k1_hw1 k1_t1 k1_t119 k1_h20 k1_h23 k1_h36 => k1_hw1.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t119 k1_h20 k1_h23 k1_h36
theorem k1_t120_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t120_loop i v53 v55 k1_t1).OK := fun i v27 v29 v31 v33 v35 v37 v39 v41 v43 v45 v47 v49 v51 v53 v55 v57 k1_hw1 k1_t1 k1_h20 k1_h23 k1_h37 => k1_hw1.2.2.2.2.2.2.2.2.2.2.2.2.2.2.2.2.2.2.2.2.2.2.2.2.2.2.2.2.2.2.2.2.1.1 k1_t1 k1_h20 k1_h23 k1_h37
theorem k1_off966_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off966 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.1 k1_t1 k1_t120 k1_h20 k1_h23 k1_h37 r
theorem k1_off967_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off967 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.1 k1_t1 k1_t120 k1_h20 k1_h23 k1_h37 r
theorem k1_off968_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off968 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.2.1 k1_t1 k1_t120 k1_h20 k1_h23 k1_h37 r
theorem k1_off969_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off969 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.2.2.1 k1_t1 k1_t120 k1_h20 k1_h23 k1_h37 r
theorem k1_off970_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off970 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.2.2.2.1 k1_t1 k1_t120 k1_h20 k1_h23 k1_h37 r
theorem k1_off971_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off971 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.2.2.2.2.1 k1_t1 k1_t120 k1_h20 k1_h23 k1_h37 r
theorem k1_off972_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off972 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.2.2.2.2.2.1 k1_t1 k1_t120 k1_h20 k1_h23 k1_h37 r
theorem k1_off973_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t120 : Fin (k1_t120_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off973 i v53 v55 k1_t1 k1_t120 (BitVec.ofNat 32 r.val)) a + S1x16.size a ≤ S256x128.size a := fun i v27 v29 v31 v33 v35 v37 v39 v41 v43 v45 v47 v49 v51 v53 v55 v57 k1_hw1 k1_t1 k1_t120 k1_h20 k1_h23 k1_h37 r => k1_hw1.2.2.2.2.2.2.2.2.2.2.2.2.2.2.2.2.2.2.2.2.2.2.2.2.2.2.2.2.2.2.2.2.1.2.2.2.2.2.2.2.2.1 k1_t1 k1_t120 k1_h20 k1_h23 k1_h37 r
theorem k1_t121_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t121_loop i v53 v55 k1_t1).OK := fun i v27 v29 v31 v33 v35 v37 v39 v41 v43 v45 v47 v49 v51 v53 v55 v57 k1_hw1 k1_t1 k1_h20 k1_h23 k1_h37 => k1_hw1.2.2.2.2.2.2.2.2.2.2.2.2.2.2.2.2.2.2.2.2.2.2.2.2.2.2.2.2.2.2.2.2.1.2.2.2.2.2.2.2.2.2.1 k1_t1 k1_h20 k1_h23 k1_h37
theorem k1_off974_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off974 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.1 k1_t1 k1_t121 k1_h20 k1_h23 k1_h37 r
theorem k1_off975_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off975 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.1 k1_t1 k1_t121 k1_h20 k1_h23 k1_h37 r
theorem k1_off976_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off976 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.2.1 k1_t1 k1_t121 k1_h20 k1_h23 k1_h37 r
theorem k1_off977_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off977 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.2.2.1 k1_t1 k1_t121 k1_h20 k1_h23 k1_h37 r
theorem k1_off978_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off978 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.2.2.2.1 k1_t1 k1_t121 k1_h20 k1_h23 k1_h37 r
theorem k1_off979_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off979 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.2.2.2.2.1 k1_t1 k1_t121 k1_h20 k1_h23 k1_h37 r
theorem k1_off980_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off980 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.2.2.2.2.2.1 k1_t1 k1_t121 k1_h20 k1_h23 k1_h37 r
theorem k1_off981_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t121 : Fin (k1_t121_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ (r : Fin 4), ∀ a, (k1_off981 i v53 v55 k1_t1 k1_t121 (BitVec.ofNat 32 r.val)) a + S1x16.size a ≤ S256x128.size a := fun i v27 v29 v31 v33 v35 v37 v39 v41 v43 v45 v47 v49 v51 v53 v55 v57 k1_hw1 k1_t1 k1_t121 k1_h20 k1_h23 k1_h37 r => k1_hw1.2.2.2.2.2.2.2.2.2.2.2.2.2.2.2.2.2.2.2.2.2.2.2.2.2.2.2.2.2.2.2.2.1.2.2.2.2.2.2.2.2.2.2.2.2.2.2.2.2.2.1 k1_t1 k1_t121 k1_h20 k1_h23 k1_h37 r
theorem k1_t122_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t122_loop i v53 v55 k1_t1).OK := fun i v27 v29 v31 v33 v35 v37 v39 v41 v43 v45 v47 v49 v51 v53 v55 v57 k1_hw1 k1_t1 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.1 k1_t1 k1_h20 k1_h23 k1_h37
theorem k1_off982_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off982 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.1 k1_t1 k1_t122 k1_h20 k1_h23 k1_h37
theorem k1_off983_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off983 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.1 k1_t1 k1_t122 k1_h20 k1_h23 k1_h37
theorem k1_off984_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off984 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.1 k1_t1 k1_t122 k1_h20 k1_h23 k1_h37
theorem k1_off985_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off985 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.1 k1_t1 k1_t122 k1_h20 k1_h23 k1_h37
theorem k1_off986_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off986 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.1 k1_t1 k1_t122 k1_h20 k1_h23 k1_h37
theorem k1_off987_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off987 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.1 k1_t1 k1_t122 k1_h20 k1_h23 k1_h37
theorem k1_off988_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off988 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.1 k1_t1 k1_t122 k1_h20 k1_h23 k1_h37
theorem k1_off989_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t122 : Fin (k1_t122_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off989 i v53 v55 k1_t1 k1_t122) a + S1x16.size a ≤ S256x128.size a := fun i v27 v29 v31 v33 v35 v37 v39 v41 v43 v45 v47 v49 v51 v53 v55 v57 k1_hw1 k1_t1 k1_t122 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.2.1 k1_t1 k1_t122 k1_h20 k1_h23 k1_h37
theorem k1_t123_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), (k1_t123_loop i v53 v55 k1_t1).OK := fun i v27 v29 v31 v33 v35 v37 v39 v41 v43 v45 v47 v49 v51 v53 v55 v57 k1_hw1 k1_t1 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.1 k1_t1 k1_h20 k1_h23 k1_h37
theorem k1_off990_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off990 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k1_t1 k1_t123 k1_h20 k1_h23 k1_h37
theorem k1_off991_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off991 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t123 k1_h20 k1_h23 k1_h37
theorem k1_off992_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off992 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t123 k1_h20 k1_h23 k1_h37
theorem k1_off993_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off993 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_t123 k1_h20 k1_h23 k1_h37
theorem k1_off994_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off994 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.2.1.1 k1_t1 k1_t123 k1_h20 k1_h23 k1_h37
theorem k1_off995_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off995 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.2.1.2.1 k1_t1 k1_t123 k1_h20 k1_h23 k1_h37
theorem k1_off996_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off996 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.2.1.2.2.1 k1_t1 k1_t123 k1_h20 k1_h23 k1_h37
theorem k1_off997_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t123 : Fin (k1_t123_loop i v53 v55 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h37 : k1_cond37 i v53 v55 k1_t1 = 1#1), ∀ a, (k1_off997 i v53 v55 k1_t1 k1_t123) a + S1x16.size a ≤ S256x128.size a := fun i v27 v29 v31 v33 v35 v37 v39 v41 v43 v45 v47 v49 v51 v53 v55 v57 k1_hw1 k1_t1 k1_t123 k1_h20 k1_h23 k1_h37 => k1_hw1.2.2.2.2.2.2.2.2.2.2.2.2.2.2.2.2.2.2.2.2.2.2.2.2.2.2.2.2.2.2.2.2.2.1.2.2.2.1 k1_t1 k1_t123 k1_h20 k1_h23 k1_h37
theorem k1_t124_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t124_loop i v55 v57 k1_t1).OK := fun i v27 v29 v31 v33 v35 v37 v39 v41 v43 v45 v47 v49 v51 v53 v55 v57 k1_hw1 k1_t1 k1_h20 k1_h23 k1_h38 => k1_hw1.2.2.2.2.2.2.2.2.2.2.2.2.2.2.2.2.2.2.2.2.2.2.2.2.2.2.2.2.2.2.2.2.2.1.2.2.2.2.1 k1_t1 k1_h20 k1_h23 k1_h38
theorem k1_off998_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off998 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.1 k1_t1 k1_t124 k1_h20 k1_h23 k1_h38 r
theorem k1_off999_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off999 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.1 k1_t1 k1_t124 k1_h20 k1_h23 k1_h38 r
theorem k1_off1000_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1000 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.2.1 k1_t1 k1_t124 k1_h20 k1_h23 k1_h38 r
theorem k1_off1001_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1001 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.2.2.1 k1_t1 k1_t124 k1_h20 k1_h23 k1_h38 r
theorem k1_off1002_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1002 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.2.2.2.1 k1_t1 k1_t124 k1_h20 k1_h23 k1_h38 r
theorem k1_off1003_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1003 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.2.2.2.2.1 k1_t1 k1_t124 k1_h20 k1_h23 k1_h38 r
theorem k1_off1004_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1004 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.2.2.2.2.2.1 k1_t1 k1_t124 k1_h20 k1_h23 k1_h38 r
theorem k1_off1005_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t124 : Fin (k1_t124_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1005 i v55 v57 k1_t1 k1_t124 (BitVec.ofNat 32 r.val)) a + S1x16.size a ≤ S256x128.size a := fun i v27 v29 v31 v33 v35 v37 v39 v41 v43 v45 v47 v49 v51 v53 v55 v57 k1_hw1 k1_t1 k1_t124 k1_h20 k1_h23 k1_h38 r => k1_hw1.2.2.2.2.2.2.2.2.2.2.2.2.2.2.2.2.2.2.2.2.2.2.2.2.2.2.2.2.2.2.2.2.2.1.2.2.2.2.2.2.2.2.2.2.2.2.1 k1_t1 k1_t124 k1_h20 k1_h23 k1_h38 r
theorem k1_t125_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t125_loop i v55 v57 k1_t1).OK := fun i v27 v29 v31 v33 v35 v37 v39 v41 v43 v45 v47 v49 v51 v53 v55 v57 k1_hw1 k1_t1 k1_h20 k1_h23 k1_h38 => k1_hw1.2.2.2.2.2.2.2.2.2.2.2.2.2.2.2.2.2.2.2.2.2.2.2.2.2.2.2.2.2.2.2.2.2.1.2.2.2.2.2.2.2.2.2.2.2.2.2.1 k1_t1 k1_h20 k1_h23 k1_h38
theorem k1_off1006_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1006 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.1 k1_t1 k1_t125 k1_h20 k1_h23 k1_h38 r
theorem k1_off1007_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1007 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.1 k1_t1 k1_t125 k1_h20 k1_h23 k1_h38 r
theorem k1_off1008_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1008 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.2.1 k1_t1 k1_t125 k1_h20 k1_h23 k1_h38 r
theorem k1_off1009_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1009 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.2.2.1 k1_t1 k1_t125 k1_h20 k1_h23 k1_h38 r
theorem k1_off1010_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1010 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.2.2.2.1 k1_t1 k1_t125 k1_h20 k1_h23 k1_h38 r
theorem k1_off1011_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1011 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.2.2.2.2.1 k1_t1 k1_t125 k1_h20 k1_h23 k1_h38 r
theorem k1_off1012_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1012 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.2.2.2.2.2.1 k1_t1 k1_t125 k1_h20 k1_h23 k1_h38 r
theorem k1_off1013_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t125 : Fin (k1_t125_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ (r : Fin 4), ∀ a, (k1_off1013 i v55 v57 k1_t1 k1_t125 (BitVec.ofNat 32 r.val)) a + S1x16.size a ≤ S256x128.size a := fun i v27 v29 v31 v33 v35 v37 v39 v41 v43 v45 v47 v49 v51 v53 v55 v57 k1_hw1 k1_t1 k1_t125 k1_h20 k1_h23 k1_h38 r => k1_hw1.2.2.2.2.2.2.2.2.2.2.2.2.2.2.2.2.2.2.2.2.2.2.2.2.2.2.2.2.2.2.2.2.2.1.2.2.2.2.2.2.2.2.2.2.2.2.2.2.2.2.2.2.2.2.2.1 k1_t1 k1_t125 k1_h20 k1_h23 k1_h38 r
theorem k1_t126_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t126_loop i v55 v57 k1_t1).OK := fun i v27 v29 v31 v33 v35 v37 v39 v41 v43 v45 v47 v49 v51 v53 v55 v57 k1_hw1 k1_t1 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.1 k1_t1 k1_h20 k1_h23 k1_h38
theorem k1_off1014_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1014 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.1 k1_t1 k1_t126 k1_h20 k1_h23 k1_h38
theorem k1_off1015_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1015 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.1 k1_t1 k1_t126 k1_h20 k1_h23 k1_h38
theorem k1_off1016_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1016 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.1 k1_t1 k1_t126 k1_h20 k1_h23 k1_h38
theorem k1_off1017_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1017 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.1 k1_t1 k1_t126 k1_h20 k1_h23 k1_h38
theorem k1_off1018_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1018 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k1_t1 k1_t126 k1_h20 k1_h23 k1_h38
theorem k1_off1019_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1019 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k1_t1 k1_t126 k1_h20 k1_h23 k1_h38
theorem k1_off1020_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1020 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k1_t1 k1_t126 k1_h20 k1_h23 k1_h38
theorem k1_off1021_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t126 : Fin (k1_t126_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1021 i v55 v57 k1_t1 k1_t126) a + S1x16.size a ≤ S256x128.size a := fun i v27 v29 v31 v33 v35 v37 v39 v41 v43 v45 v47 v49 v51 v53 v55 v57 k1_hw1 k1_t1 k1_t126 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k1_t1 k1_t126 k1_h20 k1_h23 k1_h38
theorem k1_t127_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), (k1_t127_loop i v55 v57 k1_t1).OK := fun i v27 v29 v31 v33 v35 v37 v39 v41 v43 v45 v47 v49 v51 v53 v55 v57 k1_hw1 k1_t1 k1_h20 k1_h23 k1_h38 => k1_hw1.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k1_t1 k1_h20 k1_h23 k1_h38
theorem k1_off1022_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1022 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.1 k1_t1 k1_t127 k1_h20 k1_h23 k1_h38
theorem k1_off1023_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1023 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.1 k1_t1 k1_t127 k1_h20 k1_h23 k1_h38
theorem k1_off1024_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1024 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.2.1 k1_t1 k1_t127 k1_h20 k1_h23 k1_h38
theorem k1_off1025_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1025 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.2.2.1 k1_t1 k1_t127 k1_h20 k1_h23 k1_h38
theorem k1_off1026_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1026 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.2.2.2.1 k1_t1 k1_t127 k1_h20 k1_h23 k1_h38
theorem k1_off1027_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1027 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.2.2.2.2.1 k1_t1 k1_t127 k1_h20 k1_h23 k1_h38
theorem k1_off1028_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1028 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.2.2.2.2.2.1 k1_t1 k1_t127 k1_h20 k1_h23 k1_h38
theorem k1_off1029_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (k1_hw1 : k1_chk1 i v27 v29 v31 v33 v35 v37 v39 v41 v43 v45 v47 v49 v51 v53 v55 v57) (k1_t1 : Fin k1_t1_loop.trips) (k1_t127 : Fin (k1_t127_loop i v55 v57 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h38 : k1_cond38 i v55 v57 k1_t1 = 1#1), ∀ a, (k1_off1029 i v55 v57 k1_t1 k1_t127) a + S1x16.size a ≤ S256x128.size a := fun i v27 v29 v31 v33 v35 v37 v39 v41 v43 v45 v47 v49 v51 v53 v55 v57 k1_hw1 k1_t1 k1_t127 k1_h20 k1_h23 k1_h38 => k1_hw1.2.2.2.2.2.2.2.2.2.2.2.2.2.2.2.2.2.2.2.2.2.2.2.2.2.2.2.2.2.2.2.2.2.2.2.2.2.2.2.2.2 k1_t1 k1_t127 k1_h20 k1_h23 k1_h38

@[reducible] def k1_t128_loop (i : grid1.Coords) (v57 : BitVec 32) (v59 : BitVec 32) (k1_t1 : Fin k1_t1_loop.trips) : Scf.Loop 32 :=
  let c0_i32_580 : BitVec 32 := 0#32
  let c256_i32_562 : BitVec 32 := 256#32
  let c0_i32_561 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1031 : BitVec 32 := Scalar.subi v59 v743
  let v1032 : BitVec 32 := Scalar.maxsi c0_i32_561 v1031
  let v1033 : BitVec 32 := Scalar.minsi c256_i32_562 v1032
  let c256_i32_560 : BitVec 32 := 256#32
  let c0_i32_559 : BitVec 32 := 0#32
  let v1028 : BitVec 32 := Scalar.subi v57 v743
  let v1029 : BitVec 32 := Scalar.maxsi c0_i32_559 v1028
  let v1030 : BitVec 32 := Scalar.minsi c256_i32_560 v1029
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_582 : BitVec 32 := 1#32
  ⟨c0_i32_580, v1077, c1_i32_582⟩
def k1_cond39 (i : grid1.Coords) (v57 : BitVec 32) (v59 : BitVec 32) (k1_t1 : Fin k1_t1_loop.trips) : BitVec 1 :=
  let c256_i32_562 : BitVec 32 := 256#32
  let c0_i32_561 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1031 : BitVec 32 := Scalar.subi v59 v743
  let v1032 : BitVec 32 := Scalar.maxsi c0_i32_561 v1031
  let v1033 : BitVec 32 := Scalar.minsi c256_i32_562 v1032
  let c256_i32_560 : BitVec 32 := 256#32
  let c0_i32_559 : BitVec 32 := 0#32
  let v1028 : BitVec 32 := Scalar.subi v57 v743
  let v1029 : BitVec 32 := Scalar.maxsi c0_i32_559 v1028
  let v1030 : BitVec 32 := Scalar.minsi c256_i32_560 v1029
  let v1034 : BitVec 32 := Scalar.subi v1033 v1030
  let c0_i32_563 : BitVec 32 := 0#32
  let v1035 : BitVec 1 := Scalar.cmpi .sgt v1034 c0_i32_563
  let v1036 : BitVec 32 := Scalar.extui v1035
  let c0_i32_564 : BitVec 32 := 0#32
  let v1037 : BitVec 1 := Scalar.cmpi .ne v1036 c0_i32_564
  v1037

def k1_off1030 (i : grid1.Coords) (v57 : BitVec 32) (v59 : BitVec 32) (k1_t1 : Fin k1_t1_loop.trips) (k1_t128 : Fin (k1_t128_loop i v57 v59 k1_t1).trips) (c0_i32_620 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1154 : BitVec 32 := Scalar.addi v1153 c0_i32_620
  let v1155 : Index := Scalar.indexCast v1154
  let c0_621 : Index := 0#32
  ![v1155.toNat, 0]
def k1_off1031 (i : grid1.Coords) (v57 : BitVec 32) (v59 : BitVec 32) (k1_t1 : Fin k1_t1_loop.trips) (k1_t128 : Fin (k1_t128_loop i v57 v59 k1_t1).trips) (c0_i32_622 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1159 : BitVec 32 := Scalar.addi v1153 c0_i32_622
  let v1160 : Index := Scalar.indexCast v1159
  let c16_623 : Index := 16#32
  ![v1160.toNat, 16]
def k1_off1032 (i : grid1.Coords) (v57 : BitVec 32) (v59 : BitVec 32) (k1_t1 : Fin k1_t1_loop.trips) (k1_t128 : Fin (k1_t128_loop i v57 v59 k1_t1).trips) (c0_i32_624 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1164 : BitVec 32 := Scalar.addi v1153 c0_i32_624
  let v1165 : Index := Scalar.indexCast v1164
  let c32_625 : Index := 32#32
  ![v1165.toNat, 32]
def k1_off1033 (i : grid1.Coords) (v57 : BitVec 32) (v59 : BitVec 32) (k1_t1 : Fin k1_t1_loop.trips) (k1_t128 : Fin (k1_t128_loop i v57 v59 k1_t1).trips) (c0_i32_626 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1169 : BitVec 32 := Scalar.addi v1153 c0_i32_626
  let v1170 : Index := Scalar.indexCast v1169
  let c48_627 : Index := 48#32
  ![v1170.toNat, 48]
def k1_off1034 (i : grid1.Coords) (v57 : BitVec 32) (v59 : BitVec 32) (k1_t1 : Fin k1_t1_loop.trips) (k1_t128 : Fin (k1_t128_loop i v57 v59 k1_t1).trips) (c0_i32_628 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1174 : BitVec 32 := Scalar.addi v1153 c0_i32_628
  let v1175 : Index := Scalar.indexCast v1174
  let c64_629 : Index := 64#32
  ![v1175.toNat, 64]
def k1_off1035 (i : grid1.Coords) (v57 : BitVec 32) (v59 : BitVec 32) (k1_t1 : Fin k1_t1_loop.trips) (k1_t128 : Fin (k1_t128_loop i v57 v59 k1_t1).trips) (c0_i32_630 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1179 : BitVec 32 := Scalar.addi v1153 c0_i32_630
  let v1180 : Index := Scalar.indexCast v1179
  let c80_631 : Index := 80#32
  ![v1180.toNat, 80]
def k1_off1036 (i : grid1.Coords) (v57 : BitVec 32) (v59 : BitVec 32) (k1_t1 : Fin k1_t1_loop.trips) (k1_t128 : Fin (k1_t128_loop i v57 v59 k1_t1).trips) (c0_i32_632 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1184 : BitVec 32 := Scalar.addi v1153 c0_i32_632
  let v1185 : Index := Scalar.indexCast v1184
  let c96_633 : Index := 96#32
  ![v1185.toNat, 96]
def k1_off1037 (i : grid1.Coords) (v57 : BitVec 32) (v59 : BitVec 32) (k1_t1 : Fin k1_t1_loop.trips) (k1_t128 : Fin (k1_t128_loop i v57 v59 k1_t1).trips) (c0_i32_634 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c1_i32_582 : BitVec 32 := 1#32
  let arg11 : BitVec 32 := Scf.iv c0_i32_580 c1_i32_582 k1_t128
  let c4_i32_619 : BitVec 32 := 4#32
  let v1152 : BitVec 32 := Scalar.muli arg11 c4_i32_619
  let v1153 : BitVec 32 := Scalar.addi v1030 v1152
  let v1189 : BitVec 32 := Scalar.addi v1153 c0_i32_634
  let v1190 : Index := Scalar.indexCast v1189
  let c112_635 : Index := 112#32
  ![v1190.toNat, 112]
@[reducible] def k1_t129_loop (i : grid1.Coords) (v57 : BitVec 32) (v59 : BitVec 32) (k1_t1 : Fin k1_t1_loop.trips) : Scf.Loop 32 :=
  let c0_i32_580 : BitVec 32 := 0#32
  let c256_i32_562 : BitVec 32 := 256#32
  let c0_i32_561 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1031 : BitVec 32 := Scalar.subi v59 v743
  let v1032 : BitVec 32 := Scalar.maxsi c0_i32_561 v1031
  let v1033 : BitVec 32 := Scalar.minsi c256_i32_562 v1032
  let c256_i32_560 : BitVec 32 := 256#32
  let c0_i32_559 : BitVec 32 := 0#32
  let v1028 : BitVec 32 := Scalar.subi v57 v743
  let v1029 : BitVec 32 := Scalar.maxsi c0_i32_559 v1028
  let v1030 : BitVec 32 := Scalar.minsi c256_i32_560 v1029
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let v1074 : BitVec 32 := Scalar.addi c0_i32_580 v1073
  let c1_i32_583 : BitVec 32 := 1#32
  ⟨v1077, v1074, c1_i32_583⟩
def k1_off1038 (i : grid1.Coords) (v57 : BitVec 32) (v59 : BitVec 32) (k1_t1 : Fin k1_t1_loop.trips) (k1_t129 : Fin (k1_t129_loop i v57 v59 k1_t1).trips) (c0_i32_620 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1154 : BitVec 32 := Scalar.addi v1153 c0_i32_620
  let v1155 : Index := Scalar.indexCast v1154
  let c0_621 : Index := 0#32
  ![v1155.toNat, 0]
def k1_off1039 (i : grid1.Coords) (v57 : BitVec 32) (v59 : BitVec 32) (k1_t1 : Fin k1_t1_loop.trips) (k1_t129 : Fin (k1_t129_loop i v57 v59 k1_t1).trips) (c0_i32_622 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1159 : BitVec 32 := Scalar.addi v1153 c0_i32_622
  let v1160 : Index := Scalar.indexCast v1159
  let c16_623 : Index := 16#32
  ![v1160.toNat, 16]
def k1_off1040 (i : grid1.Coords) (v57 : BitVec 32) (v59 : BitVec 32) (k1_t1 : Fin k1_t1_loop.trips) (k1_t129 : Fin (k1_t129_loop i v57 v59 k1_t1).trips) (c0_i32_624 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1164 : BitVec 32 := Scalar.addi v1153 c0_i32_624
  let v1165 : Index := Scalar.indexCast v1164
  let c32_625 : Index := 32#32
  ![v1165.toNat, 32]
def k1_off1041 (i : grid1.Coords) (v57 : BitVec 32) (v59 : BitVec 32) (k1_t1 : Fin k1_t1_loop.trips) (k1_t129 : Fin (k1_t129_loop i v57 v59 k1_t1).trips) (c0_i32_626 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1169 : BitVec 32 := Scalar.addi v1153 c0_i32_626
  let v1170 : Index := Scalar.indexCast v1169
  let c48_627 : Index := 48#32
  ![v1170.toNat, 48]
def k1_off1042 (i : grid1.Coords) (v57 : BitVec 32) (v59 : BitVec 32) (k1_t1 : Fin k1_t1_loop.trips) (k1_t129 : Fin (k1_t129_loop i v57 v59 k1_t1).trips) (c0_i32_628 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1174 : BitVec 32 := Scalar.addi v1153 c0_i32_628
  let v1175 : Index := Scalar.indexCast v1174
  let c64_629 : Index := 64#32
  ![v1175.toNat, 64]
def k1_off1043 (i : grid1.Coords) (v57 : BitVec 32) (v59 : BitVec 32) (k1_t1 : Fin k1_t1_loop.trips) (k1_t129 : Fin (k1_t129_loop i v57 v59 k1_t1).trips) (c0_i32_630 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1179 : BitVec 32 := Scalar.addi v1153 c0_i32_630
  let v1180 : Index := Scalar.indexCast v1179
  let c80_631 : Index := 80#32
  ![v1180.toNat, 80]
def k1_off1044 (i : grid1.Coords) (v57 : BitVec 32) (v59 : BitVec 32) (k1_t1 : Fin k1_t1_loop.trips) (k1_t129 : Fin (k1_t129_loop i v57 v59 k1_t1).trips) (c0_i32_632 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1184 : BitVec 32 := Scalar.addi v1153 c0_i32_632
  let v1185 : Index := Scalar.indexCast v1184
  let c96_633 : Index := 96#32
  ![v1185.toNat, 96]
def k1_off1045 (i : grid1.Coords) (v57 : BitVec 32) (v59 : BitVec 32) (k1_t1 : Fin k1_t1_loop.trips) (k1_t129 : Fin (k1_t129_loop i v57 v59 k1_t1).trips) (c0_i32_634 : BitVec 32) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c0_i32_580 : BitVec 32 := 0#32
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let c0_i32_574 : BitVec 32 := 0#32
  let v1057 : BitVec 1 := Scalar.cmpi .sgt v1055 c0_i32_574
  let v1058 : BitVec 32 := Scalar.extui v1057
  let c0_i32_575 : BitVec 32 := 0#32
  let v1059 : BitVec 1 := Scalar.cmpi .slt v1055 c0_i32_575
  let v1060 : BitVec 32 := Scalar.extui v1059
  let v1061 : BitVec 32 := Scalar.subi v1058 v1060
  let c4_i32_573 : BitVec 32 := 4#32
  let c0_i32_576 : BitVec 32 := 0#32
  let v1062 : BitVec 1 := Scalar.cmpi .sgt c4_i32_573 c0_i32_576
  let v1063 : BitVec 32 := Scalar.extui v1062
  let c0_i32_577 : BitVec 32 := 0#32
  let v1064 : BitVec 1 := Scalar.cmpi .slt c4_i32_573 c0_i32_577
  let v1065 : BitVec 32 := Scalar.extui v1064
  let v1066 : BitVec 32 := Scalar.subi v1063 v1065
  let v1067 : BitVec 1 := Scalar.cmpi .ne v1061 v1066
  let v1068 : BitVec 32 := Scalar.remsi v1055 c4_i32_573
  let c0_i32_578 : BitVec 32 := 0#32
  let v1069 : BitVec 1 := Scalar.cmpi .ne v1068 c0_i32_578
  let v1070 : BitVec 1 := Scalar.andi v1067 v1069
  let v1056 : BitVec 32 := Scalar.divsi v1055 c4_i32_573
  let c1_i32_579 : BitVec 32 := 1#32
  let v1071 : BitVec 32 := Scalar.subi v1056 c1_i32_579
  let v1072 : BitVec 32 := Scalar.select v1070 v1071 v1056
  let v1073 : BitVec 32 := Scalar.subi v1072 c0_i32_580
  let c1_i32_581 : BitVec 32 := 1#32
  let v1075 : BitVec 32 := Scalar.divsi v1073 c1_i32_581
  let v1076 : BitVec 32 := Scalar.muli v1075 c1_i32_581
  let v1077 : BitVec 32 := Scalar.addi c0_i32_580 v1076
  let c1_i32_583 : BitVec 32 := 1#32
  let arg11 : BitVec 32 := Scf.iv v1077 c1_i32_583 k1_t129
  let c4_i32_619 : BitVec 32 := 4#32
  let v1152 : BitVec 32 := Scalar.muli arg11 c4_i32_619
  let v1153 : BitVec 32 := Scalar.addi v1030 v1152
  let v1189 : BitVec 32 := Scalar.addi v1153 c0_i32_634
  let v1190 : Index := Scalar.indexCast v1189
  let c112_635 : Index := 112#32
  ![v1190.toNat, 112]
@[reducible] def k1_t130_loop (i : grid1.Coords) (v57 : BitVec 32) (v59 : BitVec 32) (k1_t1 : Fin k1_t1_loop.trips) : Scf.Loop 32 :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_585 : BitVec 32 := 1#32
  ⟨v1080, v1085, c1_i32_585⟩
def k1_off1046 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1152 : Index := Scalar.indexCast arg11
  let c0_619 : Index := 0#32
  ![v1152.toNat, 0]
def k1_off1047 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1156 : Index := Scalar.indexCast arg11
  let c16_620 : Index := 16#32
  ![v1156.toNat, 16]
def k1_off1048 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1160 : Index := Scalar.indexCast arg11
  let c32_621 : Index := 32#32
  ![v1160.toNat, 32]
def k1_off1049 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1164 : Index := Scalar.indexCast arg11
  let c48_622 : Index := 48#32
  ![v1164.toNat, 48]
def k1_off1050 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1168 : Index := Scalar.indexCast arg11
  let c64_623 : Index := 64#32
  ![v1168.toNat, 64]
def k1_off1051 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1172 : Index := Scalar.indexCast arg11
  let c80_624 : Index := 80#32
  ![v1172.toNat, 80]
def k1_off1052 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1176 : Index := Scalar.indexCast arg11
  let c96_625 : Index := 96#32
  ![v1176.toNat, 96]
def k1_off1053 (i : grid1.Coords) (v57 : BitVec 32) (v59 : BitVec 32) (k1_t1 : Fin k1_t1_loop.trips) (k1_t130 : Fin (k1_t130_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let c1_i32_585 : BitVec 32 := 1#32
  let arg11 : BitVec 32 := Scf.iv v1080 c1_i32_585 k1_t130
  let v1180 : Index := Scalar.indexCast arg11
  let c112_626 : Index := 112#32
  ![v1180.toNat, 112]
@[reducible] def k1_t131_loop (i : grid1.Coords) (v57 : BitVec 32) (v59 : BitVec 32) (k1_t1 : Fin k1_t1_loop.trips) : Scf.Loop 32 :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let v1082 : BitVec 32 := Scalar.addi v1080 v1081
  let c1_i32_586 : BitVec 32 := 1#32
  ⟨v1085, v1082, c1_i32_586⟩
def k1_off1054 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1152 : Index := Scalar.indexCast arg11
  let c0_619 : Index := 0#32
  ![v1152.toNat, 0]
def k1_off1055 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1156 : Index := Scalar.indexCast arg11
  let c16_620 : Index := 16#32
  ![v1156.toNat, 16]
def k1_off1056 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1160 : Index := Scalar.indexCast arg11
  let c32_621 : Index := 32#32
  ![v1160.toNat, 32]
def k1_off1057 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1164 : Index := Scalar.indexCast arg11
  let c48_622 : Index := 48#32
  ![v1164.toNat, 48]
def k1_off1058 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1168 : Index := Scalar.indexCast arg11
  let c64_623 : Index := 64#32
  ![v1168.toNat, 64]
def k1_off1059 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1172 : Index := Scalar.indexCast arg11
  let c80_624 : Index := 80#32
  ![v1172.toNat, 80]
def k1_off1060 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1176 : Index := Scalar.indexCast arg11
  let c96_625 : Index := 96#32
  ![v1176.toNat, 96]
def k1_off1061 (i : grid1.Coords) (v57 : BitVec 32) (v59 : BitVec 32) (k1_t1 : Fin k1_t1_loop.trips) (k1_t131 : Fin (k1_t131_loop i v57 v59 k1_t1).trips) : Fin 2 → Nat :=
  let c256_i32_560 : BitVec 32 := 256#32
  let c0_i32_559 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8192_i32 : BitVec 32 := 8192#32
  let v19 : BitVec 32 := Scalar.muli v18 c8192_i32
  let c0_i32_252 : BitVec 32 := 0#32
  let c1_i32_253 : BitVec 32 := 1#32
  let arg10 : BitVec 32 := Scf.iv c0_i32_252 c1_i32_253 k1_t1
  let c2_i32_255 : BitVec 32 := 2#32
  let v588 : BitVec 32 := Scalar.muli arg10 c2_i32_255
  let c1_i32_367 : BitVec 32 := 1#32
  let v741 : BitVec 32 := Scalar.addi v588 c1_i32_367
  let c256_i32_368 : BitVec 32 := 256#32
  let v742 : BitVec 32 := Scalar.muli v741 c256_i32_368
  let v743 : BitVec 32 := Scalar.addi v19 v742
  let v1028 : BitVec 32 := Scalar.subi v57 v743
  let v1029 : BitVec 32 := Scalar.maxsi c0_i32_559 v1028
  let v1030 : BitVec 32 := Scalar.minsi c256_i32_560 v1029
  let c256_i32_562 : BitVec 32 := 256#32
  let c0_i32_561 : BitVec 32 := 0#32
  let v1031 : BitVec 32 := Scalar.subi v59 v743
  let v1032 : BitVec 32 := Scalar.maxsi c0_i32_561 v1031
  let v1033 : BitVec 32 := Scalar.minsi c256_i32_562 v1032
  let v1034 : BitVec 32 := Scalar.subi v1033 v1030
  let c0_i32_566 : BitVec 32 := 0#32
  let v1039 : BitVec 1 := Scalar.cmpi .sgt v1034 c0_i32_566
  let v1040 : BitVec 32 := Scalar.extui v1039
  let c0_i32_567 : BitVec 32 := 0#32
  let v1041 : BitVec 1 := Scalar.cmpi .slt v1034 c0_i32_567
  let v1042 : BitVec 32 := Scalar.extui v1041
  let v1043 : BitVec 32 := Scalar.subi v1040 v1042
  let c4_i32_565 : BitVec 32 := 4#32
  let c0_i32_568 : BitVec 32 := 0#32
  let v1044 : BitVec 1 := Scalar.cmpi .sgt c4_i32_565 c0_i32_568
  let v1045 : BitVec 32 := Scalar.extui v1044
  let c0_i32_569 : BitVec 32 := 0#32
  let v1046 : BitVec 1 := Scalar.cmpi .slt c4_i32_565 c0_i32_569
  let v1047 : BitVec 32 := Scalar.extui v1046
  let v1048 : BitVec 32 := Scalar.subi v1045 v1047
  let v1049 : BitVec 1 := Scalar.cmpi .ne v1043 v1048
  let v1050 : BitVec 32 := Scalar.remsi v1034 c4_i32_565
  let c0_i32_570 : BitVec 32 := 0#32
  let v1051 : BitVec 1 := Scalar.cmpi .ne v1050 c0_i32_570
  let v1052 : BitVec 1 := Scalar.andi v1049 v1051
  let v1038 : BitVec 32 := Scalar.divsi v1034 c4_i32_565
  let c1_i32_571 : BitVec 32 := 1#32
  let v1053 : BitVec 32 := Scalar.subi v1038 c1_i32_571
  let v1054 : BitVec 32 := Scalar.select v1052 v1053 v1038
  let c4_i32_572 : BitVec 32 := 4#32
  let v1055 : BitVec 32 := Scalar.muli v1054 c4_i32_572
  let v1080 : BitVec 32 := Scalar.addi v1030 v1055
  let v1081 : BitVec 32 := Scalar.subi v1033 v1080
  let c1_i32_584 : BitVec 32 := 1#32
  let v1083 : BitVec 32 := Scalar.divsi v1081 c1_i32_584
  let v1084 : BitVec 32 := Scalar.muli v1083 c1_i32_584
  let v1085 : BitVec 32 := Scalar.addi v1080 v1084
  let c1_i32_586 : BitVec 32 := 1#32
  let arg11 : BitVec 32 := Scf.iv v1085 c1_i32_586 k1_t131
  let v1180 : Index := Scalar.indexCast arg11
  let c112_626 : Index := 112#32
  ![v1180.toNat, 112]

def k1_chk2_0 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) : Prop :=
  (∀ k1_t1 : Fin k1_t1_loop.trips, ∀ (k1_h3 : k1_cond3 i v27 v29 v31 v33 v35 v37 v39 v41 v43 v45 v47 v49 v51 v53 v55 v57 k1_t1 = 1#1), ∀ (k1_h19 : k1_cond19 i v57 v59 k1_t1 = 1#1), (k1_t63_loop i v57 v59 k1_t1).OK) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off500 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off501 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off502 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off503 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off504 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off505 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off506 i v57 v59 k1_t1 k1_t63 (BitVec.ofNat 32 r.val)) a + S1x16.size a ≤ S256x128.size a) ∧
  (∀ (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off507 i v57 v59 k1_t1 k1_t63 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h19 : k1_cond19 i v57 v59 k1_t1 = 1#1), (k1_t64_loop i v57 v59 k1_t1).OK) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off508 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off509 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off510 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off511 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off512 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off513 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off514 i v57 v59 k1_t1 k1_t64 (BitVec.ofNat 32 r.val)) a + S1x16.size a ≤ S256x128.size a) ∧
  (∀ (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off515 i v57 v59 k1_t1 k1_t64 (BitVec.ofNat 32 r.val)) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h19 : k1_cond19 i v57 v59 k1_t1 = 1#1), (k1_t65_loop i v57 v59 k1_t1).OK) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off516 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off517 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off518 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off519 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off520 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off521 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off522 i v57 v59 k1_t1 k1_t65) a + S1x16.size a ≤ S256x128.size a) ∧
  (∀ (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off523 i v57 v59 k1_t1 k1_t65) a + S1x16.size a ≤ S256x128.size a) ∧
  (∀ k1_t1 : Fin k1_t1_loop.trips, ∀ (k1_h3 : k1_cond3 i v27 v29 v31 v33 v35 v37 v39 v41 v43 v45 v47 v49 v51 v53 v55 v57 k1_t1 = 1#1), ∀ (k1_h19 : k1_cond19 i v57 v59 k1_t1 = 1#1), (k1_t66_loop i v57 v59 k1_t1).OK) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off524 i v57 v59 k1_t1 k1_t66) a + S1x16.size a ≤ S256x128.size a) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off525 i v57 v59 k1_t1 k1_t66) a + S1x16.size a ≤ S256x128.size a) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off526 i v57 v59 k1_t1 k1_t66) a + S1x16.size a ≤ S256x128.size a) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off527 i v57 v59 k1_t1 k1_t66) a + S1x16.size a ≤ S256x128.size a)
def k1_chk2_1 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) : Prop :=
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off528 i v57 v59 k1_t1 k1_t66) a + S1x16.size a ≤ S256x128.size a) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off529 i v57 v59 k1_t1 k1_t66) a + S1x16.size a ≤ S256x128.size a) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off530 i v57 v59 k1_t1 k1_t66) a + S1x16.size a ≤ S256x128.size a) ∧
  (∀ (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off531 i v57 v59 k1_t1 k1_t66) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t128_loop i v57 v59 k1_t1).OK) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1030 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1031 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1032 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1033 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1034 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1035 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1036 i v57 v59 k1_t1 k1_t128 (BitVec.ofNat 32 r.val)) a + S1x16.size a ≤ S256x128.size a) ∧
  (∀ (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1037 i v57 v59 k1_t1 k1_t128 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t129_loop i v57 v59 k1_t1).OK) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1038 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1039 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1040 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1041 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1042 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1043 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1044 i v57 v59 k1_t1 k1_t129 (BitVec.ofNat 32 r.val)) a + S1x16.size a ≤ S256x128.size a) ∧
  (∀ (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1045 i v57 v59 k1_t1 k1_t129 (BitVec.ofNat 32 r.val)) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t130_loop i v57 v59 k1_t1).OK) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1046 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1047 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1048 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1049 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1050 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1051 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1052 i v57 v59 k1_t1 k1_t130) a + S1x16.size a ≤ S256x128.size a) ∧
  (∀ (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1053 i v57 v59 k1_t1 k1_t130) a + S1x16.size a ≤ S256x128.size a) ∧
  (∀ k1_t1 : Fin k1_t1_loop.trips, ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t131_loop i v57 v59 k1_t1).OK)
def k1_chk2_2 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) : Prop :=
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1054 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1055 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1056 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1057 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1058 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1059 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1060 i v57 v59 k1_t1 k1_t131) a + S1x16.size a ≤ S256x128.size a) ∧
  (∀ (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1061 i v57 v59 k1_t1 k1_t131) a + S1x16.size a ≤ S256x128.size a)
def k1_chk2 (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) : Prop :=
  k1_chk2_0 i v27 v29 v31 v33 v35 v37 v39 v41 v43 v45 v47 v49 v51 v53 v55 v57 v59 ∧
  k1_chk2_1 i v27 v29 v31 v33 v35 v37 v39 v41 v43 v45 v47 v49 v51 v53 v55 v57 v59 ∧
  k1_chk2_2 i v27 v29 v31 v33 v35 v37 v39 v41 v43 v45 v47 v49 v51 v53 v55 v57 v59
theorem k1_t63_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h3 : k1_cond3 i v27 v29 v31 v33 v35 v37 v39 v41 v43 v45 v47 v49 v51 v53 v55 v57 k1_t1 = 1#1), ∀ (k1_h19 : k1_cond19 i v57 v59 k1_t1 = 1#1), (k1_t63_loop i v57 v59 k1_t1).OK := fun i v27 v29 v31 v33 v35 v37 v39 v41 v43 v45 v47 v49 v51 v53 v55 v57 v59 k1_hw2 k1_t1 k1_h3 k1_h19 => k1_hw2.1.1 k1_t1 k1_h3 k1_h19
theorem k1_off500_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off500 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.1 k1_t1 k1_t63 k1_h3 k1_h19 r
theorem k1_off501_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off501 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.1 k1_t1 k1_t63 k1_h3 k1_h19 r
theorem k1_off502_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off502 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.2.1 k1_t1 k1_t63 k1_h3 k1_h19 r
theorem k1_off503_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off503 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.2.2.1 k1_t1 k1_t63 k1_h3 k1_h19 r
theorem k1_off504_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off504 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.2.2.2.1 k1_t1 k1_t63 k1_h3 k1_h19 r
theorem k1_off505_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off505 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.2.2.2.2.1 k1_t1 k1_t63 k1_h3 k1_h19 r
theorem k1_off506_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off506 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.2.2.2.2.2.1 k1_t1 k1_t63 k1_h3 k1_h19 r
theorem k1_off507_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t63 : Fin (k1_t63_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off507 i v57 v59 k1_t1 k1_t63 (BitVec.ofNat 32 r.val)) a + S1x16.size a ≤ S256x128.size a := fun i v27 v29 v31 v33 v35 v37 v39 v41 v43 v45 v47 v49 v51 v53 v55 v57 v59 k1_hw2 k1_t1 k1_t63 k1_h3 k1_h19 r => k1_hw2.1.2.2.2.2.2.2.2.2.1 k1_t1 k1_t63 k1_h3 k1_h19 r
theorem k1_t64_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h3 : k1_cond3 i v27 v29 v31 v33 v35 v37 v39 v41 v43 v45 v47 v49 v51 v53 v55 v57 k1_t1 = 1#1), ∀ (k1_h19 : k1_cond19 i v57 v59 k1_t1 = 1#1), (k1_t64_loop i v57 v59 k1_t1).OK := fun i v27 v29 v31 v33 v35 v37 v39 v41 v43 v45 v47 v49 v51 v53 v55 v57 v59 k1_hw2 k1_t1 k1_h3 k1_h19 => k1_hw2.1.2.2.2.2.2.2.2.2.2.1 k1_t1 k1_h3 k1_h19
theorem k1_off508_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off508 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.1 k1_t1 k1_t64 k1_h3 k1_h19 r
theorem k1_off509_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off509 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.1 k1_t1 k1_t64 k1_h3 k1_h19 r
theorem k1_off510_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off510 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.2.1 k1_t1 k1_t64 k1_h3 k1_h19 r
theorem k1_off511_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off511 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.2.2.1 k1_t1 k1_t64 k1_h3 k1_h19 r
theorem k1_off512_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off512 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.2.2.2.1 k1_t1 k1_t64 k1_h3 k1_h19 r
theorem k1_off513_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off513 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.2.2.2.2.1 k1_t1 k1_t64 k1_h3 k1_h19 r
theorem k1_off514_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off514 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.2.2.2.2.2.1 k1_t1 k1_t64 k1_h3 k1_h19 r
theorem k1_off515_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t64 : Fin (k1_t64_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ (r : Fin 4), ∀ a, (k1_off515 i v57 v59 k1_t1 k1_t64 (BitVec.ofNat 32 r.val)) a + S1x16.size a ≤ S256x128.size a := fun i v27 v29 v31 v33 v35 v37 v39 v41 v43 v45 v47 v49 v51 v53 v55 v57 v59 k1_hw2 k1_t1 k1_t64 k1_h3 k1_h19 r => k1_hw2.1.2.2.2.2.2.2.2.2.2.2.2.2.2.2.2.2.2.1 k1_t1 k1_t64 k1_h3 k1_h19 r
theorem k1_t65_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h3 : k1_cond3 i v27 v29 v31 v33 v35 v37 v39 v41 v43 v45 v47 v49 v51 v53 v55 v57 k1_t1 = 1#1), ∀ (k1_h19 : k1_cond19 i v57 v59 k1_t1 = 1#1), (k1_t65_loop i v57 v59 k1_t1).OK := fun i v27 v29 v31 v33 v35 v37 v39 v41 v43 v45 v47 v49 v51 v53 v55 v57 v59 k1_hw2 k1_t1 k1_h3 k1_h19 => k1_hw2.1.2.2.2.2.2.2.2.2.2.2.2.2.2.2.2.2.2.2.1 k1_t1 k1_h3 k1_h19
theorem k1_off516_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off516 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.1 k1_t1 k1_t65 k1_h3 k1_h19
theorem k1_off517_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off517 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.1 k1_t1 k1_t65 k1_h3 k1_h19
theorem k1_off518_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off518 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.2.1 k1_t1 k1_t65 k1_h3 k1_h19
theorem k1_off519_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off519 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.2.2.1 k1_t1 k1_t65 k1_h3 k1_h19
theorem k1_off520_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off520 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.2.2.2.1 k1_t1 k1_t65 k1_h3 k1_h19
theorem k1_off521_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off521 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.2.2.2.2.1 k1_t1 k1_t65 k1_h3 k1_h19
theorem k1_off522_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off522 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.2.2.2.2.2.1 k1_t1 k1_t65 k1_h3 k1_h19
theorem k1_off523_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t65 : Fin (k1_t65_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off523 i v57 v59 k1_t1 k1_t65) a + S1x16.size a ≤ S256x128.size a := fun i v27 v29 v31 v33 v35 v37 v39 v41 v43 v45 v47 v49 v51 v53 v55 v57 v59 k1_hw2 k1_t1 k1_t65 k1_h3 k1_h19 => k1_hw2.1.2.2.2.2.2.2.2.2.2.2.2.2.2.2.2.2.2.2.2.2.2.2.2.2.2.2.1 k1_t1 k1_t65 k1_h3 k1_h19
theorem k1_t66_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h3 : k1_cond3 i v27 v29 v31 v33 v35 v37 v39 v41 v43 v45 v47 v49 v51 v53 v55 v57 k1_t1 = 1#1), ∀ (k1_h19 : k1_cond19 i v57 v59 k1_t1 = 1#1), (k1_t66_loop i v57 v59 k1_t1).OK := fun i v27 v29 v31 v33 v35 v37 v39 v41 v43 v45 v47 v49 v51 v53 v55 v57 v59 k1_hw2 k1_t1 k1_h3 k1_h19 => k1_hw2.1.2.2.2.2.2.2.2.2.2.2.2.2.2.2.2.2.2.2.2.2.2.2.2.2.2.2.2.1 k1_t1 k1_h3 k1_h19
theorem k1_off524_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off524 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.1.2.2.2.2.2.2.2.2.2.2.2.2.2.2.2.2.2.2.2.2.2.2.2.2.2.2.2.2.1 k1_t1 k1_t66 k1_h3 k1_h19
theorem k1_off525_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off525 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.1.2.2.2.2.2.2.2.2.2.2.2.2.2.2.2.2.2.2.2.2.2.2.2.2.2.2.2.2.2.1 k1_t1 k1_t66 k1_h3 k1_h19
theorem k1_off526_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off526 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.1.2.2.2.2.2.2.2.2.2.2.2.2.2.2.2.2.2.2.2.2.2.2.2.2.2.2.2.2.2.2.1 k1_t1 k1_t66 k1_h3 k1_h19
theorem k1_off527_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off527 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.1.2.2.2.2.2.2.2.2.2.2.2.2.2.2.2.2.2.2.2.2.2.2.2.2.2.2.2.2.2.2.2 k1_t1 k1_t66 k1_h3 k1_h19
theorem k1_off528_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off528 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.2.1.1 k1_t1 k1_t66 k1_h3 k1_h19
theorem k1_off529_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off529 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.2.1.2.1 k1_t1 k1_t66 k1_h3 k1_h19
theorem k1_off530_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off530 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.2.1.2.2.1 k1_t1 k1_t66 k1_h3 k1_h19
theorem k1_off531_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t66 : Fin (k1_t66_loop i v57 v59 k1_t1).trips), ∀ (k1_h3 : k1_cond3 i v27 v29 v31 v33 v35 v37 v39 v41 v43 v45 v47 v49 v51 v53 v55 v57 k1_t1 = 1#1), ∀ (k1_h19 : k1_cond19 i v57 v59 k1_t1 = 1#1), ∀ a, (k1_off531 i v57 v59 k1_t1 k1_t66) a + S1x16.size a ≤ S256x128.size a := fun i v27 v29 v31 v33 v35 v37 v39 v41 v43 v45 v47 v49 v51 v53 v55 v57 v59 k1_hw2 k1_t1 k1_t66 k1_h3 k1_h19 => k1_hw2.2.1.2.2.2.1 k1_t1 k1_t66 k1_h3 k1_h19
theorem k1_t128_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t128_loop i v57 v59 k1_t1).OK := fun i v27 v29 v31 v33 v35 v37 v39 v41 v43 v45 v47 v49 v51 v53 v55 v57 v59 k1_hw2 k1_t1 k1_h20 k1_h23 k1_h39 => k1_hw2.2.1.2.2.2.2.1 k1_t1 k1_h20 k1_h23 k1_h39
theorem k1_off1030_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1030 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.1 k1_t1 k1_t128 k1_h20 k1_h23 k1_h39 r
theorem k1_off1031_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1031 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.1 k1_t1 k1_t128 k1_h20 k1_h23 k1_h39 r
theorem k1_off1032_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1032 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.2.1 k1_t1 k1_t128 k1_h20 k1_h23 k1_h39 r
theorem k1_off1033_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1033 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.2.2.1 k1_t1 k1_t128 k1_h20 k1_h23 k1_h39 r
theorem k1_off1034_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1034 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.2.2.2.1 k1_t1 k1_t128 k1_h20 k1_h23 k1_h39 r
theorem k1_off1035_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1035 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.2.2.2.2.1 k1_t1 k1_t128 k1_h20 k1_h23 k1_h39 r
theorem k1_off1036_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1036 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.2.2.2.2.2.1 k1_t1 k1_t128 k1_h20 k1_h23 k1_h39 r
theorem k1_off1037_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t128 : Fin (k1_t128_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1037 i v57 v59 k1_t1 k1_t128 (BitVec.ofNat 32 r.val)) a + S1x16.size a ≤ S256x128.size a := fun i v27 v29 v31 v33 v35 v37 v39 v41 v43 v45 v47 v49 v51 v53 v55 v57 v59 k1_hw2 k1_t1 k1_t128 k1_h20 k1_h23 k1_h39 r => k1_hw2.2.1.2.2.2.2.2.2.2.2.2.2.2.2.1 k1_t1 k1_t128 k1_h20 k1_h23 k1_h39 r
theorem k1_t129_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t129_loop i v57 v59 k1_t1).OK := fun i v27 v29 v31 v33 v35 v37 v39 v41 v43 v45 v47 v49 v51 v53 v55 v57 v59 k1_hw2 k1_t1 k1_h20 k1_h23 k1_h39 => k1_hw2.2.1.2.2.2.2.2.2.2.2.2.2.2.2.2.1 k1_t1 k1_h20 k1_h23 k1_h39
theorem k1_off1038_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1038 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.1 k1_t1 k1_t129 k1_h20 k1_h23 k1_h39 r
theorem k1_off1039_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1039 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.1 k1_t1 k1_t129 k1_h20 k1_h23 k1_h39 r
theorem k1_off1040_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1040 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.2.1 k1_t1 k1_t129 k1_h20 k1_h23 k1_h39 r
theorem k1_off1041_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1041 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.2.2.1 k1_t1 k1_t129 k1_h20 k1_h23 k1_h39 r
theorem k1_off1042_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1042 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.2.2.2.1 k1_t1 k1_t129 k1_h20 k1_h23 k1_h39 r
theorem k1_off1043_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1043 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.2.2.2.2.1 k1_t1 k1_t129 k1_h20 k1_h23 k1_h39 r
theorem k1_off1044_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1044 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.2.2.2.2.2.1 k1_t1 k1_t129 k1_h20 k1_h23 k1_h39 r
theorem k1_off1045_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t129 : Fin (k1_t129_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ (r : Fin 4), ∀ a, (k1_off1045 i v57 v59 k1_t1 k1_t129 (BitVec.ofNat 32 r.val)) a + S1x16.size a ≤ S256x128.size a := fun i v27 v29 v31 v33 v35 v37 v39 v41 v43 v45 v47 v49 v51 v53 v55 v57 v59 k1_hw2 k1_t1 k1_t129 k1_h20 k1_h23 k1_h39 r => k1_hw2.2.1.2.2.2.2.2.2.2.2.2.2.2.2.2.2.2.2.2.2.2.2.2.1 k1_t1 k1_t129 k1_h20 k1_h23 k1_h39 r
theorem k1_t130_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t130_loop i v57 v59 k1_t1).OK := fun i v27 v29 v31 v33 v35 v37 v39 v41 v43 v45 v47 v49 v51 v53 v55 v57 v59 k1_hw2 k1_t1 k1_h20 k1_h23 k1_h39 => k1_hw2.2.1.2.2.2.2.2.2.2.2.2.2.2.2.2.2.2.2.2.2.2.2.2.2.1 k1_t1 k1_h20 k1_h23 k1_h39
theorem k1_off1046_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1046 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.1 k1_t1 k1_t130 k1_h20 k1_h23 k1_h39
theorem k1_off1047_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1047 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.1 k1_t1 k1_t130 k1_h20 k1_h23 k1_h39
theorem k1_off1048_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1048 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.2.1 k1_t1 k1_t130 k1_h20 k1_h23 k1_h39
theorem k1_off1049_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1049 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.2.2.1 k1_t1 k1_t130 k1_h20 k1_h23 k1_h39
theorem k1_off1050_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1050 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.2.2.2.1 k1_t1 k1_t130 k1_h20 k1_h23 k1_h39
theorem k1_off1051_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1051 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.2.2.2.2.1 k1_t1 k1_t130 k1_h20 k1_h23 k1_h39
theorem k1_off1052_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1052 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.2.2.2.2.2.1 k1_t1 k1_t130 k1_h20 k1_h23 k1_h39
theorem k1_off1053_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t130 : Fin (k1_t130_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1053 i v57 v59 k1_t1 k1_t130) a + S1x16.size a ≤ S256x128.size a := fun i v27 v29 v31 v33 v35 v37 v39 v41 v43 v45 v47 v49 v51 v53 v55 v57 v59 k1_hw2 k1_t1 k1_t130 k1_h20 k1_h23 k1_h39 => k1_hw2.2.1.2.2.2.2.2.2.2.2.2.2.2.2.2.2.2.2.2.2.2.2.2.2.2.2.2.2.2.2.2.2.1 k1_t1 k1_t130 k1_h20 k1_h23 k1_h39
theorem k1_t131_ok : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), (k1_t131_loop i v57 v59 k1_t1).OK := fun i v27 v29 v31 v33 v35 v37 v39 v41 v43 v45 v47 v49 v51 v53 v55 v57 v59 k1_hw2 k1_t1 k1_h20 k1_h23 k1_h39 => k1_hw2.2.1.2.2.2.2.2.2.2.2.2.2.2.2.2.2.2.2.2.2.2.2.2.2.2.2.2.2.2.2.2.2.2 k1_t1 k1_h20 k1_h23 k1_h39
theorem k1_off1054_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1054 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.1 k1_t1 k1_t131 k1_h20 k1_h23 k1_h39
theorem k1_off1055_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1055 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.1 k1_t1 k1_t131 k1_h20 k1_h23 k1_h39
theorem k1_off1056_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1056 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.2.1 k1_t1 k1_t131 k1_h20 k1_h23 k1_h39
theorem k1_off1057_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1057 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.2.2.1 k1_t1 k1_t131 k1_h20 k1_h23 k1_h39
theorem k1_off1058_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1058 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.2.2.2.1 k1_t1 k1_t131 k1_h20 k1_h23 k1_h39
theorem k1_off1059_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1059 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.2.2.2.2.1 k1_t1 k1_t131 k1_h20 k1_h23 k1_h39
theorem k1_off1060_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1060 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.2.2.2.2.2.1 k1_t1 k1_t131 k1_h20 k1_h23 k1_h39
theorem k1_off1061_inb : ∀ (i : grid1.Coords) (v27 : BitVec 32) (v29 : BitVec 32) (v31 : BitVec 32) (v33 : BitVec 32) (v35 : BitVec 32) (v37 : BitVec 32) (v39 : BitVec 32) (v41 : BitVec 32) (v43 : BitVec 32) (v45 : BitVec 32) (v47 : BitVec 32) (v49 : BitVec 32) (v51 : BitVec 32) (v53 : BitVec 32) (v55 : BitVec 32) (v57 : BitVec 32) (v59 : BitVec 32) (k1_hw2 : k1_chk2 i v27 v29 v31 v33 v35 v37 v39 v41 v43 v45 v47 v49 v51 v53 v55 v57 v59) (k1_t1 : Fin k1_t1_loop.trips) (k1_t131 : Fin (k1_t131_loop i v57 v59 k1_t1).trips), ∀ (k1_h20 : k1_cond20 k1_t1 = 1#1), ∀ (k1_h23 : k1_cond23 i v27 v29 v31 v33 v35 v37 v39 v41 v43 v45 v47 v49 v51 v53 v55 v57 k1_t1 = 1#1), ∀ (k1_h39 : k1_cond39 i v57 v59 k1_t1 = 1#1), ∀ a, (k1_off1061 i v57 v59 k1_t1 k1_t131) a + S1x16.size a ≤ S256x128.size a := fun i v27 v29 v31 v33 v35 v37 v39 v41 v43 v45 v47 v49 v51 v53 v55 v57 v59 k1_hw2 k1_t1 k1_t131 k1_h20 k1_h23 k1_h39 => k1_hw2.2.2.2.2.2.2.2.2.2 k1_t1 k1_t131 k1_h20 k1_h23 k1_h39

def k1_off1062 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_255_r1 : BitVec 32 := 0#32
  let c8_i32_6 : BitVec 32 := 8#32
  let c0_i32_7 : BitVec 32 := 0#32
  let v60 : BitVec 1 := Scalar.cmpi .eq c8_i32_6 c0_i32_7
  let c1_i32_8 : BitVec 32 := 1#32
  let v61 : BitVec 32 := Scalar.select v60 c1_i32_8 c8_i32_6
  let v62 : BitVec 32 := Scalar.remsi v1 v61
  let c0_i32_10 : BitVec 32 := 0#32
  let v64 : BitVec 1 := Scalar.cmpi .slt v62 c0_i32_10
  let c0_i32_11 : BitVec 32 := 0#32
  let v65 : BitVec 1 := Scalar.cmpi .slt v61 c0_i32_11
  let v66 : BitVec 1 := Scalar.xori v64 v65
  let c0_i32_9 : BitVec 32 := 0#32
  let v63 : BitVec 1 := Scalar.cmpi .ne v62 c0_i32_9
  let v67 : BitVec 1 := Scalar.andi v66 v63
  let v68 : BitVec 32 := Scalar.addi v62 v61
  let v69 : BitVec 32 := Scalar.select v67 v68 v62
  let c128_i32 : BitVec 32 := 128#32
  let v70 : BitVec 32 := Scalar.muli v69 c128_i32
  ![v18.toNat, 0, v70.toNat]
abbrev grid2 : Pipeline.Grid := .none

abbrev stage2_0 : Fin 1 → Memref sig .tc .vmem S8x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x16x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x1024 : Shape := ⟨2, ![32768, 1024]⟩
abbrev S32768 : Shape := ⟨1, ![32768]⟩
abbrev S_ : Shape := ⟨0, ![]⟩
abbrev S16x1024 : Shape := ⟨2, ![16, 1024]⟩
abbrev S32768x1 : Shape := ⟨2, ![32768, 1]⟩
abbrev S16 : Shape := ⟨1, ![16]⟩
abbrev S16x1 : Shape := ⟨2, ![16, 1]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S_, .f32⟩
  | .hbm, ⟨3, _⟩ => ⟨S16x1024, .f32⟩
  | .hbm, ⟨4, _⟩ => ⟨S32768x1, .i32⟩
  | .hbm, ⟨5, _⟩ => ⟨S16x1024, .f32⟩
  | .hbm, ⟨6, _⟩ => ⟨S_, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S_, .i32⟩
  | .hbm, ⟨21, _⟩ => ⟨S32768, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .f32⟩
  | .hbm, ⟨27, _⟩ => ⟨S16x1, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S_, .f32⟩
  | .hbm, ⟨32, _⟩ => ⟨S16, .f32⟩
  | .hbm, ⟨33, _⟩ => ⟨S16x1, .f32⟩
  | .hbm, ⟨34, _⟩ => ⟨S16x1, .f32⟩
  | .hbm, ⟨35, _⟩ => ⟨S_, .f32⟩
  | .hbm, ⟨36, _⟩ => ⟨S16x1, .f32⟩
  | .hbm, ⟨37, _⟩ => ⟨S16x1, .f32⟩
  | .hbm, ⟨38, _⟩ => ⟨S16x1024, .f32⟩
  | .hbm, ⟨39, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Words.lean ====
/-
  The words of the segment sum's tile task: where its chunk begins, which rows of the chunk belong to a segment whose
  rows are `a` to `b` of the table, and the four row loops that run over them. Each is the chain of word operations
  the kernel computes, with the chunk's first row and the two bounds as parameters.
-/
module

public import proofs.«01_k».proof.KernelIdeal.P01

@[expose] public section

noncomputable section

namespace Cert.Proof.Seg

open Cert.KernelIdeal
open Idealize.ShloMosaic Idealize.SL.Sem

/-- The tile's first token row: 8192 times its token group, the quotient of the tile's number by eight. -/
def tok0 (i : grid1.Coords) : BitVec 32 :=
  let w := Scalar.addi (Scalar.muli (BitVec.ofNat 32 (i 1).val) 2#32) (BitVec.ofNat 32 (i 0).val)
  let sw := Scalar.subi (Scalar.extui (Scalar.cmpi .sgt w 0#32)) (Scalar.extui (Scalar.cmpi .slt w 0#32))
  let s8 := Scalar.subi (Scalar.extui (Scalar.cmpi .sgt 8#32 0#32)) (Scalar.extui (Scalar.cmpi .slt 8#32 0#32))
  Scalar.muli
    (Scalar.select (Scalar.andi (Scalar.cmpi .ne sw s8) (Scalar.cmpi .ne (Scalar.remsi w 8#32) 0#32))
      (Scalar.subi (Scalar.divsi w 8#32) 1#32) (Scalar.divsi w 8#32)) 8192#32

/-- The first row of the chunk in the first buffer at trip `t` of the outer loop, -/
def base0 (i : grid1.Coords) (t : ℕ) : BitVec 32 :=
  Scalar.addi (tok0 i) (Scalar.muli (Scalar.muli (Scf.iv 0#32 1#32 t) 2#32) 256#32)
/-- and of the chunk in the second. -/
def base1 (i : grid1.Coords) (t : ℕ) : BitVec 32 :=
  Scalar.addi (tok0 i) (Scalar.muli (Scalar.addi (Scalar.muli (Scf.iv 0#32 1#32 t) 2#32) 1#32) 256#32)

/-- Table row `a` as a row of the chunk that begins at `base`, clipped to the chunk. -/
def clip (base a : BitVec 32) : BitVec 32 := Scalar.minsi 256#32 (Scalar.maxsi 0#32 (Scalar.subi a base))
/-- How many rows of the chunk lie between table rows `a` and `b`. -/
def cnt (base a b : BitVec 32) : BitVec 32 := Scalar.subi (clip base b) (clip base a)

/-- The quotient by four rounded down, as the kernel computes it. -/
def fdiv4 (n : BitVec 32) : BitVec 32 :=
  let sn := Scalar.subi (Scalar.extui (Scalar.cmpi .sgt n 0#32)) (Scalar.extui (Scalar.cmpi .slt n 0#32))
  let s4 := Scalar.subi (Scalar.extui (Scalar.cmpi .sgt 4#32 0#32)) (Scalar.extui (Scalar.cmpi .slt 4#32 0#32))
  Scalar.select (Scalar.andi (Scalar.cmpi .ne sn s4) (Scalar.cmpi .ne (Scalar.remsi n 4#32) 0#32))
    (Scalar.subi (Scalar.divsi n 4#32) 1#32) (Scalar.divsi n 4#32)

/-- The rows the loop of four rows a trip covers. -/
def quad (n : BitVec 32) : BitVec 32 := Scalar.muli (fdiv4 n) 4#32
/-- The upper bound of the loop of four rows a trip, -/
def up3 (n : BitVec 32) : BitVec 32 :=
  Scalar.addi 0#32 (Scalar.muli (Scalar.divsi (Scalar.subi (fdiv4 (quad n)) 0#32) 1#32) 1#32)
/-- and of its remainder, which has no trip. -/
def up4 (n : BitVec 32) : BitVec 32 := Scalar.addi 0#32 (Scalar.subi (fdiv4 (quad n)) 0#32)
/-- The first row the loop of one row a trip covers, from the first row and the number of rows, -/
def lo5 (t0 n : BitVec 32) : BitVec 32 := Scalar.addi t0 (quad n)
/-- its upper bound, -/
def up5 (t0 t1 n : BitVec 32) : BitVec 32 :=
  Scalar.addi (lo5 t0 n) (Scalar.muli (Scalar.divsi (Scalar.subi t1 (lo5 t0 n)) 1#32) 1#32)
/-- and that of its remainder, which has no trip. -/
def up6 (t0 t1 n : BitVec 32) : BitVec 32 := Scalar.addi (lo5 t0 n) (Scalar.subi t1 (lo5 t0 n))

@[reducible] def loop3 (base a b : BitVec 32) : Scf.Loop 32 := ⟨0#32, up3 (cnt base a b), 1#32⟩
@[reducible] def loop4 (base a b : BitVec 32) : Scf.Loop 32 := ⟨up3 (cnt base a b), up4 (cnt base a b), 1#32⟩
@[reducible] def loop5 (base a b : BitVec 32) : Scf.Loop 32 :=
  ⟨lo5 (clip base a) (cnt base a b), up5 (clip base a) (clip base b) (cnt base a b), 1#32⟩
@[reducible] def loop6 (base a b : BitVec 32) : Scf.Loop 32 :=
  ⟨up5 (clip base a) (clip base b) (cnt base a b), up6 (clip base a) (clip base b) (cnt base a b), 1#32⟩

/-- The segment has rows in the chunk. -/
def cond (base a b : BitVec 32) : BitVec 1 := Scalar.cmpi .ne (Scalar.extui (Scalar.cmpi .sgt (cnt base a b) 0#32)) 0#32

/-- Row `c` of trip `t` of the two loops of four rows a trip, -/
def row4 (lo t0 : BitVec 32) (t : ℕ) (c : BitVec 32) : BitVec 32 :=
  Scalar.addi (Scalar.addi t0 (Scalar.muli (Scf.iv lo 1#32 t) 4#32)) c
/-- and the place of sixteen features of a row of the chunk. -/
def at_ (r : BitVec 32) (c : ℕ) : Fin 2 → ℕ := ![(Scalar.indexCast r).toNat, c]

/-- How many of the sixteen table rows are at most `x`, less one: the segment `x` lies in. -/
def segOf (x : BitVec 32) (v : ℕ → BitVec 32) : BitVec 32 :=
  let one (n : ℕ) : BitVec 32 := Scalar.select (Scalar.cmpi .sle (v n) x) 1#32 0#32
  Scalar.addi (Scalar.addi (Scalar.addi (Scalar.addi (Scalar.addi (Scalar.addi (Scalar.addi (Scalar.addi (Scalar.addi (Scalar.addi
    (Scalar.addi (Scalar.addi (Scalar.addi (Scalar.addi (Scalar.addi (Scalar.addi 4294967295#32 (one 0)) (one 1)) (one 2)) (one 3))
      (one 4)) (one 5)) (one 6)) (one 7)) (one 8)) (one 9)) (one 10)) (one 11)) (one 12)) (one 13)) (one 14)) (one 15)
/-- The chunk's last row. -/
def lastRow (base : BitVec 32) : BitVec 32 := Scalar.subi (Scalar.addi base 256#32) 1#32
/-- The chunk lies in one segment, -/
def oneSeg (base : BitVec 32) (v : ℕ → BitVec 32) : BitVec 1 :=
  Scalar.cmpi .ne (Scalar.extui (Scalar.cmpi .eq (segOf base v) (segOf (lastRow base) v))) 0#32
/-- or in several. -/
def manySegs (base : BitVec 32) (v : ℕ → BitVec 32) : BitVec 1 :=
  Scalar.cmpi .ne (Scalar.extui (Scalar.cmpi .ne (segOf base v) (segOf (lastRow base) v))) 0#32
/-- Row `c` of trip `t` of the loop of eight rows a trip. -/
def row8 (t : ℕ) (c : BitVec 32) : BitVec 32 := Scalar.addi (Scalar.muli (Scf.iv 0#32 1#32 t) 8#32) c

/-- What a segment's loops need: their bounds are in order, and every row they read is in the chunk. -/
structure SegOK (base a b : BitVec 32) : Prop where
  ok3 : (loop3 base a b).OK
  ok4 : (loop4 base a b).OK
  ok5 : (loop5 base a b).OK
  ok6 : (loop6 base a b).OK
  in3 : ∀ (t : Fin (loop3 base a b).trips) (c : Fin 4), (Scalar.indexCast (row4 0#32 (clip base a) t (BitVec.ofNat 32 c))).toNat < 256
  in4 : ∀ (t : Fin (loop4 base a b).trips) (c : Fin 4), (Scalar.indexCast (row4 (loop4 base a b).lb (clip base a) t (BitVec.ofNat 32 c))).toNat < 256
  in5 : ∀ t : Fin (loop5 base a b).trips, (Scalar.indexCast (Scf.iv (loop5 base a b).lb 1#32 t)).toNat < 256
  in6 : ∀ t : Fin (loop6 base a b).trips, (Scalar.indexCast (Scf.iv (loop6 base a b).lb 1#32 t)).toNat < 256

theorem at_inb (r : BitVec 32) (c : ℕ) (hr : (Scalar.indexCast r).toNat < 256) (hc : c + 16 ≤ 128) :
    ∀ a, at_ r c a + S1x16.size a ≤ S256x128.size a := by
  intro a
  fin_cases a
  · show (Scalar.indexCast r).toNat + 1 ≤ 256
    omega
  · exact hc

theorem row8_lt (t : Fin 32) (c : Fin 8) : (Scalar.indexCast (row8 t (BitVec.ofNat 32 c))).toNat < 256 := by
  revert t c
  decide +kernel

end Cert.Proof.Seg
-- ==== Proof.Pieces.lean ====
/-
  The pieces of the segment sum's tile task, each stated once with its buffers and words as parameters: the sum of a
  row of the chunk into eight vectors of sixteen features, the loops over a segment's rows, and the addition of the
  eight sums to a row of the stage. The kernel's own text is these pieces, by unfolding (`PiecesEq`).
-/
module

public import proofs.«01_k».proof.KernelIdeal.P04
public import proofs.«01_k».proof.Proof.Words

@[expose] public section

noncomputable section

namespace Cert.Proof.Seg

open Cert.KernelIdeal
open Idealize.ShloMosaic Idealize.SL.Sem

variable {F : FTy → Type} [FloatOps F] [Facts]
open Facts₀ Facts

/-- A program of the tile task at `i`. -/
abbrev Pg (F : FTy → Type) (i : grid1.Coords) (α : Type) : Type 1 :=
  Prog (TpuEff nD τ sig (Elt F) Λ₀ (.scVector ((i 0).castLE hcore1) ((i 1).castLE hsub1))) α

/-- Eight vectors of sixteen features. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- Sixteen features of a row of the chunk, added to a vector. -/
def ldAdd (i : grid1.Coords) (buf : Memref sig .scVector .vmem S256x128 .f32) (o : Fin 2 → ℕ)
    (h : ∀ a, o a + S1x16.size a ≤ S256x128.size a) (x : FVec F S16 .f32) : Pg F i (FVec F S16 .f32) := do
  let v : Vec F S1x16 .f32 ← Prog.lift (.load buf (Rect.unit (s := S256x128) o S1x16.size h).toLoadRect (View.loadsAt_vmem h_S1x16))
  pure (addf x (shapeCast S16 v shapeCasts_S1x16_S16))

/-- A row of the chunk, added to the eight vectors. -/
def rowAdd (i : grid1.Coords) (buf : Memref sig .scVector .vmem S256x128 .f32) (r : BitVec 32)
    (hr : (Scalar.indexCast r).toNat < 256) (x : Acc F) : Pg F i (Acc F) := do
  let y0 ← ldAdd i buf (at_ r 0) (at_inb r 0 hr (by decide)) x.1
  let y1 ← ldAdd i buf (at_ r 16) (at_inb r 16 hr (by decide)) x.2.1
  let y2 ← ldAdd i buf (at_ r 32) (at_inb r 32 hr (by decide)) x.2.2.1
  let y3 ← ldAdd i buf (at_ r 48) (at_inb r 48 hr (by decide)) x.2.2.2.1
  let y4 ← ldAdd i buf (at_ r 64) (at_inb r 64 hr (by decide)) x.2.2.2.2.1
  let y5 ← ldAdd i buf (at_ r 80) (at_inb r 80 hr (by decide)) x.2.2.2.2.2.1
  let y6 ← ldAdd i buf (at_ r 96) (at_inb r 96 hr (by decide)) x.2.2.2.2.2.2.1
  let y7 ← ldAdd i buf (at_ r 112) (at_inb r 112 hr (by decide)) x.2.2.2.2.2.2.2
  pure (y0, y1, y2, y3, y4, y5, y6, y7)

/-- Four rows, one after another. -/
def rows4 (i : grid1.Coords) (buf : Memref sig .scVector .vmem S256x128 .f32) (lo t0 : BitVec 32) (t : ℕ)
    (h : ∀ c : Fin 4, (Scalar.indexCast (row4 lo t0 t (BitVec.ofNat 32 c))).toNat < 256) (x : Acc F) : Pg F i (Acc F) := do
  let x ← rowAdd i buf (row4 lo t0 t 0#32) (h 0) x
  let x ← rowAdd i buf (row4 lo t0 t 1#32) (h 1) x
  let x ← rowAdd i buf (row4 lo t0 t 2#32) (h 2) x
  let x ← rowAdd i buf (row4 lo t0 t 3#32) (h 3) x
  pure x

/-- A vector added to sixteen features of a row of the stage: the stage is read, read again, and written. -/
def stAdd (i : grid1.Coords) (st : Memref sig .scVector .vmem S16x128 .f32) (o : Fin 2 → ℕ)
    (h : ∀ a, o a + S1x16.size a ≤ S16x128.size a) (x : FVec F S16 .f32) : Pg F i PUnit := do
  let v : Vec F S1x16 .f32 ← Prog.lift (.load st (Rect.unit (s := S16x128) o S1x16.size h).toLoadRect (View.loadsAt_vmem h_S1x16))
  let _w : Vec F S1x16 .f32 ← Prog.lift (.load st (Rect.unit (s := S16x128) o S1x16.size h).toLoadRect (View.loadsAt_vmem h_S1x16))
  Prog.lift (.store st (Rect.unit (s := S16x128) o S1x16.size h) (shapeCast S1x16 (addf (shapeCast S16 v shapeCasts_S1x16_S16) x) shapeCasts_S16_S1x16) Finset.univ (View.stores_vmem_bits_univ h_S1x16 rfl) (.inl rfl))

/-- The kernel's two halves of a segment, with the values each hands on. -/
abbrev HalfA (F : FTy → Type) : Type :=
  Σ' (_ : BitVec 32) (_ : BitVec 32) (_ : FVec F S16 .f32) (_ : FVec F S16 .f32) (_ : FVec F S16 .f32) (_ : FVec F S16 .f32)
    (_ : FVec F S16 .f32) (_ : FVec F S16 .f32) (_ : FVec F S16 .f32) (_ : FVec F S16 .f32), BitVec 32
abbrev HalfB (F : FTy → Type) : Type :=
  Σ' (_ : FVec F S16 .f32) (_ : FVec F S16 .f32) (_ : FVec F S16 .f32) (_ : FVec F S16 .f32), FVec F S16 .f32

/-- The loop of four rows a trip; `n`, the number of rows, is only handed on. -/
def segA (i : grid1.Coords) (buf : Memref sig .scVector .vmem S256x128 .f32) (z : FVec F S16 .f32) (base a b : BitVec 32)
    (H : SegOK base a b) (n : BitVec 32) : Pg F i (HalfA F) := do
  let (x0, x1, x2, x3, x4, x5, x6, x7) ← Scf.Loop.for (loop3 base a b) H.ok3 (z, z, z, z, z, z, z, z) fun t x =>
    rows4 i buf 0#32 (clip base a) t (H.in3 t) x
  pure ⟨quad n, up3 n, x0, x1, x2, x3, x4, x5, x6, x7, 1#32⟩

theorem st_inb (s c : ℕ) (hs : s < 16) (hc : c + 16 ≤ 128) : ∀ a, (![s, c] : Fin 2 → ℕ) a + S1x16.size a ≤ S16x128.size a := by
  intro a
  fin_cases a
  · show s + 1 ≤ 16
    omega
  · exact hc

/-- The loops of the rows that are left, and the first half of the additions to row `s` of the stage. -/
def segB (i : grid1.Coords) (buf : Memref sig .scVector .vmem S256x128 .f32) (st : Memref sig .scVector .vmem S16x128 .f32)
    (base a b : BitVec 32) (H : SegOK base a b) (s : ℕ) (hs : s < 16) (x : Acc F) : Pg F i (HalfB F) := do
  let (x0, x1, x2, x3, x4, x5, x6, x7) ← Scf.Loop.for (loop4 base a b) H.ok4 x fun t x =>
    rows4 i buf (loop4 base a b).lb (clip base a) t (H.in4 t) x
  let (x0, x1, x2, x3, x4, x5, x6, x7) ← Scf.Loop.for (loop5 base a b) H.ok5 (x0, x1, x2, x3, x4, x5, x6, x7) fun t x =>
    rowAdd i buf (Scf.iv (loop5 base a b).lb 1#32 t) (H.in5 t) x
  let (x0, x1, x2, x3, x4, x5, x6, x7) ← Scf.Loop.for (loop6 base a b) H.ok6 (x0, x1, x2, x3, x4, x5, x6, x7) fun t x =>
    rowAdd i buf (Scf.iv (loop6 base a b).lb 1#32 t) (H.in6 t) x
  stAdd i st ![s, 0] (st_inb s 0 hs (by decide)) x0
  stAdd i st ![s, 16] (st_inb s 16 hs (by decide)) x1
  stAdd i st ![s, 32] (st_inb s 32 hs (by decide)) x2
  let v : Vec F S1x16 .f32 ← Prog.lift (.load st (Rect.unit (s := S16x128) ![s, 48] S1x16.size (st_inb s 48 hs (by decide))).toLoadRect (View.loadsAt_vmem h_S1x16))
  pure ⟨x4, x5, x6, x7, addf (shapeCast S16 v shapeCasts_S1x16_S16) x3⟩

/-- A segment's rows of the chunk, summed and added to row `s` of the stage if there are any, and then `k`. -/
def segK {β : Type} (i : grid1.Coords) (buf : Memref sig .scVector .vmem S256x128 .f32) (st : Memref sig .scVector .vmem S16x128 .f32)
    (z : FVec F S16 .f32) (base a b : BitVec 32) (H : cond base a b = 1#1 → SegOK base a b) (n : BitVec 32) (s : ℕ)
    (hs : s < 16) (k : Pg F i β) : Pg F i β :=
  if h : cond base a b = 1#1 then do
    let ⟨_, _, x0, x1, x2, x3, x4, x5, x6, x7, _⟩ ← segA i buf z base a b (H h) n
    let ⟨x4, x5, x6, x7, y⟩ ← segB i buf st base a b (H h) s hs (x0, x1, x2, x3, x4, x5, x6, x7)
    let _w : Vec F S1x16 .f32 ← Prog.lift (.load st (Rect.unit (s := S16x128) ![s, 48] S1x16.size (st_inb s 48 hs (by decide))).toLoadRect (View.loadsAt_vmem h_S1x16))
    Prog.lift (.store st (Rect.unit (s := S16x128) ![s, 48] S1x16.size (st_inb s 48 hs (by decide))) (shapeCast S1x16 y shapeCasts_S16_S1x16) Finset.univ (View.stores_vmem_bits_univ h_S1x16 rfl) (.inl rfl))
    stAdd i st ![s, 64] (st_inb s 64 hs (by decide)) x4
    stAdd i st ![s, 80] (st_inb s 80 hs (by decide)) x5
    stAdd i st ![s, 96] (st_inb s 96 hs (by decide)) x6
    stAdd i st ![s, 112] (st_inb s 112 hs (by decide)) x7
    k
  else k

/-- Eight rows, one after another. -/
def rows8 (i : grid1.Coords) (buf : Memref sig .scVector .vmem S256x128 .f32) (t : Fin 32) (x : Acc F) : Pg F i (Acc F) := do
  let x ← rowAdd i buf (row8 t 0#32) (row8_lt t 0) x
  let x ← rowAdd i buf (row8 t 1#32) (row8_lt t 1) x
  let x ← rowAdd i buf (row8 t 2#32) (row8_lt t 2) x
  let x ← rowAdd i buf (row8 t 3#32) (row8_lt t 3) x
  let x ← rowAdd i buf (row8 t 4#32) (row8_lt t 4) x
  let x ← rowAdd i buf (row8 t 5#32) (row8_lt t 5) x
  let x ← rowAdd i buf (row8 t 6#32) (row8_lt t 6) x
  let x ← rowAdd i buf (row8 t 7#32) (row8_lt t 7) x
  pure x

/-- The values the chunk's sum in one segment hands on. -/
abbrev HalfU (F : FTy → Type) : Type := Σ' (_ : FVec F S16 .f32) (_ : FVec F S16 .f32) (_ : FVec F S16 .f32), FVec F S1x16 .f32

/-- A chunk that lies in segment `s`: its rows' sum, and the first five of the eight vectors added to row `s` of the
stage. -/
def uniA (i : grid1.Coords) (buf : Memref sig .scVector .vmem S256x128 .f32) (st : Memref sig .scVector .vmem S16x128 .f32)
    (z : FVec F S16 .f32) (s : ℕ) (hs : s < 16) : Pg F i (HalfU F) := do
  let (x0, x1, x2, x3, x4, x5, x6, x7) ← Scf.Loop.for k1_t2_loop k1_t2_ok (z, z, z, z, z, z, z, z) fun t x => rows8 i buf t x
  stAdd i st ![s, 0] (st_inb s 0 hs (by decide)) x0
  stAdd i st ![s, 16] (st_inb s 16 hs (by decide)) x1
  stAdd i st ![s, 32] (st_inb s 32 hs (by decide)) x2
  stAdd i st ![s, 48] (st_inb s 48 hs (by decide)) x3
  let v : Vec F S1x16 .f32 ← Prog.lift (.load st (Rect.unit (s := S16x128) ![s, 64] S1x16.size (st_inb s 64 hs (by decide))).toLoadRect (View.loadsAt_vmem h_S1x16))
  let _w : Vec F S1x16 .f32 ← Prog.lift (.load st (Rect.unit (s := S16x128) ![s, 64] S1x16.size (st_inb s 64 hs (by decide))).toLoadRect (View.loadsAt_vmem h_S1x16))
  pure ⟨x5, x6, x7, shapeCast S1x16 (addf (shapeCast S16 v shapeCasts_S1x16_S16) x4) shapeCasts_S16_S1x16⟩

/-- The chunk added to its segment's row of the stage if it lies in one, and then `k`. -/
def uniK {β : Type} (i : grid1.Coords) (buf : Memref sig .scVector .vmem S256x128 .f32) (st : Memref sig .scVector .vmem S16x128 .f32)
    (z : FVec F S16 .f32) (base : BitVec 32) (v : ℕ → BitVec 32)
    (H : oneSeg base v = 1#1 → (Scalar.indexCast (segOf base v)).toNat < 16) (k : Pg F i β) : Pg F i β :=
  if h : oneSeg base v = 1#1 then do
    let ⟨x5, x6, x7, y⟩ ← uniA i buf st z _ (H h)
    Prog.lift (.store st (Rect.unit (s := S16x128) ![_, 64] S1x16.size (st_inb _ 64 (H h) (by decide))) y Finset.univ (View.stores_vmem_bits_univ h_S1x16 rfl) (.inl rfl))
    stAdd i st ![_, 80] (st_inb _ 80 (H h) (by decide)) x5
    stAdd i st ![_, 96] (st_inb _ 96 (H h) (by decide)) x6
    stAdd i st ![_, 112] (st_inb _ 112 (H h) (by decide)) x7
    k
  else k

/-- Segments 0 to 2 of a chunk; what is handed on is computed from `b`. -/
def grpA (i : grid1.Coords) (buf : Memref sig .scVector .vmem S256x128 .f32) (st : Memref sig .scVector .vmem S16x128 .f32)
    (z : FVec F S16 .f32) (base : BitVec 32) (v : ℕ → BitVec 32)
    (H : ∀ s, s < 16 → cond base (v s) (v (s + 1)) = 1#1 → SegOK base (v s) (v (s + 1)))
    (b : BitVec 32) : Pg F i (Σ' (_ : BitVec 32) (_ : BitVec 32), BitVec 32) :=
  segK i buf st z base (v 0) (v 1) (H 0 (by decide)) (cnt b (v 0) (v 1)) 0 (by decide)
    (segK i buf st z base (v 1) (v 2) (H 1 (by decide)) (cnt b (v 1) (v 2)) 1 (by decide)
    (segK i buf st z base (v 2) (v 3) (H 2 (by decide)) (cnt b (v 2) (v 3)) 2 (by decide)
    (pure ⟨clip b (v 3), 256#32, Scalar.maxsi 0#32 (Scalar.subi (v 4) b)⟩)))

/-- Segments 3 to 6, -/
def grpB (i : grid1.Coords) (buf : Memref sig .scVector .vmem S256x128 .f32) (st : Memref sig .scVector .vmem S16x128 .f32)
    (z : FVec F S16 .f32) (base : BitVec 32) (v : ℕ → BitVec 32)
    (H : ∀ s, s < 16 → cond base (v s) (v (s + 1)) = 1#1 → SegOK base (v s) (v (s + 1)))
    (b w0 w1 w2 : BitVec 32) : Pg F i (BitVec 32) :=
  segK i buf st z base (v 3) (v 4) (H 3 (by decide)) (Scalar.subi (Scalar.minsi w1 w2) w0) 3 (by decide)
    (segK i buf st z base (v 4) (v 5) (H 4 (by decide)) (cnt b (v 4) (v 5)) 4 (by decide)
    (segK i buf st z base (v 5) (v 6) (H 5 (by decide)) (cnt b (v 5) (v 6)) 5 (by decide)
    (segK i buf st z base (v 6) (v 7) (H 6 (by decide)) (cnt b (v 6) (v 7)) 6 (by decide)
    (pure (Scalar.subi (v 7) b)))))

/-- 7 to 9, -/
def grpC (i : grid1.Coords) (buf : Memref sig .scVector .vmem S256x128 .f32) (st : Memref sig .scVector .vmem S16x128 .f32)
    (z : FVec F S16 .f32) (base : BitVec 32) (v : ℕ → BitVec 32)
    (H : ∀ s, s < 16 → cond base (v s) (v (s + 1)) = 1#1 → SegOK base (v s) (v (s + 1)))
    (b w0 : BitVec 32) : Pg F i (Σ' (_ : BitVec 32), BitVec 32) :=
  segK i buf st z base (v 7) (v 8) (H 7 (by decide)) (Scalar.subi (clip b (v 8)) (Scalar.minsi 256#32 (Scalar.maxsi 0#32 w0))) 7 (by decide)
    (segK i buf st z base (v 8) (v 9) (H 8 (by decide)) (cnt b (v 8) (v 9)) 8 (by decide)
    (segK i buf st z base (v 9) (v 10) (H 9 (by decide)) (cnt b (v 9) (v 10)) 9 (by decide)
    (pure ⟨clip b (v 10), clip b (v 11)⟩)))

/-- and 10 to 13. -/
def grpD (i : grid1.Coords) (buf : Memref sig .scVector .vmem S256x128 .f32) (st : Memref sig .scVector .vmem S16x128 .f32)
    (z : FVec F S16 .f32) (base : BitVec 32) (v : ℕ → BitVec 32)
    (H : ∀ s, s < 16 → cond base (v s) (v (s + 1)) = 1#1 → SegOK base (v s) (v (s + 1)))
    (b w0 w1 : BitVec 32) : Pg F i (Σ' (_ : BitVec 32), BitVec 32) :=
  segK i buf st z base (v 10) (v 11) (H 10 (by decide)) (Scalar.subi w1 w0) 10 (by decide)
    (segK i buf st z base (v 11) (v 12) (H 11 (by decide)) (cnt b (v 11) (v 12)) 11 (by decide)
    (segK i buf st z base (v 12) (v 13) (H 12 (by decide)) (cnt b (v 12) (v 13)) 12 (by decide)
    (segK i buf st z base (v 13) (v 14) (H 13 (by decide)) (cnt b (v 13) (v 14)) 13 (by decide)
    (pure ⟨Scalar.subi (v 14) b, 0#32⟩))))

/-- The chunk's segments, one after another, if it lies in several, and then `k`. -/
def mixK {β : Type} (i : grid1.Coords) (buf : Memref sig .scVector .vmem S256x128 .f32) (st : Memref sig .scVector .vmem S16x128 .f32)
    (z : FVec F S16 .f32) (base : BitVec 32) (v : ℕ → BitVec 32)
    (H : ∀ s, s < 16 → cond base (v s) (v (s + 1)) = 1#1 → SegOK base (v s) (v (s + 1)))
    (b : BitVec 32) (k : Pg F i β) : Pg F i β :=
  if manySegs base v = 1#1 then do
    let ⟨w0, w1, w2⟩ ← grpA i buf st z base v H b
    let w0 ← grpB i buf st z base v H b w0 w1 w2
    let ⟨w0, w1⟩ ← grpC i buf st z base v H b w0
    let ⟨w0, w1⟩ ← grpD i buf st z base v H b w0 w1
    segK i buf st z base (v 14) (v 15) (H 14 (by decide)) (Scalar.subi (clip b (v 15)) (Scalar.minsi 256#32 (Scalar.maxsi w1 w0))) 14 (by decide)
      (segK i buf st z base (v 15) (v 16) (H 15 (by decide)) (cnt b (v 15) (v 16)) 15 (by decide) k)
  else k

/-- The chunk in `buf` has arrived; the next one is asked for, into `nxt`, if there is one; and then `r`. -/
def fetchK {β : Type} (i : grid1.Coords) (x : Memref sig .scVector .hbm S32768x1024 .f32)
    (buf : Memref sig .scVector .vmem S256x128 .f32) (hbuf : buf.IsWhole) (nxt : Memref sig .scVector .vmem S256x128 .f32)
    (hnxt : nxt.IsWhole) (sem : DmaSems sig S_) (o' : Fin 2 → ℕ) (ho' : ∀ a, o' a + S256x128.size a ≤ S32768x1024.size a)
    (c : BitVec 1) (o : Fin 2 → ℕ) (ho : c = 1#1 → ∀ a, o a + S256x128.size a ≤ S32768x1024.size a) (r : β) : Pg F i β := do
  Prog.lift (.waitDma2 sem.sem (x.slice (Rect.unit (s := S32768x1024) o' S256x128.size ho') (fun _ => rfl)) buf (View.wordExact_bits rfl) hbuf.wordExact)
  if h : c = 1#1 then
    Prog.lift (.enqueueDma (x.slice (Rect.unit (s := S32768x1024) o S256x128.size (ho h)) (fun _ => rfl)) (.here nxt) (.dma sem.sem) (View.wordExact_bits rfl) hnxt.wordExact ⟨Or.inl rfl, trivial⟩)
  pure r

end Cert.Proof.Seg
-- ==== Proof.PiecesEq.lean ====
/-
  The kernel's text of the tile task, its first buffer: a chunk's segments, four groups of them, and the chunk in one segment.
-/
module

public import proofs.«01_k».proof.KernelIdeal.P06
public import proofs.«01_k».proof.Proof.Pieces

@[expose] public section

noncomputable section

namespace Cert.Proof.Seg

open Cert.KernelIdeal
open Idealize.ShloMosaic Idealize.SL.Sem

variable {F : FTy → Type} [FloatOps F] [Facts]
open Facts₀ Facts

variable (i : grid1.Coords) (arg2 : Memref sig .scVector .hbm S32768x1024 .f32) (harg2 : arg2.IsWhole)
  (arg3 : Memref sig .scVector .hbm S8x128 .i32) (harg3 : arg3.IsWhole) (arg4 : Memref sig .scVector .hbm S4x16x1024 .f32)
  (harg4 : arg4.IsWhole) (arg5 : Memref sig .scVector .vmem S8x128 .i32) (harg5 : arg5.IsWhole)
  (arg6 : Memref sig .scVector .vmem S256x128 .f32) (harg6 : arg6.IsWhole) (arg7 : Memref sig .scVector .vmem S256x128 .f32)
  (harg7 : arg7.IsWhole) (arg8 : Memref sig .scVector .vmem S16x128 .f32) (harg8 : arg8.IsWhole)
  (arg9 : DmaSems sig S_) (v588_r0 : DmaSems sig S_) (v588_r1 : DmaSems sig S_) (v : ℕ → BitVec 32)
  (hw1 : k1_chk1 i (v 0) (v 1) (v 2) (v 3) (v 4) (v 5) (v 6) (v 7) (v 8) (v 9) (v 10) (v 11) (v 12) (v 13) (v 14) (v 15))
  (z : FVec F S16 .f32) (t : Fin k1_t1_loop.trips)

theorem part137_eq
    (h3 : k1_cond3 i (v 0) (v 1) (v 2) (v 3) (v 4) (v 5) (v 6) (v 7) (v 8) (v 9) (v 10) (v 11) (v 12) (v 13) (v 14)
      (v 15) t = 1#1) (b : BitVec 32) (H : ∀ s, s < 16 → cond (base0 i t) (v s) (v (s + 1)) = 1#1 → SegOK (base0 i
      t) (v s) (v (s + 1))) :
    k1_part137 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      b h3
    = grpA i arg6 arg8 z (base0 i t) v H b  := rfl

theorem part138_eq
    (h3 : k1_cond3 i (v 0) (v 1) (v 2) (v 3) (v 4) (v 5) (v 6) (v 7) (v 8) (v 9) (v 10) (v 11) (v 12) (v 13) (v 14)
      (v 15) t = 1#1) (b : BitVec 32) (w0 w1 w2 : BitVec 32) (H : ∀ s, s < 16 → cond (base0 i t) (v s) (v (s + 1))
      = 1#1 → SegOK (base0 i t) (v s) (v (s + 1))) :
    k1_part138 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      b h3 w0 w1 w2
    = grpB i arg6 arg8 z (base0 i t) v H b w0 w1 w2 := rfl

theorem part139_eq
    (h3 : k1_cond3 i (v 0) (v 1) (v 2) (v 3) (v 4) (v 5) (v 6) (v 7) (v 8) (v 9) (v 10) (v 11) (v 12) (v 13) (v 14)
      (v 15) t = 1#1) (b : BitVec 32) (w0 : BitVec 32) (H : ∀ s, s < 16 → cond (base0 i t) (v s) (v (s + 1)) = 1#1
      → SegOK (base0 i t) (v s) (v (s + 1))) :
    k1_part139 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      b h3 w0
    = grpC i arg6 arg8 z (base0 i t) v H b w0 := rfl

theorem part140_eq
    (h3 : k1_cond3 i (v 0) (v 1) (v 2) (v 3) (v 4) (v 5) (v 6) (v 7) (v 8) (v 9) (v 10) (v 11) (v 12) (v 13) (v 14)
      (v 15) t = 1#1) (b : BitVec 32) (w0 w1 : BitVec 32) (H : ∀ s, s < 16 → cond (base0 i t) (v s) (v (s + 1)) =
      1#1 → SegOK (base0 i t) (v s) (v (s + 1))) :
    k1_part140 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      b h3 w0 w1
    = grpD i arg6 arg8 z (base0 i t) v H b w0 w1 := rfl

theorem part8_eq
    (h2 : k1_cond2 i (v 0) (v 1) (v 2) (v 3) (v 4) (v 5) (v 6) (v 7) (v 8) (v 9) (v 10) (v 11) (v 12) (v 13) (v 14)
      (v 15) t = 1#1) (w0 : BitVec 32) (H : (Scalar.indexCast (segOf (base0 i t) v)).toNat < 16) :
    k1_part8 i arg2 harg2 arg3 harg3 arg4 harg4 arg5 harg5 arg6 harg6 arg7 harg7 arg8 harg8 arg9 v588_r0 v588_r1 (v
      0) (v 1) (v 2) (v 3) (v 4) (v 5) (v 6) (v 7) (v 8) (v 9) (v 10) (v 11) (v 12) (v 13) (v 14) (v 15) hw1 z t w0
      h2
    = uniA i arg6 arg8 z _ H := rfl

end Cert.Proof.Seg
-- ==== Proof.PiecesEq2.lean ====
/-
  The kernel's text of the tile task, its second buffer: a chunk's segments, and the chunk in one segment.
-/
module

public import proofs.«01_k».proof.KernelIdeal
public import proofs.«01_k».proof.Proof.Pieces

@[expose] public section

noncomputable section

namespace Cert.Proof.Seg

open Cert.KernelIdeal
open Idealize.ShloMosaic Idealize.SL.Sem

variable {F : FTy → Type} [FloatOps F] [Facts]
open Facts₀ Facts

variable (i : grid1.Coords) (arg2 : Memref sig .scVector .hbm S32768x1024 .f32) (harg2 : arg2.IsWhole)
  (arg3 : Memref sig .scVector .hbm S8x128 .i32) (harg3 : arg3.IsWhole) (arg4 : Memref sig .scVector .hbm S4x16x1024 .f32)
  (harg4 : arg4.IsWhole) (arg5 : Memref sig .scVector .vmem S8x128 .i32) (harg5 : arg5.IsWhole)
  (arg6 : Memref sig .scVector .vmem S256x128 .f32) (harg6 : arg6.IsWhole) (arg7 : Memref sig .scVector .vmem S256x128 .f32)
  (harg7 : arg7.IsWhole) (arg8 : Memref sig .scVector .vmem S16x128 .f32) (harg8 : arg8.IsWhole)
  (arg9 : DmaSems sig S_) (v588_r0 : DmaSems sig S_) (v588_r1 : DmaSems sig S_) (v : ℕ → BitVec 32)
  (hw1 : k1_chk1 i (v 0) (v 1) (v 2) (v 3) (v 4) (v 5) (v 6) (v 7) (v 8) (v 9) (v 10) (v 11) (v 12) (v 13) (v 14) (v 15))
  (z : FVec F S16 .f32) (t : Fin k1_t1_loop.trips)

theorem part277_eq
    (h20 : k1_cond20 t = 1#1) (h23 : k1_cond23 i (v 0) (v 1) (v 2) (v 3) (v 4) (v 5) (v 6) (v 7) (v 8) (v 9) (v 10)
      (v 11) (v 12) (v 13) (v 14) (v 15) t = 1#1) (b : BitVec 32) (H : ∀ s, s < 16 → cond (base1 i t) (v s) (v (s +
      1)) = 1#1 → SegOK (base1 i t) (v s) (v (s + 1))) :
    k1_part277 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      h20 b h23
    = grpA i arg7 arg8 z (base1 i t) v H b  := rfl

theorem part278_eq
    (h20 : k1_cond20 t = 1#1) (h23 : k1_cond23 i (v 0) (v 1) (v 2) (v 3) (v 4) (v 5) (v 6) (v 7) (v 8) (v 9) (v 10)
      (v 11) (v 12) (v 13) (v 14) (v 15) t = 1#1) (b : BitVec 32) (w0 w1 w2 : BitVec 32) (H : ∀ s, s < 16 → cond
      (base1 i t) (v s) (v (s + 1)) = 1#1 → SegOK (base1 i t) (v s) (v (s + 1))) :
    k1_part278 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      h20 b h23 w0 w1 w2
    = grpB i arg7 arg8 z (base1 i t) v H b w0 w1 w2 := rfl

theorem part279_eq
    (h20 : k1_cond20 t = 1#1) (h23 : k1_cond23 i (v 0) (v 1) (v 2) (v 3) (v 4) (v 5) (v 6) (v 7) (v 8) (v 9) (v 10)
      (v 11) (v 12) (v 13) (v 14) (v 15) t = 1#1) (b : BitVec 32) (w0 : BitVec 32) (H : ∀ s, s < 16 → cond (base1 i
      t) (v s) (v (s + 1)) = 1#1 → SegOK (base1 i t) (v s) (v (s + 1))) :
    k1_part279 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      h20 b h23 w0
    = grpC i arg7 arg8 z (base1 i t) v H b w0 := rfl

theorem part280_eq
    (h20 : k1_cond20 t = 1#1) (h23 : k1_cond23 i (v 0) (v 1) (v 2) (v 3) (v 4) (v 5) (v 6) (v 7) (v 8) (v 9) (v 10)
      (v 11) (v 12) (v 13) (v 14) (v 15) t = 1#1) (b : BitVec 32) (w0 w1 : BitVec 32) (H : ∀ s, s < 16 → cond
      (base1 i t) (v s) (v (s + 1)) = 1#1 → SegOK (base1 i t) (v s) (v (s + 1))) :
    k1_part280 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      h20 b h23 w0 w1
    = grpD i arg7 arg8 z (base1 i t) v H b w0 w1 := rfl

theorem part148_eq
    (h20 : k1_cond20 t = 1#1) (h22 : k1_cond22 i (v 0) (v 1) (v 2) (v 3) (v 4) (v 5) (v 6) (v 7) (v 8) (v 9) (v 10)
      (v 11) (v 12) (v 13) (v 14) (v 15) t = 1#1) (w0 : BitVec 32) (H : (Scalar.indexCast (segOf (base1 i t)
      v)).toNat < 16) :
    k1_part148 i arg2 harg2 arg3 harg3 arg4 harg4 arg5 harg5 arg6 harg6 arg7 harg7 arg8 harg8 arg9 v588_r0 v588_r1
      (v 0) (v 1) (v 2) (v 3) (v 4) (v 5) (v 6) (v 7) (v 8) (v 9) (v 10) (v 11) (v 12) (v 13) (v 14) (v 15) hw1 z t
      h20 w0 h22
    = uniA i arg7 arg8 z _ H := rfl

end Cert.Proof.Seg
-- ==== Proof.Trip.lean ====
/-
  A trip of the tile task's outer loop: the chunk in the first buffer, while the next one arrives in the second, and then
  the chunk in the second. The last printed part of the task is the end of the stage's zeroes, the first chunk's fetch,
  sixteen such trips, and the copy of the stage out.
-/
module

public import proofs.«01_k».proof.KernelIdeal
public import proofs.«01_k».proof.Proof.PiecesEq
public import proofs.«01_k».proof.Proof.PiecesEq2

@[expose] public section

noncomputable section

namespace Cert.Proof.Seg

open Cert.KernelIdeal
open Idealize.ShloMosaic Idealize.SL.Sem

variable {F : FTy → Type} [FloatOps F] [Facts]
open Facts₀ Facts

/-- What the first chunk's fetch hands on. -/
abbrev Got0 : Type := Σ' (_ : BitVec 32) (_ : BitVec 32) (_ : BitVec 32) (_ : BitVec 32) (_ : BitVec 1), BitVec 32
/-- What the second chunk's fetch hands on. -/
abbrev Got1 : Type := Σ' (_ : BitVec 32) (_ : BitVec 32) (_ : BitVec 32) (_ : BitVec 1) (_ : BitVec 32), BitVec 32

/-- Whether segment `n` begins at or before row `x`, as a word. -/
def begun (x : BitVec 32) (v : ℕ → BitVec 32) (n : ℕ) : BitVec 32 := Scalar.select (Scalar.cmpi .sle (v n) x) 1#32 0#32

def got0 (i : grid1.Coords) (v : ℕ → BitVec 32) (t : ℕ) : Got0 :=
  ⟨Scalar.muli (Scf.iv 0#32 1#32 t) 2#32, base0 i t,
    Scalar.addi (Scalar.addi 4294967295#32 (begun (lastRow (base0 i t)) v 0)) (begun (lastRow (base0 i t)) v 1),
    Scalar.addi (Scalar.addi (Scalar.addi 4294967295#32 (begun (base0 i t) v 0)) (begun (base0 i t) v 1)) (begun (base0 i t) v 2),
    Scalar.cmpi .sle (v 2) (lastRow (base0 i t)), 1#32⟩

def got1 (i : grid1.Coords) (v : ℕ → BitVec 32) (x : BitVec 32) : Got1 :=
  let b := Scalar.addi (tok0 i) (Scalar.muli (Scalar.addi x 1#32) 256#32)
  ⟨b, Scalar.addi (Scalar.addi 4294967295#32 (begun (lastRow b) v 0)) (begun (lastRow b) v 1),
    Scalar.addi (Scalar.addi (Scalar.addi 4294967295#32 (begun b v 0)) (begun b v 1)) (begun b v 2),
    Scalar.cmpi .sle (v 2) (lastRow b), 1#32, 0#32⟩

/-- What a trip needs of its two chunks: loops that read rows of the chunk, and a segment's number below sixteen. -/
structure TripOK (i : grid1.Coords) (v : ℕ → BitVec 32) (t : Fin k1_t1_loop.trips) : Prop where
  H0 : ∀ s, s < 16 → cond (base0 i t) (v s) (v (s + 1)) = 1#1 → SegOK (base0 i t) (v s) (v (s + 1))
  H1 : ∀ s, s < 16 → cond (base1 i t) (v s) (v (s + 1)) = 1#1 → SegOK (base1 i t) (v s) (v (s + 1))
  U0 : oneSeg (base0 i t) v = 1#1 → (Scalar.indexCast (segOf (base0 i t) v)).toNat < 16
  U1 : oneSeg (base1 i t) v = 1#1 → (Scalar.indexCast (segOf (base1 i t) v)).toNat < 16

/-- A trip: the chunk in `b0`, then the one in `b1`. -/
def trip (i : grid1.Coords) (x : Memref sig .scVector .hbm S32768x1024 .f32) (b0 : Memref sig .scVector .vmem S256x128 .f32)
    (hb0 : b0.IsWhole) (b1 : Memref sig .scVector .vmem S256x128 .f32) (hb1 : b1.IsWhole)
    (st : Memref sig .scVector .vmem S16x128 .f32) (sem : DmaSems sig S_) (v : ℕ → BitVec 32) (z : FVec F S16 .f32)
    (t : Fin k1_t1_loop.trips) (H : TripOK i v t) : Pg F i PUnit := do
  let p ← fetchK i x b0 hb0 b1 hb1 sem (k1_off2 i) (k1_off2_inb i) (k1_cond1 t) (k1_off3 i t) (k1_off3_inb i t) (got0 i v t)
  uniK i b0 st z (base0 i t) v H.U0
    (mixK i b0 st z (base0 i t) v H.H0 p.2.1
      (if h : k1_cond20 t = 1#1 then do
        let q ← fetchK i x b1 hb1 b0 hb0 sem (k1_off532 i) (k1_off532_inb i t h) (k1_cond21 t) (k1_off533 i t) (k1_off533_inb i t h) (got1 i v p.1)
        uniK i b1 st z (base1 i t) v H.U1 (mixK i b1 st z (base1 i t) v H.H1 q.1 (pure ⟨⟩))
      else pure ⟨⟩))

/-- Sixteen features of the stage set, the stage read and written; and then `k`. -/
def zsetK (i : grid1.Coords) (st : Memref sig .scVector .vmem S16x128 .f32) (o : Fin 2 → ℕ)
    (h : ∀ a, o a + S1x16.size a ≤ S16x128.size a) (z : FVec F S16 .f32) (k : Pg F i PUnit) : Pg F i PUnit := do
  let _v : Vec F S1x16 .f32 ← Prog.lift (.load st (Rect.unit (s := S16x128) o S1x16.size h).toLoadRect (View.loadsAt_vmem h_S1x16))
  Prog.lift (.store st (Rect.unit (s := S16x128) o S1x16.size h) (shapeCast S1x16 z shapeCasts_S16_S1x16) Finset.univ (View.stores_vmem_bits_univ h_S1x16 rfl) (.inl rfl))
  k

variable (i : grid1.Coords) (arg2 : Memref sig .scVector .hbm S32768x1024 .f32) (harg2 : arg2.IsWhole)
  (arg3 : Memref sig .scVector .hbm S8x128 .i32) (harg3 : arg3.IsWhole) (arg4 : Memref sig .scVector .hbm S4x16x1024 .f32)
  (harg4 : arg4.IsWhole) (arg5 : Memref sig .scVector .vmem S8x128 .i32) (harg5 : arg5.IsWhole)
  (arg6 : Memref sig .scVector .vmem S256x128 .f32) (harg6 : arg6.IsWhole) (arg7 : Memref sig .scVector .vmem S256x128 .f32)
  (harg7 : arg7.IsWhole) (arg8 : Memref sig .scVector .vmem S16x128 .f32) (harg8 : arg8.IsWhole)
  (arg9 : DmaSems sig S_) (v588_r0 : DmaSems sig S_) (v588_r1 : DmaSems sig S_) (v : ℕ → BitVec 32)
  (hw1 : k1_chk1 i (v 0) (v 1) (v 2) (v 3) (v 4) (v 5) (v 6) (v 7) (v 8) (v 9) (v 10) (v 11) (v 12) (v 13) (v 14) (v 15))
  (z : FVec F S16 .f32)

variable (t : Fin k1_t1_loop.trips)

theorem part285_eq :
    k1_part285 (F := F) i arg2 harg2 arg3 harg3 arg4 harg4 arg5 harg5 arg6 harg6 arg7 harg7 arg8 harg8 arg9 v588_r0 v588_r1 (tok0 i) (v 0) (v 1) (v 2) 0#32 1#32 t
    = fetchK i arg2 arg6 harg6 arg7 harg7 arg9 (k1_off2 i) (k1_off2_inb i) (k1_cond1 t) (k1_off3 i t) (k1_off3_inb i t) (got0 i v t) := rfl

theorem part281_eq (x : BitVec 32) (h20 : k1_cond20 t = 1#1) :
    k1_part281 (F := F) i arg2 harg2 arg3 harg3 arg4 harg4 arg5 harg5 arg6 harg6 arg7 harg7 arg8 harg8 arg9 v588_r0 v588_r1 (tok0 i) (v 0) (v 1) (v 2) t x h20
    = fetchK i arg2 arg7 harg7 arg6 harg6 arg9 (k1_off532 i) (k1_off532_inb i t h20) (k1_cond21 t) (k1_off533 i t) (k1_off533_inb i t h20) (got1 i v x) := rfl

theorem cond2_eq : k1_cond2 i (v 0) (v 1) (v 2) (v 3) (v 4) (v 5) (v 6) (v 7) (v 8) (v 9) (v 10) (v 11) (v 12) (v 13) (v 14) (v 15) t = oneSeg (base0 i t) v := rfl
theorem cond3_eq : k1_cond3 i (v 0) (v 1) (v 2) (v 3) (v 4) (v 5) (v 6) (v 7) (v 8) (v 9) (v 10) (v 11) (v 12) (v 13) (v 14) (v 15) t = manySegs (base0 i t) v := rfl
theorem cond22_eq : k1_cond22 i (v 0) (v 1) (v 2) (v 3) (v 4) (v 5) (v 6) (v 7) (v 8) (v 9) (v 10) (v 11) (v 12) (v 13) (v 14) (v 15) t = oneSeg (base1 i t) v := rfl
theorem cond23_eq : k1_cond23 i (v 0) (v 1) (v 2) (v 3) (v 4) (v 5) (v 6) (v 7) (v 8) (v 9) (v 10) (v 11) (v 12) (v 13) (v 14) (v 15) t = manySegs (base1 i t) v := rfl

/-- Two sequences are equal if their parts are. -/
theorem bind_eq {α β : Type} {x y : Pg F i α} {f g : α → Pg F i β} (h : x = y) (h' : ∀ a, f a = g a) : x >>= f = y >>= g := by
  rw [h, funext h']

/-- A conditional whose continuation `k` is written in both branches: the continuation is compared once. -/
theorem dite_k {α : Type 1} {c d : BitVec 1} [Decidable (c = 1#1)] [Decidable (d = 1#1)] (e : c = d) {A : c = 1#1 → α} {A' : d = 1#1 → α} {k k' : α}
    (hk : k = k') (hA : ∀ (h : c = 1#1) (h' : d = 1#1), k = k' → A h = A' h') :
    dite (c = 1#1) A (fun _ => k) = dite (d = 1#1) A' (fun _ => k') := by
  subst e
  by_cases h : c = 1#1
  · rw [dif_pos h, dif_pos h]; exact hA h h hk
  · rw [dif_neg h, dif_neg h]; exact hk

theorem ite_k {α : Type 1} {c d : BitVec 1} [Decidable (c = 1#1)] [Decidable (d = 1#1)] (e : c = d) {A : c = 1#1 → α} {A' : α} {k k' : α}
    (hk : k = k') (hA : ∀ (_ : c = 1#1), k = k' → A ‹_› = A') :
    dite (c = 1#1) A (fun _ => k) = ite (d = 1#1) A' k' := by
  subst e
  by_cases h : c = 1#1
  · rw [dif_pos h, if_pos h]; exact hA h hk
  · rw [dif_neg h, if_neg h]; exact hk

/-- A part that only computes. -/
theorem pure_eq {α β : Type} {x : Pg F i α} {a : α} {f : α → Pg F i β} {y : Pg F i β} (h : x = pure a) (h' : f a = y) : x >>= f = y := by
  rw [h, pure_bind]; exact h'

set_option maxHeartbeats 1600000 in
theorem part305_eq (H : ∀ t, TripOK i v t) (hw2 : k1_chk2 i (v 0) (v 1) (v 2) (v 3) (v 4) (v 5) (v 6) (v 7) (v 8) (v 9) (v 10) (v 11) (v 12) (v 13) (v 14) (v 15) (v 16)) :
    k1_part305 i arg2 harg2 arg3 harg3 arg4 harg4 arg5 harg5 arg6 harg6 arg7 harg7 arg8 harg8 arg9 v588_r0 v588_r1 (tok0 i)
      (v 0) (v 1) (v 2) (v 3) (v 4) (v 5) (v 6) (v 7) (v 8) (v 9) (v 10) (v 11) (v 12) (v 13) (v 14) (v 15) hw1 (v 16) hw2 z
    = zsetK i arg8 ![15, 48] inb_S16x128_S1x16_15_48 z
      (zsetK i arg8 ![15, 64] inb_S16x128_S1x16_15_64 z
      (zsetK i arg8 ![15, 80] inb_S16x128_S1x16_15_80 z
      (zsetK i arg8 ![15, 96] inb_S16x128_S1x16_15_96 z
      (zsetK i arg8 ![15, 112] inb_S16x128_S1x16_15_112 z (do
      Prog.lift (.enqueueDma (arg2.slice (Rect.unit (s := S32768x1024) (k1_off1 i) S256x128.size (k1_off1_inb i)) (fun _ => rfl)) (.here arg6) (.dma arg9.sem) (View.wordExact_bits rfl) harg6.wordExact ⟨Or.inl rfl, trivial⟩)
      Scf.Loop.for k1_t1_loop k1_t1_ok ⟨⟩ fun t _ => trip i arg2 arg6 harg6 arg7 harg7 arg8 arg9 v z t (H t)
      Prog.lift (.enqueueDma arg8 (.here ((arg4.slice (Rect.unit (s := S4x16x1024) (k1_off1062 i) S1x16x128.size (k1_off1062_inb i)) (fun _ => rfl)).squeeze S16x128 squeezes_S1x16x128_S16x128)) (.dma v588_r1.sem) harg8.wordExact ((View.wordExact_bits rfl).reshape _ _) ⟨Or.inl rfl, trivial⟩)
      pure ⟨⟩))))) := by
  refine bind_eq i rfl fun _ => bind_eq i rfl fun _ => bind_eq i rfl fun _ => bind_eq i rfl fun _ => bind_eq i rfl fun _ => ?_
  refine bind_eq i rfl fun _ => bind_eq i rfl fun _ => bind_eq i rfl fun _ => bind_eq i rfl fun _ => bind_eq i rfl fun _ => ?_
  refine bind_eq i rfl fun _ => bind_eq i ?_ fun _ => rfl
  refine congrArg (Scf.Loop.for k1_t1_loop k1_t1_ok PUnit.unit) (funext fun t => funext fun _ => ?_)
  refine bind_eq i (part285_eq i arg2 harg2 arg3 harg3 arg4 harg4 arg5 harg5 arg6 harg6 arg7 harg7 arg8 harg8 arg9 v588_r0 v588_r1 v t) fun p => ?_
  obtain ⟨p1, p2, p3, p4, p5, p6⟩ := p
  refine pure_eq i rfl ?_
  refine pure_eq i rfl ?_
  refine pure_eq i rfl ?_
  refine dite_k (cond2_eq i v t) ?_ (fun h h' hk => by
    rw [← hk]
    exact bind_eq i (part8_eq i arg2 harg2 arg3 harg3 arg4 harg4 arg5 harg5 arg6 harg6 arg7 harg7 arg8 harg8 arg9 v588_r0 v588_r1 v hw1 z t h _ ((H t).U0 h')) fun _ => rfl)
  refine ite_k (cond3_eq i v t) ?_ (fun h hk => by
    rw [← hk]
    refine bind_eq i (part137_eq i arg2 harg2 arg3 harg3 arg4 harg4 arg5 harg5 arg6 harg6 arg7 harg7 arg8 harg8 arg9 v588_r0 v588_r1 v hw1 z t h _ (H t).H0) fun w => ?_
    obtain ⟨w0, w1, w2⟩ := w
    refine bind_eq i (part138_eq i arg2 harg2 arg3 harg3 arg4 harg4 arg5 harg5 arg6 harg6 arg7 harg7 arg8 harg8 arg9 v588_r0 v588_r1 v hw1 z t h _ _ _ _ (H t).H0) fun w => ?_
    refine bind_eq i (part139_eq i arg2 harg2 arg3 harg3 arg4 harg4 arg5 harg5 arg6 harg6 arg7 harg7 arg8 harg8 arg9 v588_r0 v588_r1 v hw1 z t h _ _ (H t).H0) fun w => ?_
    obtain ⟨w3, w4⟩ := w
    refine bind_eq i (part140_eq i arg2 harg2 arg3 harg3 arg4 harg4 arg5 harg5 arg6 harg6 arg7 harg7 arg8 harg8 arg9 v588_r0 v588_r1 v hw1 z t h _ _ _ (H t).H0) fun w => ?_
    obtain ⟨w5, w6⟩ := w
    refine dite_k rfl ?_ (fun h h' hk => by
      rw [← hk]
      rfl)
    refine dite_k rfl rfl (fun h h' hk => by
      rw [← hk]
      rfl))
  refine dite_k rfl rfl (fun h h' _ => ?_)
  refine bind_eq i (part281_eq i arg2 harg2 arg3 harg3 arg4 harg4 arg5 harg5 arg6 harg6 arg7 harg7 arg8 harg8 arg9 v588_r0 v588_r1 v t p1 h) fun q => ?_
  obtain ⟨q1, q2, q3, q4, q5, q6⟩ := q
  refine pure_eq i rfl ?_
  refine pure_eq i rfl ?_
  refine pure_eq i rfl ?_
  have h20 := h
  refine dite_k (cond22_eq i v t) ?_ (fun h h' hk => by
    rw [← hk]
    exact bind_eq i (part148_eq i arg2 harg2 arg3 harg3 arg4 harg4 arg5 harg5 arg6 harg6 arg7 harg7 arg8 harg8 arg9 v588_r0 v588_r1 v hw1 z t h20 h _ ((H t).U1 h')) fun _ => rfl)
  refine ite_k (cond23_eq i v t) rfl (fun h hk => by
    rw [← hk]
    refine bind_eq i (part277_eq i arg2 harg2 arg3 harg3 arg4 harg4 arg5 harg5 arg6 harg6 arg7 harg7 arg8 harg8 arg9 v588_r0 v588_r1 v hw1 z t h20 h _ (H t).H1) fun w => ?_
    obtain ⟨w0, w1, w2⟩ := w
    refine bind_eq i (part278_eq i arg2 harg2 arg3 harg3 arg4 harg4 arg5 harg5 arg6 harg6 arg7 harg7 arg8 harg8 arg9 v588_r0 v588_r1 v hw1 z t h20 h _ _ _ _ (H t).H1) fun w => ?_
    refine bind_eq i (part279_eq i arg2 harg2 arg3 harg3 arg4 harg4 arg5 harg5 arg6 harg6 arg7 harg7 arg8 harg8 arg9 v588_r0 v588_r1 v hw1 z t h20 h _ _ (H t).H1) fun w => ?_
    obtain ⟨w3, w4⟩ := w
    refine bind_eq i (part280_eq i arg2 harg2 arg3 harg3 arg4 harg4 arg5 harg5 arg6 harg6 arg7 harg7 arg8 harg8 arg9 v588_r0 v588_r1 v hw1 z t h20 h _ _ _ (H t).H1) fun w => ?_
    obtain ⟨w5, w6⟩ := w
    refine dite_k rfl ?_ (fun h h' hk => by
      rw [← hk]
      rfl)
    refine dite_k rfl rfl (fun h h' hk => by
      rw [← hk]
      rfl))

end Cert.Proof.Seg
-- ==== Proof.Nums.lean ====
/-
  The words of the tile task as numbers: a chunk begins at token row `m`, a segment's rows of the table are `p` to `q`,
  and each word the kernel computes from them is a number below 2³¹.
-/
module

public import proofs.«01_k».proof.Proof.Words

@[expose] public section

namespace Cert.Proof.Seg

open Cert.KernelIdeal
open Idealize.ShloMosaic Idealize.SL.Sem

theorem toInt_word (n : ℕ) (h : n < 2 ^ 31) : (BitVec.ofNat 32 n).toInt = (n : ℤ) := by
  rw [BitVec.toInt_eq_toNat_cond, BitVec.toNat_ofNat, Nat.mod_eq_of_lt (by omega)]
  rw [if_pos (by omega)]

theorem toNat_word (n : ℕ) (h : n < 2 ^ 31) : (BitVec.ofNat 32 n).toNat = n := by
  rw [BitVec.toNat_ofNat, Nat.mod_eq_of_lt (by omega)]

theorem slt_word (m n : ℕ) (hm : m < 2 ^ 31) (hn : n < 2 ^ 31) : (BitVec.ofNat 32 m).slt (BitVec.ofNat 32 n) = decide (m < n) := by
  rw [BitVec.slt, toInt_word m hm, toInt_word n hn]
  simp

theorem sle_word (m n : ℕ) (hm : m < 2 ^ 31) (hn : n < 2 ^ 31) : (BitVec.ofNat 32 m).sle (BitVec.ofNat 32 n) = decide (m ≤ n) := by
  rw [BitVec.sle, toInt_word m hm, toInt_word n hn]
  simp

theorem sub_word (p m : ℕ) (h : m ≤ p) (hp : p < 2 ^ 31) : BitVec.ofNat 32 p - BitVec.ofNat 32 m = BitVec.ofNat 32 (p - m) := by
  apply BitVec.eq_of_toNat_eq
  simp only [BitVec.toNat_sub, BitVec.toNat_ofNat]
  omega

/-- The difference of two numbers, as a signed number. -/
theorem toInt_sub_word (p m : ℕ) (hm : m < 2 ^ 30) (hp : p < 2 ^ 30) :
    (BitVec.ofNat 32 p - BitVec.ofNat 32 m).toInt = (p : ℤ) - m := by
  rw [BitVec.toInt_sub, toInt_word p (by omega), toInt_word m (by omega)]
  rw [Int.bmod_def]
  split <;> omega

/-- The first of a segment's rows in the chunk: of the rows `p` on, those from `m` on, at most 256 of them. -/
theorem clip_word (m p : ℕ) (hm : m < 2 ^ 30) (hp : p < 2 ^ 30) :
    clip (BitVec.ofNat 32 m) (BitVec.ofNat 32 p) = BitVec.ofNat 32 (min 256 (p - m)) := by
  have e : Scalar.maxsi 0#32 (Scalar.subi (BitVec.ofNat 32 p) (BitVec.ofNat 32 m)) = BitVec.ofNat 32 (p - m) := by
    show (if BitVec.slt (BitVec.ofNat 32 p - BitVec.ofNat 32 m) 0#32 then 0#32 else BitVec.ofNat 32 p - BitVec.ofNat 32 m) = _
    rcases Nat.lt_or_ge p m with h | h
    · rw [if_pos, Nat.sub_eq_zero_of_le h.le]
      rw [BitVec.slt, toInt_sub_word p m hm hp]
      simp
      omega
    · rw [sub_word p m h (by omega), if_neg]
      rw [show (0#32 : BitVec 32) = BitVec.ofNat 32 0 from rfl, slt_word _ _ (by omega) (by omega)]
      simp
  unfold clip
  rw [e]
  show (if BitVec.slt (BitVec.ofNat 32 256) (BitVec.ofNat 32 (p - m)) then 256#32 else BitVec.ofNat 32 (p - m)) = _
  rw [slt_word _ _ (by omega) (by omega)]
  by_cases h : 256 < p - m
  · rw [if_pos (by simpa using h), Nat.min_eq_left h.le]
  · rw [if_neg (by simpa using h), Nat.min_eq_right (by omega)]

/-- The rows of the chunk before row `p` of the table. -/
def cl (m p : ℕ) : ℕ := min 256 (p - m)

theorem cl_le (m p : ℕ) : cl m p ≤ 256 := Nat.min_le_left _ _

theorem cnt_word (m p q : ℕ) (hm : m < 2 ^ 30) (hp : p < 2 ^ 30) (hq : q < 2 ^ 30) :
    cnt (BitVec.ofNat 32 m) (BitVec.ofNat 32 p) (BitVec.ofNat 32 q) = BitVec.ofNat 32 (cl m q) - BitVec.ofNat 32 (cl m p) := by
  unfold cnt
  rw [clip_word m p hm hp, clip_word m q hm hq]
  rfl

theorem ofBool_bit (b : Bool) : Scalar.cmpi .ne (Scalar.extui (BitVec.ofBool b)) 0#32 = BitVec.ofBool b := by
  cases b <;> decide

theorem cond_word (m p q : ℕ) (hm : m < 2 ^ 30) (hp : p < 2 ^ 30) (hq : q < 2 ^ 30) :
    cond (BitVec.ofNat 32 m) (BitVec.ofNat 32 p) (BitVec.ofNat 32 q) = 1#1 ↔ cl m p < cl m q := by
  unfold cond
  have h1 := cl_le m p
  have h2 := cl_le m q
  rw [cnt_word m p q hm hp hq]
  show Scalar.cmpi .ne (Scalar.extui (BitVec.ofBool (BitVec.slt 0#32 (BitVec.ofNat 32 (cl m q) - BitVec.ofNat 32 (cl m p))))) 0#32 = 1#1 ↔ _
  rw [ofBool_bit, BitVec.slt, toInt_sub_word _ _ (by omega) (by omega)]
  rw [show (1#1 : BitVec 1) = BitVec.ofBool true from rfl]
  constructor
  · intro h
    by_contra h'
    have : decide ((0#32).toInt < ((cl m q : ℕ) : ℤ) - (cl m p : ℕ)) = false := by simp; omega
    rw [this] at h
    exact absurd h (by decide)
  · intro h
    congr 1
    simp
    omega

theorem fdiv4_word : ∀ k : Fin 257, fdiv4 (BitVec.ofNat 32 k) = BitVec.ofNat 32 (k / 4) := by decide +kernel
theorem up3_word : ∀ k : Fin 257, up3 (BitVec.ofNat 32 k) = BitVec.ofNat 32 (k / 4) := by decide +kernel
theorem up4_word : ∀ k : Fin 257, up4 (BitVec.ofNat 32 k) = BitVec.ofNat 32 (k / 4) := by decide +kernel
theorem quad_word : ∀ k : Fin 257, quad (BitVec.ofNat 32 k) = BitVec.ofNat 32 (4 * (k / 4)) := by decide +kernel
theorem div1_word : ∀ k : Fin 257, Scalar.muli (Scalar.divsi (BitVec.ofNat 32 k) 1#32) 1#32 = BitVec.ofNat 32 k := by decide +kernel

variable (p k : ℕ) (h : p + k ≤ 256)
include h

theorem lo5_word : lo5 (BitVec.ofNat 32 p) (BitVec.ofNat 32 k) = BitVec.ofNat 32 (p + 4 * (k / 4)) := by
  unfold lo5
  rw [quad_word ⟨k, by omega⟩]
  exact (BitVec.ofNat_add _ _).symm

theorem rest_word : Scalar.subi (BitVec.ofNat 32 (p + k)) (lo5 (BitVec.ofNat 32 p) (BitVec.ofNat 32 k)) = BitVec.ofNat 32 (k % 4) := by
  rw [lo5_word p k h]
  show BitVec.ofNat 32 (p + k) - BitVec.ofNat 32 (p + 4 * (k / 4)) = _
  rw [sub_word _ _ (by omega) (by omega)]
  congr 1
  omega

theorem up5_word : up5 (BitVec.ofNat 32 p) (BitVec.ofNat 32 (p + k)) (BitVec.ofNat 32 k) = BitVec.ofNat 32 (p + k) := by
  unfold up5
  rw [rest_word p k h, div1_word ⟨k % 4, by omega⟩, lo5_word p k h]
  show BitVec.ofNat 32 (p + 4 * (k / 4)) + BitVec.ofNat 32 (k % 4) = _
  refine (BitVec.ofNat_add _ _).symm.trans ?_
  congr 1
  omega

theorem up6_word : up6 (BitVec.ofNat 32 p) (BitVec.ofNat 32 (p + k)) (BitVec.ofNat 32 k) = BitVec.ofNat 32 (p + k) := by
  unfold up6
  rw [rest_word p k h, lo5_word p k h]
  refine (BitVec.ofNat_add _ _).symm.trans ?_
  congr 1
  omega

omit h

theorem trips_word (a b : ℕ) (ha : a < 2 ^ 31) (hb : b < 2 ^ 31) : Scf.trips (BitVec.ofNat 32 a) (BitVec.ofNat 32 b) 1#32 = b - a := by
  unfold Scf.trips
  rw [toInt_word a ha, toInt_word b hb, show (1#32 : BitVec 32).toInt = 1 from rfl]
  omega

theorem ok_word (a b : ℕ) (ha : a < 2 ^ 30) (hb : b < 2 ^ 30) : Scf.OK (BitVec.ofNat 32 a) (BitVec.ofNat 32 b) 1#32 := by
  refine ⟨by decide, ?_⟩
  rw [trips_word a b (by omega) (by omega), toInt_word a (by omega), show (1#32 : BitVec 32).toInt = 1 from rfl]
  omega

theorem iv_word (a t : ℕ) : Scf.iv (BitVec.ofNat 32 a) 1#32 t = BitVec.ofNat 32 (a + t) := by
  unfold Scf.iv
  rw [BitVec.mul_one]
  exact (BitVec.ofNat_add _ _).symm

theorem row4_word (l p t c : ℕ) : row4 (BitVec.ofNat 32 l) (BitVec.ofNat 32 p) t (BitVec.ofNat 32 c) = BitVec.ofNat 32 (p + 4 * (l + t) + c) := by
  unfold row4
  rw [iv_word]
  show BitVec.ofNat 32 p + BitVec.ofNat 32 (l + t) * BitVec.ofNat 32 4 + BitVec.ofNat 32 c = _
  rw [← BitVec.ofNat_mul, ← BitVec.ofNat_add, ← BitVec.ofNat_add, Nat.mul_comm]

theorem row8_word (t c : ℕ) : row8 t (BitVec.ofNat 32 c) = BitVec.ofNat 32 (8 * t + c) := by
  unfold row8
  rw [show (0#32 : BitVec 32) = BitVec.ofNat 32 0 from rfl, iv_word]
  show BitVec.ofNat 32 (0 + t) * BitVec.ofNat 32 8 + BitVec.ofNat 32 c = _
  rw [← BitVec.ofNat_mul, ← BitVec.ofNat_add, Nat.zero_add, Nat.mul_comm]

/-- The four loops' bounds, of a segment with rows `p` to `p + k` of the chunk. -/
structure Bounds (base a b : BitVec 32) (p k : ℕ) : Prop where
  le : p + k ≤ 256
  t0 : clip base a = BitVec.ofNat 32 p
  t1 : clip base b = BitVec.ofNat 32 (p + k)
  n : cnt base a b = BitVec.ofNat 32 k

theorem bounds_word (m p q : ℕ) (hm : m < 2 ^ 30) (hp : p < 2 ^ 30) (hq : q < 2 ^ 30) (h : cl m p ≤ cl m q) :
    Bounds (BitVec.ofNat 32 m) (BitVec.ofNat 32 p) (BitVec.ofNat 32 q) (cl m p) (cl m q - cl m p) where
  le := by have := cl_le m q; omega
  t0 := clip_word m p hm hp
  t1 := by rw [show cl m p + (cl m q - cl m p) = cl m q by omega]; exact clip_word m q hm hq
  n := by rw [cnt_word m p q hm hp hq, sub_word _ _ h (by have := cl_le m q; omega)]

namespace Bounds
variable {base a b : BitVec 32} {p k : ℕ} (B : Bounds base a b p k)
include B

theorem loop3_eq : loop3 base a b = ⟨BitVec.ofNat 32 0, BitVec.ofNat 32 (k / 4), 1#32⟩ := by
  have := B.le
  rw [loop3, B.n, up3_word ⟨k, by omega⟩]
theorem loop4_eq : loop4 base a b = ⟨BitVec.ofNat 32 (k / 4), BitVec.ofNat 32 (k / 4), 1#32⟩ := by
  have := B.le
  rw [loop4, B.n, up3_word ⟨k, by omega⟩, up4_word ⟨k, by omega⟩]
theorem loop5_eq : loop5 base a b = ⟨BitVec.ofNat 32 (p + 4 * (k / 4)), BitVec.ofNat 32 (p + k), 1#32⟩ := by
  rw [loop5, B.n, B.t0, B.t1, lo5_word p k B.le, up5_word p k B.le]
theorem loop6_eq : loop6 base a b = ⟨BitVec.ofNat 32 (p + k), BitVec.ofNat 32 (p + k), 1#32⟩ := by
  rw [loop6, B.n, B.t0, B.t1, up5_word p k B.le, up6_word p k B.le]

theorem trips3 : (loop3 base a b).trips = k / 4 := by
  have := B.le
  rw [B.loop3_eq]
  exact trips_word _ _ (by omega) (by omega)
theorem trips4 : (loop4 base a b).trips = 0 := by
  have := B.le
  rw [B.loop4_eq]
  exact (trips_word _ _ (by omega) (by omega)).trans (by omega)
theorem trips5 : (loop5 base a b).trips = k % 4 := by
  have := B.le
  rw [B.loop5_eq]
  exact (trips_word _ _ (by omega) (by omega)).trans (by omega)
theorem trips6 : (loop6 base a b).trips = 0 := by
  have := B.le
  rw [B.loop6_eq]
  exact (trips_word _ _ (by omega) (by omega)).trans (by omega)

theorem row3 (t : ℕ) (c : Fin 4) : row4 0#32 (clip base a) t (BitVec.ofNat 32 c) = BitVec.ofNat 32 (p + 4 * t + c) := by
  rw [B.t0]
  exact (row4_word 0 p t c).trans (by rw [Nat.zero_add])
theorem row5 (t : ℕ) : Scf.iv (loop5 base a b).lb 1#32 t = BitVec.ofNat 32 (p + 4 * (k / 4) + t) := by
  rw [B.loop5_eq]
  exact iv_word _ _

/-- A segment's loops read rows of the chunk alone. -/
theorem segOK : SegOK base a b where
  ok3 := by have := B.le; rw [B.loop3_eq]; exact ok_word _ _ (by omega) (by omega)
  ok4 := by have := B.le; rw [B.loop4_eq]; exact ok_word _ _ (by omega) (by omega)
  ok5 := by have := B.le; rw [B.loop5_eq]; exact ok_word _ _ (by omega) (by omega)
  ok6 := by have := B.le; rw [B.loop6_eq]; exact ok_word _ _ (by omega) (by omega)
  in3 := by
    intro t c
    have := B.le
    have ht : (t : ℕ) < k / 4 := t.isLt.trans_eq B.trips3
    rw [B.row3]
    show (BitVec.ofNat 32 _).toNat < 256
    rw [toNat_word _ (by omega)]
    omega
  in4 := fun t => absurd (t.isLt.trans_eq B.trips4) (Nat.not_lt_zero _)
  in5 := by
    intro t
    have := B.le
    have ht : (t : ℕ) < k % 4 := t.isLt.trans_eq B.trips5
    rw [B.row5]
    show (BitVec.ofNat 32 _).toNat < 256
    rw [toNat_word _ (by omega)]
    omega
  in6 := fun t => absurd (t.isLt.trans_eq B.trips6) (Nat.not_lt_zero _)

end Bounds

theorem segOK_word (m p q : ℕ) (hm : m < 2 ^ 30) (hp : p < 2 ^ 30) (hq : q < 2 ^ 30)
    (h : cond (BitVec.ofNat 32 m) (BitVec.ofNat 32 p) (BitVec.ofNat 32 q) = 1#1) :
    SegOK (BitVec.ofNat 32 m) (BitVec.ofNat 32 p) (BitVec.ofNat 32 q) :=
  (bounds_word m p q hm hp hq ((cond_word m p q hm hp hq).mp h).le).segOK

end Cert.Proof.Seg
-- ==== Proof.Coord.lean ====
/-
  The numbers behind the words of a tile: which rows and which features of the table it reads, where it writes, and
  the segment a row lies in.
-/
module

public import proofs.«01_k».proof.Proof.Trip
public import proofs.«01_k».proof.Proof.Nums

@[expose] public section

noncomputable section

namespace Cert.Proof.Seg

open Cert.KernelIdeal
open Idealize.ShloMosaic Idealize.SL.Sem

/-- The tile of SparseCore `a` and subcore `b`. -/
def co (a : Fin 2) (b : Fin 16) : grid1.Coords := fun | 0 => a | 1 => b | ⟨_ + 2, h⟩ => absurd h (Nat.not_lt.2 (Nat.le_add_left _ _))

theorem co_eta (i : grid1.Coords) : i = co (i 0) (i 1) := by
  funext q
  match q with
  | 0 => rfl
  | 1 => rfl

/-- The tile's number. -/
def tileN (i : grid1.Coords) : ℕ := 2 * (i 1).val + (i 0).val
/-- Its first row of the table, -/
def rowN (i : grid1.Coords) : ℕ := 8192 * (tileN i / 8)
/-- and its first feature. -/
def colN (i : grid1.Coords) : ℕ := 128 * (tileN i % 8)

theorem tileN_lt (i : grid1.Coords) : tileN i < 32 := by
  have h0 : (i 0).val < 2 := (i 0).isLt
  have h1 : (i 1).val < 16 := (i 1).isLt
  unfold tileN; omega

theorem trips16 : k1_t1_loop.trips = 16 := by decide

theorem tok0_co : ∀ (a : Fin 2) (b : Fin 16), tok0 (co a b) = BitVec.ofNat 32 (rowN (co a b)) := by decide +kernel
theorem off1_co : ∀ (a : Fin 2) (b : Fin 16), k1_off1 (co a b) 0 = rowN (co a b) ∧ k1_off1 (co a b) 1 = colN (co a b) := by decide +kernel
theorem off3_co : ∀ (a : Fin 2) (b : Fin 16) (t : Fin k1_t1_loop.trips),
    k1_off3 (co a b) t 0 = rowN (co a b) + 256 * (2 * t + 1) ∧ k1_off3 (co a b) t 1 = colN (co a b) := by decide +kernel
theorem off533_co : ∀ (a : Fin 2) (b : Fin 16) (t : Fin k1_t1_loop.trips),
    k1_off533 (co a b) t 0 = rowN (co a b) + 256 * (2 * t + 2) ∧ k1_off533 (co a b) t 1 = colN (co a b) := by decide +kernel
theorem off1062_co : ∀ (a : Fin 2) (b : Fin 16),
    k1_off1062 (co a b) 0 = tileN (co a b) / 8 ∧ k1_off1062 (co a b) 1 = 0 ∧ k1_off1062 (co a b) 2 = colN (co a b) := by decide +kernel

theorem tok0_word (i : grid1.Coords) : tok0 i = BitVec.ofNat 32 (rowN i) := by rw [co_eta i]; exact tok0_co _ _
theorem off1_word (i : grid1.Coords) : k1_off1 i 0 = rowN i ∧ k1_off1 i 1 = colN i := by rw [co_eta i]; exact off1_co _ _
theorem off3_word (i : grid1.Coords) (t : Fin k1_t1_loop.trips) : k1_off3 i t 0 = rowN i + 256 * (2 * t + 1) ∧ k1_off3 i t 1 = colN i := by
  rw [co_eta i]; exact off3_co _ _ _
theorem off533_word (i : grid1.Coords) (t : Fin k1_t1_loop.trips) : k1_off533 i t 0 = rowN i + 256 * (2 * t + 2) ∧ k1_off533 i t 1 = colN i := by
  rw [co_eta i]; exact off533_co _ _ _
theorem off1062_word (i : grid1.Coords) : k1_off1062 i 0 = tileN i / 8 ∧ k1_off1062 i 1 = 0 ∧ k1_off1062 i 2 = colN i := by
  rw [co_eta i]; exact off1062_co _ _

theorem cond1_one : ∀ t : Fin k1_t1_loop.trips, k1_cond1 t = 1#1 := by decide +kernel
theorem cond20_one : ∀ t : Fin k1_t1_loop.trips, k1_cond20 t = 1#1 := by decide +kernel
theorem cond21_iff : ∀ t : Fin k1_t1_loop.trips, k1_cond21 t = 1#1 ↔ t.val + 1 < 16 := by decide +kernel

theorem base0_word (i : grid1.Coords) (t : ℕ) : base0 i t = BitVec.ofNat 32 (rowN i + 256 * (2 * t)) := by
  unfold base0
  rw [tok0_word, show (0#32 : BitVec 32) = BitVec.ofNat 32 0 from rfl, iv_word]
  show BitVec.ofNat 32 (rowN i) + BitVec.ofNat 32 (0 + t) * BitVec.ofNat 32 2 * BitVec.ofNat 32 256 = _
  rw [← BitVec.ofNat_mul, ← BitVec.ofNat_mul, ← BitVec.ofNat_add]
  congr 1; omega

theorem base1_word (i : grid1.Coords) (t : ℕ) : base1 i t = BitVec.ofNat 32 (rowN i + 256 * (2 * t + 1)) := by
  unfold base1
  rw [tok0_word, show (0#32 : BitVec 32) = BitVec.ofNat 32 0 from rfl, iv_word]
  show BitVec.ofNat 32 (rowN i) + (BitVec.ofNat 32 (0 + t) * BitVec.ofNat 32 2 + BitVec.ofNat 32 1) * BitVec.ofNat 32 256 = _
  rw [← BitVec.ofNat_mul, ← BitVec.ofNat_add, ← BitVec.ofNat_mul, ← BitVec.ofNat_add]
  congr 1; omega

theorem ofBool_beq (a b : BitVec 32) : BitVec.ofBool (a == b) = 1#1 ↔ a = b := by
  by_cases h : a = b
  · rw [show (a == b) = true from beq_iff_eq.mpr h]
    exact ⟨fun _ => h, fun _ => rfl⟩
  · rw [show (a == b) = false from beq_eq_false_iff_ne.mpr h]
    exact ⟨fun h' => absurd h' (by decide), fun h' => absurd h' h⟩

/-! ## The segment a row lies in -/

/-- How many of the first `n` segments begin at or before row `x`. -/
def begN (P : ℕ → ℕ) (x : ℕ) : ℕ → ℕ
  | 0 => 0
  | n + 1 => begN P x n + if P n ≤ x then 1 else 0

theorem begN_le (P : ℕ → ℕ) (x : ℕ) : ∀ n, begN P x n ≤ n
  | 0 => le_refl _
  | n + 1 => by
    have := begN_le P x n
    unfold begN; split <;> omega

/-- If the boundaries are in order, the segments that begin at or before row `x` are the first ones. -/
theorem begN_iff (P : ℕ → ℕ) (x : ℕ) (hP : ∀ n, P n ≤ P (n + 1)) : ∀ n k, k < n → (P k ≤ x ↔ k < begN P x n) := by
  have mono : ∀ a b, a ≤ b → P a ≤ P b := fun a b h => monotone_nat_of_le_succ hP h
  intro n
  induction n with
  | zero => intro k hk; omega
  | succ n ih =>
    intro k hk
    have hle := begN_le P x n
    unfold begN
    rcases Nat.lt_or_ge k n with h | h
    · rw [ih k h]
      split
      · rename_i hn
        have : k < begN P x n := (ih k h).mp (le_trans (mono k n h.le) hn)
        omega
      · omega
    · have e : k = n := by omega
      subst e
      split
      · rename_i hn
        constructor
        · intro _
          rcases Nat.eq_zero_or_pos k with h0 | h0
          · omega
          · have := (ih (k - 1) (by omega)).mp (le_trans (mono _ _ (by omega)) hn)
            omega
        · intro _; exact hn
      · rename_i hn
        constructor
        · intro h'; exact absurd h' hn
        · intro h'; omega

variable (P : ℕ → ℕ) (v : ℕ → BitVec 32) (hP : ∀ n, P n < 2 ^ 30) (hv : ∀ n ≤ 16, v n = BitVec.ofNat 32 (P n))
include hP hv

theorem one_word (x n : ℕ) (hx : x < 2 ^ 30) (hn : n ≤ 16) :
    Scalar.select (Scalar.cmpi .sle (v n) (BitVec.ofNat 32 x)) 1#32 0#32 = BitVec.ofNat 32 (if P n ≤ x then 1 else 0) := by
  rw [hv n hn]
  have h := hP n
  have e : Scalar.cmpi .sle (BitVec.ofNat 32 (P n)) (BitVec.ofNat 32 x) = BitVec.ofBool (decide (P n ≤ x)) := by
    show BitVec.ofBool ((BitVec.ofNat 32 (P n)).sle (BitVec.ofNat 32 x)) = _
    rw [sle_word _ _ (by omega) (by omega)]
  rw [e]
  by_cases hh : P n ≤ x
  · rw [if_pos hh, decide_eq_true hh]; rfl
  · rw [if_neg hh, decide_eq_false hh]; rfl

theorem segOf_word (x : ℕ) (hx : x < 2 ^ 30) (h0 : P 0 ≤ x) :
    segOf (BitVec.ofNat 32 x) v = BitVec.ofNat 32 (begN P x 16 - 1) := by
  have step : ∀ n, n ≤ 16 → ∀ a : BitVec 32, a = 4294967295#32 + BitVec.ofNat 32 (begN P x n) →
      Scalar.addi a (Scalar.select (Scalar.cmpi .sle (v n) (BitVec.ofNat 32 x)) 1#32 0#32) = 4294967295#32 + BitVec.ofNat 32 (begN P x (n + 1)) := by
    intro n hn a ha
    rw [one_word P v hP hv x n hx hn, ha]
    show _ + _ + _ = _
    rw [BitVec.add_assoc, ← BitVec.ofNat_add]
    rfl
  have h16 : segOf (BitVec.ofNat 32 x) v = 4294967295#32 + BitVec.ofNat 32 (begN P x 16) := by
    unfold segOf
    iterate 16 refine step _ (by decide) _ ?_
    rfl
  rw [h16]
  have hpos : 1 ≤ begN P x 16 := by
    have : begN P x 1 = 1 := by show 0 + (if P 0 ≤ x then 1 else 0) = 1; rw [if_pos h0]
    have mono : ∀ n, begN P x n ≤ begN P x (n + 1) := fun n => Nat.le_add_right _ _
    calc 1 = begN P x 1 := this.symm
      _ ≤ begN P x 16 := monotone_nat_of_le_succ mono (by decide)
  have hle := begN_le P x 16
  apply BitVec.eq_of_toNat_eq
  simp only [BitVec.toNat_add, BitVec.toNat_ofNat]
  omega

theorem segOf_lt (x : ℕ) (hx : x < 2 ^ 30) (h0 : P 0 ≤ x) :
    (Scalar.indexCast (segOf (BitVec.ofNat 32 x) v)).toNat = begN P x 16 - 1 ∧ begN P x 16 - 1 < 16 := by
  have hle := begN_le P x 16
  rw [segOf_word P v hP hv x hx h0]
  refine ⟨?_, by omega⟩
  show (BitVec.ofNat 32 (begN P x 16 - 1)).toNat = _
  rw [toNat_word _ (by omega)]

theorem lastRow_word (x : ℕ) (hx : x < 2 ^ 29) : lastRow (BitVec.ofNat 32 x) = BitVec.ofNat 32 (x + 255) := by
  unfold lastRow
  show BitVec.ofNat 32 x + BitVec.ofNat 32 256 - BitVec.ofNat 32 1 = _
  rw [← BitVec.ofNat_add, sub_word _ _ (by omega) (by omega)]
  rfl

theorem oneSeg_iff (x : ℕ) (hx : x < 2 ^ 29) (h0 : P 0 ≤ x) :
    oneSeg (BitVec.ofNat 32 x) v = 1#1 ↔ begN P x 16 = begN P (x + 255) 16 := by
  unfold oneSeg
  rw [lastRow_word P v hP hv x hx, segOf_word P v hP hv x (by omega) h0, segOf_word P v hP hv (x + 255) (by omega) (by omega)]
  have hp : ∀ y, P 0 ≤ y → 1 ≤ begN P y 16 := by
    intro y hy
    have : begN P y 1 = 1 := by show 0 + (if P 0 ≤ y then 1 else 0) = 1; rw [if_pos hy]
    have mono : ∀ n, begN P y n ≤ begN P y (n + 1) := fun n => Nat.le_add_right _ _
    calc 1 = begN P y 1 := this.symm
      _ ≤ begN P y 16 := monotone_nat_of_le_succ mono (by decide)
  have h1 := begN_le P x 16
  have h2 := begN_le P (x + 255) 16
  have h3 := hp x h0
  have h4 := hp (x + 255) (by omega)
  rw [show Scalar.cmpi .eq (BitVec.ofNat 32 (begN P x 16 - 1)) (BitVec.ofNat 32 (begN P (x + 255) 16 - 1))
    = BitVec.ofBool (BitVec.ofNat 32 (begN P x 16 - 1) == BitVec.ofNat 32 (begN P (x + 255) 16 - 1)) from rfl, ofBool_bit]
  have : (BitVec.ofNat 32 (begN P x 16 - 1) = BitVec.ofNat 32 (begN P (x + 255) 16 - 1)) ↔ begN P x 16 = begN P (x + 255) 16 := by
    constructor
    · intro h
      have := congrArg BitVec.toNat h
      rw [toNat_word _ (by omega), toNat_word _ (by omega)] at this
      omega
    · intro h; rw [h]
  rw [← this]
  exact ofBool_beq _ _

theorem manySegs_iff (x : ℕ) (hx : x < 2 ^ 29) (h0 : P 0 ≤ x) :
    manySegs (BitVec.ofNat 32 x) v = 1#1 ↔ begN P x 16 ≠ begN P (x + 255) 16 := by
  rw [ne_eq, ← oneSeg_iff P v hP hv x hx h0]
  unfold oneSeg manySegs
  generalize segOf (BitVec.ofNat 32 x) v = a
  generalize segOf (lastRow (BitVec.ofNat 32 x)) v = b
  rw [show Scalar.cmpi .eq a b = BitVec.ofBool (a == b) from rfl, show Scalar.cmpi .ne a b = BitVec.ofBool (a != b) from rfl, ofBool_bit, ofBool_bit]
  rw [ofBool_beq]
  by_cases h : a = b
  · rw [show (a != b) = false from by rw [h]; exact bne_self_eq_false b]
    exact ⟨fun h' => absurd h' (by decide), fun h' => absurd h h'⟩
  · rw [show (a != b) = true from bne_iff_ne.mpr h]
    exact ⟨fun _ => h, fun _ => rfl⟩

/-- What every trip needs follows from the boundaries being words of numbers, the first of them at the table's start. -/
theorem tripOK (i : grid1.Coords) (h0 : P 0 = 0) (t : Fin k1_t1_loop.trips) : TripOK i v t := by
  have ht : t.val < 16 := trips16 ▸ t.isLt
  have hi := tileN_lt i
  have hr : rowN i + 256 * 32 ≤ 2 ^ 29 := by unfold rowN; omega
  constructor
  · intro s hs h
    rw [base0_word, hv s (by omega), hv (s + 1) (by omega)] at h ⊢
    exact segOK_word _ _ _ (by omega) (hP _) (hP _) h
  · intro s hs h
    rw [base1_word, hv s (by omega), hv (s + 1) (by omega)] at h ⊢
    exact segOK_word _ _ _ (by omega) (hP _) (hP _) h
  · intro _
    rw [base0_word]
    have := segOf_lt P v hP hv (rowN i + 256 * (2 * t)) (by omega) (by omega)
    omega
  · intro _
    rw [base1_word]
    have := segOf_lt P v hP hv (rowN i + 256 * (2 * t + 1)) (by omega) (by omega)
    omega

end Cert.Proof.Seg
-- ==== Proof.Tr.lean ====
/-
  Programs of a tile task that always return the same value. `Tr i d dfs P p v P'` says that the program `p`, run on the
  tile `i` of device `d` from the resources `P`, returns `v` and leaves `P'`. The rules are those of sequence, of a
  loop, of a load and of a store. A buffer is held as the table of its elements, a function of row and column.
-/
module

public import proofs.«01_k».proof.Proof.Pieces
public import Idealize.ShloMosaic.Lib.SparseCore.Quiescent
public import Idealize.ShloMosaic.Lib.SparseCore.Ops
public import Idealize.ShloMosaic.Lib.Pipeline.Kit
public import Idealize.ShloMosaic.Lib.ValueLayout
public import Idealize.ShloMosaic.Lib.WritesUnit
public import Idealize.ShloMosaic.Lib.Tactic

@[expose] public section

noncomputable section

namespace Cert.Proof.Seg

open Cert.KernelIdeal

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Facts]
open Facts₀ Facts

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The tile's thread on device `d`. -/
abbrev thr (i : grid1.Coords) (d : Dev nD) : Thread nD τ := V d ((i 0).castLE hcore1) ((i 1).castLE hsub1)

/-- The weakest precondition of a program of the tile task. -/
abbrev wpT (i : grid1.Coords) (d : Dev nD) (dfs : Defs nD τ sig (Elt F) Λ₀) {α : Type} (p : Pg F i α) (Q : α → sProp 𝕄) : sProp 𝕄 :=
  wp frame (wpE dfs Variants.none (thr i d) none) Set.univ p Q

/-- From `P`, the program returns `v` and leaves `P'`. -/
def Tr (i : grid1.Coords) (d : Dev nD) (dfs : Defs nD τ sig (Elt F) Λ₀) {α : Type} (P : sProp 𝕄) (p : Pg F i α) (v : α) (P' : sProp 𝕄) : Prop :=
  ∀ Q : α → sProp 𝕄, iprop(P ∗ (P' -∗ Q v)) ⊢ wpT i d dfs p Q

section Rules

variable (i : grid1.Coords) (d : Dev nD) (dfs : Defs nD τ sig (Elt F) Λ₀) {α β : Type}

theorem Tr.pure (P : sProp 𝕄) (v : α) : Tr i d dfs P (pure v) v P := by
  intro Q
  rw [wpT, wp_pure]
  iintro ⟨HP, HQ⟩
  imodintro
  iapply HQ; iexact HP

variable {i d dfs}

theorem Tr.bind {P P' P'' : sProp 𝕄} {p : Pg F i α} {k : α → Pg F i β} {v : α} {w : β}
    (h : Tr i d dfs P p v P') (h' : Tr i d dfs P' (k v) w P'') : Tr i d dfs P (p >>= k) w P'' := by
  intro Q
  unfold wpT
  rw [wp_bind]
  iintro ⟨HP, HQ⟩
  iapply (h _)
  isplitl [HP]; · iexact HP
  iintro HP
  iapply (h' Q)
  isplitl [HP] <;> iassumption

theorem Tr.frameR {P P' : sProp 𝕄} {p : Pg F i α} {v : α} (h : Tr i d dfs P p v P') (R : sProp 𝕄) :
    Tr i d dfs iprop(P ∗ R) p v iprop(P' ∗ R) := by
  intro Q
  iintro ⟨⟨HP, HR⟩, HQ⟩
  iapply (h Q)
  isplitl [HP]; · iexact HP
  iintro HP
  iapply HQ
  isplitl [HP] <;> iassumption

theorem Tr.frameL {P P' : sProp 𝕄} {p : Pg F i α} {v : α} (h : Tr i d dfs P p v P') (R : sProp 𝕄) :
    Tr i d dfs iprop(R ∗ P) p v iprop(R ∗ P') := by
  intro Q
  iintro ⟨⟨HR, HP⟩, HQ⟩
  iapply (h Q)
  isplitl [HP]; · iexact HP
  iintro HP
  iapply HQ
  isplitl [HR] <;> iassumption

theorem Tr.mono {P P' R R' : sProp 𝕄} {p : Pg F i α} {v : α} (h : Tr i d dfs P p v P') (hR : R ⊢ P) (hR' : P' ⊢ R') :
    Tr i d dfs R p v R' := by
  intro Q
  iintro ⟨HP, HQ⟩
  iapply (h Q)
  isplitl [HP]; · iapply hR; iexact HP
  iintro HP
  iapply HQ
  iapply hR'; iexact HP

theorem Tr.loop (l : Scf.Loop 32) (hok : l.OK) (body : Fin l.trips → α → Pg F i α) (acc : ℕ → α) (I : ℕ → sProp 𝕄) (n : ℕ)
    (hn : l.trips = n) (h : ∀ k : Fin l.trips, Tr i d dfs (I k) (body k (acc k)) (acc (k + 1)) (I (k + 1))) :
    Tr i d dfs (I 0) (Scf.Loop.for l hok (acc 0) body) (acc n) (I n) := by
  subst hn
  intro Q
  have h0 := Scf.wp_for frame (wpE dfs Variants.none (thr i d) none) Set.univ l.lb l.ub l.st hok (acc 0) body
    (fun k a => iprop(⌜a = acc k⌝ ∗ I k)) (Q := Q) (fun k a => by
      iintro ⟨%ha, HI⟩
      subst ha
      iapply (h k _)
      isplitl [HI]; · iexact HI
      iintro HI
      isplitr; · ipureintro; rfl
      iexact HI)
  show _ ⊢ wp frame (wpE dfs Variants.none (thr i d) none) Set.univ (Scf.for l.lb l.ub l.st hok (acc 0) body) Q
  iintro ⟨HI, HQ⟩
  iapply h0
  isplitl [HI]
  · isplitr; · ipureintro; rfl
    iexact HI
  iintro %a ⟨%ha, HI⟩
  subst ha
  iapply HQ; iexact HI

/-- From `P`, the program comes to its continuation `k` and leaves `P'`. -/
def Trk (i : grid1.Coords) (d : Dev nD) (dfs : Defs nD τ sig (Elt F) Λ₀) {α : Type} (P : sProp 𝕄) (p k : Pg F i α) (P' : sProp 𝕄) : Prop :=
  ∀ Q : α → sProp 𝕄, iprop(P ∗ (P' -∗ wpT i d dfs k Q)) ⊢ wpT i d dfs p Q

theorem Trk.refl (P : sProp 𝕄) (k : Pg F i α) : Trk i d dfs P k k P := by
  intro Q
  iintro ⟨HP, HQ⟩
  iapply HQ; iexact HP

theorem Trk.trans {P P' P'' : sProp 𝕄} {p k l : Pg F i α} (h : Trk i d dfs P p k P') (h' : Trk i d dfs P' k l P'') :
    Trk i d dfs P p l P'' := by
  intro Q
  iintro ⟨HP, HQ⟩
  iapply (h Q)
  isplitl [HP]; · iexact HP
  iintro HP
  iapply (h' Q)
  isplitl [HP] <;> iassumption

theorem Trk.tr {P P' P'' : sProp 𝕄} {p k : Pg F i α} {v : α} (h : Trk i d dfs P p k P') (h' : Tr i d dfs P' k v P'') :
    Tr i d dfs P p v P'' := by
  intro Q
  iintro ⟨HP, HQ⟩
  iapply (h Q)
  isplitl [HP]; · iexact HP
  iintro HP
  iapply (h' Q)
  isplitl [HP] <;> iassumption

theorem Tr.bindk {P P' P'' : sProp 𝕄} {p : Pg F i α} {k : α → Pg F i β} {l : Pg F i β} {v : α}
    (h : Tr i d dfs P p v P') (h' : Trk i d dfs P' (k v) l P'') : Trk i d dfs P (p >>= k) l P'' := by
  intro Q
  unfold wpT
  rw [wp_bind]
  iintro ⟨HP, HQ⟩
  iapply (h _)
  isplitl [HP]; · iexact HP
  iintro HP
  iapply (h' Q)
  isplitl [HP] <;> iassumption

end Rules

/-! ## Buffers as tables -/

/-- The buffer `b` of the tile holds the table `w`. -/
def Holds (i : grid1.Coords) (d : Dev nD) {R C : ℕ} (b : Memref sig .scVector .vmem ⟨2, ![R, C]⟩ .f32) (w : ℕ → ℕ → F .f32) : sProp 𝕄 :=
  iprop(∃ f, ⌜∀ (r : Fin R) (c : Fin C), b.view.read (Elt F) f (ix2 r c) = w r c⌝ ∗ (b.view.loc (thr i d) ↦{fullShare} f))

/-- The sixteen values of `h` from `c` on, as a vector. -/
def sl (h : ℕ → F .f32) (c : ℕ) : FVec F S16 .f32 := fun j => h (c + (j 0).val)

variable (i : grid1.Coords) (d : Dev nD) (dfs : Defs nD τ sig (Elt F) Λ₀)

/-- Sixteen values of a row, loaded. -/
theorem Tr.load {R C : ℕ} (b : Memref sig .scVector .vmem ⟨2, ![R, C]⟩ .f32) (w : ℕ → ℕ → F .f32) (r c : ℕ)
    (o : Fin 2 → ℕ) (ho : o = ![r, c]) (h : ∀ a, o a + S1x16.size a ≤ (⟨2, ![R, C]⟩ : Shape).size a)
    (hl : b.view.LoadsAt (Rect.unit (s := ⟨2, ![R, C]⟩) o S1x16.size h).toLoadRect) :
    Tr i d dfs (Holds i d b w)
      (Prog.lift (.load b (Rect.unit (s := ⟨2, ![R, C]⟩) o S1x16.size h).toLoadRect hl) : Pg F i (Vec F S1x16 .f32))
      (fun y => w r (c + (y 1).val)) (Holds i d b w) := by
  subst ho
  intro Q
  unfold Holds
  generalize hY : (fun y => w r (c + (y 1).val) : Vec F S1x16 .f32) = Y
  iintro ⟨⟨%f, %hf, Hb⟩, HQ⟩
  iapply (wp_load_rect Variants.none (thr i d) none Set.univ (r := Rect.unit (s := ⟨2, ![R, C]⟩) ![r, c] S1x16.size h) (S := Finset.univ) (Finset.subset_univ _)) $$ [Hb]
  · iexact Hb
  iintro Hb
  rw [wp_ret]
  have hv : ((b.access (Rect.unit (s := ⟨2, ![R, C]⟩) ![r, c] S1x16.size h)).read (Elt F) f : Vec F S1x16 .f32) = Y := by
    subst hY
    funext y
    have h0 : r + 1 ≤ R := h 0
    have h1 : c + 16 ≤ C := h 1
    have hy1 : (y 1).val < 16 := (y 1).isLt
    have := hf ⟨r, by omega⟩ ⟨c + (y 1).val, by omega⟩
    rw [← this]
    show b.view.read (Elt F) f ((Rect.unit (s := ⟨2, ![R, C]⟩) ![r, c] S1x16.size h).emb y) = _
    congr 1
    funext a
    have hy0 : (y 0).val < 1 := (y 0).isLt
    fin_cases a
    · apply Fin.ext; show r + 1 * (y 0).val = r; omega
    · apply Fin.ext; show c + 1 * (y 1).val = c + (y 1).val; omega
  imodintro
  rw [hv]
  iapply HQ
  iexists f
  isplitr; · ipureintro; exact hf
  iexact Hb

/-- Sixteen values stored in a row of the table. -/
theorem Tr.store {R C : ℕ} (b : Memref sig .scVector .vmem ⟨2, ![R, C]⟩ .f32) (w w' : ℕ → ℕ → F .f32) (r c : ℕ)
    (o : Fin 2 → ℕ) (ho : o = ![r, c]) (h : ∀ a, o a + S1x16.size a ≤ (⟨2, ![R, C]⟩ : Shape).size a)
    (x : Vec F S1x16 .f32) (hx : (b.access (Rect.unit (s := ⟨2, ![R, C]⟩) o S1x16.size h)).Stores Finset.univ)
    (hm : Finset.univ = Finset.univ ∨ ∀ a, (Rect.unit (s := ⟨2, ![R, C]⟩) o S1x16.size h).stride a = 1)
    (hin : ∀ j : Fin 16, w' r (c + j) = x (ix2 0 j))
    (hout : ∀ a b, b < C → ¬(a = r ∧ c ≤ b ∧ b < c + 16) → w' a b = w a b) :
    Tr i d dfs (Holds i d b w)
      (Prog.lift (.store b (Rect.unit (s := ⟨2, ![R, C]⟩) o S1x16.size h) x Finset.univ hx hm) : Pg F i PUnit)
      ⟨⟩ (Holds i d b w') := by
  subst ho
  intro Q
  unfold Holds
  iintro ⟨⟨%f, %hf, Hb⟩, HQ⟩
  iapply (wp_store Variants.none (thr i d) none Set.univ (r := Rect.unit (s := ⟨2, ![R, C]⟩) ![r, c] S1x16.size h) (S := Finset.univ) (Finset.subset_univ _)) $$ [Hb]
  · iexact Hb
  iintro Hb
  rw [wp_ret]
  imodintro
  iapply HQ
  iexists _
  isplitr
  swap; · iexact Hb
  ipureintro
  intro a k
  have e := View.read_writes_cons_unit b.view f h x [] (ix2 a k) rfl
  rw [View.writes_cons] at e
  refine e.trans ?_
  split
  · rename_i hh
    have h0 := hh 0
    have h1 := hh 1
    have h0' : r ≤ a.val ∧ a.val < r + 1 := h0
    have h1' : c ≤ k.val ∧ k.val < c + 16 := h1
    have hj := hin ⟨k.val - c, by omega⟩
    have ea : a.val = r := by omega
    have ek : c + (k.val - c) = k.val := by omega
    rw [ea]
    simp only [ek] at hj
    rw [hj]
    congr 1
    funext q
    fin_cases q
    · apply Fin.ext; show a.val - r = 0; omega
    · rfl
  · rename_i hh
    rw [View.writes_nil]
    rw [hf, hout _ _ k.isLt]
    rintro ⟨h1, h2, h3⟩
    apply hh
    intro q
    fin_cases q
    · show r ≤ a.val ∧ a.val < r + 1; omega
    · exact ⟨h2, h3⟩

end Cert.Proof.Seg
-- ==== Proof.Segs.lean ====
/-
  What the pieces of the tile task compute. A row of the chunk is added to eight vectors of sixteen features, the rows of
  a segment one after another, and their sum is added to the segment's row of the stage.
-/
module

public import proofs.«01_k».proof.Proof.Tr
public import proofs.«01_k».proof.Proof.Nums

@[expose] public section

noncomputable section

namespace Cert.Proof.Seg

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Facts]
open Facts₀ Facts

local notation "𝕄" => MT nD τ sig (HIx 1) (Elt F) ℕ UU ℕ

/-! ## Values -/

/-- Eight vectors, from the row they are. -/
def vec8 (h : ℕ → F .f32) : Acc F := (sl h 0, sl h 16, sl h 32, sl h 48, sl h 64, sl h 80, sl h 96, sl h 112)

/-- A row added to a row. -/
def plus (h u : ℕ → F .f32) : ℕ → F .f32 := fun k => FloatOps.addf (h k) (u k)

/-- `n` rows of the table from row `lo` on, added one after another to `h`. -/
def run (w : ℕ → ℕ → F .f32) (lo : ℕ) : ℕ → (ℕ → F .f32) → ℕ → F .f32
  | 0, h => h
  | n + 1, h => plus (run w lo n h) (w (lo + n))

/-- The first `c` features of `h` added to row `s` of the table `g`. -/
def addTo (g : ℕ → ℕ → F .f32) (s : ℕ) (h : ℕ → F .f32) (c : ℕ) : ℕ → ℕ → F .f32 :=
  fun r k => if r = s ∧ k < c then FloatOps.addf (g r k) (h k) else g r k

theorem addTo_zero (g : ℕ → ℕ → F .f32) (s : ℕ) (h : ℕ → F .f32) : addTo g s h 0 = g := by
  funext r k
  unfold addTo
  rw [if_neg (by omega)]

theorem add_cast (w : ℕ → F .f32) (h : ℕ → F .f32) (c : ℕ) :
    addf (sl h c) (shapeCast S16 (fun y : S1x16.Idx => w (c + (y 1).val)) shapeCasts_S1x16_S16) = sl (plus h w) c := by
  funext j
  obtain ⟨a, rfl⟩ : ∃ a : Fin 16, j = ix1 a := ⟨j 0, by funext q; fin_cases q; rfl⟩
  show FloatOps.addf _ (shapeCast S16 _ _ (ix1 a)) = _
  rw [shapeCast_1a_a_apply]
  rfl

theorem cast_add (w : ℕ → F .f32) (h : ℕ → F .f32) (c : ℕ) (j : Fin 16) :
    shapeCast S1x16 (addf (shapeCast S16 (fun y : S1x16.Idx => w (c + (y 1).val)) shapeCasts_S1x16_S16) (sl h c)) shapeCasts_S16_S1x16 (ix2 0 j)
      = FloatOps.addf (w (c + j)) (h (c + j)) := by
  rw [shapeCast_a_1a_apply]
  show FloatOps.addf (shapeCast S16 _ _ (ix1 j)) _ = _
  rw [shapeCast_1a_a_apply]
  rfl

/-- One segment's rows of the chunk at row `m`, added to the stage. -/
def segTo (w : ℕ → ℕ → F .f32) (z : F .f32) (m p q s : ℕ) (g : ℕ → ℕ → F .f32) : ℕ → ℕ → F .f32 :=
  if cl m p < cl m q then addTo g s (run w (cl m p) (cl m q - cl m p) fun _ => z) 128 else g

/-- The first `n` segments', one after another. -/
def mixTo (w : ℕ → ℕ → F .f32) (z : F .f32) (m : ℕ) (P : ℕ → ℕ) : ℕ → (ℕ → ℕ → F .f32) → ℕ → ℕ → F .f32
  | 0, g => g
  | n + 1, g => segTo w z m (P n) (P (n + 1)) n (mixTo w z m P n g)

/-- The whole chunk, added to one row. -/
def uniTo (w : ℕ → ℕ → F .f32) (z : F .f32) (s : ℕ) (g : ℕ → ℕ → F .f32) : ℕ → ℕ → F .f32 :=
  addTo g s (run w 0 256 fun _ => z) 128

/-! ## Rows -/

variable {i : grid1.Coords} {d : Dev nD} {dfs : Defs nD τ sig (Elt F) Λ₀}
variable {buf : Memref sig .scVector .vmem S256x128 .f32} {st : Memref sig .scVector .vmem S16x128 .f32}
variable (w : ℕ → ℕ → F .f32)

theorem tr_ldAdd (r : BitVec 32) (n : ℕ) (hn : (Scalar.indexCast r).toNat = n) (c : ℕ) (hi) (h : ℕ → F .f32) :
    Tr i d dfs (Holds i d buf w) (ldAdd i buf (at_ r c) hi (sl h c)) (sl (plus h (w n)) c) (Holds i d buf w) := by
  subst hn
  unfold ldAdd
  refine Tr.bind (Tr.load i d dfs buf w _ c (at_ r c) rfl hi _) ?_
  rw [add_cast (w _) h c]
  exact Tr.pure i d dfs _ _

theorem tr_rowAdd (r : BitVec 32) (n : ℕ) (hn : (Scalar.indexCast r).toNat = n) (hr) (h : ℕ → F .f32) :
    Tr i d dfs (Holds i d buf w) (rowAdd i buf r hr (vec8 h)) (vec8 (plus h (w n))) (Holds i d buf w) := by
  unfold rowAdd
  refine Tr.bind (tr_ldAdd w r n hn 0 _ h) ?_
  refine Tr.bind (tr_ldAdd w r n hn 16 _ h) ?_
  refine Tr.bind (tr_ldAdd w r n hn 32 _ h) ?_
  refine Tr.bind (tr_ldAdd w r n hn 48 _ h) ?_
  refine Tr.bind (tr_ldAdd w r n hn 64 _ h) ?_
  refine Tr.bind (tr_ldAdd w r n hn 80 _ h) ?_
  refine Tr.bind (tr_ldAdd w r n hn 96 _ h) ?_
  refine Tr.bind (tr_ldAdd w r n hn 112 _ h) ?_
  exact Tr.pure i d dfs _ _

theorem tr_rows4 (lo t0 : BitVec 32) (t : ℕ) (hi) (l n : ℕ) (h : ℕ → F .f32)
    (hn : ∀ c : Fin 4, (Scalar.indexCast (row4 lo t0 t (BitVec.ofNat 32 c))).toNat = l + (n + c)) :
    Tr i d dfs (Holds i d buf w) (rows4 i buf lo t0 t hi (vec8 (run w l n h))) (vec8 (run w l (n + 4) h)) (Holds i d buf w) := by
  unfold rows4
  refine Tr.bind (tr_rowAdd w _ _ (hn 0) _ _) ?_
  refine Tr.bind (tr_rowAdd w _ _ (hn 1) _ _) ?_
  refine Tr.bind (tr_rowAdd w _ _ (hn 2) _ _) ?_
  exact tr_rowAdd w _ _ (hn 3) _ _

theorem tr_rows8 (t : Fin 32) (h : ℕ → F .f32) :
    Tr i d dfs (Holds i d buf w) (rows8 i buf t (vec8 (run w 0 (8 * t) h))) (vec8 (run w 0 (8 * (t + 1)) h)) (Holds i d buf w) := by
  have hn : ∀ c : Fin 8, (Scalar.indexCast (row8 t (BitVec.ofNat 32 c))).toNat = 0 + (8 * t + c) := by
    intro c
    rw [row8_word]
    show (BitVec.ofNat 32 _).toNat = _
    rw [toNat_word _ (by omega)]
    omega
  unfold rows8
  refine Tr.bind (tr_rowAdd w _ _ (hn 0) _ _) ?_
  refine Tr.bind (tr_rowAdd w _ _ (hn 1) _ _) ?_
  refine Tr.bind (tr_rowAdd w _ _ (hn 2) _ _) ?_
  refine Tr.bind (tr_rowAdd w _ _ (hn 3) _ _) ?_
  refine Tr.bind (tr_rowAdd w _ _ (hn 4) _ _) ?_
  refine Tr.bind (tr_rowAdd w _ _ (hn 5) _ _) ?_
  refine Tr.bind (tr_rowAdd w _ _ (hn 6) _ _) ?_
  exact tr_rowAdd w _ _ (hn 7) _ _

/-! ## The stage -/

variable (g : ℕ → ℕ → F .f32)

/-- The store that ends an addition to the stage. -/
theorem tr_stStore (s c : ℕ) (hi) (h : ℕ → F .f32) (hx) (hm) :
    Tr i d dfs (Holds i d st (addTo g s h c))
      (Prog.lift (.store st (Rect.unit (s := S16x128) ![s, c] S1x16.size hi)
        (shapeCast S1x16 (addf (shapeCast S16 (fun y : S1x16.Idx => addTo g s h c s (c + (y 1).val)) shapeCasts_S1x16_S16) (sl h c)) shapeCasts_S16_S1x16)
        Finset.univ hx hm) : Pg F i PUnit)
      ⟨⟩ (Holds i d st (addTo g s h (c + 16))) := by
  refine Tr.store i d dfs st _ _ s c _ rfl hi _ hx hm (fun j => ?_) (fun a b _ hab => ?_)
  · rw [cast_add (addTo g s h c s) h c j]
    unfold addTo
    rw [if_pos ⟨rfl, by omega⟩, if_neg (by omega)]
  · unfold addTo
    by_cases h1 : a = s ∧ b < c
    · rw [if_pos h1, if_pos ⟨h1.1, by omega⟩]
    · rw [if_neg h1, if_neg (by omega)]

theorem tr_stAdd (s c : ℕ) (hi) (h : ℕ → F .f32) :
    Tr i d dfs (Holds i d st (addTo g s h c)) (stAdd i st ![s, c] hi (sl h c)) ⟨⟩ (Holds i d st (addTo g s h (c + 16))) := by
  unfold stAdd
  refine Tr.bind (Tr.load i d dfs st _ s c _ rfl hi _) ?_
  refine Tr.bind (Tr.load i d dfs st _ s c _ rfl hi _) ?_
  exact tr_stStore g s c hi h _ _

/-! ## A segment -/

variable {base a b : BitVec 32} {p k : ℕ}

theorem tr_segA (z : F .f32) (B : Bounds base a b p k) (H : SegOK base a b) (n : BitVec 32) :
    Tr i d dfs (Holds i d buf w) (segA i buf (fun _ => z) base a b H n)
      ⟨quad n, up3 n, sl (run w p (4 * (k / 4)) fun _ => z) 0, sl (run w p (4 * (k / 4)) fun _ => z) 16,
        sl (run w p (4 * (k / 4)) fun _ => z) 32, sl (run w p (4 * (k / 4)) fun _ => z) 48, sl (run w p (4 * (k / 4)) fun _ => z) 64,
        sl (run w p (4 * (k / 4)) fun _ => z) 80, sl (run w p (4 * (k / 4)) fun _ => z) 96, sl (run w p (4 * (k / 4)) fun _ => z) 112, 1#32⟩
      (Holds i d buf w) := by
  have := B.le
  unfold segA
  refine Tr.bind (Tr.loop (loop3 base a b) H.ok3 (fun t x => rows4 i buf 0#32 (clip base a) t (H.in3 t) x)
    (fun t => vec8 (run w p (4 * t) fun _ => z)) (fun _ => Holds i d buf w) _ B.trips3 (fun t => ?_)) ?_
  · have ht : (t : ℕ) < k / 4 := t.isLt.trans_eq B.trips3
    refine tr_rows4 w _ _ _ _ p (4 * t) _ (fun c => ?_)
    rw [B.row3]
    show (BitVec.ofNat 32 _).toNat = _
    rw [toNat_word _ (by omega)]
    omega
  · exact Tr.pure i d dfs _ _

theorem tr_segB (z : F .f32) (B : Bounds base a b p k) (H : SegOK base a b) (s : ℕ) (hs : s < 16) (h : ℕ → F .f32) (he : h = run w p k fun _ => z) :
    Tr i d dfs iprop(Holds i d buf w ∗ Holds i d st g)
      (segB i buf st base a b H s hs (vec8 (run w p (4 * (k / 4)) fun _ => z)))
      ⟨sl h 64, sl h 80, sl h 96, sl h 112, addf (shapeCast S16 (fun y : S1x16.Idx => addTo g s h 48 s (48 + (y 1).val)) shapeCasts_S1x16_S16) (sl h 48)⟩
      iprop(Holds i d buf w ∗ Holds i d st (addTo g s h 48)) := by
  have := B.le
  unfold segB
  refine Tr.bind ((Tr.loop (loop4 base a b) H.ok4 (fun t x => rows4 i buf (loop4 base a b).lb (clip base a) t (H.in4 t) x)
    (fun t => vec8 (run w p (4 * (k / 4)) fun _ => z)) (fun _ => Holds i d buf w) _ B.trips4
    (fun t => absurd (t.isLt.trans_eq B.trips4) (Nat.not_lt_zero _))).frameR _) ?_
  refine Tr.bind ((Tr.loop (loop5 base a b) H.ok5 (fun t x => rowAdd i buf (Scf.iv (loop5 base a b).lb 1#32 t) (H.in5 t) x)
    (fun t => vec8 (run w p (4 * (k / 4) + t) fun _ => z)) (fun _ => Holds i d buf w) _ B.trips5
    (fun t => ?_)).frameR _) ?_
  · have ht : (t : ℕ) < k % 4 := t.isLt.trans_eq B.trips5
    refine tr_rowAdd w _ (p + (4 * (k / 4) + t)) ?_ _ _
    rw [B.row5]
    show (BitVec.ofNat 32 _).toNat = _
    rw [toNat_word _ (by omega)]
    omega
  rw [show 4 * (k / 4) + k % 4 = k by omega, ← he]
  refine Tr.bind ((Tr.loop (loop6 base a b) H.ok6 (fun t x => rowAdd i buf (Scf.iv (loop6 base a b).lb 1#32 t) (H.in6 t) x)
    (fun t => vec8 h) (fun _ => Holds i d buf w) _ B.trips6
    (fun t => absurd (t.isLt.trans_eq B.trips6) (Nat.not_lt_zero _))).frameR _) ?_
  have e0 : Holds i d st g = Holds i d st (addTo g s h 0) := by rw [addTo_zero]
  rw [e0]
  refine Tr.bind ((tr_stAdd g s 0 _ h).frameL _) ?_
  refine Tr.bind ((tr_stAdd g s 16 _ h).frameL _) ?_
  refine Tr.bind ((tr_stAdd g s 32 _ h).frameL _) ?_
  refine Tr.bind ((Tr.load i d dfs st _ s 48 _ rfl _ _).frameL _) ?_
  exact Tr.pure i d dfs _ _

theorem trk_segK {β : Type} (z : F .f32) (m p q : ℕ) (hm : m < 2 ^ 30) (hp : p < 2 ^ 30) (hq : q < 2 ^ 30) (ha : a = BitVec.ofNat 32 p)
    (hb : b = BitVec.ofNat 32 q) (hbase : base = BitVec.ofNat 32 m) (H) (n : BitVec 32) (s : ℕ) (hs : s < 16) (k : Pg F i β) :
    Trk i d dfs iprop(Holds i d buf w ∗ Holds i d st g) (segK i buf st (fun _ => z) base a b H n s hs k) k
      iprop(Holds i d buf w ∗ Holds i d st (segTo w z m p q s g)) := by
  subst ha hb hbase
  unfold segK segTo
  split
  · rename_i h
    have hlt := (cond_word m p q hm hp hq).mp h
    have B := bounds_word m p q hm hp hq hlt.le
    rw [if_pos hlt]
    refine Tr.bindk ((tr_segA w z B _ n).frameR _) ?_
    refine Tr.bindk (tr_segB w g z B _ s hs _ rfl) ?_
    refine Tr.bindk ((Tr.load i d dfs st _ s 48 _ rfl _ _).frameL _) ?_
    refine Tr.bindk ((tr_stStore g s 48 _ _ _ _).frameL _) ?_
    refine Tr.bindk ((tr_stAdd g s 64 _ _).frameL _) ?_
    refine Tr.bindk ((tr_stAdd g s 80 _ _).frameL _) ?_
    refine Tr.bindk ((tr_stAdd g s 96 _ _).frameL _) ?_
    refine Tr.bindk ((tr_stAdd g s 112 _ _).frameL _) ?_
    exact Trk.refl _ _
  · rename_i h
    rw [if_neg (fun hlt => h ((cond_word m p q hm hp hq).mpr hlt))]
    exact Trk.refl _ _

/-! ## A chunk -/

theorem tr_uniA (z : F .f32) (s : ℕ) (hs : s < 16) (h : ℕ → F .f32) (he : h = run w 0 256 fun _ => z) :
    Tr i d dfs iprop(Holds i d buf w ∗ Holds i d st g) (uniA i buf st (fun _ => z) s hs)
      ⟨sl h 80, sl h 96, sl h 112, shapeCast S1x16 (addf (shapeCast S16 (fun y : S1x16.Idx => addTo g s h 64 s (64 + (y 1).val)) shapeCasts_S1x16_S16) (sl h 64)) shapeCasts_S16_S1x16⟩
      iprop(Holds i d buf w ∗ Holds i d st (addTo g s h 64)) := by
  unfold uniA
  refine Tr.bind ((Tr.loop k1_t2_loop k1_t2_ok (fun t x => rows8 i buf t x)
    (fun t => vec8 (run w 0 (8 * t) fun _ => z)) (fun _ => Holds i d buf w) 32 (by decide +kernel)
    (fun t => tr_rows8 w t _)).frameR _) ?_
  rw [show 8 * 32 = 256 from rfl, ← he]
  have e0 : Holds i d st g = Holds i d st (addTo g s h 0) := by rw [addTo_zero]
  rw [e0]
  refine Tr.bind ((tr_stAdd g s 0 _ h).frameL _) ?_
  refine Tr.bind ((tr_stAdd g s 16 _ h).frameL _) ?_
  refine Tr.bind ((tr_stAdd g s 32 _ h).frameL _) ?_
  refine Tr.bind ((tr_stAdd g s 48 _ h).frameL _) ?_
  refine Tr.bind ((Tr.load i d dfs st _ s 64 _ rfl _ _).frameL _) ?_
  refine Tr.bind ((Tr.load i d dfs st _ s 64 _ rfl _ _).frameL _) ?_
  exact Tr.pure i d dfs _ _

theorem trk_uniK {β : Type} (z : F .f32) (v : ℕ → BitVec 32) (H) (k : Pg F i β) :
    Trk i d dfs iprop(Holds i d buf w ∗ Holds i d st g) (uniK i buf st (fun _ => z) base v H k) k
      iprop(Holds i d buf w ∗ Holds i d st (if oneSeg base v = 1#1 then uniTo w z (Scalar.indexCast (segOf base v)).toNat g else g)) := by
  unfold uniK
  split
  · rename_i h
    have hs := H h
    refine Tr.bindk (tr_uniA w g z _ hs _ rfl) ?_
    refine Tr.bindk ((tr_stStore g _ 64 _ _ _ _).frameL _) ?_
    refine Tr.bindk ((tr_stAdd g _ 80 _ _).frameL _) ?_
    refine Tr.bindk ((tr_stAdd g _ 96 _ _).frameL _) ?_
    refine Tr.bindk ((tr_stAdd g _ 112 _ _).frameL _) ?_
    exact Trk.refl _ _
  · exact Trk.refl _ _

section Mix

attribute [local irreducible] cond

variable (z : F .f32) (m : ℕ) (P : ℕ → ℕ) (v : ℕ → BitVec 32) (hm : m < 2 ^ 30) (hP : ∀ n, P n < 2 ^ 30)
  (hv : ∀ n, n ≤ 16 → v n = BitVec.ofNat 32 (P n)) (hbase : base = BitVec.ofNat 32 m)
include hm hP hv hbase

theorem trk_seg {β : Type} (s s' : ℕ) (hs' : s' = s + 1) (hs : s < 16) (H) (n : BitVec 32) (k : Pg F i β) :
    Trk i d dfs iprop(Holds i d buf w ∗ Holds i d st (mixTo w z m P s g)) (segK i buf st (fun _ => z) base (v s) (v s') H n s hs k) k
      iprop(Holds i d buf w ∗ Holds i d st (mixTo w z m P s' g)) := by
  subst hs'
  exact trk_segK w _ z m (P s) (P (s + 1)) hm (hP _) (hP _) (hv s (by omega)) (hv (s + 1) (by omega)) hbase H n s hs k

theorem tr_grpA (H) (b : BitVec 32) :
    Tr i d dfs iprop(Holds i d buf w ∗ Holds i d st (mixTo w z m P 0 g)) (grpA i buf st (fun _ => z) base v H b)
      (⟨clip b (v 3), 256#32, Scalar.maxsi 0#32 (Scalar.subi (v 4) b)⟩) iprop(Holds i d buf w ∗ Holds i d st (mixTo w z m P 3 g)) := by
  have sg {β : Type} := trk_seg (i := i) (d := d) (dfs := dfs) (buf := buf) (st := st) w g z m P v hm hP hv hbase (β := β)
  unfold grpA
  exact Trk.tr (sg 0 1 rfl (by decide) _ _ _) (Trk.tr (sg 1 2 rfl (by decide) _ _ _) (Trk.tr (sg 2 3 rfl (by decide) _ _ _) (Tr.pure i d dfs _ _)))

theorem tr_grpB (H) (b w0 w1 w2 : BitVec 32) :
    Tr i d dfs iprop(Holds i d buf w ∗ Holds i d st (mixTo w z m P 3 g)) (grpB i buf st (fun _ => z) base v H b w0 w1 w2)
      (Scalar.subi (v 7) b) iprop(Holds i d buf w ∗ Holds i d st (mixTo w z m P 7 g)) := by
  have sg {β : Type} := trk_seg (i := i) (d := d) (dfs := dfs) (buf := buf) (st := st) w g z m P v hm hP hv hbase (β := β)
  unfold grpB
  exact Trk.tr (sg 3 4 rfl (by decide) _ _ _) (Trk.tr (sg 4 5 rfl (by decide) _ _ _) (Trk.tr (sg 5 6 rfl (by decide) _ _ _) (Trk.tr (sg 6 7 rfl (by decide) _ _ _) (Tr.pure i d dfs _ _))))

theorem tr_grpC (H) (b w0 : BitVec 32) :
    Tr i d dfs iprop(Holds i d buf w ∗ Holds i d st (mixTo w z m P 7 g)) (grpC i buf st (fun _ => z) base v H b w0)
      (⟨clip b (v 10), clip b (v 11)⟩) iprop(Holds i d buf w ∗ Holds i d st (mixTo w z m P 10 g)) := by
  have sg {β : Type} := trk_seg (i := i) (d := d) (dfs := dfs) (buf := buf) (st := st) w g z m P v hm hP hv hbase (β := β)
  unfold grpC
  exact Trk.tr (sg 7 8 rfl (by decide) _ _ _) (Trk.tr (sg 8 9 rfl (by decide) _ _ _) (Trk.tr (sg 9 10 rfl (by decide) _ _ _) (Tr.pure i d dfs _ _)))

theorem tr_grpD (H) (b w0 w1 : BitVec 32) :
    Tr i d dfs iprop(Holds i d buf w ∗ Holds i d st (mixTo w z m P 10 g)) (grpD i buf st (fun _ => z) base v H b w0 w1)
      (⟨Scalar.subi (v 14) b, 0#32⟩) iprop(Holds i d buf w ∗ Holds i d st (mixTo w z m P 14 g)) := by
  have sg {β : Type} := trk_seg (i := i) (d := d) (dfs := dfs) (buf := buf) (st := st) w g z m P v hm hP hv hbase (β := β)
  unfold grpD
  exact Trk.tr (sg 10 11 rfl (by decide) _ _ _) (Trk.tr (sg 11 12 rfl (by decide) _ _ _) (Trk.tr (sg 12 13 rfl (by decide) _ _ _) (Trk.tr (sg 13 14 rfl (by decide) _ _ _) (Tr.pure i d dfs _ _))))

theorem trk_mixK {β : Type} (H) (b : BitVec 32) (k : Pg F i β) :
    Trk i d dfs iprop(Holds i d buf w ∗ Holds i d st g) (mixK i buf st (fun _ => z) base v H b k) k
      iprop(Holds i d buf w ∗ Holds i d st (if manySegs base v = 1#1 then mixTo w z m P 16 g else g)) := by
  have sg {β : Type} := trk_seg (i := i) (d := d) (dfs := dfs) (buf := buf) (st := st) w g z m P v hm hP hv hbase (β := β)
  unfold mixK
  split
  · refine Tr.bindk (tr_grpA w g z m P v hm hP hv hbase H b) ?_
    refine Tr.bindk (tr_grpB w g z m P v hm hP hv hbase H b _ _ _) ?_
    refine Tr.bindk (tr_grpC w g z m P v hm hP hv hbase H b _) ?_
    refine Tr.bindk (tr_grpD w g z m P v hm hP hv hbase H b _ _) ?_
    exact Trk.trans (sg 14 15 rfl (by decide) _ _ _) (sg 15 16 rfl (by decide) _ _ _)
  · exact Trk.refl _ _

end Mix

end Cert.Proof.Seg
-- ==== Proof.Zero.lean ====
/-
  The stage set to zero, sixteen features at a time, as the kernel's text does it.
-/
module

public import proofs.«01_k».proof.KernelIdeal
public import proofs.«01_k».proof.Proof.Segs

@[expose] public section

noncomputable section

namespace Cert.Proof.Seg

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Facts]
open Facts₀ Facts

local notation "𝕄" => MT nD τ sig (HIx 1) (Elt F) ℕ UU ℕ

/-- The table `w` with its first `n` groups of sixteen features set to `z`. -/
def zeroed (w : ℕ → ℕ → F .f32) (z : F .f32) (n : ℕ) : ℕ → ℕ → F .f32 :=
  fun r k => if 8 * r + k / 16 < n then z else w r k

variable {i : grid1.Coords} {d : Dev nD} {dfs : Defs nD τ sig (Elt F) Λ₀} {st : Memref sig .scVector .vmem S16x128 .f32}
variable {w : ℕ → ℕ → F .f32} {z : F .f32} {α : Type}

/-- One group set, and then `k`, -/
theorem tr_zst {n s c : ℕ} {hi hx hm} {k : PUnit → Pg F i α} {v : α} {P : sProp 𝕄} (h : Tr i d dfs (Holds i d st (zeroed w z (n + 1))) (k ⟨⟩) v P)
    (hn : 16 * n = 128 * s + c := by rfl) :
    Tr i d dfs (Holds i d st (zeroed w z n))
      (Prog.lift (.store st (Rect.unit (s := S16x128) ![s, c] S1x16.size hi) (shapeCast S1x16 (fun _ : S16.Idx => z) shapeCasts_S16_S1x16)
        Finset.univ hx hm) >>= k) v P := by
  have h1 : c + 16 ≤ 128 := hi 1
  refine Tr.bind (Tr.store i d dfs st _ (zeroed w z (n + 1)) s c _ rfl hi _ hx hm (fun j => ?_) (fun a b hb hab => ?_)) h
  · rw [shapeCast_a_1a_apply]
    unfold zeroed
    rw [if_pos (by omega)]
  · have hb' : b < 128 := hb
    unfold zeroed
    by_cases h2 : 8 * a + b / 16 < n
    · rw [if_pos h2, if_pos (by omega)]
    · rw [if_neg h2, if_neg (by omega)]

/-- the group read before, -/
theorem tr_zld {n s c : ℕ} {hi hl} {k : Vec F S1x16 .f32 → Pg F i α} {v : α} {P : sProp 𝕄}
    (h : ∀ y, y = (fun y : S1x16.Idx => zeroed w z n s (c + (y 1).val)) → Tr i d dfs (Holds i d st (zeroed w z n)) (k y) v P) :
    Tr i d dfs (Holds i d st (zeroed w z n))
      (Prog.lift (.load st (Rect.unit (s := S16x128) ![s, c] S1x16.size hi).toLoadRect hl) >>= k) v P :=
  Tr.bind (Tr.load i d dfs st _ s c _ rfl hi hl) (h _ rfl)

variable (i d dfs st) (arg2 : Memref sig .scVector .hbm S32768x1024 .f32) (harg2 : arg2.IsWhole)
  (arg3 : Memref sig .scVector .hbm S8x128 .i32) (harg3 : arg3.IsWhole) (arg4 : Memref sig .scVector .hbm S4x16x1024 .f32)
  (harg4 : arg4.IsWhole) (arg5 : Memref sig .scVector .vmem S8x128 .i32) (harg5 : arg5.IsWhole)
  (arg6 : Memref sig .scVector .vmem S256x128 .f32) (harg6 : arg6.IsWhole) (arg7 : Memref sig .scVector .vmem S256x128 .f32)
  (harg7 : arg7.IsWhole) (arg8 : Memref sig .scVector .vmem S16x128 .f32) (harg8 : arg8.IsWhole)
  (arg9 : DmaSems sig S_) (v588_r0 : DmaSems sig S_) (v588_r1 : DmaSems sig S_) (w : ℕ → ℕ → F .f32) (z : F .f32)

theorem tr_part291 : Tr i d dfs (Holds i d arg8 (zeroed w z 3))
    (k1_part291 i arg2 harg2 arg3 harg3 arg4 harg4 arg5 harg5 arg6 harg6 arg7 harg7 arg8 harg8 arg9 v588_r0 v588_r1 (fun _ => z))
    (fun y : S1x16.Idx => zeroed w z 11 1 (48 + (y 1).val)) (Holds i d arg8 (zeroed w z 11)) := by
  unfold k1_part291
  iterate 8 (refine tr_zld ?_; rintro _ rfl; refine tr_zst ?_)
  refine tr_zld ?_; rintro _ rfl
  exact Tr.pure i d dfs _ _

theorem tr_part292 (u : Vec F S1x16 .f32) : Tr i d dfs (Holds i d arg8 (zeroed w z 11))
    (k1_part292 i arg2 harg2 arg3 harg3 arg4 harg4 arg5 harg5 arg6 harg6 arg7 harg7 arg8 harg8 arg9 v588_r0 v588_r1 (fun _ => z) u)
    2#32 (Holds i d arg8 (zeroed w z 20)) := by
  unfold k1_part292
  refine tr_zst ?_
  iterate 8 (refine tr_zld ?_; rintro _ rfl; refine tr_zst ?_)
  exact Tr.pure i d dfs _ _

theorem tr_part293 (u : BitVec 32) : Tr i d dfs (Holds i d arg8 (zeroed w z 20))
    (k1_part293 i arg2 harg2 arg3 harg3 arg4 harg4 arg5 harg5 arg6 harg6 arg7 harg7 arg8 harg8 arg9 v588_r0 v588_r1 (fun _ => z) u)
    ⟨⟩ (Holds i d arg8 (zeroed w z 28)) := by
  unfold k1_part293
  iterate 8 (refine tr_zld ?_; rintro _ rfl; refine tr_zst ?_)
  refine tr_zld ?_; rintro _ rfl
  exact Tr.pure i d dfs _ _

theorem tr_part294 : Tr i d dfs (Holds i d arg8 (zeroed w z 28))
    (k1_part294 i arg2 harg2 arg3 harg3 arg4 harg4 arg5 harg5 arg6 harg6 arg7 harg7 arg8 harg8 arg9 v588_r0 v588_r1 (fun _ => z))
    ⟨⟩ (Holds i d arg8 (zeroed w z 37)) := by
  unfold k1_part294
  refine tr_zst ?_
  iterate 8 (refine tr_zld ?_; rintro _ rfl; refine tr_zst ?_)
  exact Tr.pure i d dfs _ _

theorem tr_part295 : Tr i d dfs (Holds i d arg8 (zeroed w z 37))
    (k1_part295 i arg2 harg2 arg3 harg3 arg4 harg4 arg5 harg5 arg6 harg6 arg7 harg7 arg8 harg8 arg9 v588_r0 v588_r1 (fun _ => z))
    (shapeCast S1x16 (fun _ : S16.Idx => z) shapeCasts_S16_S1x16) (Holds i d arg8 (zeroed w z 45)) := by
  unfold k1_part295
  iterate 8 (refine tr_zld ?_; rintro _ rfl; refine tr_zst ?_)
  refine tr_zld ?_; rintro _ rfl
  exact Tr.pure i d dfs _ _

theorem tr_part296 : Tr i d dfs (Holds i d arg8 (zeroed w z 45))
    (k1_part296 i arg2 harg2 arg3 harg3 arg4 harg4 arg5 harg5 arg6 harg6 arg7 harg7 arg8 harg8 arg9 v588_r0 v588_r1 (fun _ => z) (shapeCast S1x16 (fun _ : S16.Idx => z) shapeCasts_S16_S1x16))
    ⟨⟩ (Holds i d arg8 (zeroed w z 54)) := by
  unfold k1_part296
  refine tr_zst ?_
  iterate 8 (refine tr_zld ?_; rintro _ rfl; refine tr_zst ?_)
  exact Tr.pure i d dfs _ _

theorem tr_part297 : Tr i d dfs (Holds i d arg8 (zeroed w z 54))
    (k1_part297 i arg2 harg2 arg3 harg3 arg4 harg4 arg5 harg5 arg6 harg6 arg7 harg7 arg8 harg8 arg9 v588_r0 v588_r1 (fun _ => z))
    ⟨⟩ (Holds i d arg8 (zeroed w z 63)) := by
  unfold k1_part297
  iterate 9 (refine tr_zld ?_; rintro _ rfl; refine tr_zst ?_)
  exact Tr.pure i d dfs _ _

theorem tr_part298 : Tr i d dfs (Holds i d arg8 (zeroed w z 63))
    (k1_part298 i arg2 harg2 arg3 harg3 arg4 harg4 arg5 harg5 arg6 harg6 arg7 harg7 arg8 harg8 arg9 v588_r0 v588_r1 (fun _ => z))
    (fun y : S1x16.Idx => zeroed w z 71 8 (112 + (y 1).val)) (Holds i d arg8 (zeroed w z 71)) := by
  unfold k1_part298
  iterate 8 (refine tr_zld ?_; rintro _ rfl; refine tr_zst ?_)
  refine tr_zld ?_; rintro _ rfl
  exact Tr.pure i d dfs _ _

theorem tr_part299 (u : Vec F S1x16 .f32) : Tr i d dfs (Holds i d arg8 (zeroed w z 71))
    (k1_part299 i arg2 harg2 arg3 harg3 arg4 harg4 arg5 harg5 arg6 harg6 arg7 harg7 arg8 harg8 arg9 v588_r0 v588_r1 (fun _ => z) u)
    10#32 (Holds i d arg8 (zeroed w z 80)) := by
  unfold k1_part299
  refine tr_zst ?_
  iterate 8 (refine tr_zld ?_; rintro _ rfl; refine tr_zst ?_)
  exact Tr.pure i d dfs _ _

theorem tr_part300 (u : BitVec 32) : Tr i d dfs (Holds i d arg8 (zeroed w z 80))
    (k1_part300 i arg2 harg2 arg3 harg3 arg4 harg4 arg5 harg5 arg6 harg6 arg7 harg7 arg8 harg8 arg9 v588_r0 v588_r1 (fun _ => z) u)
    ⟨⟩ (Holds i d arg8 (zeroed w z 88)) := by
  unfold k1_part300
  iterate 8 (refine tr_zld ?_; rintro _ rfl; refine tr_zst ?_)
  refine tr_zld ?_; rintro _ rfl
  exact Tr.pure i d dfs _ _

theorem tr_part301 : Tr i d dfs (Holds i d arg8 (zeroed w z 88))
    (k1_part301 i arg2 harg2 arg3 harg3 arg4 harg4 arg5 harg5 arg6 harg6 arg7 harg7 arg8 harg8 arg9 v588_r0 v588_r1 (fun _ => z))
    ⟨⟩ (Holds i d arg8 (zeroed w z 97)) := by
  unfold k1_part301
  refine tr_zst ?_
  iterate 8 (refine tr_zld ?_; rintro _ rfl; refine tr_zst ?_)
  exact Tr.pure i d dfs _ _

theorem tr_part302 : Tr i d dfs (Holds i d arg8 (zeroed w z 97))
    (k1_part302 i arg2 harg2 arg3 harg3 arg4 harg4 arg5 harg5 arg6 harg6 arg7 harg7 arg8 harg8 arg9 v588_r0 v588_r1 (fun _ => z))
    (shapeCast S1x16 (fun _ : S16.Idx => z) shapeCasts_S16_S1x16) (Holds i d arg8 (zeroed w z 105)) := by
  unfold k1_part302
  iterate 8 (refine tr_zld ?_; rintro _ rfl; refine tr_zst ?_)
  refine tr_zld ?_; rintro _ rfl
  exact Tr.pure i d dfs _ _

theorem tr_part303 : Tr i d dfs (Holds i d arg8 (zeroed w z 105))
    (k1_part303 i arg2 harg2 arg3 harg3 arg4 harg4 arg5 harg5 arg6 harg6 arg7 harg7 arg8 harg8 arg9 v588_r0 v588_r1 (fun _ => z) (shapeCast S1x16 (fun _ : S16.Idx => z) shapeCasts_S16_S1x16))
    ⟨⟩ (Holds i d arg8 (zeroed w z 114)) := by
  unfold k1_part303
  refine tr_zst ?_
  iterate 8 (refine tr_zld ?_; rintro _ rfl; refine tr_zst ?_)
  exact Tr.pure i d dfs _ _

theorem tr_part304 : Tr i d dfs (Holds i d arg8 (zeroed w z 114))
    (k1_part304 i arg2 harg2 arg3 harg3 arg4 harg4 arg5 harg5 arg6 harg6 arg7 harg7 arg8 harg8 arg9 v588_r0 v588_r1 (fun _ => z))
    ⟨⟩ (Holds i d arg8 (zeroed w z 123)) := by
  unfold k1_part304
  iterate 9 (refine tr_zld ?_; rintro _ rfl; refine tr_zst ?_)
  exact Tr.pure i d dfs _ _

end Cert.Proof.Seg
-- ==== Proof.Fetch.lean ====
/-
  The copies of a tile task: a chunk of the table asked for and waited for, and what a trip of the outer loop leaves.
-/
module

public import proofs.«01_k».proof.Proof.Coord
public import proofs.«01_k».proof.Proof.Segs
public import proofs.«01_k».proof.Proof.Zero
public import Idealize.ShloMosaic.Lib.SparseCore.FromWhole

@[expose] public section

noncomputable section

namespace Cert.Proof.Seg

open Cert.KernelIdeal

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Facts]
open Facts₀ Facts

local notation "𝕄" => MT nD τ sig (HIx 1) (Elt F) ℕ UU ℕ

theorem Holds_congr {i : grid1.Coords} {d : Dev nD} {R C : ℕ} {b : Memref sig .scVector .vmem ⟨2, ![R, C]⟩ .f32} {w w' : ℕ → ℕ → F .f32}
    (h : ∀ r c, r < R → c < C → w r c = w' r c) : Holds i d b w ⊢ Holds i d b w' := by
  unfold Holds
  iintro ⟨%f, %hf, Hb⟩
  iexists f
  isplitr
  · ipureintro; intro r c; rw [hf, h _ _ r.isLt c.isLt]
  iexact Hb

/-- The buffer `b`, whatever it holds. -/
def Any (i : grid1.Coords) (d : Dev nD) {sp : Space} {s : Shape} {e : EltTy} (b : Memref sig .scVector sp s e) : sProp 𝕄 :=
  iprop(∃ f, b.view.loc (thr i d) ↦{fullShare} f)

theorem Holds_any {i : grid1.Coords} {d : Dev nD} {R C : ℕ} {b : Memref sig .scVector .vmem ⟨2, ![R, C]⟩ .f32} {w : ℕ → ℕ → F .f32} :
    Holds i d b w ⊢ Any i d b := by
  unfold Holds Any
  iintro ⟨%f, %hf, Hb⟩
  iexists f; iexact Hb

/-- What the tile's thread owes the others, and that its own waits are allowed. -/
def Owes (i : grid1.Coords) (d : Dev nD) (O : CellTallies nD τ sig (HIx 1)) (W : Waits sig (HIx 1)) : sProp 𝕄 :=
  iprop(Transfers.MayWaits (thr i d) (default : HIx 1) O ∗ ∃ W', ⌜∀ p ∈ W', p ∈ W ∨ p.2 = none⌝ ∗ owes (thr i d) O W')

/-- A copy into the buffer `b` under way: when it ends, `D`. -/
def Fl (i : grid1.Coords) (d : Dev nD) {sp : Space} {s : Shape} {e : EltTy} (sem : DmaSems sig S_) (b : Memref sig .scVector sp s e) (D : sProp 𝕄) : sProp 𝕄 :=
  Transfers.Flight countersEmb (thr i d) (.dma sem.sem) (default : HIx 1) b.view.dmaCredit D

variable (i : grid1.Coords) (d : Dev nD) (dfs : Defs nD τ sig (Elt F) Λ₀) (O : CellTallies nD τ sig (HIx 1)) (W : Waits sig (HIx 1))

/-- The end of a copy, waited for. -/
theorem tr_wait {sp sp' : Space} {s s' : Shape} {e e' : EltTy} (sem : DmaSems sig S_) (src : Memref sig .scVector sp' s' e') (b : Memref sig .scVector sp s e) (h1 h2) (D : sProp 𝕄) :
    Tr i d dfs iprop(Fl i d sem b D ∗ Owes i d O W) (Prog.lift (.waitDma2 sem.sem src b h1 h2) : Pg F i PUnit) ⟨⟩
      iprop(D ∗ semVal (thr i d, .dma sem.sem) 0 ∗ Owes i d O W) := by
  intro Q
  unfold Fl Owes
  iintro ⟨⟨Hfl, #Hmw, ⟨%W', %hW, HO⟩⟩, HQ⟩
  iapply (Transfers.wp_waitLocalO countersEmb Variants.none (thr i d) none (default : HIx 1) rfl) $$ [Hfl HO]
  · isplitl [Hfl]; · iexact Hfl
    isplitl [HO]; · iexact HO
    iapply (Transfers.MayWaits.elim (SemLoc.dma sem.sem)); iexact Hmw
  iintro ⟨HD, Hs, HO⟩
  rw [wp_ret]
  imodintro
  iapply HQ
  isplitl [HD]; · iexact HD
  isplitl [Hs]; · iexact Hs
  isplitr; · iexact Hmw
  iexists _
  isplitr
  swap; · iexact HO
  ipureintro
  intro p hp
  rcases Finset.mem_insert.mp hp with h | h
  · right; rw [h]; rfl
  · exact hW p h

/-- A copy of a whole array or of a part of it into the whole of the buffer `b`. -/
theorem tr_dma {sp sp' : Space} {s : Shape} {e : EltTy} (sem : DmaSems sig S_) (src : Memref sig .scVector sp s e) (b : Memref sig .scVector sp' s e) (hb : b.IsWhole) (h1 h2 h3)
    (q : PosShare TreeShare) (X : Buf (Elt F) (src.view.loc (thr i d))) (hs : 0 < s.numel) :
    Tr i d dfs iprop((src.view.loc (thr i d) ↦{q} X) ∗ Any i d b ∗ semVal (thr i d, .dma sem.sem) 0)
      (Prog.lift (.enqueueDma src (.here b) (.dma sem.sem) h1 h2 h3) : Pg F i PUnit) ⟨⟩
      (Fl i d sem b iprop((∃ f, ⌜b.view.read (Elt F) f = src.view.read (Elt F) X⌝ ∗ (b.view.loc (thr i d) ↦{fullShare} f)) ∗ (src.view.loc (thr i d) ↦{q} X))) := by
  intro Q
  unfold Fl Any
  iintro ⟨⟨Hx, ⟨%f, Hb⟩, Hs⟩, HQ⟩
  iapply (Transfers.wp_dmaFromWhole countersEmb Variants.none (thr i d) none (default : HIx 1) b.view.dmaCredit rfl (View.dmaCredit_pos _ hs) (Sd := Finset.univ) (Finset.subset_univ _)) $$ [Hx Hb Hs]
  · isplitl [Hx]; · iexact Hx
    isplitl [Hb]; · iexact Hb
    iexact Hs
  iintro Hfl
  rw [wp_ret]
  imodintro
  iapply HQ
  iapply (Transfers.Flight_mono countersEmb (thr i d) _) $$ [Hfl]
  swap; · iexact Hfl
  iintro ⟨Hb, Hx⟩
  isplitl [Hb]
  · iexists _
    isplitr
    swap; · iexact Hb
    ipureintro
    exact View.read_write_univ _ _
  iexact Hx

section Chunks

variable {x : Memref sig .scVector .hbm S32768x1024 .f32} {q : PosShare TreeShare} {X : Buf (Elt F) (x.view.loc (thr i d))} {tab : ℕ → ℕ → F .f32}
  (hx : ∀ (r : Fin 32768) (c : Fin 1024), x.view.read (Elt F) X (ix2 r c) = tab r c)

/-- The buffer `b` holding `w`, and the share of the table. -/
abbrev HX (q : PosShare TreeShare) (X : Buf (Elt F) (x.view.loc (thr i d))) (b : Memref sig .scVector .vmem S256x128 .f32) (w : ℕ → ℕ → F .f32) : sProp 𝕄 :=
  iprop(Holds i d b w ∗ (x.view.loc (thr i d) ↦{q} X))

include hx

/-- Rows `r0` to `r0 + 255` of the table, features `c0` to `c0 + 127`, asked for. -/
theorem tr_start (sem : DmaSems sig S_) (b : Memref sig .scVector .vmem S256x128 .f32) (hb : b.IsWhole) (o : Fin 2 → ℕ) (ho : ∀ a, o a + S256x128.size a ≤ S32768x1024.size a) (h1 h2 h3) (r0 c0 : ℕ) (e0 : o 0 = r0) (e1 : o 1 = c0) :
    Tr i d dfs iprop((x.view.loc (thr i d) ↦{q} X) ∗ Any i d b ∗ semVal (thr i d, .dma sem.sem) 0)
      (Prog.lift (.enqueueDma (x.slice (Rect.unit (s := S32768x1024) o S256x128.size ho) (fun _ => rfl)) (.here b) (.dma sem.sem) h1 h2 h3) : Pg F i PUnit) ⟨⟩
      (Fl i d sem b (HX i d q X b fun r c => tab (r0 + r) (c0 + c))) := by
  subst e0 e1
  refine Tr.mono (tr_dma i d dfs sem (x.slice (Rect.unit (s := S32768x1024) o S256x128.size ho) (fun _ => rfl)) b hb h1 h2 h3 q X (show 0 < S256x128.numel by decide)) .rfl ?_
  unfold Fl
  refine Transfers.Flight_mono countersEmb (thr i d) ?_
  unfold HX Holds
  iintro ⟨⟨%f, %hf, Hb⟩, Hx⟩
  isplitl [Hb]
  · iexists f
    isplitr
    swap; · iexact Hb
    ipureintro
    intro r c
    have hr : o 0 + 256 ≤ 32768 := ho 0
    have hc : o 1 + 128 ≤ 1024 := ho 1
    rw [hf]
    have := hx ⟨o 0 + r.val, by omega⟩ ⟨o 1 + c.val, by omega⟩
    refine Eq.trans ?_ this
    show x.view.read (Elt F) X ((Rect.unit (s := S32768x1024) o S256x128.size ho).emb (ix2 r c)) = _
    congr 1
    funext a
    fin_cases a
    · apply Fin.ext; show o 0 + 1 * r.val = o 0 + r.val; omega
    · apply Fin.ext; show o 1 + 1 * c.val = o 1 + c.val; omega
  iexact Hx

variable {buf nxt : Memref sig .scVector .vmem S256x128 .f32} {hbuf : buf.IsWhole} {hnxt : nxt.IsWhole} {sem : DmaSems sig S_} {β : Type}

/-- The chunk in `buf` arrives, and the next one is asked for. -/
theorem tr_fetch1 (o' : Fin 2 → ℕ) (ho' : ∀ a, o' a + S256x128.size a ≤ S32768x1024.size a) (c : BitVec 1) (o : Fin 2 → ℕ) (ho : c = 1#1 → ∀ a, o a + S256x128.size a ≤ S32768x1024.size a) (r : β)
    (hc : c = 1#1) (w : ℕ → ℕ → F .f32) (r0 c0 : ℕ) (e0 : o 0 = r0) (e1 : o 1 = c0) :
    Tr i d dfs iprop((Fl i d sem buf (HX i d q X buf w) ∗ Owes i d O W) ∗ Any i d nxt)
      (fetchK i x buf hbuf nxt hnxt sem o' ho' c o ho r) r
      iprop(Holds i d buf w ∗ Owes i d O W ∗ Fl i d sem nxt (HX i d q X nxt fun r c => tab (r0 + r) (c0 + c))) := by
  unfold fetchK
  refine Tr.bind ((tr_wait i d dfs O W sem _ buf _ _ _).frameR _) ?_
  rw [dif_pos hc]
  refine Tr.bind (Tr.mono ((tr_start (q := q) i d dfs hx sem nxt hnxt o (ho hc) _ _ _ r0 c0 e0 e1).frameL iprop(Holds i d buf w ∗ Owes i d O W)) ?_ .rfl) ?_
  · iintro ⟨⟨⟨Hb, Hx⟩, Hs, HO⟩, Hn⟩
    iframe
  refine Tr.mono (Tr.pure i d dfs _ r) ?_ .rfl
  iintro ⟨⟨Hb, HO⟩, Hf⟩
  iframe

/-- The chunk in `buf` arrives, the last one. -/
theorem tr_fetch0 (o' : Fin 2 → ℕ) (ho' : ∀ a, o' a + S256x128.size a ≤ S32768x1024.size a) (c : BitVec 1) (o : Fin 2 → ℕ) (ho : c = 1#1 → ∀ a, o a + S256x128.size a ≤ S32768x1024.size a) (r : β)
    (hc : ¬c = 1#1) (w : ℕ → ℕ → F .f32) :
    Tr i d dfs iprop((Fl i d sem buf (HX i d q X buf w) ∗ Owes i d O W) ∗ Any i d nxt)
      (fetchK i x buf hbuf nxt hnxt sem o' ho' c o ho r) r
      iprop(Holds i d buf w ∗ Owes i d O W ∗ (x.view.loc (thr i d) ↦{q} X) ∗ semVal (thr i d, .dma sem.sem) 0 ∗ Any i d nxt) := by
  unfold fetchK
  refine Tr.bind ((tr_wait i d dfs O W sem _ buf _ _ _).frameR _) ?_
  rw [dif_neg hc]
  refine Tr.mono (Tr.pure i d dfs _ r) ?_ .rfl
  iintro ⟨⟨⟨Hb, Hx⟩, Hs, HO⟩, Hn⟩
  iframe

/-! ## A trip -/

/-- A chunk beginning at row `m`, with its values in `w`, added to the table `g` of the segments' sums. -/
def chunkTo (w : ℕ → ℕ → F .f32) (z : F .f32) (m : ℕ) (P : ℕ → ℕ) (v : ℕ → BitVec 32) (g : ℕ → ℕ → F .f32) : ℕ → ℕ → F .f32 :=
  if manySegs (BitVec.ofNat 32 m) v = 1#1 then
    mixTo w z m P 16 (if oneSeg (BitVec.ofNat 32 m) v = 1#1 then uniTo w z (Scalar.indexCast (segOf (BitVec.ofNat 32 m) v)).toNat g else g)
  else if oneSeg (BitVec.ofNat 32 m) v = 1#1 then uniTo w z (Scalar.indexCast (segOf (BitVec.ofNat 32 m) v)).toNat g else g

/-- The tile's chunk `n`, from the table of all values. -/
def chunk (i : grid1.Coords) (tab : ℕ → ℕ → F .f32) (n : ℕ) : ℕ → ℕ → F .f32 := fun r c => tab (rowN i + 256 * n + r) (colN i + c)

/-- The segments' sums after the tile's first `n` chunks. -/
def sums (i : grid1.Coords) (tab : ℕ → ℕ → F .f32) (z : F .f32) (P : ℕ → ℕ) (v : ℕ → BitVec 32) : ℕ → ℕ → ℕ → F .f32
  | 0 => fun _ _ => z
  | n + 1 => chunkTo (chunk i tab n) z (rowN i + 256 * n) P v (sums i tab z P v n)

variable {b0 b1 : Memref sig .scVector .vmem S256x128 .f32} (hb0 : b0.IsWhole) (hb1 : b1.IsWhole) {st : Memref sig .scVector .vmem S16x128 .f32}
  (P : ℕ → ℕ) (v : ℕ → BitVec 32) (hP : ∀ n, P n < 2 ^ 30) (hv : ∀ n ≤ 16, v n = BitVec.ofNat 32 (P n)) (z : F .f32)

omit hx in
include hP hv in
/-- A chunk in the buffer, added to the stage, by whichever of the two branches. -/
theorem trk_chunk (w g : ℕ → ℕ → F .f32) (m : ℕ) (hm : m < 2 ^ 30) (base : BitVec 32) (hbase : base = BitVec.ofNat 32 m) (H H' u) (k : Pg F i β) :
    Trk i d dfs iprop(Holds i d buf w ∗ Holds i d st g) (uniK i buf st (fun _ => z) base v H (mixK i buf st (fun _ => z) base v H' u k)) k
      iprop(Holds i d buf w ∗ Holds i d st (chunkTo w z m P v g)) := by
  refine Trk.trans (trk_uniK w g z v H _) ?_
  have h := trk_mixK (i := i) (d := d) (dfs := dfs) (buf := buf) (st := st) w (if oneSeg base v = 1#1 then uniTo w z (Scalar.indexCast (segOf base v)).toNat g else g) z m P v hm hP hv hbase H' u k
  subst hbase
  exact h

omit hx in
theorem Trk.frameR {P P' : sProp 𝕄} {p k : Pg F i β} (h : Trk i d dfs P p k P') (R : sProp 𝕄) :
    Trk i d dfs iprop(P ∗ R) p k iprop(P' ∗ R) := by
  intro Q
  iintro ⟨⟨HP, HR⟩, HQ⟩
  iapply (h Q)
  isplitl [HP]; · iexact HP
  iintro HP
  iapply HQ
  isplitl [HP] <;> iassumption

include hP hv in
/-- A chunk arrives, the next one is asked for, and the first is added to the stage. -/
theorem trk_half1 (o' : Fin 2 → ℕ) (ho' : ∀ a, o' a + S256x128.size a ≤ S32768x1024.size a) (c : BitVec 1) (o : Fin 2 → ℕ) (ho : c = 1#1 → ∀ a, o a + S256x128.size a ≤ S32768x1024.size a) (r : β)
    (hc : c = 1#1) (w w' g : ℕ → ℕ → F .f32) (r0 c0 : ℕ) (e0 : o 0 = r0) (e1 : o 1 = c0) (hw' : w' = fun r c => tab (r0 + r) (c0 + c)) (m : ℕ) (hm : m < 2 ^ 30)
    (base : BitVec 32) (hbase : base = BitVec.ofNat 32 m) (H H') (u : β → BitVec 32) {γ : Type} (l : β → Pg F i γ) :
    Trk i d dfs iprop(Fl i d sem buf (HX i d q X buf w) ∗ Owes i d O W ∗ Any i d nxt ∗ Holds i d st g)
      (fetchK i x buf hbuf nxt hnxt sem o' ho' c o ho r >>= fun p => uniK i buf st (fun _ => z) base v H (mixK i buf st (fun _ => z) base v H' (u p) (l p)))
      (l r)
      iprop(Fl i d sem nxt (HX i d q X nxt w') ∗ Owes i d O W ∗ Any i d buf ∗ Holds i d st (chunkTo w z m P v g)) := by
  subst hw'
  refine Tr.bindk (P' := iprop((Holds i d buf w ∗ Holds i d st g) ∗ (Owes i d O W ∗ Fl i d sem nxt (HX i d q X nxt fun r c => tab (r0 + r) (c0 + c)))))
    (Tr.mono ((tr_fetch1 i d dfs O W hx (q := q) o' ho' c o ho r hc w r0 c0 e0 e1).frameR (Holds i d st g)) ?_ ?_) ?_
  · iintro ⟨H1, H2, H3, H4⟩
    iframe
  · iintro ⟨⟨H1, H2, H3⟩, H4⟩
    iframe
  · intro Q
    refine BIBase.Entails.trans ?_ (Trk.frameR i d dfs (trk_chunk i d dfs P v hP hv z w g m hm base hbase H H' (u r) (l r)) iprop(Owes i d O W ∗ Fl i d sem nxt (HX i d q X nxt fun r c => tab (r0 + r) (c0 + c))) Q)
    iintro ⟨H1, HQ⟩
    isplitl [H1]; · iexact H1
    iintro ⟨⟨Hb, Hst⟩, HO, Hf⟩
    iapply HQ
    ihave Hb := Holds_any $$ Hb
    iframe

include hP hv in
/-- The last chunk arrives and is added to the stage. -/
theorem trk_half0 (o' : Fin 2 → ℕ) (ho' : ∀ a, o' a + S256x128.size a ≤ S32768x1024.size a) (c : BitVec 1) (o : Fin 2 → ℕ) (ho : c = 1#1 → ∀ a, o a + S256x128.size a ≤ S32768x1024.size a) (r : β)
    (hc : ¬c = 1#1) (w g : ℕ → ℕ → F .f32) (m : ℕ) (hm : m < 2 ^ 30)
    (base : BitVec 32) (hbase : base = BitVec.ofNat 32 m) (H H') (u : β → BitVec 32) {γ : Type} (l : β → Pg F i γ) :
    Trk i d dfs iprop(Fl i d sem buf (HX i d q X buf w) ∗ Owes i d O W ∗ Any i d nxt ∗ Holds i d st g)
      (fetchK i x buf hbuf nxt hnxt sem o' ho' c o ho r >>= fun p => uniK i buf st (fun _ => z) base v H (mixK i buf st (fun _ => z) base v H' (u p) (l p)))
      (l r)
      iprop(((x.view.loc (thr i d) ↦{q} X) ∗ semVal (thr i d, .dma sem.sem) 0 ∗ Any i d nxt) ∗ Owes i d O W ∗ Any i d buf ∗ Holds i d st (chunkTo w z m P v g)) := by
  refine Tr.bindk (P' := iprop((Holds i d buf w ∗ Holds i d st g) ∗ (Owes i d O W ∗ (x.view.loc (thr i d) ↦{q} X) ∗ semVal (thr i d, .dma sem.sem) 0 ∗ Any i d nxt)))
    (Tr.mono ((tr_fetch0 i d dfs O W hx (q := q) o' ho' c o ho r hc w).frameR (Holds i d st g)) ?_ ?_) ?_
  · iintro ⟨H1, H2, H3, H4⟩
    iframe
  · iintro ⟨⟨H1, H2, H3⟩, H4⟩
    iframe
  · intro Q
    refine BIBase.Entails.trans ?_ (Trk.frameR i d dfs (trk_chunk i d dfs P v hP hv z w g m hm base hbase H H' (u r) (l r)) iprop(Owes i d O W ∗ (x.view.loc (thr i d) ↦{q} X) ∗ semVal (thr i d, .dma sem.sem) 0 ∗ Any i d nxt) Q)
    iintro ⟨H1, HQ⟩
    isplitl [H1]; · iexact H1
    iintro ⟨⟨Hb, Hst⟩, HO, Hf⟩
    iapply HQ
    ihave Hb := Holds_any $$ Hb
    iframe

/-- What stands before trip `n`. -/
def Inv (tab : ℕ → ℕ → F .f32) (q : PosShare TreeShare) (X : Buf (Elt F) (x.view.loc (thr i d))) (sem : DmaSems sig S_)
    (b0 b1 : Memref sig .scVector .vmem S256x128 .f32) (st : Memref sig .scVector .vmem S16x128 .f32) (P : ℕ → ℕ) (v : ℕ → BitVec 32) (z : F .f32) (n : ℕ) : sProp 𝕄 :=
  iprop((if n < 16 then Fl i d sem b0 (HX i d q X b0 (chunk i tab (2 * n)))
      else iprop((x.view.loc (thr i d) ↦{q} X) ∗ semVal (thr i d, .dma sem.sem) 0 ∗ Any i d b0))
    ∗ Owes i d O W ∗ Any i d b1 ∗ Holds i d st (sums i tab z P v (2 * n)))

include hP hv in
theorem tr_trip (t : Fin k1_t1_loop.trips) (H : TripOK i v t) :
    Tr i d dfs (Inv i d O W tab q X sem b0 b1 st P v z t.val) (trip i x b0 hb0 b1 hb1 st sem v (fun _ => z) t H) ⟨⟩
      (Inv i d O W tab q X sem b0 b1 st P v z (t.val + 1)) := by
  have ht : t.val < 16 := trips16 ▸ t.isLt
  have hi := tileN_lt i
  have hr : rowN i + 256 * 32 ≤ 2 ^ 29 := by unfold rowN; omega
  unfold trip Inv
  rw [if_pos ht]
  refine Trk.tr (trk_half1 i d dfs O W hx P v hP hv z (k1_off2 i) (k1_off2_inb i) _ _ _ _ (cond1_one t) _ (chunk i tab (2 * t.val + 1)) _
    (rowN i + 256 * (2 * t.val + 1)) (colN i) (off3_word i t).1 (off3_word i t).2 rfl (rowN i + 256 * (2 * t.val)) (by omega) _ (base0_word i t.val) H.U0 H.H0 _ _) ?_
  rw [dif_pos (cond20_one t)]
  by_cases hc : k1_cond21 t = 1#1
  · have ht1 : t.val + 1 < 16 := (cond21_iff t).mp hc
    rw [if_pos ht1]
    refine Trk.tr (trk_half1 i d dfs O W hx P v hP hv z (k1_off532 i) _ _ _ _ _ hc _ (chunk i tab (2 * (t.val + 1))) _
      (rowN i + 256 * (2 * t.val + 2)) (colN i) (off533_word i t).1 (off533_word i t).2 rfl (rowN i + 256 * (2 * t.val + 1)) (by omega) _ (base1_word i t.val) H.U1 H.H1 _ _) ?_
    exact Tr.pure i d dfs _ _
  · have ht1 : ¬t.val + 1 < 16 := fun h => hc ((cond21_iff t).mpr h)
    rw [if_neg ht1]
    refine Trk.tr (trk_half0 i d dfs O W hx P v hP hv z (k1_off532 i) _ _ _ _ _ hc _ _
      (rowN i + 256 * (2 * t.val + 1)) (by omega) _ (base1_word i t.val) H.U1 H.H1 _ _) ?_
    exact Tr.pure i d dfs _ _

end Chunks

end Cert.Proof.Seg
-- ==== Proof.Chk.lean ====
/-
  The kernel asks, of the words it reads from the table of bounds, that its loops' bounds be in order and its loads and
  stores lie in their buffers. They do, if every segment that has rows in a chunk has loops that read rows of the chunk,
  and every chunk that lies in one segment has that segment's number below sixteen.
-/
module

public import proofs.«01_k».proof.KernelIdeal.P04
public import proofs.«01_k».proof.Proof.Pieces

@[expose] public section

set_option maxHeartbeats 4000000
set_option maxRecDepth 20000

noncomputable section

namespace Cert.Proof.Seg

open Cert.KernelIdeal
open Idealize.ShloMosaic Idealize.SL.Sem

section

variable [Facts] (i : grid1.Coords) (v : ℕ → BitVec 32)
  (H0 : ∀ s, s < 16 → ∀ t : Fin k1_t1_loop.trips, cond (base0 i t) (v s) (v (s + 1)) = 1#1 → SegOK (base0 i t) (v s) (v (s + 1)))
  (H1 : ∀ s, s < 16 → ∀ t : Fin k1_t1_loop.trips, cond (base1 i t) (v s) (v (s + 1)) = 1#1 → SegOK (base1 i t) (v s) (v (s + 1)))
  (U0 : ∀ t : Fin k1_t1_loop.trips, oneSeg (base0 i t) v = 1#1 → (Scalar.indexCast (segOf (base0 i t) v)).toNat < 16)
  (U1 : ∀ t : Fin k1_t1_loop.trips, oneSeg (base1 i t) v = 1#1 → (Scalar.indexCast (segOf (base1 i t) v)).toNat < 16)
include H0 H1

theorem chk2_holds : k1_chk2 i (v 0) (v 1) (v 2) (v 3) (v 4) (v 5) (v 6) (v 7) (v 8) (v 9) (v 10) (v 11) (v 12) (v 13) (v 14) (v 15) (v 16) := by
  refine ⟨?_, ?_, ?_⟩ <;> and_intros
  exact fun t _ h => (H0 15 (by decide) t h).ok3; iterate 8 exact fun t k _ h r => at_inb _ _ ((H0 15 (by decide) t h).in3 k r) (by decide)
  exact fun t _ h => (H0 15 (by decide) t h).ok4; iterate 8 exact fun t k _ h r => at_inb _ _ ((H0 15 (by decide) t h).in4 k r) (by decide)
  exact fun t _ h => (H0 15 (by decide) t h).ok5; iterate 8 exact fun t k _ h => at_inb _ _ ((H0 15 (by decide) t h).in5 k) (by decide)
  exact fun t _ h => (H0 15 (by decide) t h).ok6; iterate 8 exact fun t k _ h => at_inb _ _ ((H0 15 (by decide) t h).in6 k) (by decide)
  exact fun t _ _ h => (H1 15 (by decide) t h).ok3; iterate 8 exact fun t k _ _ h r => at_inb _ _ ((H1 15 (by decide) t h).in3 k r) (by decide)
  exact fun t _ _ h => (H1 15 (by decide) t h).ok4; iterate 8 exact fun t k _ _ h r => at_inb _ _ ((H1 15 (by decide) t h).in4 k r) (by decide)
  exact fun t _ _ h => (H1 15 (by decide) t h).ok5; iterate 8 exact fun t k _ _ h => at_inb _ _ ((H1 15 (by decide) t h).in5 k) (by decide)
  exact fun t _ _ h => (H1 15 (by decide) t h).ok6; iterate 8 exact fun t k _ _ h => at_inb _ _ ((H1 15 (by decide) t h).in6 k) (by decide)

include U0 U1

theorem chk1_holds : k1_chk1 i (v 0) (v 1) (v 2) (v 3) (v 4) (v 5) (v 6) (v 7) (v 8) (v 9) (v 10) (v 11) (v 12) (v 13) (v 14) (v 15) := by
  unfold k1_chk1
  and_intros
  iterate 8 exact fun t h => st_inb _ _ (U0 t h) (by decide)
  exact fun t _ h => (H0 0 (by decide) t h).ok3; iterate 8 exact fun t k _ h r => at_inb _ _ ((H0 0 (by decide) t h).in3 k r) (by decide)
  exact fun t _ h => (H0 0 (by decide) t h).ok4; iterate 8 exact fun t k _ h r => at_inb _ _ ((H0 0 (by decide) t h).in4 k r) (by decide)
  exact fun t _ h => (H0 0 (by decide) t h).ok5; iterate 8 exact fun t k _ h => at_inb _ _ ((H0 0 (by decide) t h).in5 k) (by decide)
  exact fun t _ h => (H0 0 (by decide) t h).ok6; iterate 8 exact fun t k _ h => at_inb _ _ ((H0 0 (by decide) t h).in6 k) (by decide)
  exact fun t _ h => (H0 1 (by decide) t h).ok3; iterate 8 exact fun t k _ h r => at_inb _ _ ((H0 1 (by decide) t h).in3 k r) (by decide)
  exact fun t _ h => (H0 1 (by decide) t h).ok4; iterate 8 exact fun t k _ h r => at_inb _ _ ((H0 1 (by decide) t h).in4 k r) (by decide)
  exact fun t _ h => (H0 1 (by decide) t h).ok5; iterate 8 exact fun t k _ h => at_inb _ _ ((H0 1 (by decide) t h).in5 k) (by decide)
  exact fun t _ h => (H0 1 (by decide) t h).ok6; iterate 8 exact fun t k _ h => at_inb _ _ ((H0 1 (by decide) t h).in6 k) (by decide)
  exact fun t _ h => (H0 2 (by decide) t h).ok3; iterate 8 exact fun t k _ h r => at_inb _ _ ((H0 2 (by decide) t h).in3 k r) (by decide)
  exact fun t _ h => (H0 2 (by decide) t h).ok4; iterate 8 exact fun t k _ h r => at_inb _ _ ((H0 2 (by decide) t h).in4 k r) (by decide)
  exact fun t _ h => (H0 2 (by decide) t h).ok5; iterate 8 exact fun t k _ h => at_inb _ _ ((H0 2 (by decide) t h).in5 k) (by decide)
  exact fun t _ h => (H0 2 (by decide) t h).ok6; iterate 8 exact fun t k _ h => at_inb _ _ ((H0 2 (by decide) t h).in6 k) (by decide)
  exact fun t _ h => (H0 3 (by decide) t h).ok3; iterate 8 exact fun t k _ h r => at_inb _ _ ((H0 3 (by decide) t h).in3 k r) (by decide)
  exact fun t _ h => (H0 3 (by decide) t h).ok4; iterate 8 exact fun t k _ h r => at_inb _ _ ((H0 3 (by decide) t h).in4 k r) (by decide)
  exact fun t _ h => (H0 3 (by decide) t h).ok5; iterate 8 exact fun t k _ h => at_inb _ _ ((H0 3 (by decide) t h).in5 k) (by decide)
  exact fun t _ h => (H0 3 (by decide) t h).ok6; iterate 8 exact fun t k _ h => at_inb _ _ ((H0 3 (by decide) t h).in6 k) (by decide)
  exact fun t _ h => (H0 4 (by decide) t h).ok3; iterate 8 exact fun t k _ h r => at_inb _ _ ((H0 4 (by decide) t h).in3 k r) (by decide)
  exact fun t _ h => (H0 4 (by decide) t h).ok4; iterate 8 exact fun t k _ h r => at_inb _ _ ((H0 4 (by decide) t h).in4 k r) (by decide)
  exact fun t _ h => (H0 4 (by decide) t h).ok5; iterate 8 exact fun t k _ h => at_inb _ _ ((H0 4 (by decide) t h).in5 k) (by decide)
  exact fun t _ h => (H0 4 (by decide) t h).ok6; iterate 8 exact fun t k _ h => at_inb _ _ ((H0 4 (by decide) t h).in6 k) (by decide)
  exact fun t _ h => (H0 5 (by decide) t h).ok3; iterate 8 exact fun t k _ h r => at_inb _ _ ((H0 5 (by decide) t h).in3 k r) (by decide)
  exact fun t _ h => (H0 5 (by decide) t h).ok4; iterate 8 exact fun t k _ h r => at_inb _ _ ((H0 5 (by decide) t h).in4 k r) (by decide)
  exact fun t _ h => (H0 5 (by decide) t h).ok5; iterate 8 exact fun t k _ h => at_inb _ _ ((H0 5 (by decide) t h).in5 k) (by decide)
  exact fun t _ h => (H0 5 (by decide) t h).ok6; iterate 8 exact fun t k _ h => at_inb _ _ ((H0 5 (by decide) t h).in6 k) (by decide)
  exact fun t _ h => (H0 6 (by decide) t h).ok3; iterate 8 exact fun t k _ h r => at_inb _ _ ((H0 6 (by decide) t h).in3 k r) (by decide)
  exact fun t _ h => (H0 6 (by decide) t h).ok4; iterate 8 exact fun t k _ h r => at_inb _ _ ((H0 6 (by decide) t h).in4 k r) (by decide)
  exact fun t _ h => (H0 6 (by decide) t h).ok5; iterate 8 exact fun t k _ h => at_inb _ _ ((H0 6 (by decide) t h).in5 k) (by decide)
  exact fun t _ h => (H0 6 (by decide) t h).ok6; iterate 8 exact fun t k _ h => at_inb _ _ ((H0 6 (by decide) t h).in6 k) (by decide)
  exact fun t _ h => (H0 7 (by decide) t h).ok3; iterate 8 exact fun t k _ h r => at_inb _ _ ((H0 7 (by decide) t h).in3 k r) (by decide)
  exact fun t _ h => (H0 7 (by decide) t h).ok4; iterate 8 exact fun t k _ h r => at_inb _ _ ((H0 7 (by decide) t h).in4 k r) (by decide)
  exact fun t _ h => (H0 7 (by decide) t h).ok5; iterate 8 exact fun t k _ h => at_inb _ _ ((H0 7 (by decide) t h).in5 k) (by decide)
  exact fun t _ h => (H0 7 (by decide) t h).ok6; iterate 8 exact fun t k _ h => at_inb _ _ ((H0 7 (by decide) t h).in6 k) (by decide)
  exact fun t _ h => (H0 8 (by decide) t h).ok3; iterate 8 exact fun t k _ h r => at_inb _ _ ((H0 8 (by decide) t h).in3 k r) (by decide)
  exact fun t _ h => (H0 8 (by decide) t h).ok4; iterate 8 exact fun t k _ h r => at_inb _ _ ((H0 8 (by decide) t h).in4 k r) (by decide)
  exact fun t _ h => (H0 8 (by decide) t h).ok5; iterate 8 exact fun t k _ h => at_inb _ _ ((H0 8 (by decide) t h).in5 k) (by decide)
  exact fun t _ h => (H0 8 (by decide) t h).ok6; iterate 8 exact fun t k _ h => at_inb _ _ ((H0 8 (by decide) t h).in6 k) (by decide)
  exact fun t _ h => (H0 9 (by decide) t h).ok3; iterate 8 exact fun t k _ h r => at_inb _ _ ((H0 9 (by decide) t h).in3 k r) (by decide)
  exact fun t _ h => (H0 9 (by decide) t h).ok4; iterate 8 exact fun t k _ h r => at_inb _ _ ((H0 9 (by decide) t h).in4 k r) (by decide)
  exact fun t _ h => (H0 9 (by decide) t h).ok5; iterate 8 exact fun t k _ h => at_inb _ _ ((H0 9 (by decide) t h).in5 k) (by decide)
  exact fun t _ h => (H0 9 (by decide) t h).ok6; iterate 8 exact fun t k _ h => at_inb _ _ ((H0 9 (by decide) t h).in6 k) (by decide)
  exact fun t _ h => (H0 10 (by decide) t h).ok3; iterate 8 exact fun t k _ h r => at_inb _ _ ((H0 10 (by decide) t h).in3 k r) (by decide)
  exact fun t _ h => (H0 10 (by decide) t h).ok4; iterate 8 exact fun t k _ h r => at_inb _ _ ((H0 10 (by decide) t h).in4 k r) (by decide)
  exact fun t _ h => (H0 10 (by decide) t h).ok5; iterate 8 exact fun t k _ h => at_inb _ _ ((H0 10 (by decide) t h).in5 k) (by decide)
  exact fun t _ h => (H0 10 (by decide) t h).ok6; iterate 8 exact fun t k _ h => at_inb _ _ ((H0 10 (by decide) t h).in6 k) (by decide)
  exact fun t _ h => (H0 11 (by decide) t h).ok3; iterate 8 exact fun t k _ h r => at_inb _ _ ((H0 11 (by decide) t h).in3 k r) (by decide)
  exact fun t _ h => (H0 11 (by decide) t h).ok4; iterate 8 exact fun t k _ h r => at_inb _ _ ((H0 11 (by decide) t h).in4 k r) (by decide)
  exact fun t _ h => (H0 11 (by decide) t h).ok5; iterate 8 exact fun t k _ h => at_inb _ _ ((H0 11 (by decide) t h).in5 k) (by decide)
  exact fun t _ h => (H0 11 (by decide) t h).ok6; iterate 8 exact fun t k _ h => at_inb _ _ ((H0 11 (by decide) t h).in6 k) (by decide)
  exact fun t _ h => (H0 12 (by decide) t h).ok3; iterate 8 exact fun t k _ h r => at_inb _ _ ((H0 12 (by decide) t h).in3 k r) (by decide)
  exact fun t _ h => (H0 12 (by decide) t h).ok4; iterate 8 exact fun t k _ h r => at_inb _ _ ((H0 12 (by decide) t h).in4 k r) (by decide)
  exact fun t _ h => (H0 12 (by decide) t h).ok5; iterate 8 exact fun t k _ h => at_inb _ _ ((H0 12 (by decide) t h).in5 k) (by decide)
  exact fun t _ h => (H0 12 (by decide) t h).ok6; iterate 8 exact fun t k _ h => at_inb _ _ ((H0 12 (by decide) t h).in6 k) (by decide)
  exact fun t _ h => (H0 13 (by decide) t h).ok3; iterate 8 exact fun t k _ h r => at_inb _ _ ((H0 13 (by decide) t h).in3 k r) (by decide)
  exact fun t _ h => (H0 13 (by decide) t h).ok4; iterate 8 exact fun t k _ h r => at_inb _ _ ((H0 13 (by decide) t h).in4 k r) (by decide)
  exact fun t _ h => (H0 13 (by decide) t h).ok5; iterate 8 exact fun t k _ h => at_inb _ _ ((H0 13 (by decide) t h).in5 k) (by decide)
  exact fun t _ h => (H0 13 (by decide) t h).ok6; iterate 8 exact fun t k _ h => at_inb _ _ ((H0 13 (by decide) t h).in6 k) (by decide)
  exact fun t _ h => (H0 14 (by decide) t h).ok3; iterate 8 exact fun t k _ h r => at_inb _ _ ((H0 14 (by decide) t h).in3 k r) (by decide)
  exact fun t _ h => (H0 14 (by decide) t h).ok4; iterate 8 exact fun t k _ h r => at_inb _ _ ((H0 14 (by decide) t h).in4 k r) (by decide)
  exact fun t _ h => (H0 14 (by decide) t h).ok5; iterate 8 exact fun t k _ h => at_inb _ _ ((H0 14 (by decide) t h).in5 k) (by decide)
  exact fun t _ h => (H0 14 (by decide) t h).ok6; iterate 8 exact fun t k _ h => at_inb _ _ ((H0 14 (by decide) t h).in6 k) (by decide)
  iterate 8 exact fun t _ h => st_inb _ _ (U1 t h) (by decide)
  exact fun t _ _ h => (H1 0 (by decide) t h).ok3; iterate 8 exact fun t k _ _ h r => at_inb _ _ ((H1 0 (by decide) t h).in3 k r) (by decide)
  exact fun t _ _ h => (H1 0 (by decide) t h).ok4; iterate 8 exact fun t k _ _ h r => at_inb _ _ ((H1 0 (by decide) t h).in4 k r) (by decide)
  exact fun t _ _ h => (H1 0 (by decide) t h).ok5; iterate 8 exact fun t k _ _ h => at_inb _ _ ((H1 0 (by decide) t h).in5 k) (by decide)
  exact fun t _ _ h => (H1 0 (by decide) t h).ok6; iterate 8 exact fun t k _ _ h => at_inb _ _ ((H1 0 (by decide) t h).in6 k) (by decide)
  exact fun t _ _ h => (H1 1 (by decide) t h).ok3; iterate 8 exact fun t k _ _ h r => at_inb _ _ ((H1 1 (by decide) t h).in3 k r) (by decide)
  exact fun t _ _ h => (H1 1 (by decide) t h).ok4; iterate 8 exact fun t k _ _ h r => at_inb _ _ ((H1 1 (by decide) t h).in4 k r) (by decide)
  exact fun t _ _ h => (H1 1 (by decide) t h).ok5; iterate 8 exact fun t k _ _ h => at_inb _ _ ((H1 1 (by decide) t h).in5 k) (by decide)
  exact fun t _ _ h => (H1 1 (by decide) t h).ok6; iterate 8 exact fun t k _ _ h => at_inb _ _ ((H1 1 (by decide) t h).in6 k) (by decide)
  exact fun t _ _ h => (H1 2 (by decide) t h).ok3; iterate 8 exact fun t k _ _ h r => at_inb _ _ ((H1 2 (by decide) t h).in3 k r) (by decide)
  exact fun t _ _ h => (H1 2 (by decide) t h).ok4; iterate 8 exact fun t k _ _ h r => at_inb _ _ ((H1 2 (by decide) t h).in4 k r) (by decide)
  exact fun t _ _ h => (H1 2 (by decide) t h).ok5; iterate 8 exact fun t k _ _ h => at_inb _ _ ((H1 2 (by decide) t h).in5 k) (by decide)
  exact fun t _ _ h => (H1 2 (by decide) t h).ok6; iterate 8 exact fun t k _ _ h => at_inb _ _ ((H1 2 (by decide) t h).in6 k) (by decide)
  exact fun t _ _ h => (H1 3 (by decide) t h).ok3; iterate 8 exact fun t k _ _ h r => at_inb _ _ ((H1 3 (by decide) t h).in3 k r) (by decide)
  exact fun t _ _ h => (H1 3 (by decide) t h).ok4; iterate 8 exact fun t k _ _ h r => at_inb _ _ ((H1 3 (by decide) t h).in4 k r) (by decide)
  exact fun t _ _ h => (H1 3 (by decide) t h).ok5; iterate 8 exact fun t k _ _ h => at_inb _ _ ((H1 3 (by decide) t h).in5 k) (by decide)
  exact fun t _ _ h => (H1 3 (by decide) t h).ok6; iterate 8 exact fun t k _ _ h => at_inb _ _ ((H1 3 (by decide) t h).in6 k) (by decide)
  exact fun t _ _ h => (H1 4 (by decide) t h).ok3; iterate 8 exact fun t k _ _ h r => at_inb _ _ ((H1 4 (by decide) t h).in3 k r) (by decide)
  exact fun t _ _ h => (H1 4 (by decide) t h).ok4; iterate 8 exact fun t k _ _ h r => at_inb _ _ ((H1 4 (by decide) t h).in4 k r) (by decide)
  exact fun t _ _ h => (H1 4 (by decide) t h).ok5; iterate 8 exact fun t k _ _ h => at_inb _ _ ((H1 4 (by decide) t h).in5 k) (by decide)
  exact fun t _ _ h => (H1 4 (by decide) t h).ok6; iterate 8 exact fun t k _ _ h => at_inb _ _ ((H1 4 (by decide) t h).in6 k) (by decide)
  exact fun t _ _ h => (H1 5 (by decide) t h).ok3; iterate 8 exact fun t k _ _ h r => at_inb _ _ ((H1 5 (by decide) t h).in3 k r) (by decide)
  exact fun t _ _ h => (H1 5 (by decide) t h).ok4; iterate 8 exact fun t k _ _ h r => at_inb _ _ ((H1 5 (by decide) t h).in4 k r) (by decide)
  exact fun t _ _ h => (H1 5 (by decide) t h).ok5; iterate 8 exact fun t k _ _ h => at_inb _ _ ((H1 5 (by decide) t h).in5 k) (by decide)
  exact fun t _ _ h => (H1 5 (by decide) t h).ok6; iterate 8 exact fun t k _ _ h => at_inb _ _ ((H1 5 (by decide) t h).in6 k) (by decide)
  exact fun t _ _ h => (H1 6 (by decide) t h).ok3; iterate 8 exact fun t k _ _ h r => at_inb _ _ ((H1 6 (by decide) t h).in3 k r) (by decide)
  exact fun t _ _ h => (H1 6 (by decide) t h).ok4; iterate 8 exact fun t k _ _ h r => at_inb _ _ ((H1 6 (by decide) t h).in4 k r) (by decide)
  exact fun t _ _ h => (H1 6 (by decide) t h).ok5; iterate 8 exact fun t k _ _ h => at_inb _ _ ((H1 6 (by decide) t h).in5 k) (by decide)
  exact fun t _ _ h => (H1 6 (by decide) t h).ok6; iterate 8 exact fun t k _ _ h => at_inb _ _ ((H1 6 (by decide) t h).in6 k) (by decide)
  exact fun t _ _ h => (H1 7 (by decide) t h).ok3; iterate 8 exact fun t k _ _ h r => at_inb _ _ ((H1 7 (by decide) t h).in3 k r) (by decide)
  exact fun t _ _ h => (H1 7 (by decide) t h).ok4; iterate 8 exact fun t k _ _ h r => at_inb _ _ ((H1 7 (by decide) t h).in4 k r) (by decide)
  exact fun t _ _ h => (H1 7 (by decide) t h).ok5; iterate 8 exact fun t k _ _ h => at_inb _ _ ((H1 7 (by decide) t h).in5 k) (by decide)
  exact fun t _ _ h => (H1 7 (by decide) t h).ok6; iterate 8 exact fun t k _ _ h => at_inb _ _ ((H1 7 (by decide) t h).in6 k) (by decide)
  exact fun t _ _ h => (H1 8 (by decide) t h).ok3; iterate 8 exact fun t k _ _ h r => at_inb _ _ ((H1 8 (by decide) t h).in3 k r) (by decide)
  exact fun t _ _ h => (H1 8 (by decide) t h).ok4; iterate 8 exact fun t k _ _ h r => at_inb _ _ ((H1 8 (by decide) t h).in4 k r) (by decide)
  exact fun t _ _ h => (H1 8 (by decide) t h).ok5; iterate 8 exact fun t k _ _ h => at_inb _ _ ((H1 8 (by decide) t h).in5 k) (by decide)
  exact fun t _ _ h => (H1 8 (by decide) t h).ok6; iterate 8 exact fun t k _ _ h => at_inb _ _ ((H1 8 (by decide) t h).in6 k) (by decide)
  exact fun t _ _ h => (H1 9 (by decide) t h).ok3; iterate 8 exact fun t k _ _ h r => at_inb _ _ ((H1 9 (by decide) t h).in3 k r) (by decide)
  exact fun t _ _ h => (H1 9 (by decide) t h).ok4; iterate 8 exact fun t k _ _ h r => at_inb _ _ ((H1 9 (by decide) t h).in4 k r) (by decide)
  exact fun t _ _ h => (H1 9 (by decide) t h).ok5; iterate 8 exact fun t k _ _ h => at_inb _ _ ((H1 9 (by decide) t h).in5 k) (by decide)
  exact fun t _ _ h => (H1 9 (by decide) t h).ok6; iterate 8 exact fun t k _ _ h => at_inb _ _ ((H1 9 (by decide) t h).in6 k) (by decide)
  exact fun t _ _ h => (H1 10 (by decide) t h).ok3; iterate 8 exact fun t k _ _ h r => at_inb _ _ ((H1 10 (by decide) t h).in3 k r) (by decide)
  exact fun t _ _ h => (H1 10 (by decide) t h).ok4; iterate 8 exact fun t k _ _ h r => at_inb _ _ ((H1 10 (by decide) t h).in4 k r) (by decide)
  exact fun t _ _ h => (H1 10 (by decide) t h).ok5; iterate 8 exact fun t k _ _ h => at_inb _ _ ((H1 10 (by decide) t h).in5 k) (by decide)
  exact fun t _ _ h => (H1 10 (by decide) t h).ok6; iterate 8 exact fun t k _ _ h => at_inb _ _ ((H1 10 (by decide) t h).in6 k) (by decide)
  exact fun t _ _ h => (H1 11 (by decide) t h).ok3; iterate 8 exact fun t k _ _ h r => at_inb _ _ ((H1 11 (by decide) t h).in3 k r) (by decide)
  exact fun t _ _ h => (H1 11 (by decide) t h).ok4; iterate 8 exact fun t k _ _ h r => at_inb _ _ ((H1 11 (by decide) t h).in4 k r) (by decide)
  exact fun t _ _ h => (H1 11 (by decide) t h).ok5; iterate 8 exact fun t k _ _ h => at_inb _ _ ((H1 11 (by decide) t h).in5 k) (by decide)
  exact fun t _ _ h => (H1 11 (by decide) t h).ok6; iterate 8 exact fun t k _ _ h => at_inb _ _ ((H1 11 (by decide) t h).in6 k) (by decide)
  exact fun t _ _ h => (H1 12 (by decide) t h).ok3; iterate 8 exact fun t k _ _ h r => at_inb _ _ ((H1 12 (by decide) t h).in3 k r) (by decide)
  exact fun t _ _ h => (H1 12 (by decide) t h).ok4; iterate 8 exact fun t k _ _ h r => at_inb _ _ ((H1 12 (by decide) t h).in4 k r) (by decide)
  exact fun t _ _ h => (H1 12 (by decide) t h).ok5; iterate 8 exact fun t k _ _ h => at_inb _ _ ((H1 12 (by decide) t h).in5 k) (by decide)
  exact fun t _ _ h => (H1 12 (by decide) t h).ok6; iterate 8 exact fun t k _ _ h => at_inb _ _ ((H1 12 (by decide) t h).in6 k) (by decide)
  exact fun t _ _ h => (H1 13 (by decide) t h).ok3; iterate 8 exact fun t k _ _ h r => at_inb _ _ ((H1 13 (by decide) t h).in3 k r) (by decide)
  exact fun t _ _ h => (H1 13 (by decide) t h).ok4; iterate 8 exact fun t k _ _ h r => at_inb _ _ ((H1 13 (by decide) t h).in4 k r) (by decide)
  exact fun t _ _ h => (H1 13 (by decide) t h).ok5; iterate 8 exact fun t k _ _ h => at_inb _ _ ((H1 13 (by decide) t h).in5 k) (by decide)
  exact fun t _ _ h => (H1 13 (by decide) t h).ok6; iterate 8 exact fun t k _ _ h => at_inb _ _ ((H1 13 (by decide) t h).in6 k) (by decide)
  exact fun t _ _ h => (H1 14 (by decide) t h).ok3; iterate 8 exact fun t k _ _ h r => at_inb _ _ ((H1 14 (by decide) t h).in3 k r) (by decide)
  exact fun t _ _ h => (H1 14 (by decide) t h).ok4; iterate 8 exact fun t k _ _ h r => at_inb _ _ ((H1 14 (by decide) t h).in4 k r) (by decide)
  exact fun t _ _ h => (H1 14 (by decide) t h).ok5; iterate 8 exact fun t k _ _ h => at_inb _ _ ((H1 14 (by decide) t h).in5 k) (by decide)
  exact fun t _ _ h => (H1 14 (by decide) t h).ok6; iterate 8 exact fun t k _ _ h => at_inb _ _ ((H1 14 (by decide) t h).in6 k) (by decide)

end

end Cert.Proof.Seg
-- ==== Proof.Body.lean ====
/-
  The tile task as a whole: the boundaries fetched and read, the stage set to zero, the chunks added up, and the stage
  copied out to the tile's block of the result.
-/
module

public import proofs.«01_k».proof.Proof.Fetch
public import proofs.«01_k».proof.Proof.Chk

@[expose] public section

noncomputable section

namespace Cert.Proof.Seg

open Cert.KernelIdeal

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Facts]
open Facts₀ Facts

local notation "𝕄" => MT nD τ sig (HIx 1) (Elt F) ℕ UU ℕ

variable {i : grid1.Coords} {d : Dev nD} {dfs : Defs nD τ sig (Elt F) Λ₀}

theorem Tr.assume {P : sProp 𝕄} {p : Prop} {dec : Decidable p} (h : p) :
    Tr i d dfs P (Prog.lift (TpuEff.assume p dec) : Pg F i (PLift p)) ⟨h⟩ P := by
  intro Q
  iintro ⟨HP, HQ⟩
  iapply (wp_assume Variants.none (thr i d) none Set.univ h)
  rw [wp_ret]
  imodintro
  iapply HQ; iexact HP

theorem Tr.exists {α ι : Type} {P : ι → sProp 𝕄} {P' : sProp 𝕄} {p : Pg F i α} {v : α} (h : ∀ w, Tr i d dfs (P w) p v P') :
    Tr i d dfs iprop(∃ w, P w) p v P' := by
  intro Q
  iintro ⟨⟨%w, HP⟩, HQ⟩
  iapply (h w Q)
  isplitl [HP] <;> iassumption

/-- The boundaries' buffer: its first row holds `v`. -/
def Row (i : grid1.Coords) (d : Dev nD) (b : Memref sig .scVector .vmem S8x128 .i32) (v : ℕ → BitVec 32) : sProp 𝕄 :=
  iprop(∃ f, ⌜∀ c : Fin 128, b.view.read (Elt F) f (ix2 (0 : Fin 8) c) = v c⌝ ∗ (b.view.loc (thr i d) ↦{fullShare} f))

theorem Row_any {b : Memref sig .scVector .vmem S8x128 .i32} {v : ℕ → BitVec 32} : Row (F := F) i d b v ⊢ Any i d b := by
  unfold Row Any
  iintro ⟨%f, %hf, Hb⟩
  iexists f; iexact Hb

/-- Sixteen boundaries, loaded. -/
theorem tr_row (b : Memref sig .scVector .vmem S8x128 .i32) (v : ℕ → BitVec 32) (c : ℕ)
    (h : ∀ a, (![0, c] : Fin 2 → ℕ) a + S1x16.size a ≤ S8x128.size a)
    (hl : b.view.LoadsAt (Rect.unit (s := S8x128) ![0, c] S1x16.size h).toLoadRect) :
    Tr i d dfs (Row i d b v)
      (Prog.lift (.load b (Rect.unit (s := S8x128) ![0, c] S1x16.size h).toLoadRect hl) : Pg F i (Vec F S1x16 .i32))
      (fun y => v (c + (y 1).val)) (Row i d b v) := by
  intro Q
  unfold Row
  generalize hY : (fun y => v (c + (y 1).val) : Vec F S1x16 .i32) = Y
  iintro ⟨⟨%f, %hf, Hb⟩, HQ⟩
  iapply (wp_load_rect Variants.none (thr i d) none Set.univ (r := Rect.unit (s := S8x128) ![0, c] S1x16.size h) (S := Finset.univ) (Finset.subset_univ _)) $$ [Hb]
  · iexact Hb
  iintro Hb
  rw [wp_ret]
  have hv : ((b.access (Rect.unit (s := S8x128) ![0, c] S1x16.size h)).read (Elt F) f : Vec F S1x16 .i32) = Y := by
    subst hY
    funext y
    have h1 : c + 16 ≤ 128 := h 1
    have hy1 : (y 1).val < 16 := (y 1).isLt
    have := hf ⟨c + (y 1).val, by omega⟩
    rw [← this]
    show b.view.read (Elt F) f ((Rect.unit (s := S8x128) ![0, c] S1x16.size h).emb y) = _
    congr 1
    funext a
    have hy0 : (y 0).val < 1 := (y 0).isLt
    fin_cases a
    · apply Fin.ext; show 0 + 1 * (y 0).val = 0; omega
    · apply Fin.ext; show c + 1 * (y 1).val = c + (y 1).val; omega
  imodintro
  rw [hv]
  iapply HQ
  iexists f
  isplitr; · ipureintro; exact hf
  iexact Hb

/-- The sixteen boundaries from `c` on, as a vector. -/
def vec16 (v : ℕ → BitVec 32) (c : ℕ) : IVec S16 32 := fun j => v (c + (j 0).val)

theorem cast_1a_a {α : Type} (f : S1x16.Idx → α) (j : S16.Idx) :
    shapeCast S16 f shapeCasts_S1x16_S16 j = f (ix2 0 (j 0)) := by
  obtain ⟨k, rfl⟩ : ∃ k : Fin 16, j = ix1 k := ⟨j 0, by funext a; fin_cases a; rfl⟩
  rw [shapeCast_1a_a_apply]

theorem cast16 (v : ℕ → BitVec 32) (c : ℕ) :
    (shapeCast S16 (fun y : S1x16.Idx => v (c + (y 1).val)) shapeCasts_S1x16_S16 : IVec S16 32) = vec16 v c := by
  funext j
  exact cast_1a_a _ j

variable (i d dfs) (arg2 : Memref sig .scVector .hbm S32768x1024 .f32) (harg2 : arg2.IsWhole)
  (arg3 : Memref sig .scVector .hbm S8x128 .i32) (harg3 : arg3.IsWhole) (arg4 : Memref sig .scVector .hbm S4x16x1024 .f32)
  (harg4 : arg4.IsWhole) (arg5 : Memref sig .scVector .vmem S8x128 .i32) (harg5 : arg5.IsWhole)
  (arg6 : Memref sig .scVector .vmem S256x128 .f32) (harg6 : arg6.IsWhole) (arg7 : Memref sig .scVector .vmem S256x128 .f32)
  (harg7 : arg7.IsWhole) (arg8 : Memref sig .scVector .vmem S16x128 .f32) (harg8 : arg8.IsWhole)
  (arg9 : DmaSems sig S_) (v588_r0 : DmaSems sig S_) (v588_r1 : DmaSems sig S_)
  (O : CellTallies nD τ sig (HIx 1)) (W : Waits sig (HIx 1)) (v : ℕ → BitVec 32)

section Bounds

variable {qb : PosShare TreeShare} {Xb : Buf (Elt F) (arg3.view.loc (thr i d))}

/-- The boundaries' array, held in part, and the boundaries' buffer with its semaphore. -/
abbrev Pre5 (qb : PosShare TreeShare) (Xb : Buf (Elt F) (arg3.view.loc (thr i d))) : sProp 𝕄 :=
  iprop((arg3.view.loc (thr i d) ↦{qb} Xb) ∗ Any i d arg5 ∗ semVal (thr i d, .dma v588_r0.sem) 0 ∗ Owes i d O W)

set_option maxRecDepth 4000 in
theorem tr_part289 (hb : ∀ c : Fin 128, arg3.view.read (Elt F) Xb (ix2 (0 : Fin 8) c) = v c) :
    Tr i d dfs (Pre5 i d arg3 arg5 v588_r0 O W qb Xb)
      (k1_part289 (F := F) i arg2 harg2 arg3 harg3 arg4 harg4 arg5 harg5 arg6 harg6 arg7 harg7 arg8 harg8 arg9 v588_r0 v588_r1)
      ⟨Scalar.addi (Scalar.muli (BitVec.ofNat 32 (i 1).val) 2#32) (BitVec.ofNat 32 (i 0).val), tok0 i, vec16 v 0, vec16 v 16,
        v 0, v 1, v 2, v 3, v 4, v 5, v 6, v 7, extractStridedSlice S1 ![8] (vec16 v 0) slices_S16_o8_S1⟩
      (Pre5 i d arg3 arg5 v588_r0 O W qb Xb) := by
  unfold k1_part289
  refine Tr.bind (P' := iprop(Fl i d v588_r0 arg5 iprop(Row i d arg5 v ∗ (arg3.view.loc (thr i d) ↦{qb} Xb)) ∗ Owes i d O W))
    (Tr.mono ((tr_dma i d dfs v588_r0 arg3 arg5 harg5 _ _ _ qb Xb (by decide)).frameR (Owes i d O W)) ?_ ?_) ?_
  · iintro ⟨H1, H2, H3, H4⟩
    iframe
  · iintro ⟨H1, H2⟩
    isplitl [H1]
    · unfold Fl
      iapply (Transfers.Flight_mono countersEmb (thr i d) _) $$ [H1]
      swap; · iexact H1
      iintro ⟨⟨%f, %hf, Hb⟩, Hx⟩
      isplitl [Hb]
      · unfold Row
        iexists f
        isplitr
        · ipureintro; intro c; rw [hf]; exact hb c
        iexact Hb
      iexact Hx
    iexact H2
  refine Tr.bind (tr_wait i d dfs O W v588_r0 arg3 arg5 _ _ _) ?_
  refine Tr.bind (P' := iprop(Row i d arg5 v ∗ (arg3.view.loc (thr i d) ↦{qb} Xb) ∗ semVal (thr i d, .dma v588_r0.sem) 0 ∗ Owes i d O W))
    (Tr.mono ((tr_row arg5 v 0 _ _).frameR iprop((arg3.view.loc (thr i d) ↦{qb} Xb) ∗ semVal (thr i d, .dma v588_r0.sem) 0 ∗ Owes i d O W)) ?_ .rfl) ?_
  · iintro ⟨⟨H1, H2⟩, H3, H4⟩
    iframe
  refine Tr.bind ((tr_row arg5 v 16 _ _).frameR _) ?_
  rw [cast16, cast16]
  refine Tr.mono (Tr.pure i d dfs _ _) ?_ .rfl
  iintro ⟨H1, H2, H3, H4⟩
  ihave H1 := Row_any $$ H1
  unfold Pre5
  iframe

end Bounds

theorem tr_part290 (w : ℕ → ℕ → F .f32) (hT : ∀ t : Fin k1_t1_loop.trips, TripOK i v t)
    (hw1 : k1_chk1 i (v 0) (v 1) (v 2) (v 3) (v 4) (v 5) (v 6) (v 7) (v 8) (v 9) (v 10) (v 11) (v 12) (v 13) (v 14) (v 15))
    (hw2 : k1_chk2 i (v 0) (v 1) (v 2) (v 3) (v 4) (v 5) (v 6) (v 7) (v 8) (v 9) (v 10) (v 11) (v 12) (v 13) (v 14) (v 15) (v 16)) (v1 : BitVec 32) :
    Tr i d dfs (Holds i d arg8 (zeroed w (Scalar.ofBits .f32 0x00000000#32) 0))
      (k1_part290 (F := F) i arg2 harg2 arg3 harg3 arg4 harg4 arg5 harg5 arg6 harg6 arg7 harg7 arg8 harg8 arg9 v588_r0 v588_r1 v1 (vec16 v 0) (vec16 v 16) (v 0) (v 1) (v 2) (v 3) (v 4) (v 5) (v 6) (v 7) (extractStridedSlice S1 ![8] (vec16 v 0) slices_S16_o8_S1))
      ⟨v 8, v 9, v 10, v 11, v 12, v 13, v 14, v 15, hw1, v 16, hw2, fun _ => Scalar.ofBits .f32 0x00000000#32⟩
      (Holds i d arg8 (zeroed w (Scalar.ofBits .f32 0x00000000#32) 3)) := by
  unfold k1_part290
  refine Tr.bind (Tr.assume hw1) ?_
  refine Tr.bind (Tr.assume hw2) ?_
  iterate 3 (refine tr_zld ?_; rintro _ rfl; refine tr_zst ?_)
  exact Tr.pure i d dfs _ _

/-! ## The stage, copied out -/

/-- The block of the result that the tile writes, as a view of sixteen rows. -/
abbrev blk (i : grid1.Coords) : Memref sig .scVector .hbm S16x128 .f32 :=
  (arg4.slice (Rect.unit (s := S4x16x1024) (k1_off1062 i) S1x16x128.size (k1_off1062_inb i)) (fun _ => rfl)).squeeze S16x128 squeezes_S1x16x128_S16x128

/-- The block's elements, whatever they hold. -/
def BlkAny : sProp 𝕄 := iprop(∃ f : Buf (Elt F) ((blk arg4 i).view.loc (thr i d)), (blk arg4 i).view.loc (thr i d) ↦[(blk arg4 i).view.set]{fullShare} f)
/-- The block's elements hold the table `g`. -/
def BlkHolds (g : ℕ → ℕ → F .f32) : sProp 𝕄 :=
  iprop(∃ f : Buf (Elt F) ((blk arg4 i).view.loc (thr i d)), ⌜∀ (r : Fin 16) (c : Fin 128), (blk arg4 i).view.read (Elt F) f (ix2 r c) = g r c⌝
    ∗ ((blk arg4 i).view.loc (thr i d) ↦[(blk arg4 i).view.set]{fullShare} f))

theorem tr_out (g : ℕ → ℕ → F .f32) (h1 h2 h3) :
    Tr i d dfs iprop(Holds i d arg8 g ∗ BlkAny i d arg4 ∗ semVal (thr i d, .dma v588_r1.sem) 0)
      (Prog.lift (.enqueueDma arg8 (.here (blk arg4 i)) (.dma v588_r1.sem) h1 h2 h3) : Pg F i PUnit) ⟨⟩
      (Fl i d v588_r1 (blk arg4 i) iprop(BlkHolds i d arg4 g ∗ Holds i d arg8 g)) := by
  intro Q
  unfold Fl BlkAny BlkHolds Holds
  iintro ⟨⟨⟨%fs, %hfs, Hx⟩, ⟨%f, Hb⟩, Hs⟩, HQ⟩
  iapply (Transfers.wp_dmaFromWhole countersEmb Variants.none (thr i d) none (default : HIx 1) (blk arg4 i).view.dmaCredit rfl
    (View.dmaCredit_pos _ (show 0 < S16x128.numel by decide)) (Sd := (blk arg4 i).view.set) (Finset.Subset.refl _)) $$ [Hx Hb Hs]
  · isplitl [Hx]; · iexact Hx
    isplitl [Hb]; · iexact Hb
    iexact Hs
  iintro Hfl
  rw [wp_ret]
  imodintro
  iapply HQ
  iapply (Transfers.Flight_mono countersEmb (thr i d) _) $$ [Hfl]
  swap; · iexact Hfl
  iintro ⟨Hb, Hx⟩
  isplitl [Hb]
  · iexists _
    isplitr
    swap; · iexact Hb
    ipureintro
    intro r c
    rw [View.read_write_univ]
    exact hfs r c
  iexists fs
  isplitr; · ipureintro; exact hfs
  iexact Hx

/-! ## The last printed part -/

theorem tr_zsetK {w : ℕ → ℕ → F .f32} {z : F .f32} {n s c : ℕ} {hi} {k : Pg F i PUnit} {P : sProp 𝕄} (h : Tr i d dfs (Holds i d arg8 (zeroed w z (n + 1))) k ⟨⟩ P)
    (hn : 16 * n = 128 * s + c := by rfl) :
    Tr i d dfs (Holds i d arg8 (zeroed w z n)) (zsetK i arg8 ![s, c] hi (fun _ => z) k) ⟨⟩ P := by
  unfold zsetK
  refine tr_zld ?_
  rintro _ rfl
  exact tr_zst h hn

variable {q : PosShare TreeShare} {X : Buf (Elt F) (arg2.view.loc (thr i d))} {tab : ℕ → ℕ → F .f32}
  (hx : ∀ (r : Fin 32768) (c : Fin 1024), arg2.view.read (Elt F) X (ix2 r c) = tab r c)
  (P : ℕ → ℕ) (hP : ∀ n, P n < 2 ^ 30) (hv : ∀ n ≤ 16, v n = BitVec.ofNat 32 (P n))

/-- What the chunks' fetches work with. -/
abbrev Pre6 (q : PosShare TreeShare) (X : Buf (Elt F) (arg2.view.loc (thr i d))) : sProp 𝕄 :=
  iprop((arg2.view.loc (thr i d) ↦{q} X) ∗ Any i d arg6 ∗ Any i d arg7 ∗ semVal (thr i d, .dma arg9.sem) 0 ∗ Owes i d O W)

include hx hP hv in
theorem tr_end (z : F .f32) (hT : ∀ t, TripOK i v t) (h1 h2 h3 h4 h5 h6) :
    Tr i d dfs iprop(Pre6 i d arg2 arg6 arg7 arg9 O W q X ∗ Holds i d arg8 (fun _ _ => z) ∗ BlkAny i d arg4 ∗ semVal (thr i d, .dma v588_r1.sem) 0)
      (do
        Prog.lift (.enqueueDma (arg2.slice (Rect.unit (s := S32768x1024) (k1_off1 i) S256x128.size (k1_off1_inb i)) (fun _ => rfl)) (.here arg6) (.dma arg9.sem) h1 h2 h3)
        Scf.Loop.for k1_t1_loop k1_t1_ok ⟨⟩ fun t _ => trip i arg2 arg6 harg6 arg7 harg7 arg8 arg9 v (fun _ => z) t (hT t)
        Prog.lift (.enqueueDma arg8 (.here (blk arg4 i)) (.dma v588_r1.sem) h4 h5 h6)
        pure ⟨⟩ : Pg F i PUnit) ⟨⟩
      iprop(Pre6 i d arg2 arg6 arg7 arg9 O W q X ∗ Fl i d v588_r1 (blk arg4 i) iprop(BlkHolds i d arg4 (sums i tab z P v 32) ∗ Holds i d arg8 (sums i tab z P v 32))) := by
  refine Tr.bind (P' := iprop(Inv i d O W tab q X arg9 arg6 arg7 arg8 P v z 0 ∗ BlkAny i d arg4 ∗ semVal (thr i d, .dma v588_r1.sem) 0))
    (Tr.mono ((tr_start (q := q) i d dfs hx arg9 arg6 harg6 (k1_off1 i) (k1_off1_inb i) _ _ _ (rowN i) (colN i) (off1_word i).1 (off1_word i).2).frameR
      iprop(Owes i d O W ∗ Any i d arg7 ∗ Holds i d arg8 (fun _ _ => z) ∗ BlkAny i d arg4 ∗ semVal (thr i d, .dma v588_r1.sem) 0)) ?_ ?_) ?_
  · iintro ⟨⟨H1, H2, H3, H4, H5⟩, H6, H7, H8⟩
    iframe
  · unfold Inv
    rw [if_pos (by decide)]
    iintro ⟨H1, H2, H3, H4, H5, H6⟩
    isplitr [H5 H6]
    · isplitl [H1]; · iexact H1
      isplitl [H2]; · iexact H2
      isplitl [H3]; · iexact H3
      iexact H4
    · iframe
  refine Tr.bind ((Tr.loop k1_t1_loop k1_t1_ok _ (fun _ => (⟨⟩ : PUnit)) (Inv i d O W tab q X arg9 arg6 arg7 arg8 P v z) 16 trips16
    (fun t => tr_trip i d dfs O W hx harg6 harg7 P v hP hv z t (hT t))).frameR _) ?_
  refine Tr.bind (P' := iprop(Pre6 i d arg2 arg6 arg7 arg9 O W q X ∗ Fl i d v588_r1 (blk arg4 i) iprop(BlkHolds i d arg4 (sums i tab z P v 32) ∗ Holds i d arg8 (sums i tab z P v 32))))
    (Tr.mono ((tr_out i d dfs arg4 arg8 v588_r1 (sums i tab z P v 32) _ _ _).frameL (Pre6 i d arg2 arg6 arg7 arg9 O W q X)) ?_ .rfl) (Tr.pure i d dfs _ _)
  unfold Inv
  rw [if_neg (by decide)]
  iintro ⟨⟨⟨H1, H2, H3⟩, H4, H5, H6⟩, H7, H8⟩
  unfold Pre6
  isplitr [H6 H7 H8]
  · iframe
  · isplitl [H6]; · iexact H6
    iframe

theorem zsetK_bind (o : Fin 2 → ℕ) (h : ∀ a, o a + S1x16.size a ≤ S16x128.size a) (z : FVec F S16 .f32) (k : Pg F i PUnit) :
    zsetK i arg8 o h z k = zsetK i arg8 o h z (pure ⟨⟩) >>= fun _ => k := rfl

theorem tr_zsetR {w : ℕ → ℕ → F .f32} {z : F .f32} {n s c : ℕ} {hi} {k : Pg F i PUnit} {R P : sProp 𝕄} (h : Tr i d dfs iprop(Holds i d arg8 (zeroed w z (n + 1)) ∗ R) k ⟨⟩ P)
    (hn : 16 * n = 128 * s + c := by rfl) :
    Tr i d dfs iprop(Holds i d arg8 (zeroed w z n) ∗ R) (zsetK i arg8 ![s, c] hi (fun _ => z) k) ⟨⟩ P := by
  rw [zsetK_bind]
  exact Tr.bind ((tr_zsetK i d dfs arg8 (Tr.pure i d dfs _ _) hn).frameR R) h

include hx hP hv in
theorem tr_part305 (w : ℕ → ℕ → F .f32) (z : F .f32) (hT : ∀ t, TripOK i v t)
    (hw1 : k1_chk1 i (v 0) (v 1) (v 2) (v 3) (v 4) (v 5) (v 6) (v 7) (v 8) (v 9) (v 10) (v 11) (v 12) (v 13) (v 14) (v 15))
    (hw2 : k1_chk2 i (v 0) (v 1) (v 2) (v 3) (v 4) (v 5) (v 6) (v 7) (v 8) (v 9) (v 10) (v 11) (v 12) (v 13) (v 14) (v 15) (v 16)) :
    Tr i d dfs iprop(Holds i d arg8 (zeroed w z 123) ∗ Pre6 i d arg2 arg6 arg7 arg9 O W q X ∗ BlkAny i d arg4 ∗ semVal (thr i d, .dma v588_r1.sem) 0)
      (k1_part305 (F := F) i arg2 harg2 arg3 harg3 arg4 harg4 arg5 harg5 arg6 harg6 arg7 harg7 arg8 harg8 arg9 v588_r0 v588_r1 (tok0 i) (v 0) (v 1) (v 2) (v 3) (v 4) (v 5) (v 6) (v 7) (v 8) (v 9) (v 10) (v 11) (v 12) (v 13) (v 14) (v 15) hw1 (v 16) hw2 (fun _ => z)) ⟨⟩
      iprop(Pre6 i d arg2 arg6 arg7 arg9 O W q X ∗ Fl i d v588_r1 (blk arg4 i) iprop(BlkHolds i d arg4 (sums i tab z P v 32) ∗ Holds i d arg8 (sums i tab z P v 32))) := by
  rw [part305_eq i arg2 harg2 arg3 harg3 arg4 harg4 arg5 harg5 arg6 harg6 arg7 harg7 arg8 harg8 arg9 v588_r0 v588_r1 v hw1 (fun _ => z) hT hw2]
  iterate 5 refine tr_zsetR i d dfs arg8 ?_
  refine Tr.mono (tr_end i d dfs arg2 arg4 arg6 harg6 arg7 harg7 arg8 arg9 v588_r1 O W v hx P hP hv z hT _ _ _ _ _ _) ?_ .rfl
  iintro ⟨H1, H2, H3, H4⟩
  isplitl [H2]; · iexact H2
  isplitl [H1]
  · iapply Holds_congr $$ H1
    intro r c hr hc
    unfold zeroed
    rw [if_pos (by omega)]
  isplitl [H3]; · iexact H3
  iexact H4

theorem Any_holds (z : F .f32) : Any i d arg8 ⊢ (iprop(∃ w, Holds i d arg8 (zeroed w z 0)) : sProp 𝕄) := by
  unfold Any Holds
  iintro ⟨%f, Hb⟩
  iexists (fun r c => if h : r < 16 ∧ c < 128 then arg8.view.read (Elt F) f (ix2 (⟨r, h.1⟩ : Fin 16) (⟨c, h.2⟩ : Fin 128)) else z)
  iexists f
  isplitr
  swap; · iexact Hb
  ipureintro
  intro r c
  unfold zeroed
  rw [if_neg (by omega)]
  beta_reduce
  rw [dif_pos ⟨r.isLt, c.isLt⟩]

variable {qb : PosShare TreeShare} {Xb : Buf (Elt F) (arg3.view.loc (thr i d))}

/-- What a tile's task holds, its block of the result apart. -/
def TileRes (q : PosShare TreeShare) (X : Buf (Elt F) (arg2.view.loc (thr i d))) (qb : PosShare TreeShare) (Xb : Buf (Elt F) (arg3.view.loc (thr i d))) : sProp 𝕄 :=
  iprop((arg2.view.loc (thr i d) ↦{q} X) ∗ (arg3.view.loc (thr i d) ↦{qb} Xb) ∗ Any i d arg5 ∗ Any i d arg6 ∗ Any i d arg7 ∗ Any i d arg8
    ∗ semVal (thr i d, .dma arg9.sem) 0 ∗ semVal (thr i d, .dma v588_r0.sem) 0 ∗ semVal (thr i d, .dma v588_r1.sem) 0 ∗ Owes i d O W)

include hx hP hv in
/-- The tile's task leaves its chunks' segment sums in its block. -/
theorem tr_tile (hb : ∀ c : Fin 128, arg3.view.read (Elt F) Xb (ix2 (0 : Fin 8) c) = v c) (h0 : P 0 = 0) :
    Tr i d dfs iprop(BlkAny i d arg4 ∗ TileRes i d arg2 arg3 arg5 arg6 arg7 arg8 arg9 v588_r0 v588_r1 O W q X qb Xb)
      (cc1__seg_sum_sc (F := F) i arg2 harg2 arg3 harg3 arg4 harg4 arg5 harg5 arg6 harg6 arg7 harg7 arg8 harg8 arg9 v588_r0 v588_r1) ⟨⟩
      iprop(BlkHolds i d arg4 (sums i tab (Scalar.ofBits .f32 0x00000000#32) P v 32) ∗ TileRes i d arg2 arg3 arg5 arg6 arg7 arg8 arg9 v588_r0 v588_r1 O W q X qb Xb) := by
  have hT : ∀ t, TripOK i v t := fun t => tripOK P v hP hv i h0 t
  have hw1 := chk1_holds i v (fun s hs t => (hT t).H0 s hs) (fun s hs t => (hT t).H1 s hs) (fun t => (hT t).U0) (fun t => (hT t).U1)
  have hw2 := chk2_holds i v (fun s hs t => (hT t).H0 s hs) (fun s hs t => (hT t).H1 s hs)
  refine Tr.mono (P := iprop(∃ w, Pre5 i d arg3 arg5 v588_r0 O W qb Xb ∗ Holds i d arg8 (zeroed w (Scalar.ofBits .f32 0x00000000#32) 0) ∗ ((arg2.view.loc (thr i d) ↦{q} X) ∗ Any i d arg6 ∗ Any i d arg7 ∗ semVal (thr i d, .dma arg9.sem) 0) ∗ BlkAny i d arg4 ∗ semVal (thr i d, .dma v588_r1.sem) 0))
    (Tr.exists fun w => ?_) ?_ .rfl
  swap
  · unfold TileRes Pre5
    iintro ⟨HB, H2, H3, H5, H6, H7, H8, H9, Hr0, Hr1, HO⟩
    ihave ⟨%w, H8⟩ := (Any_holds i d arg8 (Scalar.ofBits .f32 0x00000000#32)) $$ H8
    iexists w
    isplitl [H3 H5 Hr0 HO]; · iframe
    isplitl [H8]; · iexact H8
    isplitl [H2 H6 H7 H9]; · iframe
    isplitl [HB]; · iexact HB
    iexact Hr1
  unfold cc1__seg_sum_sc
  refine Tr.bind ((tr_part289 i d dfs arg2 harg2 arg3 harg3 arg4 harg4 arg5 harg5 arg6 harg6 arg7 harg7 arg8 harg8 arg9 v588_r0 v588_r1 O W v hb).frameR _) ?_
  refine Tr.bind (((tr_part290 i d dfs arg2 harg2 arg3 harg3 arg4 harg4 arg5 harg5 arg6 harg6 arg7 harg7 arg8 harg8 arg9 v588_r0 v588_r1 v w hT hw1 hw2 _).frameR _).frameL _) ?_
  refine Tr.bind (((tr_part291 i d dfs arg2 harg2 arg3 harg3 arg4 harg4 arg5 harg5 arg6 harg6 arg7 harg7 arg8 harg8 arg9 v588_r0 v588_r1 w _).frameR _).frameL _) ?_
  refine Tr.bind (((tr_part292 i d dfs arg2 harg2 arg3 harg3 arg4 harg4 arg5 harg5 arg6 harg6 arg7 harg7 arg8 harg8 arg9 v588_r0 v588_r1 w _ _).frameR _).frameL _) ?_
  refine Tr.bind (((tr_part293 i d dfs arg2 harg2 arg3 harg3 arg4 harg4 arg5 harg5 arg6 harg6 arg7 harg7 arg8 harg8 arg9 v588_r0 v588_r1 w _ _).frameR _).frameL _) ?_
  refine Tr.bind (((tr_part294 i d dfs arg2 harg2 arg3 harg3 arg4 harg4 arg5 harg5 arg6 harg6 arg7 harg7 arg8 harg8 arg9 v588_r0 v588_r1 w _).frameR _).frameL _) ?_
  refine Tr.bind (((tr_part295 i d dfs arg2 harg2 arg3 harg3 arg4 harg4 arg5 harg5 arg6 harg6 arg7 harg7 arg8 harg8 arg9 v588_r0 v588_r1 w _).frameR _).frameL _) ?_
  refine Tr.bind (((tr_part296 i d dfs arg2 harg2 arg3 harg3 arg4 harg4 arg5 harg5 arg6 harg6 arg7 harg7 arg8 harg8 arg9 v588_r0 v588_r1 w _).frameR _).frameL _) ?_
  refine Tr.bind (((tr_part297 i d dfs arg2 harg2 arg3 harg3 arg4 harg4 arg5 harg5 arg6 harg6 arg7 harg7 arg8 harg8 arg9 v588_r0 v588_r1 w _).frameR _).frameL _) ?_
  refine Tr.bind (((tr_part298 i d dfs arg2 harg2 arg3 harg3 arg4 harg4 arg5 harg5 arg6 harg6 arg7 harg7 arg8 harg8 arg9 v588_r0 v588_r1 w _).frameR _).frameL _) ?_
  refine Tr.bind (((tr_part299 i d dfs arg2 harg2 arg3 harg3 arg4 harg4 arg5 harg5 arg6 harg6 arg7 harg7 arg8 harg8 arg9 v588_r0 v588_r1 w _ _).frameR _).frameL _) ?_
  refine Tr.bind (((tr_part300 i d dfs arg2 harg2 arg3 harg3 arg4 harg4 arg5 harg5 arg6 harg6 arg7 harg7 arg8 harg8 arg9 v588_r0 v588_r1 w _ _).frameR _).frameL _) ?_
  refine Tr.bind (((tr_part301 i d dfs arg2 harg2 arg3 harg3 arg4 harg4 arg5 harg5 arg6 harg6 arg7 harg7 arg8 harg8 arg9 v588_r0 v588_r1 w _).frameR _).frameL _) ?_
  refine Tr.bind (((tr_part302 i d dfs arg2 harg2 arg3 harg3 arg4 harg4 arg5 harg5 arg6 harg6 arg7 harg7 arg8 harg8 arg9 v588_r0 v588_r1 w _).frameR _).frameL _) ?_
  refine Tr.bind (((tr_part303 i d dfs arg2 harg2 arg3 harg3 arg4 harg4 arg5 harg5 arg6 harg6 arg7 harg7 arg8 harg8 arg9 v588_r0 v588_r1 w _).frameR _).frameL _) ?_
  refine Tr.bind (((tr_part304 i d dfs arg2 harg2 arg3 harg3 arg4 harg4 arg5 harg5 arg6 harg6 arg7 harg7 arg8 harg8 arg9 v588_r0 v588_r1 w _).frameR _).frameL _) ?_
  refine Tr.bind (P' := iprop(((arg3.view.loc (thr i d) ↦{qb} Xb) ∗ Any i d arg5 ∗ semVal (thr i d, .dma v588_r0.sem) 0)
      ∗ (Pre6 i d arg2 arg6 arg7 arg9 O W q X ∗ Fl i d v588_r1 (blk arg4 i) iprop(BlkHolds i d arg4 (sums i tab (Scalar.ofBits .f32 0x00000000#32) P v 32) ∗ Holds i d arg8 (sums i tab (Scalar.ofBits .f32 0x00000000#32) P v 32)))))
    (Tr.mono ((tr_part305 i d dfs arg2 harg2 arg3 harg3 arg4 harg4 arg5 harg5 arg6 harg6 arg7 harg7 arg8 harg8 arg9 v588_r0 v588_r1 O W v hx P hP hv w _ hT hw1 hw2).frameL iprop((arg3.view.loc (thr i d) ↦{qb} Xb) ∗ Any i d arg5 ∗ semVal (thr i d, .dma v588_r0.sem) 0)) ?_ .rfl) ?_
  · unfold Pre5 Pre6
    iintro ⟨⟨H3, H5, Hr0, HO⟩, H8, ⟨H2, H6, H7, H9⟩, HB, Hr1⟩
    isplitl [H3 H5 Hr0]; · iframe
    isplitl [H8]; · iexact H8
    isplitl [H2 H6 H7 H9 HO]; · iframe
    isplitl [HB]; · iexact HB
    iexact Hr1
  refine Tr.bind (P' := iprop(((arg3.view.loc (thr i d) ↦{qb} Xb) ∗ Any i d arg5 ∗ semVal (thr i d, .dma v588_r0.sem) 0)
      ∗ ((arg2.view.loc (thr i d) ↦{q} X) ∗ Any i d arg6 ∗ Any i d arg7 ∗ semVal (thr i d, .dma arg9.sem) 0)
      ∗ ((BlkHolds i d arg4 (sums i tab (Scalar.ofBits .f32 0x00000000#32) P v 32) ∗ Holds i d arg8 (sums i tab (Scalar.ofBits .f32 0x00000000#32) P v 32)) ∗ semVal (thr i d, .dma v588_r1.sem) 0 ∗ Owes i d O W)))
    (Tr.mono ((((tr_wait i d dfs O W v588_r1 arg8 (blk arg4 i) _ _ _).frameL _).frameL _)) ?_ .rfl) ?_
  · unfold Pre6
    iintro ⟨H1, ⟨H2, H6, H7, H9, HO⟩, Hf⟩
    isplitl [H1]; · iexact H1
    isplitl [H2 H6 H7 H9]; · iframe
    isplitl [Hf]; · iexact Hf
    iexact HO
  refine Tr.mono (Tr.pure i d dfs _ _) ?_ .rfl
  unfold TileRes
  iintro ⟨⟨H3, H5, Hr0⟩, ⟨H2, H6, H7, H9⟩, ⟨HB, H8⟩, Hr1, HO⟩
  ihave H8 := Holds_any $$ H8
  iframe

end Cert.Proof.Seg
-- ==== Proof.Pipes.lean ====
/-
  The two TensorCore calls around the segment sum: the word table of the segments' boundaries and the final division and
  normalisation. Each is one region over whole arrays. The value functions `bndV` and `finV` say what the bodies store.
-/
module

public import proofs.«01_k».proof.Proof.Tr
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArrays
public import Idealize.ShloMosaic.Lib.Pipeline.Value

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The SparseCore call's launch data, and the body table below it. -/
abbrev K : SparseCore.Cfg τ sig (Pipeline.Sig Λ₀ (Fin 2) fun p => (pcfgs (F := F) p).Adm) 1 := sc

/-- The row of boundary words: in row 0, at column s < 32, how many identifiers are below s. -/
def cntV (x : IVec S256x128 32) : IVec S32 32 :=
  multiReductionI .add [1, 2] S32
    (extui 32 (cmpi .slt (broadcastTo S32x256x128 (shapeCast S1x256x128 (shapeCast S256x128 x shapeCasts_S256x128_S256x128) shapeCasts_S256x128_S1x256x128) broadcasts_S1x256x128_S32x256x128)
      (iota .tc S32x256x128 32 [0] iota_S32x256x128_d0_w32)) natLt_1_32) 0#32 reduces_S32x256x128_S32 rfl

/-- The table of boundary words. -/
def bndV (x : IVec S256x128 32) : IVec S8x128 32 :=
  muli (broadcastTo S8x128 (shapeCast S1x128 (concatenate S128 0 [⟨S32, cntV x⟩, ⟨S96, broadcast S96 0#32⟩] concatenates_S32_S96_S128_d0) shapeCasts_S128_S1x128) broadcasts_S1x128_S8x128)
    (extui 32 (cmpi .eq (iota .tc S8x128 32 [0] iota_S8x128_d0_w32) (broadcast S8x128 0#32)) natLt_1_32)

/-- The mean of each segment. -/
def meanV (b : IVec S8x128 32) (p : FVec F S4x16x1024 .f32) : FVec F S16x1024 .f32 :=
  divf (addf (addf (addf (shapeCast S16x1024 (extractStridedSlice S1x16x1024 ![0, 0, 0] p slices_S4x16x1024_o0_0_0_S1x16x1024) shapeCasts_S1x16x1024_S16x1024)
        (shapeCast S16x1024 (extractStridedSlice S1x16x1024 ![1, 0, 0] p slices_S4x16x1024_o1_0_0_S1x16x1024) shapeCasts_S1x16x1024_S16x1024))
        (shapeCast S16x1024 (extractStridedSlice S1x16x1024 ![2, 0, 0] p slices_S4x16x1024_o2_0_0_S1x16x1024) shapeCasts_S1x16x1024_S16x1024))
        (shapeCast S16x1024 (extractStridedSlice S1x16x1024 ![3, 0, 0] p slices_S4x16x1024_o3_0_0_S1x16x1024) shapeCasts_S1x16x1024_S16x1024))
    (broadcastTo S16x1024 (shapeCast S16x1 (maximumf (sitofp .f32 (subi
        (shapeCast S16 (extractStridedSlice S1x16 ![0, 1] (shapeCast S8x128 b shapeCasts_S8x128_S8x128) slices_S8x128_o0_1_S1x16) shapeCasts_S1x16_S16)
        (shapeCast S16 (extractStridedSlice S1x16 ![0, 0] (shapeCast S8x128 b shapeCasts_S8x128_S8x128) slices_S8x128_o0_0_S1x16) shapeCasts_S1x16_S16)))
      (broadcast S16 (Scalar.ofBits .f32 0x3F800000#32))) shapeCasts_S16_S16x1) broadcasts_S16x1_S16x1024)

/-- A mean, divided by its norm. -/
def nrmV (m : FVec F S16x1024 .f32) : FVec F S16x1024 .f32 :=
  divf m (broadcastTo S16x1024 (maximumf (sqrt (shapeCast S16x1 (multiReduction .add [1] S16 (mulf m m) 0x00000000#32 reduces_S16x1024_S16 (.inl rfl) rfl) shapeCasts_S16_S16x1))
    (broadcast S16x1 (Scalar.ofBits .f32 0x2B8CBCCC#32))) broadcasts_S16x1_S16x1024)

/-- What the last call stores. -/
def finV (b : IVec S8x128 32) (p : FVec F S4x16x1024 .f32) : FVec F S16x1024 .f32 := nrmV (meanV b p)

abbrev Λc : Labels := Λ₀

set_option maxRecDepth 65536 in
theorem bounds_eq (arg0 : Memref sig .tc .vmem S256x128 .i32) (harg0 : arg0.IsWhole) (arg1 : Memref sig .tc .vmem S8x128 .i32) (harg1 : arg1.IsWhole) :
    (cc0__bounds_tc (F := F) arg0 harg0 arg1 harg1 : Prog (TpuEff nD τ sig (Elt F) Λ₀ .tc) PUnit)
      = Prog.op (.load arg0 (Rect.unit (s := S256x128) ![0, 0] S256x128.size inb_S256x128_S256x128_0_0).toLoadRect (View.loadsAt_vmem h_S256x128)) fun (x : Vec F S256x128 .i32) =>
        Prog.op (.load arg1 (Rect.unit (s := S8x128) ![0, 0] S8x128.size inb_S8x128_S8x128_0_0).toLoadRect (View.loadsAt_vmem h_S8x128)) fun _ =>
        Prog.op (.store arg1 (Rect.unit (s := S8x128) ![0, 0] S8x128.size inb_S8x128_S8x128_0_0) (bndV x) Finset.univ (View.stores_vmem_bits_univ h_S8x128 rfl) (.inl rfl)) fun _ =>
        Prog.ret ⟨⟩ := rfl

set_option maxRecDepth 65536 in
theorem finish_eq (arg0 : Memref sig .tc .vmem S8x128 .i32) (harg0 : arg0.IsWhole) (arg1 : Memref sig .tc .vmem S4x16x1024 .f32) (harg1 : arg1.IsWhole)
    (arg2 : Memref sig .tc .vmem S16x1024 .f32) (harg2 : arg2.IsWhole) :
    (cc2__finish_tc (F := F) arg0 harg0 arg1 harg1 arg2 harg2 : Prog (TpuEff nD τ sig (Elt F) Λ₀ .tc) PUnit)
      = Prog.op (.load arg0 (Rect.unit (s := S8x128) ![0, 0] S8x128.size inb_S8x128_S8x128_0_0).toLoadRect (View.loadsAt_vmem h_S8x128)) fun (b : Vec F S8x128 .i32) =>
        Prog.op (.load arg1 (Rect.unit (s := S4x16x1024) ![0, 0, 0] S4x16x1024.size inb_S4x16x1024_S4x16x1024_0_0_0).toLoadRect (View.loadsAt_vmem h_S4x16x1024)) fun (p : Vec F S4x16x1024 .f32) =>
        Prog.op (.load arg2 (Rect.unit (s := S16x1024) ![0, 0] S16x1024.size inb_S16x1024_S16x1024_0_0).toLoadRect (View.loadsAt_vmem h_S16x1024)) fun _ =>
        Prog.op (.store arg2 (Rect.unit (s := S16x1024) ![0, 0] S16x1024.size inb_S16x1024_S16x1024_0_0) (finV b p) Finset.univ (View.stores_vmem_bits_univ h_S16x1024 rfl) (.inl rfl)) fun _ =>
        Prog.ret ⟨⟩ := rfl

theorem zero2 : (![0, 0] : Fin 2 → ℕ) = fun _ => 0 := by funext a; fin_cases a <;> rfl
theorem zero3 : (![0, 0, 0] : Fin 3 → ℕ) = fun _ => 0 := by funext a; fin_cases a <;> rfl

/-- The first body, run on its two staging buffers. -/
theorem bounds_run (c : Dev nD) (x : cc0_stg0_0.ty.Contents (Elt F)) (y : cc0_stg1_0.ty.Contents (Elt F)) (Q : PUnit → sProp 𝕄) :
    iprop(((c.tc : Thread nD τ).loc cc0_stg0_0 ↦{fullShare} x) ∗ ((c.tc : Thread nD τ).loc cc0_stg1_0 ↦{fullShare} y)
      ∗ (iprop(((c.tc : Thread nD τ).loc cc0_stg0_0 ↦{fullShare} x) ∗ ((c.tc : Thread nD τ).loc cc0_stg1_0 ↦{fullShare} (bndV x : cc0_stg1_0.ty.Contents (Elt F)))) -∗ Q ⟨⟩))
    ⊢ wp frame (wpE (defs₀ (F := F)) Variants.none (c.tc : Thread nD τ) none) Set.univ
        (cc0__bounds_tc (F := F) (Memref.whole cc0_stg0_0) (Memref.isWhole_whole _) (Memref.whole cc0_stg1_0) (Memref.isWhole_whole _)) Q := by
  rw [bounds_eq]
  iintro ⟨H0, H1, HQ⟩
  iapply (wp_load_rect Variants.none (c.tc : Thread nD τ) none Set.univ (m := Memref.whole cc0_stg0_0)
    (r := Rect.unit (s := S256x128) ![0, 0] S256x128.size inb_S256x128_S256x128_0_0) (S := Finset.univ) (Finset.subset_univ _)) $$ [H0]
  · iexact H0
  iintro H0
  rw [show ((Memref.whole cc0_stg0_0).access (Rect.unit (s := S256x128) ![0, 0] S256x128.size inb_S256x128_S256x128_0_0)).read (Elt F) x = x from
    Memref.read_access_unit_zero (Elt F) cc0_stg0_0 zero2 _ x]
  iapply (wp_load_rect Variants.none (c.tc : Thread nD τ) none Set.univ (m := Memref.whole cc0_stg1_0)
    (r := Rect.unit (s := S8x128) ![0, 0] S8x128.size inb_S8x128_S8x128_0_0) (S := Finset.univ) (Finset.subset_univ _)) $$ [H1]
  · iexact H1
  iintro H1
  iapply (wp_store Variants.none (c.tc : Thread nD τ) none Set.univ (m := Memref.whole cc0_stg1_0)
    (r := Rect.unit (s := S8x128) ![0, 0] S8x128.size inb_S8x128_S8x128_0_0) (S := Finset.univ) (Finset.subset_univ _)) $$ [H1]
  · iexact H1
  iintro H1
  rw [show ((Memref.whole cc0_stg1_0).access (Rect.unit (s := S8x128) ![0, 0] S8x128.size inb_S8x128_S8x128_0_0)).write (Elt F) y (bndV x) Finset.univ = bndV x from
    Memref.write_access_unit_zero_univ (Elt F) cc0_stg1_0 zero2 _ y (bndV x)]
  rw [wp_ret]
  imodintro
  iapply HQ
  isplitl [H0] <;> iassumption

/-- The last body, run on its three staging buffers. -/
theorem finish_run (c : Dev nD) (x : cc2_stg0_0.ty.Contents (Elt F)) (p : cc2_stg1_0.ty.Contents (Elt F)) (y : cc2_stg2_0.ty.Contents (Elt F)) (Q : PUnit → sProp 𝕄) :
    iprop(((c.tc : Thread nD τ).loc cc2_stg0_0 ↦{fullShare} x) ∗ ((c.tc : Thread nD τ).loc cc2_stg1_0 ↦{fullShare} p) ∗ ((c.tc : Thread nD τ).loc cc2_stg2_0 ↦{fullShare} y)
      ∗ (iprop(((c.tc : Thread nD τ).loc cc2_stg0_0 ↦{fullShare} x) ∗ ((c.tc : Thread nD τ).loc cc2_stg1_0 ↦{fullShare} p)
          ∗ ((c.tc : Thread nD τ).loc cc2_stg2_0 ↦{fullShare} (finV x p : cc2_stg2_0.ty.Contents (Elt F)))) -∗ Q ⟨⟩))
    ⊢ wp frame (wpE (defs₀ (F := F)) Variants.none (c.tc : Thread nD τ) none) Set.univ
        (cc2__finish_tc (F := F) (Memref.whole cc2_stg0_0) (Memref.isWhole_whole _) (Memref.whole cc2_stg1_0) (Memref.isWhole_whole _) (Memref.whole cc2_stg2_0) (Memref.isWhole_whole _)) Q := by
  rw [finish_eq]
  iintro ⟨H0, H1, H2, HQ⟩
  iapply (wp_load_rect Variants.none (c.tc : Thread nD τ) none Set.univ (m := Memref.whole cc2_stg0_0)
    (r := Rect.unit (s := S8x128) ![0, 0] S8x128.size inb_S8x128_S8x128_0_0) (S := Finset.univ) (Finset.subset_univ _)) $$ [H0]
  · iexact H0
  iintro H0
  rw [show ((Memref.whole cc2_stg0_0).access (Rect.unit (s := S8x128) ![0, 0] S8x128.size inb_S8x128_S8x128_0_0)).read (Elt F) x = x from
    Memref.read_access_unit_zero (Elt F) cc2_stg0_0 zero2 _ x]
  iapply (wp_load_rect Variants.none (c.tc : Thread nD τ) none Set.univ (m := Memref.whole cc2_stg1_0)
    (r := Rect.unit (s := S4x16x1024) ![0, 0, 0] S4x16x1024.size inb_S4x16x1024_S4x16x1024_0_0_0) (S := Finset.univ) (Finset.subset_univ _)) $$ [H1]
  · iexact H1
  iintro H1
  rw [show ((Memref.whole cc2_stg1_0).access (Rect.unit (s := S4x16x1024) ![0, 0, 0] S4x16x1024.size inb_S4x16x1024_S4x16x1024_0_0_0)).read (Elt F) p = p from
    Memref.read_access_unit_zero (Elt F) cc2_stg1_0 zero3 _ p]
  iapply (wp_load_rect Variants.none (c.tc : Thread nD τ) none Set.univ (m := Memref.whole cc2_stg2_0)
    (r := Rect.unit (s := S16x1024) ![0, 0] S16x1024.size inb_S16x1024_S16x1024_0_0) (S := Finset.univ) (Finset.subset_univ _)) $$ [H2]
  · iexact H2
  iintro H2
  iapply (wp_store Variants.none (c.tc : Thread nD τ) none Set.univ (m := Memref.whole cc2_stg2_0)
    (r := Rect.unit (s := S16x1024) ![0, 0] S16x1024.size inb_S16x1024_S16x1024_0_0) (S := Finset.univ) (Finset.subset_univ _)) $$ [H2]
  · iexact H2
  iintro H2
  rw [show ((Memref.whole cc2_stg2_0).access (Rect.unit (s := S16x1024) ![0, 0] S16x1024.size inb_S16x1024_S16x1024_0_0)).write (Elt F) y (finV x p) Finset.univ = finV x p from
    Memref.write_access_unit_zero_univ (Elt F) cc2_stg2_0 zero2 _ y (finV x p)]
  rw [wp_ret]
  imodintro
  iapply HQ
  isplitl [H0]; · iexact H0
  isplitl [H1] <;> iassumption

/-! ## The regions' proof data -/

variable (ids : Dev nD → main_v0.ty.Contents (Elt F)) (o1 : Dev nD → main_v1.ty.Contents (Elt F))
  (parts : Dev nD → main_v2.ty.Contents (Elt F)) (o3 : Dev nD → main_v3.ty.Contents (Elt F))

/-- The first region: the identifiers in, the boundary words out. -/
def dat0 (c : Dev nD) : Dat τ (Elt F) (HIx 1) ℕ UU ℕ cfg0 c where
  A w := match w with | ⟨0, _⟩ => ids c | ⟨1, _⟩ => o1 c
  after w _ := match w with | ⟨0, _⟩ => ids c | ⟨1, _⟩ => (bndV (ids c) : cc0_stg1_0.ty.Contents (Elt F))
  Φ _ := Pipeline.scopedRest spec0 c
  q _ := fullShare
  owed _ := (K (F := F)).Otc c 0
  recorded _ := {p | (K (F := F)).lev ((T c : Thread nD τ), p.1) p.2 ≤ 0}

/-- The last region: the boundary words and the partial sums in, the result out. -/
def dat1 (c : Dev nD) : Dat τ (Elt F) (HIx 1) ℕ UU ℕ cfg2 c where
  A w := match w with | ⟨0, _⟩ => (bndV (ids c) : main_v1.ty.Contents (Elt F)) | ⟨1, _⟩ => parts c | ⟨2, _⟩ => o3 c
  after w _ := match w with | ⟨0, _⟩ => (bndV (ids c) : main_v1.ty.Contents (Elt F)) | ⟨1, _⟩ => parts c | ⟨2, _⟩ => (finV (bndV (ids c)) (parts c) : cc2_stg2_0.ty.Contents (Elt F))
  Φ _ := Pipeline.scopedRest spec2 c
  q _ := fullShare
  owed _ := (K (F := F)).Otc c 1
  recorded _ := {p | (K (F := F)).lev ((T c : Thread nD τ), p.1) p.2 ≤ 8}

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => dat0 ids o1
  | ⟨1, _⟩ => dat1 ids parts o3
  | ⟨n + 2, h⟩ => absurd h (Nat.not_lt.2 (Nat.le_add_left _ _))

theorem read0_0 (t : Fin cfg0.N) (f : main_v0.ty.Contents (Elt F)) : ((cfg0.win 0).blk t).view.read (Elt F) f = f := by
  funext j
  show f _ = f j
  congr 1
  funext a
  apply Fin.ext
  show 0 * _ + 1 * (j a).val = (j a).val
  omega

theorem read0_1 (t : Fin cfg0.N) (f : main_v1.ty.Contents (Elt F)) : ((cfg0.win 1).blk t).view.read (Elt F) f = f := by
  funext j
  show f _ = f j
  congr 1
  funext a
  apply Fin.ext
  show 0 * _ + 1 * (j a).val = (j a).val
  omega

theorem read2_0 (t : Fin cfg2.N) (f : main_v1.ty.Contents (Elt F)) : ((cfg2.win 0).blk t).view.read (Elt F) f = f := by
  funext j
  show f _ = f j
  congr 1
  funext a
  apply Fin.ext
  show 0 * _ + 1 * (j a).val = (j a).val
  omega

theorem read2_1 (t : Fin cfg2.N) (f : main_v2.ty.Contents (Elt F)) : ((cfg2.win 1).blk t).view.read (Elt F) f = f := by
  funext j
  show f _ = f j
  congr 1
  funext a
  apply Fin.ext
  show 0 * _ + 1 * (j a).val = (j a).val
  omega

theorem read2_2 (t : Fin cfg2.N) (f : main_v3.ty.Contents (Elt F)) : ((cfg2.win 2).blk t).view.read (Elt F) f = f := by
  funext j
  show f _ = f j
  congr 1
  funext a
  apply Fin.ext
  show 0 * _ + 1 * (j a).val = (j a).val
  omega

theorem before0 (c : Dev nD) (d) : (dat0 ids o1 c).before 0 t0_0 d = ids c := by
  unfold Dat.before; rw [if_pos (fetch0_0 _)]; exact read0_0 t0_0 (ids c)

theorem before2_0 (c : Dev nD) (d) : (dat1 ids parts o3 c).before 0 t2_0 d = (bndV (ids c) : main_v1.ty.Contents (Elt F)) := by
  unfold Dat.before; rw [if_pos (fetch2_0 _)]; exact read2_0 (F := F) t2_0 (bndV (ids c))

theorem before2_1 (c : Dev nD) (d) : (dat1 ids parts o3 c).before 1 t2_0 d = parts c := by
  unfold Dat.before; rw [if_pos (fetch2_1 _)]; exact read2_1 t2_0 (parts c)

/-- What the arrays hold after the regions. -/
theorem final0 (c : Dev nD) : (dat0 ids o1 c).arrAt 1 cfg0.N = (bndV (ids c) : main_v1.ty.Contents (Elt F)) :=
  (dat0 ids o1 c).arrAt_eq_of_cover 1 (bndV (ids c) : main_v1.ty.Contents (Elt F)) (fun t _ => (read0_1 t _).symm)
    fun i => ⟨t0_0, flush0_1 _, Finset.mem_map.mpr ⟨i, Finset.mem_univ _, by
      funext a; apply Fin.ext; show 0 * _ + 1 * (i a).val = (i a).val; omega⟩⟩

theorem final2 (c : Dev nD) : (dat1 ids parts o3 c).arrAt 2 cfg2.N = (finV (bndV (ids c)) (parts c) : main_v3.ty.Contents (Elt F)) :=
  (dat1 ids parts o3 c).arrAt_eq_of_cover 2 (finV (bndV (ids c)) (parts c) : main_v3.ty.Contents (Elt F)) (fun t _ => (read2_2 t _).symm)
    fun i => ⟨t2_0, flush2_2 _, Finset.mem_map.mpr ⟨i, Finset.mem_univ _, by
      funext a; apply Fin.ext; show 0 * _ + 1 * (i a).val = (i a).val; omega⟩⟩

/-- The first region's body. -/
theorem body0 (c : Dev nD) : BodyObligation (dat0 ids o1 c) (defs₀ (F := F)) Variants.none none Set.univ := fun t => by
  obtain rfl := fin_N0 t
  rw [bigSep_W0, bigSep_W0]
  simp only [owns_whole_eq]
  rw [show (dat0 ids o1 c).Φ t0_0.castSucc = Pipeline.scopedRest spec0 c from rfl, show (dat0 ids o1 c).Φ t0_0.succ = Pipeline.scopedRest spec0 c from rfl]
  iintro ⟨HR, HO, ⟨%d0, %f0, %hf0, H0⟩, ⟨%d1, %f1, -, H1⟩⟩
  rw [before0] at hf0
  subst hf0
  iapply (bounds_run c (ids c) f1)
  isplitl [H0]; · iexact H0
  isplitl [H1]; · iexact H1
  iintro ⟨H0, H1⟩
  isplitl [HR]; · iexact HR
  isplitl [HO]; · iexact HO
  isplitl [H0]
  · iexists _; isplitr; swap; (· iexact H0); ipureintro; rfl
  iexists _; isplitr; swap; (· iexact H1); ipureintro; rfl

/-- The last region's body. -/
theorem body1 (c : Dev nD) : BodyObligation (dat1 ids parts o3 c) (defs₀ (F := F)) Variants.none none Set.univ := fun t => by
  obtain rfl := fin_N2 t
  rw [bigSep_W2, bigSep_W2]
  simp only [owns_whole_eq]
  rw [show (dat1 ids parts o3 c).Φ t2_0.castSucc = Pipeline.scopedRest spec2 c from rfl, show (dat1 ids parts o3 c).Φ t2_0.succ = Pipeline.scopedRest spec2 c from rfl]
  iintro ⟨HR, HO, ⟨%d0, %f0, %hf0, H0⟩, ⟨%d1, %f1, %hf1, H1⟩, ⟨%d2, %f2, -, H2⟩⟩
  rw [before2_0] at hf0
  rw [before2_1] at hf1
  subst hf0; subst hf1
  iapply (finish_run c (bndV (ids c)) (parts c) f2)
  isplitl [H0]; · iexact H0
  isplitl [H1]; · iexact H1
  isplitl [H2]; · iexact H2
  iintro ⟨H0, H1, H2⟩
  isplitl [HR]; · iexact HR
  isplitl [HO]; · iexact HO
  isplitl [H0]
  · iexists _; isplitr; swap; (· iexact H0); ipureintro; rfl
  isplitl [H1]
  · iexists _; isplitr; swap; (· iexact H1); ipureintro; rfl
  iexists _; isplitr; swap; (· iexact H2); ipureintro; rfl

theorem otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this
  omega

/-- The TensorCore's debts before call `n`, its recorded waits at or below the level `b`. -/
def OW (c : Dev nD) (n b : ℕ) : sProp 𝕄 :=
  iprop(∃ W, ⌜∀ p ∈ W, (K (F := F)).lev ((T c : Thread nD τ), p.1) p.2 ≤ b⌝ ∗ owes (T c : Thread nD τ) ((K (F := F)).Otc c n) W)

set_option backward.isDefEq.respectTransparency.types false in
/-- The first region. -/
def reg0 : Pipeline.RegionSeg (pcfgs (F := F)) adm (pdats ids o1 parts o3) none defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body0 ids o1 c).loose
  hwaits c := Pipeline.cellsWaits_intro _ _ _ 0 c fun _ _ _ => (K (F := F)).mayWait_none _ (otc_none c 0)
  pre c := iprop(((T c : Thread nD τ).loc main_v0 ↦{fullShare} ids c) ∗ ((T c : Thread nD τ).loc main_v1 ↦{fullShare} o1 c) ∗ OW c 0 0)
  post c := iprop(((T c : Thread nD τ).loc main_v0 ↦{fullShare} ids c) ∗ ((T c : Thread nD τ).loc main_v1 ↦{fullShare} (bndV (ids c) : main_v1.ty.Contents (Elt F))) ∗ OW c 0 0)
  X _ := iprop(emp)
  Y _ := iprop(emp)
  Z _ := iprop(emp)
  hentry c := by
    rw [Pipeline.ownSems0_none, Pipeline.prefHeld_of_none _ rfl,
      Pipeline.arrays_eq _ (pdats ids o1 parts o3) 0 c launch0.arr_whole ((dat0 ids o1 c).share_full fun _ => rfl)]
    rw [show (Finset.univ : Finset (Fin (Pipeline.pin (pcfgs (F := F)) adm 0).W)) = (Finset.univ : Finset (Fin 2)) from rfl]
    rw [bigSep_W0]
    unfold OW Pipeline.Dat.owesAt Pipeline.owesWithin
    iintro ⟨⟨H0, H1, ⟨%W, %hW, HO⟩⟩, -, -⟩
    imodintro
    isplitl [H0 H1]
    · isplitl [H0]; · iexact H0
      iexact H1
    isplitr; · iempintro
    isplitl [HO]
    · iexists W
      isplitr; · ipureintro; exact fun p hp => Or.inl (hW p hp)
      iexact HO
    isplitr; · iempintro
    iempintro
  hin c := by
    show iprop(_ ∗ _ ∗ Pipeline.scopedRest spec0 c) ⊢ iprop(Pipeline.scopedRest spec0 c)
    iintro ⟨-, -, Hr⟩
    iexact Hr
  hout c := by
    rw [Pipeline.ownSems0_none]
    show iprop(Pipeline.scopedRest spec0 c) ⊢ iprop(_ ∗ _ ∗ Pipeline.scopedRest spec0 c)
    iintro Hr
    isplitr; · iempintro
    isplitr; · iempintro
    iexact Hr
  hexit c := by
    rw [Pipeline.arrays_eq _ (pdats ids o1 parts o3) 0 c launch0.arr_whole ((dat0 ids o1 c).share_full fun _ => rfl)]
    rw [show (Finset.univ : Finset (Fin (Pipeline.pin (pcfgs (F := F)) adm 0).W)) = (Finset.univ : Finset (Fin 2)) from rfl]
    rw [bigSep_W0]
    rw [show (pdats ids o1 parts o3 0 c).arrAt (1 : Fin 2) (Pipeline.pin (pcfgs (F := F)) adm 0).N = _ from final0 ids o1 c,
      show (pdats ids o1 parts o3 0 c).arrAt (0 : Fin 2) (Pipeline.pin (pcfgs (F := F)) adm 0).N = _ from (dat0 ids o1 c).arrAt_in 0 rfl _]
    unfold OW Pipeline.Dat.owesAt Pipeline.owesWithin
    iintro ⟨⟨H0, H1⟩, ⟨%W, %hW, HO⟩, -, -⟩
    imodintro
    isplitl [H0]; · iexact H0
    isplitl [H1]; · iexact H1
    iexists W
    isplitr
    · ipureintro
      intro p hp
      rcases hW hp with h | ⟨w, s, rfl⟩
      · exact h
      · exact le_of_eq rfl
    iexact HO

set_option backward.isDefEq.respectTransparency.types false in
/-- The last region. -/
def reg1 : Pipeline.RegionSeg (pcfgs (F := F)) adm (pdats ids o1 parts o3) none defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := (body1 ids parts o3 c).loose
  hwaits c := Pipeline.cellsWaits_intro _ _ _ 1 c fun _ _ _ => (K (F := F)).mayWait_none _ (otc_none c 1)
  pre c := iprop(((T c : Thread nD τ).loc main_v1 ↦{fullShare} (bndV (ids c) : main_v1.ty.Contents (Elt F))) ∗ ((T c : Thread nD τ).loc main_v2 ↦{fullShare} parts c)
    ∗ ((T c : Thread nD τ).loc main_v3 ↦{fullShare} o3 c) ∗ OW c 1 8)
  post c := iprop(((T c : Thread nD τ).loc main_v1 ↦{fullShare} (bndV (ids c) : main_v1.ty.Contents (Elt F))) ∗ ((T c : Thread nD τ).loc main_v2 ↦{fullShare} parts c)
    ∗ ((T c : Thread nD τ).loc main_v3 ↦{fullShare} (finV (bndV (ids c)) (parts c) : main_v3.ty.Contents (Elt F))) ∗ OW c 1 8)
  X _ := iprop(emp)
  Y _ := iprop(emp)
  Z _ := iprop(emp)
  hentry c := by
    rw [Pipeline.ownSems0_none, Pipeline.prefHeld_of_none _ rfl,
      Pipeline.arrays_eq _ (pdats ids o1 parts o3) 1 c launch2.arr_whole ((dat1 ids parts o3 c).share_full fun _ => rfl)]
    rw [show (Finset.univ : Finset (Fin (Pipeline.pin (pcfgs (F := F)) adm 1).W)) = (Finset.univ : Finset (Fin 3)) from rfl]
    rw [bigSep_W2]
    unfold OW Pipeline.Dat.owesAt Pipeline.owesWithin
    iintro ⟨⟨H0, H1, H2, ⟨%W, %hW, HO⟩⟩, -, -⟩
    imodintro
    isplitl [H0 H1 H2]
    · isplitl [H0]; · iexact H0
      isplitl [H1]; · iexact H1
      iexact H2
    isplitr; · iempintro
    isplitl [HO]
    · iexists W
      isplitr; · ipureintro; exact fun p hp => Or.inl (hW p hp)
      iexact HO
    isplitr; · iempintro
    iempintro
  hin c := by
    show iprop(_ ∗ _ ∗ Pipeline.scopedRest spec2 c) ⊢ iprop(Pipeline.scopedRest spec2 c)
    iintro ⟨-, -, Hr⟩
    iexact Hr
  hout c := by
    rw [Pipeline.ownSems0_none]
    show iprop(Pipeline.scopedRest spec2 c) ⊢ iprop(_ ∗ _ ∗ Pipeline.scopedRest spec2 c)
    iintro Hr
    isplitr; · iempintro
    isplitr; · iempintro
    iexact Hr
  hexit c := by
    rw [Pipeline.arrays_eq _ (pdats ids o1 parts o3) 1 c launch2.arr_whole ((dat1 ids parts o3 c).share_full fun _ => rfl)]
    rw [show (Finset.univ : Finset (Fin (Pipeline.pin (pcfgs (F := F)) adm 1).W)) = (Finset.univ : Finset (Fin 3)) from rfl]
    rw [bigSep_W2]
    rw [show (pdats ids o1 parts o3 1 c).arrAt (2 : Fin 3) (Pipeline.pin (pcfgs (F := F)) adm 1).N = _ from final2 ids parts o3 c,
      show (pdats ids o1 parts o3 1 c).arrAt (1 : Fin 3) (Pipeline.pin (pcfgs (F := F)) adm 1).N = _ from (dat1 ids parts o3 c).arrAt_in 1 rfl _,
      show (pdats ids o1 parts o3 1 c).arrAt (0 : Fin 3) (Pipeline.pin (pcfgs (F := F)) adm 1).N = _ from (dat1 ids parts o3 c).arrAt_in 0 rfl _]
    unfold OW Pipeline.Dat.owesAt Pipeline.owesWithin
    iintro ⟨⟨H0, H1, H2⟩, ⟨%W, %hW, HO⟩, -, -⟩
    imodintro
    isplitl [H0]; · iexact H0
    isplitl [H1]; · iexact H1
    isplitl [H2]; · iexact H2
    iexists W
    isplitr
    · ipureintro
      intro p hp
      rcases hW hp with h | ⟨w, s, rfl⟩
      · exact h
      · exact Nat.zero_le _
    iexact HO

end Cert.Proof.Seg

end
-- ==== Proof.Tile.lean ====
/-
  The tile task with the resources a launch hands it: its shares of the table and of the boundary words, and its block of
  the result, which it hands back holding its part of `PART`.
-/
module

public import proofs.«01_k».proof.Proof.Body
public import proofs.«01_k».proof.Proof.Pipes
public import Idealize.ShloMosaic.Lib.SparseCore.Quiescent

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The blocks of the result -/

abbrev xLoc (d : Dev nD) : Loc nD τ sig := (SparseCore.T d).loc main_arg0
abbrev bLoc (d : Dev nD) : Loc nD τ sig := (SparseCore.T d).loc main_v1
abbrev oLoc (d : Dev nD) : Loc nD τ sig := (SparseCore.T d).loc main_v2

abbrev oM : Memref sig .scVector .hbm S4x16x1024 .f32 := Memref.whole main_v2_scv

/-- The elements of tile `i`'s block. -/
def blkSet (i : grid1.Coords) : Finset S4x16x1024.Idx := (blk oM i).view.set

theorem mem_blkSet (i : grid1.Coords) (j : S4x16x1024.Idx) : j ∈ blkSet i ↔ 8 * (j 0).val + (j 2).val / 128 = tileN i := by
  have e : blkSet i = (Rect.unit (s := S4x16x1024) (k1_off1062 i) S1x16x128.size (k1_off1062_inb i)).set := by
    show (((oM).view.slice (Rect.unit (s := S4x16x1024) (k1_off1062 i) S1x16x128.size (k1_off1062_inb i))).reshape S16x128 squeezes_S1x16x128_S16x128.numel_eq).set = _
    rw [View.set_reshape, View.set_slice]; exact Finset.map_refl
  have h0 : (j 0).val < 4 := (j 0).isLt
  have h1 : (j 1).val < 16 := (j 1).isLt
  have h2 : (j 2).val < 1024 := (j 2).isLt
  have hT := tileN_lt i
  obtain ⟨o0, o1, o2⟩ := off1062_word i
  rw [e, Rect.mem_set_unit]
  constructor
  · intro h
    have a0 : k1_off1062 i 0 ≤ (j 0).val ∧ (j 0).val < k1_off1062 i 0 + 1 := h 0
    have a2 : k1_off1062 i 2 ≤ (j 2).val ∧ (j 2).val < k1_off1062 i 2 + 128 := h 2
    rw [o0] at a0; rw [o2] at a2; unfold colN at a2
    omega
  · intro h a
    fin_cases a
    · show k1_off1062 i 0 ≤ (j 0).val ∧ (j 0).val < k1_off1062 i 0 + 1
      rw [o0]; omega
    · show k1_off1062 i 1 ≤ (j 1).val ∧ (j 1).val < k1_off1062 i 1 + 16
      rw [o1]; omega
    · show k1_off1062 i 2 ≤ (j 2).val ∧ (j 2).val < k1_off1062 i 2 + 128
      rw [o2]; unfold colN; omega

theorem tileN_co (a : Fin 2) (b : Fin 16) : tileN (co a b) = 2 * b.val + a.val := rfl

theorem co_inj (a a' : Fin 2) (b b' : Fin 16) (h : tileN (co a b) = tileN (co a' b')) : a = a' ∧ b = b' := by
  rw [tileN_co, tileN_co] at h
  exact ⟨Fin.ext (by omega), Fin.ext (by omega)⟩

/-- The tile that writes features `f/128` of rows block `a`. -/
def tileOf (a f : ℕ) : grid1.Coords :=
  co ⟨(8 * a + f / 128) % 2, Nat.mod_lt _ (by decide)⟩ ⟨(8 * a + f / 128) / 2 % 16, Nat.mod_lt _ (by decide)⟩

/-- The table as a function of its row and feature. -/
def tabOf (x : S32768x1024.Idx → F .f32) (r c : ℕ) : F .f32 :=
  if h : r < 32768 ∧ c < 1024 then x (ix2 ⟨r, h.1⟩ ⟨c, h.2⟩) else Scalar.ofBits .f32 0x00000000#32

/-- The first row of the boundary table. -/
def rowOf (b : IVec S8x128 32) (c : ℕ) : BitVec 32 := if h : c < 128 then b (ix2 (0 : Fin 8) ⟨c, h⟩) else 0#32

/-- What the tiles leave. -/
def PART (x : S32768x1024.Idx → F .f32) (b : IVec S8x128 32) (P : ℕ → ℕ) : S4x16x1024.Idx → F .f32 := fun j =>
  sums (tileOf (j 0).val (j 2).val) (tabOf x) (Scalar.ofBits .f32 0x00000000#32) P (rowOf b) 32 (j 1).val ((j 2).val % 128)

theorem emb_blk (i : grid1.Coords) (r : Fin 16) (c : Fin 128) :
    ((blk oM i).view.emb (ix2 r c) 0).val = tileN i / 8 ∧ ((blk oM i).view.emb (ix2 r c) 1).val = r.val
      ∧ ((blk oM i).view.emb (ix2 r c) 2).val = colN i + c.val := by
  obtain ⟨o0, o1, o2⟩ := off1062_word i
  have e : Shape.reshapeEquiv squeezes_S1x16x128_S16x128.numel_eq (ix2 r c) = Fin.cons ⟨0, Nat.one_pos⟩ (ix2 r c) :=
    Shape.reshapeEquiv_cons_one (d := ![16, 128]) _ _
  have e' : (blk oM i).view.emb (ix2 r c)
      = (Rect.unit (s := S4x16x1024) (k1_off1062 i) S1x16x128.size (k1_off1062_inb i)).emb (Fin.cons ⟨0, Nat.one_pos⟩ (ix2 r c)) := by
    rw [← e]; rfl
  rw [e']
  refine ⟨?_, ?_, ?_⟩
  · show k1_off1062 i 0 + 1 * 0 = _
    rw [o0]; omega
  · show k1_off1062 i 1 + 1 * r.val = _
    rw [o1]; omega
  · show k1_off1062 i 2 + 1 * c.val = _
    rw [o2]; omega

theorem tileOf_eq (i : grid1.Coords) (f : ℕ) (h : f / 128 = tileN i % 8) : tileOf (tileN i / 8) f = i := by
  have hT := tileN_lt i
  have h0 : (i 0).val < 2 := (i 0).isLt
  have h1 : (i 1).val < 16 := (i 1).isLt
  unfold tileOf
  conv_rhs => rw [co_eta i]
  have ht : tileN i = 2 * (i 1).val + (i 0).val := rfl
  congr 1
  · apply Fin.ext; show (8 * (tileN i / 8) + f / 128) % 2 = (i 0).val; omega
  · apply Fin.ext; show (8 * (tileN i / 8) + f / 128) / 2 % 16 = (i 1).val; omega

/-- A block that holds its tile's sums is a block of `PART`. -/
theorem blk_part (i : grid1.Coords) (x : S32768x1024.Idx → F .f32) (b : IVec S8x128 32) (P : ℕ → ℕ) (f : S4x16x1024.Idx → F .f32)
    (h : ∀ (r : Fin 16) (c : Fin 128), (blk oM i).view.read (Elt F) f (ix2 r c) = sums i (tabOf x) (Scalar.ofBits .f32 0x00000000#32) P (rowOf b) 32 r c) :
    ∀ j ∈ blkSet i, f j = PART x b P j := by
  intro j hj
  obtain ⟨y, -, rfl⟩ := Finset.mem_map.mp hj
  obtain ⟨r, c, rfl⟩ : ∃ (r : Fin 16) (c : Fin 128), y = ix2 r c := ⟨y 0, y 1, by funext a; fin_cases a <;> rfl⟩
  obtain ⟨e0, e1, e2⟩ := emb_blk i r c
  have hT := tileN_lt i
  have hr : f ((blk oM i).view.emb (ix2 r c)) = _ := h r c
  rw [hr]
  unfold PART
  rw [e0, e1, e2, tileOf_eq i _ (by unfold colN; omega)]
  congr 1
  unfold colN; omega

/-! ## The task -/

section Tile

variable (d : Dev nD) (L : grid1.Coords)

abbrev cAcell : GSem nD τ sig := (thr L d, .dma cc1_scratch4.sem)
abbrev cBcell : GSem nD τ sig := (thr L d, .dma cc1_scoped0.sem)
abbrev cCcell : GSem nD τ sig := (thr L d, .dma cc1_scoped1.sem)

theorem ownSems0_V :
    (ownSems0 (thr L d) : sProp 𝕄)
      = iprop(semVal (cAcell d L) 0 ∗ semVal (cBcell d L) 0 ∗ semVal (cCcell d L) 0
          ∗ bigSep ((((ownCells (thr L d)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc1_scratch4.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc1_scoped1.sem : SemLoc sig).isScoped .scVector = true; decide⟩⟩⟩)]

abbrev dref (b : Ref sig .scVector) : DevRef τ sig := (Proc.scVector ((L 0).castLE hcore1) ((L 1).castLE hsub1)).devRef b

theorem dref_ne {b b' : Ref sig .scVector} (h : b ≠ b') : dref L b ≠ dref L b' := fun e => h (Proc.devRef_injective _ e)

theorem ownBufs_V :
    (ownBufs (thr L d) : sProp 𝕄)
      = iprop((∃ f, (thr L d).loc cc1_scratch0 ↦{fullShare} f) ∗ (∃ f, (thr L d).loc cc1_scratch1 ↦{fullShare} f)
          ∗ (∃ f, (thr L d).loc cc1_scratch2 ↦{fullShare} f) ∗ (∃ f, (thr L d).loc cc1_scratch3 ↦{fullShare} f)
          ∗ bigSep (((((ownRefs (τ := τ) (Proc.scVector ((L 0).castLE hcore1) ((L 1).castLE hsub1))).erase (dref L cc1_scratch0)).erase (dref L cc1_scratch1)).erase
              (dref L cc1_scratch2)).erase (dref L cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore1) ((L 1).castLE hsub1))
    (b := dref L cc1_scratch0) rfl)).trans ?_
  rw [SparseCore.bigSep_erase' (Finset.mem_erase.mpr ⟨dref_ne L (by decide), SparseCore.Cfg.mem_ownRefs_of_owner (p := Proc.scVector ((L 0).castLE hcore1) ((L 1).castLE hsub1)) (b := dref L cc1_scratch1) rfl⟩),
    SparseCore.bigSep_erase' (Finset.mem_erase.mpr ⟨dref_ne L (by decide), Finset.mem_erase.mpr ⟨dref_ne L (by decide),
      SparseCore.Cfg.mem_ownRefs_of_owner (p := Proc.scVector ((L 0).castLE hcore1) ((L 1).castLE hsub1)) (b := dref L cc1_scratch2) rfl⟩⟩),
    SparseCore.bigSep_erase' (Finset.mem_erase.mpr ⟨dref_ne L (by decide), Finset.mem_erase.mpr ⟨dref_ne L (by decide), Finset.mem_erase.mpr ⟨dref_ne L (by decide),
      SparseCore.Cfg.mem_ownRefs_of_owner (p := Proc.scVector ((L 0).castLE hcore1) ((L 1).castLE hsub1)) (b := dref L cc1_scratch3) rfl⟩⟩⟩)]

/-- What the proof asks of the boundary table: its words are the numbers `P`, small, the first zero. -/
structure BndOK (b : IVec S8x128 32) (P : ℕ → ℕ) : Prop where
  small : ∀ n, P n < 2 ^ 30
  zero : P 0 = 0
  word : ∀ n (h : n ≤ 16), rowOf b n = BitVec.ofNat 32 (P n)

theorem tile_body (x : S32768x1024.Idx → F .f32) (b : IVec S8x128 32) (P : ℕ → ℕ) (f0 : S4x16x1024.Idx → F .f32) (hB : BndOK b P) (q qb : PosShare TreeShare)
    (hF : (K (F := F)).Facts) (O : CellTallies nD τ sig (HIx 1)) (W : Waits sig (HIx 1)) (hO : ∀ g, O g none = 0) :
    iprop(levAts (K (F := F)).L (K (F := F)).lev ∗ emp
        ∗ ((xLoc d ↦{q} (x : Buf (Elt F) (xLoc d))) ∗ (bLoc d ↦{qb} (b : Buf (Elt F) (bLoc d))) ∗ (oLoc d ↦[blkSet L]{fullShare} (f0 : Buf (Elt F) (oLoc d))))
        ∗ (scopedBufs (thr L d) : sProp 𝕄) ∗ scopedSems0 (thr L d) ∗ owes (thr L d) O W)
      ⊢ wp frame (wpE (defs₀ (F := F)) Variants.none (thr L d) none) Set.univ
          (cc1__seg_sum_sc L (Memref.whole main_arg0_scv) (Memref.isWhole_whole _) (Memref.whole main_v1_scv) (Memref.isWhole_whole _)
            (Memref.whole main_v2_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scoped0 cc1_scoped1)
          fun _ => iprop(((xLoc d ↦{q} (x : Buf (Elt F) (xLoc d))) ∗ (bLoc d ↦{qb} (b : Buf (Elt F) (bLoc d))) ∗ (oLoc d ↦[blkSet L]{fullShare} (PART x b P : Buf (Elt F) (oLoc d))))
            ∗ scopedBufs (thr L d) ∗ scopedSems0 (thr L d)
            ∗ ∃ W', ⌜∀ p ∈ W', p ∈ W ∨ p.2 = none⌝ ∗ owes (thr L d) O W') := by
  have hx : ∀ (r : Fin 32768) (c : Fin 1024), (Memref.whole main_arg0_scv).view.read (Elt F) x (ix2 r c) = tabOf x r c := by
    intro r c
    show x (ix2 r c) = _
    unfold tabOf
    rw [dif_pos ⟨r.isLt, c.isLt⟩]
  have hb : ∀ c : Fin 128, (Memref.whole main_v1_scv).view.read (Elt F) b (ix2 (0 : Fin 8) c) = rowOf b c := by
    intro c
    show b (ix2 (0 : Fin 8) c) = _
    unfold rowOf
    rw [dif_pos c.isLt]
  have htile := tr_tile L d (defs₀ (F := F)) (Memref.whole main_arg0_scv) (Memref.isWhole_whole _) (Memref.whole main_v1_scv) (Memref.isWhole_whole _)
            (Memref.whole main_v2_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scoped0 cc1_scoped1 O W (rowOf b)
            (q := q) (X := x) (tab := tabOf x) (qb := qb) (Xb := b) hx (P := P) hB.small hB.word hb hB.zero
  rw [(K (F := F)).scopedBufs_V hF d ((L 0).castLE hcore1) ((L 1).castLE hsub1), SparseCore.Cfg.scopedSems0_V (Val := Elt F) d ((L 0).castLE hcore1) ((L 1).castLE hsub1)]
  rw [ownSems0_V, ownBufs_V]
  iintro ⟨#Hlv, -, ⟨Hx, Hb, Ho⟩, ⟨Hs0, Hs1, Hs2, Hs3, Hbufs⟩, ⟨HsA, HsB, HsC, Hsems⟩, HO⟩
  ihave Hmw := (show levAts (K (F := F)).L (K (F := F)).lev ⊢ Transfers.MayWaits (thr L d) (default : HIx 1) O from
    (K (F := F)).mayWaits_none (thr := thr L d) hO) $$ Hlv
  iapply (htile _)
  unfold BlkAny BlkHolds TileRes Any Owes
  isplitr [Hbufs Hsems]
  · isplitl [Ho]; · iexists f0; iexact Ho
    isplitl [Hx]; · iexact Hx
    isplitl [Hb]; · iexact Hb
    isplitl [Hs0]; · iexact Hs0
    isplitl [Hs1]; · iexact Hs1
    isplitl [Hs2]; · iexact Hs2
    isplitl [Hs3]; · iexact Hs3
    isplitl [HsA]; · iexact HsA
    isplitl [HsB]; · iexact HsB
    isplitl [HsC]; · iexact HsC
    isplitl [Hmw]; · iexact Hmw
    iexists W
    isplitr; · ipureintro; exact fun p hp => .inl hp
    iexact HO
  iintro ⟨⟨%f, %hf, Ho⟩, Hx, Hb, Hs0, Hs1, Hs2, Hs3, HsA, HsB, HsC, -, HO⟩
  ihave Ho := (Entails.of_eq (show ((blk oM L).view.loc (thr L d) ↦[(blk oM L).view.set]{fullShare} f : sProp 𝕄)
    = oLoc d ↦[blkSet L]{fullShare} (PART x b P : Buf (Elt F) (oLoc d)) from pointsTo_congr (blk_part L x b P f hf))) $$ Ho
  isplitl [Hx Hb Ho]
  · isplitl [Hx]; · iexact Hx
    isplitl [Hb]; · iexact Hb
    iexact Ho
  isplitl [Hs0 Hs1 Hs2 Hs3 Hbufs]
  · isplitl [Hs0]; · iexact Hs0
    isplitl [Hs1]; · iexact Hs1
    isplitl [Hs2]; · iexact Hs2
    isplitl [Hs3]; · iexact Hs3
    iexact Hbufs
  isplitl [HsA HsB HsC Hsems]
  · isplitl [HsA]; · iexact HsA
    isplitl [HsB]; · iexact HsB
    isplitl [HsC]; · iexact HsC
    iexact Hsems
  iexact HO

end Tile

end Cert.Proof.Seg

end
-- ==== Proof.Launch.lean ====
/-
  The launch: what the tiles are handed and hand back, @main on the TensorCore, and the run of the whole program over any
  float arithmetic.
-/
module

public import proofs.«01_k».proof.Proof.Tile

@[expose] public section

noncomputable section

namespace Cert.Proof.Seg

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl
abbrev D : Defs nD τ sig (Elt F) (Pipeline.Sig Λ₀ (Fin 2) fun p => (pcfgs (F := F) p).Adm) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## Shares of an array: halves taken off one after the other -/

/-- What is left of a share after `k` halves have been taken off, -/
def rest (q : PosShare TreeShare) : ℕ → PosShare TreeShare
  | 0 => q
  | k + 1 => (rest q k).right
/-- and the half taken off next. -/
def cut (q : PosShare TreeShare) (k : ℕ) : PosShare TreeShare := (rest q k).left

theorem sep_left (A B C : sProp 𝕄) : iprop(A ∗ B ∗ C) = iprop((B ∗ A) ∗ C) := by
  have h1 : iprop(A ∗ B ∗ C) ⊢ iprop((B ∗ A) ∗ C) := by
    iintro ⟨HA, HB, HC⟩
    isplitr [HC]
    · isplitl [HB]; · iexact HB
      iexact HA
    iexact HC
  have h2 : iprop((B ∗ A) ∗ C) ⊢ iprop(A ∗ B ∗ C) := by
    iintro ⟨⟨HB, HA⟩, HC⟩
    isplitl [HA]; · iexact HA
    isplitl [HB]; · iexact HB
    iexact HC
  exact BI.Entails.antisymm h1 h2

theorem sep_right (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB]; · iexact HB
    iexact HC
  have h2 : iprop(A ∗ B ∗ C) ⊢ iprop((A ∗ B) ∗ C) := by
    iintro ⟨HA, HB, HC⟩
    isplitr [HC]
    · isplitl [HA]; · iexact HA
      iexact HB
    iexact HC
  exact BI.Entails.antisymm h1 h2

theorem fan_range {ℓ : Loc nD τ sig} (I : Finset (Idx ℓ)) (f : Buf (Elt F) ℓ) (q : PosShare TreeShare) : ∀ n : ℕ,
    (ℓ ↦[I]{q} f : sProp 𝕄) = iprop((bigSep (Finset.range n) fun k => ℓ ↦[I]{cut q k} f) ∗ ℓ ↦[I]{rest q n} f)
  | 0 => by rw [Finset.range_zero, bigSep_empty]; exact (BI.equiv_iff.mp BI.emp_sep).symm
  | n + 1 => by
    have e : (ℓ ↦[I]{rest q n} f : sProp 𝕄) = iprop((ℓ ↦[I]{cut q n} f) ∗ ℓ ↦[I]{rest q (n + 1)} f) :=
      BI.Entails.antisymm (pointsTo_share (PosShare.mem_left_op_right (rest q n))).1 (pointsTo_share (PosShare.mem_left_op_right (rest q n))).2
    rw [fan_range I f q n, e, Finset.range_add_one, SparseCore.bigSep_insert' Finset.notMem_range_self]
    exact sep_left _ _ _

theorem bigSep_range_fin (n : ℕ) (Φ : ℕ → sProp 𝕄) : bigSep (Finset.range n) Φ = bigSep Finset.univ fun k : Fin n => Φ k.val := by
  rw [← Nat.Iio_eq_range, ← Fin.map_valEmbedding_univ, bigSep_map]; rfl

theorem fan {ℓ : Loc nD τ sig} (I : Finset (Idx ℓ)) (f : Buf (Elt F) ℓ) (q : PosShare TreeShare) (n : ℕ) :
    (ℓ ↦[I]{q} f : sProp 𝕄) = iprop((bigSep Finset.univ fun k : Fin n => ℓ ↦[I]{cut q k.val} f) ∗ ℓ ↦[I]{rest q n} f) := by
  rw [fan_range I f q n, bigSep_range_fin]

/-- Tile `(a, b)`'s share. -/
def tq (a b : ℕ) : PosShare TreeShare := cut (cut fullShare a) b

/-- An array, split over the tiles: the shares, and what is left. -/
theorem fan2 {ℓ : Loc nD τ sig} (I : Finset (Idx ℓ)) (f : Buf (Elt F) ℓ) :
    (ℓ ↦[I]{fullShare} f : sProp 𝕄) = iprop((bigSep Finset.univ fun a : Fin 2 => bigSep Finset.univ fun b : Fin 16 => ℓ ↦[I]{tq a b} f)
      ∗ ((bigSep Finset.univ fun a : Fin 2 => ℓ ↦[I]{rest (cut fullShare a) 16} f) ∗ ℓ ↦[I]{rest fullShare 2} f)) := by
  rw [fan I f fullShare 2]
  rw [show (bigSep Finset.univ fun a : Fin 2 => (ℓ ↦[I]{cut fullShare a} f : sProp 𝕄))
    = bigSep Finset.univ fun a : Fin 2 => iprop((bigSep Finset.univ fun b : Fin 16 => ℓ ↦[I]{tq a b} f) ∗ ℓ ↦[I]{rest (cut fullShare a) 16} f) from
    bigSep_congr fun a _ => fan I f (cut fullShare a) 16, bigSep_sep']
  exact sep_right _ _ _

/-- The coordinates of tile `(c, s)`, as the body table spells them. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_co (c : Fin (grid1.bound 0)) (s : Fin (grid1.bound 1)) : coordsV c s = co c s := by
  funext q
  match q with
  | 0 => rfl
  | 1 => rfl

/-! ## The blocks of the result, all together -/

theorem blkSet_cover : (Finset.univ.biUnion fun a : Fin 2 => Finset.univ.biUnion fun b : Fin 16 => blkSet (co a b)) = (Finset.univ : Finset S4x16x1024.Idx) := by
  refine Finset.eq_univ_iff_forall.mpr fun j => ?_
  have h0 : (j 0).val < 4 := (j 0).isLt
  have h2 : (j 2).val < 1024 := (j 2).isLt
  obtain ⟨w, hw⟩ : ∃ w, 8 * (j 0).val + (j 2).val / 128 = w := ⟨_, rfl⟩
  refine Finset.mem_biUnion.mpr ⟨⟨w % 2, by omega⟩, Finset.mem_univ _, Finset.mem_biUnion.mpr
    ⟨⟨w / 2, by omega⟩, Finset.mem_univ _, (mem_blkSet _ j).mpr ?_⟩⟩
  rw [tileN_co, hw]
  show w = 2 * (w / 2) + w % 2
  omega

theorem blocks (d : Dev nD) (f : Buf (Elt F) (oLoc d)) :
    (oLoc d ↦{fullShare} f : sProp 𝕄) = bigSep Finset.univ fun a : Fin 2 => bigSep Finset.univ fun b : Fin 16 => oLoc d ↦[blkSet (co a b)]{fullShare} f := by
  have inner (a : Fin 2) : (bigSep Finset.univ fun b : Fin 16 => (oLoc d ↦[blkSet (co a b)]{fullShare} f : sProp 𝕄))
      = (oLoc d ↦[Finset.univ.biUnion fun b : Fin 16 => blkSet (co a b)]{fullShare} f : sProp 𝕄) := by
    refine (pointsTo_biUnion (Finset.univ : Finset (Fin 16)) (ℓ := oLoc d) (q := fullShare) (f := f) (fun b : Fin 16 => (blkSet (co a b) : Finset (Idx (oLoc d)))) ?_).symm
    intro b _ b' _ hb
    refine Finset.disjoint_left.mpr fun j h h' => hb ?_
    exact (co_inj a a b b' (((mem_blkSet _ j).mp h).symm.trans ((mem_blkSet _ j).mp h'))).2
  rw [show (bigSep Finset.univ fun a : Fin 2 => bigSep Finset.univ fun b : Fin 16 => (oLoc d ↦[blkSet (co a b)]{fullShare} f : sProp 𝕄)) = _ from
    bigSep_congr fun a _ => inner a]
  refine Eq.trans ?_ (pointsTo_biUnion (Finset.univ : Finset (Fin 2)) (ℓ := oLoc d) (q := fullShare) (f := f)
    (fun a : Fin 2 => (Finset.univ.biUnion fun b : Fin 16 => (blkSet (co a b) : Finset (Idx (oLoc d))))) ?_)
  · exact congrArg (fun I : Finset (Idx (oLoc d)) => (oLoc d ↦[I]{fullShare} f : sProp 𝕄)) blkSet_cover.symm
  · intro a _ a' _ ha
    refine Finset.disjoint_left.mpr fun j h h' => ha ?_
    obtain ⟨b, -, hb⟩ := Finset.mem_biUnion.mp h
    obtain ⟨b', -, hb'⟩ := Finset.mem_biUnion.mp h'
    exact (co_inj a a' b b' (((mem_blkSet _ j).mp hb).symm.trans ((mem_blkSet _ j).mp hb'))).1

theorem blocks' (d : Dev nD) (f : Buf (Elt F) (oLoc d)) :
    (oLoc d ↦{fullShare} f : sProp 𝕄) = bigSep Finset.univ fun a : Fin 2 => bigSep Finset.univ fun b : Fin 16 => oLoc d ↦[blkSet (coordsV a b)]{fullShare} f :=
  (blocks d f).trans (bigSep_congr fun a _ => bigSep_congr fun b _ =>
    congrArg (fun i : grid1.Coords => (oLoc d ↦[blkSet i]{fullShare} f : sProp 𝕄)) (coordsV_co a b).symm)

/-! ## What the handshakes carry -/

variable (m : (ℓ : Loc nD τ sig) → Buf (Elt F) ℓ) (ρ : Dev nD → PrngReg) (Pn : Dev nD → ℕ → ℕ)

/-- The identifiers, as the first call reads them. -/
def ids (d : Dev nD) : main_v0.ty.Contents (Elt F) := shapeCast S256x128 (m ((SparseCore.T d).loc main_arg1) : S32768.Idx → BitVec 32) shapeCasts_S32768_S256x128
/-- The boundary table. -/
def bnd (d : Dev nD) : IVec S8x128 32 := bndV (ids m d)
/-- The partial sums. -/
def prt (d : Dev nD) : S4x16x1024.Idx → F .f32 := PART (m (xLoc d)) (bnd m d) (Pn d)

abbrev goP (d : Dev nD) (a : Fin 2) (b : Fin 16) : sProp 𝕄 :=
  iprop((xLoc d ↦{tq a b} m (xLoc d)) ∗ (bLoc d ↦{tq a b} (bnd m d : Buf (Elt F) (bLoc d))) ∗ oLoc d ↦[blkSet (coordsV a b)]{fullShare} m (oLoc d))
abbrev tdP (d : Dev nD) (a : Fin 2) (b : Fin 16) : sProp 𝕄 :=
  iprop((xLoc d ↦{tq a b} m (xLoc d)) ∗ (bLoc d ↦{tq a b} (bnd m d : Buf (Elt F) (bLoc d))) ∗ oLoc d ↦[blkSet (coordsV a b)]{fullShare} (prt m Pn d : Buf (Elt F) (oLoc d)))

def pay : (K (F := F)).Pay (nD := nD) (Val := Elt F) (Name := ℕ) (U := UU) where
  st := fun q d c => match q with | 0 => bigSep Finset.univ fun b : Fin 16 => goP m d (Fin.cast nCore_zero c) b
  dn := fun q d c => match q with | 0 => bigSep Finset.univ fun b : Fin 16 => tdP m Pn d (Fin.cast nCore_zero c) b
  go := fun q d c i => match q with | 0 => goP m d (Fin.cast nCore_zero c) (Fin.cast nSub_zero i)
  td := fun q d c i => match q with | 0 => tdP m Pn d (Fin.cast nCore_zero c) (Fin.cast nSub_zero i)
  x := fun _ _ => iprop(emp)

instance pay_storable : (pay (F := F) m Pn).IsStorable where
  st q d c := match q with
    | 0 => (inferInstance : BI.Storable (upEmb : UEmb _ 𝕄) (bigSep Finset.univ fun b : Fin 16 => goP m d (Fin.cast nCore_zero c) b))
  dn q d c := match q with
    | 0 => (inferInstance : BI.Storable (upEmb : UEmb _ 𝕄) (bigSep Finset.univ fun b : Fin 16 => tdP m Pn d (Fin.cast nCore_zero c) b))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m Pn d (Fin.cast nCore_zero c) (Fin.cast nSub_zero i)))

/-! ## The tiles' obligation -/

theorem defs₀_vector (c : Fin τ.nSC) (s : Fin τ.nSub) :
    defs₀ (F := F) (.scVector c s) 1 ()
      = SparseCore.onTile hcore1 hsub1 (fun c s => cc1__seg_sum_sc (coordsV c s)
          (Memref.whole main_arg0_scv) (Memref.isWhole_whole _) (Memref.whole main_v1_scv) (Memref.isWhole_whole _)
          (Memref.whole main_v2_scv) (Memref.isWhole_whole _) (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scratch4 cc1_scoped0 cc1_scoped1) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hB : ∀ d, BndOK (bnd m d) (Pn d)) : (K (F := F)).TileObl (D (F := F)) 𝒱 (pay m Pn) v₀ 0 := by
  intro d c i O W hO _ _
  simp only [show (pay m Pn).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (xLoc d)) (bnd m d) (Pn d) (m (oLoc d)) (hB d) _ _ facts O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (pay m Pn) 0 := by
  intro d c
  show (bigSep Finset.univ fun b : Fin 16 => goP m d (Fin.cast nCore_zero c) b) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m Pn d (Fin.cast nCore_zero c) (Fin.cast nSub_zero i))
          -∗ bigSep Finset.univ fun b : Fin 16 => tdP m Pn d (Fin.cast nCore_zero c) b))
  rw [bigSep_tasks (F := F) (fun i => goP m d (Fin.cast nCore_zero c) i), bigSep_tasks (F := F) (fun i => tdP m Pn d (Fin.cast nCore_zero c) i)]
  iintro H; imodintro
  isplitl [H]; · iexact H
  iintro H
  iexact H

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The two regions' own state on device `d`. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun t : Thread nD τ => bigSep Finset.univ fun q : Fin 1 => (pay m Pn).x q t) := by
  unfold u₀ G
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cellOf_inj) $$ HP with ⟨HA, HB⟩
  imodintro
  isplitl [HH]; · iexact HH
  isplitl [HA HB]
  · rw [bigSep_sep']
    isplitl [HA]; · iexact HA
    iexact HB
  rw [show (bigSep Finset.univ fun t : Thread nD τ => bigSep Finset.univ fun q : Fin 1 => (pay (F := F) m Pn).x q t) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

end Cert.Proof.Seg

end
-- ==== Proof.Main.lean ====
/-
  @main on the TensorCore and the run of the whole program: the boundary table, the tiles' sums, the division and the
  normalisation, over any float arithmetic.
-/
module

public import proofs.«01_k».proof.Proof.Launch

@[expose] public section

noncomputable section

namespace Cert.Proof.Seg

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg) (Pn : Dev nD → ℕ → ℕ)

abbrev iLoc (d : Dev nD) : Loc nD τ sig := (SparseCore.T d).loc main_arg1
abbrev rLoc (d : Dev nD) : Loc nD τ sig := (SparseCore.T d).loc main_v3

/-- What the program leaves in its result. -/
def res (d : Dev nD) : S16x1024.Idx → F .f32 := finV (bnd m d) (prt m Pn d)

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ ((SparseCore.T d).loc main_v0 ↦{fullShare} W main_v0) ∗ (bLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The reshape of the identifiers. -/
abbrev op0 : HloOp τ sig (Elt F) := StableHlo.reshape main_arg1 main_v0 (rfl : (.i32 : EltTy) = .i32) shapeCasts_S32768_S256x128

abbrev V0 (d : Dev nD) : Valuation τ sig (Elt F) := fun b => m (d, b)

theorem op0_bufs : (op0 (F := F)).bufs ⊆ Pipeline.ucRefs τ sig := by
  show ({((main_arg1 : Ref sig .tc) : DevRef τ sig), ((main_v0 : Ref sig .tc) : DevRef τ sig)} : Finset (DevRef τ sig)) ⊆ _
  decide

/-- The buffers after the reshape. -/
theorem after0 (d : Dev nD) :
    (StableHlo.held (d.tc : Thread nD τ) (Pipeline.ucRefs τ sig) ((op0 (F := F)).result (V0 m d)) : sProp 𝕄)
      = iprop((xLoc d ↦{fullShare} m (xLoc d)) ∗ (iLoc d ↦{fullShare} m (iLoc d))
      ∗ ((SparseCore.T d).loc main_v0 ↦{fullShare} (ids m d : Buf (Elt F) ((SparseCore.T d).loc main_v0)))
      ∗ (bLoc d ↦{fullShare} m (bLoc d)) ∗ (oLoc d ↦{fullShare} m (oLoc d)) ∗ rLoc d ↦{fullShare} m (rLoc d)) := by
  rw [← Pipeline.unscopedBufs_held, unscopedBufs_eq]
  rw [StableHlo.reshape_result_ne _ _ _ _ _ _ _ (show main_arg0 ≠ main_v0 by decide), StableHlo.reshape_result_ne _ _ _ _ _ _ _ (show main_arg1 ≠ main_v0 by decide),
    StableHlo.reshape_result_ne _ _ _ _ _ _ _ (show main_v1 ≠ main_v0 by decide), StableHlo.reshape_result_ne _ _ _ _ _ _ _ (show main_v2 ≠ main_v0 by decide),
    StableHlo.reshape_result_ne _ _ _ _ _ _ _ (show main_v3 ≠ main_v0 by decide)]
  rw [show (op0 (F := F)).result (V0 m d) ((main_v0 : Ref sig .tc) : DevRef τ sig) = (ids m d : main_v0.ty.Contents (Elt F)) from
    StableHlo.reshape_result main_arg1 main_v0 _ _ _ _ _]

abbrev o1 : Dev nD → main_v1.ty.Contents (Elt F) := fun d => m (bLoc d)
abbrev o3 : Dev nD → main_v3.ty.Contents (Elt F) := fun d => m (rLoc d)
abbrev parts : Dev nD → main_v2.ty.Contents (Elt F) := fun d => prt m Pn d

variable [∀ e, Nonempty (Elt F e)]

abbrev ΛP : Labels := Pipeline.Sig Λ₀ (Fin 2) fun p => (pcfgs (F := F) p).Adm

/-- The call that enters pipeline `p`, under the pipelines' own table. -/
abbrev entryP (p : Fin 2) : Prog (TpuEff nD τ sig (Elt F) (ΛP (F := F)) .tc) PUnit := .op (.customCall (Pipeline.entry p) ()) fun x => .ret x

/-- The same call as @main makes it. -/
abbrev callP (p : Fin 2) : Prog (TpuEff nD τ sig (Elt F) (SparseCore.Sig (ΛP (F := F)) 1) .tc) PUnit :=
  Prog.lift (.customCall (SparseCore.inner (Pipeline.entry p)) ())

omit [∀ e, Nonempty (Elt F e)] in
theorem callP_eq (p : Fin 2) : callP (F := F) p = SparseCore.liftProg (entryP (F := F) p) := rfl

/-- A region, in @main. -/
theorem region {p : Fin 2} {ids' : Dev nD → main_v0.ty.Contents (Elt F)} {o1' : Dev nD → main_v1.ty.Contents (Elt F)}
    {parts' : Dev nD → main_v2.ty.Contents (Elt F)} {o3' : Dev nD → main_v3.ty.Contents (Elt F)}
    (R : Pipeline.RegionSeg (pcfgs (F := F)) adm (pdats ids' o1' parts' o3') none defs₀ Variants.none (K (F := F)).L (K (F := F)).lev p)
    (d : Dev nD) (Q : PUnit → sProp 𝕄) :
    iprop(boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d
        ∗ (iprop(boundary (d.tc : Thread nD τ) ∗ R.post d) -∗ Q ⟨⟩))
      ⊢ wp frame (wpE ((K (F := F)).defs (D (F := F))) 𝒱 (d.tc : Thread nD τ) none) Set.univ (callP (F := F) p) Q := by
  rw [callP_eq]
  have h1 := (K (F := F)).wp_liftProg (D (F := F)) 𝒱 (d.tc : Thread nD τ) Set.univ none (entryP (F := F) p) Q
  have h2 := Pipeline.RegionSeg.wp (pcfgs (F := F)) adm (pdats ids' o1' parts' o3') none cellOf_inj EP defs₀ Variants.none
    (K (F := F)).L (K (F := F)).lev R d none (fun _ h => nomatch h) (fun x => .ret x) Q
  rw [wp_ret] at h2
  refine BIBase.Entails.trans ?_ h1
  refine BIBase.Entails.trans ?_ h2
  iintro ⟨Hb, Hp, Hl, Hg, Ht, HQ⟩
  isplitl [HQ]
  · iintro H; imodintro; iapply HQ; iexact H
  isplitl [Hb]; · iexact Hb
  isplitl [Hp]; · iexact Hp
  isplitl [Hl]; · iexact Hl
  isplitl [Hg]; · iexact Hg
  iexact Ht

omit [∀ e, Nonempty (Elt F e)] in
theorem pre0 (d : Dev nD) : ((reg0 (ids m) (o1 m) (parts m Pn) (o3 m)).pre d : sProp 𝕄)
    = iprop(((SparseCore.T d).loc main_v0 ↦{fullShare} (ids m d : Buf (Elt F) ((SparseCore.T d).loc main_v0))) ∗ (bLoc d ↦{fullShare} m (bLoc d)) ∗ OW d 0 0) := rfl

omit [∀ e, Nonempty (Elt F e)] in
theorem post0 (d : Dev nD) : ((reg0 (ids m) (o1 m) (parts m Pn) (o3 m)).post d : sProp 𝕄)
    = iprop(((SparseCore.T d).loc main_v0 ↦{fullShare} (ids m d : Buf (Elt F) ((SparseCore.T d).loc main_v0))) ∗ (bLoc d ↦{fullShare} (bnd m d : Buf (Elt F) (bLoc d))) ∗ OW d 0 0) := rfl

omit [∀ e, Nonempty (Elt F e)] in
theorem pre1 (d : Dev nD) : ((reg1 (ids m) (o1 m) (parts m Pn) (o3 m)).pre d : sProp 𝕄)
    = iprop((bLoc d ↦{fullShare} (bnd m d : Buf (Elt F) (bLoc d))) ∗ (oLoc d ↦{fullShare} (prt m Pn d : Buf (Elt F) (oLoc d))) ∗ (rLoc d ↦{fullShare} m (rLoc d)) ∗ OW d 1 8) := rfl

omit [∀ e, Nonempty (Elt F e)] in
theorem post1 (d : Dev nD) : ((reg1 (ids m) (o1 m) (parts m Pn) (o3 m)).post d : sProp 𝕄)
    = iprop((bLoc d ↦{fullShare} (bnd m d : Buf (Elt F) (bLoc d))) ∗ (oLoc d ↦{fullShare} (prt m Pn d : Buf (Elt F) (oLoc d))) ∗ (rLoc d ↦{fullShare} (res m Pn d : Buf (Elt F) (rLoc d))) ∗ OW d 1 8) := rfl

omit [∀ e, Nonempty (Elt F e)] in
theorem tcSt_0 (d : Dev nD) : ((K (F := F)).tcSt EH d 0 : sProp 𝕄) ⊢ iprop(OW d 0 0 ∗ (OW d 0 0 -∗ (K (F := F)).tcSt EH d 0)) := by
  unfold SparseCore.Cfg.tcSt OW
  iintro ⟨HO, Hr⟩
  isplitl [HO]; · iexact HO
  iintro HO
  isplitl [HO]; · iexact HO
  iexact Hr

omit [∀ e, Nonempty (Elt F e)] in
theorem tcSt_1 (d : Dev nD) : ((K (F := F)).tcSt EH d ((0 : Fin 1).val + 1) : sProp 𝕄) ⊢ iprop(OW d 1 8 ∗ (OW d 1 8 -∗ (K (F := F)).tcSt EH d 1)) := by
  unfold SparseCore.Cfg.tcSt OW
  iintro ⟨HO, Hr⟩
  isplitl [HO]; · iexact HO
  iintro HO
  isplitl [HO]; · iexact HO
  iexact Hr

/-- The shares of an array, over the tiles. -/
abbrev fanned {ℓ : Loc nD τ sig} (f : Buf (Elt F) ℓ) : sProp 𝕄 :=
  bigSep Finset.univ fun a : Fin 2 => bigSep Finset.univ fun b : Fin 16 => ℓ ↦{tq a b} f

omit [∀ e, Nonempty (Elt F e)] in
theorem st_eq (d : Dev nD) : (bigSep Finset.univ fun c : Fin ((K (F := F)).nCore 0) => (pay m Pn).st 0 d c)
    = iprop(fanned (m (xLoc d)) ∗ fanned (ℓ := bLoc d) (bnd m d : Buf (Elt F) (bLoc d)) ∗ oLoc d ↦{fullShare} m (oLoc d)) := by
  rw [blocks' d (m (oLoc d)), ← bigSep_sep', ← bigSep_sep']
  refine Eq.trans ?_ (bigSep_congr fun a _ => (bigSep_sep' Finset.univ _ _).trans (congrArg (fun X => iprop(_ ∗ X)) (bigSep_sep' Finset.univ _ _)))
  exact bigSep_cores (F := F) (fun a => bigSep Finset.univ fun b : Fin 16 => goP m d a b)

omit [∀ e, Nonempty (Elt F e)] in
theorem dn_eq (d : Dev nD) : (bigSep Finset.univ fun c : Fin ((K (F := F)).nCore 0) => (pay m Pn).dn 0 d c)
    = iprop(fanned (m (xLoc d)) ∗ fanned (ℓ := bLoc d) (bnd m d : Buf (Elt F) (bLoc d)) ∗ oLoc d ↦{fullShare} (prt m Pn d : Buf (Elt F) (oLoc d))) := by
  rw [blocks' d (prt m Pn d : Buf (Elt F) (oLoc d)), ← bigSep_sep', ← bigSep_sep']
  refine Eq.trans ?_ (bigSep_congr fun a _ => (bigSep_sep' Finset.univ _ _).trans (congrArg (fun X => iprop(_ ∗ X)) (bigSep_sep' Finset.univ _ _)))
  exact bigSep_cores (F := F) (fun a => bigSep Finset.univ fun b : Fin 16 => tdP m Pn d a b)

abbrev FIN (d : Dev nD) : sProp 𝕄 :=
  iprop((xLoc d ↦{fullShare} m (xLoc d)) ∗ (iLoc d ↦{fullShare} m (iLoc d)) ∗ rLoc d ↦{fullShare} (res m Pn d : Buf (Elt F) (rLoc d)))

omit [∀ e, Nonempty (Elt F e)] in
theorem ghosts (d : Dev nD) : (G (F := F) d : sProp 𝕄)
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G
  rw [bigSep_W0, bigSep_W0]

theorem hmain (κ : GSem nD τ sig → ℕ) (d : Dev nD) :
    iprop((K (F := F)).ctx EH (pay m Pn) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m Pn d ∗ (K (F := F)).tcEnd d) := by
  unfold SparseCore.Cfg.tcRes SparseCore.Cfg.tcEnd
  rw [ghosts]
  simp only [main, wp_bind, wp_pure]
  iintro ⟨#Hctx, Hst, ⟨Hb, Hbufs, Hts, -⟩, ⟨⟨Hg0, Hg1⟩, ⟨Ht0, Ht1⟩⟩⟩
  ihave #Hlv := (SparseCore.Cfg.ctx_levAts κ) $$ Hctx
  ihave Hbufs := (Entails.of_eq (Pipeline.unscopedBufs_held d (V0 m d))) $$ Hbufs
  iapply (StableHlo.wp_hlo_within 𝒱 (SparseCore.T d) none Set.univ (op := op0 (F := F)) (S := Pipeline.ucRefs τ sig) op0_bufs (V := V0 m d)) $$ [Hb Hbufs]
  · isplitl [Hb]; · iexact Hb
    iexact Hbufs
  iintro ⟨Hb, Hbufs⟩
  ihave Hbufs := (Entails.of_eq (after0 m d)) $$ Hbufs
  icases Hbufs with ⟨Hx, Hi, Hd, Hbn, Ho, Hr⟩
  rw [wp_ret]
  imodintro
  -- the boundary table
  ihave ⟨HO, Hst⟩ := (tcSt_0 d) $$ Hst
  iapply (region (reg0 (ids m) (o1 m) (parts m Pn) (o3 m)) d)
  isplitl [Hb]; · iexact Hb
  isplitl [Hd Hbn HO]
  · rw [pre0]
    isplitl [Hd]; · iexact Hd
    isplitl [Hbn]; · iexact Hbn
    iexact HO
  isplitr; · iexact Hlv
  isplitl [Hg0]; · iexact Hg0
  isplitl [Ht0]; · iexact Ht0
  iintro ⟨Hb, Hp⟩
  ihave ⟨Hd, Hbn, HO⟩ := (Entails.of_eq (post0 m Pn d)) $$ Hp
  ihave Hst := Hst $$ HO
  -- the tiles
  ihave Hx := (Entails.of_eq (fan2 Finset.univ (m (xLoc d)))) $$ Hx
  ihave Hbn := (Entails.of_eq (fan2 (ℓ := bLoc d) Finset.univ (bnd m d : Buf (Elt F) (bLoc d)))) $$ Hbn
  icases Hx with ⟨Hx, Hxr⟩
  icases Hbn with ⟨Hbn, Hbr⟩
  iapply ((K (F := F)).wp_run (D (F := F)) 𝒱 (EH := EH) (P := pay m Pn) κ d 0)
  isplitr; · iexact Hctx
  isplitl [Hst]; · iexact Hst
  isplitl [Hx Hbn Ho]
  · rw [st_eq]
    isplitl [Hx]; · iexact Hx
    isplitl [Hbn]; · iexact Hbn
    iexact Ho
  iintro ⟨Hst, Hdn⟩
  ihave Hdn := (Entails.of_eq (dn_eq m Pn d)) $$ Hdn
  icases Hdn with ⟨Hx, Hbn, Ho⟩
  ihave Hx := (Entails.of_eq (fan2 Finset.univ (m (xLoc d))).symm) $$ [Hx Hxr]
  · isplitl [Hx]; · iexact Hx
    iexact Hxr
  ihave Hbn := (Entails.of_eq (fan2 (ℓ := bLoc d) Finset.univ (bnd m d : Buf (Elt F) (bLoc d))).symm) $$ [Hbn Hbr]
  · isplitl [Hbn]; · iexact Hbn
    iexact Hbr
  -- the division and the normalisation
  ihave ⟨HO, Hst⟩ := (tcSt_1 d) $$ Hst
  iapply (region (reg1 (ids m) (o1 m) (parts m Pn) (o3 m)) d)
  isplitl [Hb]; · iexact Hb
  isplitl [Hbn Ho Hr HO]
  · rw [pre1]
    isplitl [Hbn]; · iexact Hbn
    isplitl [Ho]; · iexact Ho
    isplitl [Hr]; · iexact Hr
    iexact HO
  isplitr; · iexact Hlv
  isplitl [Hg1]; · iexact Hg1
  isplitl [Ht1]; · iexact Ht1
  iintro ⟨Hb, Hp⟩
  ihave ⟨Hbn, Ho, Hr, HO⟩ := (Entails.of_eq (post1 m Pn d)) $$ Hp
  ihave Hst := Hst $$ HO
  imodintro
  isplitl [Hst]; · iexact Hst
  isplitl [Hx Hi Hr]
  · isplitl [Hx]; · iexact Hx
    isplitl [Hi]; · iexact Hi
    iexact Hr
  isplitl [Hb] <;> iassumption

def fq (d : Dev nD) (s' : Phys nD τ sig (Elt F)) : Prop :=
  s'.mem.mem (xLoc d) = m (xLoc d) ∧ s'.mem.mem (iLoc d) = m (iLoc d) ∧ s'.mem.mem (rLoc d) = (res m Pn d : Buf (Elt F) (rLoc d))

set_option maxRecDepth 16384 in
omit [∀ e, Nonempty (Elt F e)] in
theorem hfin (d : Dev nD) (s' : Phys nD τ sig (Elt F)) : iprop(FIN m Pn d ∗ SI s') ⊢ (⌜fq m Pn d s'⌝ : sProp 𝕄) := by
  iintro ⟨⟨Hx, Hi, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := (res m Pn d : Buf (Elt F) (rLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (xLoc c) = m (xLoc c) ∧ r.2.mem (iLoc c) = m (iLoc c) ∧ r.2.mem (rLoc c) = (res m Pn c : Buf (Elt F) (rLoc c))) ∧ r.2.sem = fun _ => 0

/-- The run of the program: its arguments kept, its result `res`. -/
theorem run_main (hB : ∀ d, BndOK (bnd m d) (Pn d)) :
    θ_run (Cert.KernelIdeal.defs (F := F)) (Cert.KernelIdeal.threads (F := F)) ⟨m, fun _ => 0, ρ⟩ (QC m Pn) :=
  SparseCore.Cfg.θ_run_sc_quiescent (K := K (F := F)) (D := D (F := F)) (𝒱 := 𝒱) (EH := EH) (P := pay m Pn) (A := ∅) facts v₀
    (fun q hq => match q with | 0 => nomatch hq)
    (fun q _ => match q with | 0 => tileObl m Pn hB)
    (fun q _ => match q with | 0 => SparseCore.Cfg.VecSplit.of_plain (vecSplit m Pn))
    m ρ main (G (F := F)) (FIN m Pn) (u₀ (F := F)) (sep_elim_left.trans (hu₀ m Pn)) (hmain m ρ Pn) (fq m Pn) (hfin m Pn) (QC m Pn) (fun _ h hz => ⟨h, hz⟩)

end Cert.Proof.Seg

end
-- ==== Proof.Count.lean ====
/-
  The boundary words count identifiers.
-/
module

public import proofs.«01_k».proof.Proof.Main
public import Idealize.ShloMosaic.Lib.Pointwise

@[expose] public section

noncomputable section

namespace Cert.Proof.Seg

open Cert.KernelIdeal Cert.KernelIdeal.Gen
open Idealize.ShloMosaic

/-- How many identifiers are below s. -/
def below (a : IVec S32768 32) (s : ℕ) : ℕ := (Finset.univ.filter fun t : Fin 32768 => (a (ix1 t)).slt (BitVec.ofNat 32 s) = true).card

theorem fold_count {ι : Type} [DecidableEq ι] (S : Finset ι) (p : ι → Bool) (f : ι → BitVec 32) (hf : ∀ i, f i = BitVec.setWidth 32 (BitVec.ofBool (p i))) :
    S.fold (IKind.op .add) 0#32 f = BitVec.ofNat 32 (S.filter fun i => p i = true).card := by
  induction S using Finset.induction_on with
  | empty => rfl
  | insert i S hi ih =>
    rw [Finset.fold_insert hi, ih, hf i, Finset.filter_insert]
    show _ + _ = _
    by_cases h : p i = true
    · rw [if_pos h, Finset.card_insert_of_notMem (by simp [hi]), h, BitVec.add_comm]
      rw [BitVec.ofNat_add]; rfl
    · rw [if_neg h, Bool.eq_false_iff.mpr h]
      show 0#32 + _ = _
      rw [BitVec.zero_add]

theorem cell (a : IVec S32768 32) (i : S32x256x128.Idx) :
    (extui 32 (cmpi .slt (broadcastTo S32x256x128 (shapeCast S1x256x128 (shapeCast S256x128 (shapeCast S256x128 a shapeCasts_S32768_S256x128) shapeCasts_S256x128_S256x128) shapeCasts_S256x128_S1x256x128) broadcasts_S1x256x128_S32x256x128)
      (iota .tc S32x256x128 32 [0] iota_S32x256x128_d0_w32)) natLt_1_32) i
      = BitVec.setWidth 32 (BitVec.ofBool ((a (ix1 ⟨(i 1).val * 128 + (i 2).val, by have := (i 1).isLt; have := (i 2).isLt; simp at *; omega⟩)).slt (BitVec.ofNat 32 (i 0).val))) := by
  pointwise
  rfl

theorem cntV_eq (a : IVec S32768 32) (s : Fin 32) : cntV (shapeCast S256x128 a shapeCasts_S32768_S256x128) (ix1 s) = BitVec.ofNat 32 (below a s) := by
  unfold cntV
  refine (multiReductionI_eq_fold .add _ _ reduces_S32x256x128_S32 rfl (ix1 s)).trans ?_
  refine (fold_count _ (fun i : S32x256x128.Idx => (a (ix1 ⟨(i 1).val * 128 + (i 2).val, by have := (i 1).isLt; have := (i 2).isLt; simp at *; omega⟩)).slt (BitVec.ofNat 32 (i 0).val)) _ (cell a)).trans ?_
  refine congrArg (BitVec.ofNat 32) ?_
  unfold below
  rw [Finset.filter_filter]
  have hd : ∀ i : S32x256x128.Idx, reduces_S32x256x128_S32.drop i = ix1 s ↔ (i 0).val = s.val := fun i => by
    simp [funext_iff, Fin.ext_iff, Fin.forall_fin_one, reduces_S32x256x128_S32.drop_apply_val_of_eq i 0 0]
  refine Finset.card_nbij' (fun i : S32x256x128.Idx => (⟨(i 1).val * 128 + (i 2).val, by have := (i 1).isLt; have := (i 2).isLt; simp at *; omega⟩ : Fin 32768))
    (fun t => (ix3 s ⟨t.val / 128, by omega⟩ ⟨t.val % 128, by omega⟩ : S32x256x128.Idx)) ?_ ?_ ?_ ?_
  · intro i hi
    obtain ⟨h1, h2⟩ := (Finset.mem_filter.mp hi).2
    rw [hd i] at h1
    rw [h1] at h2
    exact Finset.mem_filter.mpr ⟨Finset.mem_univ _, h2⟩
  · intro t ht
    have h := (Finset.mem_filter.mp ht).2
    refine Finset.mem_filter.mpr ⟨Finset.mem_univ _, (hd _).mpr rfl, ?_⟩
    refine Eq.trans (congrArg (fun u => (a (ix1 u)).slt _) (Fin.ext ?_)) h
    show t.val / 128 * 128 + t.val % 128 = t.val
    omega
  · intro i hi
    have h1 := (hd i).mp (Finset.mem_filter.mp hi).2.1
    have h2 : (i 2).val < 128 := (i 2).isLt
    rw [eq_ix3 i]
    refine (ix3_inj _ _ _ _ _ _).mpr ⟨Fin.ext h1.symm, Fin.ext ?_, Fin.ext ?_⟩
    · show ((i 1).val * 128 + (i 2).val) / 128 = _; omega
    · show ((i 1).val * 128 + (i 2).val) % 128 = _; omega
  · intro t ht
    refine Fin.ext ?_
    show t.val / 128 * 128 + t.val % 128 = t.val
    omega

theorem row_eq (a : IVec S32768 32) (s : Fin 32) : rowOf (bndV (shapeCast S256x128 a shapeCasts_S32768_S256x128)) s = BitVec.ofNat 32 (below a s) := by
  unfold rowOf bndV
  rw [dif_pos (by omega)]
  pointwise
  rw [cntV_eq]
  exact BitVec.mul_one _

end Cert.Proof.Seg

end
-- ==== Proof.Pre.lean ====
/-
  What the preconditions say: every identifier is below 16, and, for the value claim, they ascend.
-/
module

public import proofs.«01_k».proof.Proof.Count
public import proofs.«01_k».proof.Proof.Gen.Pre_ids_in_range
public import proofs.«01_k».proof.Proof.Gen.Pre_sorted_ids
public import Idealize.ShloMosaic.Lib.ReduceAll
public import Idealize.ShloMosaic.Lib.Affine

@[expose] public section

noncomputable section

namespace Cert.Proof.Seg

open Cert.KernelIdeal Cert.KernelIdeal.Gen
open Idealize.ShloMosaic

variable {F : FTy → Type} [FloatOps F]

/-- The identifiers are segment numbers. -/
def InRange (a : IVec S32768 32) : Prop := ∀ t : Fin 32768, (a (ix1 t)).toNat < 16

/-- The identifiers are sorted segment numbers. -/
structure Sorted (a : IVec S32768 32) : Prop where
  lt : InRange a
  le : ∀ t : ℕ, ∀ h : t + 1 < 32768, (a (ix1 ⟨t, by omega⟩)).toNat ≤ (a (ix1 ⟨t + 1, h⟩)).toNat

/-- A word between 0 and 15, as signed comparisons say it. -/
theorem lt_of_cmp (b : BitVec 32) (h1 : IntOp.cmpi .sge b 0#32 = 1#1) (h2 : IntOp.cmpi .slt b 16#32 = 1#1) : b.toNat < 16 := by
  have h1 := IntOp.cmpi_sge.mp h1
  have h2 := IntOp.cmpi_slt.mp h2
  have z0 : (0#32).toInt = 0 := rfl
  have z1 : (16#32).toInt = 16 := rfl
  have c := BitVec.toInt_eq_toNat_cond b
  have := b.isLt
  split at c <;> omega

theorem range_of_pre (x : FVec F S32768x1024 .f32) (a : IVec S32768 32) (h : Cert.Pre_ids_in_range.fn (F := F) x a = fun _ => 1#1) : InRange a := by
  have e := congrFun h ix0
  dsimp only [Cert.Pre_ids_in_range.fn] at e
  intro t
  have := Host.reduce_andi_all _ _ _ _ _ e (ix1 t)
  pointwise at this
  obtain ⟨h1, h2⟩ := IntOp.andi_eq_one.mp this
  exact lt_of_cmp _ h1 h2

theorem sorted_of_pre (x : FVec F S32768x1024 .f32) (a : IVec S32768 32) (h : Cert.Pre_sorted_ids.fn (F := F) x a = fun _ => 1#1) : Sorted a := by
  have e := congrFun h ix0
  dsimp only [Cert.Pre_sorted_ids.fn] at e
  obtain ⟨e1, e2⟩ := IntOp.andi_eq_one.mp e
  have k1 := Host.reduce_andi_all _ _ _ _ _ e1
  have k2 := Host.reduce_andi_all _ _ _ _ _ e2
  have hlt : InRange a := by
    intro t
    have := k1 (ix1 t)
    pointwise at this
    obtain ⟨h1, h2⟩ := IntOp.andi_eq_one.mp this
    exact lt_of_cmp _ h1 h2
  refine ⟨hlt, fun t ht => ?_⟩
  have := k2 (ix1 ⟨t, by omega⟩)
  pointwise at this
  have h1 := IntOp.cmpi_sle.mp this
  have e : (⟨1 + t, by omega⟩ : Fin 32768) = ⟨t + 1, ht⟩ := Fin.ext (Nat.add_comm _ _)
  rw [e] at h1
  have l1 := hlt ⟨t, by omega⟩
  have l2 := hlt ⟨t + 1, ht⟩
  rw [BitVec.toInt_eq_toNat_of_lt (by omega), BitVec.toInt_eq_toNat_of_lt (by omega)] at h1
  exact_mod_cast h1

/-- Where segment n begins. -/
def beg (a : IVec S32768 32) (n : ℕ) : ℕ := (Finset.univ.filter fun t : Fin 32768 => (a (ix1 t)).toNat < n).card

theorem beg_le (a : IVec S32768 32) (n : ℕ) : beg a n ≤ 32768 := (Finset.card_le_univ _).trans (by simp)

theorem beg_mono (a : IVec S32768 32) (n : ℕ) : beg a n ≤ beg a (n + 1) :=
  Finset.card_le_card fun t ht => Finset.mem_filter.mpr ⟨Finset.mem_univ _, ((Finset.mem_filter.mp ht).2).trans (Nat.lt_succ_self n)⟩

theorem beg_zero (a : IVec S32768 32) : beg a 0 = 0 := by
  unfold beg
  rw [Finset.filter_false_of_mem fun t _ => Nat.not_lt_zero _, Finset.card_empty]

theorem below_eq {a : IVec S32768 32} (h : InRange a) (n : ℕ) (hn : n ≤ 16) : below a n = beg a n := by
  unfold below beg
  refine congrArg Finset.card (Finset.filter_congr fun t _ => ?_)
  have := h t
  rw [BitVec.slt_iff_toInt_lt, BitVec.toInt_eq_toNat_of_lt (by omega), toInt_word n (by omega)]
  omega

theorem bndOK {a : IVec S32768 32} (h : InRange a) : BndOK (bndV (shapeCast S256x128 a shapeCasts_S32768_S256x128)) (beg a) where
  small n := (beg_le a n).trans_lt (by decide)
  zero := beg_zero a
  word n hn := by rw [show n = (⟨n, by omega⟩ : Fin 32).val from rfl, row_eq, below_eq h _ hn]

end Cert.Proof.Seg

end
-- ==== Proof.Frames.lean ====
/-
  The frames: from identifiers in their range, the run of `Main` in both float arithmetics.
-/
module

public import proofs.«01_k».proof.Proof.Pre
public import proofs.«01_k».proof.Proof.Gen.ReferenceIdeal.Run
public import proofs.«01_k».proof.Defs

@[expose] public section

noncomputable section

namespace Cert.Proof.Seg

open Cert.KernelIdeal Cert.KernelIdeal.Gen
open Idealize.ShloMosaic Idealize.ShloMosaic.TcCoe Idealize.SL.Sem

variable {F : FTy → Type} [FloatOps F] [∀ e, Nonempty (Elt F e)]

theorem run_range (m : (ℓ : Loc nD τ sig) → Buf (Elt F) ℓ) (ρ : Dev nD → PrngReg) (h : ∀ d, InRange (m (iLoc d))) :
    θ_run (Cert.KernelIdeal.defs (F := F)) (Cert.KernelIdeal.threads (F := F)) ⟨m, fun _ => 0, ρ⟩ (QC m fun d => beg (m (iLoc d))) :=
  run_main m ρ _ fun d => bndOK (h d)

/-- The arguments unchanged and the counters at zero, off `run_range`. -/
theorem frame_of (m : (ℓ : Loc nD τ sig) → Buf (Elt F) ℓ) (ρ : Dev nD → PrngReg) (h : ∀ d, InRange (m (iLoc d))) :
    θ_run (Cert.KernelIdeal.defs (F := F)) (Cert.KernelIdeal.threads (F := F)) ⟨m, fun _ => 0, ρ⟩ (fun r =>
      (∀ c : Dev nD, r.2.mem (xLoc c) = m (xLoc c) ∧ r.2.mem (iLoc c) = m (iLoc c)) ∧ r.2.sem = fun _ => 0) :=
  (θ_run _ _ _).mono (fun _ q => ⟨fun c => ⟨(q.1 c).1, (q.1 c).2.1⟩, q.2⟩) (run_range m ρ h)

theorem frame_ideal : Cert.quiescent_KernelIdeal := fun m ρ h => frame_of (F := Ideal) m ρ fun d => range_of_pre _ _ (h d)

theorem frame_ideal_sorted : Cert.quiescent_KernelIdeal_pre_sorted_ids := fun m ρ h => frame_of (F := Ideal) m ρ fun d => (sorted_of_pre _ _ (h d)).lt

/-- The reference is host operations alone and has no semaphore. -/
theorem frame_reference : Cert.quiescent_ReferenceIdeal := fun m ρ _ =>
  (θ_run _ _ _).mono (fun r q => ⟨fun c => (q c).2, sem_eq_zero_of_no_sems rfl r.2⟩) (Cert.ReferenceIdeal.Value.run (F := Ideal) m ρ)

theorem frame_reference_sorted : Cert.quiescent_ReferenceIdeal_pre_sorted_ids := fun m ρ _ =>
  (θ_run _ _ _).mono (fun r q => ⟨fun c => (q c).2, sem_eq_zero_of_no_sems rfl r.2⟩) (Cert.ReferenceIdeal.Value.run (F := Ideal) m ρ)

end Cert.Proof.Seg

end
-- ==== Proof.SameChk.lean ====
/-
  The kernel's text and its ideal reading's are one text: the part of the tile's body that assumes the side conditions.
  The conditions are the same propositions; their decisions are equal because any two decisions are.
-/
module

public import proofs.«01_k».proof.Proof.Gen.Kernel
public import proofs.«01_k».proof.Proof.Gen.KernelIdeal

@[expose] public section

noncomputable section

namespace Cert.Proof.Seg

open Cert.KernelIdeal
open Facts₀ Facts
open Idealize.ShloMosaic Idealize.ShloMosaic.TcCoe Idealize.SL.Sem

variable {F : FTy → Type} [FloatOps F]

set_option maxHeartbeats 4000000

theorem same_chk1 : @Cert.Kernel.k1_chk1 = @k1_chk1 := rfl

theorem same_chk2 : @Cert.Kernel.k1_chk2 = @k1_chk2 := rfl

theorem dec1_unique (d d' : ∀ (i : grid1.Coords) (v27 v29 v31 v33 v35 v37 v39 v41 v43 v45 v47 v49 v51 v53 v55 v57 : BitVec 32),
    Decidable (k1_chk1 i v27 v29 v31 v33 v35 v37 v39 v41 v43 v45 v47 v49 v51 v53 v55 v57)) : d = d' := by
  funext
  exact Subsingleton.elim _ _

theorem same_dec1 : @Cert.Kernel.k1_chk1.dec = @k1_chk1.dec := dec1_unique Cert.Kernel.k1_chk1.dec k1_chk1.dec

theorem dec2_unique (d d' : ∀ (i : grid1.Coords) (v27 v29 v31 v33 v35 v37 v39 v41 v43 v45 v47 v49 v51 v53 v55 v57 v59 : BitVec 32),
    Decidable (k1_chk2 i v27 v29 v31 v33 v35 v37 v39 v41 v43 v45 v47 v49 v51 v53 v55 v57 v59)) : d = d' := by
  funext
  exact Subsingleton.elim _ _

theorem same_dec2 : @Cert.Kernel.k1_chk2.dec = @k1_chk2.dec := dec2_unique Cert.Kernel.k1_chk2.dec k1_chk2.dec

theorem same290 : @Cert.Kernel.k1_part290 F _ _ = @k1_part290 F _ _ := by
  delta Cert.Kernel.k1_part290 Cert.KernelIdeal.k1_part290
  rw [same_dec1, same_dec2]
  rfl

end Cert.Proof.Seg

end
-- ==== Proof.SameCalls.lean ====
/-
  The kernel's text and its ideal reading's are one text: the TensorCore calls and the tile's main loop.
-/
module

public import proofs.«01_k».proof.Proof.Gen.Kernel
public import proofs.«01_k».proof.Proof.Gen.KernelIdeal

@[expose] public section

noncomputable section

namespace Cert.Proof.Seg

open Cert.KernelIdeal
open Facts₀ Facts
open Idealize.ShloMosaic Idealize.ShloMosaic.TcCoe Idealize.SL.Sem

variable {F : FTy → Type} [FloatOps F]

set_option maxHeartbeats 4000000

theorem same0 (arg0 : Memref sig .tc .vmem S256x128 .i32) (harg0 : arg0.IsWhole) (arg1 : Memref sig .tc .vmem S8x128 .i32) (harg1 : arg1.IsWhole) :
    (Cert.Kernel.cc0__bounds_tc (F := F) arg0 harg0 arg1 harg1 : Prog (TpuEff nD τ sig (Elt F) Λ₀ .tc) PUnit) = cc0__bounds_tc arg0 harg0 arg1 harg1 := rfl

theorem same2 (arg0 : Memref sig .tc .vmem S8x128 .i32) (harg0 : arg0.IsWhole) (arg1 : Memref sig .tc .vmem S4x16x1024 .f32) (harg1 : arg1.IsWhole)
    (arg2 : Memref sig .tc .vmem S16x1024 .f32) (harg2 : arg2.IsWhole) :
    (Cert.Kernel.cc2__finish_tc (F := F) arg0 harg0 arg1 harg1 arg2 harg2 : Prog (TpuEff nD τ sig (Elt F) Λ₀ .tc) PUnit) = cc2__finish_tc arg0 harg0 arg1 harg1 arg2 harg2 := rfl

theorem same_pcfgs : Cert.Kernel.pcfgs (F := F) = pcfgs := rfl

theorem same_sc : Cert.Kernel.sc (F := F) = sc := rfl

theorem same305 : @Cert.Kernel.k1_part305 F _ _ = @k1_part305 F _ _ := rfl

end Cert.Proof.Seg

end
-- ==== Proof.Same.lean ====
/-
  The kernel's text and its ideal reading's are one text: the functions that the threads call are the same.
-/
module

public import proofs.«01_k».proof.Proof.SameChk
public import proofs.«01_k».proof.Proof.SameCalls

@[expose] public section

noncomputable section

namespace Cert.Proof.Seg

open Cert.KernelIdeal
open Facts₀ Facts
open Idealize.ShloMosaic Idealize.ShloMosaic.TcCoe Idealize.SL.Sem

variable {F : FTy → Type} [FloatOps F]

set_option maxHeartbeats 4000000

/-- The tile's body. -/
theorem same1 (i : grid1.Coords) (arg2 : Memref sig .scVector .hbm S32768x1024 .f32) (harg2 : arg2.IsWhole)
  (arg3 : Memref sig .scVector .hbm S8x128 .i32) (harg3 : arg3.IsWhole) (arg4 : Memref sig .scVector .hbm S4x16x1024 .f32)
  (harg4 : arg4.IsWhole) (arg5 : Memref sig .scVector .vmem S8x128 .i32) (harg5 : arg5.IsWhole)
  (arg6 : Memref sig .scVector .vmem S256x128 .f32) (harg6 : arg6.IsWhole) (arg7 : Memref sig .scVector .vmem S256x128 .f32)
  (harg7 : arg7.IsWhole) (arg8 : Memref sig .scVector .vmem S16x128 .f32) (harg8 : arg8.IsWhole)
  (arg9 : DmaSems sig S_) (r0 : DmaSems sig S_) (r1 : DmaSems sig S_) :
    (Cert.Kernel.cc1__seg_sum_sc (F := F) i arg2 harg2 arg3 harg3 arg4 harg4 arg5 harg5 arg6 harg6 arg7 harg7 arg8 harg8 arg9 r0 r1
      : Prog (TpuEff nD τ sig (Elt F) Λ₀ (.scVector ((i 0).castLE hcore1) ((i 1).castLE hsub1))) PUnit) = cc1__seg_sum_sc i arg2 harg2 arg3 harg3 arg4 harg4 arg5 harg5 arg6 harg6 arg7 harg7 arg8 harg8 arg9 r0 r1 := by
  delta Cert.Kernel.cc1__seg_sum_sc Cert.KernelIdeal.cc1__seg_sum_sc
  rw [same290, same305]
  rfl

/-- The body of every label on every processor. -/
theorem same_defs₀ : Cert.Kernel.defs₀ (F := F) = defs₀ := by
  funext p ℓ a
  match p, ℓ, a with
  | .tc, 0, (t, s) => exact same0 (win0_0.stage (s 0)) (hstage0_0 0) (win0_1.stage (s 1)) (hstage0_1 0)
  | .tc, 1, a => exact Eq.trans (b := (.op (.call (Λ := Λ₀) 1 a) .ret : Prog (TpuEff nD τ sig (Elt F) Λ₀ .tc) PUnit)) rfl rfl
  | .tc, 2, (t, s) => exact same2 (win2_0.stage (s 0)) (hstage2_0 0) (win2_1.stage (s 1)) (hstage2_1 0) (win2_2.stage (s 2)) (hstage2_2 0)
  | .scVector c s, 0, a => exact Eq.trans (b := (.op (.call (Λ := Λ₀) 0 a) .ret : Prog (TpuEff nD τ sig (Elt F) Λ₀ (.scVector c s)) PUnit)) rfl rfl
  | .scVector c s, 1, _ =>
    show dite _ _ _ = dite _ _ _
    exact dite_congr rfl (fun h => same1 _ _ _ _ _ _ _ _ _ _ _ _ _ _ _ _ _ _) (fun _ => rfl)
  | .scVector c s, 2, a => exact Eq.trans (b := (.op (.call (Λ := Λ₀) 2 a) .ret : Prog (TpuEff nD τ sig (Elt F) Λ₀ (.scVector c s)) PUnit)) rfl rfl
  | .scScalar c, ℓ, a => exact Eq.trans (b := (.op (.call (Λ := Λ₀) ℓ a) .ret : Prog (TpuEff nD τ sig (Elt F) Λ₀ (.scScalar c)) PUnit)) rfl rfl

theorem same_defs : Cert.Kernel.defs (F := F) = defs :=
  congrArg (fun d => sc.defs (Pipeline.defs pcfgs d)) same_defs₀

end Cert.Proof.Seg

end
-- ==== Proof.FrameKernel.lean ====
/-
  The kernel's own frame: its functions are those of its ideal reading, so it is the same run at the machine's words.
-/
module

public import proofs.«01_k».proof.Proof.Frames
public import proofs.«01_k».proof.Proof.Same

@[expose] public section

noncomputable section

namespace Cert.Proof.Seg

open Cert.KernelIdeal Cert.KernelIdeal.Gen
open Idealize.ShloMosaic Idealize.ShloMosaic.TcCoe Idealize.SL.Sem

theorem frame_kernel : Cert.quiescent_Kernel := fun m ρ h => by
  have key := frame_of (F := Bits) m ρ fun d => range_of_pre _ _ (h d)
  rw [← same_defs] at key
  exact key

end Cert.Proof.Seg

end
-- ==== Proof.Sums.lean ====
/-
  The segments' sums over the extended reals: the chunks, whether taken whole or segment by segment, add each row of a
  tile to its segment once, and the four quarters of the table together add every row once.
-/
module

public import proofs.«01_k».proof.Proof.Pre

@[expose] public section

noncomputable section

namespace Cert.Proof.Seg

open Cert.KernelIdeal Cert.KernelIdeal.Gen

open Idealize.ShloMosaic
open Idealize.ShloMosaic.ValueIdx

/-! ## A chunk -/

/-- The rows of a chunk at row `m` that lie between the rows `p` and `q` of the table, summed. -/
def within (w : ℕ → ℕ → Ideal .f32) (m p q k : ℕ) : Ideal .f32 :=
  ∑ r ∈ Finset.range 256, if p ≤ m + r ∧ m + r < q then w r k else (0 : EReal)

theorem run_sum (w : ℕ → ℕ → Ideal .f32) (lo n k : ℕ) :
    run w lo n (fun _ => (0 : EReal)) k = ∑ r ∈ Finset.range n, (w (lo + r) k : EReal) := by
  induction n with
  | zero => rfl
  | succ n ih =>
    rw [Finset.sum_range_succ, ← ih]
    rfl

theorem within_run (w : ℕ → ℕ → Ideal .f32) (m p q k : ℕ) :
    within w m p q k = ∑ r ∈ Finset.range (cl m q - cl m p), (w (cl m p + r) k : EReal) := by
  unfold within
  rw [← Finset.sum_filter, ← Finset.sum_Ico_eq_sum_range (fun r => (w r k : EReal))]
  refine Finset.sum_congr ?_ fun _ _ => rfl
  ext r
  simp only [Finset.mem_filter, Finset.mem_range, Finset.mem_Ico, cl]
  omega

theorem addTo_at (g : ℕ → ℕ → Ideal .f32) (b : ℕ) (h : ℕ → Ideal .f32) (s k : ℕ) (hk : k < 128) :
    addTo g b h 128 s k = (g s k + if s = b then h k else 0 : EReal) := by
  unfold addTo
  by_cases e : s = b
  · rw [if_pos ⟨e, hk⟩, if_pos e]; rfl
  · rw [if_neg fun c => e c.1, if_neg e, add_zero]

theorem segTo_at (w : ℕ → ℕ → Ideal .f32) (m p q n : ℕ) (g : ℕ → ℕ → Ideal .f32) (s k : ℕ) (hk : k < 128) :
    segTo w (0 : EReal) m p q n g s k = (g s k + if s = n then within w m p q k else 0 : EReal) := by
  unfold segTo
  split
  · rw [addTo_at _ _ _ _ _ hk, run_sum, within_run]
  · rename_i h
    rw [within_run, show cl m q - cl m p = 0 by omega, Finset.range_zero, Finset.sum_empty, ite_self, add_zero]

theorem mixTo_at (w : ℕ → ℕ → Ideal .f32) (m : ℕ) (P : ℕ → ℕ) (g : ℕ → ℕ → Ideal .f32) (s k : ℕ) (hk : k < 128) :
    ∀ n, mixTo w (0 : EReal) m P n g s k = (g s k + if s < n then within w m (P s) (P (s + 1)) k else 0 : EReal)
  | 0 => by rw [if_neg (Nat.not_lt_zero _), add_zero]; rfl
  | n + 1 => by
    show segTo w (0 : EReal) m (P n) (P (n + 1)) n (mixTo w (0 : EReal) m P n g) s k = _
    rw [segTo_at _ _ _ _ _ _ _ _ hk, mixTo_at w m P g s k hk n]
    by_cases e : s = n
    · subst e
      rw [if_neg (lt_irrefl _), add_zero, if_pos rfl, if_pos (Nat.lt_succ_self _)]
    · rw [if_neg e, add_zero]
      by_cases h : s < n
      · rw [if_pos h, if_pos (by omega)]
      · rw [if_neg h, if_neg (by omega)]

theorem chunkTo_at (w : ℕ → ℕ → Ideal .f32) (m : ℕ) (P : ℕ → ℕ) (v : ℕ → BitVec 32) (hP : ∀ n, P n ≤ P (n + 1)) (hs : ∀ n, P n < 2 ^ 30)
    (h0 : P 0 = 0) (h16 : P 16 = 32768) (hv : ∀ n ≤ 16, v n = BitVec.ofNat 32 (P n)) (hm : m + 256 ≤ 32768) (g : ℕ → ℕ → Ideal .f32) (s k : ℕ)
    (hss : s < 16) (hk : k < 128) :
    chunkTo w (0 : EReal) m P v g s k = (g s k + within w m (P s) (P (s + 1)) k : EReal) := by
  have mono : ∀ a b, a ≤ b → P a ≤ P b := fun a b h => monotone_nat_of_le_succ hP h
  have one := oneSeg_iff P v hs hv m (by omega) (by omega)
  have many := manySegs_iff P v hs hv m (by omega) (by omega)
  unfold chunkTo
  by_cases e : begN P m 16 = begN P (m + 255) 16
  · rw [if_neg fun c => many.mp c e, if_pos (one.mpr e), (segOf_lt P v hs hv m (by omega) (by omega)).1]
    unfold uniTo
    rw [addTo_at _ _ _ _ _ hk, run_sum]
    congr 1
    have first := fun n (hn : n < 16) => begN_iff P m hP 16 n hn
    have last := fun n (hn : n < 16) => begN_iff P (m + 255) hP 16 n hn
    have hpos := (first 0 (by decide)).mp (by omega)
    have hb := begN_le P m 16
    rw [← e] at last
    unfold within
    by_cases c : s = begN P m 16 - 1
    · rw [if_pos c]
      refine Finset.sum_congr rfl fun r hr => ?_
      have hr := Finset.mem_range.mp hr
      have h1 := (first s hss).mpr (by omega)
      have h2 : m + 255 < P (s + 1) := by
        by_cases h : s + 1 < 16
        · by_contra hc
          have := (last (s + 1) h).mp (by omega)
          omega
        · rw [show s + 1 = 16 by omega, h16]; omega
      rw [if_pos ⟨by omega, by omega⟩, Nat.zero_add]
    · rw [if_neg c]
      symm
      refine Finset.sum_eq_zero fun r hr => if_neg ?_
      have hr := Finset.mem_range.mp hr
      rintro ⟨h1, h2⟩
      have h3 := (last s hss).mp (by omega)
      have h4 := (first (s + 1) (by omega)).mpr (by omega)
      omega
  · rw [if_pos (many.mpr e), if_neg fun c => e (one.mp c), mixTo_at _ _ _ _ _ _ hk, if_pos hss]

/-! ## A tile, and the four quarters -/

theorem sums_at (i : grid1.Coords) (tab : ℕ → ℕ → Ideal .f32) (P : ℕ → ℕ) (v : ℕ → BitVec 32) (hP : ∀ n, P n ≤ P (n + 1)) (hs : ∀ n, P n < 2 ^ 30)
    (h0 : P 0 = 0) (h16 : P 16 = 32768) (hv : ∀ n ≤ 16, v n = BitVec.ofNat 32 (P n)) (s k : ℕ) (hss : s < 16) (hk : k < 128) :
    ∀ n ≤ 32, sums i tab (0 : EReal) P v n s k
      = ∑ r ∈ Finset.range (256 * n), if P s ≤ rowN i + r ∧ rowN i + r < P (s + 1) then tab (rowN i + r) (colN i + k) else (0 : EReal)
  | 0, _ => rfl
  | n + 1, hn => by
    have hT := tileN_lt i
    show chunkTo (chunk i tab n) (0 : EReal) (rowN i + 256 * n) P v (sums i tab (0 : EReal) P v n) s k = _
    rw [chunkTo_at _ _ P v hP hs h0 h16 hv (by unfold rowN; omega) _ s k hss hk, sums_at i tab P v hP hs h0 h16 hv s k hss hk n (by omega),
      show 256 * (n + 1) = 256 * n + 256 by ring, Finset.sum_range_add]
    refine congrArg (fun u : EReal => _ + u) (Finset.sum_congr rfl fun r _ => ?_)
    unfold chunk
    rw [Nat.add_assoc]

/-- The rows of segment `s`, summed, over the first `n` rows. -/
def segSum (tab : ℕ → ℕ → Ideal .f32) (P : ℕ → ℕ) (s f n : ℕ) : Ideal .f32 :=
  ∑ t ∈ Finset.range n, if P s ≤ t ∧ t < P (s + 1) then tab t f else (0 : EReal)

theorem quarters (tab : ℕ → ℕ → Ideal .f32) (P : ℕ → ℕ) (v : ℕ → BitVec 32) (hP : ∀ n, P n ≤ P (n + 1)) (hs : ∀ n, P n < 2 ^ 30)
    (h0 : P 0 = 0) (h16 : P 16 = 32768) (hv : ∀ n ≤ 16, v n = BitVec.ofNat 32 (P n)) (s f : ℕ) (hss : s < 16) (hf : f < 1024) (a : ℕ) (ha : a < 4) :
    (segSum tab P s f (8192 * a) + sums (tileOf a f) tab (0 : EReal) P v 32 s (f % 128) : EReal) = segSum tab P s f (8192 * (a + 1)) := by
  have ht : tileN (tileOf a f) = 8 * a + f / 128 := by
    show 2 * ((8 * a + f / 128) / 2 % 16) + (8 * a + f / 128) % 2 = _
    omega
  have hr : rowN (tileOf a f) = 8192 * a := by unfold rowN; rw [ht]; omega
  have hc : colN (tileOf a f) + f % 128 = f := by unfold colN; rw [ht]; omega
  rw [sums_at _ tab P v hP hs h0 h16 hv s _ hss (Nat.mod_lt _ (by decide)) 32 (le_refl _), hr, hc]
  unfold segSum
  rw [show 8192 * (a + 1) = 8192 * a + 256 * 32 by ring, Finset.sum_range_add]

end Cert.Proof.Seg

end
-- ==== Proof.Ref.lean ====
/-
  What the reference computes, at one entry: a segment's sum, and how many identifiers name the segment.
-/
module

public import proofs.«01_k».proof.Proof.Gen.ReferenceIdeal.Run
public import Idealize.ShloMosaic.Lib.Routing.OpsPair
public import Idealize.ShloMosaic.Lib.Pointwise

@[expose] public section

noncomputable section

namespace Cert.Proof.SegRef

open Cert.ReferenceIdeal Cert.ReferenceIdeal.Gen
open Idealize.ShloMosaic
open Idealize.ShloMosaic.Routing

/-! ## Where an update lands -/

theorem sums_start (t : Fin 32768) (c : Fin 1024) (idx : IVec S32768x1 32) :
    scatter_S16x1024_S32768x1_S32768x1024_1_0_0_1.start (ix2 t c) idx 0 = (idx (ix2 t (0 : Fin 1))).toInt := by
  show (idx _).toInt = _
  refine congrArg (fun u => (idx u).toInt) ?_
  funext b
  match b with
  | ⟨0, _⟩ => rfl
  | ⟨1, _⟩ => rfl

theorem sums_lands (t : Fin 32768) (c : Fin 1024) (idx : IVec S32768x1 32) (s : Fin 16) (f : Fin 1024) :
    scatter_S16x1024_S32768x1_S32768x1024_1_0_0_1.resultIdx? (ix2 t c) idx = some (ix2 s f) ↔ (idx (ix2 t (0 : Fin 1))).toInt = (s.val : Int) ∧ c = f := by
  refine (resultIdx?_ix2 _ _ _ _ _).trans ?_
  rw [sums_start]
  have w0 : scatter_S16x1024_S32768x1_S32768x1024_1_0_0_1.window (ix2 t c) 0 = 0 := rfl
  have w1 : scatter_S16x1024_S32768x1_S32768x1024_1_0_0_1.window (ix2 t c) 1 = c.val := rfl
  have s1 : scatter_S16x1024_S32768x1_S32768x1024_1_0_0_1.start (ix2 t c) idx 1 = 0 := rfl
  rw [w0, w1, s1, Fin.ext_iff]
  omega

theorem hist_start (t : Fin 32768) (idx : IVec S32768x1 32) :
    scatter_S16_S32768x1_S32768_n_0_0_1.start (ix1 t) idx 0 = (idx (ix2 t (0 : Fin 1))).toInt := by
  show (idx _).toInt = _
  refine congrArg (fun u => (idx u).toInt) ?_
  funext b
  match b with
  | ⟨0, _⟩ => rfl
  | ⟨1, _⟩ => rfl

theorem hist_lands (t : Fin 32768) (idx : IVec S32768x1 32) (s : Fin 16) :
    scatter_S16_S32768x1_S32768_n_0_0_1.resultIdx? (ix1 t) idx = some (ix1 s) ↔ (idx (ix2 t (0 : Fin 1))).toInt = (s.val : Int) := by
  refine (resultIdx?_ix1 _ _ _ _).trans ?_
  rw [hist_start]
  have w0 : scatter_S16_S32768x1_S32768_n_0_0_1.window (ix1 t) 0 = 0 := rfl
  rw [w0]
  omega

/-! ## The sums -/

variable (x : FVec Ideal S32768x1024 .f32) (a : IVec S32768 32)

/-- The segment sums of the reference. -/
def sumR : FVec Ideal S16x1024 .f32 :=
  Host.scatterAdd scatter_S16x1024_S32768x1_S32768x1024_1_0_0_1 (broadcastInDim S16x1024 ![] bcast_S_S16x1024 (constant S_ .f32 0x00000000#32))
    (broadcastInDim S32768x1 ![0] bcast_S32768_S32768x1_0 a) x

theorem small (v : BitVec 32) (h : v.toNat < 16) (s : Fin 16) : v.toInt = (s.val : Int) ↔ v.toNat = s.val := by
  rw [BitVec.toInt_eq_toNat_of_lt (by omega)]
  omega

theorem sumR_at (ha : ∀ t : Fin 32768, (a (ix1 t)).toNat < 16) (s : Fin 16) (f : Fin 1024) :
    sumR x a (ix2 s f) = ∑ t : Fin 32768, if (a (ix1 t)).toNat = s.val then (x (ix2 t f) : EReal) else 0 := by
  show ((broadcastInDim S16x1024 ![] bcast_S_S16x1024 (constant (F := Ideal) S_ .f32 0x00000000#32)) (ix2 s f) + ∑ j ∈ Finset.univ.filter (fun j => scatter_S16x1024_S32768x1_S32768x1024_1_0_0_1.resultIdx? j
    (broadcastInDim S32768x1 ![0] bcast_S32768_S32768x1_0 a) = some (ix2 s f)), x j : EReal) = _
  have z : (broadcastInDim S16x1024 ![] bcast_S_S16x1024 (constant (F := Ideal) S_ .f32 0x00000000#32)) (ix2 s f) = (0 : EReal) := Ideal.ofBits_zero_f32
  rw [z, zero_add, Finset.sum_filter, sum_idx2]
  refine Finset.sum_congr rfl fun t _ => ?_
  have e : ∀ c : Fin 1024, (scatter_S16x1024_S32768x1_S32768x1024_1_0_0_1.resultIdx? (ix2 t c) (broadcastInDim S32768x1 ![0] bcast_S32768_S32768x1_0 a) = some (ix2 s f))
      ↔ ((a (ix1 t)).toNat = s.val ∧ c = f) := fun c => by
    rw [sums_lands, ← small _ (ha t)]
    have i : broadcastInDim S32768x1 ![0] bcast_S32768_S32768x1_0 a (ix2 t (0 : Fin 1)) = a (ix1 t) := by pointwise
    rw [i]
  simp only [e]
  by_cases h : (a (ix1 t)).toNat = s.val
  · simp [h]
  · simp [h]

/-! ## The counts -/

theorem foldl_ones {α : Type} (p : α → Prop) [DecidablePred p] : ∀ (l : List α) (k : ℕ),
    l.foldl (fun (b : BitVec 32) n => if p n then IntOp.addi b 1#32 else b) (BitVec.ofNat 32 k) = BitVec.ofNat 32 (k + (l.filter fun n => decide (p n)).length)
  | [], k => rfl
  | n :: l, k => by
    rw [List.foldl_cons, List.filter_cons]
    by_cases h : p n
    · rw [if_pos h, if_pos (by simpa using h), List.length_cons,
        show IntOp.addi (BitVec.ofNat 32 k) 1#32 = BitVec.ofNat 32 (k + 1) from (BitVec.ofNat_add k 1).symm, foldl_ones p l (k + 1)]
      congr 1
      omega
    · rw [if_neg h, if_neg (by simpa using h), foldl_ones p l k]

/-- The identifiers, clipped from below and wrapped. -/
def idxR : IVec S32768x1 32 :=
  broadcastInDim S32768x1 ![0] bcast_S32768_S32768x1_0
    (select (cmpi .slt (maxsi (broadcastInDim S32768 ![] bcast_S_S32768 (id (constantI S_ 32 0#32))) a) (broadcastInDim S32768 ![] bcast_S_S32768 (constantI S_ 32 0#32)))
      (addi (maxsi (broadcastInDim S32768 ![] bcast_S_S32768 (id (constantI S_ 32 0#32))) a) (broadcastInDim S32768 ![] bcast_S_S32768 (constantI S_ 32 16#32)))
      (maxsi (broadcastInDim S32768 ![] bcast_S_S32768 (id (constantI S_ 32 0#32))) a))

theorem idxR_at (ha : ∀ t : Fin 32768, (a (ix1 t)).toNat < 16) (t : Fin 32768) : idxR a (ix2 t (0 : Fin 1)) = a (ix1 t) := by
  unfold idxR
  pointwise
  have h := ha t
  generalize a (ix1 t) = y at h
  have e : y = BitVec.ofNat 32 y.toNat := BitVec.eq_of_toNat_eq (by rw [BitVec.toNat_ofNat]; omega)
  generalize y.toNat = k at h e
  subst e
  revert k
  decide

/-- The number of identifiers that name each segment. -/
def histR : IVec S16 32 :=
  Host.scatter scatter_S16_S32768x1_S32768_n_0_0_1 IntOp.addi (broadcastInDim S16 ![] bcast_S_S16 (constantI S_ 32 0#32)) (idxR a)
    (broadcastInDim S32768 ![] bcast_S_S32768 (constantI S_ 32 1#32))

theorem histR_at (ha : ∀ t : Fin 32768, (a (ix1 t)).toNat < 16) (s : Fin 16) :
    histR a (ix1 s) = BitVec.ofNat 32 (Finset.univ.filter fun t : Fin 32768 => (a (ix1 t)).toNat = s.val).card := by
  unfold histR
  refine (scatter_at _ _ _ _ _ _).trans ?_
  refine (foldl_ones (fun n => scatter_S16_S32768x1_S32768_n_0_0_1.resultIdx? (S32768.rowMajor.symm n) (idxR a) = some (ix1 s)) _ 0).trans ?_
  refine congrArg (BitVec.ofNat 32) ?_
  rw [Nat.zero_add]
  show (Finset.univ.filter fun n : Fin S32768.numel => scatter_S16_S32768x1_S32768_n_0_0_1.resultIdx? (S32768.rowMajor.symm n) (idxR a) = some (ix1 s)).card = _
  refine Finset.card_nbij' (fun n => (S32768.rowMajor.symm n) 0) (fun t => S32768.rowMajor (ix1 t)) ?_ ?_ ?_ ?_
  · intro n hn
    have h := (Finset.mem_filter.mp hn).2
    refine Finset.mem_filter.mpr ⟨Finset.mem_univ _, ?_⟩
    dsimp only
    generalize S32768.rowMajor.symm n = j at h
    obtain ⟨t, rfl⟩ : ∃ t : Fin 32768, j = ix1 t := ⟨j 0, eq_ix1 j⟩
    rw [hist_lands, idxR_at a ha, small _ (ha _)] at h
    exact h
  · intro t ht
    have h := (Finset.mem_filter.mp ht).2
    refine Finset.mem_filter.mpr ⟨Finset.mem_univ _, ?_⟩
    rw [Equiv.symm_apply_apply, hist_lands, idxR_at a ha, small _ (ha _)]
    exact h
  · intro n _
    show S32768.rowMajor (ix1 ((S32768.rowMajor.symm n) 0)) = n
    exact (congrArg S32768.rowMajor (eq_ix1 _).symm).trans (Equiv.apply_symm_apply _ _)
  · intro t _
    show (S32768.rowMajor.symm (S32768.rowMajor (ix1 t))) 0 = t
    rw [Equiv.symm_apply_apply]
    rfl

end Cert.Proof.SegRef

end
-- ==== Proof.Values.lean ====
/-
  The kernel's result is the reference's, over the extended reals.
-/
module

public import proofs.«01_k».proof.Proof.Sums
public import proofs.«01_k».proof.Proof.Ref

@[expose] public section

noncomputable section

namespace Cert.Proof.Seg

open Cert.KernelIdeal Cert.KernelIdeal.Gen
open Idealize.ShloMosaic

/-! ## Sorted identifiers -/

theorem Sorted.mono {a : IVec S32768 32} (h : Sorted a) : ∀ (t u : Fin 32768), t ≤ u → (a (ix1 t)).toNat ≤ (a (ix1 u)).toNat := by
  intro t u htu
  have key : ∀ (n : ℕ) (hn : t.val + n < 32768), (a (ix1 t)).toNat ≤ (a (ix1 ⟨t.val + n, hn⟩)).toNat := by
    intro n
    induction n with
    | zero => intro _; exact le_refl _
    | succ n ih => intro hn; exact (ih (by omega)).trans (h.le (t.val + n) hn)
  have e : (⟨t.val + (u.val - t.val), by omega⟩ : Fin 32768) = u := Fin.ext (by show t.val + (u.val - t.val) = u.val; omega)
  have := key (u.val - t.val) (by omega)
  rwa [e] at this

/-- The rows before boundary `n` are the ones whose identifier is below `n`. -/
theorem lt_beg {a : IVec S32768 32} (h : Sorted a) (n : ℕ) (t : Fin 32768) : t.val < beg a n ↔ (a (ix1 t)).toNat < n := by
  unfold beg
  constructor
  · intro ht
    by_contra hc
    have : (Finset.univ.filter fun t : Fin 32768 => (a (ix1 t)).toNat < n) ⊆ Finset.Iio t := fun u hu => by
      have hu := (Finset.mem_filter.mp hu).2
      rw [Finset.mem_Iio]
      by_contra hh
      have := h.mono t u (not_lt.mp hh)
      omega
    have := Finset.card_le_card this
    rw [Fin.card_Iio] at this
    omega
  · intro ht
    have : Finset.Iic t ⊆ (Finset.univ.filter fun t : Fin 32768 => (a (ix1 t)).toNat < n) := fun u hu =>
      Finset.mem_filter.mpr ⟨Finset.mem_univ _, (h.mono u t (Finset.mem_Iic.mp hu)).trans_lt ht⟩
    have := Finset.card_le_card this
    rw [Fin.card_Iic] at this
    omega

theorem beg_16 {a : IVec S32768 32} (h : Sorted a) : beg a 16 = 32768 := by
  unfold beg
  rw [Finset.filter_true_of_mem fun t _ => h.lt t, Finset.card_univ, Fintype.card_fin]

/-- A segment has as many rows as there are identifiers naming it. -/
theorem beg_succ (a : IVec S32768 32) (s : ℕ) : beg a (s + 1) = beg a s + (Finset.univ.filter fun t : Fin 32768 => (a (ix1 t)).toNat = s).card := by
  unfold beg
  rw [← Finset.card_union_of_disjoint]
  · refine congrArg Finset.card ?_
    ext t
    simp only [Finset.mem_filter, Finset.mem_union, Finset.mem_univ, true_and]
    omega
  · rw [Finset.disjoint_filter]
    intro t _ h1 h2
    omega

/-- The rows of a segment, summed: over the identifiers that name it. -/
theorem segSum_all {a : IVec S32768 32} (h : Sorted a) (x : FVec Ideal S32768x1024 .f32) (s : ℕ) (f : Fin 1024) :
    segSum (tabOf x) (beg a) s f.val 32768 = ∑ t : Fin 32768, if (a (ix1 t)).toNat = s then (x (ix2 t f) : EReal) else 0 := by
  unfold segSum
  rw [← Fin.sum_univ_eq_sum_range (fun t => if beg a s ≤ t ∧ t < beg a (s + 1) then (tabOf x t f.val : EReal) else 0)]
  refine Finset.sum_congr rfl fun t _ => ?_
  have h1 := lt_beg h s t
  have h2 := lt_beg h (s + 1) t
  have e : tabOf x t.val f.val = x (ix2 t f) := by
    unfold tabOf
    rw [dif_pos ⟨t.isLt, f.isLt⟩]
    rfl
  rw [e]
  refine if_congr ?_ rfl rfl
  omega

/-! ## The means -/

variable (x : FVec Ideal S32768x1024 .f32) (a : IVec S32768 32)

/-- The boundary words. -/
abbrev bndA : IVec S8x128 32 := bndV (shapeCast S256x128 a shapeCasts_S32768_S256x128)

/-- The four quarters' sums. -/
abbrev prtA : FVec Ideal S4x16x1024 .f32 := PART x (bndA a) (beg a)

theorem total {a : IVec S32768 32} (h : Sorted a) (s : Fin 16) (f : Fin 1024) :
    (prtA x a (ix3 0 s f) + prtA x a (ix3 1 s f) + prtA x a (ix3 2 s f) + prtA x a (ix3 3 s f) : EReal)
      = ∑ t : Fin 32768, if (a (ix1 t)).toNat = s.val then (x (ix2 t f) : EReal) else 0 := by
  have hB := bndOK h.lt
  have z : (Scalar.ofBits (F := Ideal) .f32 0x00000000#32 : EReal) = 0 := Ideal.ofBits_zero_f32
  have q := fun (n : ℕ) (hn : n < 4) => quarters (tabOf x) (beg a) (rowOf (bndA a)) (beg_mono a) hB.small hB.zero (beg_16 h) hB.word s.val f.val s.isLt f.isLt n hn
  have p : ∀ c : Fin 4, prtA x a (ix3 c s f) = sums (tileOf c.val f.val) (tabOf x) (0 : EReal) (beg a) (rowOf (bndA a)) 32 s.val (f.val % 128) := fun c => by
    show sums _ _ (Scalar.ofBits (F := Ideal) .f32 0x00000000#32 : EReal) _ _ _ _ _ = _
    rw [z]
    rfl
  rw [p 0, p 1, p 2, p 3, ← segSum_all h]
  have q0 := q 0 (by decide)
  have q1 := q 1 (by decide)
  have q2 := q 2 (by decide)
  have q3 := q 3 (by decide)
  have e0 : segSum (tabOf x) (beg a) s.val f.val (8192 * 0) = (0 : EReal) := rfl
  rw [e0, zero_add] at q0
  rw [← q0] at q1
  rw [← q1] at q2
  rw [← q2] at q3
  exact q3

theorem maxsi_one (k : ℕ) (hk : k ≤ 32768) :
    (max (FloatOps.sitofp (F := Ideal) .f32 (BitVec.ofNat 32 k)) 1 : EReal) = FloatOps.sitofp (F := Ideal) .f32 (IntOp.maxsi (BitVec.ofNat 32 k) 1#32) := by
  have hc : ∀ j : ℕ, j ≤ 32768 → FloatOps.sitofp (F := Ideal) .f32 (BitVec.ofNat 32 j) = (((j : ℤ) : ℝ) : EReal) := fun j hj => by
    show (((BitVec.ofNat 32 j).toInt : ℝ) : EReal) = _
    rw [toInt_word j (by omega)]
  have one : (1 : EReal) = FloatOps.sitofp (F := Ideal) .f32 1#32 := by
    rw [hc 1 (by decide)]
    simp
  rcases Nat.eq_zero_or_pos k with h0 | h0
  · subst h0
    rw [show IntOp.maxsi (BitVec.ofNat 32 0) 1#32 = 1#32 from rfl, ← one, hc 0 (by decide)]
    simp
  · have e : IntOp.maxsi (BitVec.ofNat 32 k) 1#32 = BitVec.ofNat 32 k := by
      show (if (1#32).slt (BitVec.ofNat 32 k) then BitVec.ofNat 32 k else 1#32) = _
      split
      · rfl
      · rename_i c
        rw [BitVec.slt_iff_toInt_lt, toInt_word k (by omega)] at c
        have : (1#32).toInt = 1 := rfl
        rw [show k = 1 by omega]
    rw [e, hc k hk]
    refine max_eq_left ?_
    have : (1 : ℝ) ≤ ((k : ℤ) : ℝ) := by exact_mod_cast h0
    exact_mod_cast this

theorem count_eq {a : IVec S32768 32} (h : Sorted a) (s : ℕ) (hs : s < 16) :
    IntOp.subi (bndA a (ix2 0 ⟨1 + s, by omega⟩)) (bndA a (ix2 0 ⟨s, by omega⟩))
      = BitVec.ofNat 32 (Finset.univ.filter fun t : Fin 32768 => (a (ix1 t)).toNat = s).card := by
  have hB := bndOK h.lt
  have w : ∀ n (hn : n < 128), n ≤ 16 → bndA a (ix2 0 ⟨n, hn⟩) = BitVec.ofNat 32 (beg a n) := fun n hn h16 => by
    rw [← hB.word n h16]
    unfold rowOf
    rw [dif_pos hn]
    rfl
  rw [w _ _ (by omega), w _ _ (by omega), Nat.add_comm 1 s, beg_succ]
  show BitVec.ofNat 32 _ - BitVec.ofNat 32 _ = _
  have h1 := beg_le a s
  have h2 := beg_le a (s + 1)
  rw [beg_succ] at h2
  rw [sub_word _ _ (by omega) (by omega), Nat.add_sub_cancel_left]

/-- The means of the reference. -/
def meanR : FVec Ideal S16x1024 .f32 :=
  Host.divf (SegRef.sumR x a) (broadcastInDim Cert.ReferenceIdeal.S16x1024 ![0, 1] Cert.ReferenceIdeal.Gen.bcast_S16x1_S16x1024_0_1
    (broadcastInDim Cert.ReferenceIdeal.S16x1 ![0] Cert.ReferenceIdeal.Gen.bcast_S16_S16x1_0 (sitofp .f32 (maxsi (SegRef.histR a)
      (broadcastInDim Cert.ReferenceIdeal.S16 ![] Cert.ReferenceIdeal.Gen.bcast_S_S16 (constantI Cert.ReferenceIdeal.S_ 32 1#32))))))

theorem mean_eq {a : IVec S32768 32} (h : Sorted a) : meanV (F := Ideal) (bndA a) (prtA x a) = meanR x a := by
  funext j
  obtain ⟨s, f, rfl⟩ : ∃ (s : Fin 16) (f : Fin 1024), j = ix2 s f := ⟨j 0, j 1, eq_ix2 j⟩
  have hs := SegRef.sumR_at x a h.lt s f
  have hh := SegRef.histR_at a h.lt s
  have ht := total x h s f
  have hc := count_eq h s.val s.isLt
  unfold meanR
  generalize prtA x a = p at ht ⊢
  generalize bndA a = b at hc ⊢
  generalize SegRef.sumR x a = sm at hs ⊢
  generalize SegRef.histR a = hi at hh ⊢
  pointwise [meanV]
  rw [ht, hc, hs, hh, maxsi_one _ ((Finset.card_le_univ _).trans (by simp))]

/-! ## The norms -/

/-- A mean divided by its norm, as the reference does it. -/
def normR (m : FVec Ideal S16x1024 .f32) : FVec Ideal S16x1024 .f32 :=
  Host.divf m (broadcastInDim Cert.ReferenceIdeal.S16x1024 ![0, 1] Cert.ReferenceIdeal.Gen.bcast_S16x1_S16x1024_0_1
    (maximumf (Host.sqrt (broadcastInDim Cert.ReferenceIdeal.S16x1 ![0] Cert.ReferenceIdeal.Gen.bcast_S16_S16x1_0
        (Host.reduceAdd (mulf m m) (constant Cert.ReferenceIdeal.S_ .f32 0x00000000#32) Cert.ReferenceIdeal.Gen.reducesTo_S16x1024_S16_d1 Cert.ReferenceIdeal.Gen.h_S_)))
      (broadcastInDim Cert.ReferenceIdeal.S16x1 ![] Cert.ReferenceIdeal.Gen.bcast_S_S16x1 (constant Cert.ReferenceIdeal.S_ .f32 0x2B8CBCCC#32))))

theorem norm_eq (m : FVec Ideal S16x1024 .f32) : nrmV m = normR m := by
  funext j
  obtain ⟨s, f, rfl⟩ : ∃ (s : Fin 16) (f : Fin 1024), j = ix2 s f := ⟨j 0, j 1, eq_ix2 j⟩
  pointwise [nrmV, normR]

theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v26 m c
      = normR (meanR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))) := rfl

end Cert.Proof.Seg

end
-- ==== Proof.Alg.lean ====
/-
  The value claim: over the ideal numbers the kernel's result is the reference's.
-/
module

public import proofs.«01_k».proof.Proof.Frames
public import proofs.«01_k».proof.Proof.Values

@[expose] public section

noncomputable section

namespace Cert.Proof.Seg

open Cert.KernelIdeal Cert.KernelIdeal.Gen
open Idealize.ShloMosaic Idealize.ShloMosaic.TcCoe Idealize.SL.Sem

/-- The kernel's result, from sorted identifiers, is the reference's normalised mean. -/
theorem res_eq (m : (ℓ : Loc nD τ sig) → Buf (Elt Ideal) ℓ) (c : Dev nD) (h : Sorted (m (iLoc c))) :
    res m (fun d => beg (m (iLoc d))) c = normR (meanR (m (xLoc c)) (m (iLoc c))) :=
  (norm_eq _).trans (congrArg normR (mean_eq (m (xLoc c)) h))

theorem algebraic : Cert.algebraic_KernelIdeal_ReferenceIdeal_pre_sorted_ids := fun m g m' g' h hag =>
  ⟨fun c => res m (fun d => beg (m (iLoc d))) c,
    (θ_run _ _ _).mono (fun _ q c => ⟨(q.1 c).2.2, (q.1 c).1, (q.1 c).2.1⟩) (run_range (F := Ideal) m g fun d => (sorted_of_pre _ _ (h d)).lt),
    (θ_run _ _ _).mono (fun _ q c => ⟨(q c).1.trans (by
        refine Eq.trans ?_ (res_eq m c (sorted_of_pre _ _ (h c))).symm
        rw [ref_eq m' c, (hag c).1, (hag c).2]), (q c).2⟩) (Cert.ReferenceIdeal.Value.run (F := Ideal) m' g')⟩

end Cert.Proof.Seg

end
-- ==== Proof.lean ====
/-
  The claims together: the frames of the kernel, of its ideal reading and of the reference, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_sorted_ids
public import proofs.«01_k».proof.Proof.FrameKernel
public import proofs.«01_k».proof.Proof.Alg

@[expose] public section

noncomputable section

namespace Cert.Proof

theorem claim : Cert.Claim :=
  ⟨Cert.Kernel.Gen.facts, Cert.KernelIdeal.Gen.facts, Cert.ReferenceIdeal.Gen.facts, Cert.Pre_ids_in_range.Gen.facts, Cert.Pre_sorted_ids.Gen.facts,
    Seg.frame_kernel, Seg.frame_ideal, Seg.frame_ideal_sorted, Seg.frame_reference, Seg.frame_reference_sorted, trivial, Seg.algebraic⟩

end Cert.Proof

end
